-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v186) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v98) = v0 c
          ∧ r.2.mem ((c.tc : Thread Cert.Reference6Ideal.nD Cert.Reference6Ideal.τ).loc Cert.Reference6Ideal.main_v101) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S2x4096x4x192 : Shape := ⟨4, ![2, 4096, 4, 192]⟩
abbrev S2x4096x4x128 : Shape := ⟨4, ![2, 4096, 4, 128]⟩
abbrev S2x256x4x192 : Shape := ⟨4, ![2, 256, 4, 192]⟩
abbrev S2x256x4x128 : Shape := ⟨4, ![2, 256, 4, 128]⟩
abbrev S_ : Shape := ⟨0, ![]⟩

class Facts : Prop where
  bcast_S_S2x4096x4x192 : S_.BroadcastsInDim S2x4096x4x192 (![] : Fin 0 → Fin S2x4096x4x192.rank)
  reducesTo_S2x4096x4x192_S_d0_1_2_3 : S2x4096x4x192.ReducesTo [0, 1, 2, 3] S_
  h_S_ : 0 < S_.numel
  bcast_S_S2x256x4x192 : S_.BroadcastsInDim S2x256x4x192 (![] : Fin 0 → Fin S2x256x4x192.rank)
  reducesTo_S2x256x4x192_S_d0_1_2_3 : S2x256x4x192.ReducesTo [0, 1, 2, 3] S_

variable [Facts]

def fn_part1 {F : FTy → Type} [FloatOps F] (main_v13 : IVec S_ 1) (main_v16 : IVec S2x256x4x192 1) : IVec S_ 1 :=
  let main_c_5 : IVec S_ 1 := constantI S_ 1 1#1
  let main_v17 : IVec S_ 1 := (fun x v => Host.reduce IntOp.andi x v reducesTo_S2x256x4x192_S_d0_1_2_3 h_S_) main_v16 main_c_5
  let main_v18 : IVec S_ 1 := andi main_v13 main_v17
  main_v18

def fn {F : FTy → Type} [FloatOps F] (main_arg0 : FVec F S2x4096x4x192 .f32) (main_arg1 : FVec F S2x4096x4x192 .f32) (main_arg2 : FVec F S2x4096x4x128 .f32) (main_arg3 : FVec F S2x256x4x192 .f32) (main_arg4 : FVec F S2x256x4x192 .f32) (main_arg5 : FVec F S2x256x4x128 .f32) : IVec S_ 1 :=
  let main_v0 : FVec F S2x4096x4x192 .f32 := Host.absf main_arg0
  let main_cst : FVec F S_ .f32 := constant S_ .f32 0x7F800000#32
  let main_v1 : FVec F S2x4096x4x192 .f32 := broadcastInDim S2x4096x4x192 ![] bcast_S_S2x4096x4x192 main_cst
  let main_v2 : IVec S2x4096x4x192 1 := cmpf .olt main_v0 main_v1
  let main_c : IVec S_ 1 := constantI S_ 1 1#1
  let main_v3 : IVec S_ 1 := (fun x v => Host.reduce IntOp.andi x v reducesTo_S2x4096x4x192_S_d0_1_2_3 h_S_) main_v2 main_c
  let main_v4 : FVec F S2x4096x4x192 .f32 := Host.absf main_arg1
  let main_cst_0 : FVec F S_ .f32 := constant S_ .f32 0x7F800000#32
  let main_v5 : FVec F S2x4096x4x192 .f32 := broadcastInDim S2x4096x4x192 ![] bcast_S_S2x4096x4x192 main_cst_0
  let main_v6 : IVec S2x4096x4x192 1 := cmpf .olt main_v4 main_v5
  let main_c_1 : IVec S_ 1 := constantI S_ 1 1#1
  let main_v7 : IVec S_ 1 := (fun x v => Host.reduce IntOp.andi x v reducesTo_S2x4096x4x192_S_d0_1_2_3 h_S_) main_v6 main_c_1
  let main_v8 : IVec S_ 1 := andi main_v3 main_v7
  let main_v9 : FVec F S2x256x4x192 .f32 := Host.absf main_arg3
  let main_cst_2 : FVec F S_ .f32 := constant S_ .f32 0x7F800000#32
  let main_v10 : FVec F S2x256x4x192 .f32 := broadcastInDim S2x256x4x192 ![] bcast_S_S2x256x4x192 main_cst_2
  let main_v11 : IVec S2x256x4x192 1 := cmpf .olt main_v9 main_v10
  let main_c_3 : IVec S_ 1 := constantI S_ 1 1#1
  let main_v12 : IVec S_ 1 := (fun x v => Host.reduce IntOp.andi x v reducesTo_S2x256x4x192_S_d0_1_2_3 h_S_) main_v11 main_c_3
  let main_v13 : IVec S_ 1 := andi main_v8 main_v12
  let main_v14 : FVec F S2x256x4x192 .f32 := Host.absf main_arg4
  let main_cst_4 : FVec F S_ .f32 := constant S_ .f32 0x7F800000#32
  let main_v15 : FVec F S2x256x4x192 .f32 := broadcastInDim S2x256x4x192 ![] bcast_S_S2x256x4x192 main_cst_4
  let main_v16 : IVec S2x256x4x192 1 := cmpf .olt main_v14 main_v15
  fn_part1 (F := F) main_v13 main_v16
-- ==== Kernel.lean ====
abbrev S2x4096x4x192 : Shape := ⟨4, ![2, 4096, 4, 192]⟩
abbrev S2x4096x4x128 : Shape := ⟨4, ![2, 4096, 4, 128]⟩
abbrev S2x256x4x192 : Shape := ⟨4, ![2, 256, 4, 192]⟩
abbrev S2x256x4x128 : Shape := ⟨4, ![2, 256, 4, 128]⟩
abbrev S2x4352x4x192 : Shape := ⟨4, ![2, 4352, 4, 192]⟩
abbrev S8704x4x192 : Shape := ⟨3, ![8704, 4, 192]⟩
abbrev S4x8704x192 : Shape := ⟨3, ![4, 8704, 192]⟩
abbrev S_ : Shape := ⟨0, ![]⟩
abbrev S2x4352x4x128 : Shape := ⟨4, ![2, 4352, 4, 128]⟩
abbrev S8704x4x128 : Shape := ⟨3, ![8704, 4, 128]⟩
abbrev S4x8704x128 : Shape := ⟨3, ![4, 8704, 128]⟩
abbrev S4x8704x256 : Shape := ⟨3, ![4, 8704, 256]⟩
abbrev S8704x512 : Shape := ⟨2, ![8704, 512]⟩
abbrev S1x4352x192 : Shape := ⟨3, ![1, 4352, 192]⟩
abbrev S1x4352x256 : Shape := ⟨3, ![1, 4352, 256]⟩
abbrev S4352x128 : Shape := ⟨2, ![4352, 128]⟩
abbrev S512x4352 : Shape := ⟨2, ![512, 4352]⟩
abbrev S1x256x192 : Shape := ⟨3, ![1, 256, 192]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S256x128 : Shape := ⟨2, ![256, 128]⟩
abbrev S1x512x192 : Shape := ⟨3, ![1, 512, 192]⟩
abbrev S512x192 : Shape := ⟨2, ![512, 192]⟩
abbrev S4352x192 : Shape := ⟨2, ![4352, 192]⟩
abbrev S512 : Shape := ⟨1, ![512]⟩
abbrev S512x1 : Shape := ⟨2, ![512, 1]⟩
abbrev S4352x256 : Shape := ⟨2, ![4352, 256]⟩
abbrev S512x256 : Shape := ⟨2, ![512, 256]⟩
abbrev S512x128 : Shape := ⟨2, ![512, 128]⟩

abbrev nBuf : Space → Nat
  | .hbm => 29
  | .vmem => 12
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x192, .f32⟩
  | .hbm, ⟨2, _⟩ => ⟨S2x4096x4x128, .f32⟩
  | .hbm, ⟨3, _⟩ => ⟨S2x256x4x192, .f32⟩
  | .hbm, ⟨4, _⟩ => ⟨S2x256x4x192, .f32⟩
  | .hbm, ⟨5, _⟩ => ⟨S2x256x4x128, .f32⟩
  | .hbm, ⟨6, _⟩ => ⟨S2x4352x4x192, .f32⟩
  | .hbm, ⟨7, _⟩ => ⟨S8704x4x192, .f32⟩
  | .hbm, ⟨8, _⟩ => ⟨S4x8704x192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8704x192, .f32⟩
  | .hbm, ⟨15, _⟩ => ⟨S4x8704x192, .f32⟩
  | .hbm, ⟨16, _⟩ => ⟨S4x8704x192, .bf16⟩
  | .hbm, ⟨17, _⟩ => ⟨S2x4352x4x192, .f32⟩
  | .hbm, ⟨18, _⟩ => ⟨S8704x4x192, .f32⟩
  | .hbm, ⟨19, _⟩ => ⟨S4x8704x192, .f32⟩
  | .hbm, ⟨20, _⟩ => ⟨S4x8704x192, .bf16⟩
  | .hbm, ⟨21, _⟩ => ⟨S2x4352x4x128, .f32⟩
  | .hbm, ⟨22, _⟩ => ⟨S8704x4x128, .f32⟩
  | .hbm, ⟨23, _⟩ => ⟨S4x8704x128, .f32⟩
  | .hbm, ⟨24, _⟩ => ⟨S_, .f32⟩
  | .hbm, ⟨25, _⟩ => ⟨S4x8704x128, .f32⟩
  | .hbm, ⟨26, _⟩ => ⟨S4x8704x256, .f32⟩
  | .hbm, ⟨27, _⟩ => ⟨S4x8704x256, .bf16⟩
  | .hbm, ⟨28, _⟩ => ⟨S8704x512, .bf16⟩
  | .local _ .vmem, ⟨0, _⟩ => ⟨S1x4352x192, .bf16⟩
  | .local _ .vmem, ⟨1, _⟩ => ⟨S1x4352x192, .bf16⟩
  | .local _ .vmem, ⟨2, _⟩ => ⟨S1x4352x192, .bf16⟩
  | .local _ .vmem, ⟨3, _⟩ => ⟨S1x4352x192, .bf16⟩
  | .local _ .vmem, ⟨4, _⟩ => ⟨S1x4352x256, .bf16⟩
  | .local _ .vmem, ⟨5, _⟩ => ⟨S1x4352x256, .bf16⟩
  | .local _ .vmem, ⟨6, _⟩ => ⟨S4352x128, .bf16⟩
  | .local _ .vmem, ⟨7, _⟩ => ⟨S4352x128, .bf16⟩
  | .local _ .vmem, ⟨8, _⟩ => ⟨S512x4352, .f32⟩
  | .local _ .vmem, ⟨9, _⟩ => ⟨S512x4352, .f32⟩
  | .local _ .vmem, ⟨10, _⟩ => ⟨S512x4352, .bf16⟩
  | .local _ .vmem, ⟨11, _⟩ => ⟨S512x4352, .bf16⟩
  | _, _ => ⟨S2x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 : BitVec 32 :=
  let c256_i32 : BitVec 32 := 256#32
  c256_i32
def k0_mult2 : BitVec 32 :=
  let c768_i32 : BitVec 32 := 768#32
  c768_i32
@[reducible] def k0_t1_loop : Scf.Loop 32 :=
  let c1_i32 : BitVec 32 := 1#32
  let c3_i32 : BitVec 32 := 3#32
  let v50 : BitVec 32 := Scalar.addi c1_i32 c3_i32
  let c1_i32_33 : BitVec 32 := 1#32
  ⟨c1_i32, v50, c1_i32_33⟩
def k0_mult3 (k0_t1 : Fin k0_t1_loop.trips) : BitVec 32 :=
  let c256_i32_54 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c512_i32 : BitVec 32 := 512#32
  let v86 : BitVec 32 := Scalar.muli v85 c512_i32
  let v87 : BitVec 32 := Scalar.addi c256_i32_54 v86
  v87
def k0_off1 (k0_t1 : Fin k0_t1_loop.trips) : Fin 3 → Nat :=
  let c0_55 : Index := 0#32
  let c256_i32_54 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c512_i32 : BitVec 32 := 512#32
  let v86 : BitVec 32 := Scalar.muli v85 c512_i32
  let v87 : BitVec 32 := Scalar.addi c256_i32_54 v86
  let v88 : BitVec 32 := v87
  let v89 : Index := Scalar.indexCast v88
  let c0_56 : Index := 0#32
  ![0, v89.toNat, 0]
def k0_mult4 (k0_t1 : Fin k0_t1_loop.trips) : BitVec 32 :=
  let c256_i32_75 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c2_i32_68 : BitVec 32 := 2#32
  let v108 : BitVec 32 := Scalar.subi v85 c2_i32_68
  let c512_i32_74 : BitVec 32 := 512#32
  let v112 : BitVec 32 := Scalar.muli v108 c512_i32_74
  let v113 : BitVec 32 := Scalar.addi c256_i32_75 v112
  v113
def k0_off2 (k0_t1 : Fin k0_t1_loop.trips) (c2_i32_68 : BitVec 32) : Fin 2 → Nat :=
  let c256_i32_75 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let v108 : BitVec 32 := Scalar.subi v85 c2_i32_68
  let c512_i32_74 : BitVec 32 := 512#32
  let v112 : BitVec 32 := Scalar.muli v108 c512_i32_74
  let v113 : BitVec 32 := Scalar.addi c256_i32_75 v112
  let v114 : BitVec 32 := v113
  let v121 : Index := Scalar.indexCast v114
  let c0_77 : Index := 0#32
  ![v121.toNat, 0]
def k0_mult5 (k0_t1 : Fin k0_t1_loop.trips) : BitVec 32 :=
  let c256_i32_80 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c1_i32_78 : BitVec 32 := 1#32
  let v123 : BitVec 32 := Scalar.addi v85 c1_i32_78
  let c512_i32_79 : BitVec 32 := 512#32
  let v124 : BitVec 32 := Scalar.muli v123 c512_i32_79
  let v125 : BitVec 32 := Scalar.addi c256_i32_80 v124
  v125
def k0_off3 (k0_t1 : Fin k0_t1_loop.trips) : Fin 3 → Nat :=
  let c0_81 : Index := 0#32
  let c256_i32_80 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c1_i32_78 : BitVec 32 := 1#32
  let v123 : BitVec 32 := Scalar.addi v85 c1_i32_78
  let c512_i32_79 : BitVec 32 := 512#32
  let v124 : BitVec 32 := Scalar.muli v123 c512_i32_79
  let v125 : BitVec 32 := Scalar.addi c256_i32_80 v124
  let v126 : BitVec 32 := v125
  let v127 : Index := Scalar.indexCast v126
  let c0_82 : Index := 0#32
  ![0, v127.toNat, 0]
def k0_mult6 (k0_t1 : Fin k0_t1_loop.trips) : BitVec 32 :=
  let c256_i32_101 : BitVec 32 := 256#32
  let c2_i32 : BitVec 32 := 2#32
  let c1_i32 : BitVec 32 := 1#32
  let c1_i32_33 : BitVec 32 := 1#32
  let arg10 : BitVec 32 := Scf.iv c1_i32 c1_i32_33 k0_t1
  let v85 : BitVec 32 := Scalar.muli c2_i32 arg10
  let c1_i32_94 : BitVec 32 := 1#32
  let v146 : BitVec 32 := Scalar.subi v85 c1_i32_94
  let c512_i32_100 : BitVec 32 := 512#32
  let v150 : BitVec 32 := Scalar.muli v146 c512_i32_100
  let v151 : BitVec 32 := Scalar.addi c256_i32_101 v150
  v151
def k0_mult7 : BitVec 32 :=
  let c3328_i32 : BitVec 32 := 3328#32
  c3328_i32
def k0_mult8 : BitVec 32 :=
  let c3840_i32 : BitVec 32 := 3840#32
  c3840_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4352x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4096x4x192 : Shape := ⟨4, ![2, 4096, 4, 192]⟩
abbrev S2x4096x4x128 : Shape := ⟨4, ![2, 4096, 4, 128]⟩
abbrev S2x256x4x192 : Shape := ⟨4, ![2, 256, 4, 192]⟩
abbrev S2x256x4x128 : Shape := ⟨4, ![2, 256, 4, 128]⟩
abbrev S2x4352x4x192 : Shape := ⟨4, ![2, 4352, 4, 192]⟩
abbrev S2x4352x4x128 : Shape := ⟨4, ![2, 4352, 4, 128]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x128x256 : Shape := ⟨4, ![2, 4, 128, 256]⟩
abbrev S8704x512 : Shape := ⟨2, ![8704, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x4x192, .f32⟩
  | .hbm, ⟨2, _⟩ => ⟨S2x4096x4x128, .f32⟩
  | .hbm, ⟨3, _⟩ => ⟨S2x256x4x192, .f32⟩
  | .hbm, ⟨4, _⟩ => ⟨S2x256x4x192, .f32⟩
  | .hbm, ⟨5, _⟩ => ⟨S2x256x4x128, .f32⟩
  | .hbm, ⟨6, _⟩ => ⟨S2x4352x4x192, .f32⟩
  | .hbm, ⟨7, _⟩ => ⟨S2x4352x4x128, .f32⟩
  | .hbm, ⟨8, _⟩ => ⟨S2x4x4096x4352, .f32⟩
  | .hbm, ⟨9, _⟩ => ⟨S_, .f32⟩
  | .hbm, ⟨10, _⟩ => ⟨S_, .f32⟩
  | .hbm, ⟨11, _⟩ => ⟨S2x4x4096x4352, .f32⟩
  | .hbm, ⟨12, _⟩ => ⟨S2x4x4096x4352, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x4352, .f32⟩
  | .hbm, ⟨20, _⟩ => ⟨S2x4x4096x4352, .f32⟩
  | .hbm, ⟨21, _⟩ => ⟨S2x4x4096x4352, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x4352, .f32⟩
  | .hbm, ⟨26, _⟩ => ⟨S2x4x4096x4352, .f32⟩
  | .hbm, ⟨27, _⟩ => ⟨S2x4x128x4096, .f32⟩
  | .hbm, ⟨28, _⟩ => ⟨S2x4096x4x128, .f32⟩
  | .hbm, ⟨29, _⟩ => ⟨S2x4x256x256, .f32⟩
  | .hbm, ⟨30, _⟩ => ⟨S_, .f32⟩
  | .hbm, ⟨31, _⟩ => ⟨S_, .f32⟩
  | .hbm, ⟨32, _⟩ => ⟨S2x4x256x256, .f32⟩
  | .hbm, ⟨33, _⟩ => ⟨S2x4x256x256, .f32⟩
  | .hbm, ⟨34, _⟩ => ⟨S_, .f32⟩
  | .hbm, ⟨35, _⟩ => ⟨S2x4x256, .f32⟩
  | .hbm, ⟨36, _⟩ => ⟨S_, .f32⟩
  | .hbm, ⟨37, _⟩ => ⟨S2x4x256, .f32⟩
  | .hbm, ⟨38, _⟩ => ⟨S2x4x256, .f32⟩
  | .hbm, ⟨39, _⟩ => ⟨S2x4x256x1, .f32⟩
  | .hbm, ⟨40, _⟩ => ⟨S2x4x256x256, .f32⟩
  | .hbm, ⟨41, _⟩ => ⟨S2x4x256x256, .f32⟩
  | .hbm, ⟨42, _⟩ => ⟨S2x4x256x256, .f32⟩
  | .hbm, ⟨43, _⟩ => ⟨S_, .f32⟩
  | .hbm, ⟨44, _⟩ => ⟨S2x4x256, .f32⟩
  | .hbm, ⟨45, _⟩ => ⟨S2x4x256x1, .f32⟩
  | .hbm, ⟨46, _⟩ => ⟨S2x4x256x256, .f32⟩
  | .hbm, ⟨47, _⟩ => ⟨S2x4x256x256, .f32⟩
  | .hbm, ⟨48, _⟩ => ⟨S2x4x128x256, .f32⟩
  | .hbm, ⟨49, _⟩ => ⟨S2x256x4x128, .f32⟩
  | .hbm, ⟨50, _⟩ => ⟨S2x4352x4x128, .f32⟩
  | .hbm, ⟨51, _⟩ => ⟨S8704x512, .f32⟩
  | .hbm, ⟨52, _⟩ => ⟨S8704x512, .bf16⟩
  | _, _ => ⟨S2x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x256x2048 : Shape := ⟨3, ![2, 256, 2048]⟩
abbrev S2x2048x5632 : Shape := ⟨3, ![2, 2048, 5632]⟩
abbrev S2x4352x2048 : Shape := ⟨3, ![2, 4352, 2048]⟩
abbrev S8704x2048 : Shape := ⟨2, ![8704, 2048]⟩
abbrev S8704x5632 : Shape := ⟨2, ![8704, 5632]⟩
abbrev S1088x2048 : Shape := ⟨2, ![1088, 2048]⟩
abbrev S1x2048x512 : Shape := ⟨3, ![1, 2048, 512]⟩
abbrev S1088x512 : Shape := ⟨2, ![1088, 512]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x2048x5632, .f32⟩
  | .hbm, ⟨3, _⟩ => ⟨S2x2048x5632, .f32⟩
  | .hbm, ⟨4, _⟩ => ⟨S2x4352x2048, .f32⟩
  | .hbm, ⟨5, _⟩ => ⟨S8704x2048, .f32⟩
  | .hbm, ⟨6, _⟩ => ⟨S8704x2048, .bf16⟩
  | .hbm, ⟨7, _⟩ => ⟨S8704x5632, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1088x512, .bf16⟩
  | .local _ .vmem, ⟨7, _⟩ => ⟨S1088x512, .bf16⟩
  | .local _ .vmem, ⟨8, _⟩ => ⟨S2048x512, .bf16⟩
  | .local _ .vmem, ⟨9, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S2x256x2048 : Shape := ⟨3, ![2, 256, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2x256x5632 : Shape := ⟨3, ![2, 256, 5632]⟩
abbrev S_ : Shape := ⟨0, ![]⟩
abbrev S2x4096x5632 : Shape := ⟨3, ![2, 4096, 5632]⟩
abbrev S2x4352x5632 : Shape := ⟨3, ![2, 4352, 5632]⟩
abbrev S8704x5632 : Shape := ⟨2, ![8704, 5632]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x2048x5632, .f32⟩
  | .hbm, ⟨3, _⟩ => ⟨S2x2048x5632, .f32⟩
  | .hbm, ⟨4, _⟩ => ⟨S1x2048x5632, .f32⟩
  | .hbm, ⟨5, _⟩ => ⟨S2048x5632, .f32⟩
  | .hbm, ⟨6, _⟩ => ⟨S2x256x5632, .f32⟩
  | .hbm, ⟨7, _⟩ => ⟨S2x256x5632, .f32⟩
  | .hbm, ⟨8, _⟩ => ⟨S2x256x5632, .f32⟩
  | .hbm, ⟨9, _⟩ => ⟨S_, .f32⟩
  | .hbm, ⟨10, _⟩ => ⟨S2x256x5632, .f32⟩
  | .hbm, ⟨11, _⟩ => ⟨S2x256x5632, .f32⟩
  | .hbm, ⟨12, _⟩ => ⟨S_, .f32⟩
  | .hbm, ⟨13, _⟩ => ⟨S2x256x5632, .f32⟩
  | .hbm, ⟨14, _⟩ => ⟨S2x256x5632, .f32⟩
  | .hbm, ⟨15, _⟩ => ⟨S2x256x5632, .f32⟩
  | .hbm, ⟨16, _⟩ => ⟨S1x2048x5632, .f32⟩
  | .hbm, ⟨17, _⟩ => ⟨S2048x5632, .f32⟩
  | .hbm, ⟨18, _⟩ => ⟨S2x256x5632, .f32⟩
  | .hbm, ⟨19, _⟩ => ⟨S2x256x5632, .f32⟩
  | .hbm, ⟨20, _⟩ => ⟨S1x2048x5632, .f32⟩
  | .hbm, ⟨21, _⟩ => ⟨S2048x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S_, .f32⟩
  | .hbm, ⟨26, _⟩ => ⟨S2x4096x5632, .f32⟩
  | .hbm, ⟨27, _⟩ => ⟨S2x4096x5632, .f32⟩
  | .hbm, ⟨28, _⟩ => ⟨S_, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S1x2048x5632, .f32⟩
  | .hbm, ⟨33, _⟩ => ⟨S2048x5632, .f32⟩
  | .hbm, ⟨34, _⟩ => ⟨S2x4096x5632, .f32⟩
  | .hbm, ⟨35, _⟩ => ⟨S2x4096x5632, .f32⟩
  | .hbm, ⟨36, _⟩ => ⟨S2x4352x5632, .f32⟩
  | .hbm, ⟨37, _⟩ => ⟨S8704x5632, .f32⟩
  | .hbm, ⟨38, _⟩ => ⟨S8704x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x256x2048 : Shape := ⟨3, ![2, 256, 2048]⟩
abbrev S4x2048x12992 : Shape := ⟨3, ![4, 2048, 12992]⟩
abbrev S26 : Shape := ⟨1, ![26]⟩
abbrev S2x4352x2048 : Shape := ⟨3, ![2, 4352, 2048]⟩
abbrev S8704x2048 : Shape := ⟨2, ![8704, 2048]⟩
abbrev S4x12992x2048 : Shape := ⟨3, ![4, 12992, 2048]⟩
abbrev S8704x13312 : Shape := ⟨2, ![8704, 13312]⟩
abbrev S1088x2048 : Shape := ⟨2, ![1088, 2048]⟩
abbrev S1x64x2048 : Shape := ⟨3, ![1, 64, 2048]⟩
abbrev S1 : Shape := ⟨1, ![1]⟩
abbrev S1088x1024 : Shape := ⟨2, ![1088, 1024]⟩
abbrev S1024x2048 : Shape := ⟨2, ![1024, 2048]⟩
abbrev S64x2048 : Shape := ⟨2, ![64, 2048]⟩

abbrev nBuf : Space → Nat
  | .hbm => 8
  | .vmem => 37
  | .smem => 2
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S4x2048x12992, .f32⟩
  | .hbm, ⟨3, _⟩ => ⟨S2x4352x2048, .f32⟩
  | .hbm, ⟨4, _⟩ => ⟨S8704x2048, .f32⟩
  | .hbm, ⟨5, _⟩ => ⟨S8704x2048, .bf16⟩
  | .hbm, ⟨6, _⟩ => ⟨S4x12992x2048, .f32⟩
  | .hbm, ⟨7, _⟩ => ⟨S8704x13312, .bf16⟩
  | .local _ .vmem, ⟨0, _⟩ => ⟨S1088x2048, .bf16⟩
  | .local _ .vmem, ⟨1, _⟩ => ⟨S1088x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S1x64x2048, .f32⟩
  | .local _ .vmem, ⟨29, _⟩ => ⟨S1x64x2048, .f32⟩
  | .local _ .vmem, ⟨30, _⟩ => ⟨S1x64x2048, .f32⟩
  | .local _ .vmem, ⟨31, _⟩ => ⟨S1x64x2048, .f32⟩
  | .local _ .vmem, ⟨32, _⟩ => ⟨S1x64x2048, .f32⟩
  | .local _ .vmem, ⟨33, _⟩ => ⟨S1x64x2048, .f32⟩
  | .local _ .vmem, ⟨34, _⟩ => ⟨S1088x1024, .bf16⟩
  | .local _ .vmem, ⟨35, _⟩ => ⟨S1088x1024, .bf16⟩
  | .local _ .vmem, ⟨36, _⟩ => ⟨S1024x2048, .bf16⟩
  | .local _ .smem, ⟨0, _⟩ => ⟨S26, .i32⟩
  | .local _ .smem, ⟨1, _⟩ => ⟨S26, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![13, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![v2.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off2 (i : grid0.Coords) (c0_i32_6 : BitVec 32) : Fin 1 → Nat :=
  let c2_i32 : BitVec 32 := 2#32
  let arg0 : BitVec 32 := BitVec.ofNat 32 (i 0).val
  let v9 : BitVec 32 := Scalar.muli c2_i32 arg0
  let v10 : BitVec 32 := Scalar.addi v9 c0_i32_6
  let v11 : Index := Scalar.indexCast v10
  ![v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c0_i32_0 : BitVec 32 := 0#32
  let v4 : BitVec 32 := Scalar.addi v3 c0_i32_0
  let c202_i32 : BitVec 32 := 202#32
  let v5 : BitVec 32 := Scalar.minsi v4 c202_i32
  let c1_i32 : BitVec 32 := 1#32
  let c0_i32_1 : BitVec 32 := 0#32
  let c0_i32_2 : BitVec 32 := 0#32
  ![c1_i32.toNat, v5.toNat, c0_i32_1.toNat]

def cc0_transform_2 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c1_i32 : BitVec 32 := 1#32
  let v4 : BitVec 32 := Scalar.addi v3 c1_i32
  let c202_i32 : BitVec 32 := 202#32
  let v5 : BitVec 32 := Scalar.minsi v4 c202_i32
  let c1_i32_0 : BitVec 32 := 1#32
  let c0_i32_1 : BitVec 32 := 0#32
  let c0_i32_2 : BitVec 32 := 0#32
  ![c1_i32_0.toNat, v5.toNat, c0_i32_1.toNat]

def cc0_transform_3 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c2_i32_0 : BitVec 32 := 2#32
  let v4 : BitVec 32 := Scalar.addi v3 c2_i32_0
  let c202_i32 : BitVec 32 := 202#32
  let v5 : BitVec 32 := Scalar.minsi v4 c202_i32
  let c1_i32 : BitVec 32 := 1#32
  let c0_i32_1 : BitVec 32 := 0#32
  let c0_i32_2 : BitVec 32 := 0#32
  ![c1_i32.toNat, v5.toNat, c0_i32_1.toNat]

def cc0_transform_4 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c3_i32 : BitVec 32 := 3#32
  let v4 : BitVec 32 := Scalar.addi v3 c3_i32
  let c202_i32 : BitVec 32 := 202#32
  let v5 : BitVec 32 := Scalar.minsi v4 c202_i32
  let c1_i32 : BitVec 32 := 1#32
  let c0_i32_0 : BitVec 32 := 0#32
  let c0_i32_1 : BitVec 32 := 0#32
  ![c1_i32.toNat, v5.toNat, c0_i32_0.toNat]

def cc0_transform_5 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c4_i32 : BitVec 32 := 4#32
  let v4 : BitVec 32 := Scalar.addi v3 c4_i32
  let c202_i32 : BitVec 32 := 202#32
  let v5 : BitVec 32 := Scalar.minsi v4 c202_i32
  let c1_i32 : BitVec 32 := 1#32
  let c0_i32_0 : BitVec 32 := 0#32
  let c0_i32_1 : BitVec 32 := 0#32
  ![c1_i32.toNat, v5.toNat, c0_i32_0.toNat]

def cc0_transform_6 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c5_i32 : BitVec 32 := 5#32
  let v4 : BitVec 32 := Scalar.addi v3 c5_i32
  let c202_i32 : BitVec 32 := 202#32
  let v5 : BitVec 32 := Scalar.minsi v4 c202_i32
  let c1_i32 : BitVec 32 := 1#32
  let c0_i32_0 : BitVec 32 := 0#32
  let c0_i32_1 : BitVec 32 := 0#32
  ![c1_i32.toNat, v5.toNat, c0_i32_0.toNat]

def cc0_transform_7 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c6_i32 : BitVec 32 := 6#32
  let v4 : BitVec 32 := Scalar.addi v3 c6_i32
  let c202_i32 : BitVec 32 := 202#32
  let v5 : BitVec 32 := Scalar.minsi v4 c202_i32
  let c1_i32 : BitVec 32 := 1#32
  let c0_i32_0 : BitVec 32 := 0#32
  let c0_i32_1 : BitVec 32 := 0#32
  ![c1_i32.toNat, v5.toNat, c0_i32_0.toNat]

def cc0_transform_8 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S26) ![v2.toNat] S1.size (k0_off1_inb i 0)) numel1_S1
  let c7_i32 : BitVec 32 := 7#32
  let v4 : BitVec 32 := Scalar.addi v3 c7_i32
  let c202_i32 : BitVec 32 := 202#32
  let v5 : BitVec 32 := Scalar.minsi v4 c202_i32
  let c1_i32 : BitVec 32 := 1#32
  let c0_i32_0 : BitVec 32 := 0#32
  let c0_i32_1 : BitVec 32 := 0#32
  ![c1_i32.toNat, v5.toNat, c0_i32_0.toNat]

def cc0_transform_9 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c0_i32 : BitVec 32 := 0#32
  let v4 : BitVec 32 := Scalar.addi v3 c0_i32
  let c202_i32 : BitVec 32 := 202#32
  let v5 : BitVec 32 := Scalar.minsi v4 c202_i32
  let c1_i32_0 : BitVec 32 := 1#32
  let c0_i32_1 : BitVec 32 := 0#32
  let c0_i32_2 : BitVec 32 := 0#32
  ![c1_i32_0.toNat, v5.toNat, c0_i32_1.toNat]

def cc0_transform_10 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c1_i32_0 : BitVec 32 := 1#32
  let v4 : BitVec 32 := Scalar.addi v3 c1_i32_0
  let c202_i32 : BitVec 32 := 202#32
  let v5 : BitVec 32 := Scalar.minsi v4 c202_i32
  let c1_i32_1 : BitVec 32 := 1#32
  let c0_i32 : BitVec 32 := 0#32
  let c0_i32_2 : BitVec 32 := 0#32
  ![c1_i32_1.toNat, v5.toNat, c0_i32.toNat]

def cc0_transform_11 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c2_i32_0 : BitVec 32 := 2#32
  let v4 : BitVec 32 := Scalar.addi v3 c2_i32_0
  let c202_i32 : BitVec 32 := 202#32
  let v5 : BitVec 32 := Scalar.minsi v4 c202_i32
  let c1_i32_1 : BitVec 32 := 1#32
  let c0_i32 : BitVec 32 := 0#32
  let c0_i32_2 : BitVec 32 := 0#32
  ![c1_i32_1.toNat, v5.toNat, c0_i32.toNat]

def cc0_transform_12 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c3_i32 : BitVec 32 := 3#32
  let v4 : BitVec 32 := Scalar.addi v3 c3_i32
  let c202_i32 : BitVec 32 := 202#32
  let v5 : BitVec 32 := Scalar.minsi v4 c202_i32
  let c1_i32_0 : BitVec 32 := 1#32
  let c0_i32 : BitVec 32 := 0#32
  let c0_i32_1 : BitVec 32 := 0#32
  ![c1_i32_0.toNat, v5.toNat, c0_i32.toNat]

def cc0_transform_13 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c4_i32 : BitVec 32 := 4#32
  let v4 : BitVec 32 := Scalar.addi v3 c4_i32
  let c202_i32 : BitVec 32 := 202#32
  let v5 : BitVec 32 := Scalar.minsi v4 c202_i32
  let c1_i32_0 : BitVec 32 := 1#32
  let c0_i32 : BitVec 32 := 0#32
  let c0_i32_1 : BitVec 32 := 0#32
  ![c1_i32_0.toNat, v5.toNat, c0_i32.toNat]

def cc0_transform_14 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c5_i32 : BitVec 32 := 5#32
  let v4 : BitVec 32 := Scalar.addi v3 c5_i32
  let c202_i32 : BitVec 32 := 202#32
  let v5 : BitVec 32 := Scalar.minsi v4 c202_i32
  let c1_i32_0 : BitVec 32 := 1#32
  let c0_i32 : BitVec 32 := 0#32
  let c0_i32_1 : BitVec 32 := 0#32
  ![c1_i32_0.toNat, v5.toNat, c0_i32.toNat]

def cc0_transform_15 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c6_i32 : BitVec 32 := 6#32
  let v4 : BitVec 32 := Scalar.addi v3 c6_i32
  let c202_i32 : BitVec 32 := 202#32
  let v5 : BitVec 32 := Scalar.minsi v4 c202_i32
  let c1_i32_0 : BitVec 32 := 1#32
  let c0_i32 : BitVec 32 := 0#32
  let c0_i32_1 : BitVec 32 := 0#32
  ![c1_i32_0.toNat, v5.toNat, c0_i32.toNat]

def cc0_transform_16 (k0_off1_inb : ∀ i : grid0.Coords, ∀ (r : Fin 2), ∀ a, (k0_off1 i (BitVec.ofNat 32 r.val)) a + S1.size a ≤ S26.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S26) ![v2.toNat] S1.size (k0_off1_inb i 1)) numel1_S1
  let c7_i32 : BitVec 32 := 7#32
  let v4 : BitVec 32 := Scalar.addi v3 c7_i32
  let c202_i32 : BitVec 32 := 202#32
  let v5 : BitVec 32 := Scalar.minsi v4 c202_i32
  let c1_i32_0 : BitVec 32 := 1#32
  let c0_i32 : BitVec 32 := 0#32
  let c0_i32_1 : BitVec 32 := 0#32
  ![c1_i32_0.toNat, v5.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1088x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S2x4096x2048 : Shape := ⟨3, ![2, 4096, 2048]⟩
abbrev S2x256x2048 : Shape := ⟨3, ![2, 256, 2048]⟩
abbrev S4x2048x12992 : Shape := ⟨3, ![4, 2048, 12992]⟩
abbrev S1x2048x12992 : Shape := ⟨3, ![1, 2048, 12992]⟩
abbrev S2048x12992 : Shape := ⟨2, ![2048, 12992]⟩
abbrev S2x256x12992 : Shape := ⟨3, ![2, 256, 12992]⟩
abbrev S2x256x704 : Shape := ⟨3, ![2, 256, 704]⟩
abbrev S2x256x2560 : Shape := ⟨3, ![2, 256, 2560]⟩
abbrev S2x256x1024 : Shape := ⟨3, ![2, 256, 1024]⟩
abbrev S2x256x512 : Shape := ⟨3, ![2, 256, 512]⟩
abbrev S2x256x8192 : Shape := ⟨3, ![2, 256, 8192]⟩
abbrev S_ : Shape := ⟨0, ![]⟩
abbrev S2x256x320 : Shape := ⟨3, ![2, 256, 320]⟩
abbrev S2x256x13312 : Shape := ⟨3, ![2, 256, 13312]⟩
abbrev S2x4096x12992 : Shape := ⟨3, ![2, 4096, 12992]⟩
abbrev S2x4096x704 : Shape := ⟨3, ![2, 4096, 704]⟩
abbrev S2x4096x2560 : Shape := ⟨3, ![2, 4096, 2560]⟩
abbrev S2x4096x1024 : Shape := ⟨3, ![2, 4096, 1024]⟩
abbrev S2x4096x512 : Shape := ⟨3, ![2, 4096, 512]⟩
abbrev S2x4096x8192 : Shape := ⟨3, ![2, 4096, 8192]⟩
abbrev S2x4096x320 : Shape := ⟨3, ![2, 4096, 320]⟩
abbrev S2x4096x13312 : Shape := ⟨3, ![2, 4096, 13312]⟩
abbrev S2x4352x13312 : Shape := ⟨3, ![2, 4352, 13312]⟩
abbrev S8704x13312 : Shape := ⟨2, ![8704, 13312]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S4x2048x12992, .f32⟩
  | .hbm, ⟨3, _⟩ => ⟨S1x2048x12992, .f32⟩
  | .hbm, ⟨4, _⟩ => ⟨S2048x12992, .f32⟩
  | .hbm, ⟨5, _⟩ => ⟨S2x256x12992, .f32⟩
  | .hbm, ⟨6, _⟩ => ⟨S2x256x704, .f32⟩
  | .hbm, ⟨7, _⟩ => ⟨S2x256x2560, .f32⟩
  | .hbm, ⟨8, _⟩ => ⟨S2x256x1024, .f32⟩
  | .hbm, ⟨9, _⟩ => ⟨S2x256x512, .f32⟩
  | .hbm, ⟨10, _⟩ => ⟨S2x256x8192, .f32⟩
  | .hbm, ⟨11, _⟩ => ⟨S_, .f32⟩
  | .hbm, ⟨12, _⟩ => ⟨S2x256x320, .f32⟩
  | .hbm, ⟨13, _⟩ => ⟨S2x256x13312, .f32⟩
  | .hbm, ⟨14, _⟩ => ⟨S1x2048x12992, .f32⟩
  | .hbm, ⟨15, _⟩ => ⟨S2048x12992, .f32⟩
  | .hbm, ⟨16, _⟩ => ⟨S2x4096x12992, .f32⟩
  | .hbm, ⟨17, _⟩ => ⟨S2x4096x704, .f32⟩
  | .hbm, ⟨18, _⟩ => ⟨S2x4096x2560, .f32⟩
  | .hbm, ⟨19, _⟩ => ⟨S2x4096x1024, .f32⟩
  | .hbm, ⟨20, _⟩ => ⟨S2x4096x512, .f32⟩
  | .hbm, ⟨21, _⟩ => ⟨S2x4096x8192, .f32⟩
  | .hbm, ⟨22, _⟩ => ⟨S_, .f32⟩
  | .hbm, ⟨23, _⟩ => ⟨S2x4096x320, .f32⟩
  | .hbm, ⟨24, _⟩ => ⟨S2x4096x13312, .f32⟩
  | .hbm, ⟨25, _⟩ => ⟨S2x4352x13312, .f32⟩
  | .hbm, ⟨26, _⟩ => ⟨S8704x13312, .f32⟩
  | .hbm, ⟨27, _⟩ => ⟨S8704x13312, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel4.lean ====
abbrev S2x4096x512 : Shape := ⟨3, ![2, 4096, 512]⟩
abbrev S2x4096x8192 : Shape := ⟨3, ![2, 4096, 8192]⟩
abbrev S2x256x512 : Shape := ⟨3, ![2, 256, 512]⟩
abbrev S2x256x8192 : Shape := ⟨3, ![2, 256, 8192]⟩
abbrev S4x4x512x2048 : Shape := ⟨4, ![4, 4, 512, 2048]⟩
abbrev S2x4352x8192 : Shape := ⟨3, ![2, 4352, 8192]⟩
abbrev S8704x8192 : Shape := ⟨2, ![8704, 8192]⟩
abbrev S_ : Shape := ⟨0, ![]⟩
abbrev S8704x5120 : Shape := ⟨2, ![8704, 5120]⟩
abbrev S8704x13312 : Shape := ⟨2, ![8704, 13312]⟩
abbrev S2x4352x512 : Shape := ⟨3, ![2, 4352, 512]⟩
abbrev S8704x512 : Shape := ⟨2, ![8704, 512]⟩
abbrev S8704x2048 : Shape := ⟨2, ![8704, 2048]⟩
abbrev S544x512 : Shape := ⟨2, ![544, 512]⟩
abbrev S544x1024 : Shape := ⟨2, ![544, 1024]⟩
abbrev S1x4x512x1024 : Shape := ⟨4, ![1, 4, 512, 1024]⟩
abbrev S4x512x1024 : Shape := ⟨3, ![4, 512, 1024]⟩
abbrev S1x512x1024 : Shape := ⟨3, ![1, 512, 1024]⟩
abbrev S512x1024 : Shape := ⟨2, ![512, 1024]⟩

abbrev nBuf : Space → Nat
  | .hbm => 30
  | .vmem => 21
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x8192, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x8192, .f32⟩
  | .hbm, ⟨10, _⟩ => ⟨S4x4x512x2048, .f32⟩
  | .hbm, ⟨11, _⟩ => ⟨S2x4352x8192, .f32⟩
  | .hbm, ⟨12, _⟩ => ⟨S8704x8192, .f32⟩
  | .hbm, ⟨13, _⟩ => ⟨S8704x8192, .bf16⟩
  | .hbm, ⟨14, _⟩ => ⟨S_, .bf16⟩
  | .hbm, ⟨15, _⟩ => ⟨S8704x5120, .bf16⟩
  | .hbm, ⟨16, _⟩ => ⟨S8704x13312, .bf16⟩
  | .hbm, ⟨17, _⟩ => ⟨S2x4352x512, .f32⟩
  | .hbm, ⟨18, _⟩ => ⟨S8704x512, .f32⟩
  | .hbm, ⟨19, _⟩ => ⟨S8704x512, .bf16⟩
  | .hbm, ⟨20, _⟩ => ⟨S2x4352x512, .f32⟩
  | .hbm, ⟨21, _⟩ => ⟨S8704x512, .f32⟩
  | .hbm, ⟨22, _⟩ => ⟨S8704x512, .bf16⟩
  | .hbm, ⟨23, _⟩ => ⟨S2x4352x512, .f32⟩
  | .hbm, ⟨24, _⟩ => ⟨S8704x512, .f32⟩
  | .hbm, ⟨25, _⟩ => ⟨S8704x512, .bf16⟩
  | .hbm, ⟨26, _⟩ => ⟨S2x4352x512, .f32⟩
  | .hbm, ⟨27, _⟩ => ⟨S8704x512, .f32⟩
  | .hbm, ⟨28, _⟩ => ⟨S8704x512, .bf16⟩
  | .hbm, ⟨29, _⟩ => ⟨S8704x2048, .bf16⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S544x512, .bf16⟩
  | .local _ .vmem, ⟨7, _⟩ => ⟨S544x512, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | .local _ .vmem, ⟨16, _⟩ => ⟨S1x4x512x1024, .f32⟩
  | .local _ .vmem, ⟨17, _⟩ => ⟨S1x4x512x1024, .f32⟩
  | .local _ .vmem, ⟨18, _⟩ => ⟨S544x1024, .bf16⟩
  | .local _ .vmem, ⟨19, _⟩ => ⟨S544x1024, .bf16⟩
  | .local _ .vmem, ⟨20, _⟩ => ⟨S4x512x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x4096x512 : Shape := ⟨3, ![2, 4096, 512]⟩
abbrev S2x4096x8192 : Shape := ⟨3, ![2, 4096, 8192]⟩
abbrev S2x256x512 : Shape := ⟨3, ![2, 256, 512]⟩
abbrev S2x256x8192 : Shape := ⟨3, ![2, 256, 8192]⟩
abbrev S4x4x512x2048 : Shape := ⟨4, ![4, 4, 512, 2048]⟩
abbrev S2x256x1x512 : Shape := ⟨4, ![2, 256, 1, 512]⟩
abbrev S2x256x4x512 : Shape := ⟨4, ![2, 256, 4, 512]⟩
abbrev S1x4x512x2048 : Shape := ⟨4, ![1, 4, 512, 2048]⟩
abbrev S4x512x2048 : Shape := ⟨3, ![4, 512, 2048]⟩
abbrev S4x2048x2x256 : Shape := ⟨4, ![4, 2048, 2, 256]⟩
abbrev S2x256x4x2048 : Shape := ⟨4, ![2, 256, 4, 2048]⟩
abbrev S_ : Shape := ⟨0, ![]⟩
abbrev S2x256x2048 : Shape := ⟨3, ![2, 256, 2048]⟩
abbrev S2x4096x1x512 : Shape := ⟨4, ![2, 4096, 1, 512]⟩
abbrev S2x4096x4x512 : Shape := ⟨4, ![2, 4096, 4, 512]⟩
abbrev S4x2048x2x4096 : Shape := ⟨4, ![4, 2048, 2, 4096]⟩
abbrev S2x4096x4x2048 : Shape := ⟨4, ![2, 4096, 4, 2048]⟩
abbrev S2x4096x2048 : Shape := ⟨3, ![2, 4096, 2048]⟩
abbrev S2x4352x2048 : Shape := ⟨3, ![2, 4352, 2048]⟩
abbrev S8704x2048 : Shape := ⟨2, ![8704, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x8192, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x8192, .f32⟩
  | .hbm, ⟨10, _⟩ => ⟨S4x4x512x2048, .f32⟩
  | .hbm, ⟨11, _⟩ => ⟨S2x256x1x512, .f32⟩
  | .hbm, ⟨12, _⟩ => ⟨S2x256x1x512, .f32⟩
  | .hbm, ⟨13, _⟩ => ⟨S2x256x1x512, .f32⟩
  | .hbm, ⟨14, _⟩ => ⟨S2x256x1x512, .f32⟩
  | .hbm, ⟨15, _⟩ => ⟨S2x256x4x512, .f32⟩
  | .hbm, ⟨16, _⟩ => ⟨S1x4x512x2048, .f32⟩
  | .hbm, ⟨17, _⟩ => ⟨S4x512x2048, .f32⟩
  | .hbm, ⟨18, _⟩ => ⟨S4x2048x2x256, .f32⟩
  | .hbm, ⟨19, _⟩ => ⟨S2x256x4x2048, .f32⟩
  | .hbm, ⟨20, _⟩ => ⟨S2x256x4x2048, .f32⟩
  | .hbm, ⟨21, _⟩ => ⟨S2x256x4x2048, .f32⟩
  | .hbm, ⟨22, _⟩ => ⟨S2x256x4x2048, .f32⟩
  | .hbm, ⟨23, _⟩ => ⟨S_, .f32⟩
  | .hbm, ⟨24, _⟩ => ⟨S2x256x4x2048, .f32⟩
  | .hbm, ⟨25, _⟩ => ⟨S2x256x4x2048, .f32⟩
  | .hbm, ⟨26, _⟩ => ⟨S_, .f32⟩
  | .hbm, ⟨27, _⟩ => ⟨S2x256x4x2048, .f32⟩
  | .hbm, ⟨28, _⟩ => ⟨S2x256x4x2048, .f32⟩
  | .hbm, ⟨29, _⟩ => ⟨S2x256x2048, .f32⟩
  | .hbm, ⟨30, _⟩ => ⟨S2x4096x1x512, .f32⟩
  | .hbm, ⟨31, _⟩ => ⟨S2x4096x1x512, .f32⟩
  | .hbm, ⟨32, _⟩ => ⟨S2x4096x1x512, .f32⟩
  | .hbm, ⟨33, _⟩ => ⟨S2x4096x1x512, .f32⟩
  | .hbm, ⟨34, _⟩ => ⟨S2x4096x4x512, .f32⟩
  | .hbm, ⟨35, _⟩ => ⟨S1x4x512x2048, .f32⟩
  | .hbm, ⟨36, _⟩ => ⟨S4x512x2048, .f32⟩
  | .hbm, ⟨37, _⟩ => ⟨S4x2048x2x4096, .f32⟩
  | .hbm, ⟨38, _⟩ => ⟨S2x4096x4x2048, .f32⟩
  | .hbm, ⟨39, _⟩ => ⟨S2x4096x4x2048, .f32⟩
  | .hbm, ⟨40, _⟩ => ⟨S2x4096x4x2048, .f32⟩
  | .hbm, ⟨41, _⟩ => ⟨S2x4096x4x2048, .f32⟩
  | .hbm, ⟨42, _⟩ => ⟨S_, .f32⟩
  | .hbm, ⟨43, _⟩ => ⟨S2x4096x4x2048, .f32⟩
  | .hbm, ⟨44, _⟩ => ⟨S2x4096x4x2048, .f32⟩
  | .hbm, ⟨45, _⟩ => ⟨S_, .f32⟩
  | .hbm, ⟨46, _⟩ => ⟨S2x4096x4x2048, .f32⟩
  | .hbm, ⟨47, _⟩ => ⟨S2x4096x4x2048, .f32⟩
  | .hbm, ⟨48, _⟩ => ⟨S2x4096x2048, .f32⟩
  | .hbm, ⟨49, _⟩ => ⟨S2x4352x2048, .f32⟩
  | .hbm, ⟨50, _⟩ => ⟨S8704x2048, .f32⟩
  | .hbm, ⟨51, _⟩ => ⟨S8704x2048, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel5.lean ====
abbrev S18432x2048 : Shape := ⟨2, ![18432, 2048]⟩
abbrev S2x8x2048x5632 : Shape := ⟨4, ![2, 8, 2048, 5632]⟩
abbrev S17408 : Shape := ⟨1, ![17408]⟩
abbrev S17408x1 : Shape := ⟨2, ![17408, 1]⟩
abbrev S8 : Shape := ⟨1, ![8]⟩
abbrev S1x8 : Shape := ⟨2, ![1, 8]⟩
abbrev S17408x8 : Shape := ⟨2, ![17408, 8]⟩
abbrev S_ : Shape := ⟨0, ![]⟩
abbrev S18432x5632 : Shape := ⟨2, ![18432, 5632]⟩
abbrev S1x1x2048x512 : Shape := ⟨4, ![1, 1, 2048, 512]⟩
abbrev S2048x512 : Shape := ⟨2, ![2048, 512]⟩
abbrev S5x512x2048 : Shape := ⟨3, ![5, 512, 2048]⟩
abbrev S2x512x512 : Shape := ⟨3, ![2, 512, 512]⟩
abbrev S16x512 : Shape := ⟨2, ![16, 512]⟩
abbrev S5 : Shape := ⟨1, ![5]⟩
abbrev S2 : Shape := ⟨1, ![2]⟩
abbrev S1 : Shape := ⟨1, ![1]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 68
  | .vmem => 9
  | .smem => 2
  | _ => 0

abbrev bufTy : (tb : Table) → Fin (tcTables nBuf tb) → BufTy
  | .hbm, ⟨0, _⟩ => ⟨S18432x2048, .f32⟩
  | .hbm, ⟨1, _⟩ => ⟨S2x8x2048x5632, .f32⟩
  | .hbm, ⟨2, _⟩ => ⟨S2x8x2048x5632, .f32⟩
  | .hbm, ⟨3, _⟩ => ⟨S17408, .i32⟩
  | .hbm, ⟨4, _⟩ => ⟨S18432x2048, .bf16⟩
  | .hbm, ⟨5, _⟩ => ⟨S17408x1, .i32⟩
  | .hbm, ⟨6, _⟩ => ⟨S8, .i32⟩
  | .hbm, ⟨7, _⟩ => ⟨S1x8, .i32⟩
  | .hbm, ⟨8, _⟩ => ⟨S17408x8, .i32⟩
  | .hbm, ⟨9, _⟩ => ⟨S17408x8, .i32⟩
  | .hbm, ⟨10, _⟩ => ⟨S17408x8, .i1⟩
  | .hbm, ⟨11, _⟩ => ⟨S17408x8, .i32⟩
  | .hbm, ⟨12, _⟩ => ⟨S_, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S8, .i1⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S_, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i1⟩
  | .hbm, ⟨58, _⟩ => ⟨S8, .i32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i1⟩
  | .hbm, ⟨63, _⟩ => ⟨S8, .i1⟩
  | .hbm, ⟨64, _⟩ => ⟨S_, .i32⟩
  | .hbm, ⟨65, _⟩ => ⟨S8, .i32⟩
  | .hbm, ⟨66, _⟩ => ⟨S8, .i32⟩
  | .hbm, ⟨67, _⟩ => ⟨S18432x5632, .bf16⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S2048x512, .bf16⟩
  | .local _ .vmem, ⟨5, _⟩ => ⟨S2048x512, .bf16⟩
  | .local _ .vmem, ⟨6, _⟩ => ⟨S5x512x2048, .bf16⟩
  | .local _ .vmem, ⟨7, _⟩ => ⟨S2x512x512, .bf16⟩
  | .local _ .vmem, ⟨8, _⟩ => ⟨S16x512, .bf16⟩
  | .local _ .smem, ⟨0, _⟩ => ⟨S8, .i32⟩
  | .local _ .smem, ⟨1, _⟩ => ⟨S8, .i32⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_call1_call0_c : Ref sig .tc := ⟨.hbm, 41, rfl⟩
abbrev main_call1_call0_v0 : Ref sig .tc := ⟨.hbm, 42, rfl⟩
abbrev main_v16 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v23 : Ref sig .tc := ⟨.hbm, 67, rfl⟩
abbrev main_v17 : Ref sig .tc := ⟨.smem, 0, rfl⟩
abbrev main_v22 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 11], ![false, false]⟩

abbrev pre0 : Pipeline.Prefetch sig := ⟨2, ![main_v17.idx, main_v22.idx], fun | 0 => main_v17.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 1 → Nat :=
  let arg0 : BitVec 32 := BitVec.ofNat 32 (i 0).val
  let v14 : Index := Scalar.indexCast arg0
  ![v14.toNat]
def k0_mult2 (v15 : BitVec 32) : BitVec 32 :=
  let c0_i32_33 : BitVec 32 := 0#32
  let v62 : BitVec 32 := Scalar.addi v15 c0_i32_33
  v62
def k0_cond1 (i : grid0.Coords) (v17 : BitVec 32) : BitVec 1 :=
  let arg0 : BitVec 32 := BitVec.ofNat 32 (i 0).val
  let c0_i32 : BitVec 32 := 0#32
  let v18 : BitVec 1 := Scalar.cmpi .eq arg0 c0_i32
  let arg1 : BitVec 32 := BitVec.ofNat 32 (i 1).val
  let c0_i32_11 : BitVec 32 := 0#32
  let v19 : BitVec 1 := Scalar.cmpi .eq arg1 c0_i32_11
  let v20 : BitVec 1 := Scalar.andi v18 v19
  let c0_i32_14 : BitVec 32 := 0#32
  let v28 : BitVec 1 := Scalar.cmpi .sgt v17 c0_i32_14
  let v29 : BitVec 1 := Scalar.andi v20 v28
  let v30 : BitVec 32 := Scalar.extui v29
  let c0_i32_15 : BitVec 32 := 0#32
  let v31 : BitVec 1 := Scalar.cmpi .ne v30 c0_i32_15
  v31

def k0_off2 (v15 : BitVec 32) : Fin 2 → Nat :=
  let c0_i32_33 : BitVec 32 := 0#32
  let v62 : BitVec 32 := Scalar.addi v15 c0_i32_33
  let v63 : BitVec 32 := v62
  let c0_i32_38 : BitVec 32 := 0#32
  ![v63.toNat, 0]
def k0_mult3 (v15 : BitVec 32) : BitVec 32 :=
  let c512_i32_33 : BitVec 32 := 512#32
  let v62 : BitVec 32 := Scalar.addi v15 c512_i32_33
  v62
def k0_cond2 (v17 : BitVec 32) : BitVec 1 :=
  let c1_i32_16 : BitVec 32 := 1#32
  let v32 : BitVec 1 := Scalar.cmpi .sgt v17 c1_i32_16
  let v33 : BitVec 32 := Scalar.extui v32
  let c0_i32_17 : BitVec 32 := 0#32
  let v34 : BitVec 1 := Scalar.cmpi .ne v33 c0_i32_17
  v34

def k0_off3 (v15 : BitVec 32) : Fin 2 → Nat :=
  let c512_i32_33 : BitVec 32 := 512#32
  let v62 : BitVec 32 := Scalar.addi v15 c512_i32_33
  let v63 : BitVec 32 := v62
  let c0_i32_38 : BitVec 32 := 0#32
  ![v63.toNat, 0]
def k0_mult4 (v15 : BitVec 32) : BitVec 32 :=
  let c1024_i32 : BitVec 32 := 1024#32
  let v62 : BitVec 32 := Scalar.addi v15 c1024_i32
  v62
def k0_cond3 (v17 : BitVec 32) : BitVec 1 :=
  let c2_i32 : BitVec 32 := 2#32
  let v35 : BitVec 1 := Scalar.cmpi .sgt v17 c2_i32
  let v36 : BitVec 32 := Scalar.extui v35
  let c0_i32_18 : BitVec 32 := 0#32
  let v37 : BitVec 1 := Scalar.cmpi .ne v36 c0_i32_18
  v37

def k0_off4 (v15 : BitVec 32) : Fin 2 → Nat :=
  let c1024_i32 : BitVec 32 := 1024#32
  let v62 : BitVec 32 := Scalar.addi v15 c1024_i32
  let v63 : BitVec 32 := v62
  let c0_i32_37 : BitVec 32 := 0#32
  ![v63.toNat, 0]
def k0_mult5 (v15 : BitVec 32) : BitVec 32 :=
  let c1536_i32 : BitVec 32 := 1536#32
  let v62 : BitVec 32 := Scalar.addi v15 c1536_i32
  v62
def k0_cond4 (v17 : BitVec 32) : BitVec 1 :=
  let c3_i32 : BitVec 32 := 3#32
  let v38 : BitVec 1 := Scalar.cmpi .sgt v17 c3_i32
  let v39 : BitVec 32 := Scalar.extui v38
  let c0_i32_19 : BitVec 32 := 0#32
  let v40 : BitVec 1 := Scalar.cmpi .ne v39 c0_i32_19
  v40

def k0_off5 (v15 : BitVec 32) : Fin 2 → Nat :=
  let c1536_i32 : BitVec 32 := 1536#32
  let v62 : BitVec 32 := Scalar.addi v15 c1536_i32
  let v63 : BitVec 32 := v62
  let c0_i32_37 : BitVec 32 := 0#32
  ![v63.toNat, 0]
@[reducible] def k0_t1_loop (v17 : BitVec 32) : Scf.Loop 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_23 : BitVec 32 := 1#32
  ⟨c0_i32_21, v45, c1_i32_23⟩
def k0_mult6 (v15 : BitVec 32) (v17 : BitVec 32) (k0_t1 : Fin (k0_t1_loop v17).trips) : BitVec 32 :=
  let c0_i32_21 : BitVec 32 := 0#32
  let c1_i32_23 : BitVec 32 := 1#32
  let arg16 : BitVec 32 := Scf.iv c0_i32_21 c1_i32_23 k0_t1
  let c512_i32_38 : BitVec 32 := 512#32
  let v72 : BitVec 32 := Scalar.muli arg16 c512_i32_38
  let v73 : BitVec 32 := Scalar.addi v15 v72
  v73
def k0_off6 (v17 : BitVec 32) (k0_t1 : Fin (k0_t1_loop v17).trips) : Fin 1 → Nat :=
  let c0_i32_21 : BitVec 32 := 0#32
  let c1_i32_23 : BitVec 32 := 1#32
  let arg16 : BitVec 32 := Scf.iv c0_i32_21 c1_i32_23 k0_t1
  let c5_i32 : BitVec 32 := 5#32
  let c0_i32_33 : BitVec 32 := 0#32
  let v62 : BitVec 1 := Scalar.cmpi .eq c5_i32 c0_i32_33
  let c1_i32_34 : BitVec 32 := 1#32
  let v63 : BitVec 32 := Scalar.select v62 c1_i32_34 c5_i32
  let v64 : BitVec 32 := Scalar.remsi arg16 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  ![v71.toNat]
def k0_off7 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c5_i32 : BitVec 32 := 5#32
  let c0_i32_33 : BitVec 32 := 0#32
  let v62 : BitVec 1 := Scalar.cmpi .eq c5_i32 c0_i32_33
  let c1_i32_34 : BitVec 32 := 1#32
  let v63 : BitVec 32 := Scalar.select v62 c1_i32_34 c5_i32
  let v64 : BitVec 32 := Scalar.remsi arg16 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_39 : BitVec 32 := 0#32
  let c0_i32_40 : BitVec 32 := 0#32
  ![v71.toNat, 0, 0]
def k0_off8 (v15 : BitVec 32) (v17 : BitVec 32) (k0_t1 : Fin (k0_t1_loop v17).trips) : Fin 2 → Nat :=
  let c0_i32_21 : BitVec 32 := 0#32
  let c1_i32_23 : BitVec 32 := 1#32
  let arg16 : BitVec 32 := Scf.iv c0_i32_21 c1_i32_23 k0_t1
  let c512_i32_38 : BitVec 32 := 512#32
  let v72 : BitVec 32 := Scalar.muli arg16 c512_i32_38
  let v73 : BitVec 32 := Scalar.addi v15 v72
  let v74 : BitVec 32 := v73
  let c0_i32_41 : BitVec 32 := 0#32
  ![v74.toNat, 0]
def k0_mult7 (v15 : BitVec 32) (v17 : BitVec 32) (k0_t1 : Fin (k0_t1_loop v17).trips) : BitVec 32 :=
  let c0_i32_21 : BitVec 32 := 0#32
  let c1_i32_23 : BitVec 32 := 1#32
  let arg16 : BitVec 32 := Scf.iv c0_i32_21 c1_i32_23 k0_t1
  let c4_i32_78 : BitVec 32 := 4#32
  let v146 : BitVec 32 := Scalar.addi arg16 c4_i32_78
  let c512_i32_86 : BitVec 32 := 512#32
  let v158 : BitVec 32 := Scalar.muli v146 c512_i32_86
  let v159 : BitVec 32 := Scalar.addi v15 v158
  v159
def k0_cond5 (v17 : BitVec 32) (k0_t1 : Fin (k0_t1_loop v17).trips) : BitVec 1 :=
  let c0_i32_21 : BitVec 32 := 0#32
  let c1_i32_23 : BitVec 32 := 1#32
  let arg16 : BitVec 32 := Scf.iv c0_i32_21 c1_i32_23 k0_t1
  let c4_i32 : BitVec 32 := 4#32
  let v80 : BitVec 32 := Scalar.addi arg16 c4_i32
  let v81 : BitVec 1 := Scalar.cmpi .slt v80 v17
  let v82 : BitVec 32 := Scalar.extui v81
  let c0_i32_42 : BitVec 32 := 0#32
  let v83 : BitVec 1 := Scalar.cmpi .ne v82 c0_i32_42
  v83

def k0_off9 (v17 : BitVec 32) (k0_t1 : Fin (k0_t1_loop v17).trips) : Fin 1 → Nat :=
  let c0_i32_21 : BitVec 32 := 0#32
  let c1_i32_23 : BitVec 32 := 1#32
  let arg16 : BitVec 32 := Scf.iv c0_i32_21 c1_i32_23 k0_t1
  let c4_i32_79 : BitVec 32 := 4#32
  let v147 : BitVec 32 := Scalar.addi arg16 c4_i32_79
  let c5_i32_80 : BitVec 32 := 5#32
  let c0_i32_81 : BitVec 32 := 0#32
  let v148 : BitVec 1 := Scalar.cmpi .eq c5_i32_80 c0_i32_81
  let c1_i32_82 : BitVec 32 := 1#32
  let v149 : BitVec 32 := Scalar.select v148 c1_i32_82 c5_i32_80
  let v150 : BitVec 32 := Scalar.remsi v147 v149
  let c0_i32_84 : BitVec 32 := 0#32
  let v152 : BitVec 1 := Scalar.cmpi .slt v150 c0_i32_84
  let c0_i32_85 : BitVec 32 := 0#32
  let v153 : BitVec 1 := Scalar.cmpi .slt v149 c0_i32_85
  let v154 : BitVec 1 := Scalar.xori v152 v153
  let c0_i32_83 : BitVec 32 := 0#32
  let v151 : BitVec 1 := Scalar.cmpi .ne v150 c0_i32_83
  let v155 : BitVec 1 := Scalar.andi v154 v151
  let v156 : BitVec 32 := Scalar.addi v150 v149
  let v157 : BitVec 32 := Scalar.select v155 v156 v150
  ![v157.toNat]
def k0_off10 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c4_i32_79 : BitVec 32 := 4#32
  let v147 : BitVec 32 := Scalar.addi arg16 c4_i32_79
  let c5_i32_80 : BitVec 32 := 5#32
  let c0_i32_81 : BitVec 32 := 0#32
  let v148 : BitVec 1 := Scalar.cmpi .eq c5_i32_80 c0_i32_81
  let c1_i32_82 : BitVec 32 := 1#32
  let v149 : BitVec 32 := Scalar.select v148 c1_i32_82 c5_i32_80
  let v150 : BitVec 32 := Scalar.remsi v147 v149
  let c0_i32_84 : BitVec 32 := 0#32
  let v152 : BitVec 1 := Scalar.cmpi .slt v150 c0_i32_84
  let c0_i32_85 : BitVec 32 := 0#32
  let v153 : BitVec 1 := Scalar.cmpi .slt v149 c0_i32_85
  let v154 : BitVec 1 := Scalar.xori v152 v153
  let c0_i32_83 : BitVec 32 := 0#32
  let v151 : BitVec 1 := Scalar.cmpi .ne v150 c0_i32_83
  let v155 : BitVec 1 := Scalar.andi v154 v151
  let v156 : BitVec 32 := Scalar.addi v150 v149
  let v157 : BitVec 32 := Scalar.select v155 v156 v150
  let c0_i32_87 : BitVec 32 := 0#32
  let c0_i32_88 : BitVec 32 := 0#32
  ![v157.toNat, 0, 0]
def k0_off11 (v15 : BitVec 32) (v17 : BitVec 32) (k0_t1 : Fin (k0_t1_loop v17).trips) : Fin 2 → Nat :=
  let c0_i32_21 : BitVec 32 := 0#32
  let c1_i32_23 : BitVec 32 := 1#32
  let arg16 : BitVec 32 := Scf.iv c0_i32_21 c1_i32_23 k0_t1
  let c4_i32_78 : BitVec 32 := 4#32
  let v146 : BitVec 32 := Scalar.addi arg16 c4_i32_78
  let c512_i32_86 : BitVec 32 := 512#32
  let v158 : BitVec 32 := Scalar.muli v146 c512_i32_86
  let v159 : BitVec 32 := Scalar.addi v15 v158
  let v160 : BitVec 32 := v159
  let c0_i32_89 : BitVec 32 := 0#32
  ![v160.toNat, 0]
def k0_cond6 (v17 : BitVec 32) (k0_t1 : Fin (k0_t1_loop v17).trips) : BitVec 1 :=
  let c0_i32_21 : BitVec 32 := 0#32
  let c1_i32_23 : BitVec 32 := 1#32
  let arg16 : BitVec 32 := Scf.iv c0_i32_21 c1_i32_23 k0_t1
  let c2_i32_43 : BitVec 32 := 2#32
  let v84 : BitVec 1 := Scalar.cmpi .sge arg16 c2_i32_43
  let v85 : BitVec 32 := Scalar.extui v84
  let c0_i32_44 : BitVec 32 := 0#32
  let v86 : BitVec 1 := Scalar.cmpi .ne v85 c0_i32_44
  v86

def k0_mult8 (v15 : BitVec 32) (v17 : BitVec 32) (k0_t1 : Fin (k0_t1_loop v17).trips) : BitVec 32 :=
  let c0_i32_21 : BitVec 32 := 0#32
  let c1_i32_23 : BitVec 32 := 1#32
  let arg16 : BitVec 32 := Scf.iv c0_i32_21 c1_i32_23 k0_t1
  let c2_i32_78 : BitVec 32 := 2#32
  let v146 : BitVec 32 := Scalar.subi arg16 c2_i32_78
  let c512_i32_85 : BitVec 32 := 512#32
  let v157 : BitVec 32 := Scalar.muli v146 c512_i32_85
  let v158 : BitVec 32 := Scalar.addi v15 v157
  v158
def k0_off12 (v17 : BitVec 32) (k0_t1 : Fin (k0_t1_loop v17).trips) : Fin 1 → Nat :=
  let c0_i32_21 : BitVec 32 := 0#32
  let c1_i32_23 : BitVec 32 := 1#32
  let arg16 : BitVec 32 := Scf.iv c0_i32_21 c1_i32_23 k0_t1
  let c2_i32_79 : BitVec 32 := 2#32
  let c0_i32_80 : BitVec 32 := 0#32
  let v147 : BitVec 1 := Scalar.cmpi .eq c2_i32_79 c0_i32_80
  let c1_i32_81 : BitVec 32 := 1#32
  let v148 : BitVec 32 := Scalar.select v147 c1_i32_81 c2_i32_79
  let v149 : BitVec 32 := Scalar.remsi arg16 v148
  let c0_i32_83 : BitVec 32 := 0#32
  let v151 : BitVec 1 := Scalar.cmpi .slt v149 c0_i32_83
  let c0_i32_84 : BitVec 32 := 0#32
  let v152 : BitVec 1 := Scalar.cmpi .slt v148 c0_i32_84
  let v153 : BitVec 1 := Scalar.xori v151 v152
  let c0_i32_82 : BitVec 32 := 0#32
  let v150 : BitVec 1 := Scalar.cmpi .ne v149 c0_i32_82
  let v154 : BitVec 1 := Scalar.andi v153 v150
  let v155 : BitVec 32 := Scalar.addi v149 v148
  let v156 : BitVec 32 := Scalar.select v154 v155 v149
  ![v156.toNat]
def k0_off13 (i : grid0.Coords) (v15 : BitVec 32) (v17 : BitVec 32) (k0_t1 : Fin (k0_t1_loop v17).trips) : Fin 2 → Nat :=
  let c0_i32_21 : BitVec 32 := 0#32
  let c1_i32_23 : BitVec 32 := 1#32
  let arg16 : BitVec 32 := Scf.iv c0_i32_21 c1_i32_23 k0_t1
  let c2_i32_78 : BitVec 32 := 2#32
  let v146 : BitVec 32 := Scalar.subi arg16 c2_i32_78
  let c512_i32_85 : BitVec 32 := 512#32
  let v157 : BitVec 32 := Scalar.muli v146 c512_i32_85
  let v158 : BitVec 32 := Scalar.addi v15 v157
  let v159 : BitVec 32 := v158
  let arg1 : BitVec 32 := BitVec.ofNat 32 (i 1).val
  let c512_i32 : BitVec 32 := 512#32
  let v12 : BitVec 32 := Scalar.muli arg1 c512_i32
  let v13 : BitVec 32 := v12
  ![v159.toNat, v13.toNat]
def k0_off14 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c2_i32_79 : BitVec 32 := 2#32
  let c0_i32_80 : BitVec 32 := 0#32
  let v147 : BitVec 1 := Scalar.cmpi .eq c2_i32_79 c0_i32_80
  let c1_i32_81 : BitVec 32 := 1#32
  let v148 : BitVec 32 := Scalar.select v147 c1_i32_81 c2_i32_79
  let v149 : BitVec 32 := Scalar.remsi arg16 v148
  let c0_i32_83 : BitVec 32 := 0#32
  let v151 : BitVec 1 := Scalar.cmpi .slt v149 c0_i32_83
  let c0_i32_84 : BitVec 32 := 0#32
  let v152 : BitVec 1 := Scalar.cmpi .slt v148 c0_i32_84
  let v153 : BitVec 1 := Scalar.xori v151 v152
  let c0_i32_82 : BitVec 32 := 0#32
  let v150 : BitVec 1 := Scalar.cmpi .ne v149 c0_i32_82
  let v154 : BitVec 1 := Scalar.andi v153 v150
  let v155 : BitVec 32 := Scalar.addi v149 v148
  let v156 : BitVec 32 := Scalar.select v154 v155 v149
  let c0_i32_86 : BitVec 32 := 0#32
  let c0_i32_87 : BitVec 32 := 0#32
  ![v156.toNat, 0, 0]
def k0_off15 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c5_i32_45 : BitVec 32 := 5#32
  let c0_i32_46 : BitVec 32 := 0#32
  let v87 : BitVec 1 := Scalar.cmpi .eq c5_i32_45 c0_i32_46
  let c1_i32_47 : BitVec 32 := 1#32
  let v88 : BitVec 32 := Scalar.select v87 c1_i32_47 c5_i32_45
  let v89 : BitVec 32 := Scalar.remsi arg16 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  let v107 : Index := Scalar.indexCast v96
  let c0_57 : Index := 0#32
  let c0_58 : Index := 0#32
  ![v107.toNat, 0, 0]
def k0_off16 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c2_i32_51 : BitVec 32 := 2#32
  let c0_i32_52 : BitVec 32 := 0#32
  let v97 : BitVec 1 := Scalar.cmpi .eq c2_i32_51 c0_i32_52
  let c1_i32_53 : BitVec 32 := 1#32
  let v98 : BitVec 32 := Scalar.select v97 c1_i32_53 c2_i32_51
  let v99 : BitVec 32 := Scalar.remsi arg16 v98
  let c0_i32_55 : BitVec 32 := 0#32
  let v101 : BitVec 1 := Scalar.cmpi .slt v99 c0_i32_55
  let c0_i32_56 : BitVec 32 := 0#32
  let v102 : BitVec 1 := Scalar.cmpi .slt v98 c0_i32_56
  let v103 : BitVec 1 := Scalar.xori v101 v102
  let c0_i32_54 : BitVec 32 := 0#32
  let v100 : BitVec 1 := Scalar.cmpi .ne v99 c0_i32_54
  let v104 : BitVec 1 := Scalar.andi v103 v100
  let v105 : BitVec 32 := Scalar.addi v99 v98
  let v106 : BitVec 32 := Scalar.select v104 v105 v99
  let v124 : Index := Scalar.indexCast v106
  let c0_67 : Index := 0#32
  let c0_68 : Index := 0#32
  ![v124.toNat, 0, 0]
def k0_mult9 (v15 : BitVec 32) (v17 : BitVec 32) (k0_t1 : Fin (k0_t1_loop v17).trips) : BitVec 32 :=
  let c0_i32_21 : BitVec 32 := 0#32
  let c1_i32_23 : BitVec 32 := 1#32
  let arg16 : BitVec 32 := Scf.iv c0_i32_21 c1_i32_23 k0_t1
  let c512_i32_75 : BitVec 32 := 512#32
  let v138 : BitVec 32 := Scalar.muli arg16 c512_i32_75
  let v139 : BitVec 32 := Scalar.addi v15 v138
  v139
def k0_off17 (v17 : BitVec 32) (k0_t1 : Fin (k0_t1_loop v17).trips) : Fin 1 → Nat :=
  let c0_i32_21 : BitVec 32 := 0#32
  let c1_i32_23 : BitVec 32 := 1#32
  let arg16 : BitVec 32 := Scf.iv c0_i32_21 c1_i32_23 k0_t1
  let c2_i32_69 : BitVec 32 := 2#32
  let c0_i32_70 : BitVec 32 := 0#32
  let v128 : BitVec 1 := Scalar.cmpi .eq c2_i32_69 c0_i32_70
  let c1_i32_71 : BitVec 32 := 1#32
  let v129 : BitVec 32 := Scalar.select v128 c1_i32_71 c2_i32_69
  let v130 : BitVec 32 := Scalar.remsi arg16 v129
  let c0_i32_73 : BitVec 32 := 0#32
  let v132 : BitVec 1 := Scalar.cmpi .slt v130 c0_i32_73
  let c0_i32_74 : BitVec 32 := 0#32
  let v133 : BitVec 1 := Scalar.cmpi .slt v129 c0_i32_74
  let v134 : BitVec 1 := Scalar.xori v132 v133
  let c0_i32_72 : BitVec 32 := 0#32
  let v131 : BitVec 1 := Scalar.cmpi .ne v130 c0_i32_72
  let v135 : BitVec 1 := Scalar.andi v134 v131
  let v136 : BitVec 32 := Scalar.addi v130 v129
  let v137 : BitVec 32 := Scalar.select v135 v136 v130
  ![v137.toNat]
def k0_off18 (i : grid0.Coords) (v15 : BitVec 32) (v17 : BitVec 32) (k0_t1 : Fin (k0_t1_loop v17).trips) : Fin 2 → Nat :=
  let c0_i32_21 : BitVec 32 := 0#32
  let c1_i32_23 : BitVec 32 := 1#32
  let arg16 : BitVec 32 := Scf.iv c0_i32_21 c1_i32_23 k0_t1
  let c512_i32_75 : BitVec 32 := 512#32
  let v138 : BitVec 32 := Scalar.muli arg16 c512_i32_75
  let v139 : BitVec 32 := Scalar.addi v15 v138
  let v140 : BitVec 32 := v139
  let arg1 : BitVec 32 := BitVec.ofNat 32 (i 1).val
  let c512_i32 : BitVec 32 := 512#32
  let v12 : BitVec 32 := Scalar.muli arg1 c512_i32
  let v13 : BitVec 32 := v12
  ![v140.toNat, v13.toNat]
def k0_off19 (v17 : BitVec 32) (k0_t1 : Fin (k0_t1_loop v17).trips) : Fin 3 → Nat :=
  let c0_i32_21 : BitVec 32 := 0#32
  let c1_i32_23 : BitVec 32 := 1#32
  let arg16 : BitVec 32 := Scf.iv c0_i32_21 c1_i32_23 k0_t1
  let c2_i32_69 : BitVec 32 := 2#32
  let c0_i32_70 : BitVec 32 := 0#32
  let v128 : BitVec 1 := Scalar.cmpi .eq c2_i32_69 c0_i32_70
  let c1_i32_71 : BitVec 32 := 1#32
  let v129 : BitVec 32 := Scalar.select v128 c1_i32_71 c2_i32_69
  let v130 : BitVec 32 := Scalar.remsi arg16 v129
  let c0_i32_73 : BitVec 32 := 0#32
  let v132 : BitVec 1 := Scalar.cmpi .slt v130 c0_i32_73
  let c0_i32_74 : BitVec 32 := 0#32
  let v133 : BitVec 1 := Scalar.cmpi .slt v129 c0_i32_74
  let v134 : BitVec 1 := Scalar.xori v132 v133
  let c0_i32_72 : BitVec 32 := 0#32
  let v131 : BitVec 1 := Scalar.cmpi .ne v130 c0_i32_72
  let v135 : BitVec 1 := Scalar.andi v134 v131
  let v136 : BitVec 32 := Scalar.addi v130 v129
  let v137 : BitVec 32 := Scalar.select v135 v136 v130
  let c0_i32_76 : BitVec 32 := 0#32
  let c0_i32_77 : BitVec 32 := 0#32
  ![v137.toNat, 0, 0]
@[reducible] def k0_t2_loop (v17 : BitVec 32) : Scf.Loop 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let v42 : BitVec 32 := Scalar.addi c0_i32_21 v41
  let c1_i32_24 : BitVec 32 := 1#32
  ⟨v45, v42, c1_i32_24⟩
def k0_mult10 (v15 : BitVec 32) (v17 : BitVec 32) (k0_t2 : Fin (k0_t2_loop v17).trips) : BitVec 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c512_i32_38 : BitVec 32 := 512#32
  let v72 : BitVec 32 := Scalar.muli arg16 c512_i32_38
  let v73 : BitVec 32 := Scalar.addi v15 v72
  v73
def k0_off20 (v17 : BitVec 32) (k0_t2 : Fin (k0_t2_loop v17).trips) : Fin 1 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c5_i32 : BitVec 32 := 5#32
  let c0_i32_33 : BitVec 32 := 0#32
  let v62 : BitVec 1 := Scalar.cmpi .eq c5_i32 c0_i32_33
  let c1_i32_34 : BitVec 32 := 1#32
  let v63 : BitVec 32 := Scalar.select v62 c1_i32_34 c5_i32
  let v64 : BitVec 32 := Scalar.remsi arg16 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  ![v71.toNat]
def k0_off21 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c5_i32 : BitVec 32 := 5#32
  let c0_i32_33 : BitVec 32 := 0#32
  let v62 : BitVec 1 := Scalar.cmpi .eq c5_i32 c0_i32_33
  let c1_i32_34 : BitVec 32 := 1#32
  let v63 : BitVec 32 := Scalar.select v62 c1_i32_34 c5_i32
  let v64 : BitVec 32 := Scalar.remsi arg16 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let c0_i32_39 : BitVec 32 := 0#32
  let c0_i32_40 : BitVec 32 := 0#32
  ![v71.toNat, 0, 0]
def k0_off22 (v15 : BitVec 32) (v17 : BitVec 32) (k0_t2 : Fin (k0_t2_loop v17).trips) : Fin 2 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c512_i32_38 : BitVec 32 := 512#32
  let v72 : BitVec 32 := Scalar.muli arg16 c512_i32_38
  let v73 : BitVec 32 := Scalar.addi v15 v72
  let v74 : BitVec 32 := v73
  let c0_i32_41 : BitVec 32 := 0#32
  ![v74.toNat, 0]
def k0_mult11 (v15 : BitVec 32) (v17 : BitVec 32) (k0_t2 : Fin (k0_t2_loop v17).trips) : BitVec 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c4_i32_78 : BitVec 32 := 4#32
  let v146 : BitVec 32 := Scalar.addi arg16 c4_i32_78
  let c512_i32_86 : BitVec 32 := 512#32
  let v158 : BitVec 32 := Scalar.muli v146 c512_i32_86
  let v159 : BitVec 32 := Scalar.addi v15 v158
  v159
def k0_cond7 (v17 : BitVec 32) (k0_t2 : Fin (k0_t2_loop v17).trips) : BitVec 1 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c4_i32 : BitVec 32 := 4#32
  let v80 : BitVec 32 := Scalar.addi arg16 c4_i32
  let v81 : BitVec 1 := Scalar.cmpi .slt v80 v17
  let v82 : BitVec 32 := Scalar.extui v81
  let c0_i32_42 : BitVec 32 := 0#32
  let v83 : BitVec 1 := Scalar.cmpi .ne v82 c0_i32_42
  v83

def k0_off23 (v17 : BitVec 32) (k0_t2 : Fin (k0_t2_loop v17).trips) : Fin 1 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c4_i32_79 : BitVec 32 := 4#32
  let v147 : BitVec 32 := Scalar.addi arg16 c4_i32_79
  let c5_i32_80 : BitVec 32 := 5#32
  let c0_i32_81 : BitVec 32 := 0#32
  let v148 : BitVec 1 := Scalar.cmpi .eq c5_i32_80 c0_i32_81
  let c1_i32_82 : BitVec 32 := 1#32
  let v149 : BitVec 32 := Scalar.select v148 c1_i32_82 c5_i32_80
  let v150 : BitVec 32 := Scalar.remsi v147 v149
  let c0_i32_84 : BitVec 32 := 0#32
  let v152 : BitVec 1 := Scalar.cmpi .slt v150 c0_i32_84
  let c0_i32_85 : BitVec 32 := 0#32
  let v153 : BitVec 1 := Scalar.cmpi .slt v149 c0_i32_85
  let v154 : BitVec 1 := Scalar.xori v152 v153
  let c0_i32_83 : BitVec 32 := 0#32
  let v151 : BitVec 1 := Scalar.cmpi .ne v150 c0_i32_83
  let v155 : BitVec 1 := Scalar.andi v154 v151
  let v156 : BitVec 32 := Scalar.addi v150 v149
  let v157 : BitVec 32 := Scalar.select v155 v156 v150
  ![v157.toNat]
def k0_off24 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c4_i32_79 : BitVec 32 := 4#32
  let v147 : BitVec 32 := Scalar.addi arg16 c4_i32_79
  let c5_i32_80 : BitVec 32 := 5#32
  let c0_i32_81 : BitVec 32 := 0#32
  let v148 : BitVec 1 := Scalar.cmpi .eq c5_i32_80 c0_i32_81
  let c1_i32_82 : BitVec 32 := 1#32
  let v149 : BitVec 32 := Scalar.select v148 c1_i32_82 c5_i32_80
  let v150 : BitVec 32 := Scalar.remsi v147 v149
  let c0_i32_84 : BitVec 32 := 0#32
  let v152 : BitVec 1 := Scalar.cmpi .slt v150 c0_i32_84
  let c0_i32_85 : BitVec 32 := 0#32
  let v153 : BitVec 1 := Scalar.cmpi .slt v149 c0_i32_85
  let v154 : BitVec 1 := Scalar.xori v152 v153
  let c0_i32_83 : BitVec 32 := 0#32
  let v151 : BitVec 1 := Scalar.cmpi .ne v150 c0_i32_83
  let v155 : BitVec 1 := Scalar.andi v154 v151
  let v156 : BitVec 32 := Scalar.addi v150 v149
  let v157 : BitVec 32 := Scalar.select v155 v156 v150
  let c0_i32_87 : BitVec 32 := 0#32
  let c0_i32_88 : BitVec 32 := 0#32
  ![v157.toNat, 0, 0]
def k0_off25 (v15 : BitVec 32) (v17 : BitVec 32) (k0_t2 : Fin (k0_t2_loop v17).trips) : Fin 2 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c4_i32_78 : BitVec 32 := 4#32
  let v146 : BitVec 32 := Scalar.addi arg16 c4_i32_78
  let c512_i32_86 : BitVec 32 := 512#32
  let v158 : BitVec 32 := Scalar.muli v146 c512_i32_86
  let v159 : BitVec 32 := Scalar.addi v15 v158
  let v160 : BitVec 32 := v159
  let c0_i32_89 : BitVec 32 := 0#32
  ![v160.toNat, 0]
def k0_mult12 (v15 : BitVec 32) (v17 : BitVec 32) (k0_t2 : Fin (k0_t2_loop v17).trips) : BitVec 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_78 : BitVec 32 := 2#32
  let v146 : BitVec 32 := Scalar.subi arg16 c2_i32_78
  let c512_i32_85 : BitVec 32 := 512#32
  let v157 : BitVec 32 := Scalar.muli v146 c512_i32_85
  let v158 : BitVec 32 := Scalar.addi v15 v157
  v158
def k0_cond8 (v17 : BitVec 32) (k0_t2 : Fin (k0_t2_loop v17).trips) : BitVec 1 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_43 : BitVec 32 := 2#32
  let v84 : BitVec 1 := Scalar.cmpi .sge arg16 c2_i32_43
  let v85 : BitVec 32 := Scalar.extui v84
  let c0_i32_44 : BitVec 32 := 0#32
  let v86 : BitVec 1 := Scalar.cmpi .ne v85 c0_i32_44
  v86

def k0_off26 (v17 : BitVec 32) (k0_t2 : Fin (k0_t2_loop v17).trips) : Fin 1 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_79 : BitVec 32 := 2#32
  let c0_i32_80 : BitVec 32 := 0#32
  let v147 : BitVec 1 := Scalar.cmpi .eq c2_i32_79 c0_i32_80
  let c1_i32_81 : BitVec 32 := 1#32
  let v148 : BitVec 32 := Scalar.select v147 c1_i32_81 c2_i32_79
  let v149 : BitVec 32 := Scalar.remsi arg16 v148
  let c0_i32_83 : BitVec 32 := 0#32
  let v151 : BitVec 1 := Scalar.cmpi .slt v149 c0_i32_83
  let c0_i32_84 : BitVec 32 := 0#32
  let v152 : BitVec 1 := Scalar.cmpi .slt v148 c0_i32_84
  let v153 : BitVec 1 := Scalar.xori v151 v152
  let c0_i32_82 : BitVec 32 := 0#32
  let v150 : BitVec 1 := Scalar.cmpi .ne v149 c0_i32_82
  let v154 : BitVec 1 := Scalar.andi v153 v150
  let v155 : BitVec 32 := Scalar.addi v149 v148
  let v156 : BitVec 32 := Scalar.select v154 v155 v149
  ![v156.toNat]
def k0_off27 (i : grid0.Coords) (v15 : BitVec 32) (v17 : BitVec 32) (k0_t2 : Fin (k0_t2_loop v17).trips) : Fin 2 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_78 : BitVec 32 := 2#32
  let v146 : BitVec 32 := Scalar.subi arg16 c2_i32_78
  let c512_i32_85 : BitVec 32 := 512#32
  let v157 : BitVec 32 := Scalar.muli v146 c512_i32_85
  let v158 : BitVec 32 := Scalar.addi v15 v157
  let v159 : BitVec 32 := v158
  let arg1 : BitVec 32 := BitVec.ofNat 32 (i 1).val
  let c512_i32 : BitVec 32 := 512#32
  let v12 : BitVec 32 := Scalar.muli arg1 c512_i32
  let v13 : BitVec 32 := v12
  ![v159.toNat, v13.toNat]
def k0_off28 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_79 : BitVec 32 := 2#32
  let c0_i32_80 : BitVec 32 := 0#32
  let v147 : BitVec 1 := Scalar.cmpi .eq c2_i32_79 c0_i32_80
  let c1_i32_81 : BitVec 32 := 1#32
  let v148 : BitVec 32 := Scalar.select v147 c1_i32_81 c2_i32_79
  let v149 : BitVec 32 := Scalar.remsi arg16 v148
  let c0_i32_83 : BitVec 32 := 0#32
  let v151 : BitVec 1 := Scalar.cmpi .slt v149 c0_i32_83
  let c0_i32_84 : BitVec 32 := 0#32
  let v152 : BitVec 1 := Scalar.cmpi .slt v148 c0_i32_84
  let v153 : BitVec 1 := Scalar.xori v151 v152
  let c0_i32_82 : BitVec 32 := 0#32
  let v150 : BitVec 1 := Scalar.cmpi .ne v149 c0_i32_82
  let v154 : BitVec 1 := Scalar.andi v153 v150
  let v155 : BitVec 32 := Scalar.addi v149 v148
  let v156 : BitVec 32 := Scalar.select v154 v155 v149
  let c0_i32_86 : BitVec 32 := 0#32
  let c0_i32_87 : BitVec 32 := 0#32
  ![v156.toNat, 0, 0]
def k0_off29 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c5_i32_45 : BitVec 32 := 5#32
  let c0_i32_46 : BitVec 32 := 0#32
  let v87 : BitVec 1 := Scalar.cmpi .eq c5_i32_45 c0_i32_46
  let c1_i32_47 : BitVec 32 := 1#32
  let v88 : BitVec 32 := Scalar.select v87 c1_i32_47 c5_i32_45
  let v89 : BitVec 32 := Scalar.remsi arg16 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  let v107 : Index := Scalar.indexCast v96
  let c0_57 : Index := 0#32
  let c0_58 : Index := 0#32
  ![v107.toNat, 0, 0]
def k0_off30 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_51 : BitVec 32 := 2#32
  let c0_i32_52 : BitVec 32 := 0#32
  let v97 : BitVec 1 := Scalar.cmpi .eq c2_i32_51 c0_i32_52
  let c1_i32_53 : BitVec 32 := 1#32
  let v98 : BitVec 32 := Scalar.select v97 c1_i32_53 c2_i32_51
  let v99 : BitVec 32 := Scalar.remsi arg16 v98
  let c0_i32_55 : BitVec 32 := 0#32
  let v101 : BitVec 1 := Scalar.cmpi .slt v99 c0_i32_55
  let c0_i32_56 : BitVec 32 := 0#32
  let v102 : BitVec 1 := Scalar.cmpi .slt v98 c0_i32_56
  let v103 : BitVec 1 := Scalar.xori v101 v102
  let c0_i32_54 : BitVec 32 := 0#32
  let v100 : BitVec 1 := Scalar.cmpi .ne v99 c0_i32_54
  let v104 : BitVec 1 := Scalar.andi v103 v100
  let v105 : BitVec 32 := Scalar.addi v99 v98
  let v106 : BitVec 32 := Scalar.select v104 v105 v99
  let v124 : Index := Scalar.indexCast v106
  let c0_67 : Index := 0#32
  let c0_68 : Index := 0#32
  ![v124.toNat, 0, 0]
def k0_mult13 (v15 : BitVec 32) (v17 : BitVec 32) (k0_t2 : Fin (k0_t2_loop v17).trips) : BitVec 32 :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c512_i32_75 : BitVec 32 := 512#32
  let v138 : BitVec 32 := Scalar.muli arg16 c512_i32_75
  let v139 : BitVec 32 := Scalar.addi v15 v138
  v139
def k0_off31 (v17 : BitVec 32) (k0_t2 : Fin (k0_t2_loop v17).trips) : Fin 1 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_69 : BitVec 32 := 2#32
  let c0_i32_70 : BitVec 32 := 0#32
  let v128 : BitVec 1 := Scalar.cmpi .eq c2_i32_69 c0_i32_70
  let c1_i32_71 : BitVec 32 := 1#32
  let v129 : BitVec 32 := Scalar.select v128 c1_i32_71 c2_i32_69
  let v130 : BitVec 32 := Scalar.remsi arg16 v129
  let c0_i32_73 : BitVec 32 := 0#32
  let v132 : BitVec 1 := Scalar.cmpi .slt v130 c0_i32_73
  let c0_i32_74 : BitVec 32 := 0#32
  let v133 : BitVec 1 := Scalar.cmpi .slt v129 c0_i32_74
  let v134 : BitVec 1 := Scalar.xori v132 v133
  let c0_i32_72 : BitVec 32 := 0#32
  let v131 : BitVec 1 := Scalar.cmpi .ne v130 c0_i32_72
  let v135 : BitVec 1 := Scalar.andi v134 v131
  let v136 : BitVec 32 := Scalar.addi v130 v129
  let v137 : BitVec 32 := Scalar.select v135 v136 v130
  ![v137.toNat]
def k0_off32 (i : grid0.Coords) (v15 : BitVec 32) (v17 : BitVec 32) (k0_t2 : Fin (k0_t2_loop v17).trips) : Fin 2 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c512_i32_75 : BitVec 32 := 512#32
  let v138 : BitVec 32 := Scalar.muli arg16 c512_i32_75
  let v139 : BitVec 32 := Scalar.addi v15 v138
  let v140 : BitVec 32 := v139
  let arg1 : BitVec 32 := BitVec.ofNat 32 (i 1).val
  let c512_i32 : BitVec 32 := 512#32
  let v12 : BitVec 32 := Scalar.muli arg1 c512_i32
  let v13 : BitVec 32 := v12
  ![v140.toNat, v13.toNat]
def k0_off33 (v17 : BitVec 32) (k0_t2 : Fin (k0_t2_loop v17).trips) : Fin 3 → Nat :=
  let c0_i32_21 : BitVec 32 := 0#32
  let v41 : BitVec 32 := Scalar.subi v17 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg16 : BitVec 32 := Scf.iv v45 c1_i32_24 k0_t2
  let c2_i32_69 : BitVec 32 := 2#32
  let c0_i32_70 : BitVec 32 := 0#32
  let v128 : BitVec 1 := Scalar.cmpi .eq c2_i32_69 c0_i32_70
  let c1_i32_71 : BitVec 32 := 1#32
  let v129 : BitVec 32 := Scalar.select v128 c1_i32_71 c2_i32_69
  let v130 : BitVec 32 := Scalar.remsi arg16 v129
  let c0_i32_73 : BitVec 32 := 0#32
  let v132 : BitVec 1 := Scalar.cmpi .slt v130 c0_i32_73
  let c0_i32_74 : BitVec 32 := 0#32
  let v133 : BitVec 1 := Scalar.cmpi .slt v129 c0_i32_74
  let v134 : BitVec 1 := Scalar.xori v132 v133
  let c0_i32_72 : BitVec 32 := 0#32
  let v131 : BitVec 1 := Scalar.cmpi .ne v130 c0_i32_72
  let v135 : BitVec 1 := Scalar.andi v134 v131
  let v136 : BitVec 32 := Scalar.addi v130 v129
  let v137 : BitVec 32 := Scalar.select v135 v136 v130
  let c0_i32_76 : BitVec 32 := 0#32
  let c0_i32_77 : BitVec 32 := 0#32
  ![v137.toNat, 0, 0]
def k0_off34 (i : grid0.Coords) : Fin 1 → Nat :=
  let arg1 : BitVec 32 := BitVec.ofNat 32 (i 1).val
  let c10_i32_12 : BitVec 32 := 10#32
  let v24 : BitVec 1 := Scalar.cmpi .eq arg1 c10_i32_12
  let arg0 : BitVec 32 := BitVec.ofNat 32 (i 0).val
  let c1_i32 : BitVec 32 := 1#32
  let v25 : BitVec 32 := Scalar.addi arg0 c1_i32
  let v26 : BitVec 32 := Scalar.select v24 v25 arg0
  let c7_i32_13 : BitVec 32 := 7#32
  let v27 : BitVec 32 := Scalar.minsi v26 c7_i32_13
  let v47 : Index := Scalar.indexCast v27
  ![v47.toNat]
def k0_off35 (i : grid0.Coords) : Fin 1 → Nat :=
  let arg1 : BitVec 32 := BitVec.ofNat 32 (i 1).val
  let c10_i32_12 : BitVec 32 := 10#32
  let v24 : BitVec 1 := Scalar.cmpi .eq arg1 c10_i32_12
  let arg0 : BitVec 32 := BitVec.ofNat 32 (i 0).val
  let c1_i32 : BitVec 32 := 1#32
  let v25 : BitVec 32 := Scalar.addi arg0 c1_i32
  let v26 : BitVec 32 := Scalar.select v24 v25 arg0
  let c7_i32_13 : BitVec 32 := 7#32
  let v27 : BitVec 32 := Scalar.minsi v26 c7_i32_13
  let v62 : Index := Scalar.indexCast v27
  ![v62.toNat]
def k0_mult14 (v63 : BitVec 32) : BitVec 32 :=
  let c0_i32_33 : BitVec 32 := 0#32
  let v64 : BitVec 32 := Scalar.addi v63 c0_i32_33
  v64
def k0_cond9 (i : grid0.Coords) (v48 : BitVec 32) : BitVec 1 :=
  let arg0 : BitVec 32 := BitVec.ofNat 32 (i 0).val
  let c7_i32 : BitVec 32 := 7#32
  let v21 : BitVec 1 := Scalar.cmpi .eq arg0 c7_i32
  let arg1 : BitVec 32 := BitVec.ofNat 32 (i 1).val
  let c10_i32 : BitVec 32 := 10#32
  let v22 : BitVec 1 := Scalar.cmpi .eq arg1 c10_i32
  let v23 : BitVec 1 := Scalar.andi v21 v22
  let v_true : BitVec 1 := 1#1
  let v46 : BitVec 1 := Scalar.xori v23 v_true
  let c0_i32_25 : BitVec 32 := 0#32
  let v49 : BitVec 1 := Scalar.cmpi .sgt v48 c0_i32_25
  let v50 : BitVec 1 := Scalar.andi v46 v49
  let v51 : BitVec 32 := Scalar.extui v50
  let c0_i32_26 : BitVec 32 := 0#32
  let v52 : BitVec 1 := Scalar.cmpi .ne v51 c0_i32_26
  v52

def k0_off36 (v63 : BitVec 32) : Fin 2 → Nat :=
  let c0_i32_33 : BitVec 32 := 0#32
  let v64 : BitVec 32 := Scalar.addi v63 c0_i32_33
  let v65 : BitVec 32 := v64
  let c0_i32_38 : BitVec 32 := 0#32
  ![v65.toNat, 0]

def k0_chk2 (i : grid0.Coords) (v48 : BitVec 32) (v63 : BitVec 32) : Prop :=
  (∀ (k0_h9 : k0_cond9 i v48 = 1#1), 16 ∣ (k0_mult14 v63).toNat) ∧
  (∀ (k0_h9 : k0_cond9 i v48 = 1#1), ∀ a, (k0_off36 v63) a + S512x2048.size a ≤ S18432x2048.size a) ∧
  (∀ (k0_h9 : k0_cond9 i v48 = 1#1), ∀ (hinb : ∀ a, (k0_off36 v63) a + S512x2048.size a ≤ S18432x2048.size a), (Rect.unit (s := S18432x2048) (k0_off36 v63) S512x2048.size hinb).WholeWords (EltTy.packing .bf16))
theorem k0_mult14_dvd : ∀ (i : grid0.Coords) (v48 : BitVec 32) (v63 : BitVec 32) (k0_hw2 : k0_chk2 i v48 v63), ∀ (k0_h9 : k0_cond9 i v48 = 1#1), 16 ∣ (k0_mult14 v63).toNat := fun i v48 v63 k0_hw2 k0_h9 => k0_hw2.1 k0_h9
theorem k0_off36_inb : ∀ (i : grid0.Coords) (v48 : BitVec 32) (v63 : BitVec 32) (k0_hw2 : k0_chk2 i v48 v63), ∀ (k0_h9 : k0_cond9 i v48 = 1#1), ∀ a, (k0_off36 v63) a + S512x2048.size a ≤ S18432x2048.size a := fun i v48 v63 k0_hw2 k0_h9 => k0_hw2.2.1 k0_h9
theorem k0_off36_wordsbf16 : ∀ (i : grid0.Coords) (v48 : BitVec 32) (v63 : BitVec 32) (k0_hw2 : k0_chk2 i v48 v63), ∀ (k0_h9 : k0_cond9 i v48 = 1#1), (Rect.unit (s := S18432x2048) (k0_off36 v63) S512x2048.size (k0_off36_inb i v48 v63 k0_hw2 k0_h9)).WholeWords (EltTy.packing .bf16) := fun i v48 v63 k0_hw2 k0_h9 => k0_hw2.2.2 k0_h9 (k0_off36_inb i v48 v63 k0_hw2 k0_h9)

def k0_mult15 (v15 : BitVec 32) (v17 : BitVec 32) : BitVec 32 :=
  let c2_i32_33 : BitVec 32 := 2#32
  let v62 : BitVec 32 := Scalar.subi v17 c2_i32_33
  let c512_i32_40 : BitVec 32 := 512#32
  let v73 : BitVec 32 := Scalar.muli v62 c512_i32_40
  let v74 : BitVec 32 := Scalar.addi v15 v73
  v74
def k0_cond10 (v17 : BitVec 32) : BitVec 1 :=
  let c2_i32_27 : BitVec 32 := 2#32
  let v53 : BitVec 1 := Scalar.cmpi .sge v17 c2_i32_27
  let v54 : BitVec 32 := Scalar.extui v53
  let c0_i32_28 : BitVec 32 := 0#32
  let v55 : BitVec 1 := Scalar.cmpi .ne v54 c0_i32_28
  v55

def k0_off37 (v17 : BitVec 32) : Fin 1 → Nat :=
  let c2_i32_34 : BitVec 32 := 2#32
  let c0_i32_35 : BitVec 32 := 0#32
  let v63 : BitVec 1 := Scalar.cmpi .eq c2_i32_34 c0_i32_35
  let c1_i32_36 : BitVec 32 := 1#32
  let v64 : BitVec 32 := Scalar.select v63 c1_i32_36 c2_i32_34
  let v65 : BitVec 32 := Scalar.remsi v17 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  ![v72.toNat]
def k0_off38 (i : grid0.Coords) (v15 : BitVec 32) (v17 : BitVec 32) : Fin 2 → Nat :=
  let c2_i32_33 : BitVec 32 := 2#32
  let v62 : BitVec 32 := Scalar.subi v17 c2_i32_33
  let c512_i32_40 : BitVec 32 := 512#32
  let v73 : BitVec 32 := Scalar.muli v62 c512_i32_40
  let v74 : BitVec 32 := Scalar.addi v15 v73
  let v75 : BitVec 32 := v74
  let arg1 : BitVec 32 := BitVec.ofNat 32 (i 1).val
  let c512_i32 : BitVec 32 := 512#32
  let v12 : BitVec 32 := Scalar.muli arg1 c512_i32
  let v13 : BitVec 32 := v12
  ![v75.toNat, v13.toNat]
def k0_off39 (v17 : BitVec 32) : Fin 3 → Nat :=
  let c2_i32_34 : BitVec 32 := 2#32
  let c0_i32_35 : BitVec 32 := 0#32
  let v63 : BitVec 1 := Scalar.cmpi .eq c2_i32_34 c0_i32_35
  let c1_i32_36 : BitVec 32 := 1#32
  let v64 : BitVec 32 := Scalar.select v63 c1_i32_36 c2_i32_34
  let v65 : BitVec 32 := Scalar.remsi v17 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let c0_i32_41 : BitVec 32 := 0#32
  let c0_i32_42 : BitVec 32 := 0#32
  ![v72.toNat, 0, 0]
def k0_mult16 (v15 : BitVec 32) (v17 : BitVec 32) : BitVec 32 :=
  let c1_i32_33 : BitVec 32 := 1#32
  let v62 : BitVec 32 := Scalar.subi v17 c1_i32_33
  let c512_i32_41 : BitVec 32 := 512#32
  let v74 : BitVec 32 := Scalar.muli v62 c512_i32_41
  let v75 : BitVec 32 := Scalar.addi v15 v74
  v75
def k0_cond11 (v17 : BitVec 32) : BitVec 1 :=
  let c1_i32_29 : BitVec 32 := 1#32
  let v56 : BitVec 1 := Scalar.cmpi .sge v17 c1_i32_29
  let v57 : BitVec 32 := Scalar.extui v56
  let c0_i32_30 : BitVec 32 := 0#32
  let v58 : BitVec 1 := Scalar.cmpi .ne v57 c0_i32_30
  v58

def k0_off40 (v17 : BitVec 32) : Fin 1 → Nat :=
  let c1_i32_34 : BitVec 32 := 1#32
  let v63 : BitVec 32 := Scalar.subi v17 c1_i32_34
  let c2_i32_35 : BitVec 32 := 2#32
  let c0_i32_36 : BitVec 32 := 0#32
  let v64 : BitVec 1 := Scalar.cmpi .eq c2_i32_35 c0_i32_36
  let c1_i32_37 : BitVec 32 := 1#32
  let v65 : BitVec 32 := Scalar.select v64 c1_i32_37 c2_i32_35
  let v66 : BitVec 32 := Scalar.remsi v63 v65
  let c0_i32_39 : BitVec 32 := 0#32
  let v68 : BitVec 1 := Scalar.cmpi .slt v66 c0_i32_39
  let c0_i32_40 : BitVec 32 := 0#32
  let v69 : BitVec 1 := Scalar.cmpi .slt v65 c0_i32_40
  let v70 : BitVec 1 := Scalar.xori v68 v69
  let c0_i32_38 : BitVec 32 := 0#32
  let v67 : BitVec 1 := Scalar.cmpi .ne v66 c0_i32_38
  let v71 : BitVec 1 := Scalar.andi v70 v67
  let v72 : BitVec 32 := Scalar.addi v66 v65
  let v73 : BitVec 32 := Scalar.select v71 v72 v66
  ![v73.toNat]
def k0_off41 (i : grid0.Coords) (v15 : BitVec 32) (v17 : BitVec 32) : Fin 2 → Nat :=
  let c1_i32_33 : BitVec 32 := 1#32
  let v62 : BitVec 32 := Scalar.subi v17 c1_i32_33
  let c512_i32_41 : BitVec 32 := 512#32
  let v74 : BitVec 32 := Scalar.muli v62 c512_i32_41
  let v75 : BitVec 32 := Scalar.addi v15 v74
  let v76 : BitVec 32 := v75
  let arg1 : BitVec 32 := BitVec.ofNat 32 (i 1).val
  let c512_i32 : BitVec 32 := 512#32
  let v12 : BitVec 32 := Scalar.muli arg1 c512_i32
  let v13 : BitVec 32 := v12
  ![v76.toNat, v13.toNat]
def k0_off42 (v17 : BitVec 32) : Fin 3 → Nat :=
  let c1_i32_34 : BitVec 32 := 1#32
  let v63 : BitVec 32 := Scalar.subi v17 c1_i32_34
  let c2_i32_35 : BitVec 32 := 2#32
  let c0_i32_36 : BitVec 32 := 0#32
  let v64 : BitVec 1 := Scalar.cmpi .eq c2_i32_35 c0_i32_36
  let c1_i32_37 : BitVec 32 := 1#32
  let v65 : BitVec 32 := Scalar.select v64 c1_i32_37 c2_i32_35
  let v66 : BitVec 32 := Scalar.remsi v63 v65
  let c0_i32_39 : BitVec 32 := 0#32
  let v68 : BitVec 1 := Scalar.cmpi .slt v66 c0_i32_39
  let c0_i32_40 : BitVec 32 := 0#32
  let v69 : BitVec 1 := Scalar.cmpi .slt v65 c0_i32_40
  let v70 : BitVec 1 := Scalar.xori v68 v69
  let c0_i32_38 : BitVec 32 := 0#32
  let v67 : BitVec 1 := Scalar.cmpi .ne v66 c0_i32_38
  let v71 : BitVec 1 := Scalar.andi v70 v67
  let v72 : BitVec 32 := Scalar.addi v66 v65
  let v73 : BitVec 32 := Scalar.select v71 v72 v66
  let c0_i32_42 : BitVec 32 := 0#32
  let c0_i32_43 : BitVec 32 := 0#32
  ![v73.toNat, 0, 0]

def k0_chk1_0 (i : grid0.Coords) (v15 : BitVec 32) (v17 : BitVec 32) : Prop :=
  (∀ (k0_h1 : k0_cond1 i v17 = 1#1), 16 ∣ (k0_mult2 v15).toNat) ∧
  (∀ (k0_h1 : k0_cond1 i v17 = 1#1), ∀ a, (k0_off2 v15) a + S512x2048.size a ≤ S18432x2048.size a) ∧
  (∀ (k0_h1 : k0_cond1 i v17 = 1#1), ∀ (hinb : ∀ a, (k0_off2 v15) a + S512x2048.size a ≤ S18432x2048.size a), (Rect.unit (s := S18432x2048) (k0_off2 v15) S512x2048.size hinb).WholeWords (EltTy.packing .bf16)) ∧
  (∀ (k0_h2 : k0_cond2 v17 = 1#1), 16 ∣ (k0_mult3 v15).toNat) ∧
  (∀ (k0_h2 : k0_cond2 v17 = 1#1), ∀ a, (k0_off3 v15) a + S512x2048.size a ≤ S18432x2048.size a) ∧
  (∀ (k0_h2 : k0_cond2 v17 = 1#1), ∀ (hinb : ∀ a, (k0_off3 v15) a + S512x2048.size a ≤ S18432x2048.size a), (Rect.unit (s := S18432x2048) (k0_off3 v15) S512x2048.size hinb).WholeWords (EltTy.packing .bf16)) ∧
  (∀ (k0_h3 : k0_cond3 v17 = 1#1), 16 ∣ (k0_mult4 v15).toNat) ∧
  (∀ (k0_h3 : k0_cond3 v17 = 1#1), ∀ a, (k0_off4 v15) a + S512x2048.size a ≤ S18432x2048.size a) ∧
  (∀ (k0_h3 : k0_cond3 v17 = 1#1), ∀ (hinb : ∀ a, (k0_off4 v15) a + S512x2048.size a ≤ S18432x2048.size a), (Rect.unit (s := S18432x2048) (k0_off4 v15) S512x2048.size hinb).WholeWords (EltTy.packing .bf16)) ∧
  (∀ (k0_h4 : k0_cond4 v17 = 1#1), 16 ∣ (k0_mult5 v15).toNat) ∧
  (∀ (k0_h4 : k0_cond4 v17 = 1#1), ∀ a, (k0_off5 v15) a + S512x2048.size a ≤ S18432x2048.size a) ∧
  (∀ (k0_h4 : k0_cond4 v17 = 1#1), ∀ (hinb : ∀ a, (k0_off5 v15) a + S512x2048.size a ≤ S18432x2048.size a), (Rect.unit (s := S18432x2048) (k0_off5 v15) S512x2048.size hinb).WholeWords (EltTy.packing .bf16)) ∧
  ((k0_t1_loop v17).OK) ∧
  (∀ k0_t1 : Fin (k0_t1_loop v17).trips, 16 ∣ (k0_mult6 v15 v17 k0_t1).toNat) ∧
  (∀ k0_t1 : Fin (k0_t1_loop v17).trips, ∀ a, (k0_off6 v17 k0_t1) a + S1.size a ≤ S5.size a) ∧
  (∀ k0_t1 : Fin (k0_t1_loop v17).trips, ∀ a, (k0_off7 v17 k0_t1) a + S1x512x2048.size a ≤ S5x512x2048.size a) ∧
  (∀ k0_t1 : Fin (k0_t1_loop v17).trips, ∀ a, (k0_off8 v15 v17 k0_t1) a + S512x2048.size a ≤ S18432x2048.size a) ∧
  (∀ k0_t1 : Fin (k0_t1_loop v17).trips, ∀ (hinb : ∀ a, (k0_off8 v15 v17 k0_t1) a + S512x2048.size a ≤ S18432x2048.size a), (Rect.unit (s := S18432x2048) (k0_off8 v15 v17 k0_t1) S512x2048.size hinb).WholeWords (EltTy.packing .bf16)) ∧
  (∀ k0_t1 : Fin (k0_t1_loop v17).trips, ∀ (hinb : ∀ a, (k0_off7 v17 k0_t1) a + S1x512x2048.size a ≤ S5x512x2048.size a), (Rect.unit (s := S5x512x2048) (k0_off7 v17 k0_t1) S1x512x2048.size hinb).WholeWords (EltTy.packing .bf16)) ∧
  (∀ k0_t1 : Fin (k0_t1_loop v17).trips, ∀ (k0_h5 : k0_cond5 v17 k0_t1 = 1#1), 16 ∣ (k0_mult7 v15 v17 k0_t1).toNat) ∧
  (∀ k0_t1 : Fin (k0_t1_loop v17).trips, ∀ (k0_h5 : k0_cond5 v17 k0_t1 = 1#1), ∀ a, (k0_off9 v17 k0_t1) a + S1.size a ≤ S5.size a) ∧
  (∀ k0_t1 : Fin (k0_t1_loop v17).trips, ∀ (k0_h5 : k0_cond5 v17 k0_t1 = 1#1), ∀ a, (k0_off10 v17 k0_t1) a + S1x512x2048.size a ≤ S5x512x2048.size a) ∧
  (∀ k0_t1 : Fin (k0_t1_loop v17).trips, ∀ (k0_h5 : k0_cond5 v17 k0_t1 = 1#1), ∀ a, (k0_off11 v15 v17 k0_t1) a + S512x2048.size a ≤ S18432x2048.size a) ∧
  (∀ k0_t1 : Fin (k0_t1_loop v17).trips, ∀ (k0_h5 : k0_cond5 v17 k0_t1 = 1#1), ∀ (hinb : ∀ a, (k0_off11 v15 v17 k0_t1) a + S512x2048.size a ≤ S18432x2048.size a), (Rect.unit (s := S18432x2048) (k0_off11 v15 v17 k0_t1) S512x2048.size hinb).WholeWords (EltTy.packing .bf16)) ∧
  (∀ k0_t1 : Fin (k0_t1_loop v17).trips, ∀ (k0_h5 : k0_cond5 v17 k0_t1 = 1#1), ∀ (hinb : ∀ a, (k0_off10 v17 k0_t1) a + S1x512x2048.size a ≤ S5x512x2048.size a), (Rect.unit (s := S5x512x2048) (k0_off10 v17 k0_t1) S1x512x2048.size hinb).WholeWords (EltTy.packing .bf16)) ∧
  (∀ k0_t1 : Fin (k0_t1_loop v17).trips, ∀ (k0_h6 : k0_cond6 v17 k0_t1 = 1#1), 16 ∣ (k0_mult8 v15 v17 k0_t1).toNat) ∧
  (∀ k0_t1 : Fin (k0_t1_loop v17).trips, ∀ (k0_h6 : k0_cond6 v17 k0_t1 = 1#1), ∀ a, (k0_off12 v17 k0_t1) a + S1.size a ≤ S2.size a) ∧
  (∀ k0_t1 : Fin (k0_t1_loop v17).trips, ∀ (k0_h6 : k0_cond6 v17 k0_t1 = 1#1), ∀ a, (k0_off13 i v15 v17 k0_t1) a + S512x512.size a ≤ S18432x5632.size a) ∧
  (∀ k0_t1 : Fin (k0_t1_loop v17).trips, ∀ (k0_h6 : k0_cond6 v17 k0_t1 = 1#1), ∀ a, (k0_off14 v17 k0_t1) a + S1x512x512.size a ≤ S2x512x512.size a) ∧
  (∀ k0_t1 : Fin (k0_t1_loop v17).trips, ∀ (k0_h6 : k0_cond6 v17 k0_t1 = 1#1), ∀ (hinb : ∀ a, (k0_off14 v17 k0_t1) a + S1x512x512.size a ≤ S2x512x512.size a), (Rect.unit (s := S2x512x512) (k0_off14 v17 k0_t1) S1x512x512.size hinb).WholeWords (EltTy.packing .bf16)) ∧
  (∀ k0_t1 : Fin (k0_t1_loop v17).trips, ∀ (k0_h6 : k0_cond6 v17 k0_t1 = 1#1), ∀ (hinb : ∀ a, (k0_off13 i v15 v17 k0_t1) a + S512x512.size a ≤ S18432x5632.size a), (Rect.unit (s := S18432x5632) (k0_off13 i v15 v17 k0_t1) S512x512.size hinb).WholeWords (EltTy.packing .bf16)) ∧
  (∀ k0_t1 : Fin (k0_t1_loop v17).trips, ∀ a, (k0_off15 v17 k0_t1) a + S1x512x2048.size a ≤ S5x512x2048.size a)
def k0_chk1_1 (i : grid0.Coords) (v15 : BitVec 32) (v17 : BitVec 32) : Prop :=
  (∀ k0_t1 : Fin (k0_t1_loop v17).trips, ∀ a, (k0_off16 v17 k0_t1) a + S1x512x512.size a ≤ S2x512x512.size a) ∧
  (∀ k0_t1 : Fin (k0_t1_loop v17).trips, ∀ (hinb : ∀ a, (k0_off16 v17 k0_t1) a + S1x512x512.size a ≤ S2x512x512.size a), (Rect.unit (s := S2x512x512) (k0_off16 v17 k0_t1) S1x512x512.size hinb).PackedRows (EltTy.packing .bf16)) ∧
  (∀ k0_t1 : Fin (k0_t1_loop v17).trips, 16 ∣ (k0_mult9 v15 v17 k0_t1).toNat) ∧
  (∀ k0_t1 : Fin (k0_t1_loop v17).trips, ∀ a, (k0_off17 v17 k0_t1) a + S1.size a ≤ S2.size a) ∧
  (∀ k0_t1 : Fin (k0_t1_loop v17).trips, ∀ a, (k0_off18 i v15 v17 k0_t1) a + S512x512.size a ≤ S18432x5632.size a) ∧
  (∀ k0_t1 : Fin (k0_t1_loop v17).trips, ∀ a, (k0_off19 v17 k0_t1) a + S1x512x512.size a ≤ S2x512x512.size a) ∧
  (∀ k0_t1 : Fin (k0_t1_loop v17).trips, ∀ (hinb : ∀ a, (k0_off19 v17 k0_t1) a + S1x512x512.size a ≤ S2x512x512.size a), (Rect.unit (s := S2x512x512) (k0_off19 v17 k0_t1) S1x512x512.size hinb).WholeWords (EltTy.packing .bf16)) ∧
  (∀ k0_t1 : Fin (k0_t1_loop v17).trips, ∀ (hinb : ∀ a, (k0_off18 i v15 v17 k0_t1) a + S512x512.size a ≤ S18432x5632.size a), (Rect.unit (s := S18432x5632) (k0_off18 i v15 v17 k0_t1) S512x512.size hinb).WholeWords (EltTy.packing .bf16)) ∧
  ((k0_t2_loop v17).OK) ∧
  (∀ k0_t2 : Fin (k0_t2_loop v17).trips, 16 ∣ (k0_mult10 v15 v17 k0_t2).toNat) ∧
  (∀ k0_t2 : Fin (k0_t2_loop v17).trips, ∀ a, (k0_off20 v17 k0_t2) a + S1.size a ≤ S5.size a) ∧
  (∀ k0_t2 : Fin (k0_t2_loop v17).trips, ∀ a, (k0_off21 v17 k0_t2) a + S1x512x2048.size a ≤ S5x512x2048.size a) ∧
  (∀ k0_t2 : Fin (k0_t2_loop v17).trips, ∀ a, (k0_off22 v15 v17 k0_t2) a + S512x2048.size a ≤ S18432x2048.size a) ∧
  (∀ k0_t2 : Fin (k0_t2_loop v17).trips, ∀ (hinb : ∀ a, (k0_off22 v15 v17 k0_t2) a + S512x2048.size a ≤ S18432x2048.size a), (Rect.unit (s := S18432x2048) (k0_off22 v15 v17 k0_t2) S512x2048.size hinb).WholeWords (EltTy.packing .bf16)) ∧
  (∀ k0_t2 : Fin (k0_t2_loop v17).trips, ∀ (hinb : ∀ a, (k0_off21 v17 k0_t2) a + S1x512x2048.size a ≤ S5x512x2048.size a), (Rect.unit (s := S5x512x2048) (k0_off21 v17 k0_t2) S1x512x2048.size hinb).WholeWords (EltTy.packing .bf16)) ∧
  (∀ k0_t2 : Fin (k0_t2_loop v17).trips, ∀ (k0_h7 : k0_cond7 v17 k0_t2 = 1#1), 16 ∣ (k0_mult11 v15 v17 k0_t2).toNat) ∧
  (∀ k0_t2 : Fin (k0_t2_loop v17).trips, ∀ (k0_h7 : k0_cond7 v17 k0_t2 = 1#1), ∀ a, (k0_off23 v17 k0_t2) a + S1.size a ≤ S5.size a) ∧
  (∀ k0_t2 : Fin (k0_t2_loop v17).trips, ∀ (k0_h7 : k0_cond7 v17 k0_t2 = 1#1), ∀ a, (k0_off24 v17 k0_t2) a + S1x512x2048.size a ≤ S5x512x2048.size a) ∧
  (∀ k0_t2 : Fin (k0_t2_loop v17).trips, ∀ (k0_h7 : k0_cond7 v17 k0_t2 = 1#1), ∀ a, (k0_off25 v15 v17 k0_t2) a + S512x2048.size a ≤ S18432x2048.size a) ∧
  (∀ k0_t2 : Fin (k0_t2_loop v17).trips, ∀ (k0_h7 : k0_cond7 v17 k0_t2 = 1#1), ∀ (hinb : ∀ a, (k0_off25 v15 v17 k0_t2) a + S512x2048.size a ≤ S18432x2048.size a), (Rect.unit (s := S18432x2048) (k0_off25 v15 v17 k0_t2) S512x2048.size hinb).WholeWords (EltTy.packing .bf16)) ∧
  (∀ k0_t2 : Fin (k0_t2_loop v17).trips, ∀ (k0_h7 : k0_cond7 v17 k0_t2 = 1#1), ∀ (hinb : ∀ a, (k0_off24 v17 k0_t2) a + S1x512x2048.size a ≤ S5x512x2048.size a), (Rect.unit (s := S5x512x2048) (k0_off24 v17 k0_t2) S1x512x2048.size hinb).WholeWords (EltTy.packing .bf16)) ∧
  (∀ k0_t2 : Fin (k0_t2_loop v17).trips, ∀ (k0_h8 : k0_cond8 v17 k0_t2 = 1#1), 16 ∣ (k0_mult12 v15 v17 k0_t2).toNat) ∧
  (∀ k0_t2 : Fin (k0_t2_loop v17).trips, ∀ (k0_h8 : k0_cond8 v17 k0_t2 = 1#1), ∀ a, (k0_off26 v17 k0_t2) a + S1.size a ≤ S2.size a) ∧
  (∀ k0_t2 : Fin (k0_t2_loop v17).trips, ∀ (k0_h8 : k0_cond8 v17 k0_t2 = 1#1), ∀ a, (k0_off27 i v15 v17 k0_t2) a + S512x512.size a ≤ S18432x5632.size a) ∧
  (∀ k0_t2 : Fin (k0_t2_loop v17).trips, ∀ (k0_h8 : k0_cond8 v17 k0_t2 = 1#1), ∀ a, (k0_off28 v17 k0_t2) a + S1x512x512.size a ≤ S2x512x512.size a) ∧
  (∀ k0_t2 : Fin (k0_t2_loop v17).trips, ∀ (k0_h8 : k0_cond8 v17 k0_t2 = 1#1), ∀ (hinb : ∀ a, (k0_off28 v17 k0_t2) a + S1x512x512.size a ≤ S2x512x512.size a), (Rect.unit (s := S2x512x512) (k0_off28 v17 k0_t2) S1x512x512.size hinb).WholeWords (EltTy.packing .bf16)) ∧
  (∀ k0_t2 : Fin (k0_t2_loop v17).trips, ∀ (k0_h8 : k0_cond8 v17 k0_t2 = 1#1), ∀ (hinb : ∀ a, (k0_off27 i v15 v17 k0_t2) a + S512x512.size a ≤ S18432x5632.size a), (Rect.unit (s := S18432x5632) (k0_off27 i v15 v17 k0_t2) S512x512.size hinb).WholeWords (EltTy.packing .bf16)) ∧
  (∀ k0_t2 : Fin (k0_t2_loop v17).trips, ∀ a, (k0_off29 v17 k0_t2) a + S1x512x2048.size a ≤ S5x512x2048.size a) ∧
  (∀ k0_t2 : Fin (k0_t2_loop v17).trips, ∀ a, (k0_off30 v17 k0_t2) a + S1x512x512.size a ≤ S2x512x512.size a) ∧
  (∀ k0_t2 : Fin (k0_t2_loop v17).trips, ∀ (hinb : ∀ a, (k0_off30 v17 k0_t2) a + S1x512x512.size a ≤ S2x512x512.size a), (Rect.unit (s := S2x512x512) (k0_off30 v17 k0_t2) S1x512x512.size hinb).PackedRows (EltTy.packing .bf16)) ∧
  (∀ k0_t2 : Fin (k0_t2_loop v17).trips, 16 ∣ (k0_mult13 v15 v17 k0_t2).toNat) ∧
  (∀ k0_t2 : Fin (k0_t2_loop v17).trips, ∀ a, (k0_off31 v17 k0_t2) a + S1.size a ≤ S2.size a)
def k0_chk1_2 (i : grid0.Coords) (v15 : BitVec 32) (v17 : BitVec 32) : Prop :=
  (∀ k0_t2 : Fin (k0_t2_loop v17).trips, ∀ a, (k0_off32 i v15 v17 k0_t2) a + S512x512.size a ≤ S18432x5632.size a) ∧
  (∀ k0_t2 : Fin (k0_t2_loop v17).trips, ∀ a, (k0_off33 v17 k0_t2) a + S1x512x512.size a ≤ S2x512x512.size a) ∧
  (∀ k0_t2 : Fin (k0_t2_loop v17).trips, ∀ (hinb : ∀ a, (k0_off33 v17 k0_t2) a + S1x512x512.size a ≤ S2x512x512.size a), (Rect.unit (s := S2x512x512) (k0_off33 v17 k0_t2) S1x512x512.size hinb).WholeWords (EltTy.packing .bf16)) ∧
  (∀ k0_t2 : Fin (k0_t2_loop v17).trips, ∀ (hinb : ∀ a, (k0_off32 i v15 v17 k0_t2) a + S512x512.size a ≤ S18432x5632.size a), (Rect.unit (s := S18432x5632) (k0_off32 i v15 v17 k0_t2) S512x512.size hinb).WholeWords (EltTy.packing .bf16)) ∧
  (∀ (k0_h10 : k0_cond10 v17 = 1#1), 16 ∣ (k0_mult15 v15 v17).toNat) ∧
  (∀ (k0_h10 : k0_cond10 v17 = 1#1), ∀ a, (k0_off37 v17) a + S1.size a ≤ S2.size a) ∧
  (∀ (k0_h10 : k0_cond10 v17 = 1#1), ∀ a, (k0_off38 i v15 v17) a + S512x512.size a ≤ S18432x5632.size a) ∧
  (∀ (k0_h10 : k0_cond10 v17 = 1#1), ∀ a, (k0_off39 v17) a + S1x512x512.size a ≤ S2x512x512.size a) ∧
  (∀ (k0_h10 : k0_cond10 v17 = 1#1), ∀ (hinb : ∀ a, (k0_off39 v17) a + S1x512x512.size a ≤ S2x512x512.size a), (Rect.unit (s := S2x512x512) (k0_off39 v17) S1x512x512.size hinb).WholeWords (EltTy.packing .bf16)) ∧
  (∀ (k0_h10 : k0_cond10 v17 = 1#1), ∀ (hinb : ∀ a, (k0_off38 i v15 v17) a + S512x512.size a ≤ S18432x5632.size a), (Rect.unit (s := S18432x5632) (k0_off38 i v15 v17) S512x512.size hinb).WholeWords (EltTy.packing .bf16)) ∧
  (∀ (k0_h11 : k0_cond11 v17 = 1#1), 16 ∣ (k0_mult16 v15 v17).toNat) ∧
  (∀ (k0_h11 : k0_cond11 v17 = 1#1), ∀ a, (k0_off40 v17) a + S1.size a ≤ S2.size a) ∧
  (∀ (k0_h11 : k0_cond11 v17 = 1#1), ∀ a, (k0_off41 i v15 v17) a + S512x512.size a ≤ S18432x5632.size a) ∧
  (∀ (k0_h11 : k0_cond11 v17 = 1#1), ∀ a, (k0_off42 v17) a + S1x512x512.size a ≤ S2x512x512.size a) ∧
  (∀ (k0_h11 : k0_cond11 v17 = 1#1), ∀ (hinb : ∀ a, (k0_off42 v17) a + S1x512x512.size a ≤ S2x512x512.size a), (Rect.unit (s := S2x512x512) (k0_off42 v17) S1x512x512.size hinb).WholeWords (EltTy.packing .bf16)) ∧
  (∀ (k0_h11 : k0_cond11 v17 = 1#1), ∀ (hinb : ∀ a, (k0_off41 i v15 v17) a + S512x512.size a ≤ S18432x5632.size a), (Rect.unit (s := S18432x5632) (k0_off41 i v15 v17) S512x512.size hinb).WholeWords (EltTy.packing .bf16))
def k0_chk1 (i : grid0.Coords) (v15 : BitVec 32) (v17 : BitVec 32) : Prop :=
  k0_chk1_0 i v15 v17 ∧
  k0_chk1_1 i v15 v17 ∧
  k0_chk1_2 i v15 v17
theorem k0_mult2_dvd : ∀ (i : grid0.Coords) (v15 : BitVec 32) (v17 : BitVec 32) (k0_hw1 : k0_chk1 i v15 v17), ∀ (k0_h1 : k0_cond1 i v17 = 1#1), 16 ∣ (k0_mult2 v15).toNat := fun i v15 v17 k0_hw1 k0_h1 => k0_hw1.1.1 k0_h1
theorem k0_off2_inb : ∀ (i : grid0.Coords) (v15 : BitVec 32) (v17 : BitVec 32) (k0_hw1 : k0_chk1 i v15 v17), ∀ (k0_h1 : k0_cond1 i v17 = 1#1), ∀ a, (k0_off2 v15) a + S512x2048.size a ≤ S18432x2048.size a := fun i v15 v17 k0_hw1 k0_h1 => k0_hw1.1.2.1 k0_h1
theorem k0_off2_wordsbf16 : ∀ (i : grid0.Coords) (v15 : BitVec 32) (v17 : BitVec 32) (k0_hw1 : k0_chk1 i v15 v17), ∀ (k0_h1 : k0_cond1 i v17 = 1#1), (Rect.unit (s := S18432x2048) (k0_off2 v15) S512x2048.size (k0_off2_inb i v15 v17 k0_hw1 k0_h1)).WholeWords (EltTy.packing .bf16) := fun i v15 v17 k0_hw1 k0_h1 => k0_hw1.1.2.2.1 k0_h1 (k0_off2_inb i v15 v17 k0_hw1 k0_h1)
theorem k0_mult3_dvd : ∀ (i : grid0.Coords) (v15 : BitVec 32) (v17 : BitVec 32) (k0_hw1 : k0_chk1 i v15 v17), ∀ (k0_h2 : k0_cond2 v17 = 1#1), 16 ∣ (k0_mult3 v15).toNat := fun i v15 v17 k0_hw1 k0_h2 => k0_hw1.1.2.2.2.1 k0_h2
theorem k0_off3_inb : ∀ (i : grid0.Coords) (v15 : BitVec 32) (v17 : BitVec 32) (k0_hw1 : k0_chk1 i v15 v17), ∀ (k0_h2 : k0_cond2 v17 = 1#1), ∀ a, (k0_off3 v15) a + S512x2048.size a ≤ S18432x2048.size a := fun i v15 v17 k0_hw1 k0_h2 => k0_hw1.1.2.2.2.2.1 k0_h2
theorem k0_off3_wordsbf16 : ∀ (i : grid0.Coords) (v15 : BitVec 32) (v17 : BitVec 32) (k0_hw1 : k0_chk1 i v15 v17), ∀ (k0_h2 : k0_cond2 v17 = 1#1), (Rect.unit (s := S18432x2048) (k0_off3 v15) S512x2048.size (k0_off3_inb i v15 v17 k0_hw1 k0_h2)).WholeWords (EltTy.packing .bf16) := fun i v15 v17 k0_hw1 k0_h2 => k0_hw1.1.2.2.2.2.2.1 k0_h2 (k0_off3_inb i v15 v17 k0_hw1 k0_h2)
theorem k0_mult4_dvd : ∀ (i : grid0.Coords) (v15 : BitVec 32) (v17 : BitVec 32) (k0_hw1 : k0_chk1 i v15 v17), ∀ (k0_h3 : k0_cond3 v17 = 1#1), 16 ∣ (k0_mult4 v15).toNat := fun i v15 v17 k0_hw1 k0_h3 => k0_hw1.1.2.2.2.2.2.2.1 k0_h3
theorem k0_off4_inb : ∀ (i : grid0.Coords) (v15 : BitVec 32) (v17 : BitVec 32) (k0_hw1 : k0_chk1 i v15 v17), ∀ (k0_h3 : k0_cond3 v17 = 1#1), ∀ a, (k0_off4 v15) a + S512x2048.size a ≤ S18432x2048.size a := fun i v15 v17 k0_hw1 k0_h3 => k0_hw1.1.2.2.2.2.2.2.2.1 k0_h3
theorem k0_off4_wordsbf16 : ∀ (i : grid0.Coords) (v15 : BitVec 32) (v17 : BitVec 32) (k0_hw1 : k0_chk1 i v15 v17), ∀ (k0_h3 : k0_cond3 v17 = 1#1), (Rect.unit (s := S18432x2048) (k0_off4 v15) S512x2048.size (k0_off4_inb i v15 v17 k0_hw1 k0_h3)).WholeWords (EltTy.packing .bf16) := fun i v15 v17 k0_hw1 k0_h3 => k0_hw1.1.2.2.2.2.2.2.2.2.1 k0_h3 (k0_off4_inb i v15 v17 k0_hw1 k0_h3)
theorem k0_mult5_dvd : ∀ (i : grid0.Coords) (v15 : BitVec 32) (v17 : BitVec 32) (k0_hw1 : k0_chk1 i v15 v17), ∀ (k0_h4 : k0_cond4 v17 = 1#1), 16 ∣ (k0_mult5 v15).toNat := fun i v15 v17 k0_hw1 k0_h4 => k0_hw1.1.2.2.2.2.2.2.2.2.2.1 k0_h4
theorem k0_off5_inb : ∀ (i : grid0.Coords) (v15 : BitVec 32) (v17 : BitVec 32) (k0_hw1 : k0_chk1 i v15 v17), ∀ (k0_h4 : k0_cond4 v17 = 1#1), ∀ a, (k0_off5 v15) a + S512x2048.size a ≤ S18432x2048.size a := fun i v15 v17 k0_hw1 k0_h4 => k0_hw1.1.2.2.2.2.2.2.2.2.2.2.1 k0_h4
theorem k0_off5_wordsbf16 : ∀ (i : grid0.Coords) (v15 : BitVec 32) (v17 : BitVec 32) (k0_hw1 : k0_chk1 i v15 v17), ∀ (k0_h4 : k0_cond4 v17 = 1#1), (Rect.unit (s := S18432x2048) (k0_off5 v15) S512x2048.size (k0_off5_inb i v15 v17 k0_hw1 k0_h4)).WholeWords (EltTy.packing .bf16) := fun i v15 v17 k0_hw1 k0_h4 => k0_hw1.1.2.2.2.2.2.2.2.2.2.2.2.1 k0_h4 (k0_off5_inb i v15 v17 k0_hw1 k0_h4)
theorem k0_t1_ok : ∀ (i : grid0.Coords) (v15 : BitVec 32) (v17 : BitVec 32) (k0_hw1 : k0_chk1 i v15 v17), (k0_t1_loop v17).OK := fun i v15 v17 k0_hw1 => k0_hw1.1.2.2.2.2.2.2.2.2.2.2.2.2.1
theorem k0_mult6_dvd : ∀ (i : grid0.Coords) (v15 : BitVec 32) (v17 : BitVec 32) (k0_hw1 : k0_chk1 i v15 v17) (k0_t1 : Fin (k0_t1_loop v17).trips), 16 ∣ (k0_mult6 v15 v17 k0_t1).toNat := fun i v15 v17 k0_hw1 k0_t1 => k0_hw1.1.2.2.2.2.2.2.2.2.2.2.2.2.2.1 k0_t1
theorem k0_off6_inb : ∀ (i : grid0.Coords) (v15 : BitVec 32) (v17 : BitVec 32) (k0_hw1 : k0_chk1 i v15 v17) (k0_t1 : Fin (k0_t1_loop v17).trips), ∀ a, (k0_off6 v17 k0_t1) a + S1.size a ≤ S5.size a := fun i v15 v17 k0_hw1 k0_t1 => k0_hw1.1.2.2.2.2.2.2.2.2.2.2.2.2.2.2.1 k0_t1
theorem k0_off7_inb : ∀ (i : grid0.Coords) (v15 : BitVec 32) (v17 : BitVec 32) (k0_hw1 : k0_chk1 i v15 v17) (k0_t1 : Fin (k0_t1_loop v17).trips), ∀ a, (k0_off7 v17 k0_t1) a + S1x512x2048.size a ≤ S5x512x2048.size a := fun i v15 v17 k0_hw1 k0_t1 => k0_hw1.1.2.2.2.2.2.2.2.2.2.2.2.2.2.2.2.1 k0_t1
theorem k0_off8_inb : ∀ (i : grid0.Coords) (v15 : BitVec 32) (v17 : BitVec 32) (k0_hw1 : k0_chk1 i v15 v17) (k0_t1 : Fin (k0_t1_loop v17).trips), ∀ a, (k0_off8 v15 v17 k0_t1) a + S512x2048.size a ≤ S18432x2048.size a := fun i v15 v17 k0_hw1 k0_t1 => k0_hw1.1.2.2.2.2.2.2.2.2.2.2.2.2.2.2.2.2.1 k0_t1
theorem k0_off8_wordsbf16 : ∀ (i : grid0.Coords) (v15 : BitVec 32) (v17 : BitVec 32) (k0_hw1 : k0_chk1 i v15 v17) (k0_t1 : Fin (k0_t1_loop v17).trips), (Rect.unit (s := S18432x2048) (k0_off8 v15 v17 k0_t1) S512x2048.size (k0_off8_inb i v15 v17 k0_hw1 k0_t1)).WholeWords (EltTy.packing .bf16) := fun i v15 v17 k0_hw1 k0_t1 => k0_hw1.1.2.2.2.2.2.2.2.2.2.2.2.2.2.2.2.2.2.1 k0_t1 (k0_off8_inb i v15 v17 k0_hw1 k0_t1)
theorem k0_off7_wordsbf16 : ∀ (i : grid0.Coords) (v15 : BitVec 32) (v17 : BitVec 32) (k0_hw1 : k0_chk1 i v15 v17) (k0_t1 : Fin (k0_t1_loop v17).trips), (Rect.unit (s := S5x512x2048) (k0_off7 v17 k0_t1) S1x512x2048.size (k0_off7_inb i v15 v17 k0_hw1 k0_t1)).WholeWords (EltTy.packing .bf16) := fun i v15 v17 k0_hw1 k0_t1 => k0_hw1.1.2.2.2.2.2.2.2.2.2.2.2.2.2.2.2.2.2.2.1 k0_t1 (k0_off7_inb i v15 v17 k0_hw1 k0_t1)
theorem k0_mult7_dvd : ∀ (i : grid0.Coords) (v15 : BitVec 32) (v17 : BitVec 32) (k0_hw1 : k0_chk1 i v15 v17) (k0_t1 : Fin (k0_t1_loop v17).trips), ∀ (k0_h5 : k0_cond5 v17 k0_t1 = 1#1), 16 ∣ (k0_mult7 v15 v17 k0_t1).toNat := fun i v15 v17 k0_hw1 k0_t1 k0_h5 => k0_hw1.1.2.2.2.2.2.2.2.2.2.2.2.2.2.2.2.2.2.2.2.1 k0_t1 k0_h5
theorem k0_off9_inb : ∀ (i : grid0.Coords) (v15 : BitVec 32) (v17 : BitVec 32) (k0_hw1 : k0_chk1 i v15 v17) (k0_t1 : Fin (k0_t1_loop v17).trips), ∀ (k0_h5 : k0_cond5 v17 k0_t1 = 1#1), ∀ a, (k0_off9 v17 k0_t1) a + S1.size a ≤ S5.size a := fun i v15 v17 k0_hw1 k0_t1 k0_h5 => k0_hw1.1.2.2.2.2.2.2.2.2.2.2.2.2.2.2.2.2.2.2.2.2.1 k0_t1 k0_h5
theorem k0_off10_inb : ∀ (i : grid0.Coords) (v15 : BitVec 32) (v17 : BitVec 32) (k0_hw1 : k0_chk1 i v15 v17) (k0_t1 : Fin (k0_t1_loop v17).trips), ∀ (k0_h5 : k0_cond5 v17 k0_t1 = 1#1), ∀ a, (k0_off10 v17 k0_t1) a + S1x512x2048.size a ≤ S5x512x2048.size a := fun i v15 v17 k0_hw1 k0_t1 k0_h5 => k0_hw1.1.2.2.2.2.2.2.2.2.2.2.2.2.2.2.2.2.2.2.2.2.2.1 k0_t1 k0_h5
theorem k0_off11_inb : ∀ (i : grid0.Coords) (v15 : BitVec 32) (v17 : BitVec 32) (k0_hw1 : k0_chk1 i v15 v17) (k0_t1 : Fin (k0_t1_loop v17).trips), ∀ (k0_h5 : k0_cond5 v17 k0_t1 = 1#1), ∀ a, (k0_off11 v15 v17 k0_t1) a + S512x2048.size a ≤ S18432x2048.size a := fun i v15 v17 k0_hw1 k0_t1 k0_h5 => k0_hw1.1.2.2.2.2.2.2.2.2.2.2.2.2.2.2.2.2.2.2.2.2.2.2.1 k0_t1 k0_h5
theorem k0_off11_wordsbf16 : ∀ (i : grid0.Coords) (v15 : BitVec 32) (v17 : BitVec 32) (k0_hw1 : k0_chk1 i v15 v17) (k0_t1 : Fin (k0_t1_loop v17).trips), ∀ (k0_h5 : k0_cond5 v17 k0_t1 = 1#1), (Rect.unit (s := S18432x2048) (k0_off11 v15 v17 k0_t1) S512x2048.size (k0_off11_inb i v15 v17 k0_hw1 k0_t1 k0_h5)).WholeWords (EltTy.packing .bf16) := fun i v15 v17 k0_hw1 k0_t1 k0_h5 => k0_hw1.1.2.2.2.2.2.2.2.2.2.2.2.2.2.2.2.2.2.2.2.2.2.2.2.1 k0_t1 k0_h5 (k0_off11_inb i v15 v17 k0_hw1 k0_t1 k0_h5)
theorem k0_off10_wordsbf16 : ∀ (i : grid0.Coords) (v15 : BitVec 32) (v17 : BitVec 32) (k0_hw1 : k0_chk1 i v15 v17) (k0_t1 : Fin (k0_t1_loop v17).trips), ∀ (k0_h5 : k0_cond5 v17 k0_t1 = 1#1), (Rect.unit (s := S5x512x2048) (k0_off10 v17 k0_t1) S1x512x2048.size (k0_off10_inb i v15 v17 k0_hw1 k0_t1 k0_h5)).WholeWords (EltTy.packing .bf16) := fun i v15 v17 k0_hw1 k0_t1 k0_h5 => k0_hw1.1.2.2.2.2.2.2.2.2.2.2.2.2.2.2.2.2.2.2.2.2.2.2.2.2.1 k0_t1 k0_h5 (k0_off10_inb i v15 v17 k0_hw1 k0_t1 k0_h5)
theorem k0_mult8_dvd : ∀ (i : grid0.Coords) (v15 : BitVec 32) (v17 : BitVec 32) (k0_hw1 : k0_chk1 i v15 v17) (k0_t1 : Fin (k0_t1_loop v17).trips), ∀ (k0_h6 : k0_cond6 v17 k0_t1 = 1#1), 16 ∣ (k0_mult8 v15 v17 k0_t1).toNat := fun i v15 v17 k0_hw1 k0_t1 k0_h6 => k0_hw1.1.2.2.2.2.2.2.2.2.2.2.2.2.2.2.2.2.2.2.2.2.2.2.2.2.2.1 k0_t1 k0_h6
theorem k0_off12_inb : ∀ (i : grid0.Coords) (v15 : BitVec 32) (v17 : BitVec 32) (k0_hw1 : k0_chk1 i v15 v17) (k0_t1 : Fin (k0_t1_loop v17).trips), ∀ (k0_h6 : k0_cond6 v17 k0_t1 = 1#1), ∀ a, (k0_off12 v17 k0_t1) a + S1.size a ≤ S2.size a := fun i v15 v17 k0_hw1 k0_t1 k0_h6 => k0_hw1.1.2.2.2.2.2.2.2.2.2.2.2.2.2.2.2.2.2.2.2.2.2.2.2.2.2.2.1 k0_t1 k0_h6
theorem k0_off13_inb : ∀ (i : grid0.Coords) (v15 : BitVec 32) (v17 : BitVec 32) (k0_hw1 : k0_chk1 i v15 v17) (k0_t1 : Fin (k0_t1_loop v17).trips), ∀ (k0_h6 : k0_cond6 v17 k0_t1 = 1#1), ∀ a, (k0_off13 i v15 v17 k0_t1) a + S512x512.size a ≤ S18432x5632.size a := fun i v15 v17 k0_hw1 k0_t1 k0_h6 => k0_hw1.1.2.2.2.2.2.2.2.2.2.2.2.2.2.2.2.2.2.2.2.2.2.2.2.2.2.2.2.1 k0_t1 k0_h6
theorem k0_off14_inb : ∀ (i : grid0.Coords) (v15 : BitVec 32) (v17 : BitVec 32) (k0_hw1 : k0_chk1 i v15 v17) (k0_t1 : Fin (k0_t1_loop v17).trips), ∀ (k0_h6 : k0_cond6 v17 k0_t1 = 1#1), ∀ a, (k0_off14 v17 k0_t1) a + S1x512x512.size a ≤ S2x512x512.size a := fun i v15 v17 k0_hw1 k0_t1 k0_h6 => k0_hw1.1.2.2.2.2.2.2.2.2.2.2.2.2.2.2.2.2.2.2.2.2.2.2.2.2.2.2.2.2.1 k0_t1 k0_h6
theorem k0_off14_wordsbf16 : ∀ (i : grid0.Coords) (v15 : BitVec 32) (v17 : BitVec 32) (k0_hw1 : k0_chk1 i v15 v17) (k0_t1 : Fin (k0_t1_loop v17).trips), ∀ (k0_h6 : k0_cond6 v17 k0_t1 = 1#1), (Rect.unit (s := S2x512x512) (k0_off14 v17 k0_t1) S1x512x512.size (k0_off14_inb i v15 v17 k0_hw1 k0_t1 k0_h6)).WholeWords (EltTy.packing .bf16) := fun i v15 v17 k0_hw1 k0_t1 k0_h6 => k0_hw1.1.2.2.2.2.2.2.2.2.2.2.2.2.2.2.2.2.2.2.2.2.2.2.2.2.2.2.2.2.2.1 k0_t1 k0_h6 (k0_off14_inb i v15 v17 k0_hw1 k0_t1 k0_h6)
theorem k0_off13_wordsbf16 : ∀ (i : grid0.Coords) (v15 : BitVec 32) (v17 : BitVec 32) (k0_hw1 : k0_chk1 i v15 v17) (k0_t1 : Fin (k0_t1_loop v17).trips), ∀ (k0_h6 : k0_cond6 v17 k0_t1 = 1#1), (Rect.unit (s := S18432x5632) (k0_off13 i v15 v17 k0_t1) S512x512.size (k0_off13_inb i v15 v17 k0_hw1 k0_t1 k0_h6)).WholeWords (EltTy.packing .bf16) := fun i v15 v17 k0_hw1 k0_t1 k0_h6 => k0_hw1.1.2.2.2.2.2.2.2.2.2.2.2.2.2.2.2.2.2.2.2.2.2.2.2.2.2.2.2.2.2.2.1 k0_t1 k0_h6 (k0_off13_inb i v15 v17 k0_hw1 k0_t1 k0_h6)
theorem k0_off15_inb : ∀ (i : grid0.Coords) (v15 : BitVec 32) (v17 : BitVec 32) (k0_hw1 : k0_chk1 i v15 v17) (k0_t1 : Fin (k0_t1_loop v17).trips), ∀ a, (k0_off15 v17 k0_t1) a + S1x512x2048.size a ≤ S5x512x2048.size a := fun i v15 v17 k0_hw1 k0_t1 => k0_hw1.1.2.2.2.2.2.2.2.2.2.2.2.2.2.2.2.2.2.2.2.2.2.2.2.2.2.2.2.2.2.2.2 k0_t1
theorem k0_off16_inb : ∀ (i : grid0.Coords) (v15 : BitVec 32) (v17 : BitVec 32) (k0_hw1 : k0_chk1 i v15 v17) (k0_t1 : Fin (k0_t1_loop v17).trips), ∀ a, (k0_off16 v17 k0_t1) a + S1x512x512.size a ≤ S2x512x512.size a := fun i v15 v17 k0_hw1 k0_t1 => k0_hw1.2.1.1 k0_t1
theorem k0_off16_packedbf16 : ∀ (i : grid0.Coords) (v15 : BitVec 32) (v17 : BitVec 32) (k0_hw1 : k0_chk1 i v15 v17) (k0_t1 : Fin (k0_t1_loop v17).trips), (Rect.unit (s := S2x512x512) (k0_off16 v17 k0_t1) S1x512x512.size (k0_off16_inb i v15 v17 k0_hw1 k0_t1)).PackedRows (EltTy.packing .bf16) := fun i v15 v17 k0_hw1 k0_t1 => k0_hw1.2.1.2.1 k0_t1 (k0_off16_inb i v15 v17 k0_hw1 k0_t1)
theorem k0_mult9_dvd : ∀ (i : grid0.Coords) (v15 : BitVec 32) (v17 : BitVec 32) (k0_hw1 : k0_chk1 i v15 v17) (k0_t1 : Fin (k0_t1_loop v17).trips), 16 ∣ (k0_mult9 v15 v17 k0_t1).toNat := fun i v15 v17 k0_hw1 k0_t1 => k0_hw1.2.1.2.2.1 k0_t1
theorem k0_off17_inb : ∀ (i : grid0.Coords) (v15 : BitVec 32) (v17 : BitVec 32) (k0_hw1 : k0_chk1 i v15 v17) (k0_t1 : Fin (k0_t1_loop v17).trips), ∀ a, (k0_off17 v17 k0_t1) a + S1.size a ≤ S2.size a := fun i v15 v17 k0_hw1 k0_t1 => k0_hw1.2.1.2.2.2.1 k0_t1
theorem k0_off18_inb : ∀ (i : grid0.Coords) (v15 : BitVec 32) (v17 : BitVec 32) (k0_hw1 : k0_chk1 i v15 v17) (k0_t1 : Fin (k0_t1_loop v17).trips), ∀ a, (k0_off18 i v15 v17 k0_t1) a + S512x512.size a ≤ S18432x5632.size a := fun i v15 v17 k0_hw1 k0_t1 => k0_hw1.2.1.2.2.2.2.1 k0_t1
theorem k0_off19_inb : ∀ (i : grid0.Coords) (v15 : BitVec 32) (v17 : BitVec 32) (k0_hw1 : k0_chk1 i v15 v17) (k0_t1 : Fin (k0_t1_loop v17).trips), ∀ a, (k0_off19 v17 k0_t1) a + S1x512x512.size a ≤ S2x512x512.size a := fun i v15 v17 k0_hw1 k0_t1 => k0_hw1.2.1.2.2.2.2.2.1 k0_t1
theorem k0_off19_wordsbf16 : ∀ (i : grid0.Coords) (v15 : BitVec 32) (v17 : BitVec 32) (k0_hw1 : k0_chk1 i v15 v17) (k0_t1 : Fin (k0_t1_loop v17).trips), (Rect.unit (s := S2x512x512) (k0_off19 v17 k0_t1) S1x512x512.size (k0_off19_inb i v15 v17 k0_hw1 k0_t1)).WholeWords (EltTy.packing .bf16) := fun i v15 v17 k0_hw1 k0_t1 => k0_hw1.2.1.2.2.2.2.2.2.1 k0_t1 (k0_off19_inb i v15 v17 k0_hw1 k0_t1)
theorem k0_off18_wordsbf16 : ∀ (i : grid0.Coords) (v15 : BitVec 32) (v17 : BitVec 32) (k0_hw1 : k0_chk1 i v15 v17) (k0_t1 : Fin (k0_t1_loop v17).trips), (Rect.unit (s := S18432x5632) (k0_off18 i v15 v17 k0_t1) S512x512.size (k0_off18_inb i v15 v17 k0_hw1 k0_t1)).WholeWords (EltTy.packing .bf16) := fun i v15 v17 k0_hw1 k0_t1 => k0_hw1.2.1.2.2.2.2.2.2.2.1 k0_t1 (k0_off18_inb i v15 v17 k0_hw1 k0_t1)
theorem k0_t2_ok : ∀ (i : grid0.Coords) (v15 : BitVec 32) (v17 : BitVec 32) (k0_hw1 : k0_chk1 i v15 v17), (k0_t2_loop v17).OK := fun i v15 v17 k0_hw1 => k0_hw1.2.1.2.2.2.2.2.2.2.2.1
theorem k0_mult10_dvd : ∀ (i : grid0.Coords) (v15 : BitVec 32) (v17 : BitVec 32) (k0_hw1 : k0_chk1 i v15 v17) (k0_t2 : Fin (k0_t2_loop v17).trips), 16 ∣ (k0_mult10 v15 v17 k0_t2).toNat := fun i v15 v17 k0_hw1 k0_t2 => k0_hw1.2.1.2.2.2.2.2.2.2.2.2.1 k0_t2
theorem k0_off20_inb : ∀ (i : grid0.Coords) (v15 : BitVec 32) (v17 : BitVec 32) (k0_hw1 : k0_chk1 i v15 v17) (k0_t2 : Fin (k0_t2_loop v17).trips), ∀ a, (k0_off20 v17 k0_t2) a + S1.size a ≤ S5.size a := fun i v15 v17 k0_hw1 k0_t2 => k0_hw1.2.1.2.2.2.2.2.2.2.2.2.2.1 k0_t2
theorem k0_off21_inb : ∀ (i : grid0.Coords) (v15 : BitVec 32) (v17 : BitVec 32) (k0_hw1 : k0_chk1 i v15 v17) (k0_t2 : Fin (k0_t2_loop v17).trips), ∀ a, (k0_off21 v17 k0_t2) a + S1x512x2048.size a ≤ S5x512x2048.size a := fun i v15 v17 k0_hw1 k0_t2 => k0_hw1.2.1.2.2.2.2.2.2.2.2.2.2.2.1 k0_t2
theorem k0_off22_inb : ∀ (i : grid0.Coords) (v15 : BitVec 32) (v17 : BitVec 32) (k0_hw1 : k0_chk1 i v15 v17) (k0_t2 : Fin (k0_t2_loop v17).trips), ∀ a, (k0_off22 v15 v17 k0_t2) a + S512x2048.size a ≤ S18432x2048.size a := fun i v15 v17 k0_hw1 k0_t2 => k0_hw1.2.1.2.2.2.2.2.2.2.2.2.2.2.2.1 k0_t2
theorem k0_off22_wordsbf16 : ∀ (i : grid0.Coords) (v15 : BitVec 32) (v17 : BitVec 32) (k0_hw1 : k0_chk1 i v15 v17) (k0_t2 : Fin (k0_t2_loop v17).trips), (Rect.unit (s := S18432x2048) (k0_off22 v15 v17 k0_t2) S512x2048.size (k0_off22_inb i v15 v17 k0_hw1 k0_t2)).WholeWords (EltTy.packing .bf16) := fun i v15 v17 k0_hw1 k0_t2 => k0_hw1.2.1.2.2.2.2.2.2.2.2.2.2.2.2.2.1 k0_t2 (k0_off22_inb i v15 v17 k0_hw1 k0_t2)
theorem k0_off21_wordsbf16 : ∀ (i : grid0.Coords) (v15 : BitVec 32) (v17 : BitVec 32) (k0_hw1 : k0_chk1 i v15 v17) (k0_t2 : Fin (k0_t2_loop v17).trips), (Rect.unit (s := S5x512x2048) (k0_off21 v17 k0_t2) S1x512x2048.size (k0_off21_inb i v15 v17 k0_hw1 k0_t2)).WholeWords (EltTy.packing .bf16) := fun i v15 v17 k0_hw1 k0_t2 => k0_hw1.2.1.2.2.2.2.2.2.2.2.2.2.2.2.2.2.1 k0_t2 (k0_off21_inb i v15 v17 k0_hw1 k0_t2)
theorem k0_mult11_dvd : ∀ (i : grid0.Coords) (v15 : BitVec 32) (v17 : BitVec 32) (k0_hw1 : k0_chk1 i v15 v17) (k0_t2 : Fin (k0_t2_loop v17).trips), ∀ (k0_h7 : k0_cond7 v17 k0_t2 = 1#1), 16 ∣ (k0_mult11 v15 v17 k0_t2).toNat := fun i v15 v17 k0_hw1 k0_t2 k0_h7 => k0_hw1.2.1.2.2.2.2.2.2.2.2.2.2.2.2.2.2.2.1 k0_t2 k0_h7
theorem k0_off23_inb : ∀ (i : grid0.Coords) (v15 : BitVec 32) (v17 : BitVec 32) (k0_hw1 : k0_chk1 i v15 v17) (k0_t2 : Fin (k0_t2_loop v17).trips), ∀ (k0_h7 : k0_cond7 v17 k0_t2 = 1#1), ∀ a, (k0_off23 v17 k0_t2) a + S1.size a ≤ S5.size a := fun i v15 v17 k0_hw1 k0_t2 k0_h7 => k0_hw1.2.1.2.2.2.2.2.2.2.2.2.2.2.2.2.2.2.2.1 k0_t2 k0_h7
theorem k0_off24_inb : ∀ (i : grid0.Coords) (v15 : BitVec 32) (v17 : BitVec 32) (k0_hw1 : k0_chk1 i v15 v17) (k0_t2 : Fin (k0_t2_loop v17).trips), ∀ (k0_h7 : k0_cond7 v17 k0_t2 = 1#1), ∀ a, (k0_off24 v17 k0_t2) a + S1x512x2048.size a ≤ S5x512x2048.size a := fun i v15 v17 k0_hw1 k0_t2 k0_h7 => k0_hw1.2.1.2.2.2.2.2.2.2.2.2.2.2.2.2.2.2.2.2.1 k0_t2 k0_h7
theorem k0_off25_inb : ∀ (i : grid0.Coords) (v15 : BitVec 32) (v17 : BitVec 32) (k0_hw1 : k0_chk1 i v15 v17) (k0_t2 : Fin (k0_t2_loop v17).trips), ∀ (k0_h7 : k0_cond7 v17 k0_t2 = 1#1), ∀ a, (k0_off25 v15 v17 k0_t2) a + S512x2048.size a ≤ S18432x2048.size a := fun i v15 v17 k0_hw1 k0_t2 k0_h7 => k0_hw1.2.1.2.2.2.2.2.2.2.2.2.2.2.2.2.2.2.2.2.2.1 k0_t2 k0_h7
theorem k0_off25_wordsbf16 : ∀ (i : grid0.Coords) (v15 : BitVec 32) (v17 : BitVec 32) (k0_hw1 : k0_chk1 i v15 v17) (k0_t2 : Fin (k0_t2_loop v17).trips), ∀ (k0_h7 : k0_cond7 v17 k0_t2 = 1#1), (Rect.unit (s := S18432x2048) (k0_off25 v15 v17 k0_t2) S512x2048.size (k0_off25_inb i v15 v17 k0_hw1 k0_t2 k0_h7)).WholeWords (EltTy.packing .bf16) := fun i v15 v17 k0_hw1 k0_t2 k0_h7 => k0_hw1.2.1.2.2.2.2.2.2.2.2.2.2.2.2.2.2.2.2.2.2.2.1 k0_t2 k0_h7 (k0_off25_inb i v15 v17 k0_hw1 k0_t2 k0_h7)
theorem k0_off24_wordsbf16 : ∀ (i : grid0.Coords) (v15 : BitVec 32) (v17 : BitVec 32) (k0_hw1 : k0_chk1 i v15 v17) (k0_t2 : Fin (k0_t2_loop v17).trips), ∀ (k0_h7 : k0_cond7 v17 k0_t2 = 1#1), (Rect.unit (s := S5x512x2048) (k0_off24 v17 k0_t2) S1x512x2048.size (k0_off24_inb i v15 v17 k0_hw1 k0_t2 k0_h7)).WholeWords (EltTy.packing .bf16) := fun i v15 v17 k0_hw1 k0_t2 k0_h7 => k0_hw1.2.1.2.2.2.2.2.2.2.2.2.2.2.2.2.2.2.2.2.2.2.2.1 k0_t2 k0_h7 (k0_off24_inb i v15 v17 k0_hw1 k0_t2 k0_h7)
theorem k0_mult12_dvd : ∀ (i : grid0.Coords) (v15 : BitVec 32) (v17 : BitVec 32) (k0_hw1 : k0_chk1 i v15 v17) (k0_t2 : Fin (k0_t2_loop v17).trips), ∀ (k0_h8 : k0_cond8 v17 k0_t2 = 1#1), 16 ∣ (k0_mult12 v15 v17 k0_t2).toNat := fun i v15 v17 k0_hw1 k0_t2 k0_h8 => k0_hw1.2.1.2.2.2.2.2.2.2.2.2.2.2.2.2.2.2.2.2.2.2.2.2.1 k0_t2 k0_h8
theorem k0_off26_inb : ∀ (i : grid0.Coords) (v15 : BitVec 32) (v17 : BitVec 32) (k0_hw1 : k0_chk1 i v15 v17) (k0_t2 : Fin (k0_t2_loop v17).trips), ∀ (k0_h8 : k0_cond8 v17 k0_t2 = 1#1), ∀ a, (k0_off26 v17 k0_t2) a + S1.size a ≤ S2.size a := fun i v15 v17 k0_hw1 k0_t2 k0_h8 => k0_hw1.2.1.2.2.2.2.2.2.2.2.2.2.2.2.2.2.2.2.2.2.2.2.2.2.1 k0_t2 k0_h8
theorem k0_off27_inb : ∀ (i : grid0.Coords) (v15 : BitVec 32) (v17 : BitVec 32) (k0_hw1 : k0_chk1 i v15 v17) (k0_t2 : Fin (k0_t2_loop v17).trips), ∀ (k0_h8 : k0_cond8 v17 k0_t2 = 1#1), ∀ a, (k0_off27 i v15 v17 k0_t2) a + S512x512.size a ≤ S18432x5632.size a := fun i v15 v17 k0_hw1 k0_t2 k0_h8 => k0_hw1.2.1.2.2.2.2.2.2.2.2.2.2.2.2.2.2.2.2.2.2.2.2.2.2.2.1 k0_t2 k0_h8
theorem k0_off28_inb : ∀ (i : grid0.Coords) (v15 : BitVec 32) (v17 : BitVec 32) (k0_hw1 : k0_chk1 i v15 v17) (k0_t2 : Fin (k0_t2_loop v17).trips), ∀ (k0_h8 : k0_cond8 v17 k0_t2 = 1#1), ∀ a, (k0_off28 v17 k0_t2) a + S1x512x512.size a ≤ S2x512x512.size a := fun i v15 v17 k0_hw1 k0_t2 k0_h8 => k0_hw1.2.1.2.2.2.2.2.2.2.2.2.2.2.2.2.2.2.2.2.2.2.2.2.2.2.2.1 k0_t2 k0_h8
theorem k0_off28_wordsbf16 : ∀ (i : grid0.Coords) (v15 : BitVec 32) (v17 : BitVec 32) (k0_hw1 : k0_chk1 i v15 v17) (k0_t2 : Fin (k0_t2_loop v17).trips), ∀ (k0_h8 : k0_cond8 v17 k0_t2 = 1#1), (Rect.unit (s := S2x512x512) (k0_off28 v17 k0_t2) S1x512x512.size (k0_off28_inb i v15 v17 k0_hw1 k0_t2 k0_h8)).WholeWords (EltTy.packing .bf16) := fun i v15 v17 k0_hw1 k0_t2 k0_h8 => k0_hw1.2.1.2.2.2.2.2.2.2.2.2.2.2.2.2.2.2.2.2.2.2.2.2.2.2.2.2.1 k0_t2 k0_h8 (k0_off28_inb i v15 v17 k0_hw1 k0_t2 k0_h8)
theorem k0_off27_wordsbf16 : ∀ (i : grid0.Coords) (v15 : BitVec 32) (v17 : BitVec 32) (k0_hw1 : k0_chk1 i v15 v17) (k0_t2 : Fin (k0_t2_loop v17).trips), ∀ (k0_h8 : k0_cond8 v17 k0_t2 = 1#1), (Rect.unit (s := S18432x5632) (k0_off27 i v15 v17 k0_t2) S512x512.size (k0_off27_inb i v15 v17 k0_hw1 k0_t2 k0_h8)).WholeWords (EltTy.packing .bf16) := fun i v15 v17 k0_hw1 k0_t2 k0_h8 => k0_hw1.2.1.2.2.2.2.2.2.2.2.2.2.2.2.2.2.2.2.2.2.2.2.2.2.2.2.2.2.1 k0_t2 k0_h8 (k0_off27_inb i v15 v17 k0_hw1 k0_t2 k0_h8)
theorem k0_off29_inb : ∀ (i : grid0.Coords) (v15 : BitVec 32) (v17 : BitVec 32) (k0_hw1 : k0_chk1 i v15 v17) (k0_t2 : Fin (k0_t2_loop v17).trips), ∀ a, (k0_off29 v17 k0_t2) a + S1x512x2048.size a ≤ S5x512x2048.size a := fun i v15 v17 k0_hw1 k0_t2 => k0_hw1.2.1.2.2.2.2.2.2.2.2.2.2.2.2.2.2.2.2.2.2.2.2.2.2.2.2.2.2.2.1 k0_t2
theorem k0_off30_inb : ∀ (i : grid0.Coords) (v15 : BitVec 32) (v17 : BitVec 32) (k0_hw1 : k0_chk1 i v15 v17) (k0_t2 : Fin (k0_t2_loop v17).trips), ∀ a, (k0_off30 v17 k0_t2) a + S1x512x512.size a ≤ S2x512x512.size a := fun i v15 v17 k0_hw1 k0_t2 => k0_hw1.2.1.2.2.2.2.2.2.2.2.2.2.2.2.2.2.2.2.2.2.2.2.2.2.2.2.2.2.2.2.1 k0_t2
theorem k0_off30_packedbf16 : ∀ (i : grid0.Coords) (v15 : BitVec 32) (v17 : BitVec 32) (k0_hw1 : k0_chk1 i v15 v17) (k0_t2 : Fin (k0_t2_loop v17).trips), (Rect.unit (s := S2x512x512) (k0_off30 v17 k0_t2) S1x512x512.size (k0_off30_inb i v15 v17 k0_hw1 k0_t2)).PackedRows (EltTy.packing .bf16) := fun i v15 v17 k0_hw1 k0_t2 => k0_hw1.2.1.2.2.2.2.2.2.2.2.2.2.2.2.2.2.2.2.2.2.2.2.2.2.2.2.2.2.2.2.2.1 k0_t2 (k0_off30_inb i v15 v17 k0_hw1 k0_t2)
theorem k0_mult13_dvd : ∀ (i : grid0.Coords) (v15 : BitVec 32) (v17 : BitVec 32) (k0_hw1 : k0_chk1 i v15 v17) (k0_t2 : Fin (k0_t2_loop v17).trips), 16 ∣ (k0_mult13 v15 v17 k0_t2).toNat := fun i v15 v17 k0_hw1 k0_t2 => k0_hw1.2.1.2.2.2.2.2.2.2.2.2.2.2.2.2.2.2.2.2.2.2.2.2.2.2.2.2.2.2.2.2.2.1 k0_t2
theorem k0_off31_inb : ∀ (i : grid0.Coords) (v15 : BitVec 32) (v17 : BitVec 32) (k0_hw1 : k0_chk1 i v15 v17) (k0_t2 : Fin (k0_t2_loop v17).trips), ∀ a, (k0_off31 v17 k0_t2) a + S1.size a ≤ S2.size a := fun i v15 v17 k0_hw1 k0_t2 => k0_hw1.2.1.2.2.2.2.2.2.2.2.2.2.2.2.2.2.2.2.2.2.2.2.2.2.2.2.2.2.2.2.2.2.2 k0_t2
theorem k0_off32_inb : ∀ (i : grid0.Coords) (v15 : BitVec 32) (v17 : BitVec 32) (k0_hw1 : k0_chk1 i v15 v17) (k0_t2 : Fin (k0_t2_loop v17).trips), ∀ a, (k0_off32 i v15 v17 k0_t2) a + S512x512.size a ≤ S18432x5632.size a := fun i v15 v17 k0_hw1 k0_t2 => k0_hw1.2.2.1 k0_t2
theorem k0_off33_inb : ∀ (i : grid0.Coords) (v15 : BitVec 32) (v17 : BitVec 32) (k0_hw1 : k0_chk1 i v15 v17) (k0_t2 : Fin (k0_t2_loop v17).trips), ∀ a, (k0_off33 v17 k0_t2) a + S1x512x512.size a ≤ S2x512x512.size a := fun i v15 v17 k0_hw1 k0_t2 => k0_hw1.2.2.2.1 k0_t2
theorem k0_off33_wordsbf16 : ∀ (i : grid0.Coords) (v15 : BitVec 32) (v17 : BitVec 32) (k0_hw1 : k0_chk1 i v15 v17) (k0_t2 : Fin (k0_t2_loop v17).trips), (Rect.unit (s := S2x512x512) (k0_off33 v17 k0_t2) S1x512x512.size (k0_off33_inb i v15 v17 k0_hw1 k0_t2)).WholeWords (EltTy.packing .bf16) := fun i v15 v17 k0_hw1 k0_t2 => k0_hw1.2.2.2.2.1 k0_t2 (k0_off33_inb i v15 v17 k0_hw1 k0_t2)
theorem k0_off32_wordsbf16 : ∀ (i : grid0.Coords) (v15 : BitVec 32) (v17 : BitVec 32) (k0_hw1 : k0_chk1 i v15 v17) (k0_t2 : Fin (k0_t2_loop v17).trips), (Rect.unit (s := S18432x5632) (k0_off32 i v15 v17 k0_t2) S512x512.size (k0_off32_inb i v15 v17 k0_hw1 k0_t2)).WholeWords (EltTy.packing .bf16) := fun i v15 v17 k0_hw1 k0_t2 => k0_hw1.2.2.2.2.2.1 k0_t2 (k0_off32_inb i v15 v17 k0_hw1 k0_t2)
theorem k0_mult15_dvd : ∀ (i : grid0.Coords) (v15 : BitVec 32) (v17 : BitVec 32) (k0_hw1 : k0_chk1 i v15 v17), ∀ (k0_h10 : k0_cond10 v17 = 1#1), 16 ∣ (k0_mult15 v15 v17).toNat := fun i v15 v17 k0_hw1 k0_h10 => k0_hw1.2.2.2.2.2.2.1 k0_h10
theorem k0_off37_inb : ∀ (i : grid0.Coords) (v15 : BitVec 32) (v17 : BitVec 32) (k0_hw1 : k0_chk1 i v15 v17), ∀ (k0_h10 : k0_cond10 v17 = 1#1), ∀ a, (k0_off37 v17) a + S1.size a ≤ S2.size a := fun i v15 v17 k0_hw1 k0_h10 => k0_hw1.2.2.2.2.2.2.2.1 k0_h10
theorem k0_off38_inb : ∀ (i : grid0.Coords) (v15 : BitVec 32) (v17 : BitVec 32) (k0_hw1 : k0_chk1 i v15 v17), ∀ (k0_h10 : k0_cond10 v17 = 1#1), ∀ a, (k0_off38 i v15 v17) a + S512x512.size a ≤ S18432x5632.size a := fun i v15 v17 k0_hw1 k0_h10 => k0_hw1.2.2.2.2.2.2.2.2.1 k0_h10
theorem k0_off39_inb : ∀ (i : grid0.Coords) (v15 : BitVec 32) (v17 : BitVec 32) (k0_hw1 : k0_chk1 i v15 v17), ∀ (k0_h10 : k0_cond10 v17 = 1#1), ∀ a, (k0_off39 v17) a + S1x512x512.size a ≤ S2x512x512.size a := fun i v15 v17 k0_hw1 k0_h10 => k0_hw1.2.2.2.2.2.2.2.2.2.1 k0_h10
theorem k0_off39_wordsbf16 : ∀ (i : grid0.Coords) (v15 : BitVec 32) (v17 : BitVec 32) (k0_hw1 : k0_chk1 i v15 v17), ∀ (k0_h10 : k0_cond10 v17 = 1#1), (Rect.unit (s := S2x512x512) (k0_off39 v17) S1x512x512.size (k0_off39_inb i v15 v17 k0_hw1 k0_h10)).WholeWords (EltTy.packing .bf16) := fun i v15 v17 k0_hw1 k0_h10 => k0_hw1.2.2.2.2.2.2.2.2.2.2.1 k0_h10 (k0_off39_inb i v15 v17 k0_hw1 k0_h10)
theorem k0_off38_wordsbf16 : ∀ (i : grid0.Coords) (v15 : BitVec 32) (v17 : BitVec 32) (k0_hw1 : k0_chk1 i v15 v17), ∀ (k0_h10 : k0_cond10 v17 = 1#1), (Rect.unit (s := S18432x5632) (k0_off38 i v15 v17) S512x512.size (k0_off38_inb i v15 v17 k0_hw1 k0_h10)).WholeWords (EltTy.packing .bf16) := fun i v15 v17 k0_hw1 k0_h10 => k0_hw1.2.2.2.2.2.2.2.2.2.2.2.1 k0_h10 (k0_off38_inb i v15 v17 k0_hw1 k0_h10)
theorem k0_mult16_dvd : ∀ (i : grid0.Coords) (v15 : BitVec 32) (v17 : BitVec 32) (k0_hw1 : k0_chk1 i v15 v17), ∀ (k0_h11 : k0_cond11 v17 = 1#1), 16 ∣ (k0_mult16 v15 v17).toNat := fun i v15 v17 k0_hw1 k0_h11 => k0_hw1.2.2.2.2.2.2.2.2.2.2.2.2.1 k0_h11
theorem k0_off40_inb : ∀ (i : grid0.Coords) (v15 : BitVec 32) (v17 : BitVec 32) (k0_hw1 : k0_chk1 i v15 v17), ∀ (k0_h11 : k0_cond11 v17 = 1#1), ∀ a, (k0_off40 v17) a + S1.size a ≤ S2.size a := fun i v15 v17 k0_hw1 k0_h11 => k0_hw1.2.2.2.2.2.2.2.2.2.2.2.2.2.1 k0_h11
theorem k0_off41_inb : ∀ (i : grid0.Coords) (v15 : BitVec 32) (v17 : BitVec 32) (k0_hw1 : k0_chk1 i v15 v17), ∀ (k0_h11 : k0_cond11 v17 = 1#1), ∀ a, (k0_off41 i v15 v17) a + S512x512.size a ≤ S18432x5632.size a := fun i v15 v17 k0_hw1 k0_h11 => k0_hw1.2.2.2.2.2.2.2.2.2.2.2.2.2.2.1 k0_h11
theorem k0_off42_inb : ∀ (i : grid0.Coords) (v15 : BitVec 32) (v17 : BitVec 32) (k0_hw1 : k0_chk1 i v15 v17), ∀ (k0_h11 : k0_cond11 v17 = 1#1), ∀ a, (k0_off42 v17) a + S1x512x512.size a ≤ S2x512x512.size a := fun i v15 v17 k0_hw1 k0_h11 => k0_hw1.2.2.2.2.2.2.2.2.2.2.2.2.2.2.2.1 k0_h11
theorem k0_off42_wordsbf16 : ∀ (i : grid0.Coords) (v15 : BitVec 32) (v17 : BitVec 32) (k0_hw1 : k0_chk1 i v15 v17), ∀ (k0_h11 : k0_cond11 v17 = 1#1), (Rect.unit (s := S2x512x512) (k0_off42 v17) S1x512x512.size (k0_off42_inb i v15 v17 k0_hw1 k0_h11)).WholeWords (EltTy.packing .bf16) := fun i v15 v17 k0_hw1 k0_h11 => k0_hw1.2.2.2.2.2.2.2.2.2.2.2.2.2.2.2.2.1 k0_h11 (k0_off42_inb i v15 v17 k0_hw1 k0_h11)
theorem k0_off41_wordsbf16 : ∀ (i : grid0.Coords) (v15 : BitVec 32) (v17 : BitVec 32) (k0_hw1 : k0_chk1 i v15 v17), ∀ (k0_h11 : k0_cond11 v17 = 1#1), (Rect.unit (s := S18432x5632) (k0_off41 i v15 v17) S512x512.size (k0_off41_inb i v15 v17 k0_hw1 k0_h11)).WholeWords (EltTy.packing .bf16) := fun i v15 v17 k0_hw1 k0_h11 => k0_hw1.2.2.2.2.2.2.2.2.2.2.2.2.2.2.2.2.2 k0_h11 (k0_off41_inb i v15 v17 k0_hw1 k0_h11)

def k0_cond12 (i : grid0.Coords) : BitVec 1 :=
  let arg0 : BitVec 32 := BitVec.ofNat 32 (i 0).val
  let c7_i32_31 : BitVec 32 := 7#32
  let v59 : BitVec 1 := Scalar.cmpi .eq arg0 c7_i32_31
  let v60 : BitVec 32 := Scalar.extui v59
  let c0_i32_32 : BitVec 32 := 0#32
  let v61 : BitVec 1 := Scalar.cmpi .ne v60 c0_i32_32
  v61

def k0_off43 (i : grid0.Coords) : Fin 1 → Nat :=
  let arg0 : BitVec 32 := BitVec.ofNat 32 (i 0).val
  let v62 : Index := Scalar.indexCast arg0
  ![v62.toNat]
@[reducible] def k0_t3_loop (v63 : BitVec 32) (v65 : BitVec 32) : Scf.Loop 32 :=
  let c0_i32_43 : BitVec 32 := 0#32
  let c18432_i32 : BitVec 32 := 18432#32
  let c512_i32_33 : BitVec 32 := 512#32
  let v66 : BitVec 32 := Scalar.muli v65 c512_i32_33
  let v67 : BitVec 32 := Scalar.addi v63 v66
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v90 : BitVec 32 := Scalar.subi v89 c0_i32_43
  let c1_i32_44 : BitVec 32 := 1#32
  let v92 : BitVec 32 := Scalar.divsi v90 c1_i32_44
  let v93 : BitVec 32 := Scalar.muli v92 c1_i32_44
  let v94 : BitVec 32 := Scalar.addi c0_i32_43 v93
  let c1_i32_45 : BitVec 32 := 1#32
  ⟨c0_i32_43, v94, c1_i32_45⟩

def k0_mult17 (v63 : BitVec 32) (v65 : BitVec 32) (k0_t3 : Fin (k0_t3_loop v63 v65).trips) : BitVec 32 :=
  let c512_i32_33 : BitVec 32 := 512#32
  let v66 : BitVec 32 := Scalar.muli v65 c512_i32_33
  let v67 : BitVec 32 := Scalar.addi v63 v66
  let c0_i32_43 : BitVec 32 := 0#32
  let c1_i32_45 : BitVec 32 := 1#32
  let arg16 : BitVec 32 := Scf.iv c0_i32_43 c1_i32_45 k0_t3
  let c16_i32_52 : BitVec 32 := 16#32
  let v100 : BitVec 32 := Scalar.muli arg16 c16_i32_52
  let v101 : BitVec 32 := Scalar.addi v67 v100
  v101
def k0_off44 (i : grid0.Coords) (v63 : BitVec 32) (v65 : BitVec 32) (k0_t3 : Fin (k0_t3_loop v63 v65).trips) : Fin 2 → Nat :=
  let c512_i32_33 : BitVec 32 := 512#32
  let v66 : BitVec 32 := Scalar.muli v65 c512_i32_33
  let v67 : BitVec 32 := Scalar.addi v63 v66
  let c0_i32_43 : BitVec 32 := 0#32
  let c1_i32_45 : BitVec 32 := 1#32
  let arg16 : BitVec 32 := Scf.iv c0_i32_43 c1_i32_45 k0_t3
  let c16_i32_52 : BitVec 32 := 16#32
  let v100 : BitVec 32 := Scalar.muli arg16 c16_i32_52
  let v101 : BitVec 32 := Scalar.addi v67 v100
  let v102 : BitVec 32 := v101
  let arg1 : BitVec 32 := BitVec.ofNat 32 (i 1).val
  let c512_i32 : BitVec 32 := 512#32
  let v12 : BitVec 32 := Scalar.muli arg1 c512_i32
  let v13 : BitVec 32 := v12
  ![v102.toNat, v13.toNat]
@[reducible] def k0_t4_loop (v63 : BitVec 32) (v65 : BitVec 32) : Scf.Loop 32 :=
  let c0_i32_43 : BitVec 32 := 0#32
  let c18432_i32 : BitVec 32 := 18432#32
  let c512_i32_33 : BitVec 32 := 512#32
  let v66 : BitVec 32 := Scalar.muli v65 c512_i32_33
  let v67 : BitVec 32 := Scalar.addi v63 v66
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v90 : BitVec 32 := Scalar.subi v89 c0_i32_43
  let c1_i32_44 : BitVec 32 := 1#32
  let v92 : BitVec 32 := Scalar.divsi v90 c1_i32_44
  let v93 : BitVec 32 := Scalar.muli v92 c1_i32_44
  let v94 : BitVec 32 := Scalar.addi c0_i32_43 v93
  let v91 : BitVec 32 := Scalar.addi c0_i32_43 v90
  let c1_i32_46 : BitVec 32 := 1#32
  ⟨v94, v91, c1_i32_46⟩
def k0_mult18 (v63 : BitVec 32) (v65 : BitVec 32) (k0_t4 : Fin (k0_t4_loop v63 v65).trips) : BitVec 32 :=
  let c512_i32_33 : BitVec 32 := 512#32
  let v66 : BitVec 32 := Scalar.muli v65 c512_i32_33
  let v67 : BitVec 32 := Scalar.addi v63 v66
  let c0_i32_43 : BitVec 32 := 0#32
  let c18432_i32 : BitVec 32 := 18432#32
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v90 : BitVec 32 := Scalar.subi v89 c0_i32_43
  let c1_i32_44 : BitVec 32 := 1#32
  let v92 : BitVec 32 := Scalar.divsi v90 c1_i32_44
  let v93 : BitVec 32 := Scalar.muli v92 c1_i32_44
  let v94 : BitVec 32 := Scalar.addi c0_i32_43 v93
  let c1_i32_46 : BitVec 32 := 1#32
  let arg16 : BitVec 32 := Scf.iv v94 c1_i32_46 k0_t4
  let c16_i32_52 : BitVec 32 := 16#32
  let v100 : BitVec 32 := Scalar.muli arg16 c16_i32_52
  let v101 : BitVec 32 := Scalar.addi v67 v100
  v101
def k0_off45 (i : grid0.Coords) (v63 : BitVec 32) (v65 : BitVec 32) (k0_t4 : Fin (k0_t4_loop v63 v65).trips) : Fin 2 → Nat :=
  let c512_i32_33 : BitVec 32 := 512#32
  let v66 : BitVec 32 := Scalar.muli v65 c512_i32_33
  let v67 : BitVec 32 := Scalar.addi v63 v66
  let c0_i32_43 : BitVec 32 := 0#32
  let c18432_i32 : BitVec 32 := 18432#32
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v90 : BitVec 32 := Scalar.subi v89 c0_i32_43
  let c1_i32_44 : BitVec 32 := 1#32
  let v92 : BitVec 32 := Scalar.divsi v90 c1_i32_44
  let v93 : BitVec 32 := Scalar.muli v92 c1_i32_44
  let v94 : BitVec 32 := Scalar.addi c0_i32_43 v93
  let c1_i32_46 : BitVec 32 := 1#32
  let arg16 : BitVec 32 := Scf.iv v94 c1_i32_46 k0_t4
  let c16_i32_52 : BitVec 32 := 16#32
  let v100 : BitVec 32 := Scalar.muli arg16 c16_i32_52
  let v101 : BitVec 32 := Scalar.addi v67 v100
  let v102 : BitVec 32 := v101
  let arg1 : BitVec 32 := BitVec.ofNat 32 (i 1).val
  let c512_i32 : BitVec 32 := 512#32
  let v12 : BitVec 32 := Scalar.muli arg1 c512_i32
  let v13 : BitVec 32 := v12
  ![v102.toNat, v13.toNat]
@[reducible] def k0_t5_loop (v63 : BitVec 32) (v65 : BitVec 32) : Scf.Loop 32 :=
  let c0_i32_48 : BitVec 32 := 0#32
  let c18432_i32 : BitVec 32 := 18432#32
  let c512_i32_33 : BitVec 32 := 512#32
  let v66 : BitVec 32 := Scalar.muli v65 c512_i32_33
  let v67 : BitVec 32 := Scalar.addi v63 v66
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v95 : BitVec 32 := Scalar.subi v89 c0_i32_48
  let c1_i32_49 : BitVec 32 := 1#32
  let v97 : BitVec 32 := Scalar.divsi v95 c1_i32_49
  let v98 : BitVec 32 := Scalar.muli v97 c1_i32_49
  let v99 : BitVec 32 := Scalar.addi c0_i32_48 v98
  let c1_i32_50 : BitVec 32 := 1#32
  ⟨c0_i32_48, v99, c1_i32_50⟩
def k0_mult19 (v63 : BitVec 32) (v65 : BitVec 32) (k0_t5 : Fin (k0_t5_loop v63 v65).trips) : BitVec 32 :=
  let c512_i32_33 : BitVec 32 := 512#32
  let v66 : BitVec 32 := Scalar.muli v65 c512_i32_33
  let v67 : BitVec 32 := Scalar.addi v63 v66
  let c0_i32_48 : BitVec 32 := 0#32
  let c1_i32_50 : BitVec 32 := 1#32
  let arg16 : BitVec 32 := Scf.iv c0_i32_48 c1_i32_50 k0_t5
  let c16_i32_52 : BitVec 32 := 16#32
  let v100 : BitVec 32 := Scalar.muli arg16 c16_i32_52
  let v101 : BitVec 32 := Scalar.addi v67 v100
  v101
def k0_off46 (i : grid0.Coords) (v63 : BitVec 32) (v65 : BitVec 32) (k0_t5 : Fin (k0_t5_loop v63 v65).trips) : Fin 2 → Nat :=
  let c512_i32_33 : BitVec 32 := 512#32
  let v66 : BitVec 32 := Scalar.muli v65 c512_i32_33
  let v67 : BitVec 32 := Scalar.addi v63 v66
  let c0_i32_48 : BitVec 32 := 0#32
  let c1_i32_50 : BitVec 32 := 1#32
  let arg16 : BitVec 32 := Scf.iv c0_i32_48 c1_i32_50 k0_t5
  let c16_i32_52 : BitVec 32 := 16#32
  let v100 : BitVec 32 := Scalar.muli arg16 c16_i32_52
  let v101 : BitVec 32 := Scalar.addi v67 v100
  let v102 : BitVec 32 := v101
  let arg1 : BitVec 32 := BitVec.ofNat 32 (i 1).val
  let c512_i32 : BitVec 32 := 512#32
  let v12 : BitVec 32 := Scalar.muli arg1 c512_i32
  let v13 : BitVec 32 := v12
  ![v102.toNat, v13.toNat]
@[reducible] def k0_t6_loop (v63 : BitVec 32) (v65 : BitVec 32) : Scf.Loop 32 :=
  let c0_i32_48 : BitVec 32 := 0#32
  let c18432_i32 : BitVec 32 := 18432#32
  let c512_i32_33 : BitVec 32 := 512#32
  let v66 : BitVec 32 := Scalar.muli v65 c512_i32_33
  let v67 : BitVec 32 := Scalar.addi v63 v66
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v95 : BitVec 32 := Scalar.subi v89 c0_i32_48
  let c1_i32_49 : BitVec 32 := 1#32
  let v97 : BitVec 32 := Scalar.divsi v95 c1_i32_49
  let v98 : BitVec 32 := Scalar.muli v97 c1_i32_49
  let v99 : BitVec 32 := Scalar.addi c0_i32_48 v98
  let v96 : BitVec 32 := Scalar.addi c0_i32_48 v95
  let c1_i32_51 : BitVec 32 := 1#32
  ⟨v99, v96, c1_i32_51⟩
def k0_mult20 (v63 : BitVec 32) (v65 : BitVec 32) (k0_t6 : Fin (k0_t6_loop v63 v65).trips) : BitVec 32 :=
  let c512_i32_33 : BitVec 32 := 512#32
  let v66 : BitVec 32 := Scalar.muli v65 c512_i32_33
  let v67 : BitVec 32 := Scalar.addi v63 v66
  let c0_i32_48 : BitVec 32 := 0#32
  let c18432_i32 : BitVec 32 := 18432#32
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v95 : BitVec 32 := Scalar.subi v89 c0_i32_48
  let c1_i32_49 : BitVec 32 := 1#32
  let v97 : BitVec 32 := Scalar.divsi v95 c1_i32_49
  let v98 : BitVec 32 := Scalar.muli v97 c1_i32_49
  let v99 : BitVec 32 := Scalar.addi c0_i32_48 v98
  let c1_i32_51 : BitVec 32 := 1#32
  let arg16 : BitVec 32 := Scf.iv v99 c1_i32_51 k0_t6
  let c16_i32_52 : BitVec 32 := 16#32
  let v100 : BitVec 32 := Scalar.muli arg16 c16_i32_52
  let v101 : BitVec 32 := Scalar.addi v67 v100
  v101
def k0_off47 (i : grid0.Coords) (v63 : BitVec 32) (v65 : BitVec 32) (k0_t6 : Fin (k0_t6_loop v63 v65).trips) : Fin 2 → Nat :=
  let c512_i32_33 : BitVec 32 := 512#32
  let v66 : BitVec 32 := Scalar.muli v65 c512_i32_33
  let v67 : BitVec 32 := Scalar.addi v63 v66
  let c0_i32_48 : BitVec 32 := 0#32
  let c18432_i32 : BitVec 32 := 18432#32
  let v72 : BitVec 32 := Scalar.subi c18432_i32 v67
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c16_i32 : BitVec 32 := 16#32
  let c0_i32_38 : BitVec 32 := 0#32
  let v79 : BitVec 1 := Scalar.cmpi .sgt c16_i32 c0_i32_38
  let v80 : BitVec 32 := Scalar.extui v79
  let c0_i32_39 : BitVec 32 := 0#32
  let v81 : BitVec 1 := Scalar.cmpi .slt c16_i32 c0_i32_39
  let v82 : BitVec 32 := Scalar.extui v81
  let v83 : BitVec 32 := Scalar.subi v80 v82
  let v84 : BitVec 1 := Scalar.cmpi .ne v78 v83
  let v85 : BitVec 32 := Scalar.remsi v72 c16_i32
  let c0_i32_40 : BitVec 32 := 0#32
  let v86 : BitVec 1 := Scalar.cmpi .ne v85 c0_i32_40
  let v87 : BitVec 1 := Scalar.andi v84 v86
  let v73 : BitVec 32 := Scalar.divsi v72 c16_i32
  let c1_i32_41 : BitVec 32 := 1#32
  let v88 : BitVec 32 := Scalar.subi v73 c1_i32_41
  let v89 : BitVec 32 := Scalar.select v87 v88 v73
  let v95 : BitVec 32 := Scalar.subi v89 c0_i32_48
  let c1_i32_49 : BitVec 32 := 1#32
  let v97 : BitVec 32 := Scalar.divsi v95 c1_i32_49
  let v98 : BitVec 32 := Scalar.muli v97 c1_i32_49
  let v99 : BitVec 32 := Scalar.addi c0_i32_48 v98
  let c1_i32_51 : BitVec 32 := 1#32
  let arg16 : BitVec 32 := Scf.iv v99 c1_i32_51 k0_t6
  let c16_i32_52 : BitVec 32 := 16#32
  let v100 : BitVec 32 := Scalar.muli arg16 c16_i32_52
  let v101 : BitVec 32 := Scalar.addi v67 v100
  let v102 : BitVec 32 := v101
  let arg1 : BitVec 32 := BitVec.ofNat 32 (i 1).val
  let c512_i32 : BitVec 32 := 512#32
  let v12 : BitVec 32 := Scalar.muli arg1 c512_i32
  let v13 : BitVec 32 := v12
  ![v102.toNat, v13.toNat]

def k0_chk3 (i : grid0.Coords) (v63 : BitVec 32) (v65 : BitVec 32) : Prop :=
  (∀ (k0_h12 : k0_cond12 i = 1#1), (k0_t3_loop v63 v65).OK) ∧
  (∀ k0_t3 : Fin (k0_t3_loop v63 v65).trips, ∀ (k0_h12 : k0_cond12 i = 1#1), 16 ∣ (k0_mult17 v63 v65 k0_t3).toNat) ∧
  (∀ k0_t3 : Fin (k0_t3_loop v63 v65).trips, ∀ (k0_h12 : k0_cond12 i = 1#1), ∀ a, (k0_off44 i v63 v65 k0_t3) a + S16x512.size a ≤ S18432x5632.size a) ∧
  (∀ k0_t3 : Fin (k0_t3_loop v63 v65).trips, ∀ (k0_h12 : k0_cond12 i = 1#1), ∀ (hinb : ∀ a, (k0_off44 i v63 v65 k0_t3) a + S16x512.size a ≤ S18432x5632.size a), (Rect.unit (s := S18432x5632) (k0_off44 i v63 v65 k0_t3) S16x512.size hinb).WholeWords (EltTy.packing .bf16)) ∧
  (∀ (k0_h12 : k0_cond12 i = 1#1), (k0_t4_loop v63 v65).OK) ∧
  (∀ k0_t4 : Fin (k0_t4_loop v63 v65).trips, ∀ (k0_h12 : k0_cond12 i = 1#1), 16 ∣ (k0_mult18 v63 v65 k0_t4).toNat) ∧
  (∀ k0_t4 : Fin (k0_t4_loop v63 v65).trips, ∀ (k0_h12 : k0_cond12 i = 1#1), ∀ a, (k0_off45 i v63 v65 k0_t4) a + S16x512.size a ≤ S18432x5632.size a) ∧
  (∀ k0_t4 : Fin (k0_t4_loop v63 v65).trips, ∀ (k0_h12 : k0_cond12 i = 1#1), ∀ (hinb : ∀ a, (k0_off45 i v63 v65 k0_t4) a + S16x512.size a ≤ S18432x5632.size a), (Rect.unit (s := S18432x5632) (k0_off45 i v63 v65 k0_t4) S16x512.size hinb).WholeWords (EltTy.packing .bf16)) ∧
  (∀ (k0_h12 : k0_cond12 i = 1#1), (k0_t5_loop v63 v65).OK) ∧
  (∀ k0_t5 : Fin (k0_t5_loop v63 v65).trips, ∀ (k0_h12 : k0_cond12 i = 1#1), 16 ∣ (k0_mult19 v63 v65 k0_t5).toNat) ∧
  (∀ k0_t5 : Fin (k0_t5_loop v63 v65).trips, ∀ (k0_h12 : k0_cond12 i = 1#1), ∀ a, (k0_off46 i v63 v65 k0_t5) a + S16x512.size a ≤ S18432x5632.size a) ∧
  (∀ k0_t5 : Fin (k0_t5_loop v63 v65).trips, ∀ (k0_h12 : k0_cond12 i = 1#1), ∀ (hinb : ∀ a, (k0_off46 i v63 v65 k0_t5) a + S16x512.size a ≤ S18432x5632.size a), (Rect.unit (s := S18432x5632) (k0_off46 i v63 v65 k0_t5) S16x512.size hinb).WholeWords (EltTy.packing .bf16)) ∧
  (∀ (k0_h12 : k0_cond12 i = 1#1), (k0_t6_loop v63 v65).OK) ∧
  (∀ k0_t6 : Fin (k0_t6_loop v63 v65).trips, ∀ (k0_h12 : k0_cond12 i = 1#1), 16 ∣ (k0_mult20 v63 v65 k0_t6).toNat) ∧
  (∀ k0_t6 : Fin (k0_t6_loop v63 v65).trips, ∀ (k0_h12 : k0_cond12 i = 1#1), ∀ a, (k0_off47 i v63 v65 k0_t6) a + S16x512.size a ≤ S18432x5632.size a) ∧
  (∀ k0_t6 : Fin (k0_t6_loop v63 v65).trips, ∀ (k0_h12 : k0_cond12 i = 1#1), ∀ (hinb : ∀ a, (k0_off47 i v63 v65 k0_t6) a + S16x512.size a ≤ S18432x5632.size a), (Rect.unit (s := S18432x5632) (k0_off47 i v63 v65 k0_t6) S16x512.size hinb).WholeWords (EltTy.packing .bf16))
theorem k0_t3_ok : ∀ (i : grid0.Coords) (v63 : BitVec 32) (v65 : BitVec 32) (k0_hw3 : k0_chk3 i v63 v65), ∀ (k0_h12 : k0_cond12 i = 1#1), (k0_t3_loop v63 v65).OK := fun i v63 v65 k0_hw3 k0_h12 => k0_hw3.1 k0_h12
theorem k0_mult17_dvd : ∀ (i : grid0.Coords) (v63 : BitVec 32) (v65 : BitVec 32) (k0_hw3 : k0_chk3 i v63 v65) (k0_t3 : Fin (k0_t3_loop v63 v65).trips), ∀ (k0_h12 : k0_cond12 i = 1#1), 16 ∣ (k0_mult17 v63 v65 k0_t3).toNat := fun i v63 v65 k0_hw3 k0_t3 k0_h12 => k0_hw3.2.1 k0_t3 k0_h12
theorem k0_off44_inb : ∀ (i : grid0.Coords) (v63 : BitVec 32) (v65 : BitVec 32) (k0_hw3 : k0_chk3 i v63 v65) (k0_t3 : Fin (k0_t3_loop v63 v65).trips), ∀ (k0_h12 : k0_cond12 i = 1#1), ∀ a, (k0_off44 i v63 v65 k0_t3) a + S16x512.size a ≤ S18432x5632.size a := fun i v63 v65 k0_hw3 k0_t3 k0_h12 => k0_hw3.2.2.1 k0_t3 k0_h12
theorem k0_off44_wordsbf16 : ∀ (i : grid0.Coords) (v63 : BitVec 32) (v65 : BitVec 32) (k0_hw3 : k0_chk3 i v63 v65) (k0_t3 : Fin (k0_t3_loop v63 v65).trips), ∀ (k0_h12 : k0_cond12 i = 1#1), (Rect.unit (s := S18432x5632) (k0_off44 i v63 v65 k0_t3) S16x512.size (k0_off44_inb i v63 v65 k0_hw3 k0_t3 k0_h12)).WholeWords (EltTy.packing .bf16) := fun i v63 v65 k0_hw3 k0_t3 k0_h12 => k0_hw3.2.2.2.1 k0_t3 k0_h12 (k0_off44_inb i v63 v65 k0_hw3 k0_t3 k0_h12)
theorem k0_t4_ok : ∀ (i : grid0.Coords) (v63 : BitVec 32) (v65 : BitVec 32) (k0_hw3 : k0_chk3 i v63 v65), ∀ (k0_h12 : k0_cond12 i = 1#1), (k0_t4_loop v63 v65).OK := fun i v63 v65 k0_hw3 k0_h12 => k0_hw3.2.2.2.2.1 k0_h12
theorem k0_mult18_dvd : ∀ (i : grid0.Coords) (v63 : BitVec 32) (v65 : BitVec 32) (k0_hw3 : k0_chk3 i v63 v65) (k0_t4 : Fin (k0_t4_loop v63 v65).trips), ∀ (k0_h12 : k0_cond12 i = 1#1), 16 ∣ (k0_mult18 v63 v65 k0_t4).toNat := fun i v63 v65 k0_hw3 k0_t4 k0_h12 => k0_hw3.2.2.2.2.2.1 k0_t4 k0_h12
theorem k0_off45_inb : ∀ (i : grid0.Coords) (v63 : BitVec 32) (v65 : BitVec 32) (k0_hw3 : k0_chk3 i v63 v65) (k0_t4 : Fin (k0_t4_loop v63 v65).trips), ∀ (k0_h12 : k0_cond12 i = 1#1), ∀ a, (k0_off45 i v63 v65 k0_t4) a + S16x512.size a ≤ S18432x5632.size a := fun i v63 v65 k0_hw3 k0_t4 k0_h12 => k0_hw3.2.2.2.2.2.2.1 k0_t4 k0_h12
theorem k0_off45_wordsbf16 : ∀ (i : grid0.Coords) (v63 : BitVec 32) (v65 : BitVec 32) (k0_hw3 : k0_chk3 i v63 v65) (k0_t4 : Fin (k0_t4_loop v63 v65).trips), ∀ (k0_h12 : k0_cond12 i = 1#1), (Rect.unit (s := S18432x5632) (k0_off45 i v63 v65 k0_t4) S16x512.size (k0_off45_inb i v63 v65 k0_hw3 k0_t4 k0_h12)).WholeWords (EltTy.packing .bf16) := fun i v63 v65 k0_hw3 k0_t4 k0_h12 => k0_hw3.2.2.2.2.2.2.2.1 k0_t4 k0_h12 (k0_off45_inb i v63 v65 k0_hw3 k0_t4 k0_h12)
theorem k0_t5_ok : ∀ (i : grid0.Coords) (v63 : BitVec 32) (v65 : BitVec 32) (k0_hw3 : k0_chk3 i v63 v65), ∀ (k0_h12 : k0_cond12 i = 1#1), (k0_t5_loop v63 v65).OK := fun i v63 v65 k0_hw3 k0_h12 => k0_hw3.2.2.2.2.2.2.2.2.1 k0_h12
theorem k0_mult19_dvd : ∀ (i : grid0.Coords) (v63 : BitVec 32) (v65 : BitVec 32) (k0_hw3 : k0_chk3 i v63 v65) (k0_t5 : Fin (k0_t5_loop v63 v65).trips), ∀ (k0_h12 : k0_cond12 i = 1#1), 16 ∣ (k0_mult19 v63 v65 k0_t5).toNat := fun i v63 v65 k0_hw3 k0_t5 k0_h12 => k0_hw3.2.2.2.2.2.2.2.2.2.1 k0_t5 k0_h12
theorem k0_off46_inb : ∀ (i : grid0.Coords) (v63 : BitVec 32) (v65 : BitVec 32) (k0_hw3 : k0_chk3 i v63 v65) (k0_t5 : Fin (k0_t5_loop v63 v65).trips), ∀ (k0_h12 : k0_cond12 i = 1#1), ∀ a, (k0_off46 i v63 v65 k0_t5) a + S16x512.size a ≤ S18432x5632.size a := fun i v63 v65 k0_hw3 k0_t5 k0_h12 => k0_hw3.2.2.2.2.2.2.2.2.2.2.1 k0_t5 k0_h12
theorem k0_off46_wordsbf16 : ∀ (i : grid0.Coords) (v63 : BitVec 32) (v65 : BitVec 32) (k0_hw3 : k0_chk3 i v63 v65) (k0_t5 : Fin (k0_t5_loop v63 v65).trips), ∀ (k0_h12 : k0_cond12 i = 1#1), (Rect.unit (s := S18432x5632) (k0_off46 i v63 v65 k0_t5) S16x512.size (k0_off46_inb i v63 v65 k0_hw3 k0_t5 k0_h12)).WholeWords (EltTy.packing .bf16) := fun i v63 v65 k0_hw3 k0_t5 k0_h12 => k0_hw3.2.2.2.2.2.2.2.2.2.2.2.1 k0_t5 k0_h12 (k0_off46_inb i v63 v65 k0_hw3 k0_t5 k0_h12)
theorem k0_t6_ok : ∀ (i : grid0.Coords) (v63 : BitVec 32) (v65 : BitVec 32) (k0_hw3 : k0_chk3 i v63 v65), ∀ (k0_h12 : k0_cond12 i = 1#1), (k0_t6_loop v63 v65).OK := fun i v63 v65 k0_hw3 k0_h12 => k0_hw3.2.2.2.2.2.2.2.2.2.2.2.2.1 k0_h12
theorem k0_mult20_dvd : ∀ (i : grid0.Coords) (v63 : BitVec 32) (v65 : BitVec 32) (k0_hw3 : k0_chk3 i v63 v65) (k0_t6 : Fin (k0_t6_loop v63 v65).trips), ∀ (k0_h12 : k0_cond12 i = 1#1), 16 ∣ (k0_mult20 v63 v65 k0_t6).toNat := fun i v63 v65 k0_hw3 k0_t6 k0_h12 => k0_hw3.2.2.2.2.2.2.2.2.2.2.2.2.2.1 k0_t6 k0_h12
theorem k0_off47_inb : ∀ (i : grid0.Coords) (v63 : BitVec 32) (v65 : BitVec 32) (k0_hw3 : k0_chk3 i v63 v65) (k0_t6 : Fin (k0_t6_loop v63 v65).trips), ∀ (k0_h12 : k0_cond12 i = 1#1), ∀ a, (k0_off47 i v63 v65 k0_t6) a + S16x512.size a ≤ S18432x5632.size a := fun i v63 v65 k0_hw3 k0_t6 k0_h12 => k0_hw3.2.2.2.2.2.2.2.2.2.2.2.2.2.2.1 k0_t6 k0_h12
theorem k0_off47_wordsbf16 : ∀ (i : grid0.Coords) (v63 : BitVec 32) (v65 : BitVec 32) (k0_hw3 : k0_chk3 i v63 v65) (k0_t6 : Fin (k0_t6_loop v63 v65).trips), ∀ (k0_h12 : k0_cond12 i = 1#1), (Rect.unit (s := S18432x5632) (k0_off47 i v63 v65 k0_t6) S16x512.size (k0_off47_inb i v63 v65 k0_hw3 k0_t6 k0_h12)).WholeWords (EltTy.packing .bf16) := fun i v63 v65 k0_hw3 k0_t6 k0_h12 => k0_hw3.2.2.2.2.2.2.2.2.2.2.2.2.2.2.2 k0_t6 k0_h12 (k0_off47_inb i v63 v65 k0_hw3 k0_t6 k0_h12)

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 2 → Memref sig .tc .vmem S1x1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S18432x2048 : Shape := ⟨2, ![18432, 2048]⟩
abbrev S2x8x2048x5632 : Shape := ⟨4, ![2, 8, 2048, 5632]⟩
abbrev S17408 : Shape := ⟨1, ![17408]⟩
abbrev S18432 : Shape := ⟨1, ![18432]⟩
abbrev S_ : Shape := ⟨0, ![]⟩
abbrev S18432x5632 : Shape := ⟨2, ![18432, 5632]⟩
abbrev S1x1x2048x5632 : Shape := ⟨4, ![1, 1, 2048, 5632]⟩
abbrev S2048x5632 : Shape := ⟨2, ![2048, 5632]⟩
abbrev S18432x1 : Shape := ⟨2, ![18432, 1]⟩

abbrev nBuf : Space → Nat
  | .hbm => 394
  | .vmem => 0
  | .smem => 0
  | _ => 0

abbrev hbmTy0_0 (i : Nat) : BufTy := match i % 128 with
  | 0 => ⟨S18432x2048, .f32⟩
  | 1 => ⟨S2x8x2048x5632, .f32⟩
  | 2 => ⟨S2x8x2048x5632, .f32⟩
  | 3 => ⟨S17408, .i32⟩
  | 4 => ⟨S18432, .i32⟩
  | 5 => ⟨S_, .f32⟩
  | 6 => ⟨S18432x5632, .f32⟩
  | 7 => ⟨S_, .i32⟩
  | 8 => ⟨S17408, .i32⟩
  | 9 => ⟨S17408, .i1⟩
  | 10 => ⟨S17408, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i1⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S18432, .i32⟩
  | 34 => ⟨S18432, .i1⟩
  | 35 => ⟨S18432, .i32⟩
  | 36 => ⟨S18432, .i1⟩
  | 37 => ⟨S18432, .i1⟩
  | 38 => ⟨S1x1x2048x5632, .f32⟩
  | 39 => ⟨S2048x5632, .f32⟩
  | 40 => ⟨S18432x5632, .f32⟩
  | 41 => ⟨S18432x5632, .f32⟩
  | 42 => ⟨S18432x5632, .f32⟩
  | 43 => ⟨S_, .f32⟩
  | 44 => ⟨S18432x5632, .f32⟩
  | 45 => ⟨S18432x5632, .f32⟩
  | 46 => ⟨S_, .f32⟩
  | 47 => ⟨S18432x5632, .f32⟩
  | 48 => ⟨S18432x5632, .f32⟩
  | 49 => ⟨S18432x5632, .f32⟩
  | 50 => ⟨S1x1x2048x5632, .f32⟩
  | 51 => ⟨S2048x5632, .f32⟩
  | 52 => ⟨S18432x5632, .f32⟩
  | 53 => ⟨S18432x5632, .f32⟩
  | 54 => ⟨S18432x1, .i1⟩
  | 55 => ⟨S18432x5632, .i1⟩
  | 56 => ⟨S18432x5632, .f32⟩
  | 57 => ⟨S_, .i32⟩
  | 58 => ⟨S17408, .i32⟩
  | 59 => ⟨S17408, .i1⟩
  | 60 => ⟨S17408, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i1⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S18432, .i32⟩
  | 82 => ⟨S18432, .i1⟩
  | 83 => ⟨S18432, .i32⟩
  | 84 => ⟨S18432, .i1⟩
  | 85 => ⟨S18432, .i1⟩
  | 86 => ⟨S1x1x2048x5632, .f32⟩
  | 87 => ⟨S2048x5632, .f32⟩
  | 88 => ⟨S18432x5632, .f32⟩
  | 89 => ⟨S18432x5632, .f32⟩
  | 90 => ⟨S18432x5632, .f32⟩
  | 91 => ⟨S_, .f32⟩
  | 92 => ⟨S18432x5632, .f32⟩
  | 93 => ⟨S18432x5632, .f32⟩
  | 94 => ⟨S_, .f32⟩
  | 95 => ⟨S18432x5632, .f32⟩
  | 96 => ⟨S18432x5632, .f32⟩
  | 97 => ⟨S18432x5632, .f32⟩
  | 98 => ⟨S1x1x2048x5632, .f32⟩
  | 99 => ⟨S2048x5632, .f32⟩
  | 100 => ⟨S18432x5632, .f32⟩
  | 101 => ⟨S18432x5632, .f32⟩
  | 102 => ⟨S18432x1, .i1⟩
  | 103 => ⟨S18432x5632, .i1⟩
  | 104 => ⟨S18432x5632, .f32⟩
  | 105 => ⟨S_, .i32⟩
  | 106 => ⟨S17408, .i32⟩
  | 107 => ⟨S17408, .i1⟩
  | 108 => ⟨S17408, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i1⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S18432x2048, .f32⟩

abbrev hbmTy0_1 (i : Nat) : BufTy := match i % 128 with
  | 0 => ⟨S_, .i32⟩
  | 1 => ⟨S18432, .i32⟩
  | 2 => ⟨S18432, .i1⟩
  | 3 => ⟨S18432, .i32⟩
  | 4 => ⟨S18432, .i1⟩
  | 5 => ⟨S18432, .i1⟩
  | 6 => ⟨S1x1x2048x5632, .f32⟩
  | 7 => ⟨S2048x5632, .f32⟩
  | 8 => ⟨S18432x5632, .f32⟩
  | 9 => ⟨S18432x5632, .f32⟩
  | 10 => ⟨S18432x5632, .f32⟩
  | 11 => ⟨S_, .f32⟩
  | 12 => ⟨S18432x5632, .f32⟩
  | 13 => ⟨S18432x5632, .f32⟩
  | 14 => ⟨S_, .f32⟩
  | 15 => ⟨S18432x5632, .f32⟩
  | 16 => ⟨S18432x5632, .f32⟩
  | 17 => ⟨S18432x5632, .f32⟩
  | 18 => ⟨S1x1x2048x5632, .f32⟩
  | 19 => ⟨S2048x5632, .f32⟩
  | 20 => ⟨S18432x5632, .f32⟩
  | 21 => ⟨S18432x5632, .f32⟩
  | 22 => ⟨S18432x1, .i1⟩
  | 23 => ⟨S18432x5632, .i1⟩
  | 24 => ⟨S18432x5632, .f32⟩
  | 25 => ⟨S_, .i32⟩
  | 26 => ⟨S17408, .i32⟩
  | 27 => ⟨S17408, .i1⟩
  | 28 => ⟨S17408, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i1⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S18432, .i32⟩
  | 50 => ⟨S18432, .i1⟩
  | 51 => ⟨S18432, .i32⟩
  | 52 => ⟨S18432, .i1⟩
  | 53 => ⟨S18432, .i1⟩
  | 54 => ⟨S1x1x2048x5632, .f32⟩
  | 55 => ⟨S2048x5632, .f32⟩
  | 56 => ⟨S18432x5632, .f32⟩
  | 57 => ⟨S18432x5632, .f32⟩
  | 58 => ⟨S18432x5632, .f32⟩
  | 59 => ⟨S_, .f32⟩
  | 60 => ⟨S18432x5632, .f32⟩
  | 61 => ⟨S18432x5632, .f32⟩
  | 62 => ⟨S_, .f32⟩
  | 63 => ⟨S18432x5632, .f32⟩
  | 64 => ⟨S18432x5632, .f32⟩
  | 65 => ⟨S18432x5632, .f32⟩
  | 66 => ⟨S1x1x2048x5632, .f32⟩
  | 67 => ⟨S2048x5632, .f32⟩
  | 68 => ⟨S18432x5632, .f32⟩
  | 69 => ⟨S18432x5632, .f32⟩
  | 70 => ⟨S18432x1, .i1⟩
  | 71 => ⟨S18432x5632, .i1⟩
  | 72 => ⟨S18432x5632, .f32⟩
  | 73 => ⟨S_, .i32⟩
  | 74 => ⟨S17408, .i32⟩
  | 75 => ⟨S17408, .i1⟩
  | 76 => ⟨S17408, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i1⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S18432, .i32⟩
  | 98 => ⟨S18432, .i1⟩
  | 99 => ⟨S18432, .i32⟩
  | 100 => ⟨S18432, .i1⟩
  | 101 => ⟨S18432, .i1⟩
  | 102 => ⟨S1x1x2048x5632, .f32⟩
  | 103 => ⟨S2048x5632, .f32⟩
  | 104 => ⟨S18432x5632, .f32⟩
  | 105 => ⟨S18432x5632, .f32⟩
  | 106 => ⟨S18432x5632, .f32⟩
  | 107 => ⟨S_, .f32⟩
  | 108 => ⟨S18432x5632, .f32⟩
  | 109 => ⟨S18432x5632, .f32⟩
  | 110 => ⟨S_, .f32⟩
  | 111 => ⟨S18432x5632, .f32⟩
  | 112 => ⟨S18432x5632, .f32⟩
  | 113 => ⟨S18432x5632, .f32⟩
  | 114 => ⟨S1x1x2048x5632, .f32⟩
  | 115 => ⟨S2048x5632, .f32⟩
  | 116 => ⟨S18432x5632, .f32⟩
  | 117 => ⟨S18432x5632, .f32⟩
  | 118 => ⟨S18432x1, .i1⟩
  | 119 => ⟨S18432x5632, .i1⟩
  | 120 => ⟨S18432x5632, .f32⟩
  | 121 => ⟨S_, .i32⟩
  | 122 => ⟨S17408, .i32⟩
  | 123 => ⟨S17408, .i1⟩
  | 124 => ⟨S17408, .i32⟩
  | 125 => ⟨S_, .i32⟩
  | 126 => ⟨S_, .i32⟩
  | 127 => ⟨S_, .i32⟩
  | _ => ⟨S18432x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i1⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S18432, .i32⟩
  | 18 => ⟨S18432, .i1⟩
  | 19 => ⟨S18432, .i32⟩
  | 20 => ⟨S18432, .i1⟩
  | 21 => ⟨S18432, .i1⟩
  | 22 => ⟨S1x1x2048x5632, .f32⟩
  | 23 => ⟨S2048x5632, .f32⟩
  | 24 => ⟨S18432x5632, .f32⟩
  | 25 => ⟨S18432x5632, .f32⟩
  | 26 => ⟨S18432x5632, .f32⟩
  | 27 => ⟨S_, .f32⟩
  | 28 => ⟨S18432x5632, .f32⟩
  | 29 => ⟨S18432x5632, .f32⟩
  | 30 => ⟨S_, .f32⟩
  | 31 => ⟨S18432x5632, .f32⟩
  | 32 => ⟨S18432x5632, .f32⟩
  | 33 => ⟨S18432x5632, .f32⟩
  | 34 => ⟨S1x1x2048x5632, .f32⟩
  | 35 => ⟨S2048x5632, .f32⟩
  | 36 => ⟨S18432x5632, .f32⟩
  | 37 => ⟨S18432x5632, .f32⟩
  | 38 => ⟨S18432x1, .i1⟩
  | 39 => ⟨S18432x5632, .i1⟩
  | 40 => ⟨S18432x5632, .f32⟩
  | 41 => ⟨S_, .i32⟩
  | 42 => ⟨S17408, .i32⟩
  | 43 => ⟨S17408, .i1⟩
  | 44 => ⟨S17408, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i1⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S18432, .i32⟩
  | 66 => ⟨S18432, .i1⟩
  | 67 => ⟨S18432, .i32⟩
  | 68 => ⟨S18432, .i1⟩
  | 69 => ⟨S18432, .i1⟩
  | 70 => ⟨S1x1x2048x5632, .f32⟩
  | 71 => ⟨S2048x5632, .f32⟩
  | 72 => ⟨S18432x5632, .f32⟩
  | 73 => ⟨S18432x5632, .f32⟩
  | 74 => ⟨S18432x5632, .f32⟩
  | 75 => ⟨S_, .f32⟩
  | 76 => ⟨S18432x5632, .f32⟩
  | 77 => ⟨S18432x5632, .f32⟩
  | 78 => ⟨S_, .f32⟩
  | 79 => ⟨S18432x5632, .f32⟩
  | 80 => ⟨S18432x5632, .f32⟩
  | 81 => ⟨S18432x5632, .f32⟩
  | 82 => ⟨S1x1x2048x5632, .f32⟩
  | 83 => ⟨S2048x5632, .f32⟩
  | 84 => ⟨S18432x5632, .f32⟩
  | 85 => ⟨S18432x5632, .f32⟩
  | 86 => ⟨S18432x1, .i1⟩
  | 87 => ⟨S18432x5632, .i1⟩
  | 88 => ⟨S18432x5632, .f32⟩
  | 89 => ⟨S_, .i32⟩
  | 90 => ⟨S17408, .i32⟩
  | 91 => ⟨S17408, .i1⟩
  | 92 => ⟨S17408, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i1⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S18432, .i32⟩
  | 114 => ⟨S18432, .i1⟩
  | 115 => ⟨S18432, .i32⟩
  | 116 => ⟨S18432, .i1⟩
  | 117 => ⟨S18432, .i1⟩
  | 118 => ⟨S1x1x2048x5632, .f32⟩
  | 119 => ⟨S2048x5632, .f32⟩
  | 120 => ⟨S18432x5632, .f32⟩
  | 121 => ⟨S18432x5632, .f32⟩
  | 122 => ⟨S18432x5632, .f32⟩
  | 123 => ⟨S_, .f32⟩
  | 124 => ⟨S18432x5632, .f32⟩
  | 125 => ⟨S18432x5632, .f32⟩
  | 126 => ⟨S_, .f32⟩
  | 127 => ⟨S18432x5632, .f32⟩
  | _ => ⟨S18432x2048, .f32⟩

abbrev hbmTy0_3 (i : Nat) : BufTy := match i % 128 with
  | 0 => ⟨S18432x5632, .f32⟩
  | 1 => ⟨S18432x5632, .f32⟩
  | 2 => ⟨S1x1x2048x5632, .f32⟩
  | 3 => ⟨S2048x5632, .f32⟩
  | 4 => ⟨S18432x5632, .f32⟩
  | 5 => ⟨S18432x5632, .f32⟩
  | 6 => ⟨S18432x1, .i1⟩
  | 7 => ⟨S18432x5632, .i1⟩
  | 8 => ⟨S18432x5632, .f32⟩
  | 9 => ⟨S18432x5632, .bf16⟩
  | _ => ⟨S18432x2048, .f32⟩

abbrev hbmTy (i : Nat) : BufTy := match i / 128 with
  | 0 => hbmTy0_0 i
  | 1 => hbmTy0_1 i
  | 2 => hbmTy0_2 i
  | 3 => hbmTy0_3 i
  | _ => ⟨S18432x2048, .f32⟩

abbrev bufTy : (tb : Table) → Fin (tcTables nBuf tb) → BufTy
  | .hbm, ⟨i, _⟩ => hbmTy i
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c : Ref sig .tc := ⟨.hbm, 22, rfl⟩
abbrev main_call0_v6 : Ref sig .tc := ⟨.hbm, 23, rfl⟩
abbrev main_call0_v7 : Ref sig .tc := ⟨.hbm, 24, rfl⟩
abbrev main_call0_c_0 : Ref sig .tc := ⟨.hbm, 25, rfl⟩
abbrev main_call0_v8 : Ref sig .tc := ⟨.hbm, 26, rfl⟩
abbrev main_v7 : Ref sig .tc := ⟨.hbm, 27, rfl⟩
abbrev main_c_3 : Ref sig .tc := ⟨.hbm, 28, rfl⟩
abbrev main_v8 : Ref sig .tc := ⟨.hbm, 29, rfl⟩
abbrev main_c_4 : Ref sig .tc := ⟨.hbm, 30, rfl⟩
abbrev main_v9 : Ref sig .tc := ⟨.hbm, 31, rfl⟩
abbrev main_c_5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call2_v0 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_7 : Ref sig .tc := ⟨.hbm, 61, rfl⟩
abbrev main_v28 : Ref sig .tc := ⟨.hbm, 62, rfl⟩
abbrev main_c_8 : Ref sig .tc := ⟨.hbm, 63, rfl⟩
abbrev main_v29 : Ref sig .tc := ⟨.hbm, 64, rfl⟩
abbrev main_c_9 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c : Ref sig .tc := ⟨.hbm, 72, rfl⟩
abbrev main_call3_v6 : Ref sig .tc := ⟨.hbm, 73, rfl⟩
abbrev main_call3_v7 : Ref sig .tc := ⟨.hbm, 74, rfl⟩
abbrev main_call3_c_0 : Ref sig .tc := ⟨.hbm, 75, rfl⟩
abbrev main_call3_v8 : Ref sig .tc := ⟨.hbm, 76, rfl⟩
abbrev main_v30 : Ref sig .tc := ⟨.hbm, 77, rfl⟩
abbrev main_c_10 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_call4_v0 : Ref sig .tc := ⟨.hbm, 89, rfl⟩
abbrev main_call4_v1 : Ref sig .tc := ⟨.hbm, 90, rfl⟩
abbrev main_call4_cst : Ref sig .tc := ⟨.hbm, 91, rfl⟩
abbrev main_call4_v2 : Ref sig .tc := ⟨.hbm, 92, rfl⟩
abbrev main_call4_v3 : Ref sig .tc := ⟨.hbm, 93, rfl⟩
abbrev main_call4_cst_0 : Ref sig .tc := ⟨.hbm, 94, rfl⟩
abbrev main_call4_v4 : Ref sig .tc := ⟨.hbm, 95, rfl⟩
abbrev main_call4_v5 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_call5_v0 : Ref sig .tc := ⟨.hbm, 103, rfl⟩
abbrev main_v47 : Ref sig .tc := ⟨.hbm, 104, rfl⟩
abbrev main_c_11 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_c_12 : Ref sig .tc := ⟨.hbm, 109, rfl⟩
abbrev main_v51 : Ref sig .tc := ⟨.hbm, 110, rfl⟩
abbrev main_c_13 : Ref sig .tc := ⟨.hbm, 111, rfl⟩
abbrev main_v52 : Ref sig .tc := ⟨.hbm, 112, rfl⟩
abbrev main_c_14 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_c : Ref sig .tc := ⟨.hbm, 120, rfl⟩
abbrev main_call6_v6 : Ref sig .tc := ⟨.hbm, 121, rfl⟩
abbrev main_call6_v7 : Ref sig .tc := ⟨.hbm, 122, rfl⟩
abbrev main_call6_c_0 : Ref sig .tc := ⟨.hbm, 123, rfl⟩
abbrev main_call6_v8 : Ref sig .tc := ⟨.hbm, 124, rfl⟩
abbrev main_v53 : Ref sig .tc := ⟨.hbm, 125, rfl⟩
abbrev main_c_15 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_call7_v0 : Ref sig .tc := ⟨.hbm, 137, rfl⟩
abbrev main_call7_v1 : Ref sig .tc := ⟨.hbm, 138, rfl⟩
abbrev main_call7_cst : Ref sig .tc := ⟨.hbm, 139, rfl⟩
abbrev main_call7_v2 : Ref sig .tc := ⟨.hbm, 140, rfl⟩
abbrev main_call7_v3 : Ref sig .tc := ⟨.hbm, 141, rfl⟩
abbrev main_call7_cst_0 : Ref sig .tc := ⟨.hbm, 142, rfl⟩
abbrev main_call7_v4 : Ref sig .tc := ⟨.hbm, 143, rfl⟩
abbrev main_call7_v5 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_call8_v0 : Ref sig .tc := ⟨.hbm, 151, rfl⟩
abbrev main_v70 : Ref sig .tc := ⟨.hbm, 152, rfl⟩
abbrev main_c_16 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_c_17 : Ref sig .tc := ⟨.hbm, 157, rfl⟩
abbrev main_v74 : Ref sig .tc := ⟨.hbm, 158, rfl⟩
abbrev main_c_18 : Ref sig .tc := ⟨.hbm, 159, rfl⟩
abbrev main_v75 : Ref sig .tc := ⟨.hbm, 160, rfl⟩
abbrev main_c_19 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_call9_v5 : Ref sig .tc := ⟨.hbm, 167, rfl⟩
abbrev main_call9_c : Ref sig .tc := ⟨.hbm, 168, rfl⟩
abbrev main_call9_v6 : Ref sig .tc := ⟨.hbm, 169, rfl⟩
abbrev main_call9_v7 : Ref sig .tc := ⟨.hbm, 170, rfl⟩
abbrev main_call9_c_0 : Ref sig .tc := ⟨.hbm, 171, rfl⟩
abbrev main_call9_v8 : Ref sig .tc := ⟨.hbm, 172, rfl⟩
abbrev main_v76 : Ref sig .tc := ⟨.hbm, 173, rfl⟩
abbrev main_c_20 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_call10_v0 : Ref sig .tc := ⟨.hbm, 185, rfl⟩
abbrev main_call10_v1 : Ref sig .tc := ⟨.hbm, 186, rfl⟩
abbrev main_call10_cst : Ref sig .tc := ⟨.hbm, 187, rfl⟩
abbrev main_call10_v2 : Ref sig .tc := ⟨.hbm, 188, rfl⟩
abbrev main_call10_v3 : Ref sig .tc := ⟨.hbm, 189, rfl⟩
abbrev main_call10_cst_0 : Ref sig .tc := ⟨.hbm, 190, rfl⟩
abbrev main_call10_v4 : Ref sig .tc := ⟨.hbm, 191, rfl⟩
abbrev main_call10_v5 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_call11_v0 : Ref sig .tc := ⟨.hbm, 199, rfl⟩
abbrev main_v93 : Ref sig .tc := ⟨.hbm, 200, rfl⟩
abbrev main_c_21 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_c_22 : Ref sig .tc := ⟨.hbm, 205, rfl⟩
abbrev main_v97 : Ref sig .tc := ⟨.hbm, 206, rfl⟩
abbrev main_c_23 : Ref sig .tc := ⟨.hbm, 207, rfl⟩
abbrev main_v98 : Ref sig .tc := ⟨.hbm, 208, rfl⟩
abbrev main_c_24 : Ref sig .tc := ⟨.hbm, 209, rfl⟩
abbrev main_call12_v0 : Ref sig .tc := ⟨.hbm, 210, rfl⟩
abbrev main_call12_v1 : Ref sig .tc := ⟨.hbm, 211, rfl⟩
abbrev main_call12_v2 : Ref sig .tc := ⟨.hbm, 212, rfl⟩
abbrev main_call12_v3 : Ref sig .tc := ⟨.hbm, 213, rfl⟩
abbrev main_call12_v4 : Ref sig .tc := ⟨.hbm, 214, rfl⟩
abbrev main_call12_v5 : Ref sig .tc := ⟨.hbm, 215, rfl⟩
abbrev main_call12_c : Ref sig .tc := ⟨.hbm, 216, rfl⟩
abbrev main_call12_v6 : Ref sig .tc := ⟨.hbm, 217, rfl⟩
abbrev main_call12_v7 : Ref sig .tc := ⟨.hbm, 218, rfl⟩
abbrev main_call12_c_0 : Ref sig .tc := ⟨.hbm, 219, rfl⟩
abbrev main_call12_v8 : Ref sig .tc := ⟨.hbm, 220, rfl⟩
abbrev main_v99 : Ref sig .tc := ⟨.hbm, 221, rfl⟩
abbrev main_c_25 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_call13_v0 : Ref sig .tc := ⟨.hbm, 233, rfl⟩
abbrev main_call13_v1 : Ref sig .tc := ⟨.hbm, 234, rfl⟩
abbrev main_call13_cst : Ref sig .tc := ⟨.hbm, 235, rfl⟩
abbrev main_call13_v2 : Ref sig .tc := ⟨.hbm, 236, rfl⟩
abbrev main_call13_v3 : Ref sig .tc := ⟨.hbm, 237, rfl⟩
abbrev main_call13_cst_0 : Ref sig .tc := ⟨.hbm, 238, rfl⟩
abbrev main_call13_v4 : Ref sig .tc := ⟨.hbm, 239, rfl⟩
abbrev main_call13_v5 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_call14_v0 : Ref sig .tc := ⟨.hbm, 247, rfl⟩
abbrev main_v116 : Ref sig .tc := ⟨.hbm, 248, rfl⟩
abbrev main_c_26 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_c_27 : Ref sig .tc := ⟨.hbm, 253, rfl⟩
abbrev main_v120 : Ref sig .tc := ⟨.hbm, 254, rfl⟩
abbrev main_c_28 : Ref sig .tc := ⟨.hbm, 255, rfl⟩
abbrev main_v121 : Ref sig .tc := ⟨.hbm, 256, rfl⟩
abbrev main_c_29 : Ref sig .tc := ⟨.hbm, 257, rfl⟩
abbrev main_call15_v0 : Ref sig .tc := ⟨.hbm, 258, rfl⟩
abbrev main_call15_v1 : Ref sig .tc := ⟨.hbm, 259, rfl⟩
abbrev main_call15_v2 : Ref sig .tc := ⟨.hbm, 260, rfl⟩
abbrev main_call15_v3 : Ref sig .tc := ⟨.hbm, 261, rfl⟩
abbrev main_call15_v4 : Ref sig .tc := ⟨.hbm, 262, rfl⟩
abbrev main_call15_v5 : Ref sig .tc := ⟨.hbm, 263, rfl⟩
abbrev main_call15_c : Ref sig .tc := ⟨.hbm, 264, rfl⟩
abbrev main_call15_v6 : Ref sig .tc := ⟨.hbm, 265, rfl⟩
abbrev main_call15_v7 : Ref sig .tc := ⟨.hbm, 266, rfl⟩
abbrev main_call15_c_0 : Ref sig .tc := ⟨.hbm, 267, rfl⟩
abbrev main_call15_v8 : Ref sig .tc := ⟨.hbm, 268, rfl⟩
abbrev main_v122 : Ref sig .tc := ⟨.hbm, 269, rfl⟩
abbrev main_c_30 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_call16_v0 : Ref sig .tc := ⟨.hbm, 281, rfl⟩
abbrev main_call16_v1 : Ref sig .tc := ⟨.hbm, 282, rfl⟩
abbrev main_call16_cst : Ref sig .tc := ⟨.hbm, 283, rfl⟩
abbrev main_call16_v2 : Ref sig .tc := ⟨.hbm, 284, rfl⟩
abbrev main_call16_v3 : Ref sig .tc := ⟨.hbm, 285, rfl⟩
abbrev main_call16_cst_0 : Ref sig .tc := ⟨.hbm, 286, rfl⟩
abbrev main_call16_v4 : Ref sig .tc := ⟨.hbm, 287, rfl⟩
abbrev main_call16_v5 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_call17_v0 : Ref sig .tc := ⟨.hbm, 295, rfl⟩
abbrev main_v139 : Ref sig .tc := ⟨.hbm, 296, rfl⟩
abbrev main_c_31 : Ref sig .tc := ⟨.hbm, 297, rfl⟩
abbrev main_v140 : Ref sig .tc := ⟨.hbm, 298, rfl⟩
abbrev main_v141 : Ref sig .tc := ⟨.hbm, 299, rfl⟩
abbrev main_v142 : Ref sig .tc := ⟨.hbm, 300, rfl⟩
abbrev main_c_32 : Ref sig .tc := ⟨.hbm, 301, rfl⟩
abbrev main_v143 : Ref sig .tc := ⟨.hbm, 302, rfl⟩
abbrev main_c_33 : Ref sig .tc := ⟨.hbm, 303, rfl⟩
abbrev main_v144 : Ref sig .tc := ⟨.hbm, 304, rfl⟩
abbrev main_c_34 : Ref sig .tc := ⟨.hbm, 305, rfl⟩
abbrev main_call18_v0 : Ref sig .tc := ⟨.hbm, 306, rfl⟩
abbrev main_call18_v1 : Ref sig .tc := ⟨.hbm, 307, rfl⟩
abbrev main_call18_v2 : Ref sig .tc := ⟨.hbm, 308, rfl⟩
abbrev main_call18_v3 : Ref sig .tc := ⟨.hbm, 309, rfl⟩
abbrev main_call18_v4 : Ref sig .tc := ⟨.hbm, 310, rfl⟩
abbrev main_call18_v5 : Ref sig .tc := ⟨.hbm, 311, rfl⟩
abbrev main_call18_c : Ref sig .tc := ⟨.hbm, 312, rfl⟩
abbrev main_call18_v6 : Ref sig .tc := ⟨.hbm, 313, rfl⟩
abbrev main_call18_v7 : Ref sig .tc := ⟨.hbm, 314, rfl⟩
abbrev main_call18_c_0 : Ref sig .tc := ⟨.hbm, 315, rfl⟩
abbrev main_call18_v8 : Ref sig .tc := ⟨.hbm, 316, rfl⟩
abbrev main_v145 : Ref sig .tc := ⟨.hbm, 317, rfl⟩
abbrev main_c_35 : Ref sig .tc := ⟨.hbm, 318, rfl⟩
abbrev main_v146 : Ref sig .tc := ⟨.hbm, 319, rfl⟩
abbrev main_v147 : Ref sig .tc := ⟨.hbm, 320, rfl⟩
abbrev main_v148 : Ref sig .tc := ⟨.hbm, 321, rfl⟩
abbrev main_v149 : Ref sig .tc := ⟨.hbm, 322, rfl⟩
abbrev main_v150 : Ref sig .tc := ⟨.hbm, 323, rfl⟩
abbrev main_v151 : Ref sig .tc := ⟨.hbm, 324, rfl⟩
abbrev main_v152 : Ref sig .tc := ⟨.hbm, 325, rfl⟩
abbrev main_v153 : Ref sig .tc := ⟨.hbm, 326, rfl⟩
abbrev main_v154 : Ref sig .tc := ⟨.hbm, 327, rfl⟩
abbrev main_v155 : Ref sig .tc := ⟨.hbm, 328, rfl⟩
abbrev main_call19_v0 : Ref sig .tc := ⟨.hbm, 329, rfl⟩
abbrev main_call19_v1 : Ref sig .tc := ⟨.hbm, 330, rfl⟩
abbrev main_call19_cst : Ref sig .tc := ⟨.hbm, 331, rfl⟩
abbrev main_call19_v2 : Ref sig .tc := ⟨.hbm, 332, rfl⟩
abbrev main_call19_v3 : Ref sig .tc := ⟨.hbm, 333, rfl⟩
abbrev main_call19_cst_0 : Ref sig .tc := ⟨.hbm, 334, rfl⟩
abbrev main_call19_v4 : Ref sig .tc := ⟨.hbm, 335, rfl⟩
abbrev main_call19_v5 : Ref sig .tc := ⟨.hbm, 336, rfl⟩
abbrev main_v156 : Ref sig .tc := ⟨.hbm, 337, rfl⟩
abbrev main_v157 : Ref sig .tc := ⟨.hbm, 338, rfl⟩
abbrev main_v158 : Ref sig .tc := ⟨.hbm, 339, rfl⟩
abbrev main_v159 : Ref sig .tc := ⟨.hbm, 340, rfl⟩
abbrev main_v160 : Ref sig .tc := ⟨.hbm, 341, rfl⟩
abbrev main_v161 : Ref sig .tc := ⟨.hbm, 342, rfl⟩
abbrev main_call20_v0 : Ref sig .tc := ⟨.hbm, 343, rfl⟩
abbrev main_v162 : Ref sig .tc := ⟨.hbm, 344, rfl⟩
abbrev main_c_36 : Ref sig .tc := ⟨.hbm, 345, rfl⟩
abbrev main_v163 : Ref sig .tc := ⟨.hbm, 346, rfl⟩
abbrev main_v164 : Ref sig .tc := ⟨.hbm, 347, rfl⟩
abbrev main_v165 : Ref sig .tc := ⟨.hbm, 348, rfl⟩
abbrev main_c_37 : Ref sig .tc := ⟨.hbm, 349, rfl⟩
abbrev main_v166 : Ref sig .tc := ⟨.hbm, 350, rfl⟩
abbrev main_c_38 : Ref sig .tc := ⟨.hbm, 351, rfl⟩
abbrev main_v167 : Ref sig .tc := ⟨.hbm, 352, rfl⟩
abbrev main_c_39 : Ref sig .tc := ⟨.hbm, 353, rfl⟩
abbrev main_call21_v0 : Ref sig .tc := ⟨.hbm, 354, rfl⟩
abbrev main_call21_v1 : Ref sig .tc := ⟨.hbm, 355, rfl⟩
abbrev main_call21_v2 : Ref sig .tc := ⟨.hbm, 356, rfl⟩
abbrev main_call21_v3 : Ref sig .tc := ⟨.hbm, 357, rfl⟩
abbrev main_call21_v4 : Ref sig .tc := ⟨.hbm, 358, rfl⟩
abbrev main_call21_v5 : Ref sig .tc := ⟨.hbm, 359, rfl⟩
abbrev main_call21_c : Ref sig .tc := ⟨.hbm, 360, rfl⟩
abbrev main_call21_v6 : Ref sig .tc := ⟨.hbm, 361, rfl⟩
abbrev main_call21_v7 : Ref sig .tc := ⟨.hbm, 362, rfl⟩
abbrev main_call21_c_0 : Ref sig .tc := ⟨.hbm, 363, rfl⟩
abbrev main_call21_v8 : Ref sig .tc := ⟨.hbm, 364, rfl⟩
abbrev main_v168 : Ref sig .tc := ⟨.hbm, 365, rfl⟩
abbrev main_c_40 : Ref sig .tc := ⟨.hbm, 366, rfl⟩
abbrev main_v169 : Ref sig .tc := ⟨.hbm, 367, rfl⟩
abbrev main_v170 : Ref sig .tc := ⟨.hbm, 368, rfl⟩
abbrev main_v171 : Ref sig .tc := ⟨.hbm, 369, rfl⟩
abbrev main_v172 : Ref sig .tc := ⟨.hbm, 370, rfl⟩
abbrev main_v173 : Ref sig .tc := ⟨.hbm, 371, rfl⟩
abbrev main_v174 : Ref sig .tc := ⟨.hbm, 372, rfl⟩
abbrev main_v175 : Ref sig .tc := ⟨.hbm, 373, rfl⟩
abbrev main_v176 : Ref sig .tc := ⟨.hbm, 374, rfl⟩
abbrev main_v177 : Ref sig .tc := ⟨.hbm, 375, rfl⟩
abbrev main_v178 : Ref sig .tc := ⟨.hbm, 376, rfl⟩
abbrev main_call22_v0 : Ref sig .tc := ⟨.hbm, 377, rfl⟩
abbrev main_call22_v1 : Ref sig .tc := ⟨.hbm, 378, rfl⟩
abbrev main_call22_cst : Ref sig .tc := ⟨.hbm, 379, rfl⟩
abbrev main_call22_v2 : Ref sig .tc := ⟨.hbm, 380, rfl⟩
abbrev main_call22_v3 : Ref sig .tc := ⟨.hbm, 381, rfl⟩
abbrev main_call22_cst_0 : Ref sig .tc := ⟨.hbm, 382, rfl⟩
abbrev main_call22_v4 : Ref sig .tc := ⟨.hbm, 383, rfl⟩
abbrev main_call22_v5 : Ref sig .tc := ⟨.hbm, 384, rfl⟩
abbrev main_v179 : Ref sig .tc := ⟨.hbm, 385, rfl⟩
abbrev main_v180 : Ref sig .tc := ⟨.hbm, 386, rfl⟩
abbrev main_v181 : Ref sig .tc := ⟨.hbm, 387, rfl⟩
abbrev main_v182 : Ref sig .tc := ⟨.hbm, 388, rfl⟩
abbrev main_v183 : Ref sig .tc := ⟨.hbm, 389, rfl⟩
abbrev main_v184 : Ref sig .tc := ⟨.hbm, 390, rfl⟩
abbrev main_call23_v0 : Ref sig .tc := ⟨.hbm, 391, rfl⟩
abbrev main_v185 : Ref sig .tc := ⟨.hbm, 392, rfl⟩
abbrev main_v186 : Ref sig .tc := ⟨.hbm, 393, rfl⟩

abbrev nD : Nat := 1
abbrev τ : Topo := Topo.v7x

variable {F : FTy → Type} [FloatOps F]
-- ==== Kernel6.lean ====
abbrev S2x4096x5632 : Shape := ⟨3, ![2, 4096, 5632]⟩
abbrev S2x256x5632 : Shape := ⟨3, ![2, 256, 5632]⟩
abbrev S2x5632x2048 : Shape := ⟨3, ![2, 5632, 2048]⟩
abbrev S2x4096x2048 : Shape := ⟨3, ![2, 4096, 2048]⟩
abbrev S2x256x2048 : Shape := ⟨3, ![2, 256, 2048]⟩
abbrev S2048 : Shape := ⟨1, ![2048]⟩
abbrev S4x6x3x2048 : Shape := ⟨4, ![4, 6, 3, 2048]⟩
abbrev S_ : Shape := ⟨0, ![]⟩
abbrev S4x6x5x2048 : Shape := ⟨4, ![4, 6, 5, 2048]⟩
abbrev S4x6x8x2048 : Shape := ⟨4, ![4, 6, 8, 2048]⟩
abbrev S2x4352x5632 : Shape := ⟨3, ![2, 4352, 5632]⟩
abbrev S8704x5632 : Shape := ⟨2, ![8704, 5632]⟩
abbrev S2x4352x2048 : Shape := ⟨3, ![2, 4352, 2048]⟩
abbrev S8704x2048 : Shape := ⟨2, ![8704, 2048]⟩
abbrev S1x2048 : Shape := ⟨2, ![1, 2048]⟩
abbrev S272x5632 : Shape := ⟨2, ![272, 5632]⟩
abbrev S1x5632x2048 : Shape := ⟨3, ![1, 5632, 2048]⟩
abbrev S272x2048 : Shape := ⟨2, ![272, 2048]⟩
abbrev S1x1x8x2048 : Shape := ⟨4, ![1, 1, 8, 2048]⟩
abbrev S272x1 : Shape := ⟨2, ![272, 1]⟩
abbrev S5632x2048 : Shape := ⟨2, ![5632, 2048]⟩
abbrev S8x2048 : Shape := ⟨2, ![8, 2048]⟩
abbrev S272 : Shape := ⟨1, ![272]⟩

abbrev nBuf : Space → Nat
  | .hbm => 21
  | .vmem => 14
  | .smem => 0
  | _ => 0

abbrev bufTy : (tb : Table) → Fin (tcTables nBuf tb) → BufTy
  | .hbm, ⟨0, _⟩ => ⟨S2x4096x5632, .f32⟩
  | .hbm, ⟨1, _⟩ => ⟨S2x256x5632, .f32⟩
  | .hbm, ⟨2, _⟩ => ⟨S2x5632x2048, .f32⟩
  | .hbm, ⟨3, _⟩ => ⟨S2x4096x2048, .f32⟩
  | .hbm, ⟨4, _⟩ => ⟨S2x256x2048, .f32⟩
  | .hbm, ⟨5, _⟩ => ⟨S2048, .f32⟩
  | .hbm, ⟨6, _⟩ => ⟨S2048, .f32⟩
  | .hbm, ⟨7, _⟩ => ⟨S4x6x3x2048, .f32⟩
  | .hbm, ⟨8, _⟩ => ⟨S_, .f32⟩
  | .hbm, ⟨9, _⟩ => ⟨S4x6x5x2048, .f32⟩
  | .hbm, ⟨10, _⟩ => ⟨S4x6x8x2048, .f32⟩
  | .hbm, ⟨11, _⟩ => ⟨S2x4352x5632, .f32⟩
  | .hbm, ⟨12, _⟩ => ⟨S8704x5632, .f32⟩
  | .hbm, ⟨13, _⟩ => ⟨S8704x5632, .bf16⟩
  | .hbm, ⟨14, _⟩ => ⟨S2x5632x2048, .bf16⟩
  | .hbm, ⟨15, _⟩ => ⟨S2x4352x2048, .f32⟩
  | .hbm, ⟨16, _⟩ => ⟨S8704x2048, .f32⟩
  | .hbm, ⟨17, _⟩ => ⟨S1x2048, .f32⟩
  | .hbm, ⟨18, _⟩ => ⟨S1x2048, .f32⟩
  | .hbm, ⟨19, _⟩ => ⟨S8704x2048, .f32⟩
  | .hbm, ⟨20, _⟩ => ⟨S8704x2048, .bf16⟩
  | .local _ .vmem, ⟨0, _⟩ => ⟨S272x5632, .bf16⟩
  | .local _ .vmem, ⟨1, _⟩ => ⟨S272x5632, .bf16⟩
  | .local _ .vmem, ⟨2, _⟩ => ⟨S1x5632x2048, .bf16⟩
  | .local _ .vmem, ⟨3, _⟩ => ⟨S272x2048, .f32⟩
  | .local _ .vmem, ⟨4, _⟩ => ⟨S272x2048, .f32⟩
  | .local _ .vmem, ⟨5, _⟩ => ⟨S1x2048, .f32⟩
  | .local _ .vmem, ⟨6, _⟩ => ⟨S1x1x8x2048, .f32⟩
  | .local _ .vmem, ⟨7, _⟩ => ⟨S1x2048, .f32⟩
  | .local _ .vmem, ⟨8, _⟩ => ⟨S1x1x8x2048, .f32⟩
  | .local _ .vmem, ⟨9, _⟩ => ⟨S1x1x8x2048, .f32⟩
  | .local _ .vmem, ⟨10, _⟩ => ⟨S272x2048, .f32⟩
  | .local _ .vmem, ⟨11, _⟩ => ⟨S272x2048, .f32⟩
  | .local _ .vmem, ⟨12, _⟩ => ⟨S272x2048, .bf16⟩
  | .local _ .vmem, ⟨13, _⟩ => ⟨S272x2048, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32_10 : BitVec 32 := 16#32
  let c0_i32_11 : BitVec 32 := 0#32
  let v33 : BitVec 1 := Scalar.cmpi .eq c16_i32_10 c0_i32_11
  let c1_i32_12 : BitVec 32 := 1#32
  let v34 : BitVec 32 := Scalar.select v33 c1_i32_12 c16_i32_10
  let v35 : BitVec 32 := Scalar.remsi arg0 v34
  let c0_i32_14 : BitVec 32 := 0#32
  let v37 : BitVec 1 := Scalar.cmpi .slt v35 c0_i32_14
  let c0_i32_15 : BitVec 32 := 0#32
  let v38 : BitVec 1 := Scalar.cmpi .slt v34 c0_i32_15
  let v39 : BitVec 1 := Scalar.xori v37 v38
  let c0_i32_13 : BitVec 32 := 0#32
  let v36 : BitVec 1 := Scalar.cmpi .ne v35 c0_i32_13
  let v40 : BitVec 1 := Scalar.andi v39 v36
  let v41 : BitVec 32 := Scalar.addi v35 v34
  let v42 : BitVec 32 := Scalar.select v40 v41 v35
  let c272_i32_16 : BitVec 32 := 272#32
  let v43 : BitVec 32 := Scalar.muli v42 c272_i32_16
  let c256_i32_17 : BitVec 32 := 256#32
  let v44 : BitVec 1 := Scalar.cmpi .slt v43 c256_i32_17
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c16_i32_10 : BitVec 32 := 16#32
  let c0_i32_11 : BitVec 32 := 0#32
  let v33 : BitVec 1 := Scalar.cmpi .eq c16_i32_10 c0_i32_11
  let c1_i32_12 : BitVec 32 := 1#32
  let v34 : BitVec 32 := Scalar.select v33 c1_i32_12 c16_i32_10
  let v35 : BitVec 32 := Scalar.remsi arg0 v34
  let c0_i32_14 : BitVec 32 := 0#32
  let v37 : BitVec 1 := Scalar.cmpi .slt v35 c0_i32_14
  let c0_i32_15 : BitVec 32 := 0#32
  let v38 : BitVec 1 := Scalar.cmpi .slt v34 c0_i32_15
  let v39 : BitVec 1 := Scalar.xori v37 v38
  let c0_i32_13 : BitVec 32 := 0#32
  let v36 : BitVec 1 := Scalar.cmpi .ne v35 c0_i32_13
  let v40 : BitVec 1 := Scalar.andi v39 v36
  let v41 : BitVec 32 := Scalar.addi v35 v34
  let v42 : BitVec 32 := Scalar.select v40 v41 v35
  let c272_i32_16 : BitVec 32 := 272#32
  let v43 : BitVec 32 := Scalar.muli v42 c272_i32_16
  let c256_i32_17 : BitVec 32 := 256#32
  let v44 : BitVec 1 := Scalar.cmpi .slt v43 c256_i32_17
  let v_true : BitVec 1 := 1#1
  let v47 : BitVec 1 := Scalar.xori v44 v_true
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c2_i32 : BitVec 32 := 2#32
  let c5_i32 : BitVec 32 := 5#32
  let c0_i32 : BitVec 32 := 0#32
  let c0_i32_0 : BitVec 32 := 0#32
  let c0_i32_1 : BitVec 32 := 0#32
  ![c2_i32.toNat, c5_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S272x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2x4096x5632 : Shape := ⟨3, ![2, 4096, 5632]⟩
abbrev S2x256x5632 : Shape := ⟨3, ![2, 256, 5632]⟩
abbrev S2x5632x2048 : Shape := ⟨3, ![2, 5632, 2048]⟩
abbrev S2x4096x2048 : Shape := ⟨3, ![2, 4096, 2048]⟩
abbrev S2x256x2048 : Shape := ⟨3, ![2, 256, 2048]⟩
abbrev S2048 : Shape := ⟨1, ![2048]⟩
abbrev S4x6x3x2048 : Shape := ⟨4, ![4, 6, 3, 2048]⟩
abbrev S1x1x3x2048 : Shape := ⟨4, ![1, 1, 3, 2048]⟩
abbrev S3x2048 : Shape := ⟨2, ![3, 2048]⟩
abbrev S2x2048 : Shape := ⟨2, ![2, 2048]⟩
abbrev S2x1x2048 : Shape := ⟨3, ![2, 1, 2048]⟩
abbrev S1x5632x2048 : Shape := ⟨3, ![1, 5632, 2048]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048 : Shape := ⟨2, ![1, 2048]⟩
abbrev S2x256 : Shape := ⟨2, ![2, 256]⟩
abbrev S2x256x1 : Shape := ⟨3, ![2, 256, 1]⟩
abbrev S2x4352x2048 : Shape := ⟨3, ![2, 4352, 2048]⟩
abbrev S8704x2048 : Shape := ⟨2, ![8704, 2048]⟩

abbrev nBuf : Space → Nat
  | .hbm => 124
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2x256x5632, .f32⟩
  | .hbm, ⟨2, _⟩ => ⟨S2x5632x2048, .f32⟩
  | .hbm, ⟨3, _⟩ => ⟨S2x4096x2048, .f32⟩
  | .hbm, ⟨4, _⟩ => ⟨S2x256x2048, .f32⟩
  | .hbm, ⟨5, _⟩ => ⟨S2048, .f32⟩
  | .hbm, ⟨6, _⟩ => ⟨S2048, .f32⟩
  | .hbm, ⟨7, _⟩ => ⟨S4x6x3x2048, .f32⟩
  | .hbm, ⟨8, _⟩ => ⟨S1x1x3x2048, .f32⟩
  | .hbm, ⟨9, _⟩ => ⟨S3x2048, .f32⟩
  | .hbm, ⟨10, _⟩ => ⟨S1x1x3x2048, .f32⟩
  | .hbm, ⟨11, _⟩ => ⟨S3x2048, .f32⟩
  | .hbm, ⟨12, _⟩ => ⟨S1x1x3x2048, .f32⟩
  | .hbm, ⟨13, _⟩ => ⟨S3x2048, .f32⟩
  | .hbm, ⟨14, _⟩ => ⟨S2x2048, .f32⟩
  | .hbm, ⟨15, _⟩ => ⟨S2x1x2048, .f32⟩
  | .hbm, ⟨16, _⟩ => ⟨S2x2048, .f32⟩
  | .hbm, ⟨17, _⟩ => ⟨S2x1x2048, .f32⟩
  | .hbm, ⟨18, _⟩ => ⟨S2x2048, .f32⟩
  | .hbm, ⟨19, _⟩ => ⟨S2x1x2048, .f32⟩
  | .hbm, ⟨20, _⟩ => ⟨S1x5632x2048, .f32⟩
  | .hbm, ⟨21, _⟩ => ⟨S5632x2048, .f32⟩
  | .hbm, ⟨22, _⟩ => ⟨S2x4096x2048, .f32⟩
  | .hbm, ⟨23, _⟩ => ⟨S2x4096x2048, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1, .f32⟩
  | .hbm, ⟨34, _⟩ => ⟨S2x4096x2048, .f32⟩
  | .hbm, ⟨35, _⟩ => ⟨S2x4096x2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x1, .f32⟩
  | .hbm, ⟨53, _⟩ => ⟨S2x4096x2048, .f32⟩
  | .hbm, ⟨54, _⟩ => ⟨S2x4096x2048, .f32⟩
  | .hbm, ⟨55, _⟩ => ⟨S1x1x2048, .f32⟩
  | .hbm, ⟨56, _⟩ => ⟨S2x4096x2048, .f32⟩
  | .hbm, ⟨57, _⟩ => ⟨S2x4096x2048, .f32⟩
  | .hbm, ⟨58, _⟩ => ⟨S_, .f32⟩
  | .hbm, ⟨59, _⟩ => ⟨S2x1x2048, .f32⟩
  | .hbm, ⟨60, _⟩ => ⟨S2x1x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S2048, .f32⟩
  | .hbm, ⟨71, _⟩ => ⟨S1x5632x2048, .f32⟩
  | .hbm, ⟨72, _⟩ => ⟨S5632x2048, .f32⟩
  | .hbm, ⟨73, _⟩ => ⟨S2x256x2048, .f32⟩
  | .hbm, ⟨74, _⟩ => ⟨S2x256x2048, .f32⟩
  | .hbm, ⟨75, _⟩ => ⟨S_, .f32⟩
  | .hbm, ⟨76, _⟩ => ⟨S2x256, .f32⟩
  | .hbm, ⟨77, _⟩ => ⟨S2x256x1, .f32⟩
  | .hbm, ⟨78, _⟩ => ⟨S_, .f32⟩
  | .hbm, ⟨79, _⟩ => ⟨S2x256x1, .f32⟩
  | .hbm, ⟨80, _⟩ => ⟨S2x256x1, .f32⟩
  | .hbm, ⟨81, _⟩ => ⟨S_, .f32⟩
  | .hbm, ⟨82, _⟩ => ⟨S2x256x1, .f32⟩
  | .hbm, ⟨83, _⟩ => ⟨S2x256x1, .f32⟩
  | .hbm, ⟨84, _⟩ => ⟨S2x256x1, .f32⟩
  | .hbm, ⟨85, _⟩ => ⟨S2x256x2048, .f32⟩
  | .hbm, ⟨86, _⟩ => ⟨S2x256x2048, .f32⟩
  | .hbm, ⟨87, _⟩ => ⟨S1x1x2048, .f32⟩
  | .hbm, ⟨88, _⟩ => ⟨S2x256x2048, .f32⟩
  | .hbm, ⟨89, _⟩ => ⟨S2x256x2048, .f32⟩
  | .hbm, ⟨90, _⟩ => ⟨S1x1x2048, .f32⟩
  | .hbm, ⟨91, _⟩ => ⟨S2x256x2048, .f32⟩
  | .hbm, ⟨92, _⟩ => ⟨S2x256x2048, .f32⟩
  | .hbm, ⟨93, _⟩ => ⟨S2x256x2048, .f32⟩
  | .hbm, ⟨94, _⟩ => ⟨S2x256x2048, .f32⟩
  | .hbm, ⟨95, _⟩ => ⟨S_, .f32⟩
  | .hbm, ⟨96, _⟩ => ⟨S2x256, .f32⟩
  | .hbm, ⟨97, _⟩ => ⟨S2x256x1, .f32⟩
  | .hbm, ⟨98, _⟩ => ⟨S_, .f32⟩
  | .hbm, ⟨99, _⟩ => ⟨S2x256x1, .f32⟩
  | .hbm, ⟨100, _⟩ => ⟨S2x256x1, .f32⟩
  | .hbm, ⟨101, _⟩ => ⟨S_, .f32⟩
  | .hbm, ⟨102, _⟩ => ⟨S2x256x1, .f32⟩
  | .hbm, ⟨103, _⟩ => ⟨S2x256x1, .f32⟩
  | .hbm, ⟨104, _⟩ => ⟨S2x256x1, .f32⟩
  | .hbm, ⟨105, _⟩ => ⟨S2x256x2048, .f32⟩
  | .hbm, ⟨106, _⟩ => ⟨S2x256x2048, .f32⟩
  | .hbm, ⟨107, _⟩ => ⟨S1x1x2048, .f32⟩
  | .hbm, ⟨108, _⟩ => ⟨S2x256x2048, .f32⟩
  | .hbm, ⟨109, _⟩ => ⟨S2x256x2048, .f32⟩
  | .hbm, ⟨110, _⟩ => ⟨S_, .f32⟩
  | .hbm, ⟨111, _⟩ => ⟨S2048, .f32⟩
  | .hbm, ⟨112, _⟩ => ⟨S2048, .f32⟩
  | .hbm, ⟨113, _⟩ => ⟨S1x1x2048, .f32⟩
  | .hbm, ⟨114, _⟩ => ⟨S2x256x2048, .f32⟩
  | .hbm, ⟨115, _⟩ => ⟨S2x256x2048, .f32⟩
  | .hbm, ⟨116, _⟩ => ⟨S1x1x2048, .f32⟩
  | .hbm, ⟨117, _⟩ => ⟨S2x256x2048, .f32⟩
  | .hbm, ⟨118, _⟩ => ⟨S2x256x2048, .f32⟩
  | .hbm, ⟨119, _⟩ => ⟨S2x4352x2048, .f32⟩
  | .hbm, ⟨120, _⟩ => ⟨S8704x2048, .f32⟩
  | .hbm, ⟨121, _⟩ => ⟨S2x4352x2048, .f32⟩
  | .hbm, ⟨122, _⟩ => ⟨S8704x2048, .f32⟩
  | .hbm, ⟨123, _⟩ => ⟨S8704x2048, .bf16⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩

abbrev nD : Nat := 1
abbrev τ : Topo := Topo.v7x

variable {F : FTy → Type} [FloatOps F]
-- ==== Proof.AttnBody.lean ====
/-
  What one grid point of the attention kernel leaves in its output block: the 256 context rows, then eight tiles of 512
  rows, each the same function of the tile's queries, the keys and the values. The kernel computes a tile's scores, its
  exponentials and its weighted sum two tiles at a time, in four scratch buffers of which each trip of the loop
  overwrites two while it reads the other two; the induction below says what the scratch buffers hold before each trip.
-/
module

public import proofs.«01_k».proof.Proof.Gen.KernelIdeal.Frame.Runs
public import Idealize.ShloMosaic.Lib.Pipeline.ValueKit
public import Idealize.ShloMosaic.Lib.VecWindow

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-! ## The block's value -/

theorem inbQ (t : Fin 8) : ∀ a, (![0, 256 + 512 * t.val, 0] : Fin 3 → ℕ) a + S1x512x192.size a ≤ S1x4352x192.size a := by
  revert t; decide

/-- The queries of tile `t`. -/
def tileQ (q : Vec F S1x4352x192 .bf16) (t : Fin 8) : Vec F S1x512x192 .bf16 :=
  View.ld q (Rect.unit (s := S1x4352x192) ![0, 256 + 512 * t.val, 0] S1x512x192.size (inbQ t))

/-- The scores of tile `t` against every key. -/
def tileS (q k : Vec F S1x4352x192 .bf16) (t : Fin 8) : Vec F S512x4352 .f32 := k0_pay12 (tileQ q t) k

/-- The result rows of tile `t`. -/
def tileO (q k : Vec F S1x4352x192 .bf16) (v : Vec F S1x4352x256 .bf16) (t : Fin 8) : Vec F S512x128 .bf16 :=
  k0_pay15 (k0_pay14 (tileS q k t)) (k0_pay10 v)

/-- The result rows of the context: its queries against its own keys only. -/
def ctxO (q k : Vec F S1x4352x192 .bf16) (v : Vec F S1x4352x256 .bf16) : Vec F S256x128 .bf16 :=
  k0_pay11 (View.ld q (Rect.unit (s := S1x4352x192) ![0, 0, 0] S1x256x192.size inb_S1x4352x192_S1x256x192_0_0_0))
    (View.ld k (Rect.unit (s := S1x4352x192) ![0, 0, 0] S1x256x192.size inb_S1x4352x192_S1x256x192_0_0_0))
    (View.ld v (Rect.unit (s := S1x4352x256) ![0, 0, 0] S1x256x256.size inb_S1x4352x256_S1x256x256_0_0_0))

/-- The block a grid point leaves. -/
def blockO (q k : Vec F S1x4352x192 .bf16) (v : Vec F S1x4352x256 .bf16) : Vec F S4352x128 .bf16 := fun y =>
  if h : (y 0).val < 256 then ctxO q k v (ix2 ⟨(y 0).val, h⟩ ⟨(y 1).val, (y 1).isLt⟩)
  else tileO q k v ⟨((y 0).val - 256) / 512, by have : (y 0).val < 4352 := (y 0).isLt; omega⟩
    (ix2 ⟨((y 0).val - 256) % 512, Nat.mod_lt _ (by decide)⟩ ⟨(y 1).val, (y 1).isLt⟩)

/-! ## One trip of the loop -/

theorem trips_eq : k0_t1_loop.trips = 3 := by decide

theorem off1_eq : ∀ k : Fin k0_t1_loop.trips, k0_off1 k = ![0, 256 + 512 * (2 * k.val + 2), 0] := by decide +kernel
theorem off3_eq : ∀ k : Fin k0_t1_loop.trips, k0_off3 k = ![0, 256 + 512 * (2 * k.val + 3), 0] := by decide +kernel
theorem off2_even : ∀ k : Fin k0_t1_loop.trips, k0_off2 k 2#32 = ![256 + 512 * (2 * k.val), 0] := by decide +kernel
theorem off2_odd : ∀ k : Fin k0_t1_loop.trips, k0_off2 k 1#32 = ![256 + 512 * (2 * k.val + 1), 0] := by decide +kernel

variable (𝒱 : Variants) (c : Dev nD) (bd : Option 𝒱.V) (i : grid0.Coords)
  (a2 : Memref sig .tc .vmem S1x4352x192 .bf16) (h2 : a2.IsWhole) (a3 : Memref sig .tc .vmem S1x4352x192 .bf16) (h3 : a3.IsWhole)
  (a4 : Memref sig .tc .vmem S1x4352x256 .bf16) (h4 : a4.IsWhole) (a5 : Memref sig .tc .vmem S4352x128 .bf16) (h5 : a5.IsWhole)
  (a6 : Memref sig .tc .vmem S512x4352 .f32) (h6 : a6.IsWhole) (a7 : Memref sig .tc .vmem S512x4352 .f32) (h7 : a7.IsWhole)
  (a8 : Memref sig .tc .vmem S512x4352 .bf16) (h8 : a8.IsWhole) (a9 : Memref sig .tc .vmem S512x4352 .bf16) (h9 : a9.IsWhole) (w : BitVec 32)

/-- The pieces one trip writes, in full. -/
theorem trip_pieces (X2 : BufTy.Contents (Elt F) a2.view.ty) (X3 : BufTy.Contents (Elt F) a3.view.ty) (X4 : BufTy.Contents (Elt F) a4.view.ty)
    (k : Fin k0_t1_loop.trips) (f5 : BufTy.Contents (Elt F) a5.view.ty) (f6 : BufTy.Contents (Elt F) a6.view.ty)
    (f7 : BufTy.Contents (Elt F) a7.view.ty) (f8 : BufTy.Contents (Elt F) a8.view.ty) (f9 : BufTy.Contents (Elt F) a9.view.ty) :
    tripL_k0_t1 𝒱 c bd i a2 h2 a3 h3 a4 h4 a5 h5 a6 h6 a7 h7 a8 h8 a9 h9 w X2 X3 X4 k f5 f6 f7 f8 f9
    = ([⟨Rect.unit (s := S4352x128) (k0_off2 k 1#32) S512x128.size (k0_off2_inb k 0),
          k0_pay15 (k0_pay4 (a7.view.read (Elt F) f7)) (k0_pay10 (a4.view.read (Elt F) X4))⟩,
        ⟨Rect.unit (s := S4352x128) (k0_off2 k 2#32) S512x128.size (k0_off2_inb k 1),
          k0_pay15 (a8.view.read (Elt F) f8) (k0_pay10 (a4.view.read (Elt F) X4))⟩],
      [⟨Rect.unit (s := S512x4352) ![0, 0] S512x4352.size inb_S512x4352_S512x4352_0_0,
          k0_pay3 (a2.view.readAt (Elt F) (Rect.unit (s := S1x4352x192) (k0_off1 k) S1x512x192.size (k0_off1_inb k)).toLoadRect X2) (a3.view.read (Elt F) X3)⟩],
      [⟨Rect.unit (s := S512x4352) ![0, 0] S512x4352.size inb_S512x4352_S512x4352_0_0,
          k0_pay8 (a2.view.readAt (Elt F) (Rect.unit (s := S1x4352x192) (k0_off3 k) S1x512x192.size (k0_off3_inb k)).toLoadRect X2) (a3.view.read (Elt F) X3)⟩],
      [⟨Rect.unit (s := S512x4352) ![0, 0] S512x4352.size inb_S512x4352_S512x4352_0_0,
          k0_pay9 (k0_pay3 (a2.view.readAt (Elt F) (Rect.unit (s := S1x4352x192) (k0_off1 k) S1x512x192.size (k0_off1_inb k)).toLoadRect X2) (a3.view.read (Elt F) X3))⟩],
      [⟨Rect.unit (s := S512x4352) ![0, 0] S512x4352.size inb_S512x4352_S512x4352_0_0, k0_pay4 (a7.view.read (Elt F) f7)⟩]) := by
  have raw : tripL_k0_t1 𝒱 c bd i a2 h2 a3 h3 a4 h4 a5 h5 a6 h6 a7 h7 a8 h8 a9 h9 w X2 X3 X4 k f5 f6 f7 f8 f9
    = ([⟨Rect.unit (s := S4352x128) (k0_off2 k 1#32) S512x128.size (k0_off2_inb k 0),
          k0_pay15 (a9.view.readCov [(⟨(Rect.unit (s := S512x4352) ![0, 0] S512x4352.size inb_S512x4352_S512x4352_0_0), k0_pay4 (a7.view.readAt (Elt F) (Rect.unit (s := S512x4352) ![0, 0] S512x4352.size inb_S512x4352_S512x4352_0_0).toLoadRect f7)⟩ : View.Piece (Elt F) S512x4352 .bf16)] (Rect.unit (s := S512x4352) ![0, 0] S512x4352.size inb_S512x4352_S512x4352_0_0).toLoadRect) (k0_pay10 (a4.view.readAt (Elt F) (Rect.unit (s := S1x4352x256) ![0, 0, 0] S1x4352x256.size inb_S1x4352x256_S1x4352x256_0_0_0).toLoadRect X4))⟩,
        ⟨Rect.unit (s := S4352x128) (k0_off2 k 2#32) S512x128.size (k0_off2_inb k 1),
          k0_pay7 (k0_pay5 (a8.view.readAt (Elt F) (Rect.unit (s := S512x4352) ![0, 0] S512x4352.size inb_S512x4352_S512x4352_0_0).toLoadRect f8) (a4.view.readAt (Elt F) (Rect.unit (s := S1x4352x256) ![0, 0, 0] S1x4352x256.size inb_S1x4352x256_S1x4352x256_0_0_0).toLoadRect X4)) (k0_pay6 (a8.view.readAt (Elt F) (Rect.unit (s := S512x4352) ![0, 0] S512x4352.size inb_S512x4352_S512x4352_0_0).toLoadRect f8) (a4.view.readAt (Elt F) (Rect.unit (s := S1x4352x256) ![0, 0, 0] S1x4352x256.size inb_S1x4352x256_S1x4352x256_0_0_0).toLoadRect X4))⟩],
      [⟨(Rect.unit (s := S512x4352) ![0, 0] S512x4352.size inb_S512x4352_S512x4352_0_0), k0_pay3 (a2.view.readAt (Elt F) (Rect.unit (s := S1x4352x192) (k0_off1 k) S1x512x192.size (k0_off1_inb k)).toLoadRect X2) (a3.view.readAt (Elt F) (Rect.unit (s := S1x4352x192) ![0, 0, 0] S1x4352x192.size inb_S1x4352x192_S1x4352x192_0_0_0).toLoadRect X3)⟩],
      [⟨(Rect.unit (s := S512x4352) ![0, 0] S512x4352.size inb_S512x4352_S512x4352_0_0), k0_pay8 (a2.view.readAt (Elt F) (Rect.unit (s := S1x4352x192) (k0_off3 k) S1x512x192.size (k0_off3_inb k)).toLoadRect X2) (a3.view.readAt (Elt F) (Rect.unit (s := S1x4352x192) ![0, 0, 0] S1x4352x192.size inb_S1x4352x192_S1x4352x192_0_0_0).toLoadRect X3)⟩],
      [⟨(Rect.unit (s := S512x4352) ![0, 0] S512x4352.size inb_S512x4352_S512x4352_0_0), k0_pay9 (a6.view.readCov [(⟨(Rect.unit (s := S512x4352) ![0, 0] S512x4352.size inb_S512x4352_S512x4352_0_0), k0_pay3 (a2.view.readAt (Elt F) (Rect.unit (s := S1x4352x192) (k0_off1 k) S1x512x192.size (k0_off1_inb k)).toLoadRect X2) (a3.view.readAt (Elt F) (Rect.unit (s := S1x4352x192) ![0, 0, 0] S1x4352x192.size inb_S1x4352x192_S1x4352x192_0_0_0).toLoadRect X3)⟩ : View.Piece (Elt F) S512x4352 .f32)] (Rect.unit (s := S512x4352) ![0, 0] S512x4352.size inb_S512x4352_S512x4352_0_0).toLoadRect)⟩],
      [⟨(Rect.unit (s := S512x4352) ![0, 0] S512x4352.size inb_S512x4352_S512x4352_0_0), k0_pay4 (a7.view.readAt (Elt F) (Rect.unit (s := S512x4352) ![0, 0] S512x4352.size inb_S512x4352_S512x4352_0_0).toLoadRect f7)⟩]) := by
    unfold tripL_k0_t1
    unfold trip_k0_t1
    dsimp only
    sl_unfold_words
    rfl
  rw [raw, View.readAt_full (Val := Elt F) a7.view f7 inb_S512x4352_S512x4352_0_0,
    View.readAt_full (Val := Elt F) a8.view f8 inb_S512x4352_S512x4352_0_0,
    View.readAt_full (Val := Elt F) a4.view X4 inb_S1x4352x256_S1x4352x256_0_0_0,
    View.readAt_full (Val := Elt F) a3.view X3 inb_S1x4352x192_S1x4352x192_0_0_0,
    View.readCov_full (Val := Elt F) a9.view inb_S512x4352_S512x4352_0_0 inb_S512x4352_S512x4352_0_0 (k0_pay4 (a7.view.read (Elt F) f7)) [],
    View.readCov_full (Val := Elt F) a6.view inb_S512x4352_S512x4352_0_0 inb_S512x4352_S512x4352_0_0 (k0_pay3 (a2.view.readAt (Elt F) (Rect.unit (s := S1x4352x192) (k0_off1 k) S1x512x192.size (k0_off1_inb k)).toLoadRect X2) (a3.view.read (Elt F) X3)) []]
  rfl

/-! ## The loop: what the buffers hold before trip `n` -/

theorem ldQ (q : Vec F S1x4352x192 .bf16) (X2 : BufTy.Contents (Elt F) a2.view.ty) (hX2 : a2.view.read (Elt F) X2 = q) (t : Fin 8)
    (off : Fin 3 → ℕ) (hoff : off = ![0, 256 + 512 * t.val, 0]) (inb : ∀ a, off a + S1x512x192.size a ≤ S1x4352x192.size a) :
    a2.view.readAt (Elt F) (Rect.unit (s := S1x4352x192) off S1x512x192.size inb).toLoadRect X2 = tileQ q t := by
  subst hoff
  subst hX2
  rfl

/-- Before trip `n` the second score buffer holds the scores of tile `2n + 1`, the first buffer of exponentials those of
    tile `2n`, and the output block the rows of the tiles before `2n`, its other rows as the loop found them. -/
theorem loop_state (q k : Vec F S1x4352x192 .bf16) (v : Vec F S1x4352x256 .bf16)
    (X2 : BufTy.Contents (Elt F) a2.view.ty) (X3 : BufTy.Contents (Elt F) a3.view.ty) (X4 : BufTy.Contents (Elt F) a4.view.ty)
    (hX2 : a2.view.read (Elt F) X2 = q) (hX3 : a3.view.read (Elt F) X3 = k) (hX4 : a4.view.read (Elt F) X4 = v)
    (G5 : BufTy.Contents (Elt F) a5.view.ty) (G6 : BufTy.Contents (Elt F) a6.view.ty)
    (G7 : BufTy.Contents (Elt F) a7.view.ty) (G8 : BufTy.Contents (Elt F) a8.view.ty) (G9 : BufTy.Contents (Elt F) a9.view.ty)
    (hG7 : a7.view.read (Elt F) G7 = tileS q k 1) (hG8 : a8.view.read (Elt F) G8 = k0_pay14 (tileS q k 0)) :
    ∀ (n : ℕ) (hn : n ≤ 3),
      a7.view.read (Elt F) (a7.view.writes (Elt F) G7 (pb_k0_t1 𝒱 c bd i a2 h2 a3 h3 a4 h4 a5 h5 a6 h6 a7 h7 a8 h8 a9 h9 w X2 X3 X4 G5 G6 G7 G8 G9 n).2.2.1)
        = tileS q k ⟨2 * n + 1, by omega⟩
      ∧ a8.view.read (Elt F) (a8.view.writes (Elt F) G8 (pb_k0_t1 𝒱 c bd i a2 h2 a3 h3 a4 h4 a5 h5 a6 h6 a7 h7 a8 h8 a9 h9 w X2 X3 X4 G5 G6 G7 G8 G9 n).2.2.2.1)
        = k0_pay14 (tileS q k ⟨2 * n, by omega⟩)
      ∧ (∀ (t : Fin 8) (x : S512x128.Idx) (y : S4352x128.Idx), t.val < 2 * n → (y 0).val = 256 + 512 * t.val + (x 0).val → (y 1).val = (x 1).val →
          a5.view.read (Elt F) (a5.view.writes (Elt F) G5 (pb_k0_t1 𝒱 c bd i a2 h2 a3 h3 a4 h4 a5 h5 a6 h6 a7 h7 a8 h8 a9 h9 w X2 X3 X4 G5 G6 G7 G8 G9 n).1) y
            = tileO q k v t x)
      ∧ (∀ y : S4352x128.Idx, (y 0).val < 256 →
          a5.view.read (Elt F) (a5.view.writes (Elt F) G5 (pb_k0_t1 𝒱 c bd i a2 h2 a3 h3 a4 h4 a5 h5 a6 h6 a7 h7 a8 h8 a9 h9 w X2 X3 X4 G5 G6 G7 G8 G9 n).1) y
            = a5.view.read (Elt F) G5 y) := by
  intro n
  induction n with
  | zero =>
    intro _
    rw [pb_k0_t1.eq_1]
    exact ⟨hG7, hG8, fun t x y ht => absurd ht (by omega), fun y _ => rfl⟩
  | succ n ih =>
    intro hn
    obtain ⟨i7, i8, i5, i0⟩ := ih (by omega)
    have hlt : n < k0_t1_loop.trips := by rw [trips_eq]; omega
    have hs : pb_k0_t1 𝒱 c bd i a2 h2 a3 h3 a4 h4 a5 h5 a6 h6 a7 h7 a8 h8 a9 h9 w X2 X3 X4 G5 G6 G7 G8 G9 (n + 1) = _ := pb_k0_t1_succ 𝒱 c bd i a2 h2 a3 h3 a4 h4 a5 h5 a6 h6 a7 h7 a8 h8 a9 h9 w X2 X3 X4 G5 G6 G7 G8 G9 ⟨n, hlt⟩
    rw [trip_pieces] at hs
    rw [hs]
    clear hs
    dsimp only [List.cons_append, List.nil_append]
    generalize pb_k0_t1 𝒱 c bd i a2 h2 a3 h3 a4 h4 a5 h5 a6 h6 a7 h7 a8 h8 a9 h9 w X2 X3 X4 G5 G6 G7 G8 G9 n = B at *
    rw [i7, i8, hX3, hX4]
    refine ⟨?_, ?_, ?_, ?_⟩
    · refine (View.read_writes_full a7.view G7 inb_S512x4352_S512x4352_0_0 _ _).trans ?_
      rw [ldQ a2 q X2 hX2 ⟨2 * n + 3, by omega⟩ _ (off3_eq ⟨n, hlt⟩)]
      rfl
    · refine (View.read_writes_full a8.view G8 inb_S512x4352_S512x4352_0_0 _ _).trans ?_
      rw [ldQ a2 q X2 hX2 ⟨2 * n + 2, by omega⟩ _ (off1_eq ⟨n, hlt⟩)]
      rfl
    · intro t x y ht e0 e1
      have x0 : (x 0).val < 512 := (x 0).isLt
      rcases Nat.lt_trichotomy t.val (2 * n) with h | h | h
      · refine (View.read_writes_cons_rows_of_not_mem a5.view G5 (o := 256 + 512 * (2 * n + 1)) (W := 512) (k0_off2_inb ⟨n, hlt⟩ 0) _ _ y (off2_odd ⟨n, hlt⟩) rfl (Or.inl (by omega))).trans ?_
        refine (View.read_writes_cons_rows_of_not_mem a5.view G5 (o := 256 + 512 * (2 * n)) (W := 512) (k0_off2_inb ⟨n, hlt⟩ 1) _ _ y (off2_even ⟨n, hlt⟩) rfl (Or.inl (by omega))).trans ?_
        exact i5 t x y h e0 e1
      · refine (View.read_writes_cons_rows_of_not_mem a5.view G5 (o := 256 + 512 * (2 * n + 1)) (W := 512) (k0_off2_inb ⟨n, hlt⟩ 0) _ _ y (off2_odd ⟨n, hlt⟩) rfl (Or.inl (by omega))).trans ?_
        refine (View.read_writes_cons_rows_of_mem a5.view G5 (o := 256 + 512 * (2 * n)) (k0_off2_inb ⟨n, hlt⟩ 1) _ _ y x (off2_even ⟨n, hlt⟩) (by rw [e0, h]) e1).trans ?_
        rw [show t = ⟨2 * n, by omega⟩ from Fin.ext h]
        rfl
      · have h' : t.val = 2 * n + 1 := by omega
        refine (View.read_writes_cons_rows_of_mem a5.view G5 (o := 256 + 512 * (2 * n + 1)) (k0_off2_inb ⟨n, hlt⟩ 0) _ _ y x (off2_odd ⟨n, hlt⟩) (by rw [e0, h']) e1).trans ?_
        rw [show t = ⟨2 * n + 1, by omega⟩ from Fin.ext h']
        rfl
    · intro y hy
      refine (View.read_writes_cons_rows_of_not_mem a5.view G5 (o := 256 + 512 * (2 * n + 1)) (W := 512) (k0_off2_inb ⟨n, hlt⟩ 0) _ _ y (off2_odd ⟨n, hlt⟩) rfl (Or.inl (by omega))).trans ?_
      refine (View.read_writes_cons_rows_of_not_mem a5.view G5 (o := 256 + 512 * (2 * n)) (W := 512) (k0_off2_inb ⟨n, hlt⟩ 1) _ _ y (off2_even ⟨n, hlt⟩) rfl (Or.inl (by omega))).trans ?_
      exact i0 y hy

/-- The block after the last two tiles are written over what the loop left. -/
theorem block_value (q k : Vec F S1x4352x192 .bf16) (v : Vec F S1x4352x256 .bf16) (f5 : BufTy.Contents (Elt F) a5.view.ty)
    (L : List (View.Piece (Elt F) S4352x128 .bf16)) (u0 : Vec F S256x128 .bf16) (u6 u7 : Vec F S512x128 .bf16)
    (hL : ∀ (t : Fin 8) (x : S512x128.Idx) (y : S4352x128.Idx), t.val < 6 → (y 0).val = 256 + 512 * t.val + (x 0).val → (y 1).val = (x 1).val →
      a5.view.read (Elt F) (a5.view.writes (Elt F) (a5.view.writes (Elt F) f5 [⟨Rect.unit (s := S4352x128) ![0, 0] S256x128.size inb_S4352x128_S256x128_0_0, u0⟩]) L) y
        = tileO q k v t x)
    (hL0 : ∀ y : S4352x128.Idx, (y 0).val < 256 →
      a5.view.read (Elt F) (a5.view.writes (Elt F) (a5.view.writes (Elt F) f5 [⟨Rect.unit (s := S4352x128) ![0, 0] S256x128.size inb_S4352x128_S256x128_0_0, u0⟩]) L) y
        = a5.view.read (Elt F) (a5.view.writes (Elt F) f5 [⟨Rect.unit (s := S4352x128) ![0, 0] S256x128.size inb_S4352x128_S256x128_0_0, u0⟩]) y)
    (h0 : u0 = ctxO q k v) (h6 : u6 = tileO q k v 6) (h7 : u7 = tileO q k v 7) :
    a5.view.read (Elt F) (a5.view.writes (Elt F) f5
      (⟨Rect.unit (s := S4352x128) ![3840, 0] S512x128.size inb_S4352x128_S512x128_3840_0, u7⟩
        :: ⟨Rect.unit (s := S4352x128) ![3328, 0] S512x128.size inb_S4352x128_S512x128_3328_0, u6⟩
        :: (L ++ [⟨Rect.unit (s := S4352x128) ![0, 0] S256x128.size inb_S4352x128_S256x128_0_0, u0⟩]))) = blockO q k v := by
  subst h0 h6 h7
  funext y
  have y0 : (y 0).val < 4352 := (y 0).isLt
  have y1 : (y 1).val < 128 := (y 1).isLt
  unfold blockO
  by_cases hy : (y 0).val < 256
  · rw [dif_pos hy]
    refine (View.read_writes_cons_rows_of_not_mem a5.view f5 (o := 3840) (W := 512) inb_S4352x128_S512x128_3840_0 _ _ y rfl rfl (Or.inl (by omega))).trans ?_
    refine (View.read_writes_cons_rows_of_not_mem a5.view f5 (o := 3328) (W := 512) inb_S4352x128_S512x128_3328_0 _ _ y rfl rfl (Or.inl (by omega))).trans ?_
    rw [View.writes_append]
    refine (hL0 y hy).trans ?_
    exact View.read_writes_cons_rows_of_mem a5.view f5 (o := 0) inb_S4352x128_S256x128_0_0 _ _ y (ix2 ⟨(y 0).val, hy⟩ ⟨(y 1).val, (y 1).isLt⟩) rfl (Nat.zero_add _).symm rfl
  · rw [dif_neg hy]
    by_cases c7 : 3840 ≤ (y 0).val
    · refine (View.read_writes_cons_rows_of_mem a5.view f5 (o := 3840) inb_S4352x128_S512x128_3840_0 _ _ y
        (ix2 ⟨((y 0).val - 256) % 512, Nat.mod_lt _ (by decide)⟩ ⟨(y 1).val, (y 1).isLt⟩) rfl ?_ rfl).trans ?_
      · show (y 0).val = 3840 + ((y 0).val - 256) % 512
        omega
      · rw [show (⟨((y 0).val - 256) / 512, by omega⟩ : Fin 8) = 7 from Fin.ext (by show ((y 0).val - 256) / 512 = 7; omega)]
    refine (View.read_writes_cons_rows_of_not_mem a5.view f5 (o := 3840) (W := 512) inb_S4352x128_S512x128_3840_0 _ _ y rfl rfl (Or.inl (by omega))).trans ?_
    by_cases c6 : 3328 ≤ (y 0).val
    · refine (View.read_writes_cons_rows_of_mem a5.view f5 (o := 3328) inb_S4352x128_S512x128_3328_0 _ _ y
        (ix2 ⟨((y 0).val - 256) % 512, Nat.mod_lt _ (by decide)⟩ ⟨(y 1).val, (y 1).isLt⟩) rfl ?_ rfl).trans ?_
      · show (y 0).val = 3328 + ((y 0).val - 256) % 512
        omega
      · rw [show (⟨((y 0).val - 256) / 512, by omega⟩ : Fin 8) = 6 from Fin.ext (by show ((y 0).val - 256) / 512 = 6; omega)]
    refine (View.read_writes_cons_rows_of_not_mem a5.view f5 (o := 3328) (W := 512) inb_S4352x128_S512x128_3328_0 _ _ y rfl rfl (Or.inl (by omega))).trans ?_
    rw [View.writes_append]
    refine hL ⟨((y 0).val - 256) / 512, by omega⟩ (ix2 ⟨((y 0).val - 256) % 512, Nat.mod_lt _ (by decide)⟩ ⟨(y 1).val, (y 1).isLt⟩) y ?_ ?_ rfl
    · show ((y 0).val - 256) / 512 < 6
      omega
    · show (y 0).val = 256 + 512 * (((y 0).val - 256) / 512) + ((y 0).val - 256) % 512
      omega

end Cert.KernelIdeal.Attn

end
-- ==== Proof.AttnRun.lean ====
module
public import proofs.«01_k».proof.Proof.AttnBody
public import proofs.«01_k».proof.Proof.Gen.KernelIdeal.Frame.Runs
public import proofs.«01_k».proof.Defs
public import Idealize.ShloMosaic.Lib.Claim
@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Pipeline (Dat Cfg Window BodyObligation cellOf)
variable {F : FTy → Type} [FloatOps F]
local notation "𝕄" => MT nD τ sig Unit (Elt F) ℕ (UR sig nD τ) ℕ

/-- A load of the whole buffer over stores `L` that follow a first store `p`, read as a load after `L`. -/
theorem readCov_tail {s : Shape} {e : EltTy} {sp : Space} (v : View sig .tc sp s e) {off : Fin s.rank → ℕ} (inb : ∀ a, off a + s.size a ≤ s.size a)
    (L : List (View.Piece (Elt F) s e)) (p : View.Piece (Elt F) s e) :
    v.readCov (L ++ [p]) (Rect.unit off s.size inb).toLoadRect = v.read (Elt F) (v.writes (Elt F) (v.writes (Elt F) v.junk [p]) L) := by
  rw [← View.writes_append]
  exact View.readAt_full v _ inb

/-- The body's triple: on whole staging buffers it leaves the output's at `blockO` of the inputs' contents. -/
theorem body_run (c : Dev nD) (i : grid0.Coords) (arg2 : Memref sig .tc .vmem S1x4352x192 .bf16) (harg2 : arg2.IsWhole) (arg3 : Memref sig .tc .vmem S1x4352x192 .bf16) (harg3 : arg3.IsWhole) (arg4 : Memref sig .tc .vmem S1x4352x256 .bf16) (harg4 : arg4.IsWhole) (arg5 : Memref sig .tc .vmem S4352x128 .bf16) (harg5 : arg5.IsWhole) (arg6 : Memref sig .tc .vmem S512x4352 .f32) (harg6 : arg6.IsWhole) (arg7 : Memref sig .tc .vmem S512x4352 .f32) (harg7 : arg7.IsWhole) (arg8 : Memref sig .tc .vmem S512x4352 .bf16) (harg8 : arg8.IsWhole) (arg9 : Memref sig .tc .vmem S512x4352 .bf16) (harg9 : arg9.IsWhole) (x0 x1 : Vec F S1x4352x192 .bf16) (x2 : Vec F S1x4352x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (blockO x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ()))
          ⊢ wp frame (wpE (defs₀ (F := F)) Variants.none c none) E (cc0_mla_attention i arg2 harg2 arg3 harg3 arg4 harg4 arg5 harg5 arg6 harg6 arg7 harg7 arg8 harg8 arg9 harg9) K := by
    simp only [cc0_mla_attention_eq_skeleton]; unfold cc0_mla_attention_skel
    simp only [k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_words
      have k3 : arg3.view.readAt (Elt F) (Rect.unit (s := S1x4352x192) ![0, 0, 0] S1x4352x192.size inb_S1x4352x192_S1x4352x192_0_0_0).toLoadRect (harg3.unread x1) = x1 :=
        (View.readAt_full (Val := Elt F) arg3.view _ inb_S1x4352x192_S1x4352x192_0_0_0).trans (harg3.read_unread x1)
      have k4 : arg4.view.readAt (Elt F) (Rect.unit (s := S1x4352x256) ![0, 0, 0] S1x4352x256.size inb_S1x4352x256_S1x4352x256_0_0_0).toLoadRect (harg4.unread x2) = x2 :=
        (View.readAt_full (Val := Elt F) arg4.view _ inb_S1x4352x256_S1x4352x256_0_0_0).trans (harg4.read_unread x2)
      have q0 : arg2.view.readAt (Elt F) (Rect.unit (s := S1x4352x192) ![0, 256, 0] S1x512x192.size inb_S1x4352x192_S1x512x192_0_256_0).toLoadRect (harg2.unread x0) = tileQ x0 0 :=
        ldQ arg2 x0 _ (harg2.read_unread x0) 0 _ rfl _
      have q1 : arg2.view.readAt (Elt F) (Rect.unit (s := S1x4352x192) ![0, 768, 0] S1x512x192.size inb_S1x4352x192_S1x512x192_0_768_0).toLoadRect (harg2.unread x0) = tileQ x0 1 :=
        ldQ arg2 x0 _ (harg2.read_unread x0) 1 _ rfl _
      rw [k3, k4, q0, q1]
      have hl := loop_state Variants.none c none i arg2 harg2 arg3 harg3 arg4 harg4 arg5 harg5 arg6 harg6 arg7 harg7 arg8 harg8 arg9 harg9 768#32 x0 x1 x2
        (harg2.unread x0) (harg3.unread x1) (harg4.unread x2) (harg2.read_unread x0) (harg3.read_unread x1) (harg4.read_unread x2)
      have e6 := View.readCov_full (Val := Elt F) arg6.view inb_S512x4352_S512x4352_0_0 inb_S512x4352_S512x4352_0_0 (k0_pay12 (tileQ x0 0) x1) []
      rw [e6]
      have hl3 := fun G5 G6 G9 => hl G5 G6 (arg7.view.writes (Elt F) arg7.view.junk [⟨Rect.unit (s := S512x4352) ![0, 0] S512x4352.size inb_S512x4352_S512x4352_0_0, k0_pay13 (tileQ x0 1) x1⟩])
        (arg8.view.writes (Elt F) arg8.view.junk [⟨Rect.unit (s := S512x4352) ![0, 0] S512x4352.size inb_S512x4352_S512x4352_0_0, k0_pay14 (k0_pay12 (tileQ x0 0) x1)⟩]) G9
        (View.read_writes_full arg7.view _ inb_S512x4352_S512x4352_0_0 _ _) (View.read_writes_full arg8.view _ inb_S512x4352_S512x4352_0_0 _ _) k0_t1_loop.trips trips_eq.le
      clear hl
      refine block_value arg5 x0 x1 x2 f3 _ _ _ _ ?_ ?_ ?_ ?_ ?_
      · exact fun t x y ht => (hl3 _ _ _).2.2.1 t x y (by rw [trips_eq]; exact ht)
      · exact fun y => (hl3 _ _ _).2.2.2 y
      · unfold ctxO
        rw [View.readAt_eq_ld, View.readAt_eq_ld, View.readAt_eq_ld, harg2.read_unread, harg3.read_unread, harg4.read_unread]
      · refine (congrArg (fun z => k0_pay1 z x2) ((readCov_tail arg8.view inb_S512x4352_S512x4352_0_0 _ _).trans (hl3 _ _ _).2.1)).trans ?_
        rw [show (⟨2 * k0_t1_loop.trips, by rw [trips_eq]; decide⟩ : Fin 8) = 6 from Fin.ext (by show 2 * k0_t1_loop.trips = 6; rw [trips_eq])]
        rfl
      · refine (congrArg (fun z => k0_pay2 z x2) (View.readCov_full (Val := Elt F) arg9.view inb_S512x4352_S512x4352_0_0 inb_S512x4352_S512x4352_0_0 _ _)).trans ?_
        refine (congrArg (fun z => k0_pay2 (k0_pay16 z) x2) ((readCov_tail arg7.view inb_S512x4352_S512x4352_0_0 _ _).trans (hl3 _ _ _).1)).trans ?_
        rw [show (⟨2 * k0_t1_loop.trips + 1, by rw [trips_eq]; decide⟩ : Fin 8) = 7 from Fin.ext (by show 2 * k0_t1_loop.trips + 1 = 7; rw [trips_eq])]
        rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data, the obligation, the run -/

variable (m : (ℓ : Loc nD τ sig) → Buf (Elt F) ℓ) (ρ : Dev nD → PrngReg)

/-- The proof data: the inputs' staging buffers at their blocks, the output's at the attention of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockO (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) :
    (dats m 0 c).after 3 t = blockO (iblk m c 0 t) (iblk m c 1 t) (iblk m c 2 t) := by dsimp only [dats]
theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-- What the body is called with at point `t`, the windows one by one. -/
def preAt (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def postAt (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point, from `preAt` to `postAt`. -/
theorem body_at (c : Dev nD) (t : Fin cfg0.N) :
    preAt m c t ⊢ wp frame (wpE (defs₀ (F := F)) Variants.none c none) Set.univ (bodyAt0 t) (fun _ => postAt m c t) := by
  unfold preAt postAt bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (body_run c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The run: every array of the pipeline at what the proof data give, and every semaphore back at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run at any `F`: the arguments end unchanged and every semaphore reads zero; the result array is named. -/
theorem run_main : θ_run defs (onTc (τ := τ) (main (F := F))) ⟨m, fun _ => 0, ρ⟩ (fun r => (∀ c : Dev nD,
      r.2.mem ((c.tc : Thread nD τ).loc main_v19) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_quiet m ρ)

/-- The frame alone, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main m ρ)

end Cert.KernelIdeal.Attn

end
-- ==== Proof.AttnFrames.lean ====
module
public import proofs.«01_k».proof.Proof.AttnRun
public import proofs.«01_k».proof.Proof.Gen.Kernel
public import proofs.«01_k».proof.Proof.Gen.Pre_finite_scores
@[expose] public section
set_option maxRecDepth 16384

/-! The frames of the attention call, from the one run. -/
namespace Cert.Attn
open Idealize.ShloMosaic Idealize.ShloMosaic.TcCoe Idealize.SL.Sem

/-- The two programs' kernel bodies are one function, label by label. -/
theorem body_table : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => rfl

theorem tables : @Cert.Kernel.defs Bits _ Cert.Kernel.Gen.facts = @Cert.KernelIdeal.defs Bits _ Cert.KernelIdeal.Gen.facts :=
  congrArg (Pipeline.defs (Cert.KernelIdeal.pcfgs (F := Bits))) body_table

theorem frame_kernel : Cert.quiescent_Kernel (hKernel := Cert.Kernel.Gen.facts) := fun m ρ _ => by
  rw [tables]
  exact Cert.KernelIdeal.Attn.frame (F := Bits) m ρ

theorem frame_ideal : Cert.quiescent_KernelIdeal (hKernelIdeal := Cert.KernelIdeal.Gen.facts) := fun m ρ _ =>
  Cert.KernelIdeal.Attn.frame (F := Ideal) m ρ

theorem frame_ideal_pre : Cert.quiescent_KernelIdeal_pre_finite_scores (hKernelIdeal := Cert.KernelIdeal.Gen.facts) (hPre_finite_scores := Cert.Pre_finite_scores.Gen.facts) := fun m ρ _ =>
  Cert.KernelIdeal.Attn.frame (F := Ideal) m ρ

end Cert.Attn
-- ==== Proof.AttnMath.lean ====
/-
  Softmax attention of one query row, on the extended reals: the row in terms of powers of two, divided at the end, is
  the row in terms of `exp` with the weights normalised first. The scores are finite; the values may be anything.
-/
module

public import Idealize.ShloMosaic.PureOps.Ideal.Laws

@[expose] public section

noncomputable section

namespace Cert.Attn

open Idealize.ShloMosaic

variable {ι κ : Type} [Fintype ι] [Fintype κ]

/-- The reference's row: weights `exp (s - max s)` over their sum, then the weighted sum of the values. -/
def softRow (s v : ι → EReal) : EReal :=
  ∑ j, v j * Ideal.div (Ideal.exp (s j - Finset.univ.fold max ⊥ s)) (∑ i, Ideal.exp (s i - Finset.univ.fold max ⊥ s))

/-- The kernel's row: weights `2 ^ (s - max s)`, their weighted sum of the values over their weighted sum of ones. -/
def pow2Row (s v w : ι → EReal) : EReal :=
  Ideal.div (∑ j, Ideal.exp2 (s j - Finset.univ.fold max ⊥ s) * v j) (∑ j, Ideal.exp2 (s j - Finset.univ.fold max ⊥ s) * w j)

theorem pow2Row_congr {s s' v v' w w' : ι → EReal} (hs : ∀ j, s j = s' j) (hv : ∀ j, v j = v' j) (hw : ∀ j, w j = w' j) :
    pow2Row s v w = pow2Row s' v' w' := by
  rw [funext hs, funext hv, funext hw]

theorem fold_max_comp (e : ι ≃ κ) (s : κ → EReal) :
    Finset.univ.fold max ⊥ (fun i => s (e i)) = Finset.univ.fold max ⊥ s := by
  show Finset.univ.sup (fun i => s (e i)) = Finset.univ.sup s
  rw [← Finset.map_univ_equiv e, Finset.sup_map]; rfl

/-- The order of the keys does not matter. -/
theorem softRow_comp (e : ι ≃ κ) (s v : κ → EReal) : softRow (fun i => s (e i)) (fun i => v (e i)) = softRow s v := by
  unfold softRow
  rw [fold_max_comp e s, Equiv.sum_comp e fun k => Ideal.exp (s k - Finset.univ.fold max ⊥ s)]
  exact Equiv.sum_comp e fun k => v k * Ideal.div (Ideal.exp (s k - Finset.univ.fold max ⊥ s)) (∑ i, Ideal.exp (s i - Finset.univ.fold max ⊥ s))

/-- The maximum of finitely many reals, on the extended reals, is one of them. -/
theorem fold_max_coe [Nonempty ι] (x : ι → ℝ) : ∃ j₀, (∀ j, x j ≤ x j₀) ∧ Finset.univ.fold max ⊥ (fun j => (x j : EReal)) = (x j₀ : EReal) := by
  obtain ⟨j₀, -, h⟩ := Finset.exists_max_image (Finset.univ : Finset ι) x Finset.univ_nonempty
  refine ⟨j₀, fun j => h j (Finset.mem_univ j), ?_⟩
  show Finset.univ.sup (fun j => (x j : EReal)) = _
  exact le_antisymm (Finset.sup_le fun j hj => EReal.coe_le_coe_iff.mpr (h j hj)) (Finset.le_sup (f := fun j => (x j : EReal)) (Finset.mem_univ j₀))

theorem coe_sum' {α : Type} (t : Finset α) (x : α → ℝ) : ((∑ j ∈ t, x j : ℝ) : EReal) = ∑ j ∈ t, (x j : EReal) := by
  classical
  induction t using Finset.induction_on with
  | empty => simp
  | insert a t ha ih => rw [Finset.sum_insert ha, Finset.sum_insert ha, EReal.coe_add, ih]

/-- A finite nonnegative factor goes into a sum. -/
theorem mul_sum_coe {α : Type} (t : Finset α) (c : ℝ) (hc : 0 ≤ c) (f : α → EReal) : (∑ j ∈ t, f j) * (c : EReal) = ∑ j ∈ t, f j * (c : EReal) := by
  classical
  induction t using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

/-- The two rows agree when the kernel's scores are the reference's over `log 2` and its extra column is one. -/
theorem pow2Row_eq [Nonempty ι] (x : ι → ℝ) (s' s v w : ι → EReal) (hs : ∀ j, s j = (x j : EReal))
    (hs' : ∀ j, s' j = ((x j / Real.log 2 : ℝ) : EReal)) (hw : ∀ j, w j = 1) : pow2Row s' v w = softRow s v := by
  obtain rfl : s = fun j => (x j : EReal) := funext hs
  obtain rfl : s' = fun j => ((x j / Real.log 2 : ℝ) : EReal) := funext hs'
  obtain rfl : w = fun _ => 1 := funext hw
  obtain ⟨a, ha, hM⟩ := fold_max_coe x
  obtain ⟨b, hb, hM'⟩ := fold_max_coe fun j => x j / Real.log 2
  have hl : 0 < Real.log 2 := Real.log_pos (by norm_num)
  have hab : x b = x a := le_antisymm (ha b) (by
    have := hb a
    rwa [div_le_div_iff_of_pos_right hl] at this)
  unfold pow2Row softRow
  rw [hM, hM']
  have hp : ∀ j, Ideal.exp2 (((x j / Real.log 2 : ℝ) : EReal) - ((x b / Real.log 2 : ℝ) : EReal)) = ((Real.exp (x j - x a) : ℝ) : EReal) := fun j => by
    rw [← EReal.coe_sub, Ideal.exp2_coe, hab, ← sub_div]
    congr 1
    show (2 : ℝ) ^ ((x j - x a) / Real.log 2) = _
    rw [Real.rpow_def_of_pos (by norm_num)]
    congr 1
    field_simp
  have he : ∀ j, Ideal.exp ((x j : EReal) - (x a : EReal)) = ((Real.exp (x j - x a) : ℝ) : EReal) := fun j => by
    rw [← EReal.coe_sub, Ideal.exp_coe]
  simp only [hp, he, mul_one]
  rw [← coe_sum']
  have hD : 0 < ∑ j, Real.exp (x j - x a) := Finset.sum_pos (fun j _ => Real.exp_pos _) Finset.univ_nonempty
  rw [Ideal.div_coe hD.ne']
  rw [mul_sum_coe _ _ (by positivity)]
  refine Finset.sum_congr rfl fun j _ => ?_
  rw [Ideal.div_coe hD.ne', mul_comm (((Real.exp (x j - x a) : ℝ)) : EReal) (v j), mul_assoc]

/-! ## The scores -/

/-- A finite extended real is its real part. -/
theorem coe_of_abs_lt {a : EReal} (h : max a (-a) < ⊤) : ∃ r : ℝ, a = (r : EReal) := by
  induction a using EReal.rec with
  | bot => exact absurd h (by simp)
  | top => exact absurd h (by simp)
  | coe r => exact ⟨r, rfl⟩

/-- The two scores: the query scaled first, and the sum of products scaled. -/
theorem scores (n : ℕ) (q k : Fin n → EReal) (c l : ℝ) (hc : 0 < c) (hl : 0 < l) (hq : ∀ d, ∃ r : ℝ, q d = (r : EReal)) (hk : ∀ d, ∃ r : ℝ, k d = (r : EReal)) :
    ∃ x : ℝ, Ideal.div (∑ d, q d * k d) (c : EReal) = (x : EReal) ∧ ∑ d, Ideal.div (q d) ((c : EReal) * (l : EReal)) * k d = ((x / l : ℝ) : EReal) := by
  choose q' hq' using hq
  choose k' hk' using hk
  obtain rfl := funext hq'
  obtain rfl := funext hk'
  refine ⟨(∑ d, q' d * k' d) / c, ?_, ?_⟩
  · rw [Ideal.div_coe hc.ne']
    simp only [← EReal.coe_mul]
    rw [← coe_sum', ← EReal.coe_mul]
    congr 1
    ring
  · rw [← EReal.coe_mul]
    simp only [Ideal.div_coe (mul_pos hc hl).ne', ← EReal.coe_mul]
    rw [← coe_sum']
    congr 1
    rw [Finset.sum_div, Finset.sum_div]
    refine Finset.sum_congr rfl fun d _ => ?_
    field_simp

end Cert.Attn

end
-- ==== Proof.AttnValue.lean ====
/-
  The attention call's result array at the extended reals: every element is one row of softmax attention, in powers of
  two, of the arrays the call is given.
-/
module

public import proofs.«01_k».proof.Proof.AttnRun
public import proofs.«01_k».proof.Proof.AttnMath

@[expose] public section

set_option maxRecDepth 16384

noncomputable section

namespace Cert.KernelIdeal.Attn

open Cert.KernelIdeal Cert.KernelIdeal.Gen Idealize.ShloMosaic Idealize.ShloMosaic.TcCoe Idealize.SL.Sem

theorem neg_inf : Ideal.ofBits .f32 0xFF800000#32 = ⊥ := by simp [Ideal.ofBits, Ideal.ieee]

/-! ## The body's terms at an index -/

theorem score_tile (q : Vec Ideal S1x512x192 .bf16) (k : Vec Ideal S1x4352x192 .bf16) (x : Fin 512) (j : Fin 4352) :
    k0_pay12 q k (ix2 x j) = ∑ d : Fin 192, q (ix3 0 x d) * k (ix3 0 j d) := by
  unfold k0_pay12
  pointwise

theorem weight_tile (s : Vec Ideal S512x4352 .f32) (x : Fin 512) (j : Fin 4352) :
    k0_pay14 s (ix2 x j) = Ideal.exp2 (s (ix2 x j) - Finset.univ.fold max ⊥ (fun i : Fin 4352 => s (ix2 x i))) := by
  unfold k0_pay14
  pointwise
  rw [neg_inf]; rfl

theorem value_tile (p : Vec Ideal S512x4352 .bf16) (v : Vec Ideal S1x4352x256 .bf16) (x : Fin 512) (y : Fin 128) :
    k0_pay15 p (k0_pay10 v) (ix2 x y) = Ideal.div (∑ j : Fin 4352, p (ix2 x j) * v (ix3 0 j ⟨y, by omega⟩)) (∑ j : Fin 4352, p (ix2 x j) * v (ix3 0 j 128)) := by
  unfold k0_pay15 k0_pay10
  pointwise

theorem ctx_tile (q k : Vec Ideal S1x256x192 .bf16) (v : Vec Ideal S1x256x256 .bf16) (x : Fin 256) (y : Fin 128) :
    k0_pay11 q k v (ix2 x y) = Cert.Attn.pow2Row (fun j : Fin 256 => ∑ d : Fin 192, q (ix3 0 x d) * k (ix3 0 j d)) (fun j => v (ix3 0 j ⟨y, by omega⟩)) (fun j => v (ix3 0 j 128)) := by
  unfold k0_pay11 Cert.Attn.pow2Row
  pointwise
  rw [neg_inf]; rfl

theorem tile_row (q k : Vec Ideal S1x4352x192 .bf16) (v : Vec Ideal S1x4352x256 .bf16) (t : Fin 8) (x : Fin 512) (y : Fin 128) :
    tileO q k v t (ix2 x y) = Cert.Attn.pow2Row (fun j : Fin 4352 => ∑ d : Fin 192, q (ix3 0 ⟨256 + 512 * t.val + x.val, by omega⟩ d) * k (ix3 0 j d))
      (fun j => v (ix3 0 j ⟨y, by omega⟩)) (fun j => v (ix3 0 j 128)) := by
  unfold tileO Cert.Attn.pow2Row
  rw [value_tile]
  simp only [weight_tile, tileS, score_tile]
  have e : ∀ d : Fin 192, tileQ q t (ix3 0 x d) = q (ix3 0 ⟨256 + 512 * t.val + x.val, by omega⟩ d) := fun d =>
    congrArg q (funext fun a => Fin.ext (by
      match a with
      | ⟨0, _⟩ => rfl
      | ⟨1, _⟩ => show 256 + 512 * t.val + 1 * x.val = _; rw [one_mul]; rfl
      | ⟨2, _⟩ => show 0 + 1 * d.val = _; rw [one_mul, zero_add]; rfl))
  simp only [e]

/-- A row of the block: among the first 256 against the first 256 keys, otherwise against all. -/
def rowOf (q k : Vec Ideal S1x4352x192 .bf16) (v : Vec Ideal S1x4352x256 .bf16) (x : Fin 4352) (y : Fin 128) : EReal :=
  if x.val < 256 then
    Cert.Attn.pow2Row (fun j : Fin 256 => ∑ d : Fin 192, q (ix3 0 x d) * k (ix3 0 ⟨j, by omega⟩ d))
      (fun j => v (ix3 0 ⟨j, by omega⟩ ⟨y, by omega⟩)) (fun j => v (ix3 0 ⟨j, by omega⟩ 128))
  else
    Cert.Attn.pow2Row (fun j : Fin 4352 => ∑ d : Fin 192, q (ix3 0 x d) * k (ix3 0 j d))
      (fun j => v (ix3 0 j ⟨y, by omega⟩)) (fun j => v (ix3 0 j 128))

theorem block_row (q k : Vec Ideal S1x4352x192 .bf16) (v : Vec Ideal S1x4352x256 .bf16) (x : Fin 4352) (y : Fin 128) :
    blockO q k v (ix2 x y) = rowOf q k v x y := by
  unfold blockO rowOf
  by_cases h : x.val < 256
  · rw [dif_pos (show ((ix2 x y : S4352x128.Idx) 0).val < 256 from h), if_pos h]
    refine (ctx_tile _ _ _ ⟨x.val, h⟩ y).trans ?_
    have eq : ∀ (a : Vec Ideal S1x4352x192 .bf16) (j : Fin 256) (d : Fin 192), View.ld a (Rect.unit (s := S1x4352x192) ![0, 0, 0] S1x256x192.size inb_S1x4352x192_S1x256x192_0_0_0) (ix3 0 j d) = a (ix3 0 ⟨j, by omega⟩ d) := fun a j d =>
      congrArg a (funext fun b => Fin.ext (by
        match b with
        | ⟨0, _⟩ => rfl
        | ⟨1, _⟩ => show 0 + 1 * j.val = _; rw [one_mul, zero_add]; rfl
        | ⟨2, _⟩ => show 0 + 1 * d.val = _; rw [one_mul, zero_add]; rfl))
    have ev : ∀ (j : Fin 256) (d : Fin 256), View.ld v (Rect.unit (s := S1x4352x256) ![0, 0, 0] S1x256x256.size inb_S1x4352x256_S1x256x256_0_0_0) (ix3 0 j d) = v (ix3 0 ⟨j, by omega⟩ d) := fun j d =>
      congrArg v (funext fun b => Fin.ext (by
        match b with
        | ⟨0, _⟩ => rfl
        | ⟨1, _⟩ => show 0 + 1 * j.val = _; rw [one_mul, zero_add]; rfl
        | ⟨2, _⟩ => show 0 + 1 * d.val = _; rw [one_mul, zero_add]; rfl))
    refine Cert.Attn.pow2Row_congr (fun j => Finset.sum_congr rfl fun d _ => congrArg₂ (· * ·) (eq q ⟨x.val, h⟩ d) (eq k j d)) (fun j => ev j _) (fun j => ev j 128)
  · rw [dif_neg (show ¬ ((ix2 x y : S4352x128.Idx) 0).val < 256 from h), if_neg h]
    refine (tile_row q k v _ _ _).trans ?_
    refine Cert.Attn.pow2Row_congr (fun j => Finset.sum_congr rfl fun d _ => congrArg (fun z => q (ix3 0 z d) * k (ix3 0 j d)) (Fin.ext ?_)) (fun j => rfl) (fun j => rfl)
    show 256 + 512 * ((x.val - 256) / 512) + (x.val - 256) % 512 = x.val
    omega

/-! ## The array after the run -/

variable (m : (ℓ : Loc nD τ sig) → Buf (Elt Ideal) ℓ)

theorem idx_facts : ∀ t : Fin cfg0.N, win0_0.index t = ![(grid0.coords t 1).val, (grid0.coords t 0).val, 0]
    ∧ win0_1.index t = ![(grid0.coords t 1).val, (grid0.coords t 0).val, 0]
    ∧ win0_2.index t = ![(grid0.coords t 1).val, (grid0.coords t 0).val, 0]
    ∧ win0_3.index t = ![(grid0.coords t 0).val, (grid0.coords t 1).val] :=
  (by decide +kernel : ∀ t : Fin grid0.N, _)

/-- The queries, keys and values of batch `b` and head `h`, cut out of the arrays the call is given. -/
def headOf {n : ℕ} (a : (⟨3, ![4, 8704, n]⟩ : Shape).Idx → EReal) (b : Fin 2) (h : Fin 4) : (⟨3, ![1, 4352, n]⟩ : Shape).Idx → EReal :=
  fun i => a (ix3 h ⟨b.val * 4352 + (i 1).val, by have : (i 1).val < 4352 := (i 1).isLt; omega⟩ ⟨(i 2).val, (i 2).isLt⟩)

/-- The result array. -/
def resultOf (q k : (⟨3, ![4, 8704, 192]⟩ : Shape).Idx → EReal) (v : (⟨3, ![4, 8704, 256]⟩ : Shape).Idx → EReal) : S8704x512.Idx → EReal := fun i =>
  let b : Fin 2 := ⟨(i 0).val / 4352, by have : (i 0).val < 8704 := (i 0).isLt; omega⟩
  let h : Fin 4 := ⟨(i 1).val / 128, by have : (i 1).val < 512 := (i 1).isLt; omega⟩
  rowOf (headOf q b h) (headOf k b h) (headOf v b h) ⟨(i 0).val % 4352, Nat.mod_lt _ (by decide)⟩ ⟨(i 1).val % 128, Nat.mod_lt _ (by decide)⟩

theorem array_eq (c : Dev nD) : (dats m 0 c).arrAt 3 cfg0.N
    = resultOf (V m c main_v8) (V m c main_v12) (V m c main_v18) := by
  refine (dats m 0 c).arrAt_eq_of_covers 3 _ (by decide +kernel) fun t hf y => ?_
  obtain ⟨e0, e1, e2, e3⟩ := idx_facts t
  have hb : (grid0.coords t 0).val < 2 := (grid0.coords t 0).isLt
  have hh : (grid0.coords t 1).val < 4 := (grid0.coords t 1).isLt
  have h0 : (((win0_3.blk t).view.emb y) 0 : ℕ) = (grid0.coords t 0).val * 4352 + (y 0).val := by
    blk_simp [e3]
  have h1 : (((win0_3.blk t).view.emb y) 1 : ℕ) = (grid0.coords t 1).val * 128 + (y 1).val := by
    blk_simp [e3]
  have hy0 : (y 0).val < 4352 := (y 0).isLt
  have hy1 : (y 1).val < 128 := (y 1).isLt
  blk_simp
  rw [after_o]
  have q0 : iblk m c 0 t = headOf (V m c main_v8) ⟨(grid0.coords t 0).val, hb⟩ ⟨(grid0.coords t 1).val, hh⟩ := by
    funext i
    unfold headOf
    blk_ext [iblk, e0]
  have q1 : iblk m c 1 t = headOf (V m c main_v12) ⟨(grid0.coords t 0).val, hb⟩ ⟨(grid0.coords t 1).val, hh⟩ := by
    funext i
    unfold headOf
    blk_ext [iblk, e1]
  have q2 : iblk m c 2 t = headOf (V m c main_v18) ⟨(grid0.coords t 0).val, hb⟩ ⟨(grid0.coords t 1).val, hh⟩ := by
    funext i
    unfold headOf
    blk_ext [iblk, e2]
  rw [q0, q1, q2]
  refine (congrArg (blockO _ _ _) (eq_ix2 (n0 := 4352) (n1 := 128) y)).trans ((block_row _ _ _ _ _).trans ?_)
  unfold resultOf
  have b0 : (((win0_3.blk t).view.emb y) 0 : ℕ) / 4352 = (grid0.coords t 0).val := by rw [h0]; omega
  have b1 : (((win0_3.blk t).view.emb y) 1 : ℕ) / 128 = (grid0.coords t 1).val := by rw [h1]; omega
  have b2 : (((win0_3.blk t).view.emb y) 0 : ℕ) % 4352 = (y 0).val := by rw [h0]; omega
  have b3 : (((win0_3.blk t).view.emb y) 1 : ℕ) % 128 = (y 1).val := by rw [h1]; omega
  simp only [b0, b1, b2, b3]
  rfl

end Cert.KernelIdeal.Attn

end
-- ==== Proof.AttnTie.lean ====
/-
The attention's two programs compute one array.

The kernel's arrays hold the context rows before the latent rows, its reference lists the latent keys before the context
keys; `shift` is the bijection between the two orders, and a softmax does not depend on the order of the keys. The
kernel's queries are divided by sqrt(192) * log 2 and its weights are powers of two, the reference divides the products
by sqrt(192) and exponentiates: over finite queries and keys the weights agree. The kernel divides by the sum of the
weights once, after the product with the values, the reference divides every weight.
-/
module

public import proofs.«01_k».proof.Proof.AttnValue
public import proofs.«01_k».proof.Proof.Gen.ReferenceIdeal.Read
public import proofs.«01_k».proof.Proof.Gen.Pre_finite_scores
public import Idealize.ShloMosaic.Lib.ReduceAll

@[expose] public section

set_option maxRecDepth 16384

noncomputable section

/-! ## The reference's rows -/

namespace Cert.Attn

open Idealize.ShloMosaic Idealize.ShloMosaic.TcCoe Idealize.ShloMosaic.Tactic
open Cert.ReferenceIdeal Cert.ReferenceIdeal.Gen Cert.ReferenceIdeal.Read

/-- `sqrt(192)` as both programs compute it. -/
def rootC : EReal := Ideal.sqrt (Ideal.ofBits .f32 0x43400000#32)

theorem rootC_eq : rootC = ((Real.sqrt 192 : ℝ) : EReal) := by
  have e : Ideal.ofBits .f32 0x43400000#32 = ((192 : ℝ) : EReal) := by
    simp [Ideal.ofBits, Ideal.ieee, -EReal.coe_mul]; norm_num
  unfold rootC
  rw [e, Ideal.sqrt_coe, if_neg (by norm_num)]

/-- `log 2` as the kernel's host code computes it. -/
def logC : EReal := Ideal.log (Ideal.ofBits .f32 0x40000000#32)

theorem logC_eq : logC = ((Real.log 2 : ℝ) : EReal) := by
  have e : Ideal.ofBits .f32 0x40000000#32 = ((2 : ℝ) : EReal) := by
    simp [Ideal.ofBits, Ideal.ieee, -EReal.coe_mul]; norm_num
  unfold logC
  rw [e, Ideal.log_coe, if_neg (by norm_num)]

/-- A context array and a latent array in one, the context rows first. -/
def joined {n : ℕ} (ctx : (⟨4, ![2, 256, 4, n]⟩ : Shape).Idx → EReal) (lat : (⟨4, ![2, 4096, 4, n]⟩ : Shape).Idx → EReal)
    (b : Fin 2) (h : Fin 4) (x : Fin 4352) (d : Fin n) : EReal :=
  if hx : x.val < 256 then ctx (ix4 b ⟨x.val, hx⟩ h d) else lat (ix4 b ⟨x.val - 256, by omega⟩ h d)

/-- The place, latent keys first, of a key numbered context keys first. -/
def shift : Fin 4352 ≃ Fin 4352 where
  toFun j := if j.val < 256 then ⟨(j.val + 4096) % 4352, Nat.mod_lt _ (by decide)⟩ else ⟨j.val - 256, by omega⟩
  invFun j := if j.val < 4096 then ⟨(j.val + 256) % 4352, Nat.mod_lt _ (by decide)⟩ else ⟨j.val - 4096, by omega⟩
  left_inv j := by
    apply Fin.ext
    by_cases h : j.val < 256
    · simp only [h, if_true]
      have : ¬ (j.val + 4096) % 4352 < 4096 := by omega
      simp only [this, if_false]; omega
    · simp only [h, if_false]
      have : j.val - 256 < 4096 := by omega
      simp only [this, if_true]; omega
  right_inv j := by
    apply Fin.ext
    by_cases h : j.val < 4096
    · simp only [h, if_true]
      have : ¬ (j.val + 256) % 4352 < 256 := by omega
      simp only [this, if_false]; omega
    · simp only [h, if_false]
      have : j.val - 4096 < 256 := by omega
      simp only [this, if_true]; omega

theorem shift_val (j : Fin 4352) : (shift j).val = if j.val < 256 then j.val + 4096 else j.val - 256 := by
  show (if j.val < 256 then (⟨(j.val + 4096) % 4352, Nat.mod_lt _ (by decide)⟩ : Fin 4352) else ⟨j.val - 256, by omega⟩).val = _
  split
  · show (j.val + 4096) % 4352 = _; omega
  · rfl

variable (x0 x1 : (⟨S2x4096x4x192, .f32⟩ : BufTy).Contents (Elt Ideal)) (x2 : (⟨S2x4096x4x128, .f32⟩ : BufTy).Contents (Elt Ideal)) (x3 x4 : (⟨S2x256x4x192, .f32⟩ : BufTy).Contents (Elt Ideal)) (x5 : (⟨S2x256x4x128, .f32⟩ : BufTy).Contents (Elt Ideal))

theorem keys_at (b : Fin 2) (h : Fin 4) (j : Fin 4352) (d : Fin 192) :
    val_main_v0 (F := Ideal) x1 x4 (ix4 b (shift j) h d) = joined x4 x1 b h j d := by
  have e := shift_val j
  unfold val_main_v0 joined
  pointwise
  by_cases hj : j.val < 256
  · rw [if_pos hj] at e
    rw [dif_pos hj, dif_neg (by omega)]
    exact congrArg x4 (congrArg (fun z => ix4 b z h d) (Fin.ext (by show (shift j).val - 4096 = j.val; omega)))
  · rw [if_neg hj] at e
    rw [dif_neg hj, dif_pos (by omega)]
    exact congrArg x1 (congrArg (fun z => ix4 b z h d) (Fin.ext e))

theorem values_at (b : Fin 2) (h : Fin 4) (j : Fin 4352) (d : Fin 128) :
    val_main_v1 (F := Ideal) x2 x5 (ix4 b (shift j) h d) = joined x5 x2 b h j d := by
  have e := shift_val j
  unfold val_main_v1 joined
  pointwise
  by_cases hj : j.val < 256
  · rw [if_pos hj] at e
    rw [dif_pos hj, dif_neg (by omega)]
    exact congrArg x5 (congrArg (fun z => ix4 b z h d) (Fin.ext (by show (shift j).val - 4096 = j.val; omega)))
  · rw [if_neg hj] at e
    rw [dif_neg hj, dif_pos (by omega)]
    exact congrArg x2 (congrArg (fun z => ix4 b z h d) (Fin.ext e))

theorem v5_at (b : Fin 2) (h : Fin 4) (q : Fin 4096) (j : Fin 4352) :
    val_main_v5 (F := Ideal) x0 x1 x4 (ix4 b h q j) = Ideal.div (∑ d : Fin 192, x0 (ix4 b q h d) * val_main_v0 (F := Ideal) x1 x4 (ix4 b j h d)) rootC := by
  rw [val_main_v5_apply, val_main_v2_apply, val_main_v4_apply, val_main_v3_apply, val_main_cst_apply]
  have e1 : ∀ d, lidx_main_v2 (ix4 b h q j) d = ix4 b q h d := fun d => by funext a; match a with | ⟨0, _⟩ => rfl | ⟨1, _⟩ => rfl | ⟨2, _⟩ => rfl | ⟨3, _⟩ => rfl
  have e2 : ∀ d, ridx_main_v2 (ix4 b h q j) d = ix4 b j h d := fun d => by funext a; match a with | ⟨0, _⟩ => rfl | ⟨1, _⟩ => rfl | ⟨2, _⟩ => rfl | ⟨3, _⟩ => rfl
  simp only [e1, e2]
  rfl

theorem v6_at (b : Fin 2) (h : Fin 4) (q : Fin 4096) :
    val_main_v6 (F := Ideal) x0 x1 x4 (ix3 b h q) = Finset.univ.fold max ⊥ fun j : Fin 4352 => val_main_v5 (F := Ideal) x0 x1 x4 (ix4 b h q j) := by
  unfold val_main_v6
  generalize val_main_v5 (F := Ideal) x0 x1 x4 = y
  unfold val_main_cst_0
  pointwise
  rw [Cert.KernelIdeal.Attn.neg_inf]

theorem v17_at (b : Fin 2) (h : Fin 4) (q : Fin 4096) (d : Fin 128) :
    val_main_v17 (F := Ideal) x0 x1 x2 x4 x5 (ix4 b h d q)
      = softRow (fun j : Fin 4352 => val_main_v5 (F := Ideal) x0 x1 x4 (ix4 b h q j)) (fun j => val_main_v1 (F := Ideal) x2 x5 (ix4 b j h d)) := by
  rw [val_main_v17_apply]
  unfold softRow
  refine Finset.sum_congr rfl fun j _ => ?_
  have e1 : lidx_main_v17 (ix4 b h d q) j = ix4 b j h d := by funext a; match a with | ⟨0, _⟩ => rfl | ⟨1, _⟩ => rfl | ⟨2, _⟩ => rfl | ⟨3, _⟩ => rfl
  have e2 : ridx_main_v17 (ix4 b h d q) j = ix4 b h q j := by funext a; match a with | ⟨0, _⟩ => rfl | ⟨1, _⟩ => rfl | ⟨2, _⟩ => rfl | ⟨3, _⟩ => rfl
  have hm : ∀ i : Fin 4352, val_main_v12 (F := Ideal) x0 x1 x4 (ix4 b h q i)
      = Ideal.exp (val_main_v5 (F := Ideal) x0 x1 x4 (ix4 b h q i) - Finset.univ.fold max ⊥ fun j : Fin 4352 => val_main_v5 (F := Ideal) x0 x1 x4 (ix4 b h q j)) := by
    intro i
    rw [val_main_v12_apply, val_main_v11_apply, val_main_v10_apply, val_main_v9_apply, val_main_v8_apply, val_main_v7_apply, val_main_cst_1_apply]
    have e : idx_main_v9 (idx_main_v10 (ix4 b h q i)) = ix3 b h q := by funext a; match a with | ⟨0, _⟩ => rfl | ⟨1, _⟩ => rfl | ⟨2, _⟩ => rfl
    rw [e, v6_at]
    pointwise
    rw [Cert.KernelIdeal.Attn.neg_inf, max_eq_right bot_le]
  rw [e1, e2, val_main_v16_apply, val_main_v15_apply, val_main_v14_apply, val_main_v13_apply, hm]
  have e3 : ∀ i, idx_main_v13 (idx_main_v14 (idx_main_v15 (ix4 b h q j))) i = ix4 b h q i := fun i => by funext a; match a with | ⟨0, _⟩ => rfl | ⟨1, _⟩ => rfl | ⟨2, _⟩ => rfl | ⟨3, _⟩ => rfl
  simp only [e3, hm]
  have e4 : val_main_cst_2 (F := Ideal) (Shape.Idx.first h_S_) = 0 := Ideal.ofBits_zero_f32
  rw [e4, zero_add]
  rfl

theorem v22_at (b : Fin 2) (h : Fin 4) (q j : Fin 256) :
    val_main_v22 (F := Ideal) x3 x4 (ix4 b h q j) = Ideal.div (∑ d : Fin 192, x3 (ix4 b q h d) * x4 (ix4 b j h d)) rootC := by
  rw [val_main_v22_apply, val_main_v19_apply, val_main_v21_apply, val_main_v20_apply, val_main_cst_3_apply]
  have e1 : ∀ d, lidx_main_v19 (ix4 b h q j) d = ix4 b q h d := fun d => by funext a; match a with | ⟨0, _⟩ => rfl | ⟨1, _⟩ => rfl | ⟨2, _⟩ => rfl | ⟨3, _⟩ => rfl
  have e2 : ∀ d, ridx_main_v19 (ix4 b h q j) d = ix4 b j h d := fun d => by funext a; match a with | ⟨0, _⟩ => rfl | ⟨1, _⟩ => rfl | ⟨2, _⟩ => rfl | ⟨3, _⟩ => rfl
  simp only [e1, e2]
  rfl

theorem v23_at (b : Fin 2) (h : Fin 4) (q : Fin 256) :
    val_main_v23 (F := Ideal) x3 x4 (ix3 b h q) = Finset.univ.fold max ⊥ fun j : Fin 256 => val_main_v22 (F := Ideal) x3 x4 (ix4 b h q j) := by
  unfold val_main_v23
  generalize val_main_v22 (F := Ideal) x3 x4 = y
  unfold val_main_cst_4
  pointwise
  rw [Cert.KernelIdeal.Attn.neg_inf]

theorem v34_at (b : Fin 2) (h : Fin 4) (q : Fin 256) (d : Fin 128) :
    val_main_v34 (F := Ideal) x3 x4 x5 (ix4 b h d q)
      = softRow (fun j : Fin 256 => val_main_v22 (F := Ideal) x3 x4 (ix4 b h q j)) (fun j => x5 (ix4 b j h d)) := by
  rw [val_main_v34_apply]
  unfold softRow
  refine Finset.sum_congr rfl fun j _ => ?_
  have e1 : lidx_main_v34 (ix4 b h d q) j = ix4 b j h d := by funext a; match a with | ⟨0, _⟩ => rfl | ⟨1, _⟩ => rfl | ⟨2, _⟩ => rfl | ⟨3, _⟩ => rfl
  have e2 : ridx_main_v34 (ix4 b h d q) j = ix4 b h q j := by funext a; match a with | ⟨0, _⟩ => rfl | ⟨1, _⟩ => rfl | ⟨2, _⟩ => rfl | ⟨3, _⟩ => rfl
  have hm : ∀ i : Fin 256, val_main_v29 (F := Ideal) x3 x4 (ix4 b h q i)
      = Ideal.exp (val_main_v22 (F := Ideal) x3 x4 (ix4 b h q i) - Finset.univ.fold max ⊥ fun j : Fin 256 => val_main_v22 (F := Ideal) x3 x4 (ix4 b h q j)) := by
    intro i
    rw [val_main_v29_apply, val_main_v28_apply, val_main_v27_apply, val_main_v26_apply, val_main_v25_apply, val_main_v24_apply, val_main_cst_5_apply]
    have e : idx_main_v26 (idx_main_v27 (ix4 b h q i)) = ix3 b h q := by funext a; match a with | ⟨0, _⟩ => rfl | ⟨1, _⟩ => rfl | ⟨2, _⟩ => rfl
    rw [e, v23_at]
    pointwise
    rw [Cert.KernelIdeal.Attn.neg_inf, max_eq_right bot_le]
  rw [e1, e2, val_main_v33_apply, val_main_v32_apply, val_main_v31_apply, val_main_v30_apply, hm]
  have e3 : ∀ i, idx_main_v30 (idx_main_v31 (idx_main_v32 (ix4 b h q j))) i = ix4 b h q i := fun i => by funext a; match a with | ⟨0, _⟩ => rfl | ⟨1, _⟩ => rfl | ⟨2, _⟩ => rfl | ⟨3, _⟩ => rfl
  simp only [e3, hm]
  have e4 : val_main_cst_6 (F := Ideal) (Shape.Idx.first h_S_) = 0 := Ideal.ofBits_zero_f32
  rw [e4, zero_add]
  rfl

/-- The reference's result at an index: the row's softmax over the keys it sees. -/
theorem reference_at (i : S8704x512.Idx) (b : Fin 2) (x : Fin 4352) (h : Fin 4) (y : Fin 128) (h0 : (i 0).val = b.val * 4352 + x.val) (h1 : (i 1).val = h.val * 128 + y.val) :
    val_main_v38 (F := Ideal) x0 x1 x2 x3 x4 x5 i =
      if hx : x.val < 256 then
        softRow (fun j : Fin 256 => Ideal.div (∑ d : Fin 192, x3 (ix4 b ⟨x, hx⟩ h d) * x4 (ix4 b j h d)) rootC) (fun j => x5 (ix4 b j h y))
      else
        softRow (fun j : Fin 4352 => Ideal.div (∑ d : Fin 192, x0 (ix4 b ⟨x.val - 256, by omega⟩ h d) * joined x4 x1 b h j d) rootC) (fun j => joined x5 x2 b h j y) := by
  rw [val_main_v38_apply, val_main_v37_apply]
  have e : idx_main_v37 i = ix4 b x h y := by
    funext a
    apply Fin.ext
    match a with
    | ⟨0, _⟩ => show ((i 0).val * 512 + (i 1).val) / 2228224 = b.val; omega
    | ⟨1, _⟩ => show ((i 0).val * 512 + (i 1).val) / 512 % 4352 = x.val; omega
    | ⟨2, _⟩ => show ((i 0).val * 512 + (i 1).val) / 128 % 4 = h.val; omega
    | ⟨3, _⟩ => show ((i 0).val * 512 + (i 1).val) % 128 = y.val; omega
  rw [e]
  unfold val_main_v36
  pointwise
  split
  · next hx =>
    rw [val_main_v35_apply]
    have e2 : idx_main_v35 (ix4 b ⟨x.val, hx⟩ h y) = ix4 b h y ⟨x.val, hx⟩ := by funext a; match a with | ⟨0, _⟩ => rfl | ⟨1, _⟩ => rfl | ⟨2, _⟩ => rfl | ⟨3, _⟩ => rfl
    rw [e2, v34_at]
    simp only [v22_at]
  · next hx =>
    rw [val_main_v18_apply]
    have e2 : idx_main_v18 (ix4 b ⟨x.val - 256, by omega⟩ h y) = ix4 b h y ⟨x.val - 256, by omega⟩ := by funext a; match a with | ⟨0, _⟩ => rfl | ⟨1, _⟩ => rfl | ⟨2, _⟩ => rfl | ⟨3, _⟩ => rfl
    rw [e2, v17_at, ← softRow_comp shift]
    simp only [v5_at, keys_at, values_at]

end Cert.Attn

/-! ## The kernel's rows -/

namespace Cert.KernelIdeal.Attn

open Idealize.ShloMosaic Idealize.ShloMosaic.TcCoe Idealize.ShloMosaic.Tactic
open Cert.KernelIdeal.Gen Cert.Attn

variable (m : (ℓ : Loc nD τ sig) → Buf (Elt Ideal) ℓ)

theorem entry_q (c : Dev nD) (b : Fin 2) (h : Fin 4) (x : Fin 4352) (d : Fin 192) :
    headOf (V m c main_v8) b h (ix3 0 x d) = Ideal.div (joined (m (c.tc.loc main_arg3)) (m (c.tc.loc main_arg0)) b h x d) (rootC * logC) := by
  show V m c main_v8 (ix3 h ⟨b.val * 4352 + x.val, by omega⟩ d) = _
  entry_read
  pointwise
  refine congrArg₂ Ideal.div ?_ rfl
  unfold joined
  have e1 : (b.val * 4352 + x.val) % 4352 = x.val := by omega
  have e2 : (b.val * 4352 + x.val) / 4352 = b.val := by omega
  simp only [e1, e2]

theorem entry_k (c : Dev nD) (b : Fin 2) (h : Fin 4) (x : Fin 4352) (d : Fin 192) :
    headOf (V m c main_v12) b h (ix3 0 x d) = joined (m (c.tc.loc main_arg4)) (m (c.tc.loc main_arg1)) b h x d := by
  show V m c main_v12 (ix3 h ⟨b.val * 4352 + x.val, by omega⟩ d) = _
  entry_read
  pointwise
  unfold joined
  have e1 : (b.val * 4352 + x.val) % 4352 = x.val := by omega
  have e2 : (b.val * 4352 + x.val) / 4352 = b.val := by omega
  simp only [e1, e2]

theorem entry_v (c : Dev nD) (b : Fin 2) (h : Fin 4) (x : Fin 4352) (d : Fin 256) :
    headOf (V m c main_v18) b h (ix3 0 x d) = if hd : d.val < 128 then joined (m (c.tc.loc main_arg5)) (m (c.tc.loc main_arg2)) b h x ⟨d, hd⟩ else 1 := by
  show V m c main_v18 (ix3 h ⟨b.val * 4352 + x.val, by omega⟩ d) = _
  entry_read
  pointwise
  unfold joined
  have e1 : (b.val * 4352 + x.val) % 4352 = x.val := by omega
  have e2 : (b.val * 4352 + x.val) / 4352 = b.val := by omega
  simp only [e1, e2]

/-- Every query and key is a real number. -/
def Reals (c : Dev nD) : Prop :=
  (∀ i, ∃ r : ℝ, m (c.tc.loc main_arg0) i = (r : EReal)) ∧ (∀ i, ∃ r : ℝ, m (c.tc.loc main_arg1) i = (r : EReal))
    ∧ (∀ i, ∃ r : ℝ, m (c.tc.loc main_arg3) i = (r : EReal)) ∧ (∀ i, ∃ r : ℝ, m (c.tc.loc main_arg4) i = (r : EReal))

theorem joined_real {n : ℕ} (ctx : (⟨4, ![2, 256, 4, n]⟩ : Shape).Idx → EReal) (lat : (⟨4, ![2, 4096, 4, n]⟩ : Shape).Idx → EReal)
    (hc : ∀ i, ∃ r : ℝ, ctx i = (r : EReal)) (hl : ∀ i, ∃ r : ℝ, lat i = (r : EReal)) (b : Fin 2) (h : Fin 4) (x : Fin 4352) (d : Fin n) :
    ∃ r : ℝ, joined ctx lat b h x d = (r : EReal) := by
  unfold joined
  split
  · exact hc _
  · exact hl _

/-- The kernel's row is a softmax. -/
theorem row_soft {κ : Type} [Fintype κ] [Nonempty κ] (c : Dev nD) (hf : Reals m c) (b : Fin 2) (h : Fin 4) (x : Fin 4352) (y : Fin 128) (f : κ → Fin 4352) :
    pow2Row (fun j => ∑ d : Fin 192, headOf (V m c main_v8) b h (ix3 0 x d) * headOf (V m c main_v12) b h (ix3 0 (f j) d))
      (fun j => headOf (V m c main_v18) b h (ix3 0 (f j) ⟨y, by omega⟩)) (fun j => headOf (V m c main_v18) b h (ix3 0 (f j) 128))
    = softRow (fun j => Ideal.div (∑ d : Fin 192, joined (m (c.tc.loc main_arg3)) (m (c.tc.loc main_arg0)) b h x d * joined (m (c.tc.loc main_arg4)) (m (c.tc.loc main_arg1)) b h (f j) d) rootC)
        (fun j => joined (m (c.tc.loc main_arg5)) (m (c.tc.loc main_arg2)) b h (f j) y) := by
  have hs := fun j => scores 192 (joined (m (c.tc.loc main_arg3)) (m (c.tc.loc main_arg0)) b h x) (joined (m (c.tc.loc main_arg4)) (m (c.tc.loc main_arg1)) b h (f j))
    (Real.sqrt 192) (Real.log 2) (Real.sqrt_pos.2 (by norm_num)) (Real.log_pos (by norm_num))
    (joined_real _ _ hf.2.2.1 hf.1 b h x) (joined_real _ _ hf.2.2.2 hf.2.1 b h (f j))
  choose z hz using hs
  have ev : ∀ j, headOf (V m c main_v18) b h (ix3 0 (f j) ⟨y, by omega⟩) = joined (m (c.tc.loc main_arg5)) (m (c.tc.loc main_arg2)) b h (f j) y := fun j => by
    rw [entry_v, dif_pos y.isLt]
  refine Eq.trans (pow2Row_congr (fun j => rfl) ev (fun j => rfl)) (pow2Row_eq z _ _ _ _ (fun j => ?_) (fun j => ?_) (fun j => ?_))
  · rw [rootC_eq]; exact (hz j).1
  · rw [← (hz j).2]
    refine Finset.sum_congr rfl fun d _ => ?_
    rw [entry_q, entry_k, rootC_eq, logC_eq]
  · rw [entry_v, dif_neg (by decide)]

/-- The two programs' arrays are one. -/
theorem arrays_eq (c : Dev nD) (hf : Reals m c) :
    resultOf (V m c main_v8) (V m c main_v12) (V m c main_v18)
      = Cert.ReferenceIdeal.Read.val_main_v38 (F := Ideal) (m (c.tc.loc main_arg0)) (m (c.tc.loc main_arg1)) (m (c.tc.loc main_arg2)) (m (c.tc.loc main_arg3)) (m (c.tc.loc main_arg4)) (m (c.tc.loc main_arg5)) := by
  funext i
  have hi0 : (i 0).val < 8704 := (i 0).isLt
  have hi1 : (i 1).val < 512 := (i 1).isLt
  refine Eq.trans ?_ (reference_at _ _ _ _ _ _ i ⟨(i 0).val / 4352, by omega⟩ ⟨(i 0).val % 4352, Nat.mod_lt _ (by decide)⟩ ⟨(i 1).val / 128, by omega⟩
    ⟨(i 1).val % 128, Nat.mod_lt _ (by decide)⟩ (by show (i 0).val = (i 0).val / 4352 * 4352 + (i 0).val % 4352; omega) (by show (i 1).val = (i 1).val / 128 * 128 + (i 1).val % 128; omega)).symm
  unfold resultOf rowOf
  by_cases hx : (i 0).val % 4352 < 256
  · refine (if_pos hx).trans (Eq.trans ?_ (dif_pos hx).symm)
    refine (row_soft m c hf _ _ _ _ (fun j : Fin 256 => ⟨j.val, by omega⟩)).trans ?_
    unfold joined
    have hj : ∀ j : Fin 256, ((⟨j.val, by omega⟩ : Fin 4352) : ℕ) < 256 := fun j => j.isLt
    simp only [hj, hx, dif_pos]
  · refine (if_neg hx).trans (Eq.trans ?_ (dif_neg hx).symm)
    refine (row_soft m c hf _ _ _ _ (fun j : Fin 4352 => j)).trans ?_
    have e : ∀ d : Fin 192, joined (m (c.tc.loc main_arg3)) (m (c.tc.loc main_arg0)) ⟨(i 0).val / 4352, by omega⟩ ⟨(i 1).val / 128, by omega⟩ ⟨(i 0).val % 4352, Nat.mod_lt _ (by decide)⟩ d
        = m (c.tc.loc main_arg0) (ix4 ⟨(i 0).val / 4352, by omega⟩ ⟨(i 0).val % 4352 - 256, by omega⟩ ⟨(i 1).val / 128, by omega⟩ d) := fun d => dif_neg hx
    simp only [e]

theorem real_of_cmp {a : EReal} (h : FloatOps.cmpf (F := Ideal) (φ := .f32) .olt (FloatOps.absf (F := Ideal) (φ := .f32) a) (Ideal.ofBits .f32 0x7F800000#32) = 1#1) : ∃ r : ℝ, a = (r : EReal) := by
  have e : Ideal.ofBits .f32 0x7F800000#32 = ⊤ := by simp [Ideal.ofBits, Ideal.ieee]
  rw [e] at h
  have h' : BitVec.ofBool (decide (max a (-a) < ⊤)) = 1#1 := h
  by_cases hlt : max a (-a) < ⊤
  · exact coe_of_abs_lt hlt
  · rw [decide_eq_false hlt] at h'
    exact absurd h' (by decide)

/-- The precondition makes the queries and keys real numbers. -/
theorem reals_of_pre (hPre : Cert.Pre_KernelIdeal_finite_scores (hPre_finite_scores := Cert.Pre_finite_scores.Gen.facts) m) (c : Dev nD) : Reals m c := by
  have h := congrFun (hPre c) (fun a => a.elim0)
  obtain ⟨h, h4⟩ := IntOp.andi_eq_one.1 h
  obtain ⟨h, h3⟩ := IntOp.andi_eq_one.1 h
  obtain ⟨h0, h1⟩ := IntOp.andi_eq_one.1 h
  exact ⟨fun i => real_of_cmp (Host.reduce_andi_all _ _ _ _ _ h0 i), fun i => real_of_cmp (Host.reduce_andi_all _ _ _ _ _ h1 i),
    fun i => real_of_cmp (Host.reduce_andi_all _ _ _ _ _ h3 i), fun i => real_of_cmp (Host.reduce_andi_all _ _ _ _ _ h4 i)⟩

end Cert.KernelIdeal.Attn

end
-- ==== Proof.AttnClaims.lean ====
/- The claims on the attention that are not the kernel's own frame: its reference's frame, and the equality of the two results. -/
module

public import proofs.«01_k».proof.Proof.AttnTie
public import proofs.«01_k».proof.Proof.AttnFrames
public import proofs.«01_k».proof.Proof.Gen.ReferenceIdeal.Run
public import Idealize.ShloMosaic.Lib.Quiescent

@[expose] public section

set_option maxRecDepth 16384

noncomputable section

namespace Cert.Attn

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) _⟩) (Cert.ReferenceIdeal.Value.run (F := Ideal) m ρ)

theorem frame_reference_pre : Cert.quiescent_ReferenceIdeal_pre_finite_scores (hReferenceIdeal := Cert.ReferenceIdeal.Gen.facts) (hPre_finite_scores := Cert.Pre_finite_scores.Gen.facts) :=
  fun m ρ _ => frame_reference m ρ trivial

/-- Over finite queries and keys the attention call and its reference end with one array. -/
theorem algebraic : Cert.algebraic_KernelIdeal_ReferenceIdeal_pre_finite_scores (hKernelIdeal := Cert.KernelIdeal.Gen.facts) (hReferenceIdeal := Cert.ReferenceIdeal.Gen.facts)
    (hPre_finite_scores := Cert.Pre_finite_scores.Gen.facts) := by
  intro m g m' g' hPre hagree
  refine ⟨fun c => Cert.KernelIdeal.Attn.resultOf (Cert.KernelIdeal.Gen.V m c Cert.KernelIdeal.main_v8) (Cert.KernelIdeal.Gen.V m c Cert.KernelIdeal.main_v12) (Cert.KernelIdeal.Gen.V m c Cert.KernelIdeal.main_v18),
    (θ_run Cert.KernelIdeal.defs _ _).mono (fun r h c => ⟨((h.1 c).1).trans (Cert.KernelIdeal.Attn.array_eq m c), (h.1 c).2⟩) (Cert.KernelIdeal.Attn.run_main (F := Ideal) m g),
    (θ_run Cert.ReferenceIdeal.defs _ _).mono (fun r h c => ⟨?_, (h c).2⟩) (Cert.ReferenceIdeal.Value.run (F := Ideal) m' g')⟩
  obtain ⟨a0, a1, a2, a3, a4, a5⟩ := hagree c
  refine (h c).1.trans ((Cert.ReferenceIdeal.Read.val_main_v38_eq m' c).trans ?_)
  rw [a0, a1, a2, a3, a4, a5]
  exact (Cert.KernelIdeal.Attn.arrays_eq m c (Cert.KernelIdeal.Attn.reals_of_pre m hPre c)).symm

end Cert.Attn

end
-- ==== Proof.SwigluValue.lean ====
/-
  The gated feed-forward's first call at the extended reals: the weight scratches hold the point's column block of the
  weights at every row block, and every element of the result array is silu of a row times a column of the first
  weights, times the row times the column of the second.
-/
module

public import proofs.«01_k».proof.Proof.Gen.Kernel2Ideal.Value
public import Idealize.ShloMosaic.Lib.Tactic
public import Idealize.ShloMosaic.Lib.Pipeline.ValueKit
public import Idealize.ShloMosaic.PureOps.Ideal

@[expose] public section

set_option maxRecDepth 16384

noncomputable section

namespace Cert.Kernel2Ideal.Swiglu

open Cert.Kernel2Ideal Cert.Kernel2Ideal.Gen Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F]
variable (m : (ℓ : Loc nD τ sig) → Buf (Elt F) ℓ)

theorem scratch1 (c : Dev nD) (i : grid0.Coords) (a2 : Memref sig .tc .vmem S1088x2048 .bf16) (h2 : a2.IsWhole) (a3 : Memref sig .tc .vmem S1x2048x512 .f32) (h3 : a3.IsWhole) (a4 : Memref sig .tc .vmem S1x2048x512 .f32) (h4 : a4.IsWhole) (a5 : Memref sig .tc .vmem S1088x512 .bf16) (h5 : a5.IsWhole) (a6 : Memref sig .tc .vmem S2048x512 .bf16) (h6 : a6.IsWhole) (a7 : Memref sig .tc .vmem S2048x512 .bf16) (h7 : a7.IsWhole) (hc : cond0_0 i)
    (x0 : Vec F S1088x2048 .bf16) (x1 x2 : Vec F S1x2048x512 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz2]
  simp only [View.readAt_eq_ld, h3.read_unread, View.ld_unit_zero (S := S1x2048x512) hz3]

theorem scratch2 (c : Dev nD) (i : grid0.Coords) (a2 : Memref sig .tc .vmem S1088x2048 .bf16) (h2 : a2.IsWhole) (a3 : Memref sig .tc .vmem S1x2048x512 .f32) (h3 : a3.IsWhole) (a4 : Memref sig .tc .vmem S1x2048x512 .f32) (h4 : a4.IsWhole) (a5 : Memref sig .tc .vmem S1088x512 .bf16) (h5 : a5.IsWhole) (a6 : Memref sig .tc .vmem S2048x512 .bf16) (h6 : a6.IsWhole) (a7 : Memref sig .tc .vmem S2048x512 .bf16) (h7 : a7.IsWhole) (hc : cond0_0 i)
    (x0 : Vec F S1088x2048 .bf16) (x1 x2 : Vec F S1x2048x512 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz2]
  simp only [View.readAt_eq_ld, h4.read_unread, View.ld_unit_zero (S := S1x2048x512) hz3]

theorem out_first (c : Dev nD) (i : grid0.Coords) (a2 : Memref sig .tc .vmem S1088x2048 .bf16) (h2 : a2.IsWhole) (a3 : Memref sig .tc .vmem S1x2048x512 .f32) (h3 : a3.IsWhole) (a4 : Memref sig .tc .vmem S1x2048x512 .f32) (h4 : a4.IsWhole) (a5 : Memref sig .tc .vmem S1088x512 .bf16) (h5 : a5.IsWhole) (a6 : Memref sig .tc .vmem S2048x512 .bf16) (h6 : a6.IsWhole) (a7 : Memref sig .tc .vmem S2048x512 .bf16) (h7 : a7.IsWhole) (hc : cond0_0 i)
    (x0 : Vec F S1088x2048 .bf16) (x1 x2 : Vec F S1x2048x512 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2]
  simp only [View.readCov_unit_zero (S := S2048x512) _ hz2, View.readAt_eq_ld, h2.read_unread, h3.read_unread, h4.read_unread, View.ld_unit_zero (S := S1x2048x512) hz3, View.ld_unit_zero (S := S1088x2048) hz2]

theorem out_later (c : Dev nD) (i : grid0.Coords) (a2 : Memref sig .tc .vmem S1088x2048 .bf16) (h2 : a2.IsWhole) (a3 : Memref sig .tc .vmem S1x2048x512 .f32) (h3 : a3.IsWhole) (a4 : Memref sig .tc .vmem S1x2048x512 .f32) (h4 : a4.IsWhole) (a5 : Memref sig .tc .vmem S1088x512 .bf16) (h5 : a5.IsWhole) (a6 : Memref sig .tc .vmem S2048x512 .bf16) (h6 : a6.IsWhole) (a7 : Memref sig .tc .vmem S2048x512 .bf16) (h7 : a7.IsWhole) (hc : ¬cond0_0 i)
    (x0 : Vec F S1088x2048 .bf16) (x1 x2 : Vec F S1x2048x512 .f32) (s0 s1 : Vec F S2048x512 .bf16) :
    out0_B_3 c i a2 h2 a3 h3 a4 h4 a5 h5 a6 h6 a7 h7 hc x0 x1 x2 s0 s1 = k0_pay3 x0 s0 s1 := by
  unfold out0_B_3
  rw [View.read_writes_eq_canon _ _ _ (cover0_B_3 c i a2 h2 a3 h3 a4 h4 a5 h5 a6 h6 a7 h7 hc x0 x1 x2 s0 s1)]
  unfold kernelRun0_B
  dsimp only
  sl_unfold_words
  rw [View.canon_unit_zero hz2]
  simp only [View.readAt_eq_ld, h2.read_unread, h6.read_unread, h7.read_unread, View.ld_unit_zero (S := S2048x512) hz2, View.ld_unit_zero (S := S1088x2048) hz2]

theorem idx_facts : ∀ t : Fin cfg0.N, win0_0.index t = ![t.val % 8, 0]
    ∧ win0_1.index t = ![1, 0, t.val / 8]
    ∧ win0_2.index t = ![1, 0, t.val / 8]
    ∧ win0_3.index t = ![t.val % 8, t.val / 8] :=
  (by decide +kernel : ∀ t : Fin grid0.N, _)

/-- The column block of the first and of the second weights that grid point `n` works with. -/
def cols (w : (⟨3, ![2, 2048, 5632]⟩ : Shape).Idx → F .f32) (n : ℕ) (h : n < 88) : Vec F S1x2048x512 .f32 :=
  fun i => w (ix3 1 ⟨(i 1).val, (i 1).isLt⟩ ⟨n / 8 * 512 + (i 2).val, by have : (i 2).val < 512 := (i 2).isLt; omega⟩)

theorem block1 (c : Dev nD) (t : Fin cfg0.N) (h : t.val < 88) : iblk m c 1 t = cols (V m c main_arg2) t.val h := by
  obtain ⟨_, e1, _, _⟩ := idx_facts t
  funext i
  unfold cols
  have hi : (i 0).val = 0 := by have : (i 0).val < 1 := (i 0).isLt; omega
  blk_ext [iblk, e1]

theorem block2 (c : Dev nD) (t : Fin cfg0.N) (h : t.val < 88) : iblk m c 2 t = cols (V m c main_arg3) t.val h := by
  obtain ⟨_, _, e2, _⟩ := idx_facts t
  funext i
  unfold cols
  have hi : (i 0).val = 0 := by have : (i 0).val < 1 := (i 0).isLt; omega
  blk_ext [iblk, e2]

theorem cols_congr (w : (⟨3, ![2, 2048, 5632]⟩ : Shape).Idx → F .f32) (n k : ℕ) (h : n < 88) (hk : k < 88) (e : n / 8 = k / 8) : cols w n h = cols w k hk := by
  unfold cols
  simp only [e]

/-- What every point leaves in the result block and the two weight scratches. -/
theorem state_eq (c : Dev nD) : ∀ (n : ℕ) (h : n < cfg0.N) (h' : n < 88),
    outsAt0 m c n h = (k0_pay3 (iblk m c 0 ⟨n, h⟩) (k0_pay1 (cols (V m c main_arg2) n h')) (k0_pay2 (cols (V m c main_arg3) n h')),
      k0_pay1 (cols (V m c main_arg2) n h'), k0_pay2 (cols (V m c main_arg3) n h')) := by
  intro n
  induction n with
  | zero =>
    intro h h'
    refine (outsAt0_A m c ⟨0, h⟩ rfl).trans ?_
    rw [out_first, scratch1, scratch2, block1 m c ⟨0, h⟩ h', block2 m c ⟨0, h⟩ h']
  | succ n ih =>
    intro h h'
    by_cases h0 : (n + 1) % 8 = 0
    · refine (outsAt0_A m c ⟨n + 1, h⟩ h0).trans ?_
      rw [out_first, scratch1, scratch2, block1 m c ⟨n + 1, h⟩ h', block2 m c ⟨n + 1, h⟩ h']
    · refine (outsAt0_B m c ⟨n + 1, h⟩ h0).trans ?_
      have hn : n < cfg0.N := Nat.lt_of_succ_lt h
      have hp : ∀ (q : n + 1 - 1 < cfg0.N), outsAt0 m c (n + 1 - 1) q = _ := fun q => ih hn (by omega)
      rw [out_later]
      unfold sout0_B_0 sout0_B_1
      have e : n / 8 = (n + 1) / 8 := by omega
      simp only [hp, cols_congr _ n (n + 1) (by omega) h' e]

end Points

/-! ## At the extended reals -/

variable (m : (ℓ : Loc nD τ sig) → Buf (Elt Ideal) ℓ)

/-- silu of `a`, times `b`. -/
def gated (a b : EReal) : EReal := a * Ideal.div 1 (1 + Ideal.exp (-a)) * b

theorem tile_at (x : Vec Ideal S1088x2048 .bf16) (u v : Vec Ideal S1x2048x512 .f32) (r : Fin 1088) (q : Fin 512) :
    k0_pay3 x (k0_pay1 u) (k0_pay2 v) (ix2 r q)
      = gated (∑ d : Fin 2048, x (ix2 r d) * u (ix3 0 d q)) (∑ d : Fin 2048, x (ix2 r d) * v (ix3 0 d q)) := by
  unfold k0_pay3 k0_pay1 k0_pay2 gated
  pointwise
  rw [zero_sub]

/-- The result array. -/
def resultOf (x : (⟨2, ![8704, 2048]⟩ : Shape).Idx → EReal) (u v : (⟨3, ![2, 2048, 5632]⟩ : Shape).Idx → EReal) : S8704x5632.Idx → EReal := fun i =>
  gated (∑ d : Fin 2048, x (ix2 ⟨(i 0).val, (i 0).isLt⟩ d) * u (ix3 1 d ⟨(i 1).val, (i 1).isLt⟩))
    (∑ d : Fin 2048, x (ix2 ⟨(i 0).val, (i 0).isLt⟩ d) * v (ix3 1 d ⟨(i 1).val, (i 1).isLt⟩))

theorem array_eq (c : Dev nD) : (dats m 0 c).arrAt 3 cfg0.N = resultOf (V m c main_v2) (V m c main_arg2) (V m c main_arg3) := by
  refine (dats m 0 c).arrAt_eq_of_covers 3 _ (by decide +kernel) fun t hf y => ?_
  obtain ⟨e0, e1, e2, e3⟩ := idx_facts t
  have ht : t.val < 88 := lt_of_lt_of_eq t.isLt N_0
  have hy0 : (y 0).val < 1088 := (y 0).isLt
  have hy1 : (y 1).val < 512 := (y 1).isLt
  have h0 : (((win0_3.blk t).view.emb y) 0 : ℕ) = t.val % 8 * 1088 + (y 0).val := by
    blk_simp [e3]
  have h1 : (((win0_3.blk t).view.emb y) 1 : ℕ) = t.val / 8 * 512 + (y 1).val := by
    blk_simp [e3]
  blk_simp
  rw [after0_3, state_eq m c t.val t.isLt ht]
  have q0 : ∀ (r : Fin 1088) (d : Fin 2048), iblk m c 0 t (ix2 r d) = V m c main_v2 (ix2 ⟨t.val % 8 * 1088 + r.val, by omega⟩ d) := fun r d => by
    blk_ext [iblk, e0]
  refine (congrArg (k0_pay3 _ _ _) (eq_ix2 (n0 := 1088) (n1 := 512) y)).trans ((tile_at _ _ _ ⟨(y 0).val, hy0⟩ ⟨(y 1).val, hy1⟩).trans ?_)
  unfold resultOf cols
  simp only [h0, h1]
  simp only [q0]
  rfl

end Cert.Kernel2Ideal.Swiglu

end
-- ==== Proof.SwigluTie.lean ====
/- The two programs of the gated feed-forward's first call compute one array. -/
module

public import proofs.«01_k».proof.Proof.SwigluValue
public import proofs.«01_k».proof.Proof.Gen.Reference2Ideal.Read

@[expose] public section

set_option maxRecDepth 16384

noncomputable section

/-! ## The reference's elements -/

namespace Cert.Swiglu

open Idealize.ShloMosaic Idealize.ShloMosaic.TcCoe Idealize.ShloMosaic.Tactic
open Cert.Reference2Ideal Cert.Reference2Ideal.Gen Cert.Reference2Ideal.Read

/-- Row `s` of batch `b`, the context's rows before the latents'. -/
def joined (xc : (⟨3, ![2, 256, 2048]⟩ : Shape).Idx → EReal) (x : (⟨3, ![2, 4096, 2048]⟩ : Shape).Idx → EReal) (b : Fin 2) (s : Fin 4352) (d : Fin 2048) : EReal :=
  if h : s.val < 256 then xc (ix3 b ⟨s.val, h⟩ d) else x (ix3 b ⟨s.val - 256, by omega⟩ d)

theorem reference_at (x0 : Vec Ideal S2x4096x2048 .f32) (x1 : Vec Ideal S2x256x2048 .f32) (x2 x3 : Vec Ideal S2x2048x5632 .f32) (b : Fin 2) (s : Fin 4352) (q : Fin 5632) :
    val_main_v18 (F := Ideal) x0 x1 x2 x3 (ix2 ⟨b.val * 4352 + s.val, by omega⟩ q)
      = Cert.Kernel2Ideal.Swiglu.gated (∑ d : Fin 2048, joined x1 x0 b s d * x2 (ix3 1 d q)) (∑ d : Fin 2048, joined x1 x0 b s d * x3 (ix3 1 d q)) := by
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  unfold val_main_call0_v5 val_main_call0_v4 val_main_call0_cst_0 val_main_call0_v3 val_main_call0_v2 val_main_call0_cst val_main_call0_v1 val_main_call0_v0
  unfold val_main_call1_v5 val_main_call1_v4 val_main_call1_cst_0 val_main_call1_v3 val_main_call1_v2 val_main_call1_cst val_main_call1_v1 val_main_call1_v0
  unfold val_main_v10 val_main_v2 val_main_v9 val_main_v8 val_main_v1 val_main_v0
  pointwise
  unfold joined Cert.Kernel2Ideal.Swiglu.gated
  by_cases h : s.val < 256
  · simp only [h, dif_pos]
  · simp only [h, dif_neg, not_false_eq_true]

end Cert.Swiglu

namespace Cert.Kernel2Ideal.Swiglu

open Cert.Kernel2Ideal Cert.Kernel2Ideal.Gen Idealize.ShloMosaic Idealize.ShloMosaic.TcCoe Idealize.ShloMosaic.Tactic
variable (m : (ℓ : Loc nD τ sig) → Buf (Elt Ideal) ℓ)

theorem entry_rows (c : Dev nD) (b : Fin 2) (s : Fin 4352) (d : Fin 2048) :
    V m c main_v2 (ix2 ⟨b.val * 4352 + s.val, by omega⟩ d) = Cert.Swiglu.joined (m (c.tc.loc main_arg1)) (m (c.tc.loc main_arg0)) b s d := by
  have e1 : (b.val * 4352 + s.val) / 4352 = b.val := by omega
  have e2 : (b.val * 4352 + s.val) % 4352 = s.val := by omega
  unfold Cert.Swiglu.joined
  entry_read
  pointwise
  simp only [e1, e2]

theorem resultOf_at (x : (⟨2, ![8704, 2048]⟩ : Shape).Idx → EReal) (u v : (⟨3, ![2, 2048, 5632]⟩ : Shape).Idx → EReal) (r : Fin 8704) (q : Fin 5632) :
    resultOf x u v (ix2 r q) = gated (∑ d : Fin 2048, x (ix2 r d) * u (ix3 1 d q)) (∑ d : Fin 2048, x (ix2 r d) * v (ix3 1 d q)) := rfl

/-- The two programs' arrays are one. -/
theorem arrays_eq (c : Dev nD) :
    resultOf (V m c main_v2) (V m c main_arg2) (V m c main_arg3)
      = Cert.Reference2Ideal.Read.val_main_v18 (F := Ideal) (m (c.tc.loc main_arg0)) (m (c.tc.loc main_arg1)) (m (c.tc.loc main_arg2)) (m (c.tc.loc main_arg3)) := by
  have main : ∀ (r : Fin 8704) (q : Fin 5632), resultOf (V m c main_v2) (V m c main_arg2) (V m c main_arg3) (ix2 r q)
      = Cert.Reference2Ideal.Read.val_main_v18 (F := Ideal) (m (c.tc.loc main_arg0)) (m (c.tc.loc main_arg1)) (m (c.tc.loc main_arg2)) (m (c.tc.loc main_arg3)) (ix2 r q) := fun r q => by
    have e : (⟨r.val / 4352 * 4352 + r.val % 4352, by omega⟩ : Fin 8704) = r := Fin.ext (by show _ / 4352 * 4352 + _ = _; omega)
    have hr := Cert.Swiglu.reference_at (m (c.tc.loc main_arg0)) (m (c.tc.loc main_arg1)) (m (c.tc.loc main_arg2)) (m (c.tc.loc main_arg3))
      ⟨r.val / 4352, by omega⟩ ⟨r.val % 4352, Nat.mod_lt _ (by decide)⟩ q
    have hx := entry_rows m c ⟨r.val / 4352, by omega⟩ ⟨r.val % 4352, Nat.mod_lt _ (by decide)⟩
    simp only [e] at hr hx
    refine Eq.trans ?_ hr.symm
    rw [V_main_arg2, V_main_arg3]
    rw [resultOf_at]
    simp only [hx]
  funext i
  rw [eq_ix2 (n0 := 8704) (n1 := 5632) i]
  exact main _ _

end Cert.Kernel2Ideal.Swiglu

end
-- ==== Proof.SwigluClaims.lean ====
/- The claims on the gated feed-forward's first call. -/
module

public import proofs.«01_k».proof.Defs
public import proofs.«01_k».proof.Proof.SwigluTie
public import proofs.«01_k».proof.Proof.Gen.Kernel2
public import proofs.«01_k».proof.Proof.Gen.Reference2Ideal.Run
public import Idealize.ShloMosaic.Lib.Quiescent

@[expose] public section

set_option maxRecDepth 16384

noncomputable section

namespace Cert.Swiglu

open Idealize.ShloMosaic Idealize.ShloMosaic.TcCoe Idealize.SL.Sem

theorem body_table : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | 0, (t, s) => rfl

theorem tables : @Cert.Kernel2.defs Bits _ Cert.Kernel2.Gen.facts = @Cert.Kernel2Ideal.defs Bits _ Cert.Kernel2Ideal.Gen.facts :=
  congrArg (Pipeline.defs (Cert.Kernel2Ideal.pcfgs (F := Bits))) body_table

theorem frame_kernel : Cert.quiescent_Kernel2 (hKernel2 := Cert.Kernel2.Gen.facts) := fun m ρ _ => by
  rw [tables]
  exact Cert.Kernel2Ideal.Gen.frame (F := Bits) m ρ

theorem frame_ideal : Cert.quiescent_Kernel2Ideal (hKernel2Ideal := Cert.Kernel2Ideal.Gen.facts) := fun m ρ _ =>
  Cert.Kernel2Ideal.Gen.frame (F := Ideal) m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) _⟩) (Cert.Reference2Ideal.Value.run (F := Ideal) m ρ)

/-- The gated feed-forward's first call and its reference end with one array. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Swiglu.resultOf (Cert.Kernel2Ideal.Gen.V m c Cert.Kernel2Ideal.main_v2) (Cert.Kernel2Ideal.Gen.V m c Cert.Kernel2Ideal.main_arg2) (Cert.Kernel2Ideal.Gen.V m c Cert.Kernel2Ideal.main_arg3),
    (θ_run Cert.Kernel2Ideal.defs _ _).mono (fun r h c => ⟨((h c).1).trans (Cert.Kernel2Ideal.Swiglu.array_eq m c), (h c).2⟩) (Cert.Kernel2Ideal.Value.run_blocks (F := Ideal) m g),
    (θ_run Cert.Reference2Ideal.defs _ _).mono (fun r h c => ⟨?_, (h c).2⟩) (Cert.Reference2Ideal.Value.run (F := Ideal) m' g')⟩
  obtain ⟨a0, a1, a2, a3⟩ := hagree c
  refine (h c).1.trans ((Cert.Reference2Ideal.Read.val_main_v18_eq _ _ _ _).trans ?_)
  rw [a0, a1, a2, a3]
  exact (Cert.Kernel2Ideal.Swiglu.arrays_eq m c).symm

end Cert.Swiglu

end
-- ==== Proof.InProjOk.lean ====
module

public import proofs.«01_k».proof.Proof.Gen.Kernel3Ideal.Frame.RunB
public import Idealize.ShloMosaic.Lib.Claim
public import Idealize.ShloMosaic.Lib.Tactic
public import Idealize.ShloMosaic.Lib.Pipeline.ValueKit

/-! The two tables of the input projection are constants of the program: what they hold, and that every
    weight window they name lies inside the weights. -/

@[expose] public section

set_option maxRecDepth 16384

noncomputable section

namespace Cert.InProj

open Idealize.ShloMosaic Idealize.ShloMosaic.TcCoe Idealize.ShloMosaic.Tactic
open Cert.Kernel3Ideal Cert.Kernel3Ideal.Gen

variable {F : FTy → Type} [FloatOps F]

/-- The tables the program writes: the first weight column group of each half of an output tile, and how many of its
    eight groups are columns of the weights. -/
def tables : pre0.Contents (Elt F)
  | ⟨0, _⟩ => fun i => lit0 (S26.rowMajor i)
  | ⟨1, _⟩ => fun i => lit1 (S26.rowMajor i)

theorem tbl_eq (m : (ℓ : Loc nD τ sig) → Buf (Elt F) ℓ) : tbl m = tables := by
  funext j
  match j with
  | ⟨0, _⟩ => show V m 0 main_c = _; funext i; entry_read; rfl
  | ⟨1, _⟩ => show V m 0 main_c_0 = _; funext i; entry_read; rfl

theorem ok_tables : ok0 (F := F) tables := of_decide_eq_true (by sl_kernel_rfl)

theorem ok (m : (ℓ : Loc nD τ sig) → Buf (Elt F) ℓ) : Ok m := by
  unfold Ok; rw [tbl_eq]; exact ok_tables

end Cert.InProj

end
-- ==== Proof.InProjFrame.lean ====
module

public import proofs.«01_k».proof.Proof.InProjOk
public import Idealize.ShloMosaic.Lib.Claim
public import Idealize.ShloMosaic.Lib.Quiescent

/-! The run of the input projection. At the first row tile of an output column tile the body gathers the tile's weight
    columns into the scratch buffer, and the following seven row tiles read them there: what the scratch holds after a point
    is a function of the column tile alone. -/

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body at a point's buffers -/

/-- The body's run at a point that gathers the weight columns. -/
def runA (hO : Ok m) (c : Dev nD) (t : Fin (cfgM m hO).N) (h0 : t.val % 8 = 0) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((hcond0_0 t).mpr h0)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (tbl m 0) (tbl m 1)

/-- The body's run at a point that finds them gathered. -/
def runB (hO : Ok m) (c : Dev nD) (t : Fin (cfgM m hO).N) (h0 : ¬t.val % 8 = 0) (xs : Vec F S1024x2048 .bf16) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h => h0 ((hcond0_0 t).mp h))
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (tbl m 0) (tbl m 1) xs

theorem coverA (hO : Ok m) (c : Dev nD) (t : Fin (cfgM m hO).N) (h0 : t.val % 8 = 0) (y : S1088x1024.Idx) :
    ∃ pc ∈ (runA m hO c t h0).1, y ∈ pc.1.set :=
  View.cover_of_tiledL (runA m hO c t h0).1 S1088x1024.size (by sl_kernel_rfl) y

theorem scoverA (hO : Ok m) (c : Dev nD) (t : Fin (cfgM m hO).N) (h0 : t.val % 8 = 0) (y : S1024x2048.Idx) :
    ∃ pc ∈ (runA m hO c t h0).2.1, y ∈ pc.1.set :=
  View.cover_of_tiledL (runA m hO c t h0).2.1 S64x2048.size (by sl_kernel_rfl) y

theorem coverB (hO : Ok m) (c : Dev nD) (t : Fin (cfgM m hO).N) (h0 : ¬t.val % 8 = 0) (xs : Vec F S1024x2048 .bf16) (y : S1088x1024.Idx) :
    ∃ pc ∈ (runB m hO c t h0 xs).1, y ∈ pc.1.set :=
  View.cover_of_tiledL (runB m hO c t h0 xs).1 S1088x1024.size (by sl_kernel_rfl) y

/-- What each case leaves in the output tile's buffer, and the gathering case in the scratch. -/
def outA (hO : Ok m) (c : Dev nD) (t : Fin (cfgM m hO).N) (h0 : t.val % 8 = 0) : Vec F S1088x1024 .bf16 :=
  VO0_17.read (Elt F) (VO0_17.writes (Elt F) VO0_17.junk (runA m hO c t h0).1)
def scrA (hO : Ok m) (c : Dev nD) (t : Fin (cfgM m hO).N) (h0 : t.val % 8 = 0) : Vec F S1024x2048 .bf16 :=
  VS0_0.read (Elt F) (VS0_0.writes (Elt F) VS0_0.junk (runA m hO c t h0).2.1)
def outB (hO : Ok m) (c : Dev nD) (t : Fin (cfgM m hO).N) (h0 : ¬t.val % 8 = 0) (xs : Vec F S1024x2048 .bf16) : Vec F S1088x1024 .bf16 :=
  VO0_17.read (Elt F) (VO0_17.writes (Elt F) VO0_17.junk (runB m hO c t h0 xs).1)

/-! ## What the scratch and the output hold after each point -/

/-- The first point of a point's column tile. -/
def base (hO : Ok m) (t : Fin (cfgM m hO).N) : Fin (cfgM m hO).N :=
  ⟨8 * (t.val / 8), lt_of_le_of_lt (Nat.mul_div_le _ _) t.isLt⟩

theorem base_mod (hO : Ok m) (t : Fin (cfgM m hO).N) : (base m hO t).val % 8 = 0 := Nat.mul_mod_right _ _

/-- The scratch after a point: what the column tile's first point gathered. -/
def scr (hO : Ok m) (c : Dev nD) (t : Fin (cfgM m hO).N) : Vec F S1024x2048 .bf16 :=
  scrA m hO c (base m hO t) (base_mod m hO t)

theorem scr_eq (hO : Ok m) (c : Dev nD) (t t' : Fin (cfgM m hO).N) (h : t.val / 8 = t'.val / 8) : scr m hO c t = scr m hO c t' := by
  have e : base m hO t = base m hO t' := Fin.ext (congrArg (8 * ·) h)
  unfold scr; congr 1

theorem scr_base (hO : Ok m) (c : Dev nD) (t : Fin (cfgM m hO).N) (h0 : t.val % 8 = 0) : scr m hO c t = scrA m hO c t h0 := by
  have e : base m hO t = t := Fin.ext (by show 8 * (t.val / 8) = t.val; omega)
  unfold scr; congr 1

/-- The output tile's buffer after a point. -/
def out (hO : Ok m) (c : Dev nD) (t : Fin (cfgM m hO).N) : Vec F S1088x1024 .bf16 :=
  if h0 : t.val % 8 = 0 then outA m hO c t h0 else outB m hO c t h0 (scr m hO c t)

theorem out_A (hO : Ok m) (c : Dev nD) (t : Fin (cfgM m hO).N) (h0 : t.val % 8 = 0) : out m hO c t = outA m hO c t h0 := by
  unfold out; rw [dif_pos h0]
theorem out_B (hO : Ok m) (c : Dev nD) (t : Fin (cfgM m hO).N) (h0 : ¬t.val % 8 = 0) :
    out m hO c t = outB m hO c t h0 (scr m hO c ⟨t.val - 1, lt_of_le_of_lt (Nat.sub_le _ _) t.isLt⟩) := by
  unfold out; rw [dif_neg h0, scr_eq m hO c t ⟨t.val - 1, lt_of_le_of_lt (Nat.sub_le _ _) t.isLt⟩ (by show _ = (t.val - 1) / 8; omega)]

/-- The invariant before position `n`: the scratch at what the point before left in it (at anything before the first), the
    generator register at some state, and the tables' halves. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scr m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (scr m hO c ⟨n - 1, by omega⟩)) ∗ (∃ r, prngReg c r)) ∗ Pipeline.ΦT pre0 (tbl m) c) := by
  cases n with
  | zero => exact absurd rfl hz
  | succ n => rfl

/-- The pipeline's proof data: the inputs' buffers at their blocks, the output's at `out`, and the invariant above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => out m hO c t
    | ⟨_ + 18, h⟩ => absurd h (Nat.not_lt.2 (Nat.le_add_left _ _))
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_17 (hO : Ok m) (c : Dev nD) (t : Fin (cfgM m hO).N) : (dats m hO 0 c).after 17 t = out m hO c t := rfl

theorem before0_0 (hO : Ok m) (c : Dev nD) (t : Fin (cfgM m hO).N) (d) : (dats m hO 0 c).before 0 t d = iblk m hO c 0 t :=
  before0_0_of m hO (dats m hO 0 c) (A_eq m hO c 0) (fun _ => rfl) t d
theorem before0_1 (hO : Ok m) (c : Dev nD) (t : Fin (cfgM m hO).N) (d) : (dats m hO 0 c).before 1 t d = iblk m hO c 1 t :=
  before0_1_of m hO (dats m hO 0 c) (A_eq m hO c 1) (fun _ => rfl) t d
theorem before0_2 (hO : Ok m) (c : Dev nD) (t : Fin (cfgM m hO).N) (d) : (dats m hO 0 c).before 2 t d = iblk m hO c 2 t :=
  before0_2_of m hO (dats m hO 0 c) (A_eq m hO c 2) (fun _ => rfl) t d
theorem before0_3 (hO : Ok m) (c : Dev nD) (t : Fin (cfgM m hO).N) (d) : (dats m hO 0 c).before 3 t d = iblk m hO c 3 t :=
  before0_3_of m hO (dats m hO 0 c) (A_eq m hO c 3) (fun _ => rfl) t d
theorem before0_4 (hO : Ok m) (c : Dev nD) (t : Fin (cfgM m hO).N) (d) : (dats m hO 0 c).before 4 t d = iblk m hO c 4 t :=
  before0_4_of m hO (dats m hO 0 c) (A_eq m hO c 4) (fun _ => rfl) t d
theorem before0_5 (hO : Ok m) (c : Dev nD) (t : Fin (cfgM m hO).N) (d) : (dats m hO 0 c).before 5 t d = iblk m hO c 5 t :=
  before0_5_of m hO (dats m hO 0 c) (A_eq m hO c 5) (fun _ => rfl) t d
theorem before0_6 (hO : Ok m) (c : Dev nD) (t : Fin (cfgM m hO).N) (d) : (dats m hO 0 c).before 6 t d = iblk m hO c 6 t :=
  before0_6_of m hO (dats m hO 0 c) (A_eq m hO c 6) (fun _ => rfl) t d
theorem before0_7 (hO : Ok m) (c : Dev nD) (t : Fin (cfgM m hO).N) (d) : (dats m hO 0 c).before 7 t d = iblk m hO c 7 t :=
  before0_7_of m hO (dats m hO 0 c) (A_eq m hO c 7) (fun _ => rfl) t d
theorem before0_8 (hO : Ok m) (c : Dev nD) (t : Fin (cfgM m hO).N) (d) : (dats m hO 0 c).before 8 t d = iblk m hO c 8 t :=
  before0_8_of m hO (dats m hO 0 c) (A_eq m hO c 8) (fun _ => rfl) t d
theorem before0_9 (hO : Ok m) (c : Dev nD) (t : Fin (cfgM m hO).N) (d) : (dats m hO 0 c).before 9 t d = iblk m hO c 9 t :=
  before0_9_of m hO (dats m hO 0 c) (A_eq m hO c 9) (fun _ => rfl) t d
theorem before0_10 (hO : Ok m) (c : Dev nD) (t : Fin (cfgM m hO).N) (d) : (dats m hO 0 c).before 10 t d = iblk m hO c 10 t :=
  before0_10_of m hO (dats m hO 0 c) (A_eq m hO c 10) (fun _ => rfl) t d
theorem before0_11 (hO : Ok m) (c : Dev nD) (t : Fin (cfgM m hO).N) (d) : (dats m hO 0 c).before 11 t d = iblk m hO c 11 t :=
  before0_11_of m hO (dats m hO 0 c) (A_eq m hO c 11) (fun _ => rfl) t d
theorem before0_12 (hO : Ok m) (c : Dev nD) (t : Fin (cfgM m hO).N) (d) : (dats m hO 0 c).before 12 t d = iblk m hO c 12 t :=
  before0_12_of m hO (dats m hO 0 c) (A_eq m hO c 12) (fun _ => rfl) t d
theorem before0_13 (hO : Ok m) (c : Dev nD) (t : Fin (cfgM m hO).N) (d) : (dats m hO 0 c).before 13 t d = iblk m hO c 13 t :=
  before0_13_of m hO (dats m hO 0 c) (A_eq m hO c 13) (fun _ => rfl) t d
theorem before0_14 (hO : Ok m) (c : Dev nD) (t : Fin (cfgM m hO).N) (d) : (dats m hO 0 c).before 14 t d = iblk m hO c 14 t :=
  before0_14_of m hO (dats m hO 0 c) (A_eq m hO c 14) (fun _ => rfl) t d
theorem before0_15 (hO : Ok m) (c : Dev nD) (t : Fin (cfgM m hO).N) (d) : (dats m hO 0 c).before 15 t d = iblk m hO c 15 t :=
  before0_15_of m hO (dats m hO 0 c) (A_eq m hO c 15) (fun _ => rfl) t d
theorem before0_16 (hO : Ok m) (c : Dev nD) (t : Fin (cfgM m hO).N) (d) : (dats m hO 0 c).before 16 t d = iblk m hO c 16 t :=
  before0_16_of m hO (dats m hO 0 c) (A_eq m hO c 16) (fun _ => rfl) t d

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t))

set_option maxHeartbeats 12800000 in
/-- The body at any point: the inputs' buffers hold their blocks, the run of the point's case applies, and what it leaves is
    the proof data's. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m hO 0 c).owesAt () t.succ = (dats m hO 0 c).owesAt () t.castSucc from rfl,
    show (dats m hO 0 c).after 0 t = iblk m hO c 0 t from rfl, show (dats m hO 0 c).after 1 t = iblk m hO c 1 t from rfl, show (dats m hO 0 c).after 2 t = iblk m hO c 2 t from rfl, show (dats m hO 0 c).after 3 t = iblk m hO c 3 t from rfl, show (dats m hO 0 c).after 4 t = iblk m hO c 4 t from rfl, show (dats m hO 0 c).after 5 t = iblk m hO c 5 t from rfl, show (dats m hO 0 c).after 6 t = iblk m hO c 6 t from rfl, show (dats m hO 0 c).after 7 t = iblk m hO c 7 t from rfl, show (dats m hO 0 c).after 8 t = iblk m hO c 8 t from rfl, show (dats m hO 0 c).after 9 t = iblk m hO c 9 t from rfl, show (dats m hO 0 c).after 10 t = iblk m hO c 10 t from rfl, show (dats m hO 0 c).after 11 t = iblk m hO c 11 t from rfl, show (dats m hO 0 c).after 12 t = iblk m hO c 12 t from rfl, show (dats m hO 0 c).after 13 t = iblk m hO c 13 t from rfl, show (dats m hO 0 c).after 14 t = iblk m hO c 14 t from rfl, show (dats m hO 0 c).after 15 t = iblk m hO c 15 t from rfl, show (dats m hO 0 c).after 16 t = iblk m hO c 16 t from rfl, after_17]
  rw [show (dats m hO 0 c).Φ t.succ = iprop(iprop(iprop(owns (c : Thread nD τ) scM0_0 fullShare (scr m hO c t)) ∗ (∃ r, prngReg c r)) ∗ Pipeline.ΦT pre0 (tbl m) c) from rfl,
    show (dats m hO 0 c).Φ t.castSucc = PhiS m hO c t.val (Nat.le_of_lt t.isLt) from rfl, PhiT0_eq]
  have hN : t.val < 104 := lt_of_lt_of_eq t.isLt (show (cfgM m hO).N = 104 from N_0)
  by_cases h0 : t.val % 8 = 0
  · rw [scr_base m hO c t h0, out_A m hO c t h0]
    by_cases hz : t.val = 0
    · rw [PhiS_zero m hO c _ _ hz, PhiT0_eq, PhiA0_eq]
      unfold outA scrA
      iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (runA m hO c t h0).2.2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS0]; · iexact HS0
      isplitl [HT0]; · iexact HT0
      isplitl [HT1]; · iexact HT1
      iintro ⟨H0, H1, H2, H3, H4, H5, H6, H7, H8, H9, H10, H11, H12, H13, H14, H15, H16, ⟨%e17, H17⟩, ⟨%es0, HS0⟩, HT0, HT1⟩
      isplitl [HS0 Hg HT0 HT1]
      · isplitl [HS0 Hg]
        · isplitl [HS0]
          · unfold owns; iexists _; isplitr
            swap; · iexact HS0
            ipureintro; exact View.read_writes_of_cover _ _ _ _ _ (scoverA m hO c t h0)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      unfold owns; iexists _; isplitr
      swap; · iexact H17
      ipureintro; exact View.read_writes_of_cover _ _ _ _ _ (coverA m hO c t h0)
    · rw [PhiS_pos m hO c _ _ hz, PhiT0_eq]
      unfold outA scrA
      iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (runA m hO c t h0).2.2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS0]; · iexists _; iexact HS0
      isplitl [HT0]; · iexact HT0
      isplitl [HT1]; · iexact HT1
      iintro ⟨H0, H1, H2, H3, H4, H5, H6, H7, H8, H9, H10, H11, H12, H13, H14, H15, H16, ⟨%e17, H17⟩, ⟨%es0, HS0⟩, HT0, HT1⟩
      isplitl [HS0 Hg HT0 HT1]
      · isplitl [HS0 Hg]
        · isplitl [HS0]
          · unfold owns; iexists _; isplitr
            swap; · iexact HS0
            ipureintro; exact View.read_writes_of_cover _ _ _ _ _ (scoverA m hO c t h0)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      unfold owns; iexists _; isplitr
      swap; · iexact H17
      ipureintro; exact View.read_writes_of_cover _ _ _ _ _ (coverA m hO c t h0)
  · have hz : t.val ≠ 0 := fun h => h0 (by rw [h])
    rw [PhiS_pos m hO c _ _ hz, PhiT0_eq, out_B m hO c t h0,
      scr_eq m hO c t ⟨t.val - 1, lt_of_le_of_lt (Nat.sub_le _ _) t.isLt⟩ (by show _ = (t.val - 1) / 8; omega)]
    unfold outB
    iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (runB m hO c t h0 (scr m hO c ⟨t.val - 1, lt_of_le_of_lt (Nat.sub_le _ _) t.isLt⟩)).2.2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HT0]; · iexact HT0
    isplitl [HT1]; · iexact HT1
    iintro ⟨H0, H1, H2, H3, H4, H5, H6, H7, H8, H9, H10, H11, H12, H13, H14, H15, H16, ⟨%e17, H17⟩, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (coverB m hO c t h0 _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem enter (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

theorem leave (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl,
    PhiS_pos m hO c _ _ (by have : (cfgM m hO).N = 104 := N_0; omega), PhiA0_eq]
  iintro ⟨⟨HS0, Hg⟩, -⟩
  isplitl [HS0]
  · iexists _; iexact HS0
  iexact Hg

/-! ## The run and the frame -/

set_option backward.isDefEq.respectTransparency.types false in
/-- Every fair run ends with the output array at what the proof data say and every counter at zero. -/
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := enter m hO) (hout := leave m hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (dats m hO) (A_eq m hO) ((θ_run defs _ _).mono (fun _ h => h.1) (run m ρ hO)))
    ((θ_run defs _ _).mono (fun _ h => h.2) (run m ρ hO))

end Cert.InProj

end
-- ==== Proof.InProjValue.lean ====
module

public import proofs.«01_k».proof.Proof.InProjFrame
public import Idealize.ShloMosaic.PureOps.Ideal

/-! The value of the input projection: its output array is the rows times the weight columns in the kernel's order, with the
    columns that have no weights zero. -/

@[expose] public section

set_option maxRecDepth 16384

noncomputable section

namespace Cert.InProj

open Idealize.ShloMosaic Idealize.ShloMosaic.TcCoe Idealize.SL.Sem Idealize.ShloMosaic.Tactic
open Cert.Kernel3Ideal Cert.Kernel3Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Which weight columns an output column group holds -/

/-- The weight column group (of 64) of output column group `g`. -/
def group (g : ℕ) : ℕ :=
  if g < 16 then g + 51 else if g < 56 then g - 5 else if g < 64 then g + 11 else if g < 80 then g - 64 else g - 5

theorem group_lt (g : ℕ) (h : g < 208) : group g < 203 := by
  unfold group; split_ifs <;> omega

/-- The output column groups that hold weight columns: all but the five that fill up the latents' part. -/
def kept (g : ℕ) : Prop := ¬(75 ≤ g ∧ g < 80)

instance (g : ℕ) : Decidable (kept g) := inferInstanceAs (Decidable (¬_))

/-- The table word of half `u` of the point's column tile. -/
def word (u : Fin 2) (T : S26.Idx → BitVec 32) (t : Fin grid0.N) : BitVec 32 :=
  View.readAt (Elt Ideal) (View.whole main_c_0) (Rect.unit (s := S26) (k0_off1 (grid0.coords t) (BitVec.ofNat 32 u.val)) S1.size (k0_off1_inb (grid0.coords t) u)).toLoadRect T (Shape.Idx.first (by show 0 < S1.numel; rw [numel1_S1]; exact Nat.one_pos))

theorem words : ∀ (t : Fin grid0.N) (i : Fin 8),
    Scalar.cmpi .sgt (word 0 (tables (F := Ideal) 1) t) (BitVec.ofNat 32 i.val) = (if kept (16 * (t.val / 8) + i.val) then 1#1 else 0#1)
    ∧ Scalar.cmpi .sgt (word 1 (tables (F := Ideal) 1) t) (BitVec.ofNat 32 i.val) = (if kept (16 * (t.val / 8) + (8 + i.val)) then 1#1 else 0#1) := by
  decide +kernel

theorem word_lo (t : Fin grid0.N) (i : Fin 8) :
    Scalar.cmpi .sgt (word 0 (tbl m 1) t) (BitVec.ofNat 32 i.val) = if kept (16 * (t.val / 8) + i.val) then 1#1 else 0#1 := by
  rw [tbl_eq]; exact (words t i).1

theorem word_hi (t : Fin grid0.N) (i : Fin 8) :
    Scalar.cmpi .sgt (word 1 (tbl m 1) t) (BitVec.ofNat 32 i.val) = if kept (16 * (t.val / 8) + (8 + i.val)) then 1#1 else 0#1 := by
  rw [tbl_eq]; exact (words t i).2

theorem index0 : ∀ t : Fin grid0.N, cc0_transform_1 k0_off1_inb numel1_S1 (tables (F := Ideal)) (grid0.coords t) = ![1, group (16 * (t.val / 8) + 0), 0] := by decide +kernel

theorem block0 (hO : Ok m) (c : Dev nD) (t : Fin (cfgM m hO).N) (k : Fin 64) (d : Fin 2048) (h : 64 * group (16 * (t.val / 8) + 0) + k.val < 12992) :
    iblk m hO c 1 t (ix3 0 k d) = V m c main_v3 (ix3 1 ⟨64 * group (16 * (t.val / 8) + 0) + k.val, h⟩ d) := by
  have e : ((cfgM m hO).win 1).index t = ![1, group (16 * (t.val / 8) + 0), 0] := by
    show cc0_transform_1 k0_off1_inb numel1_S1 (tbl m) (grid0.coords t) = _
    rw [tbl_eq]; exact index0 t
  blk_ext [iblk, e]

theorem index1 : ∀ t : Fin grid0.N, cc0_transform_2 k0_off1_inb numel1_S1 (tables (F := Ideal)) (grid0.coords t) = ![1, group (16 * (t.val / 8) + 1), 0] := by decide +kernel

theorem block1 (hO : Ok m) (c : Dev nD) (t : Fin (cfgM m hO).N) (k : Fin 64) (d : Fin 2048) (h : 64 * group (16 * (t.val / 8) + 1) + k.val < 12992) :
    iblk m hO c 2 t (ix3 0 k d) = V m c main_v3 (ix3 1 ⟨64 * group (16 * (t.val / 8) + 1) + k.val, h⟩ d) := by
  have e : ((cfgM m hO).win 2).index t = ![1, group (16 * (t.val / 8) + 1), 0] := by
    show cc0_transform_2 k0_off1_inb numel1_S1 (tbl m) (grid0.coords t) = _
    rw [tbl_eq]; exact index1 t
  blk_ext [iblk, e]

theorem index2 : ∀ t : Fin grid0.N, cc0_transform_3 k0_off1_inb numel1_S1 (tables (F := Ideal)) (grid0.coords t) = ![1, group (16 * (t.val / 8) + 2), 0] := by decide +kernel

theorem block2 (hO : Ok m) (c : Dev nD) (t : Fin (cfgM m hO).N) (k : Fin 64) (d : Fin 2048) (h : 64 * group (16 * (t.val / 8) + 2) + k.val < 12992) :
    iblk m hO c 3 t (ix3 0 k d) = V m c main_v3 (ix3 1 ⟨64 * group (16 * (t.val / 8) + 2) + k.val, h⟩ d) := by
  have e : ((cfgM m hO).win 3).index t = ![1, group (16 * (t.val / 8) + 2), 0] := by
    show cc0_transform_3 k0_off1_inb numel1_S1 (tbl m) (grid0.coords t) = _
    rw [tbl_eq]; exact index2 t
  blk_ext [iblk, e]

theorem index3 : ∀ t : Fin grid0.N, cc0_transform_4 k0_off1_inb numel1_S1 (tables (F := Ideal)) (grid0.coords t) = ![1, group (16 * (t.val / 8) + 3), 0] := by decide +kernel

theorem block3 (hO : Ok m) (c : Dev nD) (t : Fin (cfgM m hO).N) (k : Fin 64) (d : Fin 2048) (h : 64 * group (16 * (t.val / 8) + 3) + k.val < 12992) :
    iblk m hO c 4 t (ix3 0 k d) = V m c main_v3 (ix3 1 ⟨64 * group (16 * (t.val / 8) + 3) + k.val, h⟩ d) := by
  have e : ((cfgM m hO).win 4).index t = ![1, group (16 * (t.val / 8) + 3), 0] := by
    show cc0_transform_4 k0_off1_inb numel1_S1 (tbl m) (grid0.coords t) = _
    rw [tbl_eq]; exact index3 t
  blk_ext [iblk, e]

theorem index4 : ∀ t : Fin grid0.N, cc0_transform_5 k0_off1_inb numel1_S1 (tables (F := Ideal)) (grid0.coords t) = ![1, group (16 * (t.val / 8) + 4), 0] := by decide +kernel

theorem block4 (hO : Ok m) (c : Dev nD) (t : Fin (cfgM m hO).N) (k : Fin 64) (d : Fin 2048) (h : 64 * group (16 * (t.val / 8) + 4) + k.val < 12992) :
    iblk m hO c 5 t (ix3 0 k d) = V m c main_v3 (ix3 1 ⟨64 * group (16 * (t.val / 8) + 4) + k.val, h⟩ d) := by
  have e : ((cfgM m hO).win 5).index t = ![1, group (16 * (t.val / 8) + 4), 0] := by
    show cc0_transform_5 k0_off1_inb numel1_S1 (tbl m) (grid0.coords t) = _
    rw [tbl_eq]; exact index4 t
  blk_ext [iblk, e]

theorem index5 : ∀ t : Fin grid0.N, cc0_transform_6 k0_off1_inb numel1_S1 (tables (F := Ideal)) (grid0.coords t) = ![1, group (16 * (t.val / 8) + 5), 0] := by decide +kernel

theorem block5 (hO : Ok m) (c : Dev nD) (t : Fin (cfgM m hO).N) (k : Fin 64) (d : Fin 2048) (h : 64 * group (16 * (t.val / 8) + 5) + k.val < 12992) :
    iblk m hO c 6 t (ix3 0 k d) = V m c main_v3 (ix3 1 ⟨64 * group (16 * (t.val / 8) + 5) + k.val, h⟩ d) := by
  have e : ((cfgM m hO).win 6).index t = ![1, group (16 * (t.val / 8) + 5), 0] := by
    show cc0_transform_6 k0_off1_inb numel1_S1 (tbl m) (grid0.coords t) = _
    rw [tbl_eq]; exact index5 t
  blk_ext [iblk, e]

theorem index6 : ∀ t : Fin grid0.N, cc0_transform_7 k0_off1_inb numel1_S1 (tables (F := Ideal)) (grid0.coords t) = ![1, group (16 * (t.val / 8) + 6), 0] := by decide +kernel

theorem block6 (hO : Ok m) (c : Dev nD) (t : Fin (cfgM m hO).N) (k : Fin 64) (d : Fin 2048) (h : 64 * group (16 * (t.val / 8) + 6) + k.val < 12992) :
    iblk m hO c 7 t (ix3 0 k d) = V m c main_v3 (ix3 1 ⟨64 * group (16 * (t.val / 8) + 6) + k.val, h⟩ d) := by
  have e : ((cfgM m hO).win 7).index t = ![1, group (16 * (t.val / 8) + 6), 0] := by
    show cc0_transform_7 k0_off1_inb numel1_S1 (tbl m) (grid0.coords t) = _
    rw [tbl_eq]; exact index6 t
  blk_ext [iblk, e]

theorem index7 : ∀ t : Fin grid0.N, cc0_transform_8 k0_off1_inb numel1_S1 (tables (F := Ideal)) (grid0.coords t) = ![1, group (16 * (t.val / 8) + 7), 0] := by decide +kernel

theorem block7 (hO : Ok m) (c : Dev nD) (t : Fin (cfgM m hO).N) (k : Fin 64) (d : Fin 2048) (h : 64 * group (16 * (t.val / 8) + 7) + k.val < 12992) :
    iblk m hO c 8 t (ix3 0 k d) = V m c main_v3 (ix3 1 ⟨64 * group (16 * (t.val / 8) + 7) + k.val, h⟩ d) := by
  have e : ((cfgM m hO).win 8).index t = ![1, group (16 * (t.val / 8) + 7), 0] := by
    show cc0_transform_8 k0_off1_inb numel1_S1 (tbl m) (grid0.coords t) = _
    rw [tbl_eq]; exact index7 t
  blk_ext [iblk, e]

theorem index8 : ∀ t : Fin grid0.N, cc0_transform_9 k0_off1_inb numel1_S1 (tables (F := Ideal)) (grid0.coords t) = ![1, group (16 * (t.val / 8) + 8), 0] := by decide +kernel

theorem block8 (hO : Ok m) (c : Dev nD) (t : Fin (cfgM m hO).N) (k : Fin 64) (d : Fin 2048) (h : 64 * group (16 * (t.val / 8) + 8) + k.val < 12992) :
    iblk m hO c 9 t (ix3 0 k d) = V m c main_v3 (ix3 1 ⟨64 * group (16 * (t.val / 8) + 8) + k.val, h⟩ d) := by
  have e : ((cfgM m hO).win 9).index t = ![1, group (16 * (t.val / 8) + 8), 0] := by
    show cc0_transform_9 k0_off1_inb numel1_S1 (tbl m) (grid0.coords t) = _
    rw [tbl_eq]; exact index8 t
  blk_ext [iblk, e]

theorem index9 : ∀ t : Fin grid0.N, cc0_transform_10 k0_off1_inb numel1_S1 (tables (F := Ideal)) (grid0.coords t) = ![1, group (16 * (t.val / 8) + 9), 0] := by decide +kernel

theorem block9 (hO : Ok m) (c : Dev nD) (t : Fin (cfgM m hO).N) (k : Fin 64) (d : Fin 2048) (h : 64 * group (16 * (t.val / 8) + 9) + k.val < 12992) :
    iblk m hO c 10 t (ix3 0 k d) = V m c main_v3 (ix3 1 ⟨64 * group (16 * (t.val / 8) + 9) + k.val, h⟩ d) := by
  have e : ((cfgM m hO).win 10).index t = ![1, group (16 * (t.val / 8) + 9), 0] := by
    show cc0_transform_10 k0_off1_inb numel1_S1 (tbl m) (grid0.coords t) = _
    rw [tbl_eq]; exact index9 t
  blk_ext [iblk, e]

theorem index10 : ∀ t : Fin grid0.N, cc0_transform_11 k0_off1_inb numel1_S1 (tables (F := Ideal)) (grid0.coords t) = ![1, group (16 * (t.val / 8) + 10), 0] := by decide +kernel

theorem block10 (hO : Ok m) (c : Dev nD) (t : Fin (cfgM m hO).N) (k : Fin 64) (d : Fin 2048) (h : 64 * group (16 * (t.val / 8) + 10) + k.val < 12992) :
    iblk m hO c 11 t (ix3 0 k d) = V m c main_v3 (ix3 1 ⟨64 * group (16 * (t.val / 8) + 10) + k.val, h⟩ d) := by
  have e : ((cfgM m hO).win 11).index t = ![1, group (16 * (t.val / 8) + 10), 0] := by
    show cc0_transform_11 k0_off1_inb numel1_S1 (tbl m) (grid0.coords t) = _
    rw [tbl_eq]; exact index10 t
  blk_ext [iblk, e]

theorem index11 : ∀ t : Fin grid0.N, cc0_transform_12 k0_off1_inb numel1_S1 (tables (F := Ideal)) (grid0.coords t) = ![1, group (16 * (t.val / 8) + 11), 0] := by decide +kernel

theorem block11 (hO : Ok m) (c : Dev nD) (t : Fin (cfgM m hO).N) (k : Fin 64) (d : Fin 2048) (h : 64 * group (16 * (t.val / 8) + 11) + k.val < 12992) :
    iblk m hO c 12 t (ix3 0 k d) = V m c main_v3 (ix3 1 ⟨64 * group (16 * (t.val / 8) + 11) + k.val, h⟩ d) := by
  have e : ((cfgM m hO).win 12).index t = ![1, group (16 * (t.val / 8) + 11), 0] := by
    show cc0_transform_12 k0_off1_inb numel1_S1 (tbl m) (grid0.coords t) = _
    rw [tbl_eq]; exact index11 t
  blk_ext [iblk, e]

theorem index12 : ∀ t : Fin grid0.N, cc0_transform_13 k0_off1_inb numel1_S1 (tables (F := Ideal)) (grid0.coords t) = ![1, group (16 * (t.val / 8) + 12), 0] := by decide +kernel

theorem block12 (hO : Ok m) (c : Dev nD) (t : Fin (cfgM m hO).N) (k : Fin 64) (d : Fin 2048) (h : 64 * group (16 * (t.val / 8) + 12) + k.val < 12992) :
    iblk m hO c 13 t (ix3 0 k d) = V m c main_v3 (ix3 1 ⟨64 * group (16 * (t.val / 8) + 12) + k.val, h⟩ d) := by
  have e : ((cfgM m hO).win 13).index t = ![1, group (16 * (t.val / 8) + 12), 0] := by
    show cc0_transform_13 k0_off1_inb numel1_S1 (tbl m) (grid0.coords t) = _
    rw [tbl_eq]; exact index12 t
  blk_ext [iblk, e]

theorem index13 : ∀ t : Fin grid0.N, cc0_transform_14 k0_off1_inb numel1_S1 (tables (F := Ideal)) (grid0.coords t) = ![1, group (16 * (t.val / 8) + 13), 0] := by decide +kernel

theorem block13 (hO : Ok m) (c : Dev nD) (t : Fin (cfgM m hO).N) (k : Fin 64) (d : Fin 2048) (h : 64 * group (16 * (t.val / 8) + 13) + k.val < 12992) :
    iblk m hO c 14 t (ix3 0 k d) = V m c main_v3 (ix3 1 ⟨64 * group (16 * (t.val / 8) + 13) + k.val, h⟩ d) := by
  have e : ((cfgM m hO).win 14).index t = ![1, group (16 * (t.val / 8) + 13), 0] := by
    show cc0_transform_14 k0_off1_inb numel1_S1 (tbl m) (grid0.coords t) = _
    rw [tbl_eq]; exact index13 t
  blk_ext [iblk, e]

theorem index14 : ∀ t : Fin grid0.N, cc0_transform_15 k0_off1_inb numel1_S1 (tables (F := Ideal)) (grid0.coords t) = ![1, group (16 * (t.val / 8) + 14), 0] := by decide +kernel

theorem block14 (hO : Ok m) (c : Dev nD) (t : Fin (cfgM m hO).N) (k : Fin 64) (d : Fin 2048) (h : 64 * group (16 * (t.val / 8) + 14) + k.val < 12992) :
    iblk m hO c 15 t (ix3 0 k d) = V m c main_v3 (ix3 1 ⟨64 * group (16 * (t.val / 8) + 14) + k.val, h⟩ d) := by
  have e : ((cfgM m hO).win 15).index t = ![1, group (16 * (t.val / 8) + 14), 0] := by
    show cc0_transform_15 k0_off1_inb numel1_S1 (tbl m) (grid0.coords t) = _
    rw [tbl_eq]; exact index14 t
  blk_ext [iblk, e]

theorem index15 : ∀ t : Fin grid0.N, cc0_transform_16 k0_off1_inb numel1_S1 (tables (F := Ideal)) (grid0.coords t) = ![1, group (16 * (t.val / 8) + 15), 0] := by decide +kernel

theorem block15 (hO : Ok m) (c : Dev nD) (t : Fin (cfgM m hO).N) (k : Fin 64) (d : Fin 2048) (h : 64 * group (16 * (t.val / 8) + 15) + k.val < 12992) :
    iblk m hO c 16 t (ix3 0 k d) = V m c main_v3 (ix3 1 ⟨64 * group (16 * (t.val / 8) + 15) + k.val, h⟩ d) := by
  have e : ((cfgM m hO).win 16).index t = ![1, group (16 * (t.val / 8) + 15), 0] := by
    show cc0_transform_16 k0_off1_inb numel1_S1 (tbl m) (grid0.coords t) = _
    rw [tbl_eq]; exact index15 t
  blk_ext [iblk, e]

/-! ## What the first point of a column tile gathers -/

theorem piece0 (w : BitVec 32) (x : Vec Ideal S1x64x2048 .f32) (P : Prop) [Decidable P] (hw : Scalar.cmpi .sgt w 0#32 = if P then 1#1 else 0#1) (k : Fin 64) (d : Fin 2048) :
    (k0_pay5 w x : FVec Ideal S64x2048 .bf16) (ix2 k d) = if P then x (ix3 0 k d) else 0 := by
  unfold k0_pay5
  simp only [hw]
  by_cases hP : P
  · simp only [hP, if_true]; pointwise
  · simp only [hP, if_false]; pointwise

theorem piece1 (w : BitVec 32) (x : Vec Ideal S1x64x2048 .f32) (P : Prop) [Decidable P] (hw : Scalar.cmpi .sgt w 1#32 = if P then 1#1 else 0#1) (k : Fin 64) (d : Fin 2048) :
    (k0_pay6 w x : FVec Ideal S64x2048 .bf16) (ix2 k d) = if P then x (ix3 0 k d) else 0 := by
  unfold k0_pay6
  simp only [hw]
  by_cases hP : P
  · simp only [hP, if_true]; pointwise
  · simp only [hP, if_false]; pointwise

theorem piece2 (w : BitVec 32) (x : Vec Ideal S1x64x2048 .f32) (P : Prop) [Decidable P] (hw : Scalar.cmpi .sgt w 2#32 = if P then 1#1 else 0#1) (k : Fin 64) (d : Fin 2048) :
    (k0_pay7 w x : FVec Ideal S64x2048 .bf16) (ix2 k d) = if P then x (ix3 0 k d) else 0 := by
  unfold k0_pay7
  simp only [hw]
  by_cases hP : P
  · simp only [hP, if_true]; pointwise
  · simp only [hP, if_false]; pointwise

theorem piece3 (w : BitVec 32) (x : Vec Ideal S1x64x2048 .f32) (P : Prop) [Decidable P] (hw : Scalar.cmpi .sgt w 3#32 = if P then 1#1 else 0#1) (k : Fin 64) (d : Fin 2048) :
    (k0_pay8 (Scalar.cmpi .sgt w 3#32) x : FVec Ideal S64x2048 .bf16) (ix2 k d) = if P then x (ix3 0 k d) else 0 := by
  unfold k0_pay8
  simp only [hw]
  by_cases hP : P
  · simp only [hP, if_true]; pointwise
  · simp only [hP, if_false]; pointwise

theorem piece4 (w : BitVec 32) (x : Vec Ideal S1x64x2048 .f32) (P : Prop) [Decidable P] (hw : Scalar.cmpi .sgt w 4#32 = if P then 1#1 else 0#1) (k : Fin 64) (d : Fin 2048) :
    (k0_pay9 w x : FVec Ideal S64x2048 .bf16) (ix2 k d) = if P then x (ix3 0 k d) else 0 := by
  unfold k0_pay9
  simp only [hw]
  by_cases hP : P
  · simp only [hP, if_true]; pointwise
  · simp only [hP, if_false]; pointwise

theorem piece5 (w : BitVec 32) (x : Vec Ideal S1x64x2048 .f32) (P : Prop) [Decidable P] (hw : Scalar.cmpi .sgt w 5#32 = if P then 1#1 else 0#1) (k : Fin 64) (d : Fin 2048) :
    (k0_pay10 w x : FVec Ideal S64x2048 .bf16) (ix2 k d) = if P then x (ix3 0 k d) else 0 := by
  unfold k0_pay10
  simp only [hw]
  by_cases hP : P
  · simp only [hP, if_true]; pointwise
  · simp only [hP, if_false]; pointwise

theorem piece6 (w : BitVec 32) (x : Vec Ideal S1x64x2048 .f32) (P : Prop) [Decidable P] (hw : Scalar.cmpi .sgt w 6#32 = if P then 1#1 else 0#1) (k : Fin 64) (d : Fin 2048) :
    (k0_pay12 (k0_pay11 w x) : FVec Ideal S64x2048 .bf16) (ix2 k d) = if P then x (ix3 0 k d) else 0 := by
  unfold k0_pay12 k0_pay11
  simp only [hw]
  by_cases hP : P
  · simp only [hP, if_true]; pointwise
  · simp only [hP, if_false]; pointwise

theorem piece7 (w : BitVec 32) (x : Vec Ideal S1x64x2048 .f32) (P : Prop) [Decidable P] (hw : Scalar.cmpi .sgt w 7#32 = if P then 1#1 else 0#1) (k : Fin 64) (d : Fin 2048) :
    (k0_pay13 w x : FVec Ideal S64x2048 .bf16) (ix2 k d) = if P then x (ix3 0 k d) else 0 := by
  unfold k0_pay13
  simp only [hw]
  by_cases hP : P
  · simp only [hP, if_true]; pointwise
  · simp only [hP, if_false]; pointwise

theorem piece8 (w : BitVec 32) (x : Vec Ideal S1x64x2048 .f32) (P : Prop) [Decidable P] (hw : Scalar.cmpi .sgt w 0#32 = if P then 1#1 else 0#1) (k : Fin 64) (d : Fin 2048) :
    (k0_pay14 w x : FVec Ideal S64x2048 .bf16) (ix2 k d) = if P then x (ix3 0 k d) else 0 := by
  unfold k0_pay14
  simp only [hw]
  by_cases hP : P
  · simp only [hP, if_true]; pointwise
  · simp only [hP, if_false]; pointwise

theorem piece9 (w : BitVec 32) (x : Vec Ideal S1x64x2048 .f32) (P : Prop) [Decidable P] (hw : Scalar.cmpi .sgt w 1#32 = if P then 1#1 else 0#1) (k : Fin 64) (d : Fin 2048) :
    (k0_pay16 (k0_pay15 w x) : FVec Ideal S64x2048 .bf16) (ix2 k d) = if P then x (ix3 0 k d) else 0 := by
  unfold k0_pay16 k0_pay15
  simp only [hw]
  by_cases hP : P
  · simp only [hP, if_true]; pointwise
  · simp only [hP, if_false]; pointwise

theorem piece10 (w : BitVec 32) (x : Vec Ideal S1x64x2048 .f32) (P : Prop) [Decidable P] (hw : Scalar.cmpi .sgt w 2#32 = if P then 1#1 else 0#1) (k : Fin 64) (d : Fin 2048) :
    (k0_pay17 w x : FVec Ideal S64x2048 .bf16) (ix2 k d) = if P then x (ix3 0 k d) else 0 := by
  unfold k0_pay17
  simp only [hw]
  by_cases hP : P
  · simp only [hP, if_true]; pointwise
  · simp only [hP, if_false]; pointwise

theorem piece11 (w : BitVec 32) (x : Vec Ideal S1x64x2048 .f32) (P : Prop) [Decidable P] (hw : Scalar.cmpi .sgt w 3#32 = if P then 1#1 else 0#1) (k : Fin 64) (d : Fin 2048) :
    (k0_pay18 w x : FVec Ideal S64x2048 .bf16) (ix2 k d) = if P then x (ix3 0 k d) else 0 := by
  unfold k0_pay18
  simp only [hw]
  by_cases hP : P
  · simp only [hP, if_true]; pointwise
  · simp only [hP, if_false]; pointwise

theorem piece12 (w : BitVec 32) (x : Vec Ideal S1x64x2048 .f32) (P : Prop) [Decidable P] (hw : Scalar.cmpi .sgt w 4#32 = if P then 1#1 else 0#1) (k : Fin 64) (d : Fin 2048) :
    (k0_pay19 w x : FVec Ideal S64x2048 .bf16) (ix2 k d) = if P then x (ix3 0 k d) else 0 := by
  unfold k0_pay19
  simp only [hw]
  by_cases hP : P
  · simp only [hP, if_true]; pointwise
  · simp only [hP, if_false]; pointwise

theorem piece13 (w : BitVec 32) (x : Vec Ideal S1x64x2048 .f32) (P : Prop) [Decidable P] (hw : Scalar.cmpi .sgt w 5#32 = if P then 1#1 else 0#1) (k : Fin 64) (d : Fin 2048) :
    (k0_pay1 (Scalar.cmpi .sgt w 5#32) (k0_pay20 x) : FVec Ideal S64x2048 .bf16) (ix2 k d) = if P then x (ix3 0 k d) else 0 := by
  unfold k0_pay1 k0_pay20
  simp only [hw]
  by_cases hP : P
  · simp only [hP, if_true]; pointwise
  · simp only [hP, if_false]; pointwise

theorem piece14 (w : BitVec 32) (x : Vec Ideal S1x64x2048 .f32) (P : Prop) [Decidable P] (hw : Scalar.cmpi .sgt w 6#32 = if P then 1#1 else 0#1) (k : Fin 64) (d : Fin 2048) :
    (k0_pay2 w x : FVec Ideal S64x2048 .bf16) (ix2 k d) = if P then x (ix3 0 k d) else 0 := by
  unfold k0_pay2
  simp only [hw]
  by_cases hP : P
  · simp only [hP, if_true]; pointwise
  · simp only [hP, if_false]; pointwise

theorem piece15 (w : BitVec 32) (x : Vec Ideal S1x64x2048 .f32) (P : Prop) [Decidable P] (hw : Scalar.cmpi .sgt w 7#32 = if P then 1#1 else 0#1) (k : Fin 64) (d : Fin 2048) :
    (k0_pay3 w x : FVec Ideal S64x2048 .bf16) (ix2 k d) = if P then x (ix3 0 k d) else 0 := by
  unfold k0_pay3
  simp only [hw]
  by_cases hP : P
  · simp only [hP, if_true]; pointwise
  · simp only [hP, if_false]; pointwise

/-- The gathered weight columns of a point's column tile. -/
def columns (c : Dev nD) (t : ℕ) (ht : t < 104) : Vec Ideal S1024x2048 .bf16 := fun y =>
  if kept (16 * (t / 8) + (y 0).val / 64) then
    V m c main_v3 (ix3 1 ⟨64 * group (16 * (t / 8) + (y 0).val / 64) + (y 0).val % 64, by
      have : (y 0).val < 1024 := (y 0).isLt
      have := group_lt (16 * (t / 8) + (y 0).val / 64) (by omega)
      omega⟩ ⟨(y 1).val, (y 1).isLt⟩)
  else 0

set_option maxHeartbeats 4000000 in
theorem scrA_eq (hO : Ok m) (c : Dev nD) (t : Fin (cfgM m hO).N) (ht : t.val < 104) (h0 : t.val % 8 = 0) : scrA m hO c t h0 = columns m c t.val ht := by
  unfold scrA
  rw [View.read_writes_eq_canon _ _ _ (scoverA m hO c t h0)]
  funext y
  refine View.canon_eq_of_allAt _ _ _ (scoverA m hO c t h0 y) ?_
  have hy0 : (y 0).val < 1024 := (y 0).isLt
  unfold runA kernelRun0_A
  dsimp only
  sl_unfold_words
  simp only [View.readAt_eq_ld, View.ld_unit_zero (S := S1x64x2048) hz3]
  refine View.allAt_cons_unit _ _ _ _ _ (fun x hx => ?_) ?_
  · have a0 : (y 0).val = 960 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 15 := by omega
    have gl := group_lt (16 * (t.val / 8) + 15) (by omega)
    refine (congrArg (α := S64x2048.Idx) _ (eq_ix2 (n0 := 64) (n1 := 2048) x)).trans ((piece15 _ _ (kept (16 * (t.val / 8) + 15)) (word_hi m t ⟨7, by decide⟩) ⟨(x 0).val, b0⟩ ⟨(x 1).val, b1⟩).trans ?_)
    unfold columns
    simp only [g]
    refine if_congr Iff.rfl ((congrFun ((hs0_16 m hO t).read_unread _) _).trans ((block15 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 15) + (x 0).val = 64 * group (16 * (t.val / 8) + 15) + (y 0).val % 64
      omega
    · show (x 1).val = (y 1).val
      omega
  refine View.allAt_cons_unit _ _ _ _ _ (fun x hx => ?_) ?_
  · have a0 : (y 0).val = 896 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 14 := by omega
    have gl := group_lt (16 * (t.val / 8) + 14) (by omega)
    refine (congrArg (α := S64x2048.Idx) _ (eq_ix2 (n0 := 64) (n1 := 2048) x)).trans ((piece14 _ _ (kept (16 * (t.val / 8) + 14)) (word_hi m t ⟨6, by decide⟩) ⟨(x 0).val, b0⟩ ⟨(x 1).val, b1⟩).trans ?_)
    unfold columns
    simp only [g]
    refine if_congr Iff.rfl ((congrFun ((hs0_15 m hO t).read_unread _) _).trans ((block14 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 14) + (x 0).val = 64 * group (16 * (t.val / 8) + 14) + (y 0).val % 64
      omega
    · show (x 1).val = (y 1).val
      omega
  refine View.allAt_cons_unit _ _ _ _ _ (fun x hx => ?_) ?_
  · have a0 : (y 0).val = 832 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 13 := by omega
    have gl := group_lt (16 * (t.val / 8) + 13) (by omega)
    refine (congrArg (α := S64x2048.Idx) _ (eq_ix2 (n0 := 64) (n1 := 2048) x)).trans ((piece13 _ _ (kept (16 * (t.val / 8) + 13)) (word_hi m t ⟨5, by decide⟩) ⟨(x 0).val, b0⟩ ⟨(x 1).val, b1⟩).trans ?_)
    unfold columns
    simp only [g]
    refine if_congr Iff.rfl ((congrFun ((hs0_14 m hO t).read_unread _) _).trans ((block13 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 13) + (x 0).val = 64 * group (16 * (t.val / 8) + 13) + (y 0).val % 64
      omega
    · show (x 1).val = (y 1).val
      omega
  refine View.allAt_cons_unit _ _ _ _ _ (fun x hx => ?_) ?_
  · have a0 : (y 0).val = 768 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 12 := by omega
    have gl := group_lt (16 * (t.val / 8) + 12) (by omega)
    refine (congrArg (α := S64x2048.Idx) _ (eq_ix2 (n0 := 64) (n1 := 2048) x)).trans ((piece12 _ _ (kept (16 * (t.val / 8) + 12)) (word_hi m t ⟨4, by decide⟩) ⟨(x 0).val, b0⟩ ⟨(x 1).val, b1⟩).trans ?_)
    unfold columns
    simp only [g]
    refine if_congr Iff.rfl ((congrFun ((hs0_13 m hO t).read_unread _) _).trans ((block12 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 12) + (x 0).val = 64 * group (16 * (t.val / 8) + 12) + (y 0).val % 64
      omega
    · show (x 1).val = (y 1).val
      omega
  refine View.allAt_cons_unit _ _ _ _ _ (fun x hx => ?_) ?_
  · have a0 : (y 0).val = 704 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 11 := by omega
    have gl := group_lt (16 * (t.val / 8) + 11) (by omega)
    refine (congrArg (α := S64x2048.Idx) _ (eq_ix2 (n0 := 64) (n1 := 2048) x)).trans ((piece11 _ _ (kept (16 * (t.val / 8) + 11)) (word_hi m t ⟨3, by decide⟩) ⟨(x 0).val, b0⟩ ⟨(x 1).val, b1⟩).trans ?_)
    unfold columns
    simp only [g]
    refine if_congr Iff.rfl ((congrFun ((hs0_12 m hO t).read_unread _) _).trans ((block11 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 11) + (x 0).val = 64 * group (16 * (t.val / 8) + 11) + (y 0).val % 64
      omega
    · show (x 1).val = (y 1).val
      omega
  refine View.allAt_cons_unit _ _ _ _ _ (fun x hx => ?_) ?_
  · have a0 : (y 0).val = 640 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 10 := by omega
    have gl := group_lt (16 * (t.val / 8) + 10) (by omega)
    refine (congrArg (α := S64x2048.Idx) _ (eq_ix2 (n0 := 64) (n1 := 2048) x)).trans ((piece10 _ _ (kept (16 * (t.val / 8) + 10)) (word_hi m t ⟨2, by decide⟩) ⟨(x 0).val, b0⟩ ⟨(x 1).val, b1⟩).trans ?_)
    unfold columns
    simp only [g]
    refine if_congr Iff.rfl ((congrFun ((hs0_11 m hO t).read_unread _) _).trans ((block10 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 10) + (x 0).val = 64 * group (16 * (t.val / 8) + 10) + (y 0).val % 64
      omega
    · show (x 1).val = (y 1).val
      omega
  refine View.allAt_cons_unit _ _ _ _ _ (fun x hx => ?_) ?_
  · have a0 : (y 0).val = 576 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 9 := by omega
    have gl := group_lt (16 * (t.val / 8) + 9) (by omega)
    refine (congrArg (α := S64x2048.Idx) _ (eq_ix2 (n0 := 64) (n1 := 2048) x)).trans ((piece9 _ _ (kept (16 * (t.val / 8) + 9)) (word_hi m t ⟨1, by decide⟩) ⟨(x 0).val, b0⟩ ⟨(x 1).val, b1⟩).trans ?_)
    unfold columns
    simp only [g]
    refine if_congr Iff.rfl ((congrFun ((hs0_10 m hO t).read_unread _) _).trans ((block9 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 9) + (x 0).val = 64 * group (16 * (t.val / 8) + 9) + (y 0).val % 64
      omega
    · show (x 1).val = (y 1).val
      omega
  refine View.allAt_cons_unit _ _ _ _ _ (fun x hx => ?_) ?_
  · have a0 : (y 0).val = 512 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 8 := by omega
    have gl := group_lt (16 * (t.val / 8) + 8) (by omega)
    refine (congrArg (α := S64x2048.Idx) _ (eq_ix2 (n0 := 64) (n1 := 2048) x)).trans ((piece8 _ _ (kept (16 * (t.val / 8) + 8)) (word_hi m t ⟨0, by decide⟩) ⟨(x 0).val, b0⟩ ⟨(x 1).val, b1⟩).trans ?_)
    unfold columns
    simp only [g]
    refine if_congr Iff.rfl ((congrFun ((hs0_9 m hO t).read_unread _) _).trans ((block8 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 8) + (x 0).val = 64 * group (16 * (t.val / 8) + 8) + (y 0).val % 64
      omega
    · show (x 1).val = (y 1).val
      omega
  refine View.allAt_cons_unit _ _ _ _ _ (fun x hx => ?_) ?_
  · have a0 : (y 0).val = 448 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 7 := by omega
    have gl := group_lt (16 * (t.val / 8) + 7) (by omega)
    refine (congrArg (α := S64x2048.Idx) _ (eq_ix2 (n0 := 64) (n1 := 2048) x)).trans ((piece7 _ _ (kept (16 * (t.val / 8) + 7)) (word_lo m t ⟨7, by decide⟩) ⟨(x 0).val, b0⟩ ⟨(x 1).val, b1⟩).trans ?_)
    unfold columns
    simp only [g]
    refine if_congr Iff.rfl ((congrFun ((hs0_8 m hO t).read_unread _) _).trans ((block7 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 7) + (x 0).val = 64 * group (16 * (t.val / 8) + 7) + (y 0).val % 64
      omega
    · show (x 1).val = (y 1).val
      omega
  refine View.allAt_cons_unit _ _ _ _ _ (fun x hx => ?_) ?_
  · have a0 : (y 0).val = 384 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 6 := by omega
    have gl := group_lt (16 * (t.val / 8) + 6) (by omega)
    refine (congrArg (α := S64x2048.Idx) _ (eq_ix2 (n0 := 64) (n1 := 2048) x)).trans ((piece6 _ _ (kept (16 * (t.val / 8) + 6)) (word_lo m t ⟨6, by decide⟩) ⟨(x 0).val, b0⟩ ⟨(x 1).val, b1⟩).trans ?_)
    unfold columns
    simp only [g]
    refine if_congr Iff.rfl ((congrFun ((hs0_7 m hO t).read_unread _) _).trans ((block6 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 6) + (x 0).val = 64 * group (16 * (t.val / 8) + 6) + (y 0).val % 64
      omega
    · show (x 1).val = (y 1).val
      omega
  refine View.allAt_cons_unit _ _ _ _ _ (fun x hx => ?_) ?_
  · have a0 : (y 0).val = 320 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 5 := by omega
    have gl := group_lt (16 * (t.val / 8) + 5) (by omega)
    refine (congrArg (α := S64x2048.Idx) _ (eq_ix2 (n0 := 64) (n1 := 2048) x)).trans ((piece5 _ _ (kept (16 * (t.val / 8) + 5)) (word_lo m t ⟨5, by decide⟩) ⟨(x 0).val, b0⟩ ⟨(x 1).val, b1⟩).trans ?_)
    unfold columns
    simp only [g]
    refine if_congr Iff.rfl ((congrFun ((hs0_6 m hO t).read_unread _) _).trans ((block5 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 5) + (x 0).val = 64 * group (16 * (t.val / 8) + 5) + (y 0).val % 64
      omega
    · show (x 1).val = (y 1).val
      omega
  refine View.allAt_cons_unit _ _ _ _ _ (fun x hx => ?_) ?_
  · have a0 : (y 0).val = 256 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 4 := by omega
    have gl := group_lt (16 * (t.val / 8) + 4) (by omega)
    refine (congrArg (α := S64x2048.Idx) _ (eq_ix2 (n0 := 64) (n1 := 2048) x)).trans ((piece4 _ _ (kept (16 * (t.val / 8) + 4)) (word_lo m t ⟨4, by decide⟩) ⟨(x 0).val, b0⟩ ⟨(x 1).val, b1⟩).trans ?_)
    unfold columns
    simp only [g]
    refine if_congr Iff.rfl ((congrFun ((hs0_5 m hO t).read_unread _) _).trans ((block4 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 4) + (x 0).val = 64 * group (16 * (t.val / 8) + 4) + (y 0).val % 64
      omega
    · show (x 1).val = (y 1).val
      omega
  refine View.allAt_cons_unit _ _ _ _ _ (fun x hx => ?_) ?_
  · have a0 : (y 0).val = 192 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 3 := by omega
    have gl := group_lt (16 * (t.val / 8) + 3) (by omega)
    refine (congrArg (α := S64x2048.Idx) _ (eq_ix2 (n0 := 64) (n1 := 2048) x)).trans ((piece3 _ _ (kept (16 * (t.val / 8) + 3)) (word_lo m t ⟨3, by decide⟩) ⟨(x 0).val, b0⟩ ⟨(x 1).val, b1⟩).trans ?_)
    unfold columns
    simp only [g]
    refine if_congr Iff.rfl ((congrFun ((hs0_4 m hO t).read_unread _) _).trans ((block3 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 3) + (x 0).val = 64 * group (16 * (t.val / 8) + 3) + (y 0).val % 64
      omega
    · show (x 1).val = (y 1).val
      omega
  refine View.allAt_cons_unit _ _ _ _ _ (fun x hx => ?_) ?_
  · have a0 : (y 0).val = 128 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 2 := by omega
    have gl := group_lt (16 * (t.val / 8) + 2) (by omega)
    refine (congrArg (α := S64x2048.Idx) _ (eq_ix2 (n0 := 64) (n1 := 2048) x)).trans ((piece2 _ _ (kept (16 * (t.val / 8) + 2)) (word_lo m t ⟨2, by decide⟩) ⟨(x 0).val, b0⟩ ⟨(x 1).val, b1⟩).trans ?_)
    unfold columns
    simp only [g]
    refine if_congr Iff.rfl ((congrFun ((hs0_3 m hO t).read_unread _) _).trans ((block2 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 2) + (x 0).val = 64 * group (16 * (t.val / 8) + 2) + (y 0).val % 64
      omega
    · show (x 1).val = (y 1).val
      omega
  refine View.allAt_cons_unit _ _ _ _ _ (fun x hx => ?_) ?_
  · have a0 : (y 0).val = 64 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 1 := by omega
    have gl := group_lt (16 * (t.val / 8) + 1) (by omega)
    refine (congrArg (α := S64x2048.Idx) _ (eq_ix2 (n0 := 64) (n1 := 2048) x)).trans ((piece1 _ _ (kept (16 * (t.val / 8) + 1)) (word_lo m t ⟨1, by decide⟩) ⟨(x 0).val, b0⟩ ⟨(x 1).val, b1⟩).trans ?_)
    unfold columns
    simp only [g]
    refine if_congr Iff.rfl ((congrFun ((hs0_2 m hO t).read_unread _) _).trans ((block1 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 1) + (x 0).val = 64 * group (16 * (t.val / 8) + 1) + (y 0).val % 64
      omega
    · show (x 1).val = (y 1).val
      omega
  refine View.allAt_cons_unit _ _ _ _ _ (fun x hx => ?_) ?_
  · have a0 : (y 0).val = 0 + (x 0).val := hx 0
    have a1 : (y 1).val = 0 + (x 1).val := hx 1
    have b0 : (x 0).val < 64 := (x 0).isLt
    have b1 : (x 1).val < 2048 := (x 1).isLt
    have g : 16 * (t.val / 8) + (y 0).val / 64 = 16 * (t.val / 8) + 0 := by omega
    have gl := group_lt (16 * (t.val / 8) + 0) (by omega)
    refine (congrArg (α := S64x2048.Idx) _ (eq_ix2 (n0 := 64) (n1 := 2048) x)).trans ((piece0 _ _ (kept (16 * (t.val / 8) + 0)) (word_lo m t ⟨0, by decide⟩) ⟨(x 0).val, b0⟩ ⟨(x 1).val, b1⟩).trans ?_)
    unfold columns
    simp only [g]
    refine if_congr Iff.rfl ((congrFun ((hs0_1 m hO t).read_unread _) _).trans ((block0 m hO c t ⟨(x 0).val, b0⟩ ⟨(x 1).val, b1⟩ (by show _ + (x 0).val < _; omega)).trans (congrArg (V m c main_v3) ?_))) rfl
    refine congrArg₂ (fun p q => ix3 (n0 := 4) (n1 := 12992) (n2 := 2048) 1 p q) (Fin.ext ?_) (Fin.ext ?_)
    · show 64 * group (16 * (t.val / 8) + 0) + (x 0).val = 64 * group (16 * (t.val / 8) + 0) + (y 0).val % 64
      omega
    · show (x 1).val = (y 1).val
      omega
  exact fun p hp => absurd hp List.not_mem_nil

theorem scr_columns (hO : Ok m) (c : Dev nD) (t : Fin (cfgM m hO).N) (ht : t.val < 104) : scr m hO c t = columns m c t.val ht := by
  unfold scr
  have hb : (base m hO t).val = 8 * (t.val / 8) := rfl
  rw [scrA_eq m hO c (base m hO t) (by omega) (base_mod m hO t)]
  have e : (base m hO t).val / 8 = t.val / 8 := by omega
  unfold columns
  simp only [e]

/-! ## The output tile -/

theorem outA_eq (hO : Ok m) (c : Dev nD) (t : Fin (cfgM m hO).N) (h0 : t.val % 8 = 0) : outA m hO c t h0 = k0_pay4 (iblk m hO c 0 t) (scrA m hO c t h0) := by
  unfold outA scrA
  rw [View.read_writes_eq_canon _ _ _ (coverA m hO c t h0)]
  unfold runA kernelRun0_A
  dsimp only
  sl_unfold_words
  rw [View.canon_unit_zero hz2]
  refine congrArg₂ k0_pay4 ?_ ((View.readAt_eq_ld _ _ _).trans (View.ld_unit_zero (S := S1024x2048) hz2 _ _))
  rw [View.readAt_eq_ld]
  exact (View.ld_unit_zero (S := S1088x2048) hz2 _ _).trans ((hs0_0 m hO t).read_unread _)

theorem outB_eq (hO : Ok m) (c : Dev nD) (t : Fin (cfgM m hO).N) (h0 : ¬t.val % 8 = 0) (xs : Vec Ideal S1024x2048 .bf16) : outB m hO c t h0 xs = k0_pay4 (iblk m hO c 0 t) xs := by
  unfold outB
  rw [View.read_writes_eq_canon _ _ _ (coverB m hO c t h0 xs)]
  unfold runB kernelRun0_B
  dsimp only
  sl_unfold_words
  rw [View.canon_unit_zero hz2]
  simp only [View.readAt_eq_ld, (hs0_0 m hO t).read_unread, (Memref.isWhole_whole cc0_scratch0).read_unread, View.ld_unit_zero (S := S1088x2048) hz2, View.ld_unit_zero (S := S1024x2048) hz2]
  exact congrArg (fun z => k0_pay4 z xs) ((hs0_0 m hO t).read_unread _)

theorem out_eq (hO : Ok m) (c : Dev nD) (t : Fin (cfgM m hO).N) (ht : t.val < 104) : out m hO c t = k0_pay4 (iblk m hO c 0 t) (columns m c t.val ht) := by
  by_cases h0 : t.val % 8 = 0
  · rw [out_A m hO c t h0, outA_eq, scrA_eq m hO c t ht]
  · unfold out
    rw [dif_neg h0, outB_eq, scr_columns m hO c t ht]

theorem tile_at (x : Vec Ideal S1088x2048 .bf16) (w : Vec Ideal S1024x2048 .bf16) (r : Fin 1088) (q : Fin 1024) :
    k0_pay4 x w (ix2 r q) = ∑ d : Fin 2048, x (ix2 r d) * w (ix2 q d) := by
  unfold k0_pay4
  pointwise

/-- The weight at output column `q` and feature `d`. -/
def weight (w : (⟨3, ![4, 12992, 2048]⟩ : Shape).Idx → EReal) (q : Fin 13312) (d : Fin 2048) : EReal :=
  if kept (q.val / 64) then
    w (ix3 1 ⟨64 * group (q.val / 64) + q.val % 64, by have := group_lt (q.val / 64) (by omega); omega⟩ d)
  else 0

/-- The result array. -/
def resultOf (x : (⟨2, ![8704, 2048]⟩ : Shape).Idx → EReal) (w : (⟨3, ![4, 12992, 2048]⟩ : Shape).Idx → EReal) : S8704x13312.Idx → EReal := fun i =>
  ∑ d : Fin 2048, x (ix2 ⟨(i 0).val, (i 0).isLt⟩ d) * weight w ⟨(i 1).val, (i 1).isLt⟩ d

theorem outer_index : ∀ t : Fin grid0.N, cc0_transform_0 (grid0.coords t) = ![t.val % 8, 0]
    ∧ cc0_transform_17 (grid0.coords t) = ![t.val % 8, t.val / 8] := by
  decide +kernel

theorem array_eq (hO : Ok m) (c : Dev nD) : (dats m hO 0 c).arrAt 17 (cfgM m hO).N = resultOf (V m c main_v2) (V m c main_v3) := by
  refine (dats m hO 0 c).arrAt_eq_of_covers 17 _ (of_decide_eq_true (by sl_kernel_rfl)) fun t hf (y : S1088x1024.Idx) => ?_
  have e0 : ((cfgM m hO).win 0).index t = ![t.val % 8, 0] := (outer_index t).1
  have e3 : ((cfgM m hO).win 17).index t = ![t.val % 8, t.val / 8] := (outer_index t).2
  have ht : t.val < 104 := lt_of_lt_of_eq t.isLt N_0
  have hy0 : (y 0).val < 1088 := (y 0).isLt
  have hy1 : (y 1).val < 1024 := (y 1).isLt
  have h0 : ((((cfgM m hO).win 17).blk t).view.emb y (0 : Fin 2)).val = t.val % 8 * 1088 + (y 0).val := by
    blk_simp [e3]
  have h1 : ((((cfgM m hO).win 17).blk t).view.emb y (1 : Fin 2)).val = t.val / 8 * 1024 + (y 1).val := by
    blk_simp [e3]
  blk_simp
  rw [after_17, out_eq m hO c t ht]
  have q0 : ∀ (r : Fin 1088) (d : Fin 2048), iblk m hO c 0 t (ix2 r d) = V m c main_v2 (ix2 ⟨t.val % 8 * 1088 + r.val, by omega⟩ d) := fun r d => by
    blk_ext [iblk, e0]
  refine (congrArg (k0_pay4 _ _) (eq_ix2 (n0 := 1088) (n1 := 1024) y)).trans ((tile_at _ _ ⟨(y 0).val, hy0⟩ ⟨(y 1).val, hy1⟩).trans ?_)
  unfold resultOf weight columns
  simp only [h0, h1]
  simp only [q0]
  have g : (t.val / 8 * 1024 + (y 1).val) / 64 = 16 * (t.val / 8) + (y 1).val / 64 := by omega
  have g' : (t.val / 8 * 1024 + (y 1).val) % 64 = (y 1).val % 64 := by omega
  simp only [g, g']
  rfl

end Cert.InProj

end
-- ==== Proof.InProjTie.lean ====
/- The two programs of the input projection compute one array. -/
module

public import proofs.«01_k».proof.Proof.InProjValue
public import proofs.«01_k».proof.Proof.SwigluTie
public import proofs.«01_k».proof.Proof.Gen.Reference3Ideal.Read

@[expose] public section

set_option maxRecDepth 16384

noncomputable section

/-! ## The reference's elements -/

namespace Cert.InProj

section Reference

open Idealize.ShloMosaic Idealize.ShloMosaic.TcCoe Idealize.ShloMosaic.Tactic
open Cert.Reference3Ideal Cert.Reference3Ideal.Gen Cert.Reference3Ideal.Read

/-- The columns of the kernel's order with no weights. -/
theorem filler (f : Fin 2048 → EReal) (w : Fin 2048 → EReal) (q : Fin 13312) (hk : ¬kept (q.val / 64)) :
    (0 : EReal) = ∑ d : Fin 2048, f d * (if kept (q.val / 64) then w d else 0) := by
  simp only [if_neg hk, mul_zero, Finset.sum_const_zero]

set_option maxHeartbeats 2000000 in
theorem reference_at (x0 : Vec Ideal S2x4096x2048 .f32) (x1 : Vec Ideal S2x256x2048 .f32) (x2 : Vec Ideal S4x2048x12992 .f32) (b : Fin 2) (s : Fin 4352) (q : Fin 13312) :
    val_main_v22 (F := Ideal) x0 x1 x2 (ix2 ⟨b.val * 4352 + s.val, by omega⟩ q)
      = ∑ d : Fin 2048, Cert.Swiglu.joined x1 x0 b s d * (if kept (q.val / 64) then
    x2 (ix3 1 d ⟨64 * group (q.val / 64) + q.val % 64, by have := group_lt (q.val / 64) (by omega); omega⟩) else 0) := by
  unfold val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  unfold val_main_cst val_main_cst_0
  pointwise
  unfold Cert.Swiglu.joined
  have hq := q.isLt
  by_cases hs : s.val < 256
  all_goals
    simp only [hs, dif_pos, dif_neg, not_false_eq_true]
    by_cases h1 : q.val < 1024
    · simp only [h1, dif_pos]
      have hk : kept (q.val / 64) := by unfold kept; omega
      refine Finset.sum_congr rfl fun d _ => congrArg (_ * ·) ?_
      rw [if_pos hk]
      refine congrArg (fun k => x2 (ix3 1 d k)) (Fin.ext ?_)
      dsimp only
      unfold group
      split_ifs <;> omega
    by_cases h2 : q.val - 1024 < 2560
    · simp only [h1, h2, dif_pos, dif_neg, not_false_eq_true]
      have hk : kept (q.val / 64) := by unfold kept; omega
      refine Finset.sum_congr rfl fun d _ => congrArg (_ * ·) ?_
      rw [if_pos hk]
      refine congrArg (fun k => x2 (ix3 1 d k)) (Fin.ext ?_)
      dsimp only
      unfold group
      split_ifs <;> omega
    by_cases h3 : q.val - 1024 - 2560 < 512
    · simp only [h1, h2, h3, dif_pos, dif_neg, not_false_eq_true]
      have hk : kept (q.val / 64) := by unfold kept; omega
      refine Finset.sum_congr rfl fun d _ => congrArg (_ * ·) ?_
      rw [if_pos hk]
      refine congrArg (fun k => x2 (ix3 1 d k)) (Fin.ext ?_)
      dsimp only
      unfold group
      split_ifs <;> omega
    by_cases h4 : q.val - 1024 - 2560 - 512 < 704
    · simp only [h1, h2, h3, h4, dif_pos, dif_neg, not_false_eq_true]
      have hk : kept (q.val / 64) := by unfold kept; omega
      refine Finset.sum_congr rfl fun d _ => congrArg (_ * ·) ?_
      rw [if_pos hk]
      refine congrArg (fun k => x2 (ix3 1 d k)) (Fin.ext ?_)
      dsimp only
      unfold group
      split_ifs <;> omega
    by_cases h5 : q.val - 1024 - 2560 - 512 - 704 < 320
    · simp only [h1, h2, h3, h4, h5, dif_pos, dif_neg, not_false_eq_true]
      exact filler _ _ q (by unfold kept; omega)
    simp only [h1, h2, h3, h4, h5, dif_neg, not_false_eq_true]
    have hk : kept (q.val / 64) := by unfold kept; omega
    refine Finset.sum_congr rfl fun d _ => congrArg (_ * ·) ?_
    rw [if_pos hk]
    refine congrArg (fun k => x2 (ix3 1 d k)) (Fin.ext ?_)
    dsimp only
    unfold group
    split_ifs <;> omega

end Reference

/-! ## The kernel's elements -/

open Cert.Kernel3Ideal Cert.Kernel3Ideal.Gen Idealize.ShloMosaic Idealize.ShloMosaic.TcCoe Idealize.ShloMosaic.Tactic
variable (m : (ℓ : Loc nD τ sig) → Buf (Elt Ideal) ℓ)

theorem entry_rows (c : Dev nD) (b : Fin 2) (s : Fin 4352) (d : Fin 2048) :
    V m c main_v2 (ix2 ⟨b.val * 4352 + s.val, by omega⟩ d) = Cert.Swiglu.joined (m (c.tc.loc main_arg1)) (m (c.tc.loc main_arg0)) b s d := by
  have e1 : (b.val * 4352 + s.val) / 4352 = b.val := by omega
  have e2 : (b.val * 4352 + s.val) % 4352 = s.val := by omega
  unfold Cert.Swiglu.joined
  entry_read
  pointwise
  simp only [e1, e2]

theorem entry_weights (c : Dev nD) (l : Fin 4) (k : Fin 12992) (d : Fin 2048) :
    V m c main_v3 (ix3 l k d) = m (c.tc.loc main_arg2) (ix3 l d k) := by
  entry_read
  pointwise

theorem resultOf_at (x : (⟨2, ![8704, 2048]⟩ : Shape).Idx → EReal) (w : (⟨3, ![4, 12992, 2048]⟩ : Shape).Idx → EReal) (r : Fin 8704) (q : Fin 13312) :
    resultOf x w (ix2 r q) = ∑ d : Fin 2048, x (ix2 r d) * weight w q d := rfl

/-- The two programs' arrays are one. -/
theorem arrays_eq (c : Dev nD) :
    resultOf (V m c main_v2) (V m c main_v3)
      = Cert.Reference3Ideal.Read.val_main_v22 (F := Ideal) (m (c.tc.loc main_arg0)) (m (c.tc.loc main_arg1)) (m (c.tc.loc main_arg2)) := by
  have main : ∀ (r : Fin 8704) (q : Fin 13312), resultOf (V m c main_v2) (V m c main_v3) (ix2 r q)
      = Cert.Reference3Ideal.Read.val_main_v22 (F := Ideal) (m (c.tc.loc main_arg0)) (m (c.tc.loc main_arg1)) (m (c.tc.loc main_arg2)) (ix2 r q) := fun r q => by
    have e : (⟨r.val / 4352 * 4352 + r.val % 4352, by omega⟩ : Fin 8704) = r := Fin.ext (by show _ / 4352 * 4352 + _ = _; omega)
    have hr := reference_at (m (c.tc.loc main_arg0)) (m (c.tc.loc main_arg1)) (m (c.tc.loc main_arg2))
      ⟨r.val / 4352, by omega⟩ ⟨r.val % 4352, Nat.mod_lt _ (by decide)⟩ q
    have hx := entry_rows m c ⟨r.val / 4352, by omega⟩ ⟨r.val % 4352, Nat.mod_lt _ (by decide)⟩
    simp only [e] at hr hx
    refine Eq.trans ?_ hr.symm
    rw [resultOf_at]
    unfold weight
    simp only [hx]
    exact Finset.sum_congr rfl fun d _ => congrArg (_ * ·) (if_congr Iff.rfl (entry_weights m c 1 _ d) rfl)
  funext i
  rw [eq_ix2 (n0 := 8704) (n1 := 13312) i]
  exact main _ _

end Cert.InProj

end
-- ==== Proof.InProjClaims.lean ====
/- The claims on the input projection. -/
module

public import proofs.«01_k».proof.Defs
public import proofs.«01_k».proof.Proof.InProjTie
public import proofs.«01_k».proof.Proof.Gen.Kernel3
public import proofs.«01_k».proof.Proof.Gen.Reference3Ideal.Run
public import Idealize.ShloMosaic.Lib.Quiescent
public import Idealize.ShloMosaic.Lib.Tactic

@[expose] public section

set_option maxRecDepth 16384

noncomputable section

namespace Cert.InProj

open Idealize.ShloMosaic Idealize.ShloMosaic.Tactic Idealize.ShloMosaic.TcCoe Idealize.SL.Sem

/-- The two programs have one text: the frame of the one is the frame of the other at words. -/
theorem frame_eq : Cert.quiescent_Kernel3 (hKernel3 := Cert.Kernel3.Gen.facts)
    = ∀ (m : (ℓ : Loc Cert.Kernel3Ideal.nD Cert.Kernel3Ideal.τ Cert.Kernel3Ideal.sig) → Buf (Elt Bits) ℓ) (g : Dev Cert.Kernel3Ideal.nD → PrngReg), True →
      θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
        ∧ r.2.sem = fun _ => 0) := by
  sl_kernel_rfl

theorem frame_kernel : Cert.quiescent_Kernel3 (hKernel3 := Cert.Kernel3.Gen.facts) :=
  frame_eq.mpr fun m ρ _ => Cert.InProj.frame (F := Bits) m ρ (ok m)

theorem frame_ideal : Cert.quiescent_Kernel3Ideal (hKernel3Ideal := Cert.Kernel3Ideal.Gen.facts) := fun m ρ _ =>
  Cert.InProj.frame (F := Ideal) m ρ (ok m)

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) _⟩) (Cert.Reference3Ideal.Value.run (F := Ideal) m ρ)

/-- The input projection and its reference end with one array. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => resultOf (Cert.Kernel3Ideal.Gen.V m c Cert.Kernel3Ideal.main_v2) (Cert.Kernel3Ideal.Gen.V m c Cert.Kernel3Ideal.main_v3),
    (θ_run Cert.Kernel3Ideal.defs _ _).mono (fun r h c => ⟨((h.1.1 c).1 17).trans (array_eq m (ok m) c), h.2.1 c⟩)
      (θ_run_and (Cert.InProj.run (F := Ideal) m g (ok m)) (Cert.InProj.frame (F := Ideal) m g (ok m))),
    (θ_run Cert.Reference3Ideal.defs _ _).mono (fun r h c => ⟨?_, (h c).2⟩) (Cert.Reference3Ideal.Value.run (F := Ideal) m' g')⟩
  obtain ⟨a0, a1, a2⟩ := hagree c
  refine (h c).1.trans ((Cert.Reference3Ideal.Read.val_main_v22_eq _ _).trans ?_)
  rw [a0, a1, a2]
  exact (arrays_eq m c).symm

end Cert.InProj

end
-- ==== Proof.MergeValue.lean ====
/-
  The merge of the four branches at the extended reals: the scratch holds the point's column block of the four branches'
  weights at every row block, and every element of the result array is the sum over the branches of the gate times the
  branch's row times the column of its weights.
-/
module

public import proofs.«01_k».proof.Proof.Gen.Kernel4Ideal.Value
public import Idealize.ShloMosaic.Lib.Tactic
public import Idealize.ShloMosaic.Lib.Pipeline.ValueKit
public import Idealize.ShloMosaic.Lib.Pipeline.ReadBack
public import Idealize.ShloMosaic.PureOps.Ideal

@[expose] public section

set_option maxRecDepth 16384

noncomputable section

namespace Cert.Kernel4Ideal.Merge

open Cert.Kernel4Ideal Cert.Kernel4Ideal.Gen Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem at3 : ∀ a, (![0, 0, 0] : Fin 3 → Nat) a = 0 := fun a => by fin_cases a <;> rfl

section Points

variable {F : FTy → Type} [FloatOps F]
variable (m : (ℓ : Loc nD τ sig) → Buf (Elt F) ℓ)

/-- The block of the result from the blocks of the branches, of the gates, and the weights. -/
def tile (x0 x1 x2 x3 : Vec F S544x512 .bf16) (x4 x5 x6 x7 : Vec F S544x1024 .bf16) (w : Vec F S4x512x1024 .bf16) : Vec F S544x1024 .bf16 :=
  k0_pay6 (k0_pay2 x0 (View.ld w (Rect.unit (s := S4x512x1024) ![0, 0, 0] S1x512x1024.size inb_S4x512x1024_S1x512x1024_0_0_0)) x4) (k0_pay3 x1 (View.ld w (Rect.unit (s := S4x512x1024) ![1, 0, 0] S1x512x1024.size inb_S4x512x1024_S1x512x1024_1_0_0))) (k0_pay4 x5) k0_pay5 x2 (View.ld w (Rect.unit (s := S4x512x1024) ![2, 0, 0] S1x512x1024.size inb_S4x512x1024_S1x512x1024_2_0_0)) x6 x3 (View.ld w (Rect.unit (s := S4x512x1024) ![3, 0, 0] S1x512x1024.size inb_S4x512x1024_S1x512x1024_3_0_0)) x7

theorem scratch1 (c : Dev nD) (i : grid0.Coords) (arg2 : Memref sig .tc .vmem S544x512 .bf16) (harg2 : arg2.IsWhole) (arg3 : Memref sig .tc .vmem S544x512 .bf16) (harg3 : arg3.IsWhole) (arg4 : Memref sig .tc .vmem S544x512 .bf16) (harg4 : arg4.IsWhole) (arg5 : Memref sig .tc .vmem S544x512 .bf16) (harg5 : arg5.IsWhole) (arg6 : Memref sig .tc .vmem S544x1024 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S544x1024 .bf16) (harg9 : arg9.IsWhole) (arg10 : Memref sig .tc .vmem S1x4x512x1024 .f32) (harg10 : arg10.IsWhole) (arg11 : Memref sig .tc .vmem S544x1024 .bf16) (harg11 : arg11.IsWhole) (arg12 : Memref sig .tc .vmem S4x512x1024 .bf16) (harg12 : arg12.IsWhole) (hc0 : cond0_0 i)
    (x0 : Vec F S544x512 .bf16) (x1 : Vec F S544x512 .bf16) (x2 : Vec F S544x512 .bf16) (x3 : Vec F S544x512 .bf16) (x4 : Vec F S544x1024 .bf16) (x5 : Vec F S544x1024 .bf16) (x6 : Vec F S544x1024 .bf16) (x7 : Vec F S544x1024 .bf16) (x8 : Vec F S1x4x512x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay1 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz3]
  simp only [View.readAt_eq_ld, harg10.read_unread, View.ld_unit_zero (S := S1x4x512x1024) hz4]

theorem out_first (c : Dev nD) (i : grid0.Coords) (arg2 : Memref sig .tc .vmem S544x512 .bf16) (harg2 : arg2.IsWhole) (arg3 : Memref sig .tc .vmem S544x512 .bf16) (harg3 : arg3.IsWhole) (arg4 : Memref sig .tc .vmem S544x512 .bf16) (harg4 : arg4.IsWhole) (arg5 : Memref sig .tc .vmem S544x512 .bf16) (harg5 : arg5.IsWhole) (arg6 : Memref sig .tc .vmem S544x1024 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S544x1024 .bf16) (harg9 : arg9.IsWhole) (arg10 : Memref sig .tc .vmem S1x4x512x1024 .f32) (harg10 : arg10.IsWhole) (arg11 : Memref sig .tc .vmem S544x1024 .bf16) (harg11 : arg11.IsWhole) (arg12 : Memref sig .tc .vmem S4x512x1024 .bf16) (harg12 : arg12.IsWhole) (hc0 : cond0_0 i)
    (x0 : Vec F S544x512 .bf16) (x1 : Vec F S544x512 .bf16) (x2 : Vec F S544x512 .bf16) (x3 : Vec F S544x512 .bf16) (x4 : Vec F S544x1024 .bf16) (x5 : Vec F S544x1024 .bf16) (x6 : Vec F S544x1024 .bf16) (x7 : Vec F S544x1024 .bf16) (x8 : Vec F S1x4x512x1024 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = tile x0 x1 x2 x3 x4 x5 x6 x7 (k0_pay1 x8) := by
  unfold out0_A_9 tile
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz2]
  simp only [View.readCov_fill (s := S4x512x1024) _ _ _ _ _ at3, View.readAt_eq_ld, harg2.read_unread, harg3.read_unread, harg4.read_unread, harg5.read_unread, harg6.read_unread, harg7.read_unread, harg8.read_unread, harg9.read_unread, harg10.read_unread, View.ld_unit_zero (S := S544x512) hz2, View.ld_unit_zero (S := S544x1024) hz2, View.ld_unit_zero (S := S1x4x512x1024) hz4]

theorem out_later (c : Dev nD) (i : grid0.Coords) (arg2 : Memref sig .tc .vmem S544x512 .bf16) (harg2 : arg2.IsWhole) (arg3 : Memref sig .tc .vmem S544x512 .bf16) (harg3 : arg3.IsWhole) (arg4 : Memref sig .tc .vmem S544x512 .bf16) (harg4 : arg4.IsWhole) (arg5 : Memref sig .tc .vmem S544x512 .bf16) (harg5 : arg5.IsWhole) (arg6 : Memref sig .tc .vmem S544x1024 .bf16) (harg6 : arg6.IsWhole) (arg7 : Memref sig .tc .vmem S544x1024 .bf16) (harg7 : arg7.IsWhole) (arg8 : Memref sig .tc .vmem S544x1024 .bf16) (harg8 : arg8.IsWhole) (arg9 : Memref sig .tc .vmem S544x1024 .bf16) (harg9 : arg9.IsWhole) (arg10 : Memref sig .tc .vmem S1x4x512x1024 .f32) (harg10 : arg10.IsWhole) (arg11 : Memref sig .tc .vmem S544x1024 .bf16) (harg11 : arg11.IsWhole) (arg12 : Memref sig .tc .vmem S4x512x1024 .bf16) (harg12 : arg12.IsWhole) (hc0 : ¬cond0_0 i)
    (x0 : Vec F S544x512 .bf16) (x1 : Vec F S544x512 .bf16) (x2 : Vec F S544x512 .bf16) (x3 : Vec F S544x512 .bf16) (x4 : Vec F S544x1024 .bf16) (x5 : Vec F S544x1024 .bf16) (x6 : Vec F S544x1024 .bf16) (x7 : Vec F S544x1024 .bf16) (x8 : Vec F S1x4x512x1024 .f32) (xs0 : Vec F S4x512x1024 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = tile x0 x1 x2 x3 x4 x5 x6 x7 xs0 := by
  unfold out0_B_9 tile
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S544x512) hz2, View.ld_unit_zero (S := S544x1024) hz2, View.ld_unit_zero (S := S1x4x512x1024) hz4]

theorem idx_facts : ∀ t : Fin cfg0.N, win0_0.index t = ![t.val % 16, 0] ∧ win0_1.index t = ![t.val % 16, 0] ∧ win0_2.index t = ![t.val % 16, 0] ∧ win0_3.index t = ![t.val % 16, 0]
    ∧ win0_4.index t = ![t.val % 16, 5 + t.val / 16] ∧ win0_5.index t = ![t.val % 16, 7 + t.val / 16] ∧ win0_6.index t = ![t.val % 16, 9 + t.val / 16] ∧ win0_7.index t = ![t.val % 16, 11 + t.val / 16]
    ∧ win0_8.index t = ![1, 0, 0, t.val / 16]
    ∧ win0_9.index t = ![t.val % 16, t.val / 16] :=
  (by decide +kernel : ∀ t : Fin grid0.N, _)

/-- The column block of the weights that grid point `n` works with. -/
def cols (w : (⟨4, ![4, 4, 512, 2048]⟩ : Shape).Idx → F .f32) (n : ℕ) (h : n < 32) : Vec F S1x4x512x1024 .f32 :=
  fun i => w (ix4 1 ⟨(i 1).val, (i 1).isLt⟩ ⟨(i 2).val, (i 2).isLt⟩ ⟨n / 16 * 1024 + (i 3).val, by have : (i 3).val < 1024 := (i 3).isLt; omega⟩)

theorem block8 (c : Dev nD) (t : Fin cfg0.N) (h : t.val < 32) : iblk m c 8 t = cols (V m c main_arg10) t.val h := by
  obtain ⟨_, _, _, _, _, _, _, _, e, _⟩ := idx_facts t
  funext i
  unfold cols
  have hi : (i 0).val = 0 := by have : (i 0).val < 1 := (i 0).isLt; omega
  blk_ext [iblk, e]

theorem cols_congr (w : (⟨4, ![4, 4, 512, 2048]⟩ : Shape).Idx → F .f32) (n k : ℕ) (h : n < 32) (hk : k < 32) (e : n / 16 = k / 16) : cols w n h = cols w k hk := by
  unfold cols
  simp only [e]

/-- What every point leaves in the result block and the weights' scratch. -/
theorem state_eq (c : Dev nD) : ∀ (n : ℕ) (h : n < cfg0.N) (h' : n < 32),
    outsAt0 m c n h = (tile (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (k0_pay1 (cols (V m c main_arg10) n h')),
      k0_pay1 (cols (V m c main_arg10) n h')) := by
  intro n
  induction n with
  | zero =>
    intro h h'
    refine (outsAt0_A m c ⟨0, h⟩ rfl).trans ?_
    rw [out_first, scratch1, block8 m c ⟨0, h⟩ h']
  | succ n ih =>
    intro h h'
    by_cases h0 : (n + 1) % 16 = 0
    · refine (outsAt0_A m c ⟨n + 1, h⟩ h0).trans ?_
      rw [out_first, scratch1, block8 m c ⟨n + 1, h⟩ h']
    · refine (outsAt0_B m c ⟨n + 1, h⟩ h0).trans ?_
      have hn : n < cfg0.N := Nat.lt_of_succ_lt h
      have hp : ∀ (q : n + 1 - 1 < cfg0.N), outsAt0 m c (n + 1 - 1) q = _ := fun q => ih hn (by omega)
      rw [out_later]
      unfold sout0_B_0
      have e : n / 16 = (n + 1) / 16 := by omega
      simp only [hp, cols_congr _ n (n + 1) (by omega) h' e]

end Points

/-! ## At the extended reals -/

variable (m : (ℓ : Loc nD τ sig) → Buf (Elt Ideal) ℓ)

/-- The logistic function. -/
def gate (z : EReal) : EReal := Ideal.div 1 (1 + Ideal.exp (-z))

theorem half_bits : Ideal.ofBits .f32 0x3F000000#32 = ((1 / 2 : ℝ) : EReal) := by
  simp [Ideal.ofBits, Ideal.ieee, -EReal.coe_mul]; norm_num

theorem half_tanh (z : EReal) : Ideal.ofBits .f32 0x3F000000#32 * Ideal.tanh (Ideal.ofBits .f32 0x3F000000#32 * z) + Ideal.ofBits .f32 0x3F000000#32 = gate z := by
  rw [half_bits]
  unfold gate
  induction z with
  | bot =>
    rw [EReal.coe_mul_bot_of_pos (by norm_num), Ideal.tanh_bot, EReal.neg_bot, Ideal.exp_top]
    have e : (1 : EReal) + ⊤ = ⊤ := rfl
    rw [e, Ideal.div, if_neg (by decide), EReal.inv_top, mul_zero]
    have : (((1 / 2 : ℝ) : EReal) * (-1) + ((1 / 2 : ℝ) : EReal)) = (((1 / 2 : ℝ) * (-1) + 1 / 2 : ℝ) : EReal) := by push_cast; rfl
    rw [this]; norm_num
  | top =>
    rw [EReal.coe_mul_top_of_pos (by norm_num), Ideal.tanh_top, EReal.neg_top, Ideal.exp_bot, add_zero]
    have : (((1 / 2 : ℝ) : EReal) * 1 + ((1 / 2 : ℝ) : EReal)) = (((1 / 2 : ℝ) * 1 + 1 / 2 : ℝ) : EReal) := by push_cast; rfl
    rw [this, show (1 : EReal) = ((1 : ℝ) : EReal) from rfl, Ideal.div_coe one_ne_zero]
    norm_num
  | coe r =>
    have hp : (0 : ℝ) < 1 + Real.exp (-r) := by positivity
    have h1 : (1 : EReal) + Ideal.exp (-(r : EReal)) = ((1 + Real.exp (-r) : ℝ) : EReal) := by
      rw [← EReal.coe_neg, Ideal.exp_coe]; push_cast; rfl
    rw [h1, Ideal.div_coe hp.ne', one_mul, ← EReal.coe_mul, Ideal.tanh_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have ha := Real.exp_pos (1 / 2 * r)
    have hb := Real.exp_pos (-(1 / 2 * r))
    rw [e1]
    generalize Real.exp (1 / 2 * r) = a at *
    generalize Real.exp (-(1 / 2 * r)) = b at *
    have hab : a + b ≠ 0 := by positivity
    have hbb : 1 + b * b ≠ 0 := by positivity
    field_simp
    nlinarith [e2]

theorem tile_at (x0 x1 x2 x3 : Vec Ideal S544x512 .bf16) (x4 x5 x6 x7 : Vec Ideal S544x1024 .bf16) (w : Vec Ideal S1x4x512x1024 .f32) (r : Fin 544) (q : Fin 1024) :
    tile x0 x1 x2 x3 x4 x5 x6 x7 (k0_pay1 w) (ix2 r q)
      = gate (x4 (ix2 r q)) * (∑ d : Fin 512, x0 (ix2 r d) * w (ix4 0 0 d q)) + gate (x5 (ix2 r q)) * (∑ d : Fin 512, x1 (ix2 r d) * w (ix4 0 1 d q))
        + gate (x6 (ix2 r q)) * (∑ d : Fin 512, x2 (ix2 r d) * w (ix4 0 2 d q)) + gate (x7 (ix2 r q)) * (∑ d : Fin 512, x3 (ix2 r d) * w (ix4 0 3 d q)) := by
  unfold tile k0_pay6 k0_pay2 k0_pay3 k0_pay4 k0_pay5 k0_pay1
  simp only [View.ld_unit]
  pointwise
  simp only [half_tanh]

/-- The result array. -/
def resultOf (y0 y1 y2 y3 : (⟨2, ![8704, 512]⟩ : Shape).Idx → EReal) (z : (⟨2, ![8704, 13312]⟩ : Shape).Idx → EReal) (w : (⟨4, ![4, 4, 512, 2048]⟩ : Shape).Idx → EReal) : S8704x2048.Idx → EReal := fun i =>
  gate (z (ix2 ⟨(i 0).val, (i 0).isLt⟩ ⟨5120 + (i 1).val, by have : (i 1).val < 2048 := (i 1).isLt; omega⟩)) * (∑ d : Fin 512, y0 (ix2 ⟨(i 0).val, (i 0).isLt⟩ d) * w (ix4 1 0 d ⟨(i 1).val, (i 1).isLt⟩))
    + gate (z (ix2 ⟨(i 0).val, (i 0).isLt⟩ ⟨7168 + (i 1).val, by have : (i 1).val < 2048 := (i 1).isLt; omega⟩)) * (∑ d : Fin 512, y1 (ix2 ⟨(i 0).val, (i 0).isLt⟩ d) * w (ix4 1 1 d ⟨(i 1).val, (i 1).isLt⟩))
    + gate (z (ix2 ⟨(i 0).val, (i 0).isLt⟩ ⟨9216 + (i 1).val, by have : (i 1).val < 2048 := (i 1).isLt; omega⟩)) * (∑ d : Fin 512, y2 (ix2 ⟨(i 0).val, (i 0).isLt⟩ d) * w (ix4 1 2 d ⟨(i 1).val, (i 1).isLt⟩))
    + gate (z (ix2 ⟨(i 0).val, (i 0).isLt⟩ ⟨11264 + (i 1).val, by have : (i 1).val < 2048 := (i 1).isLt; omega⟩)) * (∑ d : Fin 512, y3 (ix2 ⟨(i 0).val, (i 0).isLt⟩ d) * w (ix4 1 3 d ⟨(i 1).val, (i 1).isLt⟩))

theorem resultOf_of (y0 y1 y2 y3 : (⟨2, ![8704, 512]⟩ : Shape).Idx → EReal) (z : (⟨2, ![8704, 13312]⟩ : Shape).Idx → EReal) (w : (⟨4, ![4, 4, 512, 2048]⟩ : Shape).Idx → EReal)
    (i : S8704x2048.Idx) (r : Fin 8704) (q : Fin 2048) (hr : r.val = (i 0).val) (hq : q.val = (i 1).val) :
    resultOf y0 y1 y2 y3 z w (ix2 r q) = resultOf y0 y1 y2 y3 z w i := by
  have er : r = ⟨(i 0).val, (i 0).isLt⟩ := Fin.ext hr
  have eq : q = ⟨(i 1).val, (i 1).isLt⟩ := Fin.ext hq
  subst er eq
  rfl

/-- The block of the result at row block `a`, column block `b`. -/
theorem join (x0 x1 x2 x3 : Vec Ideal S544x512 .bf16) (x4 x5 x6 x7 : Vec Ideal S544x1024 .bf16)
    (y0 y1 y2 y3 : (⟨2, ![8704, 512]⟩ : Shape).Idx → EReal) (z : (⟨2, ![8704, 13312]⟩ : Shape).Idx → EReal) (w : (⟨4, ![4, 4, 512, 2048]⟩ : Shape).Idx → EReal)
    (n : ℕ) (hn : n < 32)
    (q0 : ∀ (r : Fin 544) (d : Fin 512), x0 (ix2 r d) = y0 (ix2 ⟨n % 16 * 544 + r.val, by omega⟩ d))
    (q1 : ∀ (r : Fin 544) (d : Fin 512), x1 (ix2 r d) = y1 (ix2 ⟨n % 16 * 544 + r.val, by omega⟩ d))
    (q2 : ∀ (r : Fin 544) (d : Fin 512), x2 (ix2 r d) = y2 (ix2 ⟨n % 16 * 544 + r.val, by omega⟩ d))
    (q3 : ∀ (r : Fin 544) (d : Fin 512), x3 (ix2 r d) = y3 (ix2 ⟨n % 16 * 544 + r.val, by omega⟩ d))
    (q4 : ∀ (r : Fin 544) (d : Fin 1024), x4 (ix2 r d) = z (ix2 ⟨n % 16 * 544 + r.val, by omega⟩ ⟨5120 + (n / 16 * 1024 + d.val), by omega⟩))
    (q5 : ∀ (r : Fin 544) (d : Fin 1024), x5 (ix2 r d) = z (ix2 ⟨n % 16 * 544 + r.val, by omega⟩ ⟨7168 + (n / 16 * 1024 + d.val), by omega⟩))
    (q6 : ∀ (r : Fin 544) (d : Fin 1024), x6 (ix2 r d) = z (ix2 ⟨n % 16 * 544 + r.val, by omega⟩ ⟨9216 + (n / 16 * 1024 + d.val), by omega⟩))
    (q7 : ∀ (r : Fin 544) (d : Fin 1024), x7 (ix2 r d) = z (ix2 ⟨n % 16 * 544 + r.val, by omega⟩ ⟨11264 + (n / 16 * 1024 + d.val), by omega⟩))
    (r : Fin 544) (q : Fin 1024) :
    tile x0 x1 x2 x3 x4 x5 x6 x7 (k0_pay1 (F := Ideal) (cols (F := Ideal) w n hn)) (ix2 r q)
      = resultOf y0 y1 y2 y3 z w (ix2 ⟨n % 16 * 544 + r.val, by omega⟩ ⟨n / 16 * 1024 + q.val, by omega⟩) := by
  rw [tile_at, q4, q5, q6, q7]
  simp only [q0, q1, q2, q3]
  rfl

set_option maxHeartbeats 2000000 in
theorem array_eq (c : Dev nD) : (dats m 0 c).arrAt 9 cfg0.N = resultOf (V m c main_v7) (V m c main_v10) (V m c main_v13) (V m c main_v16) (V m c main_v4) (V m c main_arg10) := by
  refine (dats m 0 c).arrAt_eq_of_covers 9 _ (by decide +kernel) fun t hf y => ?_
  obtain ⟨e0, e1, e2, e3, e4, e5, e6, e7, e8, e9⟩ := idx_facts t
  have ht : t.val < 32 := lt_of_lt_of_eq t.isLt N_0
  have hy0 : (y 0).val < 544 := (y 0).isLt
  have hy1 : (y 1).val < 1024 := (y 1).isLt
  have h0 : (((win0_9.blk t).view.emb y) 0 : ℕ) = t.val % 16 * 544 + (y 0).val := by
    blk_simp [e9]
  have h1 : (((win0_9.blk t).view.emb y) 1 : ℕ) = t.val / 16 * 1024 + (y 1).val := by
    blk_simp [e9]
  blk_simp
  rw [after0_9, state_eq m c t.val t.isLt ht]
  have q0 : ∀ (r : Fin 544) (d : Fin 512), iblk m c 0 t (ix2 r d) = V m c main_v7 (ix2 ⟨t.val % 16 * 544 + r.val, by omega⟩ d) := fun r d => by
    blk_ext [iblk, e0]
  have q1 : ∀ (r : Fin 544) (d : Fin 512), iblk m c 1 t (ix2 r d) = V m c main_v10 (ix2 ⟨t.val % 16 * 544 + r.val, by omega⟩ d) := fun r d => by
    blk_ext [iblk, e1]
  have q2 : ∀ (r : Fin 544) (d : Fin 512), iblk m c 2 t (ix2 r d) = V m c main_v13 (ix2 ⟨t.val % 16 * 544 + r.val, by omega⟩ d) := fun r d => by
    blk_ext [iblk, e2]
  have q3 : ∀ (r : Fin 544) (d : Fin 512), iblk m c 3 t (ix2 r d) = V m c main_v16 (ix2 ⟨t.val % 16 * 544 + r.val, by omega⟩ d) := fun r d => by
    blk_ext [iblk, e3]
  have q4 : ∀ (r : Fin 544) (d : Fin 1024), iblk m c 4 t (ix2 r d) = V m c main_v4 (ix2 ⟨t.val % 16 * 544 + r.val, by omega⟩ ⟨5120 + (t.val / 16 * 1024 + d.val), by omega⟩) := fun r d => by
    blk_ext [iblk, e4]
  have q5 : ∀ (r : Fin 544) (d : Fin 1024), iblk m c 5 t (ix2 r d) = V m c main_v4 (ix2 ⟨t.val % 16 * 544 + r.val, by omega⟩ ⟨7168 + (t.val / 16 * 1024 + d.val), by omega⟩) := fun r d => by
    blk_ext [iblk, e5]
  have q6 : ∀ (r : Fin 544) (d : Fin 1024), iblk m c 6 t (ix2 r d) = V m c main_v4 (ix2 ⟨t.val % 16 * 544 + r.val, by omega⟩ ⟨9216 + (t.val / 16 * 1024 + d.val), by omega⟩) := fun r d => by
    blk_ext [iblk, e6]
  have q7 : ∀ (r : Fin 544) (d : Fin 1024), iblk m c 7 t (ix2 r d) = V m c main_v4 (ix2 ⟨t.val % 16 * 544 + r.val, by omega⟩ ⟨11264 + (t.val / 16 * 1024 + d.val), by omega⟩) := fun r d => by
    blk_ext [iblk, e7]
  refine (congrArg (tile _ _ _ _ _ _ _ _ _) (eq_ix2 (n0 := 544) (n1 := 1024) y)).trans ?_
  refine (join _ _ _ _ _ _ _ _ _ _ _ _ _ _ t.val ht q0 q1 q2 q3 q4 q5 q6 q7 ⟨(y 0).val, hy0⟩ ⟨(y 1).val, hy1⟩).trans ?_
  exact resultOf_of _ _ _ _ _ _ _ _ _ h0.symm h1.symm

end Cert.Kernel4Ideal.Merge

end
-- ==== Proof.MergeTie.lean ====
/- The two programs of the branches' merge compute one array. -/
module

public import proofs.«01_k».proof.Proof.MergeValue
public import proofs.«01_k».proof.Proof.Gen.Reference4Ideal.Read

@[expose] public section

set_option maxRecDepth 16384

noncomputable section

/-! ## The reference's elements -/

namespace Cert.Merge

open Idealize.ShloMosaic Idealize.ShloMosaic.TcCoe Idealize.ShloMosaic.Tactic
open Cert.Reference4Ideal Cert.Reference4Ideal.Gen Cert.Reference4Ideal.Read
open Cert.Kernel4Ideal.Merge (gate)

set_option maxHeartbeats 2000000 in
theorem context_at (x5 x6 x7 x8 : Vec Ideal S2x256x512 .f32) (x9 : Vec Ideal S2x256x8192 .f32) (x10 : Vec Ideal S4x4x512x2048 .f32) (b : Fin 2) (s : Fin 256) (q : Fin 2048) :
    val_main_v16 (F := Ideal) x5 x6 x7 x8 x9 x10 (ix3 b s q)
      = gate (x9 (ix3 b s ⟨q.val, by omega⟩)) * (∑ d : Fin 512, x5 (ix3 b s d) * x10 (ix4 1 0 d q)) + gate (x9 (ix3 b s ⟨2048 + q.val, by omega⟩)) * (∑ d : Fin 512, x6 (ix3 b s d) * x10 (ix4 1 1 d q)) + gate (x9 (ix3 b s ⟨4096 + q.val, by omega⟩)) * (∑ d : Fin 512, x7 (ix3 b s d) * x10 (ix4 1 2 d q)) + gate (x9 (ix3 b s ⟨6144 + q.val, by omega⟩)) * (∑ d : Fin 512, x8 (ix3 b s d) * x10 (ix4 1 3 d q)) := by
  unfold val_main_v16 val_main_v15 val_main_v14 val_main_v13 val_main_v12 val_main_v11 val_main_v10 val_main_v9 val_main_v8 val_main_v7 val_main_v6 val_main_v5 val_main_cst val_main_cst_0 val_main_v4 val_main_v3 val_main_v2 val_main_v1 val_main_v0
  pointwise
  rw [Fin.sum_univ_four]
  have k0 : ((0 : Fin 4) : ℕ) = 0 := rfl
  have k1 : ((1 : Fin 4) : ℕ) = 1 := rfl
  have k2 : ((2 : Fin 4) : ℕ) = 2 := rfl
  have k3 : ((3 : Fin 4) : ℕ) = 3 := rfl
  simp only [k0, k1, k2, k3]
  simp only [Nat.reduceMul, Nat.reduceSub, Nat.reduceLT, Nat.zero_sub, zero_mul, zero_add, Nat.lt_irrefl, ↓reduceDIte]
  have cm : ∀ (n : Fin 4) (d : Fin 512) (v : EReal), x10 (ix4 1 n d q) * v = v * x10 (ix4 1 n d q) := fun _ _ _ => mul_comm _ _
  simp only [cm]
  rfl

set_option maxHeartbeats 2000000 in
theorem latent_at (x0 x1 x2 x3 : Vec Ideal S2x4096x512 .f32) (x4 : Vec Ideal S2x4096x8192 .f32) (x10 : Vec Ideal S4x4x512x2048 .f32) (b : Fin 2) (s : Fin 4096) (q : Fin 2048) :
    val_main_v33 (F := Ideal) x0 x1 x2 x3 x4 x10 (ix3 b s q)
      = gate (x4 (ix3 b s ⟨q.val, by omega⟩)) * (∑ d : Fin 512, x0 (ix3 b s d) * x10 (ix4 1 0 d q)) + gate (x4 (ix3 b s ⟨2048 + q.val, by omega⟩)) * (∑ d : Fin 512, x1 (ix3 b s d) * x10 (ix4 1 1 d q)) + gate (x4 (ix3 b s ⟨4096 + q.val, by omega⟩)) * (∑ d : Fin 512, x2 (ix3 b s d) * x10 (ix4 1 2 d q)) + gate (x4 (ix3 b s ⟨6144 + q.val, by omega⟩)) * (∑ d : Fin 512, x3 (ix3 b s d) * x10 (ix4 1 3 d q)) := by
  unfold val_main_v33 val_main_v32 val_main_v31 val_main_v30 val_main_v29 val_main_v28 val_main_v27 val_main_v26 val_main_v25 val_main_v24 val_main_v23 val_main_v22 val_main_cst_1 val_main_cst_2 val_main_v21 val_main_v20 val_main_v19 val_main_v18 val_main_v17
  pointwise
  rw [Fin.sum_univ_four]
  have k0 : ((0 : Fin 4) : ℕ) = 0 := rfl
  have k1 : ((1 : Fin 4) : ℕ) = 1 := rfl
  have k2 : ((2 : Fin 4) : ℕ) = 2 := rfl
  have k3 : ((3 : Fin 4) : ℕ) = 3 := rfl
  simp only [k0, k1, k2, k3]
  simp only [Nat.reduceMul, Nat.reduceSub, Nat.reduceLT, Nat.zero_sub, zero_mul, zero_add, Nat.lt_irrefl, ↓reduceDIte]
  have cm : ∀ (n : Fin 4) (d : Fin 512) (v : EReal), x10 (ix4 1 n d q) * v = v * x10 (ix4 1 n d q) := fun _ _ _ => mul_comm _ _
  simp only [cm]
  rfl

/-- Row `s` of batch `b`, the context's rows before the latents'. -/
def joined {n : ℕ} (xc : (⟨3, ![2, 256, n]⟩ : Shape).Idx → EReal) (x : (⟨3, ![2, 4096, n]⟩ : Shape).Idx → EReal) (b : Fin 2) (s : Fin 4352) (d : Fin n) : EReal :=
  if h : s.val < 256 then xc (ix3 b ⟨s.val, h⟩ d) else x (ix3 b ⟨s.val - 256, by omega⟩ d)

set_option maxHeartbeats 2000000 in
theorem reference_at (x0 x1 x2 x3 : Vec Ideal S2x4096x512 .f32) (x4 : Vec Ideal S2x4096x8192 .f32) (x5 x6 x7 x8 : Vec Ideal S2x256x512 .f32) (x9 : Vec Ideal S2x256x8192 .f32) (x10 : Vec Ideal S4x4x512x2048 .f32) (b : Fin 2) (s : Fin 4352) (q : Fin 2048) :
    val_main_v36 (F := Ideal) x0 x1 x2 x3 x4 x5 x6 x7 x8 x9 x10 (ix2 ⟨b.val * 4352 + s.val, by omega⟩ q)
      = gate (joined x9 x4 b s ⟨q.val, by omega⟩) * (∑ d : Fin 512, joined x5 x0 b s d * x10 (ix4 1 0 d q))
        + gate (joined x9 x4 b s ⟨2048 + q.val, by omega⟩) * (∑ d : Fin 512, joined x6 x1 b s d * x10 (ix4 1 1 d q))
        + gate (joined x9 x4 b s ⟨4096 + q.val, by omega⟩) * (∑ d : Fin 512, joined x7 x2 b s d * x10 (ix4 1 2 d q))
        + gate (joined x9 x4 b s ⟨6144 + q.val, by omega⟩) * (∑ d : Fin 512, joined x8 x3 b s d * x10 (ix4 1 3 d q)) := by
  unfold val_main_v36 val_main_v35 val_main_v34
  pointwise
  unfold joined
  by_cases h : s.val < 256
  · simp only [h, dif_pos]
    exact context_at x5 x6 x7 x8 x9 x10 b ⟨s.val, h⟩ q
  · simp only [h, dif_neg, not_false_eq_true]
    exact latent_at x0 x1 x2 x3 x4 x10 b ⟨s.val - 256, by omega⟩ q

end Cert.Merge

namespace Cert.Kernel4Ideal.Merge

open Cert.Kernel4Ideal Cert.Kernel4Ideal.Gen Idealize.ShloMosaic Idealize.ShloMosaic.TcCoe Idealize.ShloMosaic.Tactic
variable (m : (ℓ : Loc nD τ sig) → Buf (Elt Ideal) ℓ)

theorem entry_0 (c : Dev nD) (b : Fin 2) (s : Fin 4352) (d : Fin 512) :
    V m c main_v7 (ix2 ⟨b.val * 4352 + s.val, by omega⟩ d) = Cert.Merge.joined (m (c.tc.loc main_arg5)) (m (c.tc.loc main_arg0)) b s d := by
  have e1 : (b.val * 4352 + s.val) / 4352 = b.val := by omega
  have e2 : (b.val * 4352 + s.val) % 4352 = s.val := by omega
  unfold Cert.Merge.joined
  entry_read
  pointwise
  simp only [e1, e2]

theorem entry_1 (c : Dev nD) (b : Fin 2) (s : Fin 4352) (d : Fin 512) :
    V m c main_v10 (ix2 ⟨b.val * 4352 + s.val, by omega⟩ d) = Cert.Merge.joined (m (c.tc.loc main_arg6)) (m (c.tc.loc main_arg1)) b s d := by
  have e1 : (b.val * 4352 + s.val) / 4352 = b.val := by omega
  have e2 : (b.val * 4352 + s.val) % 4352 = s.val := by omega
  unfold Cert.Merge.joined
  entry_read
  pointwise
  simp only [e1, e2]

theorem entry_2 (c : Dev nD) (b : Fin 2) (s : Fin 4352) (d : Fin 512) :
    V m c main_v13 (ix2 ⟨b.val * 4352 + s.val, by omega⟩ d) = Cert.Merge.joined (m (c.tc.loc main_arg7)) (m (c.tc.loc main_arg2)) b s d := by
  have e1 : (b.val * 4352 + s.val) / 4352 = b.val := by omega
  have e2 : (b.val * 4352 + s.val) % 4352 = s.val := by omega
  unfold Cert.Merge.joined
  entry_read
  pointwise
  simp only [e1, e2]

theorem entry_3 (c : Dev nD) (b : Fin 2) (s : Fin 4352) (d : Fin 512) :
    V m c main_v16 (ix2 ⟨b.val * 4352 + s.val, by omega⟩ d) = Cert.Merge.joined (m (c.tc.loc main_arg8)) (m (c.tc.loc main_arg3)) b s d := by
  have e1 : (b.val * 4352 + s.val) / 4352 = b.val := by omega
  have e2 : (b.val * 4352 + s.val) % 4352 = s.val := by omega
  unfold Cert.Merge.joined
  entry_read
  pointwise
  simp only [e1, e2]

theorem entry_gates (c : Dev nD) (b : Fin 2) (s : Fin 4352) (d : Fin 8192) :
    V m c main_v4 (ix2 ⟨b.val * 4352 + s.val, by omega⟩ ⟨5120 + d.val, by omega⟩) = Cert.Merge.joined (m (c.tc.loc main_arg9)) (m (c.tc.loc main_arg4)) b s d := by
  have e1 : (b.val * 4352 + s.val) / 4352 = b.val := by omega
  have e2 : (b.val * 4352 + s.val) % 4352 = s.val := by omega
  have e3 : ¬ (5120 + d.val < 5120) := by omega
  have e4 : 5120 + d.val - 5120 = d.val := by omega
  unfold Cert.Merge.joined
  entry_read
  pointwise
  simp only [e1, e2, e3, e4, dif_neg, not_false_eq_true]

theorem resultOf_at (y0 y1 y2 y3 : (⟨2, ![8704, 512]⟩ : Shape).Idx → EReal) (z : (⟨2, ![8704, 13312]⟩ : Shape).Idx → EReal) (w : (⟨4, ![4, 4, 512, 2048]⟩ : Shape).Idx → EReal) (r : Fin 8704) (q : Fin 2048) :
    resultOf y0 y1 y2 y3 z w (ix2 r q)
      = gate (z (ix2 r ⟨5120 + (q.val), by omega⟩)) * (∑ d : Fin 512, y0 (ix2 r d) * w (ix4 1 0 d q))
        + gate (z (ix2 r ⟨5120 + (2048 + q.val), by omega⟩)) * (∑ d : Fin 512, y1 (ix2 r d) * w (ix4 1 1 d q))
        + gate (z (ix2 r ⟨5120 + (4096 + q.val), by omega⟩)) * (∑ d : Fin 512, y2 (ix2 r d) * w (ix4 1 2 d q))
        + gate (z (ix2 r ⟨5120 + (6144 + q.val), by omega⟩)) * (∑ d : Fin 512, y3 (ix2 r d) * w (ix4 1 3 d q)) := by
  unfold resultOf
  simp only [← Nat.add_assoc, Nat.reduceAdd, Nat.add_zero]
  rfl

/-- The two programs' arrays are one. -/
theorem arrays_eq (c : Dev nD) :
    resultOf (V m c main_v7) (V m c main_v10) (V m c main_v13) (V m c main_v16) (V m c main_v4) (V m c main_arg10)
      = Cert.Reference4Ideal.Read.val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  have main : ∀ (r : Fin 8704) (q : Fin 2048), resultOf (V m c main_v7) (V m c main_v10) (V m c main_v13) (V m c main_v16) (V m c main_v4) (V m c main_arg10) (ix2 r q)
      = Cert.Reference4Ideal.Read.val_main_v36 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (ix2 r q) := fun r q => by
    have e : (⟨r.val / 4352 * 4352 + r.val % 4352, by omega⟩ : Fin 8704) = r := Fin.ext (by show _ / 4352 * 4352 + _ = _; omega)
    have hr := Cert.Merge.reference_at (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))
      ⟨r.val / 4352, by omega⟩ ⟨r.val % 4352, Nat.mod_lt _ (by decide)⟩ q
    have h0 := entry_0 m c ⟨r.val / 4352, by omega⟩ ⟨r.val % 4352, Nat.mod_lt _ (by decide)⟩
    have h1 := entry_1 m c ⟨r.val / 4352, by omega⟩ ⟨r.val % 4352, Nat.mod_lt _ (by decide)⟩
    have h2 := entry_2 m c ⟨r.val / 4352, by omega⟩ ⟨r.val % 4352, Nat.mod_lt _ (by decide)⟩
    have h3 := entry_3 m c ⟨r.val / 4352, by omega⟩ ⟨r.val % 4352, Nat.mod_lt _ (by decide)⟩
    have hz := entry_gates m c ⟨r.val / 4352, by omega⟩ ⟨r.val % 4352, Nat.mod_lt _ (by decide)⟩
    simp only [e] at hr h0 h1 h2 h3 hz
    refine Eq.trans ?_ hr.symm
    rw [V_main_arg10, resultOf_at]
    simp only [h0, h1, h2, h3]
    have hz' : ∀ (k : ℕ) (hk : k < 8192) (hk' : 5120 + k < 13312), V m c main_v4 (ix2 r ⟨5120 + k, hk'⟩) = _ := fun k hk _ => hz ⟨k, hk⟩
    rw [hz' _ (by omega), hz' _ (by omega), hz' _ (by omega), hz' _ (by omega)]
  funext i
  rw [eq_ix2 (n0 := 8704) (n1 := 2048) i]
  exact main _ _

end Cert.Kernel4Ideal.Merge

end
-- ==== Proof.MergeClaims.lean ====
/- The claims on the branches' merge. -/
module

public import proofs.«01_k».proof.Defs
public import proofs.«01_k».proof.Proof.MergeTie
public import proofs.«01_k».proof.Proof.Gen.Kernel4
public import proofs.«01_k».proof.Proof.Gen.Reference4Ideal.Run
public import Idealize.ShloMosaic.Lib.Quiescent

@[expose] public section

set_option maxRecDepth 16384

noncomputable section

namespace Cert.Merge

open Idealize.ShloMosaic Idealize.ShloMosaic.TcCoe Idealize.SL.Sem

theorem body_table : @Cert.Kernel4.defs₀ Bits _ Cert.Kernel4.Gen.facts = @Cert.Kernel4Ideal.defs₀ Bits _ Cert.Kernel4Ideal.Gen.facts := by
  unfold Cert.Kernel4.defs₀ Cert.Kernel4Ideal.defs₀
  refine congrArg Defs.onTc (funext fun l => funext fun a => ?_)
  match l, a with
  | 0, (t, s) => rfl

theorem tables : @Cert.Kernel4.defs Bits _ Cert.Kernel4.Gen.facts = @Cert.Kernel4Ideal.defs Bits _ Cert.Kernel4Ideal.Gen.facts :=
  congrArg (Pipeline.defs (Cert.Kernel4Ideal.pcfgs (F := Bits))) body_table

theorem frame_kernel : Cert.quiescent_Kernel4 (hKernel4 := Cert.Kernel4.Gen.facts) := fun m ρ _ => by
  rw [tables]
  exact Cert.Kernel4Ideal.Gen.frame (F := Bits) m ρ

theorem frame_ideal : Cert.quiescent_Kernel4Ideal (hKernel4Ideal := Cert.Kernel4Ideal.Gen.facts) := fun m ρ _ =>
  Cert.Kernel4Ideal.Gen.frame (F := Ideal) m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) _⟩) (Cert.Reference4Ideal.Value.run (F := Ideal) m ρ)

/-- The branches' merge and its reference end with one array. -/
theorem algebraic : Cert.algebraic_Kernel4Ideal_Reference4Ideal (hKernel4Ideal := Cert.Kernel4Ideal.Gen.facts) (hReference4Ideal := Cert.Reference4Ideal.Gen.facts) := by
  intro m g m' g' _ hagree
  refine ⟨fun c => Cert.Kernel4Ideal.Merge.resultOf (Cert.Kernel4Ideal.Gen.V m c Cert.Kernel4Ideal.main_v7) (Cert.Kernel4Ideal.Gen.V m c Cert.Kernel4Ideal.main_v10) (Cert.Kernel4Ideal.Gen.V m c Cert.Kernel4Ideal.main_v13) (Cert.Kernel4Ideal.Gen.V m c Cert.Kernel4Ideal.main_v16) (Cert.Kernel4Ideal.Gen.V m c Cert.Kernel4Ideal.main_v4) (Cert.Kernel4Ideal.Gen.V m c Cert.Kernel4Ideal.main_arg10),
    (θ_run Cert.Kernel4Ideal.defs _ _).mono (fun r h c => ⟨((h c).1).trans (Cert.Kernel4Ideal.Merge.array_eq m c), (h c).2⟩) (Cert.Kernel4Ideal.Value.run_blocks (F := Ideal) m g),
    (θ_run Cert.Reference4Ideal.defs _ _).mono (fun r h c => ⟨?_, (h c).2⟩) (Cert.Reference4Ideal.Value.run (F := Ideal) m' g')⟩
  obtain ⟨a0, a1, a2, a3, a4, a5, a6, a7, a8, a9, a10⟩ := hagree c
  refine (h c).1.trans ((Cert.Reference4Ideal.Read.val_main_v36_eq _ _ _ _ _ _ _ _ _ _ _).trans ?_)
  rw [a0, a1, a2, a3, a4, a5, a6, a7, a8, a9, a10]
  exact (Cert.Kernel4Ideal.Merge.arrays_eq m c).symm

end Cert.Merge

end
-- ==== Proof.MoeUpWords.lean ====
module

public import proofs.«01_k».proof.Proof.Gen.Kernel5Ideal.Skeleton
public import Idealize.ShloMosaic.Lib.Affine
public import Idealize.ShloMosaic.Lib.Tactic
public import Mathlib.Tactic.IntervalCases
public import Mathlib.Tactic.FinCases

/-! The words of the expert projection: at a block that starts at a multiple of sixteen rows and holds at most
    thirty-six tiles of 512 rows inside the array, every slot, row and condition the body computes is the expected
    number, and the checks the body makes hold. -/

@[expose] public section

set_option maxRecDepth 16384

noncomputable section

namespace Cert.MoeUp

open Idealize.ShloMosaic Idealize.ShloMosaic.TcCoe
open Cert.Kernel5Ideal Cert.Kernel5Ideal.Gen

/-- A block's start and number of tiles. -/
structure Seg (s t : BitVec 32) : Prop where
  dvd : 16 ∣ s.toNat
  tiles : t.toNat ≤ 36
  fits : s.toNat + 512 * t.toNat ≤ 18432

theorem Seg.start_le {s t : BitVec 32} (h : Seg s t) : s.toNat ≤ 18432 := by have := h.fits; omega

theorem trips1 (t : BitVec 32) (h : t.toNat ≤ 36) : (k0_t1_loop t).trips = t.toNat := by
  obtain ⟨n, hn⟩ : ∃ n, n = t.toNat := ⟨_, rfl⟩
  rw [← hn] at h ⊢
  have ht : t = BitVec.ofNat 32 n := by rw [hn, BitVec.ofNat_toNat, BitVec.setWidth_eq]
  subst ht; clear hn
  interval_cases n <;> rfl

theorem ok1 (t : BitVec 32) (h : t.toNat ≤ 36) : (k0_t1_loop t).OK := by
  obtain ⟨n, hn⟩ : ∃ n, n = t.toNat := ⟨_, rfl⟩
  rw [← hn] at h
  have ht : t = BitVec.ofNat 32 n := by rw [hn, BitVec.ofNat_toNat, BitVec.setWidth_eq]
  subst ht; clear hn
  interval_cases n <;> decide

theorem trips2 (t : BitVec 32) (h : t.toNat ≤ 36) : (k0_t2_loop t).trips = 0 := by
  obtain ⟨n, hn⟩ : ∃ n, n = t.toNat := ⟨_, rfl⟩
  rw [← hn] at h
  have ht : t = BitVec.ofNat 32 n := by rw [hn, BitVec.ofNat_toNat, BitVec.setWidth_eq]
  subst ht; clear hn
  interval_cases n <;> rfl

theorem ok2 (t : BitVec 32) (h : t.toNat ≤ 36) : (k0_t2_loop t).OK := by
  obtain ⟨n, hn⟩ : ∃ n, n = t.toNat := ⟨_, rfl⟩
  rw [← hn] at h
  have ht : t = BitVec.ofNat 32 n := by rw [hn, BitVec.ofNat_toNat, BitVec.setWidth_eq]
  subst ht; clear hn
  interval_cases n <;> decide

theorem lt36 (t : BitVec 32) (h : t.toNat ≤ 36) (k : Fin (k0_t1_loop t).trips) : k.val < 36 := by
  have hk : k.val < t.toNat := lt_of_lt_of_eq k.isLt (trips1 t h)
  omega

theorem lt_t (t : BitVec 32) (h : t.toNat ≤ 36) (k : Fin (k0_t1_loop t).trips) : k.val < t.toNat := by
  exact lt_of_lt_of_eq k.isLt (trips1 t h)

theorem row_word (s c : BitVec 32) (n : Nat) (hs : s.toNat ≤ 18432) (hc : c.toNat = n) (hn : n ≤ 36864) :
    (Scalar.addi s c).toNat = s.toNat + n := by
  show (s + c).toNat = _
  rw [BitVec.toNat_add, hc, Nat.mod_eq_of_lt (by omega)]

theorem col_word (i : grid0.Coords) : (Scalar.muli (BitVec.ofNat 32 (i 1).val) 512#32).toNat = 512 * (i 1).val := by
  have h : (i 1).val < 11 := (i 1).isLt
  generalize (i 1).val = n at h ⊢
  interval_cases n <;> rfl

theorem off6_eq (t : BitVec 32) (h : t.toNat ≤ 36) (k : Fin (k0_t1_loop t).trips) : k0_off6 t k = ![k.val % 5] := by
  have hk := lt36 t h k
  obtain ⟨n, hn⟩ := k
  replace hk : n < 36 := hk
  unfold k0_off6
  dsimp only
  clear hn h
  interval_cases n <;> rfl

theorem off7_eq (t : BitVec 32) (h : t.toNat ≤ 36) (k : Fin (k0_t1_loop t).trips) : k0_off7 t k = ![k.val % 5, 0, 0] := by
  have hk := lt36 t h k
  obtain ⟨n, hn⟩ := k
  replace hk : n < 36 := hk
  unfold k0_off7
  dsimp only
  clear hn h
  interval_cases n <;> rfl

theorem off9_eq (t : BitVec 32) (h : t.toNat ≤ 36) (k : Fin (k0_t1_loop t).trips) : k0_off9 t k = ![(k.val + 4) % 5] := by
  have hk := lt36 t h k
  obtain ⟨n, hn⟩ := k
  replace hk : n < 36 := hk
  unfold k0_off9
  dsimp only
  clear hn h
  interval_cases n <;> rfl

theorem off10_eq (t : BitVec 32) (h : t.toNat ≤ 36) (k : Fin (k0_t1_loop t).trips) : k0_off10 t k = ![(k.val + 4) % 5, 0, 0] := by
  have hk := lt36 t h k
  obtain ⟨n, hn⟩ := k
  replace hk : n < 36 := hk
  unfold k0_off10
  dsimp only
  clear hn h
  interval_cases n <;> rfl

theorem off12_eq (t : BitVec 32) (h : t.toNat ≤ 36) (k : Fin (k0_t1_loop t).trips) : k0_off12 t k = ![k.val % 2] := by
  have hk := lt36 t h k
  obtain ⟨n, hn⟩ := k
  replace hk : n < 36 := hk
  unfold k0_off12
  dsimp only
  clear hn h
  interval_cases n <;> rfl

theorem off14_eq (t : BitVec 32) (h : t.toNat ≤ 36) (k : Fin (k0_t1_loop t).trips) : k0_off14 t k = ![k.val % 2, 0, 0] := by
  have hk := lt36 t h k
  obtain ⟨n, hn⟩ := k
  replace hk : n < 36 := hk
  unfold k0_off14
  dsimp only
  clear hn h
  interval_cases n <;> rfl

theorem off15_eq (t : BitVec 32) (h : t.toNat ≤ 36) (k : Fin (k0_t1_loop t).trips) : k0_off15 t k = ![k.val % 5, 0, 0] := by
  have hk := lt36 t h k
  obtain ⟨n, hn⟩ := k
  replace hk : n < 36 := hk
  unfold k0_off15
  dsimp only
  clear hn h
  interval_cases n <;> rfl

theorem off16_eq (t : BitVec 32) (h : t.toNat ≤ 36) (k : Fin (k0_t1_loop t).trips) : k0_off16 t k = ![k.val % 2, 0, 0] := by
  have hk := lt36 t h k
  obtain ⟨n, hn⟩ := k
  replace hk : n < 36 := hk
  unfold k0_off16
  dsimp only
  clear hn h
  interval_cases n <;> rfl

theorem off17_eq (t : BitVec 32) (h : t.toNat ≤ 36) (k : Fin (k0_t1_loop t).trips) : k0_off17 t k = ![k.val % 2] := by
  have hk := lt36 t h k
  obtain ⟨n, hn⟩ := k
  replace hk : n < 36 := hk
  unfold k0_off17
  dsimp only
  clear hn h
  interval_cases n <;> rfl

theorem off19_eq (t : BitVec 32) (h : t.toNat ≤ 36) (k : Fin (k0_t1_loop t).trips) : k0_off19 t k = ![k.val % 2, 0, 0] := by
  have hk := lt36 t h k
  obtain ⟨n, hn⟩ := k
  replace hk : n < 36 := hk
  unfold k0_off19
  dsimp only
  clear hn h
  interval_cases n <;> rfl

theorem cond6_iff (t : BitVec 32) (h : t.toNat ≤ 36) (k : Fin (k0_t1_loop t).trips) : k0_cond6 t k = 1#1 ↔ 2 ≤ k.val := by
  have hk := lt36 t h k
  obtain ⟨n, hn⟩ := k
  replace hk : n < 36 := hk
  unfold k0_cond6
  dsimp only
  clear hn h
  interval_cases n <;> decide

theorem cond5_table : ∀ T : Fin 37, ∀ n : Fin 36,
    (Scalar.cmpi .ne (Scalar.extui (Scalar.cmpi .slt (Scalar.addi (Scf.iv 0#32 1#32 n.val) 4#32) (BitVec.ofNat 32 T.val)) : BitVec 32) 0#32 = 1#1
      ↔ n.val + 4 < T.val) := by decide +kernel

theorem cond5_iff (t : BitVec 32) (h : t.toNat ≤ 36) (k : Fin (k0_t1_loop t).trips) : k0_cond5 t k = 1#1 ↔ k.val + 4 < t.toNat := by
  have hk := lt36 t h k
  have e := cond5_table ⟨t.toNat, by omega⟩ ⟨k.val, hk⟩
  rw [BitVec.ofNat_toNat, BitVec.setWidth_eq] at e
  exact e

theorem mult6_eq (s t : BitVec 32) (h : Seg s t) (k : Fin (k0_t1_loop t).trips) : (k0_mult6 s t k).toNat = s.toNat + 512 * k.val := by
  have hk := lt36 t h.tiles k
  refine row_word s _ (512 * k.val) h.start_le ?_ (by omega)
  obtain ⟨n, hn⟩ := k
  replace hk : n < 36 := hk
  skip
  show (Scalar.muli (Scf.iv 0#32 1#32 n) 512#32).toNat = 512 * n
  clear hn h
  interval_cases n <;> first | rfl | omega

theorem mult7_eq (s t : BitVec 32) (h : Seg s t) (k : Fin (k0_t1_loop t).trips) : (k0_mult7 s t k).toNat = s.toNat + 512 * (k.val + 4) := by
  have hk := lt36 t h.tiles k
  refine row_word s _ (512 * (k.val + 4)) h.start_le ?_ (by omega)
  obtain ⟨n, hn⟩ := k
  replace hk : n < 36 := hk
  skip
  show (Scalar.muli (Scalar.addi (Scf.iv 0#32 1#32 n) 4#32) 512#32).toNat = 512 * (n + 4)
  clear hn h
  interval_cases n <;> first | rfl | omega

theorem mult8_eq (s t : BitVec 32) (h : Seg s t) (k : Fin (k0_t1_loop t).trips) (h2 : 2 ≤ k.val) : (k0_mult8 s t k).toNat = s.toNat + 512 * (k.val - 2) := by
  have hk := lt36 t h.tiles k
  refine row_word s _ (512 * (k.val - 2)) h.start_le ?_ (by omega)
  obtain ⟨n, hn⟩ := k
  replace hk : n < 36 := hk
  replace h2 : 2 ≤ n := h2
  show (Scalar.muli (Scalar.subi (Scf.iv 0#32 1#32 n) 2#32) 512#32).toNat = 512 * (n - 2)
  clear hn h
  interval_cases n <;> first | rfl | omega

theorem mult9_eq (s t : BitVec 32) (h : Seg s t) (k : Fin (k0_t1_loop t).trips) : (k0_mult9 s t k).toNat = s.toNat + 512 * k.val := by
  have hk := lt36 t h.tiles k
  refine row_word s _ (512 * k.val) h.start_le ?_ (by omega)
  obtain ⟨n, hn⟩ := k
  replace hk : n < 36 := hk
  skip
  show (Scalar.muli (Scf.iv 0#32 1#32 n) 512#32).toNat = 512 * n
  clear hn h
  interval_cases n <;> first | rfl | omega

theorem off8_eq (s t : BitVec 32) (h : Seg s t) (k : Fin (k0_t1_loop t).trips) : k0_off8 s t k = ![s.toNat + 512 * k.val, 0] :=
  congrArg (fun n : Nat => (![n, 0] : Fin 2 → Nat)) (mult6_eq s t h k)
theorem off11_eq (s t : BitVec 32) (h : Seg s t) (k : Fin (k0_t1_loop t).trips) : k0_off11 s t k = ![s.toNat + 512 * (k.val + 4), 0] :=
  congrArg (fun n : Nat => (![n, 0] : Fin 2 → Nat)) (mult7_eq s t h k)
theorem off13_eq (i : grid0.Coords) (s t : BitVec 32) (h : Seg s t) (k : Fin (k0_t1_loop t).trips) (h2 : 2 ≤ k.val) :
    k0_off13 i s t k = ![s.toNat + 512 * (k.val - 2), 512 * (i 1).val] :=
  congrArg₂ (fun n p : Nat => (![n, p] : Fin 2 → Nat)) (mult8_eq s t h k h2) (col_word i)
theorem off18_eq (i : grid0.Coords) (s t : BitVec 32) (h : Seg s t) (k : Fin (k0_t1_loop t).trips) :
    k0_off18 i s t k = ![s.toNat + 512 * k.val, 512 * (i 1).val] :=
  congrArg₂ (fun n p : Nat => (![n, p] : Fin 2 → Nat)) (mult9_eq s t h k) (col_word i)

/-! ## Outside the loop -/

theorem mult2_eq (s t : BitVec 32) (h : Seg s t) : (k0_mult2 s).toNat = s.toNat := row_word s _ 0 h.start_le rfl (by omega)
theorem mult3_eq (s t : BitVec 32) (h : Seg s t) : (k0_mult3 s).toNat = s.toNat + 512 := row_word s _ 512 h.start_le rfl (by omega)
theorem mult4_eq (s t : BitVec 32) (h : Seg s t) : (k0_mult4 s).toNat = s.toNat + 1024 := row_word s _ 1024 h.start_le rfl (by omega)
theorem mult5_eq (s t : BitVec 32) (h : Seg s t) : (k0_mult5 s).toNat = s.toNat + 1536 := row_word s _ 1536 h.start_le rfl (by omega)
theorem off2_eq (s t : BitVec 32) (h : Seg s t) : k0_off2 s = ![s.toNat, 0] :=
  congrArg (fun n : Nat => (![n, 0] : Fin 2 → Nat)) (mult2_eq s t h)
theorem off3_eq (s t : BitVec 32) (h : Seg s t) : k0_off3 s = ![s.toNat + 512, 0] :=
  congrArg (fun n : Nat => (![n, 0] : Fin 2 → Nat)) (mult3_eq s t h)
theorem off4_eq (s t : BitVec 32) (h : Seg s t) : k0_off4 s = ![s.toNat + 1024, 0] :=
  congrArg (fun n : Nat => (![n, 0] : Fin 2 → Nat)) (mult4_eq s t h)
theorem off5_eq (s t : BitVec 32) (h : Seg s t) : k0_off5 s = ![s.toNat + 1536, 0] :=
  congrArg (fun n : Nat => (![n, 0] : Fin 2 → Nat)) (mult5_eq s t h)
theorem off36_eq (s t : BitVec 32) (h : Seg s t) : k0_off36 s = ![s.toNat, 0] :=
  congrArg (fun n : Nat => (![n, 0] : Fin 2 → Nat)) (mult2_eq s t h)

theorem gt_table : ∀ T : Fin 37, ∀ n : Fin 4,
    (Scalar.cmpi .ne (Scalar.extui (Scalar.cmpi .sgt (BitVec.ofNat 32 T.val) (BitVec.ofNat 32 n.val)) : BitVec 32) 0#32 = 1#1
      ↔ n.val < T.val) := by decide +kernel
theorem ge_table : ∀ T : Fin 37, ∀ n : Fin 4,
    (Scalar.cmpi .ne (Scalar.extui (Scalar.cmpi .sge (BitVec.ofNat 32 T.val) (BitVec.ofNat 32 n.val)) : BitVec 32) 0#32 = 1#1
      ↔ n.val ≤ T.val) := by decide +kernel
theorem gt_iff (t : BitVec 32) (h : t.toNat ≤ 36) (n : Fin 4) :
    (Scalar.cmpi .ne (Scalar.extui (Scalar.cmpi .sgt t (BitVec.ofNat 32 n.val)) : BitVec 32) 0#32 = 1#1 ↔ n.val < t.toNat) := by
  have e := gt_table ⟨t.toNat, by omega⟩ n
  rwa [BitVec.ofNat_toNat, BitVec.setWidth_eq] at e
theorem ge_iff (t : BitVec 32) (h : t.toNat ≤ 36) (n : Fin 4) :
    (Scalar.cmpi .ne (Scalar.extui (Scalar.cmpi .sge t (BitVec.ofNat 32 n.val)) : BitVec 32) 0#32 = 1#1 ↔ n.val ≤ t.toNat) := by
  have e := ge_table ⟨t.toNat, by omega⟩ n
  rwa [BitVec.ofNat_toNat, BitVec.setWidth_eq] at e
theorem cond2_iff (t : BitVec 32) (h : t.toNat ≤ 36) : k0_cond2 t = 1#1 ↔ 1 < t.toNat := gt_iff t h 1
theorem cond3_iff (t : BitVec 32) (h : t.toNat ≤ 36) : k0_cond3 t = 1#1 ↔ 2 < t.toNat := gt_iff t h 2
theorem cond4_iff (t : BitVec 32) (h : t.toNat ≤ 36) : k0_cond4 t = 1#1 ↔ 3 < t.toNat := gt_iff t h 3
theorem cond10_iff (t : BitVec 32) (h : t.toNat ≤ 36) : k0_cond10 t = 1#1 ↔ 2 ≤ t.toNat := ge_iff t h 2
theorem cond11_iff (t : BitVec 32) (h : t.toNat ≤ 36) : k0_cond11 t = 1#1 ↔ 1 ≤ t.toNat := ge_iff t h 1

theorem first_table : ∀ T : Fin 37, ∀ e : Fin 8, ∀ n : Fin 11,
    (Scalar.cmpi .ne (Scalar.extui (Scalar.andi (Scalar.andi (Scalar.cmpi .eq (BitVec.ofNat 32 e.val) 0#32) (Scalar.cmpi .eq (BitVec.ofNat 32 n.val) 0#32))
        (Scalar.cmpi .sgt (BitVec.ofNat 32 T.val) 0#32)) : BitVec 32) 0#32 = 1#1
      ↔ (e.val = 0 ∧ n.val = 0) ∧ 0 < T.val) := by decide +kernel
theorem cond1_iff (i : grid0.Coords) (t : BitVec 32) (h : t.toNat ≤ 36) :
    k0_cond1 i t = 1#1 ↔ ((i 0).val = 0 ∧ (i 1).val = 0) ∧ 0 < t.toNat := by
  have e := first_table ⟨t.toNat, by omega⟩ (i 0) (i 1)
  rwa [BitVec.ofNat_toNat, BitVec.setWidth_eq] at e
theorem next_table : ∀ T : Fin 37, ∀ e : Fin 8, ∀ n : Fin 11,
    (Scalar.cmpi .ne (Scalar.extui (Scalar.andi (Scalar.xori (Scalar.andi (Scalar.cmpi .eq (BitVec.ofNat 32 e.val) 7#32) (Scalar.cmpi .eq (BitVec.ofNat 32 n.val) 10#32)) 1#1)
        (Scalar.cmpi .sgt (BitVec.ofNat 32 T.val) 0#32)) : BitVec 32) 0#32 = 1#1
      ↔ ¬(e.val = 7 ∧ n.val = 10) ∧ 0 < T.val) := by decide +kernel
theorem cond9_iff (i : grid0.Coords) (t : BitVec 32) (h : t.toNat ≤ 36) :
    k0_cond9 i t = 1#1 ↔ ¬((i 0).val = 7 ∧ (i 1).val = 10) ∧ 0 < t.toNat := by
  have e := next_table ⟨t.toNat, by omega⟩ (i 0) (i 1)
  rwa [BitVec.ofNat_toNat, BitVec.setWidth_eq] at e
theorem cond12_table : ∀ e : Fin 8, (Scalar.cmpi .ne (Scalar.extui (Scalar.cmpi .eq (BitVec.ofNat 32 e.val) 7#32) : BitVec 32) 0#32 = 1#1 ↔ e.val = 7) := by
  decide +kernel
theorem cond12_iff (i : grid0.Coords) : k0_cond12 i = 1#1 ↔ (i 0).val = 7 := cond12_table (i 0)

theorem off37_eq (t : BitVec 32) (h : t.toNat ≤ 36) : k0_off37 t = ![t.toNat % 2] := by
  obtain ⟨n, hn⟩ : ∃ n, n = t.toNat := ⟨_, rfl⟩
  rw [← hn] at h ⊢
  have ht : t = BitVec.ofNat 32 n := by rw [hn, BitVec.ofNat_toNat, BitVec.setWidth_eq]
  subst ht; clear hn
  interval_cases n <;> rfl
theorem off39_eq (t : BitVec 32) (h : t.toNat ≤ 36) : k0_off39 t = ![t.toNat % 2, 0, 0] := by
  obtain ⟨n, hn⟩ : ∃ n, n = t.toNat := ⟨_, rfl⟩
  rw [← hn] at h ⊢
  have ht : t = BitVec.ofNat 32 n := by rw [hn, BitVec.ofNat_toNat, BitVec.setWidth_eq]
  subst ht; clear hn
  interval_cases n <;> rfl
theorem off40_eq (t : BitVec 32) (h : t.toNat ≤ 36) (h1 : 1 ≤ t.toNat) : k0_off40 t = ![(t.toNat - 1) % 2] := by
  obtain ⟨n, hn⟩ : ∃ n, n = t.toNat := ⟨_, rfl⟩
  rw [← hn] at h h1 ⊢
  have ht : t = BitVec.ofNat 32 n := by rw [hn, BitVec.ofNat_toNat, BitVec.setWidth_eq]
  subst ht; clear hn
  interval_cases n <;> rfl
theorem off42_eq (t : BitVec 32) (h : t.toNat ≤ 36) (h1 : 1 ≤ t.toNat) : k0_off42 t = ![(t.toNat - 1) % 2, 0, 0] := by
  obtain ⟨n, hn⟩ : ∃ n, n = t.toNat := ⟨_, rfl⟩
  rw [← hn] at h h1 ⊢
  have ht : t = BitVec.ofNat 32 n := by rw [hn, BitVec.ofNat_toNat, BitVec.setWidth_eq]
  subst ht; clear hn
  interval_cases n <;> rfl
theorem mult15_eq (s t : BitVec 32) (h : Seg s t) (h2 : 2 ≤ t.toNat) : (k0_mult15 s t).toNat = s.toNat + 512 * (t.toNat - 2) := by
  have ht := h.tiles
  refine row_word s _ _ h.start_le ?_ (by omega)
  obtain ⟨n, hn⟩ : ∃ n, n = t.toNat := ⟨_, rfl⟩
  rw [← hn] at ht h2 ⊢
  have e : t = BitVec.ofNat 32 n := by rw [hn, BitVec.ofNat_toNat, BitVec.setWidth_eq]
  clear hn h; subst e
  interval_cases n <;> rfl
theorem mult16_eq (s t : BitVec 32) (h : Seg s t) (h2 : 1 ≤ t.toNat) : (k0_mult16 s t).toNat = s.toNat + 512 * (t.toNat - 1) := by
  have ht := h.tiles
  refine row_word s _ _ h.start_le ?_ (by omega)
  obtain ⟨n, hn⟩ : ∃ n, n = t.toNat := ⟨_, rfl⟩
  rw [← hn] at ht h2 ⊢
  have e : t = BitVec.ofNat 32 n := by rw [hn, BitVec.ofNat_toNat, BitVec.setWidth_eq]
  clear hn h; subst e
  interval_cases n <;> rfl
theorem off38_eq (i : grid0.Coords) (s t : BitVec 32) (h : Seg s t) (h2 : 2 ≤ t.toNat) :
    k0_off38 i s t = ![s.toNat + 512 * (t.toNat - 2), 512 * (i 1).val] :=
  congrArg₂ (fun n p : Nat => (![n, p] : Fin 2 → Nat)) (mult15_eq s t h h2) (col_word i)
theorem off41_eq (i : grid0.Coords) (s t : BitVec 32) (h : Seg s t) (h2 : 1 ≤ t.toNat) :
    k0_off41 i s t = ![s.toNat + 512 * (t.toNat - 1), 512 * (i 1).val] :=
  congrArg₂ (fun n p : Nat => (![n, p] : Fin 2 → Nat)) (mult16_eq s t h h2) (col_word i)

/-! ## Rectangles -/

theorem inb_x (r : Nat) (h : r + 512 ≤ 18432) : ∀ a, (![r, 0] : Fin 2 → Nat) a + S512x2048.size a ≤ S18432x2048.size a := by
  intro a; fin_cases a
  · exact h
  · show 0 + 2048 ≤ 2048; omega
theorem inb_y (r n : Nat) (h : r + 512 ≤ 18432) (hn : n < 11) : ∀ a, (![r, 512 * n] : Fin 2 → Nat) a + S512x512.size a ≤ S18432x5632.size a := by
  intro a; fin_cases a
  · exact h
  · show 512 * n + 512 ≤ 5632; omega
theorem inb_z (r n : Nat) (h : r + 16 ≤ 18432) (hn : n < 11) : ∀ a, (![r, 512 * n] : Fin 2 → Nat) a + S16x512.size a ≤ S18432x5632.size a := by
  intro a; fin_cases a
  · exact h
  · show 512 * n + 512 ≤ 5632; omega
theorem inb_s5 (j : Nat) (h : j < 5) : ∀ a, (![j] : Fin 1 → Nat) a + S1.size a ≤ S5.size a := by
  intro a; fin_cases a; show j + 1 ≤ 5; omega
theorem inb_s2 (j : Nat) (h : j < 2) : ∀ a, (![j] : Fin 1 → Nat) a + S1.size a ≤ S2.size a := by
  intro a; fin_cases a; show j + 1 ≤ 2; omega
theorem inb_xb (j : Nat) (h : j < 5) : ∀ a, (![j, 0, 0] : Fin 3 → Nat) a + S1x512x2048.size a ≤ S5x512x2048.size a := by
  intro a; fin_cases a
  · show j + 1 ≤ 5; omega
  · show 0 + 512 ≤ 512; omega
  · show 0 + 2048 ≤ 2048; omega
theorem inb_ob (j : Nat) (h : j < 2) : ∀ a, (![j, 0, 0] : Fin 3 → Nat) a + S1x512x512.size a ≤ S2x512x512.size a := by
  intro a; fin_cases a
  · show j + 1 ≤ 2; omega
  · show 0 + 512 ≤ 512; omega
  · show 0 + 512 ≤ 512; omega

theorem words_x {off : Fin 2 → Nat} {r : Nat} (e : off = ![r, 0]) (h : 16 ∣ r) (hinb) :
    (Rect.unit (s := S18432x2048) off S512x2048.size hinb).WholeWords (EltTy.packing .bf16) := by
  subst e; exact Affine.words_of_packed (Affine.packed_dvd (le_refl 2) (Dvd.dvd.trans (by decide) h) (by decide))
theorem words_y {off : Fin 2 → Nat} {r n : Nat} (e : off = ![r, n]) (h : 16 ∣ r) (hinb) :
    (Rect.unit (s := S18432x5632) off S512x512.size hinb).WholeWords (EltTy.packing .bf16) := by
  subst e; exact Affine.words_of_packed (Affine.packed_dvd (le_refl 2) (Dvd.dvd.trans (by decide) h) (by decide))
theorem words_z {off : Fin 2 → Nat} {r n : Nat} (e : off = ![r, n]) (h : 16 ∣ r) (hinb) :
    (Rect.unit (s := S18432x5632) off S16x512.size hinb).WholeWords (EltTy.packing .bf16) := by
  subst e; exact Affine.words_of_packed (Affine.packed_dvd (le_refl 2) (Dvd.dvd.trans (by decide) h) (by decide))
theorem words_xb {off : Fin 3 → Nat} {j : Nat} (e : off = ![j, 0, 0]) (hinb) :
    (Rect.unit (s := S5x512x2048) off S1x512x2048.size hinb).WholeWords (EltTy.packing .bf16) := by
  subst e; exact Affine.words_of_packed (Affine.packed_dvd (show 2 ≤ S5x512x2048.rank by decide) ⟨0, rfl⟩ ⟨256, rfl⟩)
theorem packed_ob {off : Fin 3 → Nat} {j : Nat} (e : off = ![j, 0, 0]) (hinb) :
    (Rect.unit (s := S2x512x512) off S1x512x512.size hinb).PackedRows (EltTy.packing .bf16) := by
  subst e; exact Affine.packed_dvd (show 2 ≤ S2x512x512.rank by decide) ⟨0, rfl⟩ ⟨256, rfl⟩

/-! ## The checks -/

theorem no2 {s t : BitVec 32} (h : Seg s t) (k : Fin (k0_t2_loop t).trips) : False :=
  Nat.not_lt_zero k.val (lt_of_lt_of_eq k.isLt (trips2 t h.tiles))

theorem chk1_0 (i : grid0.Coords) (s t : BitVec 32) (h : Seg s t) : k0_chk1_0 i s t := by
  have hd := h.dvd; have hf := h.fits; have ht := h.tiles
  exact ⟨(fun q => by rw [mult2_eq s t h]; omega),
    (fun q => by have := (cond1_iff i t h.tiles).1 q; rw [off2_eq s t h]; exact inb_x _ (by omega)),
    (fun q hb => words_x (off2_eq s t h) (by omega) hb),
    (fun q => by rw [mult3_eq s t h]; omega),
    (fun q => by have := (cond2_iff t h.tiles).1 q; rw [off3_eq s t h]; exact inb_x _ (by omega)),
    (fun q hb => words_x (off3_eq s t h) (by omega) hb),
    (fun q => by rw [mult4_eq s t h]; omega),
    (fun q => by have := (cond3_iff t h.tiles).1 q; rw [off4_eq s t h]; exact inb_x _ (by omega)),
    (fun q hb => words_x (off4_eq s t h) (by omega) hb),
    (fun q => by rw [mult5_eq s t h]; omega),
    (fun q => by have := (cond4_iff t h.tiles).1 q; rw [off5_eq s t h]; exact inb_x _ (by omega)),
    (fun q hb => words_x (off5_eq s t h) (by omega) hb),
    ok1 t h.tiles,
    (fun k => by rw [mult6_eq s t h]; omega),
    (fun k => by rw [off6_eq t h.tiles]; exact inb_s5 _ (by omega)),
    (fun k => by rw [off7_eq t h.tiles]; exact inb_xb _ (by omega)),
    (fun k => by have hk := lt_t t h.tiles k; rw [off8_eq s t h]; exact inb_x _ (by omega)),
    (fun k hb => words_x (off8_eq s t h k) (by omega) hb),
    (fun k hb => words_xb (off7_eq t h.tiles k) hb),
    (fun k q => by rw [mult7_eq s t h]; omega),
    (fun k q => by rw [off9_eq t h.tiles]; exact inb_s5 _ (by omega)),
    (fun k q => by rw [off10_eq t h.tiles]; exact inb_xb _ (by omega)),
    (fun k q => by have hk := lt_t t h.tiles k; have := (cond5_iff t h.tiles k).1 q; rw [off11_eq s t h]; exact inb_x _ (by omega)),
    (fun k q hb => words_x (off11_eq s t h k) (by omega) hb),
    (fun k q hb => words_xb (off10_eq t h.tiles k) hb),
    (fun k q => by have := (cond6_iff t h.tiles k).1 q; rw [mult8_eq s t h k this]; omega),
    (fun k q => by rw [off12_eq t h.tiles]; exact inb_s2 _ (by omega)),
    (fun k q => by have hk := lt_t t h.tiles k; have := (cond6_iff t h.tiles k).1 q; rw [off13_eq i s t h k this]; exact inb_y _ _ (by omega) (i 1).isLt),
    (fun k q => by rw [off14_eq t h.tiles]; exact inb_ob _ (by omega)),
    (fun k q hb => Affine.words_of_packed (packed_ob (off14_eq t h.tiles k) hb)),
    (fun k q hb => words_y (off13_eq i s t h k ((cond6_iff t h.tiles k).1 q)) (by omega) hb),
    (fun k => by rw [off15_eq t h.tiles]; exact inb_xb _ (by omega))⟩

theorem chk1_1 (i : grid0.Coords) (s t : BitVec 32) (h : Seg s t) : k0_chk1_1 i s t := by
  have hd := h.dvd; have hf := h.fits; have ht := h.tiles
  exact ⟨(fun k => by rw [off16_eq t h.tiles]; exact inb_ob _ (by omega)),
    (fun k hb => packed_ob (off16_eq t h.tiles k) hb),
    (fun k => by rw [mult9_eq s t h]; omega),
    (fun k => by rw [off17_eq t h.tiles]; exact inb_s2 _ (by omega)),
    (fun k => by have hk := lt_t t h.tiles k; rw [off18_eq i s t h]; exact inb_y _ _ (by omega) (i 1).isLt),
    (fun k => by rw [off19_eq t h.tiles]; exact inb_ob _ (by omega)),
    (fun k hb => Affine.words_of_packed (packed_ob (off19_eq t h.tiles k) hb)),
    (fun k hb => words_y (off18_eq i s t h k) (by omega) hb),
    ok2 t h.tiles,
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim),
    (fun k => (no2 h k).elim)⟩

theorem chk1_2 (i : grid0.Coords) (s t : BitVec 32) (h : Seg s t) : k0_chk1_2 i s t := by
  have hd := h.dvd; have hf := h.fits; have ht := h.tiles
  exact ⟨(fun k => (no2 h k).elim),
    (fun k => (no2 h k).elim),
    (fun k => (no2 h k).elim),
    (fun k => (no2 h k).elim),
    (fun q => by have := (cond10_iff t h.tiles).1 q; rw [mult15_eq s t h this]; omega),
    (fun q => by rw [off37_eq t h.tiles]; exact inb_s2 _ (by omega)),
    (fun q => by have := (cond10_iff t h.tiles).1 q; rw [off38_eq i s t h this]; exact inb_y _ _ (by omega) (i 1).isLt),
    (fun q => by rw [off39_eq t h.tiles]; exact inb_ob _ (by omega)),
    (fun q hb => Affine.words_of_packed (packed_ob (off39_eq t h.tiles) hb)),
    (fun q hb => words_y (off38_eq i s t h ((cond10_iff t h.tiles).1 q)) (by omega) hb),
    (fun q => by have := (cond11_iff t h.tiles).1 q; rw [mult16_eq s t h this]; omega),
    (fun q => by have := (cond11_iff t h.tiles).1 q; rw [off40_eq t h.tiles this]; exact inb_s2 _ (by omega)),
    (fun q => by have := (cond11_iff t h.tiles).1 q; rw [off41_eq i s t h this]; exact inb_y _ _ (by omega) (i 1).isLt),
    (fun q => by have := (cond11_iff t h.tiles).1 q; rw [off42_eq t h.tiles this]; exact inb_ob _ (by omega)),
    (fun q hb => Affine.words_of_packed (packed_ob (off42_eq t h.tiles ((cond11_iff t h.tiles).1 q)) hb)),
    (fun q hb => words_y (off41_eq i s t h ((cond11_iff t h.tiles).1 q)) (by omega) hb)⟩

theorem chk1 (i : grid0.Coords) (s t : BitVec 32) (h : Seg s t) : k0_chk1 i s t := ⟨chk1_0 i s t h, chk1_1 i s t h, chk1_2 i s t h⟩

theorem chk2 (i : grid0.Coords) (s t : BitVec 32) (h : Seg s t) : k0_chk2 i t s := by
  have hd := h.dvd; have hf := h.fits; have ht := h.tiles
  exact ⟨(fun q => by rw [show (k0_mult14 s).toNat = s.toNat from mult2_eq s t h]; omega),
    (fun q => by have := (cond9_iff i t h.tiles).1 q; rw [off36_eq s t h]; exact inb_x _ (by omega)),
    (fun q hb => words_x (off36_eq s t h) (by omega) hb)⟩

end Cert.MoeUp

end
-- ==== Proof.MoeUpRing.lean ====
module

public import proofs.«01_k».proof.Proof.MoeUpWords
public import proofs.«01_k».proof.Proof.Gen.Kernel5Ideal.Launch
public import Idealize.ShloMosaic.Lib.Ring
public import Idealize.ShloMosaic.Lib.Transfers
public import Idealize.ShloMosaic.Lib.Claim
public import Idealize.ShloMosaic.Lib.Pipeline.FrameValue
public import Idealize.ShloMosaic.Lib.Quiescent
public import Idealize.ShloMosaic.Lib.Pipeline.Value

/-! The two rings of transfers of the expert projection: five row tiles on their way in, two result tiles on their way
    out, and what one issue and one wait do to each. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

/-- The rows of the activations a tile starting at row `r` covers. -/
abbrev xsrc (r : Nat) : Memref sig .tc .hbm S512x2048 .bf16 :=
  (Memref.whole main_v0).slice (Rect.unit (s := S18432x2048) ![min r 17920, 0] S512x2048.size (inb_x _ (by omega))) (fun _ => rfl)

/-- Slot `j` of the row buffer, and its semaphore. -/
abbrev xslot (j : Fin 5) : Memref sig .tc .vmem S512x2048 .bf16 :=
  ((Memref.whole cc0_scratch2).slice (Rect.unit (s := S5x512x2048) ![j.val, 0, 0] S1x512x2048.size (inb_xb _ j.isLt)) (fun _ => rfl)).squeeze S512x2048 squeezes_S1x512x2048_S512x2048
abbrev cellL (j : Fin 5) : DmaSem sig :=
  ((cc0_scratch5.slice (Rect.unit (s := S5) ![j.val] S1.size (inb_s5 _ j.isLt))).squeeze S_ squeezes_S1_S_).sem

/-- The result's tile of the rows from `r` on and the columns of block `n`. -/
abbrev ywin (n : Fin 11) (r : Nat) : Memref sig .tc .hbm S512x512 .bf16 :=
  (Memref.whole main_v23).slice (Rect.unit (s := S18432x5632) ![min r 17920, 512 * n.val] S512x512.size (inb_y _ _ (by omega) n.isLt)) (fun _ => rfl)

/-- Slot `j` of the result buffer, and its semaphore. -/
abbrev oslot (j : Fin 2) : Memref sig .tc .vmem S512x512 .bf16 :=
  ((Memref.whole cc0_scratch3).slice (Rect.unit (s := S2x512x512) ![j.val, 0, 0] S1x512x512.size (inb_ob _ j.isLt)) (fun _ => rfl)).squeeze S512x512 squeezes_S1x512x512_S512x512
abbrev cellS (j : Fin 2) : DmaSem sig :=
  ((cc0_scratch6.slice (Rect.unit (s := S2) ![j.val] S1.size (inb_s2 _ j.isLt))).squeeze S_ squeezes_S1_S_).sem

abbrev NL : ℕ := (xslot 0).view.dmaCredit
abbrev NS : ℕ := (ywin 0 0).view.dmaCredit

/-- A row slot: free, waiting for the tile from row `r` on, or holding it. -/
inductive LSt where
  | free
  | fly (r : Nat)
  | here (r : Nat)

variable (c : Dev nD) (X : Buf (Elt F) ((xsrc 0).view.loc (c : Thread nD τ)))

/-- The rows from `r` on. -/
def xrows (r : Nat) : Vec F S512x2048 .bf16 := (xsrc r).view.read (Elt F) X

/-- The activations read at slot `j`'s share. -/
abbrev xtok (j : Fin 5) (S : Finset (Idx ((xsrc 0).view.loc (c : Thread nD τ)))) : sProp 𝕄 :=
  (xsrc 0).view.loc (c : Thread nD τ) ↦[S]{Transfers.shareTok fullShare 5 j} X

abbrev slotAny (j : Fin 5) : sProp 𝕄 :=
  iprop(∃ f, (xslot j).view.loc (c : Thread nD τ) ↦[(xslot j).view.set]{fullShare} f)
abbrev slotAt (j : Fin 5) (r : Nat) : sProp 𝕄 :=
  iprop(∃ f, ⌜(xslot j).view.read (Elt F) f = xrows c X r⌝ ∗ ((xslot j).view.loc (c : Thread nD τ) ↦[(xslot j).view.set]{fullShare} f))

def ΦL (j : Fin 5) : LSt → sProp 𝕄
  | .free => iprop(semVal ((c : Thread nD τ), SemLoc.dma (cellL j)) 0 ∗ slotAny c j ∗ xtok c X j Finset.univ)
  | .fly r => iprop(Transfers.Flight (countersEmb (U := Pipeline.UD sig nD τ)) (c : Thread nD τ) (.dma (cellL j)) () NL
      iprop(slotAt c X j r ∗ xtok c X j (xsrc r).view.set) ∗ xtok c X j (Finset.univ \ (xsrc r).view.set))
  | .here r => iprop(semVal ((c : Thread nD τ), SemLoc.dma (cellL j)) 0 ∗ slotAt c X j r ∗ xtok c X j Finset.univ)

theorem set_xslot (j : Fin 5) : ((Memref.whole cc0_scratch2).access (Rect.unit (s := S5x512x2048) ![j.val, 0, 0] S1x512x2048.size (inb_xb _ j.isLt))).set = (xslot j).view.set := (Memref.set_view_squeeze _ _).symm
theorem set_oslot (j : Fin 2) : ((Memref.whole cc0_scratch3).access (Rect.unit (s := S2x512x512) ![j.val, 0, 0] S1x512x512.size (inb_ob _ j.isLt))).set = (oslot j).view.set := (Memref.set_view_squeeze _ _).symm
theorem cast_rows : S512x2048.ShapeCasts S1x512x2048 := shapeCasts_S1x512x2048_S512x2048.symm

/-- What a load delivers is its slot holding the rows. -/
theorem landed (j : Fin 5) (r : Nat) (f : Buf (Elt F) ((xslot j).view.loc (c : Thread nD τ))) :
    iprop(((xslot j).view.loc (c : Thread nD τ) ↦[(xslot j).view.set]{fullShare}
        ((xslot j).view.write (Elt F) f (ReadAs.same.apply ((xsrc r).view.read (Elt F) X)) Finset.univ)) ∗ xtok c X j (xsrc r).view.set)
      ⊢ iprop(slotAt c X j r ∗ xtok c X j (xsrc r).view.set) := by
  iintro ⟨Hd, Hs⟩
  isplitl [Hd]
  · iexists ((xslot j).view.write (Elt F) f (ReadAs.same.apply ((xsrc r).view.read (Elt F) X)) Finset.univ)
    isplitr
    · ipureintro; exact View.read_write_univ _ _
    iexact Hd
  · iexact Hs

/-- Starting the load of the rows from `r` on into the free slot `j`. -/
theorem issueL (𝒱 : Variants) (bd : Option 𝒱.V) (st : Fin 5 → LSt) (j : Fin 5) (r : Nat) (hst : st j = .free)
    {o5 : Fin 1 → Nat} {ox : Fin 3 → Nat} {or : Fin 2 → Nat} (e5 : o5 = ![j.val]) (ex : ox = ![j.val, 0, 0]) (er : or = ![min r 17920, 0])
    {i5 : ∀ a, o5 a + S1.size a ≤ S5.size a} {ix : ∀ a, ox a + S1x512x2048.size a ≤ S5x512x2048.size a} {ir : ∀ a, or a + S512x2048.size a ≤ S18432x2048.size a}
    {hs : ((Memref.whole main_v0).slice (Rect.unit (s := S18432x2048) or S512x2048.size ir) (fun _ => rfl)).view.WordExact} {hd : (((Memref.whole cc0_scratch2).slice (Rect.unit (s := S5x512x2048) ox S1x512x2048.size ix) (fun _ => rfl)).squeeze S512x2048 squeezes_S1x512x2048_S512x2048).view.WordExact}
    {ht} (Q : PUnit → sProp 𝕄) :
    iprop(Ring.AtW (ΦL c X) st ∗ (Ring.AtW (ΦL c X) (Function.update st j (.fly r)) -∗ Q ⟨⟩))
      ⊢ wp frame (wpE (defs₀ (F := F)) 𝒱 (c : Thread nD τ) bd) Set.univ
          (Prog.lift (.enqueueDma ((Memref.whole main_v0).slice (Rect.unit (s := S18432x2048) or S512x2048.size ir) (fun _ => rfl)) (.here (((Memref.whole cc0_scratch2).slice (Rect.unit (s := S5x512x2048) ox S1x512x2048.size ix) (fun _ => rfl)).squeeze S512x2048 squeezes_S1x512x2048_S512x2048)) (.dma ((cc0_scratch5.slice (Rect.unit (s := S5) o5 S1.size i5)).squeeze S_ squeezes_S1_S_).sem) hs hd ht)) Q := by
  subst e5 ex er
  rw [Ring.AtW_focus (ΦL c X) st j]
  iintro ⟨⟨Hk, Hrest⟩, HQ⟩
  simp only [hst, ΦL]
  icases Hk with ⟨Hcell, ⟨%f, Hslot⟩, Htok⟩
  ihave Htok := (pointsTo_split_subset (Finset.subset_univ (xsrc r).view.set)).1 $$ Htok
  icases Htok with ⟨Htok, Htokr⟩
  iapply (Transfers.wp_dmaLocal (countersEmb (U := Pipeline.UD sig nD τ)) 𝒱 (c : Thread nD τ) bd (src := xsrc r) (dst := xslot j) (q := Transfers.shareTok fullShare 5 j) (fs := X) (fd := f)
    () NL rfl (by decide) (Finset.Subset.refl _)) $$ [Htok Hslot Hcell]
  · isplitl [Htok]; · iexact Htok
    isplitl [Hslot]; · iexact Hslot
    iexact Hcell
  iintro Hfl
  sl_step
  iapply HQ
  iapply (Ring.AtW_update (ΦL c X) st j (.fly r))
  isplitr [Hrest]
  · simp only [ΦL]
    isplitl [Hfl]
    · iapply (Transfers.Flight_mono (countersEmb (U := Pipeline.UD sig nD τ)) (c : Thread nD τ) (landed c X j r f)) $$ Hfl
    · iexact Htokr
  · iexact Hrest

/-- Waiting for the load into slot `j`: the slot holds the rows. -/
theorem waitL (𝒱 : Variants) (bd : Option 𝒱.V) (st : Fin 5 → LSt) (j : Fin 5) (r : Nat) (hst : st j = .fly r)
    {o5 : Fin 1 → Nat} {ox : Fin 3 → Nat} {or : Fin 2 → Nat} (e5 : o5 = ![j.val]) (ex : ox = ![j.val, 0, 0])
    {i5 : ∀ a, o5 a + S1.size a ≤ S5.size a} {ix : ∀ a, ox a + S1x512x2048.size a ≤ S5x512x2048.size a} {ir : ∀ a, or a + S512x2048.size a ≤ S18432x2048.size a}
    {hs : ((Memref.whole main_v0).slice (Rect.unit (s := S18432x2048) or S512x2048.size ir) (fun _ => rfl)).view.WordExact} {hd : (((Memref.whole cc0_scratch2).slice (Rect.unit (s := S5x512x2048) ox S1x512x2048.size ix) (fun _ => rfl)).squeeze S512x2048 squeezes_S1x512x2048_S512x2048).view.WordExact} (Q : PUnit → sProp 𝕄) :
    iprop((Ring.AtW (ΦL c X) st ∗ ∃ W, owes (c : Thread nD τ) 0 W)
        ∗ ((Ring.AtW (ΦL c X) (Function.update st j (.here r)) ∗ ∃ W, owes (c : Thread nD τ) 0 W) -∗ Q ⟨⟩))
      ⊢ wp frame (wpE (defs₀ (F := F)) 𝒱 (c : Thread nD τ) bd) Set.univ
          (Prog.lift (.waitDma2 ((cc0_scratch5.slice (Rect.unit (s := S5) o5 S1.size i5)).squeeze S_ squeezes_S1_S_).sem ((Memref.whole main_v0).slice (Rect.unit (s := S18432x2048) or S512x2048.size ir) (fun _ => rfl)) (((Memref.whole cc0_scratch2).slice (Rect.unit (s := S5x512x2048) ox S1x512x2048.size ix) (fun _ => rfl)).squeeze S512x2048 squeezes_S1x512x2048_S512x2048) hs hd)) Q := by
  subst e5 ex
  rw [Ring.AtW_focus (ΦL c X) st j]
  iintro ⟨⟨⟨Hk, Hrest⟩, ⟨%W, HO⟩⟩, HQ⟩
  simp only [hst, ΦL]
  icases Hk with ⟨Hfl, Htokr⟩
  iapply (Transfers.wp_waitLocal (countersEmb (U := Pipeline.UD sig nD τ)) 𝒱 (c : Thread nD τ) bd (srcw := ((Memref.whole main_v0).slice (Rect.unit (s := S18432x2048) or S512x2048.size ir) (fun _ => rfl))) (dstw := xslot j) (hsrc := hs) (hdst := hd) () (N := NL) rfl) $$ [Hfl HO]
  · isplitl [Hfl]; · iexact Hfl
    iexact HO
  iintro ⟨⟨Hslot, Htok⟩, Hcell, HO⟩
  sl_step
  iapply HQ
  isplitr [HO]
  · iapply (Ring.AtW_update (ΦL c X) st j (.here r))
    isplitr [Hrest]
    · simp only [ΦL]
      isplitl [Hcell]; · iexact Hcell
      isplitl [Hslot]; · iexact Hslot
      iapply (pointsTo_split_subset (Finset.subset_univ (xsrc r).view.set)).2
      isplitl [Htok]; · iexact Htok
      iexact Htokr
    · iexact Hrest
  · iexists _; iexact HO

/-- Reading slot `j`, which holds the rows from `r` on. -/
theorem readL (𝒱 : Variants) (bd : Option 𝒱.V) (st : Fin 5 → LSt) (j : Fin 5) (r : Nat) (hst : st j = .here r)
    {ox : Fin 3 → Nat} (ex : ox = ![j.val, 0, 0]) {ix : ∀ a, ox a + S1x512x2048.size a ≤ S5x512x2048.size a} {hl}
    (Q : Vec F S1x512x2048 .bf16 → sProp 𝕄) :
    iprop(Ring.AtW (ΦL c X) st ∗ (Ring.AtW (ΦL c X) (Function.update st j .free) -∗ Q (shapeCast S1x512x2048 (xrows c X r) cast_rows)))
      ⊢ wp frame (wpE (defs₀ (F := F)) 𝒱 (c : Thread nD τ) bd) Set.univ
          (Prog.lift (.load (Memref.whole cc0_scratch2) (Rect.unit (s := S5x512x2048) ox S1x512x2048.size ix).toLoadRect hl)) Q := by
  subst ex
  rw [Ring.AtW_focus (ΦL c X) st j]
  iintro ⟨⟨Hk, Hrest⟩, HQ⟩
  simp only [hst, ΦL]
  icases Hk with ⟨Hcell, ⟨%f, %hf, Hslot⟩, Htok⟩
  have hv : ((Memref.whole cc0_scratch2).access (Rect.unit (s := S5x512x2048) ![j.val, 0, 0] S1x512x2048.size (inb_xb _ j.isLt))).read (Elt F) f
      = shapeCast S1x512x2048 (xrows c X r) cast_rows := by
    rw [← hf]
    exact (shapeCast_shapeCast _ shapeCasts_S1x512x2048_S512x2048 cast_rows).symm
  iapply (wp_load_rect 𝒱 (c : Thread nD τ) bd Set.univ (m := Memref.whole cc0_scratch2) (r := (Rect.unit (s := S5x512x2048) ![j.val, 0, 0] S1x512x2048.size (inb_xb _ j.isLt))) (S := (xslot j).view.set) (f := f) (subset_of_eq (set_xslot j))) $$ Hslot
  iintro Hslot
  rw [hv]
  sl_step
  iapply HQ
  iapply (Ring.AtW_update (ΦL c X) st j .free)
  isplitr [Hrest]
  · simp only [ΦL]
    isplitl [Hcell]; · iexact Hcell
    isplitl [Hslot]; · iexists f; iexact Hslot
    iexact Htok
  · iexact Hrest

variable (n : Fin 11) (G : Buf (Elt F) ((ywin 0 0).view.loc (c : Thread nD τ)))

abbrev oAny (j : Fin 2) : sProp 𝕄 :=
  iprop(∃ f, (oslot j).view.loc (c : Thread nD τ) ↦[(oslot j).view.set]{fullShare} f)
abbrev yAt (r : Nat) (g : Buf (Elt F) ((ywin 0 0).view.loc (c : Thread nD τ))) : sProp 𝕄 :=
  (ywin 0 0).view.loc (c : Thread nD τ) ↦[(ywin n r).view.set]{fullShare} g

/-- A result slot: free, holding the tile the rows from `r` on will have, or on its way there. -/
def ΦS (j : Fin 2) : LSt → sProp 𝕄
  | .free => iprop(semVal ((c : Thread nD τ), SemLoc.dma (cellS j)) 0 ∗ oAny c j)
  | .fly r => Transfers.Flight (countersEmb (U := Pipeline.UD sig nD τ)) (c : Thread nD τ) (.dma (cellS j)) () NS
      iprop(yAt c n r G ∗ oAny c j)
  | .here r => iprop(semVal ((c : Thread nD τ), SemLoc.dma (cellS j)) 0
      ∗ ∃ f, ⌜(oslot j).view.read (Elt F) f = (ywin n r).view.read (Elt F) G⌝ ∗ ((oslot j).view.loc (c : Thread nD τ) ↦[(oslot j).view.set]{fullShare} f))

/-- Writing back what a window reads of an array puts the array's own elements there. -/
theorem write_read (r : Nat) (g : Buf (Elt F) ((ywin 0 0).view.loc (c : Thread nD τ))) (i) (hi : i ∈ (ywin n r).view.set) :
    ((ywin n r).view.write (Elt F) g ((ywin n r).view.read (Elt F) G) Finset.univ) i = G i := by
  obtain ⟨x, -, rfl⟩ := Finset.mem_map.1 hi
  rw [View.write_emb_of_mem _ _ (Finset.mem_univ _)]
  rfl

theorem sent (j : Fin 2) (r : Nat) (g : Buf (Elt F) ((ywin 0 0).view.loc (c : Thread nD τ))) (f : Buf (Elt F) ((oslot j).view.loc (c : Thread nD τ)))
    (hf : (oslot j).view.read (Elt F) f = (ywin n r).view.read (Elt F) G) :
    iprop(((ywin n r).view.loc (c : Thread nD τ) ↦[(ywin n r).view.set]{fullShare}
        ((ywin n r).view.write (Elt F) g (ReadAs.same.apply ((oslot j).view.read (Elt F) f)) Finset.univ))
        ∗ ((oslot j).view.loc (c : Thread nD τ) ↦[(oslot j).view.set]{fullShare} f))
      ⊢ iprop(yAt c n r G ∗ oAny c j) := by
  rw [hf]
  have hc : (((ywin n r).view.loc (c : Thread nD τ) ↦[(ywin n r).view.set]{fullShare}
        ((ywin n r).view.write (Elt F) g (ReadAs.same.apply ((ywin n r).view.read (Elt F) G)) Finset.univ)) : sProp 𝕄) = yAt c n r G :=
    pointsTo_congr (write_read c n G r g)
  rw [hc]
  iintro ⟨Hd, Hs⟩
  isplitl [Hd]
  · iexact Hd
  · iexists f; iexact Hs

/-- Starting the store of slot `j` to the rows from `r` on. -/
theorem issueS (𝒱 : Variants) (bd : Option 𝒱.V) (st : Fin 2 → LSt) (j : Fin 2) (r : Nat) (hst : st j = .here r)
    (g : Buf (Elt F) ((ywin 0 0).view.loc (c : Thread nD τ)))
    {o2 : Fin 1 → Nat} {ox : Fin 3 → Nat} {or : Fin 2 → Nat} (e2 : o2 = ![j.val]) (ex : ox = ![j.val, 0, 0]) (er : or = ![min r 17920, 512 * n.val])
    {i2 : ∀ a, o2 a + S1.size a ≤ S2.size a} {ix : ∀ a, ox a + S1x512x512.size a ≤ S2x512x512.size a} {ir : ∀ a, or a + S512x512.size a ≤ S18432x5632.size a}
    {hs : (((Memref.whole cc0_scratch3).slice (Rect.unit (s := S2x512x512) ox S1x512x512.size ix) (fun _ => rfl)).squeeze S512x512 squeezes_S1x512x512_S512x512).view.WordExact} {hd : ((Memref.whole main_v23).slice (Rect.unit (s := S18432x5632) or S512x512.size ir) (fun _ => rfl)).view.WordExact}
    {ht} (Q : PUnit → sProp 𝕄) :
    iprop((Ring.AtW (ΦS c n G) st ∗ yAt c n r g) ∗ (Ring.AtW (ΦS c n G) (Function.update st j (.fly r)) -∗ Q ⟨⟩))
      ⊢ wp frame (wpE (defs₀ (F := F)) 𝒱 (c : Thread nD τ) bd) Set.univ
          (Prog.lift (.enqueueDma (((Memref.whole cc0_scratch3).slice (Rect.unit (s := S2x512x512) ox S1x512x512.size ix) (fun _ => rfl)).squeeze S512x512 squeezes_S1x512x512_S512x512) (.here ((Memref.whole main_v23).slice (Rect.unit (s := S18432x5632) or S512x512.size ir) (fun _ => rfl))) (.dma ((cc0_scratch6.slice (Rect.unit (s := S2) o2 S1.size i2)).squeeze S_ squeezes_S1_S_).sem) hs hd ht)) Q := by
  subst e2 ex er
  rw [Ring.AtW_focus (ΦS c n G) st j]
  iintro ⟨⟨⟨Hk, Hrest⟩, Hy⟩, HQ⟩
  simp only [hst, ΦS]
  icases Hk with ⟨Hcell, ⟨%f, %hf, Hslot⟩⟩
  iapply (Transfers.wp_dmaLocal (countersEmb (U := Pipeline.UD sig nD τ)) 𝒱 (c : Thread nD τ) bd (src := oslot j) (dst := ywin n r) (q := fullShare) (fs := f) (fd := g)
    () NS rfl (by decide) (Finset.Subset.refl _)) $$ [Hy Hslot Hcell]
  · isplitl [Hslot]; · iexact Hslot
    isplitl [Hy]; · iexact Hy
    iexact Hcell
  iintro Hfl
  sl_step
  iapply HQ
  iapply (Ring.AtW_update (ΦS c n G) st j (.fly r))
  isplitr [Hrest]
  · simp only [ΦS]
    iapply (Transfers.Flight_mono (countersEmb (U := Pipeline.UD sig nD τ)) (c : Thread nD τ) (sent c n G j r g f hf)) $$ Hfl
  · iexact Hrest

/-- Waiting for the store of slot `j`. -/
theorem waitS (𝒱 : Variants) (bd : Option 𝒱.V) (st : Fin 2 → LSt) (j : Fin 2) (r : Nat) (hst : st j = .fly r)
    {o2 : Fin 1 → Nat} {ox : Fin 3 → Nat} {or : Fin 2 → Nat} (e2 : o2 = ![j.val])
    {i2 : ∀ a, o2 a + S1.size a ≤ S2.size a} {ix : ∀ a, ox a + S1x512x512.size a ≤ S2x512x512.size a} {ir : ∀ a, or a + S512x512.size a ≤ S18432x5632.size a}
    {hs : (((Memref.whole cc0_scratch3).slice (Rect.unit (s := S2x512x512) ox S1x512x512.size ix) (fun _ => rfl)).squeeze S512x512 squeezes_S1x512x512_S512x512).view.WordExact} {hd : ((Memref.whole main_v23).slice (Rect.unit (s := S18432x5632) or S512x512.size ir) (fun _ => rfl)).view.WordExact} (Q : PUnit → sProp 𝕄) :
    iprop((Ring.AtW (ΦS c n G) st ∗ ∃ W, owes (c : Thread nD τ) 0 W)
        ∗ ((Ring.AtW (ΦS c n G) (Function.update st j .free) ∗ yAt c n r G ∗ ∃ W, owes (c : Thread nD τ) 0 W) -∗ Q ⟨⟩))
      ⊢ wp frame (wpE (defs₀ (F := F)) 𝒱 (c : Thread nD τ) bd) Set.univ
          (Prog.lift (.waitDma2 ((cc0_scratch6.slice (Rect.unit (s := S2) o2 S1.size i2)).squeeze S_ squeezes_S1_S_).sem (((Memref.whole cc0_scratch3).slice (Rect.unit (s := S2x512x512) ox S1x512x512.size ix) (fun _ => rfl)).squeeze S512x512 squeezes_S1x512x512_S512x512) ((Memref.whole main_v23).slice (Rect.unit (s := S18432x5632) or S512x512.size ir) (fun _ => rfl)) hs hd)) Q := by
  subst e2
  rw [Ring.AtW_focus (ΦS c n G) st j]
  iintro ⟨⟨⟨Hk, Hrest⟩, ⟨%W, HO⟩⟩, HQ⟩
  simp only [hst, ΦS]
  iapply (Transfers.wp_waitLocal (countersEmb (U := Pipeline.UD sig nD τ)) 𝒱 (c : Thread nD τ) bd (srcw := (((Memref.whole cc0_scratch3).slice (Rect.unit (s := S2x512x512) ox S1x512x512.size ix) (fun _ => rfl)).squeeze S512x512 squeezes_S1x512x512_S512x512)) (dstw := ((Memref.whole main_v23).slice (Rect.unit (s := S18432x5632) or S512x512.size ir) (fun _ => rfl))) (hsrc := hs) (hdst := hd) () (N := NS) rfl) $$ [Hk HO]
  · isplitl [Hk]; · iexact Hk
    iexact HO
  iintro ⟨⟨Hy, Hslot⟩, Hcell, HO⟩
  sl_step
  iapply HQ
  isplitr [HO Hy]
  · iapply (Ring.AtW_update (ΦS c n G) st j .free)
    isplitr [Hrest]
    · simp only [ΦS]
      isplitl [Hcell]; · iexact Hcell
      iexact Hslot
    · iexact Hrest
  · isplitl [Hy]; · iexact Hy
    iexists _; iexact HO

/-- The load of a result slot whose value nothing uses. -/
theorem peekS (𝒱 : Variants) (bd : Option 𝒱.V) (st : Fin 2 → LSt) (j : Fin 2) (hst : st j = .free)
    {ox : Fin 3 → Nat} (ex : ox = ![j.val, 0, 0]) {ix : ∀ a, ox a + S1x512x512.size a ≤ S2x512x512.size a} {hl}
    (Q : Vec F S1x512x512 .bf16 → sProp 𝕄) :
    iprop(Ring.AtW (ΦS c n G) st ∗ (∀ v, Ring.AtW (ΦS c n G) st -∗ Q v))
      ⊢ wp frame (wpE (defs₀ (F := F)) 𝒱 (c : Thread nD τ) bd) Set.univ
          (Prog.lift (.load (Memref.whole cc0_scratch3) (Rect.unit (s := S2x512x512) ox S1x512x512.size ix).toLoadRect hl)) Q := by
  subst ex
  rw [Ring.AtW_focus (ΦS c n G) st j]
  iintro ⟨⟨Hk, Hrest⟩, HQ⟩
  simp only [hst, ΦS]
  icases Hk with ⟨Hcell, ⟨%f, Hslot⟩⟩
  iapply (wp_load_rect 𝒱 (c : Thread nD τ) bd Set.univ (m := Memref.whole cc0_scratch3) (r := (Rect.unit (s := S2x512x512) ![j.val, 0, 0] S1x512x512.size (inb_ob _ j.isLt))) (S := (oslot j).view.set) (f := f) (subset_of_eq (set_oslot j))) $$ Hslot
  iintro Hslot
  sl_step
  iapply HQ
  isplitr [Hrest]
  · isplitl [Hcell]; · iexact Hcell
    iexists f; iexact Hslot
  · iexact Hrest

/-- Storing the tile of the rows from `r` on into the free slot `j`. -/
theorem fillS (𝒱 : Variants) (bd : Option 𝒱.V) (st : Fin 2 → LSt) (j : Fin 2) (r : Nat) (hst : st j = .free)
    (p : Vec F S1x512x512 .bf16) (hp : shapeCast S512x512 p shapeCasts_S1x512x512_S512x512 = (ywin n r).view.read (Elt F) G)
    {ox : Fin 3 → Nat} (ex : ox = ![j.val, 0, 0]) {ix : ∀ a, ox a + S1x512x512.size a ≤ S2x512x512.size a} {hx hm}
    (Q : PUnit → sProp 𝕄) :
    iprop(Ring.AtW (ΦS c n G) st ∗ (Ring.AtW (ΦS c n G) (Function.update st j (.here r)) -∗ Q ⟨⟩))
      ⊢ wp frame (wpE (defs₀ (F := F)) 𝒱 (c : Thread nD τ) bd) Set.univ
          (Prog.lift (.store (Memref.whole cc0_scratch3) (Rect.unit (s := S2x512x512) ox S1x512x512.size ix) p Finset.univ hx hm)) Q := by
  subst ex
  rw [Ring.AtW_focus (ΦS c n G) st j]
  iintro ⟨⟨Hk, Hrest⟩, HQ⟩
  simp only [hst, ΦS]
  icases Hk with ⟨Hcell, ⟨%f, Hslot⟩⟩
  have hv : (oslot j).view.read (Elt F) (((Memref.whole cc0_scratch3).access (Rect.unit (s := S2x512x512) ![j.val, 0, 0] S1x512x512.size (inb_ob _ j.isLt))).write (Elt F) f p Finset.univ)
      = (ywin n r).view.read (Elt F) G := by
    rw [← hp, show (oslot j).view.read (Elt F) (((Memref.whole cc0_scratch3).access (Rect.unit (s := S2x512x512) ![j.val, 0, 0] S1x512x512.size (inb_ob _ j.isLt))).write (Elt F) f p Finset.univ)
      = shapeCast S512x512 (((Memref.whole cc0_scratch3).access (Rect.unit (s := S2x512x512) ![j.val, 0, 0] S1x512x512.size (inb_ob _ j.isLt))).read (Elt F) (((Memref.whole cc0_scratch3).access (Rect.unit (s := S2x512x512) ![j.val, 0, 0] S1x512x512.size (inb_ob _ j.isLt))).write (Elt F) f p Finset.univ)) shapeCasts_S1x512x512_S512x512 from rfl,
      View.read_write_univ]
  iapply (wp_store 𝒱 (c : Thread nD τ) bd Set.univ (m := Memref.whole cc0_scratch3) (r := (Rect.unit (s := S2x512x512) ![j.val, 0, 0] S1x512x512.size (inb_ob _ j.isLt))) (Mk := Finset.univ) (S := (oslot j).view.set) (f := f) (subset_of_eq (set_oslot j))) $$ Hslot
  iintro Hslot
  sl_step
  iapply HQ
  iapply (Ring.AtW_update (ΦS c n G) st j (.here r))
  isplitr [Hrest]
  · simp only [ΦS]
    isplitl [Hcell]; · iexact Hcell
    iexists _
    isplitr; · ipureintro; exact hv
    iexact Hslot
  · iexact Hrest

end Cert.MoeUp

end
-- ==== Proof.MoeUpTrip.lean ====
module

public import proofs.«01_k».proof.Proof.MoeUpRing

/-! One trip of the expert projection's counted loop: wait for a row tile, start the load of the tile four further on,
    wait for the store of two tiles back, multiply, and start the store of this tile. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

variable (c : Dev nD) (X : Buf (Elt F) ((xsrc 0).view.loc (c : Thread nD τ))) (n : Fin 11)
  (G g : Buf (Elt F) ((ywin 0 0).view.loc (c : Thread nD τ)))

/-- The load slots before trip `k` of a segment of `T` tiles that begins at row `s`. -/
def stL (s T k : Nat) (j : Fin 5) : LSt :=
  if (j.val + 5 - k % 5) % 5 < 4 ∧ k + (j.val + 5 - k % 5) % 5 < T then .fly (s + 512 * (k + (j.val + 5 - k % 5) % 5)) else .free

/-- The store slots before trip `k`. -/
def stS (s k : Nat) (j : Fin 2) : LSt :=
  if k % 2 = j.val then (if 2 ≤ k then .fly (s + 512 * (k - 2)) else .free) else (if 1 ≤ k then .fly (s + 512 * (k - 1)) else .free)

/-- A tile of the result: written, on its way, or as before the step. -/
inductive PSt where
  | done
  | away
  | todo

def stP (T k : Nat) (q : Fin T) : PSt := if q.val + 2 < k then .done else if q.val < k then .away else .todo

def ΦP (s T : Nat) (q : Fin T) : PSt → sProp 𝕄
  | .done => yAt c n (s + 512 * q.val) G
  | .away => iprop(emp)
  | .todo => yAt c n (s + 512 * q.val) g

theorem takeP (s T : Nat) (st : Fin T → PSt) (q : Fin T) (h : st q = .todo) :
    Ring.AtW (ΦP c n G g s T) st ⊢ iprop(yAt c n (s + 512 * q.val) g ∗ Ring.AtW (ΦP c n G g s T) (Function.update st q .away)) := by
  rw [Ring.AtW_focus (ΦP c n G g s T) st q]
  simp only [h, ΦP]
  iintro ⟨H, Hr⟩
  isplitl [H]; · iexact H
  iapply (Ring.AtW_update (ΦP c n G g s T) st q .away)
  isplitr [Hr]
  · exact .rfl
  · iexact Hr

theorem giveP (s T : Nat) (st : Fin T → PSt) (q : Fin T) (h : st q = .away) :
    iprop(yAt c n (s + 512 * q.val) G ∗ Ring.AtW (ΦP c n G g s T) st) ⊢ Ring.AtW (ΦP c n G g s T) (Function.update st q .done) := by
  rw [Ring.AtW_focus (ΦP c n G g s T) st q]
  simp only [h, ΦP]
  iintro ⟨H, ⟨_, Hr⟩⟩
  iapply (Ring.AtW_update (ΦP c n G g s T) st q .done)
  isplitl [H]
  · simp only [ΦP]; iexact H
  · iexact Hr

theorem stL_now {s T k : Nat} (h : k < T) (j : Fin 5) (hj : j.val = k % 5) : stL s T k j = .fly (s + 512 * k) := by
  have e : (j.val + 5 - k % 5) % 5 = 0 := by omega
  simp only [stL, e]; simp [h]

theorem stL_last {s T k : Nat} (j : Fin 5) (hj : j.val = (k + 4) % 5) : stL s T k j = .free := by
  have e : (j.val + 5 - k % 5) % 5 = 4 := by omega
  simp only [stL, e]; simp

theorem stL_step (s T k : Nat) (h : k < T) (j j' : Fin 5) (hj : j.val = k % 5) (hj' : j'.val = (k + 4) % 5) :
    Function.update (if k + 4 < T then Function.update (Function.update (stL s T k) j (.here (s + 512 * k))) j' (.fly (s + 512 * (k + 4)))
      else Function.update (stL s T k) j (.here (s + 512 * k))) j .free = stL s T (k + 1) := by
  funext i
  have hne : j ≠ j' := fun e => by have := congrArg Fin.val e; omega
  by_cases hi : i = j
  · subst hi
    rw [Function.update_self]
    exact (stL_last i (by omega)).symm
  rw [Function.update_of_ne hi]
  have hi' : i.val ≠ k % 5 := fun e => hi (Fin.ext (by omega))
  by_cases hi2 : i = j'
  · subst hi2
    have e : (i.val + 5 - (k + 1) % 5) % 5 = 3 := by omega
    by_cases h4 : k + 4 < T
    · rw [if_pos h4, Function.update_self, stL, e, if_pos ⟨by omega, by omega⟩]
    · rw [if_neg h4, Function.update_of_ne hi, stL_last i hj', stL, e, if_neg (by omega)]
  · have hi3 : i.val ≠ (k + 4) % 5 := fun e => hi2 (Fin.ext (by omega))
    have : (if k + 4 < T then Function.update (Function.update (stL s T k) j (.here (s + 512 * k))) j' (.fly (s + 512 * (k + 4)))
      else Function.update (stL s T k) j (.here (s + 512 * k))) i = stL s T k i := by
      split
      · rw [Function.update_of_ne hi2, Function.update_of_ne hi]
      · rw [Function.update_of_ne hi]
    rw [this, stL, stL]
    have hlt := i.isLt
    have e : (i.val + 5 - k % 5) % 5 = (i.val + 5 - (k + 1) % 5) % 5 + 1 := by omega
    rw [e]
    have e4 : (i.val + 5 - (k + 1) % 5) % 5 < 3 := by omega
    generalize (i.val + 5 - (k + 1) % 5) % 5 = d at e4 ⊢
    by_cases hd : k + 1 + d < T
    · rw [if_pos ⟨by omega, by omega⟩, if_pos ⟨by omega, hd⟩]
      exact congrArg LSt.fly (by omega)
    · rw [if_neg (by omega), if_neg (by omega)]

theorem stS_step (s k : Nat) (j : Fin 2) (hj : j.val = k % 2) :
    Function.update (Function.update (if 2 ≤ k then Function.update (stS s k) j .free else stS s k) j (.here (s + 512 * k))) j (.fly (s + 512 * k))
      = stS s (k + 1) := by
  funext i
  by_cases hi : i = j
  · subst hi
    simp only [Function.update_self, stS]
    rw [if_neg (show ¬ (k + 1) % 2 = i.val by omega), if_pos (show 1 ≤ k + 1 by omega)]; exact congrArg LSt.fly (by omega)
  · have hi' : i.val ≠ k % 2 := fun e => hi (Fin.ext (by omega))
    have hlt := i.isLt
    rw [Function.update_of_ne hi, Function.update_of_ne hi]
    have : (if 2 ≤ k then Function.update (stS s k) j .free else stS s k) i = stS s k i := by
      split
      · rw [Function.update_of_ne hi]
      · rfl
    rw [this]
    simp only [stS]
    rw [if_neg (show ¬ k % 2 = i.val by omega), if_pos (show (k + 1) % 2 = i.val by omega)]
    by_cases h1 : 1 ≤ k
    · rw [if_pos h1, if_pos (show 2 ≤ k + 1 by omega)]; exact congrArg LSt.fly (by omega)
    · rw [if_neg h1, if_neg (show ¬ 2 ≤ k + 1 by omega)]

theorem stS_free {s k : Nat} (h : ¬ 2 ≤ k) (j : Fin 2) (hj : j.val = k % 2) : stS s k j = .free := by
  rw [stS, if_pos hj.symm, if_neg h]
theorem stS_fly {s k : Nat} (h : 2 ≤ k) (j : Fin 2) (hj : j.val = k % 2) : stS s k j = .fly (s + 512 * (k - 2)) := by
  rw [stS, if_pos hj.symm, if_pos h]

theorem stP_step (T k : Nat) (h : k < T) :
    Function.update (if h2 : 2 ≤ k then Function.update (stP T k) ⟨k - 2, by omega⟩ .done else stP T k) ⟨k, h⟩ .away = stP T (k + 1) := by
  funext i
  by_cases hi : i = ⟨k, h⟩
  · subst hi
    rw [Function.update_self]; simp [stP]
  · have hi' : i.val ≠ k := fun e => hi (Fin.ext e)
    rw [Function.update_of_ne hi]
    split
    · rename_i h2
      by_cases hi2 : i = ⟨k - 2, by omega⟩
      · subst hi2
        rw [Function.update_self]; simp only [stP]; rw [if_pos (by omega)]
      · have hi3 : i.val ≠ k - 2 := fun e => hi2 (Fin.ext e)
        rw [Function.update_of_ne hi2]
        simp only [stP]
        split_ifs <;> first | rfl | (exfalso; omega)
    · simp only [stP]
      split_ifs <;> first | rfl | (exfalso; omega)

/-- The array's tile of the rows from `r` on, as the body computes it. -/
def tileOf (w1 w3 : Vec F S2048x512 .bf16) (r : Nat) : Vec F S512x512 .bf16 :=
  shapeCast S512x512 (k0_pay1 (shapeCast S1x512x2048 (xrows c X r) cast_rows) w1 w3) shapeCasts_S1x512x512_S512x512

/-- The result's tile of the rows from `r` on. -/
def ytile (r : Nat) : Vec F S512x512 .bf16 := (ywin n r).view.read (Elt F) G

abbrev W1At (w : Vec F S2048x512 .bf16) : sProp 𝕄 := (Memref.whole cc0_scratch0).view.loc (c : Thread nD τ) ↦[Finset.univ]{fullShare} w
abbrev W3At (w : Vec F S2048x512 .bf16) : sProp 𝕄 := (Memref.whole cc0_scratch1).view.loc (c : Thread nD τ) ↦[Finset.univ]{fullShare} w

/-- What holds before trip `k`. -/
abbrev InvT (w1 w3 : Vec F S2048x512 .bf16) (s T k : Nat) : sProp 𝕄 :=
  iprop(Ring.AtW (ΦL c X) (stL s T k) ∗ Ring.AtW (ΦS c n G) (stS s k) ∗ Ring.AtW (ΦP c n G g s T) (stP T k)
    ∗ W1At c w1 ∗ W3At c w3 ∗ ∃ W, owes (c : Thread nD τ) 0 W)

abbrev stL1 (s T k : Nat) (j j' : Fin 5) : Fin 5 → LSt :=
  if k + 4 < T then Function.update (Function.update (stL s T k) j (.here (s + 512 * k))) j' (.fly (s + 512 * (k + 4)))
      else Function.update (stL s T k) j (.here (s + 512 * k))
abbrev stS1 (s k : Nat) (j : Fin 2) : Fin 2 → LSt := if 2 ≤ k then Function.update (stS s k) j .free else stS s k
abbrev stP1 (T k : Nat) (h : k < T) : Fin T → PSt := if h2 : 2 ≤ k then Function.update (stP T k) ⟨k - 2, by omega⟩ .done else stP T k

variable (𝒱 : Variants) (bd : Option 𝒱.V) (i : grid0.Coords)

/-- The first part of a trip: the wait for the row tile, the next load, the wait for the store of two tiles back. -/
theorem part1 (v15 v17 : BitVec 32) (hseg : Seg v15 v17) (hw1 : k0_chk1 i v15 v17)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (k : Fin (k0_t1_loop v17).trips) (hk : k.val < v17.toNat) (jL jN : Fin 5) (jS : Fin 2)
    (hL : jL.val = k.val % 5) (hN : jN.val = (k.val + 4) % 5) (hS : jS.val = k.val % 2) (w w') (Q) :
    iprop((Ring.AtW (ΦL c X) (stL v15.toNat v17.toNat k.val) ∗ Ring.AtW (ΦS c (i 1) G) (stS v15.toNat k.val)
        ∗ Ring.AtW (ΦP c (i 1) G g v15.toNat v17.toNat) (stP v17.toNat k.val) ∗ ∃ W, owes (c : Thread nD τ) 0 W)
      ∗ (∀ a, (Ring.AtW (ΦL c X) (stL1 v15.toNat v17.toNat k.val jL jN) ∗ Ring.AtW (ΦS c (i 1) G) (stS1 v15.toNat k.val jS)
        ∗ Ring.AtW (ΦP c (i 1) G g v15.toNat v17.toNat) (stP1 v17.toNat k.val hk) ∗ ∃ W, owes (c : Thread nD τ) 0 W) -∗ Q a))
      ⊢ wp frame (wpE (defs₀ (F := F)) 𝒱 (c : Thread nD τ) bd) Set.univ
          (k0_part1 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 v15 v17 hw1 w w' k) Q := by
  have ht := hseg.tiles
  have hf := hseg.fits
  have hrow : ∀ q, q < v17.toNat → min (v15.toNat + 512 * q) 17920 = v15.toNat + 512 * q := fun q hq => Nat.min_eq_left (by omega)
  rw [k0_part1_eq_skeleton]
  simp only [k0_part1_skel, wp_bind]
  iintro ⟨⟨HL, HS, HP, HO⟩, HQ⟩
  iapply (waitL c X 𝒱 bd _ jL (v15.toNat + 512 * k.val) (stL_now hk jL hL) ((off6_eq v17 ht k).trans (by rw [hL])) ((off7_eq v17 ht k).trans (by rw [hL])))
  isplitl [HL HO]
  · isplitl [HL]; · iexact HL
    iexact HO
  iintro ⟨HL, HO⟩
  have hq : k.val - 2 < v17.toNat := by omega
  have hJN : jN ≠ jL := fun e => by have := congrArg Fin.val e; omega
  by_cases h5 : k.val + 4 < v17.toNat
  · rw [dif_pos ((cond5_iff v17 ht k).2 h5)]
    simp only [wp_bind]
    iapply (issueL c X 𝒱 bd _ jN (v15.toNat + 512 * (k.val + 4)) ((Function.update_of_ne hJN _ _).trans (stL_last jN hN)) ((off9_eq v17 ht k).trans (by rw [hN])) ((off10_eq v17 ht k).trans (by rw [hN]))
      ((off11_eq v15 v17 hseg k).trans (by rw [hrow _ h5])))
    isplitl [HL]; · iexact HL
    iintro HL
    by_cases h6 : 2 ≤ k.val
    · rw [dif_pos ((cond6_iff v17 ht k).2 h6)]
      simp only [wp_bind]
      iapply (waitS c (i 1) G 𝒱 bd _ jS (v15.toNat + 512 * (k.val - 2)) (stS_fly h6 jS hS) ((off12_eq v17 ht k).trans (by rw [hS])))
      isplitl [HS HO]
      · isplitl [HS]; · iexact HS
        iexact HO
      iintro ⟨HS, Hy, HO⟩
      sl_step
      iapply HQ
      isplitl [HL]
      · rw [stL1, if_pos h5]; iexact HL
      isplitl [HS]
      · rw [stS1, if_pos h6]; iexact HS
      isplitr [HO]
      · rw [stP1, dif_pos h6]
        iapply (giveP c (i 1) G g v15.toNat v17.toNat (stP v17.toNat k.val) ⟨k.val - 2, hq⟩ (by
          simp only [stP]; split_ifs <;> first | rfl | (exfalso; omega)))
        isplitl [Hy]; · iexact Hy
        iexact HP
      · iexact HO
    · rw [dif_neg (fun e => h6 ((cond6_iff v17 ht k).1 e))]
      sl_step
      iapply HQ
      isplitl [HL]
      · rw [stL1, if_pos h5]; iexact HL
      isplitl [HS]
      · rw [stS1, if_neg h6]; iexact HS
      isplitl [HP]
      · rw [stP1, dif_neg h6]; iexact HP
      iexact HO
  · rw [dif_neg (fun e => h5 ((cond5_iff v17 ht k).1 e))]
    by_cases h6 : 2 ≤ k.val
    · rw [dif_pos ((cond6_iff v17 ht k).2 h6)]
      simp only [wp_bind]
      iapply (waitS c (i 1) G 𝒱 bd _ jS (v15.toNat + 512 * (k.val - 2)) (stS_fly h6 jS hS) ((off12_eq v17 ht k).trans (by rw [hS])))
      isplitl [HS HO]
      · isplitl [HS]; · iexact HS
        iexact HO
      iintro ⟨HS, Hy, HO⟩
      sl_step
      iapply HQ
      isplitl [HL]
      · rw [stL1, if_neg h5]; iexact HL
      isplitl [HS]
      · rw [stS1, if_pos h6]; iexact HS
      isplitr [HO]
      · rw [stP1, dif_pos h6]
        iapply (giveP c (i 1) G g v15.toNat v17.toNat (stP v17.toNat k.val) ⟨k.val - 2, hq⟩ (by
          simp only [stP]; split_ifs <;> first | rfl | (exfalso; omega)))
        isplitl [Hy]; · iexact Hy
        iexact HP
      · iexact HO
    · rw [dif_neg (fun e => h6 ((cond6_iff v17 ht k).1 e))]
      sl_step
      iapply HQ
      isplitl [HL]
      · rw [stL1, if_neg h5]; iexact HL
      isplitl [HS]
      · rw [stS1, if_neg h6]; iexact HS
      isplitl [HP]
      · rw [stP1, dif_neg h6]; iexact HP
      iexact HO

theorem readW1 (w : Vec F S2048x512 .bf16) :
    ((Memref.whole cc0_scratch0).access (Rect.unit (s := S2048x512) ![0, 0] S2048x512.size inb_S2048x512_S2048x512_0_0)).read (Elt F) w = w :=
  Memref.read_access_unit_zero (Elt F) cc0_scratch0 (by funext a; fin_cases a <;> rfl) _ w
theorem readW3 (w : Vec F S2048x512 .bf16) :
    ((Memref.whole cc0_scratch1).access (Rect.unit (s := S2048x512) ![0, 0] S2048x512.size inb_S2048x512_S2048x512_0_0)).read (Elt F) w = w :=
  Memref.read_access_unit_zero (Elt F) cc0_scratch1 (by funext a; fin_cases a <;> rfl) _ w

/-- The second part: the products, and the tile put into its slot. -/
theorem part2 (v15 v17 : BitVec 32) (hseg : Seg v15 v17) (hw1 : k0_chk1 i v15 v17)
    (w1 w3 : Vec F S2048x512 .bf16) (st : Fin 5 → LSt) (st' : Fin 2 → LSt)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (k : Fin (k0_t1_loop v17).trips) (jL : Fin 5) (jS : Fin 2)
    (hL : jL.val = k.val % 5) (hS : jS.val = k.val % 2) (hst : st jL = .here (v15.toNat + 512 * k.val)) (hst' : st' jS = .free)
    (hG : ytile c (i 1) G (v15.toNat + 512 * k.val) = tileOf c X w1 w3 (v15.toNat + 512 * k.val))
    (u v w) (Q) :
    iprop((Ring.AtW (ΦL c X) st ∗ Ring.AtW (ΦS c (i 1) G) st' ∗ W1At c w1 ∗ W3At c w3)
      ∗ (∀ a, (Ring.AtW (ΦL c X) (Function.update st jL .free) ∗ Ring.AtW (ΦS c (i 1) G) (Function.update st' jS (.here (v15.toNat + 512 * k.val)))
          ∗ W1At c w1 ∗ W3At c w3) -∗ Q a))
      ⊢ wp frame (wpE (defs₀ (F := F)) 𝒱 (c : Thread nD τ) bd) Set.univ
          (k0_part2 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 v15 v17 hw1 k u v w) Q := by
  have ht := hseg.tiles
  rw [k0_part2_eq_skeleton]
  simp only [k0_part2_skel, wp_bind]
  iintro ⟨⟨HL, HS, HW1, HW3⟩, HQ⟩
  iapply (readL c X 𝒱 bd _ jL (v15.toNat + 512 * k.val) hst ((off15_eq v17 ht k).trans (by rw [hL])))
  isplitl [HL]; · iexact HL
  iintro HL
  iapply (wp_load_rect 𝒱 (c : Thread nD τ) bd Set.univ (m := Memref.whole cc0_scratch0) (r := Rect.unit (s := S2048x512) ![0, 0] S2048x512.size inb_S2048x512_S2048x512_0_0) (S := Finset.univ) (q := fullShare) (f := w1) (Finset.subset_univ _)) $$ HW1
  iintro HW1
  sl_step
  iapply (wp_load_rect 𝒱 (c : Thread nD τ) bd Set.univ (m := Memref.whole cc0_scratch1) (r := Rect.unit (s := S2048x512) ![0, 0] S2048x512.size inb_S2048x512_S2048x512_0_0) (S := Finset.univ) (q := fullShare) (f := w3) (Finset.subset_univ _)) $$ HW3
  iintro HW3
  sl_step
  iapply (peekS c (i 1) G 𝒱 bd _ jS hst' ((off16_eq v17 ht k).trans (by rw [hS])))
  isplitl [HS]; · iexact HS
  iintro %old HS
  iapply (fillS c (i 1) G 𝒱 bd _ jS (v15.toNat + 512 * k.val) hst' _ (by rw [readW1, readW3]; exact hG.symm) ((off16_eq v17 ht k).trans (by rw [hS])))
  isplitl [HS]; · iexact HS
  iintro HS
  sl_step
  iapply HQ
  isplitl [HL]; · iexact HL
  isplitl [HS]; · iexact HS
  isplitl [HW1]; · iexact HW1
  iexact HW3

theorem trip (v15 v17 : BitVec 32) (hseg : Seg v15 v17) (hw1 : k0_chk1 i v15 v17) (w1 w3 : Vec F S2048x512 .bf16)
    (hG : ∀ q, q < v17.toNat → ytile c (i 1) G (v15.toNat + 512 * q) = tileOf c X w1 w3 (v15.toNat + 512 * q))
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (k : Fin (k0_t1_loop v17).trips) (a : Unit) :
    InvT c X (i 1) G g w1 w3 v15.toNat v17.toNat k.val
      ⊢ wp frame (wpE (defs₀ (F := F)) 𝒱 (c : Thread nD τ) bd) Set.univ
          (k0_t1_body (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 v15 v17 hw1 k a)
          (fun _ => InvT c X (i 1) G g w1 w3 v15.toNat v17.toNat (k.val + 1)) := by
  have hk : k.val < v17.toNat := lt_t v17 hseg.tiles k
  have ht := hseg.tiles
  have hf := hseg.fits
  let jL : Fin 5 := ⟨k.val % 5, Nat.mod_lt _ (by decide)⟩
  let jN : Fin 5 := ⟨(k.val + 4) % 5, Nat.mod_lt _ (by decide)⟩
  let jS : Fin 2 := ⟨k.val % 2, Nat.mod_lt _ (by decide)⟩
  have hJN : jL ≠ jN := fun e => by have := congrArg Fin.val e; simp only [jL, jN] at this; omega
  unfold k0_t1_body
  simp only [wp_bind]
  iintro ⟨HL, HS, HP, HW1, HW3, HO⟩
  iapply (part1 c X G g 𝒱 bd i v15 v17 hseg hw1 a5 a6 k hk jL jN jS rfl rfl rfl)
  isplitl [HL HS HP HO]
  · isplitl [HL]; · iexact HL
    isplitl [HS]; · iexact HS
    isplitl [HP]; · iexact HP
    iexact HO
  iintro %u ⟨HL, HS, HP, HO⟩
  have hs1 : stL1 v15.toNat v17.toNat k.val jL jN jL = .here (v15.toNat + 512 * k.val) := by
    rw [stL1]
    split
    · rw [Function.update_of_ne hJN, Function.update_self]
    · rw [Function.update_self]
  have hs2 : stS1 v15.toNat k.val jS jS = .free := by
    rw [stS1]
    split
    · rw [Function.update_self]
    · exact stS_free (by assumption) jS rfl
  iapply (part2 c X G 𝒱 bd i v15 v17 hseg hw1 w1 w3 _ _ a5 a6 k jL jS rfl rfl hs1 hs2 (hG _ hk))
  isplitl [HL HS HW1 HW3]
  · isplitl [HL]; · iexact HL
    isplitl [HS]; · iexact HS
    isplitl [HW1]; · iexact HW1
    iexact HW3
  iintro %u' ⟨HL, HS, HW1, HW3⟩
  have hs3 : stP1 v17.toNat k.val hk ⟨k.val, hk⟩ = .todo := by
    rw [stP1]
    split
    · rw [Function.update_of_ne (fun e => by have := congrArg Fin.val e; simp only at this; omega)]
      simp [stP]
    · simp [stP]
  ihave HP := (takeP c (i 1) G g v15.toNat v17.toNat _ ⟨k.val, hk⟩ hs3) $$ HP
  icases HP with ⟨Hy, HP⟩
  iapply (issueS c (i 1) G 𝒱 bd _ jS (v15.toNat + 512 * k.val) (Function.update_self _ _ _) g (off17_eq v17 ht k) (off19_eq v17 ht k)
    ((off18_eq i v15 v17 hseg k).trans (by rw [Nat.min_eq_left (by omega)])))
  isplitl [HS Hy]
  · isplitl [HS]; · iexact HS
    iexact Hy
  iintro HS
  sl_step
  isplitl [HL]
  · rw [← stL_step v15.toNat v17.toNat k.val hk jL jN rfl rfl]; iexact HL
  isplitl [HS]
  · rw [← stS_step v15.toNat k.val jS rfl]; iexact HS
  isplitl [HP]
  · rw [← stP_step v17.toNat k.val hk]; iexact HP
  isplitl [HW1]; · iexact HW1
  isplitl [HW3]; · iexact HW3
  iexact HO

end Cert.MoeUp

end
-- ==== Proof.MoeUpEndWords.lean ====
/-
The numbers of the step that clears the rows behind the last block, and the offsets of the table reads.
-/
module

public import proofs.«01_k».proof.Proof.MoeUpWords

public section

namespace Cert.MoeUp

open Idealize.ShloMosaic Idealize.ShloMosaic.TcCoe
open Cert.Kernel5Ideal Cert.Kernel5Ideal.Gen

/-- The row behind a block's last tile. -/
def endRow (s t : BitVec 32) : Nat := s.toNat + 512 * t.toNat

/-- How many pieces of sixteen rows lie behind it. -/
def nPieces (s t : BitVec 32) : Nat := (18432 - endRow s t) / 16

theorem endRow_eq (s t : BitVec 32) : endRow s t = s.toNat + 512 * t.toNat := by unfold endRow; rfl

theorem pieces_fit {s t : BitVec 32} (h : Seg s t) : endRow s t + 16 * nPieces s t = 18432 := by
  have := h.dvd; have := h.fits; unfold nPieces endRow; omega

theorem endRow_dvd {s t : BitVec 32} (h : Seg s t) : 16 ∣ endRow s t := by
  have := h.dvd; unfold endRow; omega

theorem end_word {s t : BitVec 32} (h : Seg s t) :
    Scalar.addi s (Scalar.muli t 512#32) = Scalar.addi (BitVec.ofNat 32 (18432 - 16 * nPieces s t)) (Scalar.muli 0#32 512#32) := by
  have hf := pieces_fit h
  have h1 := h.fits; have h2 := h.tiles
  have e0 : 18432 - 16 * nPieces s t = s.toNat + 512 * t.toNat := by unfold endRow at hf; omega
  rw [e0]
  apply BitVec.eq_of_toNat_eq
  show (s + t * 512#32).toNat = (BitVec.ofNat 32 (s.toNat + 512 * t.toNat) + 0#32 * 512#32).toNat
  simp only [BitVec.toNat_add, BitVec.toNat_mul, BitVec.toNat_ofNat]
  omega

theorem loops_table : ∀ R : Fin 1153,
    ((k0_t3_loop (BitVec.ofNat 32 (18432 - 16 * R.val)) 0#32).trips = R.val ∧ (k0_t3_loop (BitVec.ofNat 32 (18432 - 16 * R.val)) 0#32).OK) ∧
    ((k0_t4_loop (BitVec.ofNat 32 (18432 - 16 * R.val)) 0#32).trips = 0 ∧ (k0_t4_loop (BitVec.ofNat 32 (18432 - 16 * R.val)) 0#32).OK) ∧
    ((k0_t5_loop (BitVec.ofNat 32 (18432 - 16 * R.val)) 0#32).trips = R.val ∧ (k0_t5_loop (BitVec.ofNat 32 (18432 - 16 * R.val)) 0#32).OK) ∧
    ((k0_t6_loop (BitVec.ofNat 32 (18432 - 16 * R.val)) 0#32).trips = 0 ∧ (k0_t6_loop (BitVec.ofNat 32 (18432 - 16 * R.val)) 0#32).OK) := by
  decide +kernel

theorem pieces_lt (s t : BitVec 32) : nPieces s t < 1153 := by unfold nPieces; omega

theorem loop3_eq {s t : BitVec 32} (h : Seg s t) : k0_t3_loop s t = k0_t3_loop (BitVec.ofNat 32 (18432 - 16 * nPieces s t)) 0#32 := by
  unfold k0_t3_loop; dsimp only; rw [end_word h]
theorem loop4_eq {s t : BitVec 32} (h : Seg s t) : k0_t4_loop s t = k0_t4_loop (BitVec.ofNat 32 (18432 - 16 * nPieces s t)) 0#32 := by
  unfold k0_t4_loop; dsimp only; rw [end_word h]
theorem loop5_eq {s t : BitVec 32} (h : Seg s t) : k0_t5_loop s t = k0_t5_loop (BitVec.ofNat 32 (18432 - 16 * nPieces s t)) 0#32 := by
  unfold k0_t5_loop; dsimp only; rw [end_word h]
theorem loop6_eq {s t : BitVec 32} (h : Seg s t) : k0_t6_loop s t = k0_t6_loop (BitVec.ofNat 32 (18432 - 16 * nPieces s t)) 0#32 := by
  unfold k0_t6_loop; dsimp only; rw [end_word h]

theorem trips3 {s t : BitVec 32} (h : Seg s t) : (k0_t3_loop s t).trips = nPieces s t := by
  rw [loop3_eq h]; exact (loops_table ⟨_, pieces_lt s t⟩).1.1
theorem ok3 {s t : BitVec 32} (h : Seg s t) : (k0_t3_loop s t).OK := by
  rw [loop3_eq h]; exact (loops_table ⟨_, pieces_lt s t⟩).1.2
theorem trips4 {s t : BitVec 32} (h : Seg s t) : (k0_t4_loop s t).trips = 0 := by
  rw [loop4_eq h]; exact (loops_table ⟨_, pieces_lt s t⟩).2.1.1
theorem ok4 {s t : BitVec 32} (h : Seg s t) : (k0_t4_loop s t).OK := by
  rw [loop4_eq h]; exact (loops_table ⟨_, pieces_lt s t⟩).2.1.2
theorem trips5 {s t : BitVec 32} (h : Seg s t) : (k0_t5_loop s t).trips = nPieces s t := by
  rw [loop5_eq h]; exact (loops_table ⟨_, pieces_lt s t⟩).2.2.1.1
theorem ok5 {s t : BitVec 32} (h : Seg s t) : (k0_t5_loop s t).OK := by
  rw [loop5_eq h]; exact (loops_table ⟨_, pieces_lt s t⟩).2.2.1.2
theorem trips6 {s t : BitVec 32} (h : Seg s t) : (k0_t6_loop s t).trips = 0 := by
  rw [loop6_eq h]; exact (loops_table ⟨_, pieces_lt s t⟩).2.2.2.1
theorem ok6 {s t : BitVec 32} (h : Seg s t) : (k0_t6_loop s t).OK := by
  rw [loop6_eq h]; exact (loops_table ⟨_, pieces_lt s t⟩).2.2.2.2

theorem piece_word {s t : BitVec 32} (h : Seg s t) (k : Nat) (hk : k < nPieces s t) :
    (Scalar.addi (Scalar.addi s (Scalar.muli t 512#32)) (Scalar.muli (Scf.iv 0#32 1#32 k) 16#32)).toNat = endRow s t + 16 * k := by
  have h1 := h.fits; have h2 := h.tiles; have h3 := pieces_lt s t
  show (s + t * 512#32 + (0#32 + BitVec.ofNat 32 k * 1#32) * 16#32).toNat = _
  simp only [BitVec.toNat_add, BitVec.toNat_mul, BitVec.toNat_ofNat]
  unfold endRow
  omega

theorem off44_eq (i : grid0.Coords) {s t : BitVec 32} (h : Seg s t) (k : Fin (k0_t3_loop s t).trips) :
    k0_off44 i s t k = ![endRow s t + 16 * k.val, 512 * (i 1).val] :=
  congrArg₂ (fun n p : Nat => (![n, p] : Fin 2 → Nat)) (piece_word h k.val (lt_of_lt_of_eq k.isLt (trips3 h))) (col_word i)
theorem off46_eq (i : grid0.Coords) {s t : BitVec 32} (h : Seg s t) (k : Fin (k0_t5_loop s t).trips) :
    k0_off46 i s t k = ![endRow s t + 16 * k.val, 512 * (i 1).val] :=
  congrArg₂ (fun n p : Nat => (![n, p] : Fin 2 → Nat)) (piece_word h k.val (lt_of_lt_of_eq k.isLt (trips5 h))) (col_word i)

theorem no4 {s t : BitVec 32} (h : Seg s t) (k : Fin (k0_t4_loop s t).trips) : False :=
  Nat.not_lt_zero _ (lt_of_lt_of_eq k.isLt (trips4 h))
theorem no6 {s t : BitVec 32} (h : Seg s t) (k : Fin (k0_t6_loop s t).trips) : False :=
  Nat.not_lt_zero _ (lt_of_lt_of_eq k.isLt (trips6 h))

theorem chk3 (i : grid0.Coords) {s t : BitVec 32} (h : Seg s t) : k0_chk3 i s t := by
  have hf := pieces_fit h; have hd := endRow_dvd h
  exact ⟨fun _ => ok3 h,
    fun k _ => by rw [show (k0_mult17 s t k).toNat = _ from piece_word h k.val (lt_of_lt_of_eq k.isLt (trips3 h))]; omega,
    fun k _ => by have := lt_of_lt_of_eq k.isLt (trips3 h); rw [off44_eq i h k]; exact inb_z _ _ (by omega) (i 1).isLt,
    fun k _ hb => words_z (off44_eq i h k) (by omega) hb,
    fun _ => ok4 h, fun k => (no4 h k).elim, fun k => (no4 h k).elim, fun k => (no4 h k).elim,
    fun _ => ok5 h,
    fun k _ => by rw [show (k0_mult19 s t k).toNat = _ from piece_word h k.val (lt_of_lt_of_eq k.isLt (trips5 h))]; omega,
    fun k _ => by have := lt_of_lt_of_eq k.isLt (trips5 h); rw [off46_eq i h k]; exact inb_z _ _ (by omega) (i 1).isLt,
    fun k _ hb => words_z (off46_eq i h k) (by omega) hb,
    fun _ => ok6 h, fun k => (no6 h k).elim, fun k => (no6 h k).elim, fun k => (no6 h k).elim⟩

/-! ## The table entries a step reads -/

/-- The expert of the step after this one; the last step keeps its own. -/
def nextE (e n : Nat) : Nat := min (if n = 10 then e + 1 else e) 7

theorem nextE_eq (e n : Nat) : nextE e n = min (if n = 10 then e + 1 else e) 7 := by unfold nextE; rfl

theorem nextE_lt (e n : Nat) : nextE e n < 8 := by unfold nextE; omega

theorem off1_eq (i : grid0.Coords) : k0_off1 i = ![(i 0).val] := by
  have h : (i 0).val < 8 := (i 0).isLt
  unfold k0_off1; dsimp only
  generalize (i 0).val = e at h ⊢
  interval_cases e <;> rfl
theorem off43_eq (i : grid0.Coords) : k0_off43 i = ![(i 0).val] := by
  have h : (i 0).val < 8 := (i 0).isLt
  unfold k0_off43; dsimp only
  generalize (i 0).val = e at h ⊢
  interval_cases e <;> rfl
theorem off34_eq (i : grid0.Coords) : k0_off34 i = ![nextE (i 0).val (i 1).val] := by
  have h : (i 0).val < 8 := (i 0).isLt
  have h' : (i 1).val < 11 := (i 1).isLt
  unfold k0_off34; dsimp only
  generalize (i 0).val = e at h ⊢
  generalize (i 1).val = n at h' ⊢
  interval_cases e <;> interval_cases n <;> rfl
theorem off35_eq (i : grid0.Coords) : k0_off35 i = ![nextE (i 0).val (i 1).val] := off34_eq i

end Cert.MoeUp

end
-- ==== Proof.MoeUpClear.lean ====
module

public import proofs.«01_k».proof.Proof.MoeUpTrip
public import proofs.«01_k».proof.Proof.MoeUpEndWords
public import Idealize.ShloMosaic.Lib.Batch

/-! The clearing of the rows behind the last block: zeros go to the result sixteen rows at a time, every transfer on one
    semaphore, and the waits follow when all are under way. Also the reads of the two tables. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

abbrev EC : UEmb Counters 𝕄 := countersEmb (U := Pipeline.UD sig nD τ)

/-! ## Loops and table reads -/

theorem wp_loop (c : Dev nD) (𝒱 : Variants) (bd : Option 𝒱.V) (L : Scf.Loop 32) (ok : L.OK) (body : Fin L.trips → Unit → Prog (TpuEff nD τ sig (Elt F) _ .tc) Unit)
    (I : Nat → sProp 𝕄) (hbody : ∀ (k : Fin L.trips) (a : Unit), I k.val ⊢ wp frame (wpE (defs₀ (F := F)) 𝒱 (c : Thread nD τ) bd) Set.univ (body k a) (fun _ => I (k.val + 1))) {Q : Unit → sProp 𝕄} :
    iprop(I 0 ∗ (I L.trips -∗ Q ⟨⟩)) ⊢ wp frame (wpE (defs₀ (F := F)) 𝒱 (c : Thread nD τ) bd) Set.univ (Scf.Loop.for L ok ⟨⟩ body) Q := by
  iintro ⟨H, HQ⟩
  iapply (Scf.wp_for frame (wpE (defs₀ (F := F)) 𝒱 (c : Thread nD τ) bd) Set.univ L.lb L.ub L.st ok ⟨⟩ body (fun k _ => I k) hbody)
  isplitl [H]; · iexact H
  iintro %a H
  iapply HQ $$ H

variable (c : Dev nD)

abbrev TabS := Buf (Elt F) ((Memref.whole main_v17).view.loc (c : Thread nD τ))
abbrev TabT := Buf (Elt F) ((Memref.whole main_v22).view.loc (c : Thread nD τ))

theorem inb_8 (e : Nat) (h : e < 8) : ∀ a, (![e] : Fin 1 → Nat) a + S1.size a ≤ S8.size a := by
  intro a; fin_cases a; show e + 1 ≤ 8; omega

/-- Entry `e` of the table of starts, and of the table of tile counts. -/
def startAt (f : TabS (F := F) c) (e : Fin 8) : BitVec 32 :=
  ((Memref.whole main_v17).access (Rect.unit (s := S8) ![e.val] S1.size (inb_8 _ e.isLt))).read (Elt F) f (Shape.Idx.first (numel1_S1.symm ▸ Nat.one_pos))
def tilesAt (f : TabT (F := F) c) (e : Fin 8) : BitVec 32 :=
  ((Memref.whole main_v22).access (Rect.unit (s := S8) ![e.val] S1.size (inb_8 _ e.isLt))).read (Elt F) f (Shape.Idx.first (numel1_S1.symm ▸ Nat.one_pos))

theorem readStart (𝒱 : Variants) (bd : Option 𝒱.V) (q : PosShare TreeShare) (f : TabS (F := F) c) (e : Fin 8) {off : Fin 1 → Nat} (eo : off = ![e.val])
    {inb : ∀ a, off a + S1.size a ≤ S8.size a} {h1 hp} (Q : Elt F .i32 → sProp 𝕄) :
    iprop(((Memref.whole main_v17).view.loc (c : Thread nD τ) ↦[Finset.univ]{q} f)
        ∗ (((Memref.whole main_v17).view.loc (c : Thread nD τ) ↦[Finset.univ]{q} f) -∗ Q (startAt c f e)))
      ⊢ wp frame (wpE (defs₀ (F := F)) 𝒱 (c : Thread nD τ) bd) Set.univ
          (smemLoad (Memref.whole main_v17) (Rect.unit (s := S8) off S1.size inb) h1 hp) Q := by
  subst eo
  unfold smemLoad startAt
  iintro ⟨H, HQ⟩
  iapply (wp_smemLoadElt 𝒱 (c : Thread nD τ) bd Set.univ (m := Memref.whole main_v17) (r := Rect.unit (s := S8) ![e.val] S1.size inb) (S := Finset.univ) (q := q) (f := f) (Finset.subset_univ _)) $$ H
  iintro H
  sl_step
  iapply HQ $$ H

theorem readTiles (𝒱 : Variants) (bd : Option 𝒱.V) (q : PosShare TreeShare) (f : TabT (F := F) c) (e : Fin 8) {off : Fin 1 → Nat} (eo : off = ![e.val])
    {inb : ∀ a, off a + S1.size a ≤ S8.size a} {h1 hp} (Q : Elt F .i32 → sProp 𝕄) :
    iprop(((Memref.whole main_v22).view.loc (c : Thread nD τ) ↦[Finset.univ]{q} f)
        ∗ (((Memref.whole main_v22).view.loc (c : Thread nD τ) ↦[Finset.univ]{q} f) -∗ Q (tilesAt c f e)))
      ⊢ wp frame (wpE (defs₀ (F := F)) 𝒱 (c : Thread nD τ) bd) Set.univ
          (smemLoad (Memref.whole main_v22) (Rect.unit (s := S8) off S1.size inb) h1 hp) Q := by
  subst eo
  unfold smemLoad tilesAt
  iintro ⟨H, HQ⟩
  iapply (wp_smemLoadElt 𝒱 (c : Thread nD τ) bd Set.univ (m := Memref.whole main_v22) (r := Rect.unit (s := S8) ![e.val] S1.size inb) (S := Finset.univ) (q := q) (f := f) (Finset.subset_univ _)) $$ H
  iintro H
  sl_step
  iapply HQ $$ H

/-! ## The pieces of sixteen rows -/

/-- Sixteen rows of the result from `r` on, in the columns of block `n`. -/
abbrev zwin (n : Fin 11) (r : Nat) : Memref sig .tc .hbm S16x512 .bf16 :=
  (Memref.whole main_v23).slice (Rect.unit (s := S18432x5632) ![min r 18416, 512 * n.val] S16x512.size (inb_z _ _ (by omega) n.isLt)) (fun _ => rfl)

abbrev zbuf : Memref sig .tc .vmem S16x512 .bf16 := Memref.whole cc0_scratch4
abbrev NZ : ℕ := (zwin 0 0).view.dmaCredit
abbrev cellZ : SemLoc sig := SemLoc.dma cc0_scratch7.sem

variable (n : Fin 11) (G g : Buf (Elt F) ((ywin 0 0).view.loc (c : Thread nD τ)))

abbrev zAt (r : Nat) (g : Buf (Elt F) ((ywin 0 0).view.loc (c : Thread nD τ))) : sProp 𝕄 :=
  (ywin 0 0).view.loc (c : Thread nD τ) ↦[(zwin n r).view.set]{fullShare} g

/-- What the result has in a piece. -/
def ztile (r : Nat) : Vec F S16x512 .bf16 := (zwin n r).view.read (Elt F) G

variable (z : Buf (Elt F) (zbuf.view.loc (c : Thread nD τ)))

abbrev zTok (R : Nat) (t : Fin R) : sProp 𝕄 := zbuf.view.loc (c : Thread nD τ) ↦[zbuf.view.set]{Transfers.shareTok fullShare R t} z

/-- What the transfer of piece `t` leaves. -/
def Dz (E R : Nat) (t : Fin R) : sProp 𝕄 := iprop(zAt c n (E + 16 * t.val) G ∗ zTok c z R t)

instance (E R : Nat) (t : Fin R) : Storable (upEmb : UEmb _ 𝕄) (Dz (F := F) c n G z E R t) := by unfold Dz; infer_instance

theorem zwrite_read (r : Nat) (i) (hi : i ∈ (zwin n r).view.set) :
    ((zwin n r).view.write (Elt F) g ((zwin n r).view.read (Elt F) G) Finset.univ) i = G i := by
  obtain ⟨x, -, rfl⟩ := Finset.mem_map.1 hi
  rw [View.write_emb_of_mem _ _ (Finset.mem_univ _)]
  rfl

theorem zsent (E R : Nat) (t : Fin R) (hz : zbuf.view.read (Elt F) z = ztile c n G (E + 16 * t.val)) :
    iprop(((zwin n (E + 16 * t.val)).view.loc (c : Thread nD τ) ↦[(zwin n (E + 16 * t.val)).view.set]{fullShare}
        ((zwin n (E + 16 * t.val)).view.write (Elt F) g (ReadAs.same.apply (zbuf.view.read (Elt F) z)) Finset.univ))
        ∗ zTok c z R t) ⊢ Dz c n G z E R t := by
  rw [hz]
  have hc : (((zwin n (E + 16 * t.val)).view.loc (c : Thread nD τ) ↦[(zwin n (E + 16 * t.val)).view.set]{fullShare}
        ((zwin n (E + 16 * t.val)).view.write (Elt F) g (ReadAs.same.apply (ztile c n G (E + 16 * t.val))) Finset.univ)) : sProp 𝕄) = zAt c n (E + 16 * t.val) G :=
    pointsTo_congr (zwrite_read c n G g (E + 16 * t.val))
  rw [hc]
  unfold Dz
  exact .rfl

/-- What holds before the start of piece `k`. -/
def InvS (E R k : Nat) : sProp 𝕄 :=
  iprop(Transfers.Batch EC (c : Thread nD τ) cellZ () NZ (Dz c n G z E R) k 0 ∗ bigSep (Transfers.pending k) (fun t : Fin R => iprop(zAt c n (E + 16 * t.val) g ∗ zTok c z R t)))

/-- What holds before the wait for piece `k`. -/
def InvW (E R k : Nat) : sProp 𝕄 :=
  iprop(Transfers.Batch EC (c : Thread nD τ) cellZ () NZ (Dz c n G z E R) R (NZ * k) ∗ ∃ W, owes (c : Thread nD τ) 0 W)

variable (𝒱 : Variants) (bd : Option 𝒱.V) (i : grid0.Coords)

omit [FloatOps F] in
theorem next_piece {R k : Nat} (hk : k < R) (Φ : Fin R → sProp 𝕄) :
    bigSep (Transfers.pending k) Φ ⊢ iprop(Φ ⟨k, hk⟩ ∗ bigSep (Transfers.pending (k + 1)) Φ) :=
  Entails.of_eq (by rw [Transfers.pending_succ hk, bigSep_insert (Transfers.not_mem_pending_succ hk)]; rfl)

theorem issueZ (E R k : Nat) (hk : k < R) (hz : zbuf.view.read (Elt F) z = ztile c n G (E + 16 * k))
    {or : Fin 2 → Nat} (er : or = ![min (E + 16 * k) 18416, 512 * n.val])
    {ir : ∀ a, or a + S16x512.size a ≤ S18432x5632.size a}
    {hs : zbuf.view.WordExact} {hd : ((Memref.whole main_v23).slice (Rect.unit (s := S18432x5632) or S16x512.size ir) (fun _ => rfl)).view.WordExact}
    {ht} (Q : PUnit → sProp 𝕄) :
    iprop(InvS c n G g z E R k ∗ (InvS c n G g z E R (k + 1) -∗ Q ⟨⟩))
      ⊢ wp frame (wpE (defs₀ (F := F)) 𝒱 (c : Thread nD τ) bd) Set.univ
          (Prog.lift (.enqueueDma zbuf (.here ((Memref.whole main_v23).slice (Rect.unit (s := S18432x5632) or S16x512.size ir) (fun _ => rfl))) cellZ hs hd ht)) Q := by
  subst er
  unfold InvS
  iintro ⟨⟨HB, HP⟩, HQ⟩
  ihave HP := (next_piece hk (fun t : Fin R => iprop(zAt c n (E + 16 * t.val) g ∗ zTok c z R t))) $$ HP
  icases HP with ⟨⟨Hy, Ht⟩, Hr⟩
  have hN : (zwin n (E + 16 * k)).view.amount cellZ = NZ := rfl
  have hD := zsent c n G g z E R ⟨k, hk⟩ hz
  iapply (Transfers.wp_dmaBatch EC 𝒱 (c : Thread nD τ) bd (src := zbuf) (via := ReadAs.same) (dst := zwin n (E + 16 * k)) (sm := cellZ) (n := R) (q := Transfers.shareTok fullShare R ⟨k, hk⟩) (fs := z) (fd := g)
    (D := Dz c n G z E R) (Sd := (zwin n (E + 16 * k)).view.set) (j := k) (u := 0) () NZ hN (Finset.Subset.refl _) hk (Nat.zero_le _) hD) $$ [HB Hy Ht]
  · isplitl [Ht]; · iexact Ht
    isplitl [Hy]; · iexact Hy
    iexact HB
  iintro HB
  sl_step
  iapply HQ
  isplitl [HB]; · iexact HB
  iexact Hr

theorem trip3 (s t : BitVec 32) (h : Seg s t) (hc12 : k0_cond12 i = 1#1) (hw : k0_chk3 i s t)
    (hz : ∀ k, k < nPieces s t → zbuf.view.read (Elt F) z = ztile c (i 1) G (endRow s t + 16 * k)) (u : BitVec 32)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (k : Fin (k0_t3_loop s t).trips) (a : Unit) :
    InvS c (i 1) G g z (endRow s t) (nPieces s t) k.val
      ⊢ wp frame (wpE (defs₀ (F := F)) 𝒱 (c : Thread nD τ) bd) Set.univ
          (k0_t3_body (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 u hc12 s t hw k a)
          (fun _ => InvS c (i 1) G g z (endRow s t) (nPieces s t) (k.val + 1)) := by
  have hk : k.val < nPieces s t := lt_of_lt_of_eq k.isLt (trips3 h)
  have hf := pieces_fit h
  unfold k0_t3_body
  dsimp only
  simp only [wp_bind]
  have eo : k0_off44 i s t k = ![min (endRow s t + 16 * k.val) 18416, 512 * (i 1).val] := by
    rw [off44_eq i h k, Nat.min_eq_left (by omega)]
  iintro H
  iapply (issueZ c (i 1) G g z 𝒱 bd (endRow s t) (nPieces s t) k.val hk (hz k.val hk) eo)
  isplitl [H]; · iexact H
  iintro H
  sl_step
  iexact H

theorem trip5 (s t : BitVec 32) (h : Seg s t) (hc12 : k0_cond12 i = 1#1) (hw : k0_chk3 i s t)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (k : Fin (k0_t5_loop s t).trips) (a : Unit) :
    InvW c (i 1) G z (endRow s t) (nPieces s t) k.val
      ⊢ wp frame (wpE (defs₀ (F := F)) 𝒱 (c : Thread nD τ) bd) Set.univ
          (k0_t5_body (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 hc12 s t hw k a)
          (fun _ => InvW c (i 1) G z (endRow s t) (nPieces s t) (k.val + 1)) := by
  have hk : k.val < nPieces s t := lt_of_lt_of_eq k.isLt (trips5 h)
  have hm : NZ * k.val + 1 * NZ ≤ NZ * nPieces s t := by
    have : NZ * (k.val + 1) ≤ NZ * nPieces s t := Nat.mul_le_mul_left _ hk
    rw [Nat.mul_succ] at this; omega
  have hm' : NZ * k.val + 1 * NZ = NZ * (k.val + 1) := by rw [Nat.mul_succ]; omega
  unfold k0_t5_body
  dsimp only
  simp only [wp_bind]
  unfold InvW
  iintro ⟨HB, ⟨%W, HO⟩⟩
  iapply (Transfers.wp_waitBatchMul EC 𝒱 (c : Thread nD τ) bd () (N := NZ) 1 (by rfl) hm) $$ [HB HO]
  · isplitl [HB]; · iexact HB
    iexact HO
  iintro ⟨HB, HO⟩
  sl_step
  sl_step
  rw [hm']
  isplitl [HB]; · iexact HB
  iexists _; iexact HO

theorem readZ (w : Vec F S16x512 .bf16) :
    ((Memref.whole cc0_scratch4).access (Rect.unit (s := S16x512) ![0, 0] S16x512.size inb_S16x512_S16x512_0_0)).read (Elt F) w = w :=
  Memref.read_access_unit_zero (Elt F) cc0_scratch4 (by funext a; fin_cases a <;> rfl) _ w

abbrev tabS (q : PosShare TreeShare) (f : TabS (F := F) c) : sProp 𝕄 := (Memref.whole main_v17).view.loc (c : Thread nD τ) ↦[Finset.univ]{q} f
abbrev tabT (q : PosShare TreeShare) (f : TabT (F := F) c) : sProp 𝕄 := (Memref.whole main_v22).view.loc (c : Thread nD τ) ↦[Finset.univ]{q} f

/-- The pieces behind row `E`, at contents `f`. -/
def zAll (E R : Nat) (f : Buf (Elt F) ((ywin 0 0).view.loc (c : Thread nD τ))) : sProp 𝕄 := bigSep Finset.univ (fun t : Fin R => zAt c n (E + 16 * t.val) f)

/-- The zero buffer as the kernel fills it. -/
abbrev zval : Buf (Elt F) (zbuf.view.loc (c : Thread nD τ)) := k0_pay3 (F := F)

variable (qs qt : PosShare TreeShare) (fS : TabS (F := F) c) (fT : TabT (F := F) c)

theorem zstart (R : Nat) (z : Buf (Elt F) (zbuf.view.loc (c : Thread nD τ))) :
    iprop((zbuf.view.loc (c : Thread nD τ) ↦[Finset.univ]{fullShare} z))
      ⊢ iprop((zbuf.view.loc (c : Thread nD τ) ↦[zbuf.view.set]{Transfers.shareDrop fullShare R} z) ∗ bigSep Finset.univ (fun t : Fin R => zTok c z R t)) := by
  rw [show (Finset.univ : Finset (Idx (zbuf.view.loc (c : Thread nD τ)))) = zbuf.view.set from (View.set_whole cc0_scratch4).symm]
  exact Transfers.pointsTo_toks_split fullShare R

theorem zend (R : Nat) (z : Buf (Elt F) (zbuf.view.loc (c : Thread nD τ))) :
    iprop((zbuf.view.loc (c : Thread nD τ) ↦[zbuf.view.set]{Transfers.shareDrop fullShare R} z) ∗ bigSep Finset.univ (fun t : Fin R => zTok c z R t))
      ⊢ (zbuf.view.loc (c : Thread nD τ) ↦[Finset.univ]{fullShare} z : sProp 𝕄) := by
  rw [show (Finset.univ : Finset (Idx (zbuf.view.loc (c : Thread nD τ)))) = zbuf.view.set from (View.set_whole cc0_scratch4).symm]
  exact Transfers.pointsTo_toks_join fullShare R

theorem invS_first (E R : Nat) (z : Buf (Elt F) (zbuf.view.loc (c : Thread nD τ))) :
    iprop(semVal ((c : Thread nD τ), cellZ) 0 ∗ zAll c n E R g ∗ bigSep Finset.univ (fun t : Fin R => zTok c z R t))
      ⊢ (|={Set.univ}=> InvS c n G g z E R 0 : sProp 𝕄) := by
  unfold InvS zAll
  rw [Transfers.pending_zero]
  have hsep : bigSep Finset.univ (fun t : Fin R => iprop(zAt (F := F) c n (E + 16 * t.val) g ∗ zTok c z R t))
      = iprop(bigSep Finset.univ (fun t : Fin R => zAt (F := F) c n (E + 16 * t.val) g) ∗ bigSep Finset.univ (fun t : Fin R => zTok c z R t)) := bigSep_sep _ _ _
  rw [hsep]
  iintro ⟨Hs, Hy, Ht⟩
  imod (Transfers.batch_alloc' EC (c := (c : Thread nD τ)) (sm := cellZ) () NZ (Dz c n G z E R) (E := Set.univ)) $$ Hs with HB
  imodintro
  isplitl [HB]; · iexact HB
  isplitl [Hy]; · iexact Hy
  iexact Ht

theorem invS_last (E R : Nat) (z : Buf (Elt F) (zbuf.view.loc (c : Thread nD τ))) :
    iprop(InvS c n G g z E R R ∗ ∃ W, owes (c : Thread nD τ) 0 W) ⊢ InvW c n G z E R 0 := by
  unfold InvS InvW
  iintro ⟨⟨HB, _⟩, HO⟩
  isplitl [HB]; · iexact HB
  iexact HO

theorem invW_last (E R : Nat) (z : Buf (Elt F) (zbuf.view.loc (c : Thread nD τ))) :
    InvW c n G z E R R ⊢ (|={Set.univ}=> iprop(semVal ((c : Thread nD τ), cellZ) 0 ∗ zAll c n E R G ∗ bigSep Finset.univ (fun t : Fin R => zTok c z R t) ∗ ∃ W, owes (c : Thread nD τ) 0 W) : sProp 𝕄) := by
  unfold InvW zAll
  iintro ⟨HB, HO⟩
  imod (Transfers.batch_collect' EC (c := (c : Thread nD τ)) (sm := cellZ) (ι := ()) (N := NZ) (by decide) (D := Dz c n G z E R)) $$ HB with ⟨HD, Hs⟩
  imodintro
  isplitl [Hs]; · iexact Hs
  ihave HD := (show bigSep Finset.univ (Dz c n G z E R) ⊢ iprop(bigSep Finset.univ (fun t : Fin R => zAt c n (E + 16 * t.val) G) ∗ bigSep Finset.univ (fun t : Fin R => zTok c z R t))
    from Entails.of_eq (bigSep_sep _ _ _)) $$ HD
  icases HD with ⟨Hy, Ht⟩
  isplitl [Hy]; · iexact Hy
  isplitl [Ht]; · iexact Ht
  iexact HO

/-- The first part of the clearing: the zeros written into their buffer, and every transfer started. -/
theorem part5 (s t : BitVec 32) (h : Seg s t) (hc12 : k0_cond12 i = 1#1) (e : Fin 8) (he : (i 0).val = e.val) (hs : startAt c fS e = s) (ht : tilesAt c fT e = t)
    (hz : ∀ k, k < nPieces s t → (k0_pay3 (F := F) : Vec F S16x512 .bf16) = ztile c (i 1) G (endRow s t + 16 * k)) (u : BitVec 32)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole}
    (Q) :
    iprop((semVal ((c : Thread nD τ), cellZ) 0 ∗ (∃ f, zbuf.view.loc (c : Thread nD τ) ↦[Finset.univ]{fullShare} f) ∗ tabS c qs fS ∗ tabT c qt fT
        ∗ zAll c (i 1) (endRow s t) (nPieces s t) g ∗ ∃ W, owes (c : Thread nD τ) 0 W)
      ∗ (∀ v w x y, (InvW c (i 1) G (zval c) (endRow s t) (nPieces s t) 0
          ∗ (zbuf.view.loc (c : Thread nD τ) ↦[zbuf.view.set]{Transfers.shareDrop fullShare (nPieces s t)} zval c) ∗ tabS c qs fS ∗ tabT c qt fT) -∗ Q ⟨s, t, chk3 i h, v, w, x, y⟩))
      ⊢ wp frame (wpE (defs₀ (F := F)) 𝒱 (c : Thread nD τ) bd) Set.univ
          (k0_part5 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7 u hc12) Q := by
  rw [k0_part5_eq_skeleton]
  simp only [k0_part5_skel, wp_bind]
  iintro ⟨⟨Hs, ⟨%f, Hz⟩, HS, HT, Hy, HO⟩, HQ⟩
  iapply (readStart c 𝒱 bd qs fS e ((off43_eq i).trans (by rw [he])))
  isplitl [HS]; · iexact HS
  iintro HS
  iapply (readTiles c 𝒱 bd qt fT e ((off43_eq i).trans (by rw [he])))
  isplitl [HT]; · iexact HT
  iintro HT
  rw [hs, ht]
  iapply (wp_assume 𝒱 (c : Thread nD τ) bd Set.univ (chk3 i h))
  sl_step
  iapply (wp_load_rect 𝒱 (c : Thread nD τ) bd Set.univ (m := Memref.whole cc0_scratch4) (r := Rect.unit (s := S16x512) ![0, 0] S16x512.size inb_S16x512_S16x512_0_0) (S := Finset.univ) (q := fullShare) (f := f) (Finset.subset_univ _)) $$ Hz
  iintro Hz
  sl_step
  iapply (wp_store 𝒱 (c : Thread nD τ) bd Set.univ (m := Memref.whole cc0_scratch4) (r := Rect.unit (s := S16x512) ![0, 0] S16x512.size inb_S16x512_S16x512_0_0) (Mk := Finset.univ) (S := Finset.univ) (f := f) (Finset.subset_univ _)) $$ Hz
  iintro Hz
  sl_step
  have hz0 : (((Memref.whole cc0_scratch4).access (Rect.unit (s := S16x512) ![0, 0] S16x512.size inb_S16x512_S16x512_0_0)).write (Elt F) f (k0_pay3 (F := F)) Finset.univ) = zval c :=
    (readZ _).symm.trans (View.read_write_univ _ _)
  rw [hz0]
  ihave Hz := (zstart c (nPieces s t) (zval c)) $$ Hz
  icases Hz with ⟨Hd, Hz⟩
  iapply (fupd_wp frame _ Set.univ)
  imod (invS_first c (i 1) G g (endRow s t) (nPieces s t) (zval c)) $$ [Hs Hy Hz] with HI
  · isplitl [Hs]; · iexact Hs
    isplitl [Hy]; · iexact Hy
    iexact Hz
  imodintro
  iapply (wp_loop c 𝒱 bd (k0_t3_loop s t) _ _ (InvS c (i 1) G g (zval c) (endRow s t) (nPieces s t)) (fun k a => trip3 c G g (zval c) 𝒱 bd i s t h hc12 (chk3 i h) hz u a5 a6 k a))
  isplitl [HI]; · iexact HI
  rw [trips3 h]
  iintro HI
  iapply (wp_loop c 𝒱 bd (k0_t4_loop s t) _ _ (fun _ => InvS c (i 1) G g (zval c) (endRow s t) (nPieces s t) (nPieces s t)) (fun k a => (no4 h k).elim))
  isplitl [HI]; · iexact HI
  iintro HI
  sl_step
  iapply HQ
  isplitl [HI HO]
  · iapply (invS_last c (i 1) G g (endRow s t) (nPieces s t) (zval c))
    isplitl [HI]; · iexact HI
    iexact HO
  isplitl [Hd]; · iexact Hd
  isplitl [HS]; · iexact HS
  iexact HT

end Cert.MoeUp

end
-- ==== Proof.MoeUpHead.lean ====
module

public import proofs.«01_k».proof.Proof.MoeUpClear

/-! The opening of a step of the expert projection: the two weight blocks rounded into their scratches, the step's segment read
    from the tables, and, at the first step, the load of its first row tile. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

theorem if_cut {α : Type} {p : Prop} [Decidable p] {c : Dev nD} {𝒱 : Variants} {bd : Option 𝒱.V} {K : Prog (TpuEff nD τ sig (Elt F) _ .tc) α} {A : p → Prog (TpuEff nD τ sig (Elt F) _ .tc) α}
    {P S : sProp 𝕄} {Q : α → sProp 𝕄} (rest : S ⊢ wp frame (wpE (defs₀ (F := F)) 𝒱 (c : Thread nD τ) bd) Set.univ K Q) (neg : ¬p → P ⊢ S)
    (pos : ∀ h : p, (S ⊢ wp frame (wpE (defs₀ (F := F)) 𝒱 (c : Thread nD τ) bd) Set.univ K Q) → P ⊢ wp frame (wpE (defs₀ (F := F)) 𝒱 (c : Thread nD τ) bd) Set.univ (A h) Q) :
    P ⊢ wp frame (wpE (defs₀ (F := F)) 𝒱 (c : Thread nD τ) bd) Set.univ (if h : p then A h else K) Q := by
  by_cases h : p
  · rw [dif_pos h]; exact pos h rest
  · rw [dif_neg h]; exact (neg h).trans rest

theorem bind_cut {α β : Type} {c : Dev nD} {𝒱 : Variants} {bd : Option 𝒱.V} {p : Prog (TpuEff nD τ sig (Elt F) _ .tc) α} {k : α → Prog (TpuEff nD τ sig (Elt F) _ .tc) β}
    {P : sProp 𝕄} {Q : β → sProp 𝕄} (h : P ⊢ wp frame (wpE (defs₀ (F := F)) 𝒱 (c : Thread nD τ) bd) Set.univ p (fun a => wp frame (wpE (defs₀ (F := F)) 𝒱 (c : Thread nD τ) bd) Set.univ (k a) Q)) : P ⊢ wp frame (wpE (defs₀ (F := F)) 𝒱 (c : Thread nD τ) bd) Set.univ (p >>= k) Q := by
  rw [wp_bind]; exact h

variable (c : Dev nD) (X : Buf (Elt F) ((xsrc 0).view.loc (c : Thread nD τ)))

/-- The load slots after the first `m` of the loads that a step starts with. -/
def stI (s T m : Nat) (j : Fin 5) : LSt := if j.val < m ∧ j.val < T then .fly (s + 512 * j.val) else .free

theorem stI_zero (s T : Nat) : stI s T 0 = fun _ => .free := by
  funext j; simp [stI]
theorem stI_four (s T : Nat) : stI s T 4 = stL s T 0 := by
  funext j
  have hj := j.isLt
  have e : (j.val + 5 - 0 % 5) % 5 = j.val := by omega
  simp only [stI, stL, e, Nat.zero_add]
theorem stI_self (s T m : Nat) (j : Fin 5) (hj : j.val = m) : stI s T m j = .free := by
  simp [stI, hj]
theorem stI_step (s T m : Nat) (h : m < T) (j : Fin 5) (hj : j.val = m) : Function.update (stI s T m) j (.fly (s + 512 * m)) = stI s T (m + 1) := by
  funext i
  by_cases hi : i = j
  · subst hi; rw [Function.update_self, stI, if_pos (by omega), hj]
  · rw [Function.update_of_ne hi, stI, stI]
    have : i.val ≠ m := fun e => hi (Fin.ext (by omega))
    by_cases h' : i.val < m ∧ i.val < T
    · rw [if_pos h', if_pos (by omega)]
    · rw [if_neg h', if_neg (by omega)]
theorem stI_skip (s T m : Nat) (h : ¬ m < T) : stI s T m = stI s T (m + 1) := by
  funext i
  simp only [stI]
  by_cases h' : i.val < m ∧ i.val < T
  · rw [if_pos h', if_pos (by omega)]
  · rw [if_neg h', if_neg (by omega)]
theorem stL_end (s T : Nat) : stL s T T = fun _ => .free := by
  funext j
  simp only [stL]
  rw [if_neg (by omega)]

theorem read_unit4 (m : Memref sig .tc .vmem S1x1x2048x512 .f32) {off : Fin 4 → Nat} (h : off = fun _ => 0) (inb : ∀ a, off a + S1x1x2048x512.size a ≤ S1x1x2048x512.size a)
    (f : m.view.ty.Contents (Elt F)) :
    (m.access (Rect.unit (s := S1x1x2048x512) off S1x1x2048x512.size inb)).read (Elt F) f = m.view.read (Elt F) f := by
  subst h
  funext x
  show m.view.read (Elt F) f ((Rect.whole S1x1x2048x512).emb x) = _
  rw [Rect.emb_whole_apply]

variable (𝒱 : Variants) (bd : Option 𝒱.V) (i : grid0.Coords)

theorem readBlock (m : Memref sig .tc .vmem S1x1x2048x512 .f32) (hm : m.IsWhole) (q : PosShare TreeShare) (x : Vec F S1x1x2048x512 .f32)
    {inb : ∀ a, (![0, 0, 0, 0] : Fin 4 → Nat) a + S1x1x2048x512.size a ≤ S1x1x2048x512.size a} {hl} (Q : Vec F S1x1x2048x512 .f32 → sProp 𝕄) :
    iprop(owns (c : Thread nD τ) m q x ∗ (owns (c : Thread nD τ) m q x -∗ Q x))
      ⊢ wp frame (wpE (defs₀ (F := F)) 𝒱 (c : Thread nD τ) bd) Set.univ (Prog.lift (.load m (Rect.unit (s := S1x1x2048x512) ![0, 0, 0, 0] S1x1x2048x512.size inb).toLoadRect hl)) Q := by
  unfold owns
  iintro ⟨⟨%f, ⟨%hf, H⟩⟩, HQ⟩
  iapply (wp_load_rect 𝒱 (c : Thread nD τ) bd Set.univ (m := m) (r := Rect.unit (s := S1x1x2048x512) ![0, 0, 0, 0] S1x1x2048x512.size inb) (S := m.view.set) (q := q) (f := f)
    (fun x _ => by rw [hm.set_eq_univ]; exact Finset.mem_univ _)) $$ H
  iintro H
  sl_step
  rw [read_unit4 m (by funext a; fin_cases a <;> rfl) inb f, hf]
  iapply HQ
  iexists f
  isplitr [H]
  · ipureintro; exact hf
  · iexact H

theorem part6 (qs qt : PosShare TreeShare) (fS : TabS (F := F) c) (fT : TabT (F := F) c) (s t : BitVec 32) (h : Seg s t) (e : Fin 8) (he : (i 0).val = e.val) (hs : startAt c fS e = s) (ht : tilesAt c fT e = t)
    (st : Fin 5 → LSt) (hst : st = if (i 0).val = 0 ∧ (i 1).val = 0 then fun _ => .free else stI s.toNat t.toNat 1)
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole} (q5 q6 : PosShare TreeShare) (x1 x3 : Vec F S1x1x2048x512 .f32) (Q) :
    iprop((owns (c : Thread nD τ) a5 q5 x1 ∗ owns (c : Thread nD τ) a6 q6 x3 ∗ (∃ w, W1At c w) ∗ (∃ w, W3At c w) ∗ tabS c qs fS ∗ tabT c qt fT ∗ Ring.AtW (ΦL c X) st)
      ∗ (∀ a v w, (owns (c : Thread nD τ) a5 q5 x1 ∗ owns (c : Thread nD τ) a6 q6 x3 ∗ W1At c (k0_pay4 x1) ∗ W3At c (k0_pay5 x3) ∗ tabS c qs fS ∗ tabT c qt fT
          ∗ Ring.AtW (ΦL c X) (stI s.toNat t.toNat 1)) -∗ Q ⟨a, s, t, chk1 i s t h, v, w⟩))
      ⊢ wp frame (wpE (defs₀ (F := F)) 𝒱 (c : Thread nD τ) bd) Set.univ (k0_part6 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7) Q := by
  rw [k0_part6_eq_skeleton]
  simp only [k0_part6_skel, wp_bind]
  iintro ⟨⟨H5, H6, ⟨%w1, HW1⟩, ⟨%w3, HW3⟩, HS, HT, HL⟩, HQ⟩
  iapply (readBlock c 𝒱 bd a5 h5 q5 x1)
  isplitl [H5]; · iexact H5
  iintro H5
  iapply (wp_load_rect 𝒱 (c : Thread nD τ) bd Set.univ (m := Memref.whole cc0_scratch0) (r := Rect.unit (s := S2048x512) ![0, 0] S2048x512.size inb_S2048x512_S2048x512_0_0) (S := Finset.univ) (q := fullShare) (f := w1) (Finset.subset_univ _)) $$ HW1
  iintro HW1
  sl_step
  iapply (wp_store 𝒱 (c : Thread nD τ) bd Set.univ (m := Memref.whole cc0_scratch0) (r := Rect.unit (s := S2048x512) ![0, 0] S2048x512.size inb_S2048x512_S2048x512_0_0) (w := k0_pay4 x1) (Mk := Finset.univ) (S := Finset.univ) (f := w1) (Finset.subset_univ _)) $$ HW1
  iintro HW1
  sl_step
  iapply (readBlock c 𝒱 bd a6 h6 q6 x3)
  isplitl [H6]; · iexact H6
  iintro H6
  iapply (wp_load_rect 𝒱 (c : Thread nD τ) bd Set.univ (m := Memref.whole cc0_scratch1) (r := Rect.unit (s := S2048x512) ![0, 0] S2048x512.size inb_S2048x512_S2048x512_0_0) (S := Finset.univ) (q := fullShare) (f := w3) (Finset.subset_univ _)) $$ HW3
  iintro HW3
  sl_step
  iapply (wp_store 𝒱 (c : Thread nD τ) bd Set.univ (m := Memref.whole cc0_scratch1) (r := Rect.unit (s := S2048x512) ![0, 0] S2048x512.size inb_S2048x512_S2048x512_0_0) (w := k0_pay5 x3) (Mk := Finset.univ) (S := Finset.univ) (f := w3) (Finset.subset_univ _)) $$ HW3
  iintro HW3
  sl_step
  have e1 : ((Memref.whole cc0_scratch0).access (Rect.unit (s := S2048x512) ![0, 0] S2048x512.size inb_S2048x512_S2048x512_0_0)).write (Elt F) w1 (k0_pay4 x1) Finset.univ = k0_pay4 x1 :=
    Memref.write_access_unit_zero_univ (Elt F) cc0_scratch0 (by funext a; fin_cases a <;> rfl) _ w1 _
  have e3 : ((Memref.whole cc0_scratch1).access (Rect.unit (s := S2048x512) ![0, 0] S2048x512.size inb_S2048x512_S2048x512_0_0)).write (Elt F) w3 (k0_pay5 x3) Finset.univ = k0_pay5 x3 :=
    Memref.write_access_unit_zero_univ (Elt F) cc0_scratch1 (by funext a; fin_cases a <;> rfl) _ w3 _
  rw [e1, e3]
  iapply (readStart c 𝒱 bd qs fS e ((off1_eq i).trans (by rw [he])))
  isplitl [HS]; · iexact HS
  iintro HS
  iapply (readTiles c 𝒱 bd qt fT e ((off1_eq i).trans (by rw [he])))
  isplitl [HT]; · iexact HT
  iintro HT
  rw [hs, ht]
  iapply (wp_assume 𝒱 (c : Thread nD τ) bd Set.univ (chk1 i s t h))
  sl_step
  by_cases h1 : k0_cond1 i t = 1#1
  · have h1' := (cond1_iff i t h.tiles).1 h1
    rw [dif_pos h1]
    rw [if_pos h1'.1] at hst
    subst hst
    simp only [wp_bind]
    have hf := h.fits
    iapply (issueL c X 𝒱 bd (fun _ => .free) 0 s.toNat rfl rfl rfl ((off2_eq s t h).trans (by rw [Nat.min_eq_left (by omega)])))
    isplitl [HL]; · iexact HL
    iintro HL
    sl_step
    iapply HQ
    isplitl [H5]; · iexact H5
    isplitl [H6]; · iexact H6
    isplitl [HW1]; · iexact HW1
    isplitl [HW3]; · iexact HW3
    isplitl [HS]; · iexact HS
    isplitl [HT]; · iexact HT
    rw [← stI_step s.toNat t.toNat 0 h1'.2 0 rfl, stI_zero]
    iexact HL
  · rw [dif_neg h1]
    sl_step
    have hst' : st = stI s.toNat t.toNat 1 := by
      rw [hst]
      by_cases hi : (i 0).val = 0 ∧ (i 1).val = 0
      · rw [if_pos hi, ← stI_skip s.toNat t.toNat 0 (fun h0 => h1 ((cond1_iff i t h.tiles).2 ⟨hi, h0⟩)), stI_zero]
      · rw [if_neg hi]
    subst hst'
    iapply HQ
    isplitl [H5]; · iexact H5
    isplitl [H6]; · iexact H6
    isplitl [HW1]; · iexact HW1
    isplitl [HW3]; · iexact HW3
    isplitl [HS]; · iexact HS
    isplitl [HT]; · iexact HT
    iexact HL

end Cert.MoeUp
-- ==== Proof.MoeUpStep.lean ====
module

public import proofs.«01_k».proof.Proof.MoeUpHead

/-! One whole step of the expert projection: the opening, the loads ahead, the counted loop, the load for the step that follows,
    the last two waits, and, for the last expert, the clearing of the rows after the last segment. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

/-! ## One program after another -/

theorem mid_cut {α β : Type} {c : Dev nD} {𝒱 : Variants} {bd : Option 𝒱.V} {p : Prog (TpuEff nD τ sig (Elt F) _ .tc) α} {k : α → Prog (TpuEff nD τ sig (Elt F) _ .tc) β} {P S : sProp 𝕄} {Q : β → sProp 𝕄} {ι : Type} (x : ι → α)
    (h : ∀ Q' : α → sProp 𝕄, iprop(P ∗ (∀ u, S -∗ Q' (x u))) ⊢ wp frame (wpE (defs₀ (F := F)) 𝒱 (c : Thread nD τ) bd) Set.univ p Q') (hr : ∀ u, S ⊢ wp frame (wpE (defs₀ (F := F)) 𝒱 (c : Thread nD τ) bd) Set.univ (k (x u)) Q) : P ⊢ wp frame (wpE (defs₀ (F := F)) 𝒱 (c : Thread nD τ) bd) Set.univ (p >>= k) Q := by
  rw [wp_bind]
  iintro H
  iapply (h _)
  isplitl [H]; · iexact H
  iintro %u HS
  iapply (hr u) $$ HS

theorem pure_cut {α : Type} {c : Dev nD} {𝒱 : Variants} {bd : Option 𝒱.V} {a : α} {P : sProp 𝕄} {Q : α → sProp 𝕄} (h : P ⊢ Q a) : P ⊢ wp frame (wpE (defs₀ (F := F)) 𝒱 (c : Thread nD τ) bd) Set.univ (pure a : Prog (TpuEff nD τ sig (Elt F) _ .tc) α) Q := by
  refine h.trans ?_
  iintro H
  sl_step
  iexact H

theorem assume_cut {β : Type} {c : Dev nD} {𝒱 : Variants} {bd : Option 𝒱.V} {R : Prop} {d : Decidable R} {k : PLift R → Prog (TpuEff nD τ sig (Elt F) _ .tc) β} {P : sProp 𝕄} {Q : β → sProp 𝕄} (hR : R)
    (h : P ⊢ wp frame (wpE (defs₀ (F := F)) 𝒱 (c : Thread nD τ) bd) Set.univ (k ⟨hR⟩) Q) : P ⊢ wp frame (wpE (defs₀ (F := F)) 𝒱 (c : Thread nD τ) bd) Set.univ (Prog.lift (TpuEff.assume R d) >>= k) Q := by
  refine h.trans ?_
  iintro H
  simp only [wp_bind]
  iapply (wp_assume 𝒱 (c : Thread nD τ) bd Set.univ hR)
  sl_step
  iexact H

theorem fupd_cut {β : Type} {c : Dev nD} {𝒱 : Variants} {bd : Option 𝒱.V} {p : Prog (TpuEff nD τ sig (Elt F) _ .tc) β} {P S : sProp 𝕄} {Q : β → sProp 𝕄} (h : P ⊢ (|={Set.univ}=> S : sProp 𝕄))
    (hr : S ⊢ wp frame (wpE (defs₀ (F := F)) 𝒱 (c : Thread nD τ) bd) Set.univ p Q) : P ⊢ wp frame (wpE (defs₀ (F := F)) 𝒱 (c : Thread nD τ) bd) Set.univ p Q := by
  iintro H
  iapply (fupd_wp frame _ Set.univ)
  imod h $$ H with HS
  imodintro
  iapply hr $$ HS

theorem loop_cut {β : Type} {c : Dev nD} {𝒱 : Variants} {bd : Option 𝒱.V} {L : Scf.Loop 32} {ok : L.OK} {body : Fin L.trips → Unit → Prog (TpuEff nD τ sig (Elt F) _ .tc) Unit} {k : Unit → Prog (TpuEff nD τ sig (Elt F) _ .tc) β} {Z : sProp 𝕄} {Q : β → sProp 𝕄}
    (I : Nat → sProp 𝕄) (m : Nat) (hm : L.trips = m) (hbody : ∀ (j : Fin L.trips) (a : Unit), I j.val ⊢ wp frame (wpE (defs₀ (F := F)) 𝒱 (c : Thread nD τ) bd) Set.univ (body j a) (fun _ => I (j.val + 1)))
    (hr : iprop(I m ∗ Z) ⊢ wp frame (wpE (defs₀ (F := F)) 𝒱 (c : Thread nD τ) bd) Set.univ (k ⟨⟩) Q) : iprop(I 0 ∗ Z) ⊢ wp frame (wpE (defs₀ (F := F)) 𝒱 (c : Thread nD τ) bd) Set.univ (Scf.Loop.for L ok ⟨⟩ body >>= k) Q := by
  subst hm
  rw [wp_bind]
  iintro ⟨H, HZ⟩
  iapply (wp_loop c 𝒱 bd L ok body I hbody)
  isplitl [H]; · iexact H
  iintro H
  iapply hr
  isplitl [H]; · iexact H
  iexact HZ

theorem loop0_cut {β : Type} {c : Dev nD} {𝒱 : Variants} {bd : Option 𝒱.V} {L : Scf.Loop 32} {ok : L.OK} {body : Fin L.trips → Unit → Prog (TpuEff nD τ sig (Elt F) _ .tc) Unit} {k : Unit → Prog (TpuEff nD τ sig (Elt F) _ .tc) β} {P : sProp 𝕄} {Q : β → sProp 𝕄}
    (h0 : Fin L.trips → False) (hr : P ⊢ wp frame (wpE (defs₀ (F := F)) 𝒱 (c : Thread nD τ) bd) Set.univ (k ⟨⟩) Q) : P ⊢ wp frame (wpE (defs₀ (F := F)) 𝒱 (c : Thread nD τ) bd) Set.univ (Scf.Loop.for L ok ⟨⟩ body >>= k) Q := by
  rw [wp_bind]
  iintro H
  iapply (wp_loop c 𝒱 bd L ok body (fun _ => P) (fun j => (h0 j).elim))
  isplitl [H]; · iexact H
  iintro H
  iapply hr $$ H

section
variable {c : Dev nD} {X : Buf (Elt F) ((xsrc 0).view.loc (c : Thread nD τ))} {n : Fin 11} {G g : Buf (Elt F) ((ywin 0 0).view.loc (c : Thread nD τ))} {𝒱 : Variants} {bd : Option 𝒱.V}

theorem readS_cut {β : Type} {q : PosShare TreeShare} {f : TabS (F := F) c} (e : Fin 8) {off : Fin 1 → Nat} (eo : off = ![e.val]) {s : BitVec 32} (hs : startAt c f e = s)
    {inb : ∀ a, off a + S1.size a ≤ S8.size a} {h1 hp} {k : BitVec 32 → Prog (TpuEff nD τ sig (Elt F) _ .tc) β} {Z : sProp 𝕄} {Q : β → sProp 𝕄} (hr : iprop(tabS c q f ∗ Z) ⊢ wp frame (wpE (defs₀ (F := F)) 𝒱 (c : Thread nD τ) bd) Set.univ (k s) Q) :
    iprop(tabS c q f ∗ Z) ⊢ wp frame (wpE (defs₀ (F := F)) 𝒱 (c : Thread nD τ) bd) Set.univ ((smemLoad (Memref.whole main_v17) (Rect.unit (s := S8) off S1.size inb) h1 hp : Prog (TpuEff nD τ sig (Elt F) _ .tc) (Elt F .i32)) >>= k) Q := by
  subst hs
  rw [wp_bind]
  iintro ⟨H, HZ⟩
  iapply (readStart c 𝒱 bd q f e eo)
  isplitl [H]; · iexact H
  iintro H
  iapply hr
  isplitl [H]; · iexact H
  iexact HZ

theorem readT_cut {β : Type} {q : PosShare TreeShare} {f : TabT (F := F) c} (e : Fin 8) {off : Fin 1 → Nat} (eo : off = ![e.val]) {s : BitVec 32} (hs : tilesAt c f e = s)
    {inb : ∀ a, off a + S1.size a ≤ S8.size a} {h1 hp} {k : BitVec 32 → Prog (TpuEff nD τ sig (Elt F) _ .tc) β} {Z : sProp 𝕄} {Q : β → sProp 𝕄} (hr : iprop(tabT c q f ∗ Z) ⊢ wp frame (wpE (defs₀ (F := F)) 𝒱 (c : Thread nD τ) bd) Set.univ (k s) Q) :
    iprop(tabT c q f ∗ Z) ⊢ wp frame (wpE (defs₀ (F := F)) 𝒱 (c : Thread nD τ) bd) Set.univ ((smemLoad (Memref.whole main_v22) (Rect.unit (s := S8) off S1.size inb) h1 hp : Prog (TpuEff nD τ sig (Elt F) _ .tc) (Elt F .i32)) >>= k) Q := by
  subst hs
  rw [wp_bind]
  iintro ⟨H, HZ⟩
  iapply (readTiles c 𝒱 bd q f e eo)
  isplitl [H]; · iexact H
  iintro H
  iapply hr
  isplitl [H]; · iexact H
  iexact HZ

theorem issueL_cut {β : Type} {st st' : Fin 5 → LSt} (j : Fin 5) (r : Nat) (hst : st j = .free) (hr5 : r + 512 ≤ 18432)
    {o5 : Fin 1 → Nat} {ox : Fin 3 → Nat} {or : Fin 2 → Nat} (e5 : o5 = ![j.val]) (ex : ox = ![j.val, 0, 0]) (er : or = ![r, 0]) (hst' : Function.update st j (.fly r) = st')
    {i5 : ∀ a, o5 a + S1.size a ≤ S5.size a} {ix : ∀ a, ox a + S1x512x2048.size a ≤ S5x512x2048.size a} {ir : ∀ a, or a + S512x2048.size a ≤ S18432x2048.size a}
    {hs : ((Memref.whole main_v0).slice (Rect.unit (s := S18432x2048) or S512x2048.size ir) (fun _ => rfl)).view.WordExact} {hd : (((Memref.whole cc0_scratch2).slice (Rect.unit (s := S5x512x2048) ox S1x512x2048.size ix) (fun _ => rfl)).squeeze S512x2048 squeezes_S1x512x2048_S512x2048).view.WordExact}
    {ht} {k : PUnit → Prog (TpuEff nD τ sig (Elt F) _ .tc) β} {Z : sProp 𝕄} {Q : β → sProp 𝕄} (hr : iprop(Ring.AtW (ΦL c X) st' ∗ Z) ⊢ wp frame (wpE (defs₀ (F := F)) 𝒱 (c : Thread nD τ) bd) Set.univ (k ⟨⟩) Q) :
    iprop(Ring.AtW (ΦL c X) st ∗ Z)
      ⊢ wp frame (wpE (defs₀ (F := F)) 𝒱 (c : Thread nD τ) bd) Set.univ (Prog.lift (.enqueueDma ((Memref.whole main_v0).slice (Rect.unit (s := S18432x2048) or S512x2048.size ir) (fun _ => rfl)) (.here (((Memref.whole cc0_scratch2).slice (Rect.unit (s := S5x512x2048) ox S1x512x2048.size ix) (fun _ => rfl)).squeeze S512x2048 squeezes_S1x512x2048_S512x2048)) (.dma ((cc0_scratch5.slice (Rect.unit (s := S5) o5 S1.size i5)).squeeze S_ squeezes_S1_S_).sem) hs hd ht) >>= k) Q := by
  subst hst'
  rw [wp_bind]
  iintro ⟨H, HZ⟩
  iapply (issueL c X 𝒱 bd st j r hst e5 ex (er.trans (by rw [Nat.min_eq_left (by omega)])))
  isplitl [H]; · iexact H
  iintro H
  iapply hr
  isplitl [H]; · iexact H
  iexact HZ

theorem waitS_cut {β : Type} {st st' : Fin 2 → LSt} (j : Fin 2) (r : Nat) (hst : st j = .fly r)
    {o2 : Fin 1 → Nat} {ox : Fin 3 → Nat} {or : Fin 2 → Nat} (e2 : o2 = ![j.val])
    {i2 : ∀ a, o2 a + S1.size a ≤ S2.size a} {ix : ∀ a, ox a + S1x512x512.size a ≤ S2x512x512.size a} {ir : ∀ a, or a + S512x512.size a ≤ S18432x5632.size a}
    {hs : (((Memref.whole cc0_scratch3).slice (Rect.unit (s := S2x512x512) ox S1x512x512.size ix) (fun _ => rfl)).squeeze S512x512 squeezes_S1x512x512_S512x512).view.WordExact} {hd : ((Memref.whole main_v23).slice (Rect.unit (s := S18432x5632) or S512x512.size ir) (fun _ => rfl)).view.WordExact}
    {k : PUnit → Prog (TpuEff nD τ sig (Elt F) _ .tc) β} {Z : sProp 𝕄} {Q : β → sProp 𝕄} {T s : Nat} {sp sp' : Fin T → PSt} (q : Fin T) (hq : sp q = .away) (hqr : s + 512 * q.val = r)
    (hst' : Function.update st j .free = st') (hsp' : Function.update sp q .done = sp')
    (hr : iprop(Ring.AtW (ΦS c n G) st' ∗ Ring.AtW (ΦP c n G g s T) sp' ∗ (∃ W, owes (c : Thread nD τ) 0 W) ∗ Z) ⊢ wp frame (wpE (defs₀ (F := F)) 𝒱 (c : Thread nD τ) bd) Set.univ (k ⟨⟩) Q) :
    iprop(Ring.AtW (ΦS c n G) st ∗ Ring.AtW (ΦP c n G g s T) sp ∗ (∃ W, owes (c : Thread nD τ) 0 W) ∗ Z)
      ⊢ wp frame (wpE (defs₀ (F := F)) 𝒱 (c : Thread nD τ) bd) Set.univ (Prog.lift (.waitDma2 ((cc0_scratch6.slice (Rect.unit (s := S2) o2 S1.size i2)).squeeze S_ squeezes_S1_S_).sem (((Memref.whole cc0_scratch3).slice (Rect.unit (s := S2x512x512) ox S1x512x512.size ix) (fun _ => rfl)).squeeze S512x512 squeezes_S1x512x512_S512x512) ((Memref.whole main_v23).slice (Rect.unit (s := S18432x5632) or S512x512.size ir) (fun _ => rfl)) hs hd) >>= k) Q := by
  subst hqr hst' hsp'
  rw [wp_bind]
  iintro ⟨HS, HP, HO, HZ⟩
  iapply (waitS c n G 𝒱 bd st j _ hst e2)
  isplitl [HS HO]
  · isplitl [HS]; · iexact HS
    iexact HO
  iintro ⟨HS, Hy, HO⟩
  iapply hr
  isplitl [HS]; · iexact HS
  isplitl [HP Hy]
  · iapply (giveP c n G g s T sp q hq)
    isplitl [Hy]; · iexact Hy
    iexact HP
  isplitl [HO]; · iexact HO
  iexact HZ
end

/-! ## The ends of the rings -/

theorem stS_zero (s : Nat) : stS s 0 = fun _ => .free := by
  funext j; simp [stS]
theorem stP_zero (T : Nat) : stP T 0 = fun _ => .todo := by
  funext q; simp [stP]

theorem stS_end (s T : Nat) (j j' : Fin 2) (hj : j.val = T % 2) (hj' : j'.val = (T - 1) % 2) :
    (if 1 ≤ T then Function.update (if 2 ≤ T then Function.update (stS s T) j .free else stS s T) j' .free else (if 2 ≤ T then Function.update (stS s T) j .free else stS s T)) = fun _ => .free := by
  funext i
  have hi := i.isLt
  by_cases h1 : 1 ≤ T
  · rw [if_pos h1]
    by_cases e : i = j'
    · subst e; rw [Function.update_self]
    rw [Function.update_of_ne e]
    have e2 : i.val ≠ j'.val := fun h => e (Fin.ext h)
    by_cases h2 : 2 ≤ T
    · rw [if_pos h2]
      have : i = j := Fin.ext (by omega)
      subst this; rw [Function.update_self]
    · rw [if_neg h2, stS, if_pos (show T % 2 = i.val by omega), if_neg h2]
  · have h0 : T = 0 := by omega
    subst h0
    simp [stS]

/-- The tiles after the first of the last two waits. -/
def stQ (T : Nat) (q : Fin T) : PSt := if q.val + 1 < T then .done else .away
theorem stQ_of_lt (T : Nat) (h : ¬ 2 ≤ T) : stP T T = stQ T := by
  funext q
  have := q.isLt
  rw [stP, stQ, if_neg (by omega), if_pos (by omega), if_neg (by omega)]
theorem stQ_step (T : Nat) (h : 2 ≤ T) : Function.update (stP T T) ⟨T - 2, by omega⟩ .done = stQ T := by
  have hlt : T - 2 < T := by omega
  funext q
  by_cases e : q = ⟨T - 2, hlt⟩
  · subst e; rw [Function.update_self, stQ, if_pos (by show T - 2 + 1 < T; omega)]
  have := q.isLt
  rw [Function.update_of_ne e, stP, stQ]
  have e2 : q.val ≠ T - 2 := fun h => e (Fin.ext h)
  by_cases h3 : q.val + 2 < T
  · rw [if_pos h3, if_pos (by omega)]
  · rw [if_neg h3, if_pos this, if_neg (by omega)]
theorem stQ_last (T : Nat) (h : 1 ≤ T) : Function.update (stQ T) ⟨T - 1, by omega⟩ .done = fun _ => .done := by
  have hlt : T - 1 < T := by omega
  funext q
  by_cases e : q = ⟨T - 1, hlt⟩
  · subst e; rw [Function.update_self]
  have := q.isLt
  rw [Function.update_of_ne e, stQ]
  have e2 : q.val ≠ T - 1 := fun h => e (Fin.ext h)
  rw [if_pos (by omega)]

variable (c : Dev nD) (X : Buf (Elt F) ((xsrc 0).view.loc (c : Thread nD τ)))
variable (G g : Buf (Elt F) ((ywin 0 0).view.loc (c : Thread nD τ)))
variable (𝒱 : Variants) (bd : Option 𝒱.V) (i : grid0.Coords)

/-- What no step changes but the tiles and the load slots: the blocks, the tables, the zero buffer. -/
def Keep (a5 a6 : Memref sig .tc .vmem S1x1x2048x512 .f32) (q5 q6 qs qt : PosShare TreeShare) (x1 x3 : Vec F S1x1x2048x512 .f32) (fS : TabS (F := F) c) (fT : TabT (F := F) c) : sProp 𝕄 :=
  iprop(owns (c : Thread nD τ) a5 q5 x1 ∗ owns (c : Thread nD τ) a6 q6 x3 ∗ (∃ w, W1At c w) ∗ (∃ w, W3At c w) ∗ tabS c qs fS ∗ tabT c qt fT
    ∗ semVal ((c : Thread nD τ), cellZ) 0 ∗ (∃ f, zbuf.view.loc (c : Thread nD τ) ↦[Finset.univ]{fullShare} f) ∗ ∃ W, owes (c : Thread nD τ) 0 W)

/-- The load slots as a step finds them. -/
def stIn (s T : Nat) : Fin 5 → LSt := if (i 0).val = 0 ∧ (i 1).val = 0 then fun _ => .free else stI s T 1
def stOut (s T : Nat) : Fin 5 → LSt := if (i 0).val = 7 ∧ (i 1).val = 10 then fun _ => .free else stI s T 1

/-- The pieces a step clears. -/
def piecesOf (s t : BitVec 32) : Nat := if (i 0).val = 7 then nPieces s t else 0

set_option maxHeartbeats 1000000 in
theorem part7 (qs qt : PosShare TreeShare) (fS : TabS (F := F) c) (fT : TabT (F := F) c) (s t s' t' : BitVec 32) (h : Seg s t) (h' : Seg s' t') (e e' : Fin 8) (he : (i 0).val = e.val) (he' : nextE (i 0).val (i 1).val = e'.val)
    (hs : startAt c fS e = s) (ht : tilesAt c fT e = t) (hs' : startAt c fS e' = s') (ht' : tilesAt c fT e' = t')
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole} (q5 q6 : PosShare TreeShare) (x1 x3 : Vec F S1x1x2048x512 .f32)
    (hG : ∀ q, q < t.toNat → ytile c (i 1) G (s.toNat + 512 * q) = tileOf c X (k0_pay4 x1) (k0_pay5 x3) (s.toNat + 512 * q))
    (hz : ∀ k, k < piecesOf i s t → (k0_pay3 (F := F) : Vec F S16x512 .bf16) = ztile c (i 1) G (endRow s t + 16 * k)) :
    iprop(Keep c a5 a6 q5 q6 qs qt x1 x3 fS fT ∗ Ring.AtW (ΦL c X) (stIn i s.toNat t.toNat) ∗ Ring.AtW (ΦS c (i 1) G) (fun _ => .free)
        ∗ Ring.AtW (ΦP c (i 1) G g s.toNat t.toNat) (fun _ => .todo) ∗ zAll c (i 1) (endRow s t) (piecesOf i s t) g)
      ⊢ wp frame (wpE (defs₀ (F := F)) 𝒱 (c : Thread nD τ) bd) Set.univ (k0_part7 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7) (fun _ =>
        iprop(Keep c a5 a6 q5 q6 qs qt x1 x3 fS fT ∗ Ring.AtW (ΦL c X) (stOut i s'.toNat t'.toNat) ∗ Ring.AtW (ΦS c (i 1) G) (fun _ => .free)
          ∗ Ring.AtW (ΦP c (i 1) G g s.toNat t.toNat) (fun _ => .done) ∗ zAll c (i 1) (endRow s t) (piecesOf i s t) G)) := by
  have htl := h.tiles
  have hf := h.fits
  let jA : Fin 2 := ⟨t.toNat % 2, Nat.mod_lt _ (by decide)⟩
  let jB : Fin 2 := ⟨(t.toNat - 1) % 2, Nat.mod_lt _ (by decide)⟩
  let B : sProp 𝕄 := iprop(owns (c : Thread nD τ) a5 q5 x1 ∗ owns (c : Thread nD τ) a6 q6 x3 ∗ semVal ((c : Thread nD τ), cellZ) 0 ∗ (∃ f, zbuf.view.loc (c : Thread nD τ) ↦[Finset.univ]{fullShare} f) ∗ zAll c (i 1) (endRow s t) (piecesOf i s t) g)
  let Z1 : sProp 𝕄 := iprop(Ring.AtW (ΦS c (i 1) G) (stS s.toNat 0) ∗ Ring.AtW (ΦP c (i 1) G g s.toNat t.toNat) (stP t.toNat 0) ∗ W1At c (k0_pay4 x1) ∗ W3At c (k0_pay5 x3) ∗ (∃ W, owes (c : Thread nD τ) 0 W) ∗ tabS c qs fS ∗ tabT c qt fT ∗ B)
  let Z2 : sProp 𝕄 := iprop(W1At c (k0_pay4 x1) ∗ W3At c (k0_pay5 x3) ∗ B)
  rw [k0_part7_eq_skeleton]
  rw [k0_part7_skel]
  refine mid_cut (S := iprop(Ring.AtW (ΦL c X) (stI s.toNat t.toNat 1) ∗ Z1)) (fun u : BitVec 32 × BitVec 1 × BitVec 32 => ⟨u.1, s, t, chk1 i s t h, u.2.1, u.2.2⟩) (fun Q' => ?_) (fun u => ?_)
  · unfold Keep
    iintro ⟨⟨⟨H5, H6, HW1, HW3, HS, HT, Hz, Hb, HO⟩, HL, HR, HP, HZ⟩, HQ⟩
    iapply (part6 c X 𝒱 bd i qs qt fS fT s t h e he hs ht _ rfl a5 a6 q5 q6 x1 x3)
    isplitl [H5 H6 HW1 HW3 HS HT HL]
    · isplitl [H5]; · iexact H5
      isplitl [H6]; · iexact H6
      isplitl [HW1]; · iexact HW1
      isplitl [HW3]; · iexact HW3
      isplitl [HS]; · iexact HS
      isplitl [HT]; · iexact HT
      iexact HL
    iintro %a %v %w ⟨H5, H6, HW1, HW3, HS, HT, HL⟩
    iapply HQ $$ %(a, v, w)
    isplitl [HL]; · iexact HL
    simp only [Z1, B]
    rw [stS_zero, stP_zero]
    isplitl [HR]; · iexact HR
    isplitl [HP]; · iexact HP
    isplitl [HW1]; · iexact HW1
    isplitl [HW3]; · iexact HW3
    isplitl [HO]; · iexact HO
    isplitl [HS]; · iexact HS
    isplitl [HT]; · iexact HT
    isplitl [H5]; · iexact H5
    isplitl [H6]; · iexact H6
    isplitl [Hz]; · iexact Hz
    isplitl [Hb]; · iexact Hb
    iexact HZ
  refine if_cut (S := iprop(Ring.AtW (ΦL c X) (stI s.toNat t.toNat 2) ∗ Z1)) ?_ (fun hn => ?_) (fun hc hr => ?_)
  rotate_left
  · rw [← stI_skip s.toNat t.toNat 1 (fun hl => hn ((cond2_iff t htl).2 hl))]
  · have hl := (cond2_iff t htl).1 hc
    exact issueL_cut 1 (s.toNat + 512 * 1) (stI_self _ _ _ _ rfl) (by omega) rfl rfl (off3_eq s t h) (stI_step _ _ _ hl 1 rfl) hr
  refine if_cut (S := iprop(Ring.AtW (ΦL c X) (stI s.toNat t.toNat 3) ∗ Z1)) ?_ (fun hn => ?_) (fun hc hr => ?_)
  rotate_left
  · rw [← stI_skip s.toNat t.toNat 2 (fun hl => hn ((cond3_iff t htl).2 hl))]
  · have hl := (cond3_iff t htl).1 hc
    exact issueL_cut 2 (s.toNat + 512 * 2) (stI_self _ _ _ _ rfl) (by omega) rfl rfl (off4_eq s t h) (stI_step _ _ _ hl 2 rfl) hr
  refine if_cut (S := iprop(Ring.AtW (ΦL c X) (stI s.toNat t.toNat 4) ∗ Z1)) ?_ (fun hn => ?_) (fun hc hr => ?_)
  rotate_left
  · rw [← stI_skip s.toNat t.toNat 3 (fun hl => hn ((cond4_iff t htl).2 hl))]
  · have hl := (cond4_iff t htl).1 hc
    exact issueL_cut 3 (s.toNat + 512 * 3) (stI_self _ _ _ _ rfl) (by omega) rfl rfl (off5_eq s t h) (stI_step _ _ _ hl 3 rfl) hr
  have hsAB := stS_end s.toNat t.toNat jA jB rfl rfl
  let Z3 : sProp 𝕄 := iprop(tabS c qs fS ∗ tabT c qt fT ∗ B)
  let I : Nat → sProp 𝕄 := InvT c X (i 1) G g (k0_pay4 x1) (k0_pay5 x3) s.toNat t.toNat
  let O : sProp 𝕄 := iprop(∃ W, owes (c : Thread nD τ) 0 W)
  let V : sProp 𝕄 := iprop(Ring.AtW (ΦS c (i 1) G) (stS s.toNat t.toNat) ∗ Ring.AtW (ΦP c (i 1) G g s.toNat t.toNat) (stP t.toNat t.toNat) ∗ W1At c (k0_pay4 x1) ∗ W3At c (k0_pay5 x3) ∗ O ∗ B)
  let V' : sProp 𝕄 := iprop(W1At c (k0_pay4 x1) ∗ W3At c (k0_pay5 x3) ∗ tabS c qs fS ∗ tabT c qt fT ∗ Ring.AtW (ΦL c X) (stOut i s'.toNat t'.toNat) ∗ B)
  have c1 : iprop(Ring.AtW (ΦL c X) (stI s.toNat t.toNat 4) ∗ Z1) ⊢ iprop(I 0 ∗ Z3) := by
    simp only [Z1, I, Z3, stI_four]
    iintro ⟨HL, HR, HP, HW1, HW3, HO, HT⟩
    isplitr [HT]
    · isplitl [HL]; · iexact HL
      isplitl [HR]; · iexact HR
      isplitl [HP]; · iexact HP
      isplitl [HW1]; · iexact HW1
      isplitl [HW3]; · iexact HW3
      iexact HO
    iexact HT
  have c2 : iprop(I t.toNat ∗ Z3) ⊢ iprop(tabT c qt fT ∗ (tabS c qs fS ∗ Ring.AtW (ΦL c X) (fun _ => .free) ∗ V)) := by
    simp only [V, I, Z3, O, InvT, stL_end]
    iintro ⟨⟨HL, HR, HP, HW1, HW3, HO⟩, HS, HT, HB⟩
    isplitl [HT]; · iexact HT
    isplitl [HS]; · iexact HS
    isplitl [HL]; · iexact HL
    isplitl [HR]; · iexact HR
    isplitl [HP]; · iexact HP
    isplitl [HW1]; · iexact HW1
    isplitl [HW3]; · iexact HW3
    isplitl [HO]; · iexact HO
    iexact HB
  have c3 : iprop(tabT c qt fT ∗ (tabS c qs fS ∗ Ring.AtW (ΦL c X) (fun _ => .free) ∗ V)) ⊢ iprop(tabS c qs fS ∗ (Ring.AtW (ΦL c X) (fun _ => .free) ∗ tabT c qt fT ∗ V)) := by
    iintro ⟨HT, HS, HL, HV⟩
    isplitl [HS]; · iexact HS
    isplitl [HL]; · iexact HL
    isplitl [HT]; · iexact HT
    iexact HV
  have c4 : iprop(tabS c qs fS ∗ (Ring.AtW (ΦL c X) (fun _ => .free) ∗ tabT c qt fT ∗ V)) ⊢ iprop(Ring.AtW (ΦL c X) (fun _ => .free) ∗ (tabS c qs fS ∗ tabT c qt fT ∗ V)) := by
    iintro ⟨HS, HL, HT, HV⟩
    isplitl [HL]; · iexact HL
    isplitl [HS]; · iexact HS
    isplitl [HT]; · iexact HT
    iexact HV
  have c5 : iprop(Ring.AtW (ΦL c X) (stOut i s'.toNat t'.toNat) ∗ (tabS c qs fS ∗ tabT c qt fT ∗ V)) ⊢ iprop(Ring.AtW (ΦS c (i 1) G) (stS s.toNat t.toNat) ∗ Ring.AtW (ΦP c (i 1) G g s.toNat t.toNat) (stP t.toNat t.toNat) ∗ (∃ W, owes (c : Thread nD τ) 0 W) ∗ V') := by
    simp only [V, V', O]
    iintro ⟨HL, HS, HT, HR, HP, HW1, HW3, HO, HB⟩
    isplitl [HR]; · iexact HR
    isplitl [HP]; · iexact HP
    isplitl [HO]; · iexact HO
    isplitl [HW1]; · iexact HW1
    isplitl [HW3]; · iexact HW3
    isplitl [HS]; · iexact HS
    isplitl [HT]; · iexact HT
    isplitl [HL]; · iexact HL
    iexact HB
  refine c1.trans (loop_cut I t.toNat (trips1 t htl) (fun k a => trip c X G g 𝒱 bd i s t h (chk1 i s t h) (k0_pay4 x1) (k0_pay5 x3) hG a5 a6 k a) ?_)
  refine loop0_cut (no2 h) ?_
  refine c2.trans (readT_cut e' ((off34_eq i).trans (by rw [he'])) ht' ?_)
  refine if_cut (S := iprop(Ring.AtW (ΦS c (i 1) G) (stS s.toNat t.toNat) ∗ Ring.AtW (ΦP c (i 1) G g s.toNat t.toNat) (stP t.toNat t.toNat) ∗ (∃ W, owes (c : Thread nD τ) 0 W) ∗ V')) ?_ (fun hn => ?_) (fun hc hr => ?_)
  rotate_left
  · have ho : stOut i s'.toNat t'.toNat = fun _ => .free := by
      unfold stOut
      by_cases hl : (i 0).val = 7 ∧ (i 1).val = 10
      · rw [if_pos hl]
      · rw [if_neg hl, ← stI_skip s'.toNat t'.toNat 0 (fun h0 => hn ((cond9_iff i t' h'.tiles).2 ⟨hl, h0⟩)), stI_zero]
    refine c3.trans (c4.trans ?_)
    rw [← ho]
    exact c5
  · have hl := (cond9_iff i t' h'.tiles).1 hc
    have hf' := h'.fits
    refine c3.trans (readS_cut e' ((off35_eq i).trans (by rw [he'])) hs' ?_)
    refine assume_cut (chk2 i s' t' h') ?_
    refine c4.trans (issueL_cut 0 s'.toNat rfl (by omega) rfl rfl (off36_eq s' t' h') (st' := stOut i s'.toNat t'.toNat) ?_ (c5.trans hr))
    unfold stOut
    rw [if_neg hl.1, ← stI_step s'.toNat t'.toNat 0 hl.2 0 rfl, stI_zero]
    rfl
  refine if_cut (S := iprop(Ring.AtW (ΦS c (i 1) G) (if 2 ≤ t.toNat then Function.update (stS s.toNat t.toNat) jA .free else stS s.toNat t.toNat) ∗ Ring.AtW (ΦP c (i 1) G g s.toNat t.toNat) (stQ t.toNat) ∗ (∃ W, owes (c : Thread nD τ) 0 W) ∗ V')) ?_ (fun hn => ?_) (fun hc hr => ?_)
  rotate_left
  · have hn' : ¬ 2 ≤ t.toNat := fun hl => hn ((cond10_iff t htl).2 hl)
    rw [if_neg hn', stQ_of_lt _ hn']
  · have hl := (cond10_iff t htl).1 hc
    exact waitS_cut jA (s.toNat + 512 * (t.toNat - 2)) (stS_fly hl jA rfl) (off37_eq t htl) ⟨t.toNat - 2, by omega⟩ (by rw [stP, if_neg (by show ¬ t.toNat - 2 + 2 < t.toNat; omega), if_pos (by show t.toNat - 2 < t.toNat; omega)]) rfl (by rw [if_pos hl]) (stQ_step _ hl) hr
  refine if_cut (S := iprop(Ring.AtW (ΦS c (i 1) G) (fun _ => .free) ∗ Ring.AtW (ΦP c (i 1) G g s.toNat t.toNat) (fun _ => .done) ∗ (∃ W, owes (c : Thread nD τ) 0 W) ∗ V')) ?_ (fun hn => ?_) (fun hc hr => ?_)
  rotate_left
  · have hn' : ¬ 1 ≤ t.toNat := fun hl => hn ((cond11_iff t htl).2 hl)
    rw [if_neg hn'] at hsAB
    rw [hsAB, show stQ t.toNat = fun _ => .done from funext fun q => absurd q.isLt (by omega)]
  · have hl := (cond11_iff t htl).1 hc
    rw [if_pos hl] at hsAB
    refine waitS_cut jB (s.toNat + 512 * (t.toNat - 1)) ?_ (off40_eq t htl hl) ⟨t.toNat - 1, by omega⟩ (by rw [stQ, if_neg (by show ¬ t.toNat - 1 + 1 < t.toNat; omega)]) rfl hsAB (stQ_last _ hl) hr
    have hne : jB ≠ jA := fun hh => by have := congrArg Fin.val hh; simp only [jA, jB] at this; omega
    have : (if 2 ≤ t.toNat then Function.update (stS s.toNat t.toNat) jA .free else stS s.toNat t.toNat) jB = stS s.toNat t.toNat jB := by
      split
      · rw [Function.update_of_ne hne]
      · rfl
    rw [this, stS, if_neg (by show ¬ t.toNat % 2 = (t.toNat - 1) % 2; omega), if_pos hl]
  refine if_cut (S := iprop(Keep c a5 a6 q5 q6 qs qt x1 x3 fS fT ∗ Ring.AtW (ΦL c X) (stOut i s'.toNat t'.toNat) ∗ Ring.AtW (ΦS c (i 1) G) (fun _ => .free)
          ∗ Ring.AtW (ΦP c (i 1) G g s.toNat t.toNat) (fun _ => .done) ∗ zAll c (i 1) (endRow s t) (piecesOf i s t) G)) (pure_cut .rfl) (fun hn => ?_) (fun hc hr => ?_)
  · have hn' : ¬ (i 0).val = 7 := fun hl => hn ((cond12_iff i).2 hl)
    simp only [V', B, Keep, piecesOf, if_neg hn']
    rw [show zAll c (i 1) (endRow s t) 0 g = zAll c (i 1) (endRow s t) 0 G from by unfold zAll; simp only [Finset.univ_eq_empty]; rfl]
    iintro ⟨HR, HP, HO, HW1, HW3, HS, HT, HL, H5, H6, Hz, Hb, HZ⟩
    isplitl [HO HW1 HW3 HS HT H5 H6 Hz Hb]
    · isplitl [H5]; · iexact H5
      isplitl [H6]; · iexact H6
      isplitl [HW1]; · iexists _; iexact HW1
      isplitl [HW3]; · iexists _; iexact HW3
      isplitl [HS]; · iexact HS
      isplitl [HT]; · iexact HT
      isplitl [Hz]; · iexact Hz
      isplitl [Hb]; · iexact Hb
      iexact HO
    isplitl [HL]; · iexact HL
    isplitl [HR]; · iexact HR
    isplitl [HP]; · iexact HP
    iexact HZ
  · have hl := (cond12_iff i).1 hc
    have hp : piecesOf i s t = nPieces s t := if_pos hl
    have hz' : ∀ k, k < nPieces s t → (k0_pay3 (F := F) : Vec F S16x512 .bf16) = ztile c (i 1) G (endRow s t + 16 * k) := fun k hk => hz k (by rw [hp]; exact hk)
    let D : sProp 𝕄 := iprop(Ring.AtW (ΦL c X) (stOut i s'.toNat t'.toNat) ∗ Ring.AtW (ΦS c (i 1) G) (fun _ => .free) ∗ Ring.AtW (ΦP c (i 1) G g s.toNat t.toNat) (fun _ => .done) ∗ owns (c : Thread nD τ) a5 q5 x1 ∗ owns (c : Thread nD τ) a6 q6 x3 ∗ W1At c (k0_pay4 x1) ∗ W3At c (k0_pay5 x3))
    let Y : sProp 𝕄 := iprop((zbuf.view.loc (c : Thread nD τ) ↦[zbuf.view.set]{Transfers.shareDrop fullShare (nPieces s t)} zval c) ∗ tabS c qs fS ∗ tabT c qt fT ∗ D)
    have d1 : iprop(Ring.AtW (ΦS c (i 1) G) (fun _ => .free) ∗ Ring.AtW (ΦP c (i 1) G g s.toNat t.toNat) (fun _ => .done) ∗ (∃ W, owes (c : Thread nD τ) 0 W) ∗ V')
        ⊢ iprop((semVal ((c : Thread nD τ), cellZ) 0 ∗ (∃ f, zbuf.view.loc (c : Thread nD τ) ↦[Finset.univ]{fullShare} f) ∗ tabS c qs fS ∗ tabT c qt fT
        ∗ zAll c (i 1) (endRow s t) (nPieces s t) g ∗ ∃ W, owes (c : Thread nD τ) 0 W) ∗ D) := by
      simp only [V', B, D, hp]
      iintro ⟨HR, HP, HO, HW1, HW3, HS, HT, HL, H5, H6, Hz, Hb, HZ⟩
      isplitl [HO HS HT Hz Hb HZ]
      · isplitl [Hz]; · iexact Hz
        isplitl [Hb]; · iexact Hb
        isplitl [HS]; · iexact HS
        isplitl [HT]; · iexact HT
        isplitl [HZ]; · iexact HZ
        iexact HO
      isplitl [HL]; · iexact HL
      isplitl [HR]; · iexact HR
      isplitl [HP]; · iexact HP
      isplitl [H5]; · iexact H5
      isplitl [H6]; · iexact H6
      isplitl [HW1]; · iexact HW1
      iexact HW3
    have d2 : iprop(InvW c (i 1) G (zval c) (endRow s t) (nPieces s t) (nPieces s t) ∗ Y)
        ⊢ (|={Set.univ}=> iprop(Keep c a5 a6 q5 q6 qs qt x1 x3 fS fT ∗ Ring.AtW (ΦL c X) (stOut i s'.toNat t'.toNat) ∗ Ring.AtW (ΦS c (i 1) G) (fun _ => .free)
          ∗ Ring.AtW (ΦP c (i 1) G g s.toNat t.toNat) (fun _ => .done) ∗ zAll c (i 1) (endRow s t) (piecesOf i s t) G) : sProp 𝕄) := by
      simp only [Y, D, Keep, hp]
      iintro ⟨HI, HD, HS, HT, HL, HR, HP, H5, H6, HW1, HW3⟩
      imod (invW_last c (i 1) G (endRow s t) (nPieces s t) (zval c)) $$ HI with ⟨Hz, HZ, Htok, HO⟩
      imodintro
      isplitr [HL HR HP HZ]
      · isplitl [H5]; · iexact H5
        isplitl [H6]; · iexact H6
        isplitl [HW1]; · iexists _; iexact HW1
        isplitl [HW3]; · iexists _; iexact HW3
        isplitl [HS]; · iexact HS
        isplitl [HT]; · iexact HT
        isplitl [Hz]; · iexact Hz
        isplitl [HD Htok]
        · iexists (zval c)
          iapply (zend c (nPieces s t) (zval c))
          isplitl [HD]; · iexact HD
          iexact Htok
        iexact HO
      isplitl [HL]; · iexact HL
      isplitl [HR]; · iexact HR
      isplitl [HP]; · iexact HP
      iexact HZ
    refine d1.trans (mid_cut (S := iprop(InvW c (i 1) G (zval c) (endRow s t) (nPieces s t) 0 ∗ Y)) (fun u : BitVec 32 × BitVec 32 × BitVec 32 × BitVec 32 => ⟨s, t, chk3 i h, u.1, u.2.1, u.2.2.1, u.2.2.2⟩) (fun Q' => ?_) (fun u => ?_))
    · iintro ⟨⟨H1, HD⟩, HQ⟩
      iapply (part5 c G g 𝒱 bd i qs qt fS fT s t h hc e he hs ht hz' _ a5 a6)
      isplitl [H1]; · iexact H1
      iintro %v %w %x %y ⟨HI, Hz, HS, HT⟩
      iapply HQ $$ %(v, w, x, y)
      isplitl [HI]; · iexact HI
      simp only [Y]
      isplitl [Hz]; · iexact Hz
      isplitl [HS]; · iexact HS
      isplitl [HT]; · iexact HT
      iexact HD
    refine loop_cut (InvW c (i 1) G (zval c) (endRow s t) (nPieces s t)) (nPieces s t) (trips5 h) (fun k a => trip5 c G (zval c) 𝒱 bd i s t h hc (chk3 i h) a5 a6 k a) ?_
    refine loop0_cut (no6 h) ?_
    exact fupd_cut d2 hr

end Cert.MoeUp
-- ==== Proof.MoeUpWhole.lean ====
module

public import proofs.«01_k».proof.Proof.MoeUpStep
public import Idealize.ShloMosaic.Lib.Pipeline.ValueKit.Geometry

/-! A step of the expert projection on the whole result array: the tiles of the step's segment and the cleared pieces are cut out
    of it, and put back at the step's result. -/

@[expose] public section

set_option maxRecDepth 16384

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

variable (c : Dev nD) (n : Fin 11)

abbrev YBuf := Buf (Elt F) ((ywin 0 0).view.loc (c : Thread nD τ))

theorem mem_ywin (r : Nat) (hr : r ≤ 17920) (x : S18432x5632.Idx) :
    x ∈ (ywin n r).view.set ↔ (r ≤ (x 0).val ∧ (x 0).val < r + 512) ∧ 512 * n.val ≤ (x 1).val ∧ (x 1).val < 512 * n.val + 512 := by
  refine ValueKit.mem_set_slice_whole_iff main_v23 _ x ?_
  rw [Rect.mem_set_unit]
  have e : min r 17920 = r := Nat.min_eq_left hr
  constructor
  · intro h
    have h0 := h 0; have h1 := h 1
    refine ⟨⟨?_, ?_⟩, h1⟩
    · exact le_of_eq_of_le e.symm h0.1
    · exact lt_of_lt_of_eq h0.2 (congrArg (· + 512) e)
  · rintro ⟨⟨h0, h0'⟩, h1⟩ a
    fin_cases a
    · exact ⟨le_of_eq_of_le e h0, lt_of_lt_of_eq h0' (congrArg (· + 512) e).symm⟩
    · exact h1

theorem mem_zwin (r : Nat) (hr : r ≤ 18416) (x : S18432x5632.Idx) :
    x ∈ (zwin n r).view.set ↔ (r ≤ (x 0).val ∧ (x 0).val < r + 16) ∧ 512 * n.val ≤ (x 1).val ∧ (x 1).val < 512 * n.val + 512 := by
  refine ValueKit.mem_set_slice_whole_iff main_v23 _ x ?_
  rw [Rect.mem_set_unit]
  have e : min r 18416 = r := Nat.min_eq_left hr
  constructor
  · intro h
    have h0 := h 0; have h1 := h 1
    refine ⟨⟨?_, ?_⟩, h1⟩
    · exact le_of_eq_of_le e.symm h0.1
    · exact lt_of_lt_of_eq h0.2 (congrArg (· + 16) e)
  · rintro ⟨⟨h0, h0'⟩, h1⟩ a
    fin_cases a
    · exact ⟨le_of_eq_of_le e h0, lt_of_lt_of_eq h0' (congrArg (· + 16) e).symm⟩
    · exact h1

/-- A tile of the result at an index, and a piece. -/
def atTile (v : Vec F S512x512 .bf16) (a b : Nat) : Elt F .bf16 := v (fun d => match d with | ⟨0, _⟩ => ⟨a % 512, Nat.mod_lt _ (by decide)⟩ | ⟨1, _⟩ => ⟨b % 512, Nat.mod_lt _ (by decide)⟩)
def atPiece (v : Vec F S16x512 .bf16) (a b : Nat) : Elt F .bf16 := v (fun d => match d with | ⟨0, _⟩ => ⟨a % 16, Nat.mod_lt _ (by decide)⟩ | ⟨1, _⟩ => ⟨b % 512, Nat.mod_lt _ (by decide)⟩)

/-- The result array after a step whose segment is `T` tiles from row `s` on, that clears `R` pieces from row `E` on. -/
def stepG (s T E R : Nat) (tile : Nat → Vec F S512x512 .bf16) (Y : YBuf (F := F) c) : YBuf (F := F) c := fun (x : S18432x5632.Idx) =>
  if 512 * n.val ≤ (x 1).val ∧ (x 1).val < 512 * n.val + 512 then
    if s ≤ (x 0).val ∧ (x 0).val < s + 512 * T then atTile (tile (s + 512 * (((x 0).val - s) / 512))) ((x 0).val - s) ((x 1).val - 512 * n.val)
    else if E ≤ (x 0).val ∧ (x 0).val < E + 16 * R then atPiece k0_pay3 ((x 0).val - E) ((x 1).val - 512 * n.val)
    else Y x
  else Y x

theorem stepG_tile (s T E R : Nat) (tile : Nat → Vec F S512x512 .bf16) (Y : YBuf (F := F) c) (hf : s + 512 * T ≤ 18432) (q : Nat) (hq : q < T) :
    ytile c n (stepG c n s T E R tile Y) (s + 512 * q) = tile (s + 512 * q) := by
  funext y
  have h0 : (y 0).val < 512 := (y 0).isLt
  have h1 : (y 1).val < 512 := (y 1).isLt
  have e0 : (((ywin n (s + 512 * q)).view.emb y 0 : Fin _) : Nat) = min (s + 512 * q) 17920 + (y 0).val := ValueKit.view_emb_slice_whole_unit_val main_v23 _ _ _ y 0
  have e1 : (((ywin n (s + 512 * q)).view.emb y 1 : Fin _) : Nat) = 512 * n.val + (y 1).val := ValueKit.view_emb_slice_whole_unit_val main_v23 _ _ _ y 1
  rw [Nat.min_eq_left (by omega)] at e0
  show stepG c n s T E R tile Y ((ywin n (s + 512 * q)).view.emb y) = _
  have hd : (s + 512 * q + (y 0).val - s) / 512 = q := by omega
  unfold stepG
  simp only [e0, e1, hd]
  rw [if_pos (by omega), if_pos (by omega)]
  unfold atTile
  refine congrArg _ (funext fun d => ?_)
  match d with
  | ⟨0, _⟩ => exact Fin.ext (by show (s + 512 * q + (y 0).val - s) % 512 = (y 0).val; omega)
  | ⟨1, _⟩ => exact Fin.ext (by show (512 * n.val + (y 1).val - 512 * n.val) % 512 = (y 1).val; omega)

theorem stepG_piece (s T E R : Nat) (tile : Nat → Vec F S512x512 .bf16) (Y : YBuf (F := F) c) (hE : s + 512 * T ≤ E) (hR : E + 16 * R ≤ 18432) (q : Nat) (hq : q < R) :
    (k0_pay3 (F := F) : Vec F S16x512 .bf16) = ztile c n (stepG c n s T E R tile Y) (E + 16 * q) := by
  funext y
  have h0 : (y 0).val < 16 := (y 0).isLt
  have h1 : (y 1).val < 512 := (y 1).isLt
  have e0 : (((zwin n (E + 16 * q)).view.emb y 0 : Fin _) : Nat) = min (E + 16 * q) 18416 + (y 0).val := ValueKit.view_emb_slice_whole_unit_val main_v23 _ _ _ y 0
  have e1 : (((zwin n (E + 16 * q)).view.emb y 1 : Fin _) : Nat) = 512 * n.val + (y 1).val := ValueKit.view_emb_slice_whole_unit_val main_v23 _ _ _ y 1
  rw [Nat.min_eq_left (by omega)] at e0
  show _ = stepG c n s T E R tile Y ((zwin n (E + 16 * q)).view.emb y)
  unfold stepG
  simp only [e0, e1]
  rw [if_pos (by omega), if_neg (by omega), if_pos (by omega)]
  unfold atPiece
  refine congrArg _ (funext fun d => ?_)
  match d with
  | ⟨0, _⟩ => exact Fin.ext (by show (y 0).val = (E + 16 * q + (y 0).val - E) % 16; omega)
  | ⟨1, _⟩ => exact Fin.ext (by show (y 1).val = (512 * n.val + (y 1).val - 512 * n.val) % 512; omega)

/-! ## Cutting the array up -/

abbrev YIdx := Idx ((ywin 0 0).view.loc (c : Thread nD τ))
def yset (r : Nat) : Finset (YIdx c) := by exact (ywin n r).view.set
def zset (r : Nat) : Finset (YIdx c) := by exact (zwin n r).view.set
def tilesSet (s T : Nat) : Finset (YIdx c) := (Finset.univ : Finset (Fin T)).biUnion fun q => yset c n (s + 512 * q.val)
def piecesSet (E R : Nat) : Finset (YIdx c) := (Finset.univ : Finset (Fin R)).biUnion fun q => zset c n (E + 16 * q.val)

theorem mem_yset (r : Nat) (hr : r ≤ 17920) (x : S18432x5632.Idx) :
    Iff (x ∈ yset c n r) ((r ≤ (x 0).val ∧ (x 0).val < r + 512) ∧ 512 * n.val ≤ (x 1).val ∧ (x 1).val < 512 * n.val + 512) := mem_ywin n r hr x
theorem mem_zset (r : Nat) (hr : r ≤ 18416) (x : S18432x5632.Idx) :
    Iff (x ∈ zset c n r) ((r ≤ (x 0).val ∧ (x 0).val < r + 16) ∧ 512 * n.val ≤ (x 1).val ∧ (x 1).val < 512 * n.val + 512) := mem_zwin n r hr x

theorem mem_tilesSet (s T : Nat) (hf : s + 512 * T ≤ 18432) (x : S18432x5632.Idx) :
    Iff (x ∈ tilesSet c n s T) ((s ≤ (x 0).val ∧ (x 0).val < s + 512 * T) ∧ 512 * n.val ≤ (x 1).val ∧ (x 1).val < 512 * n.val + 512) := by
  unfold tilesSet
  simp only [Finset.mem_biUnion, Finset.mem_univ, true_and]
  constructor
  · rintro ⟨q, hq⟩
    have hl := q.isLt
    have := (mem_yset c n _ (by omega) x).1 hq
    omega
  · intro h
    refine ⟨⟨((x 0).val - s) / 512, by omega⟩, (mem_yset c n _ ?_ x).2 ?_⟩
    · show s + 512 * (((x 0).val - s) / 512) ≤ 17920; omega
    · show (s + 512 * (((x 0).val - s) / 512) ≤ (x 0).val ∧ (x 0).val < s + 512 * (((x 0).val - s) / 512) + 512) ∧ _; omega

theorem mem_piecesSet (E R : Nat) (hf : E + 16 * R ≤ 18432) (x : S18432x5632.Idx) :
    Iff (x ∈ piecesSet c n E R) ((E ≤ (x 0).val ∧ (x 0).val < E + 16 * R) ∧ 512 * n.val ≤ (x 1).val ∧ (x 1).val < 512 * n.val + 512) := by
  unfold piecesSet
  simp only [Finset.mem_biUnion, Finset.mem_univ, true_and]
  constructor
  · rintro ⟨q, hq⟩
    have hl := q.isLt
    have := (mem_zset c n _ (by omega) x).1 hq
    omega
  · intro h
    refine ⟨⟨((x 0).val - E) / 16, by omega⟩, (mem_zset c n _ ?_ x).2 ?_⟩
    · show E + 16 * (((x 0).val - E) / 16) ≤ 18416; omega
    · show (E + 16 * (((x 0).val - E) / 16) ≤ (x 0).val ∧ (x 0).val < E + 16 * (((x 0).val - E) / 16) + 16) ∧ _; omega

end Cert.MoeUp
-- ==== Proof.MoeUpCut.lean ====
module

public import proofs.«01_k».proof.Proof.MoeUpWhole

/-! The result array cut into the tiles and pieces of a step, and what is left. -/

@[expose] public section

set_option maxRecDepth 16384
set_option maxHeartbeats 1600000

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

variable (c : Dev nD) (n : Fin 11)

/-- The array but for the tiles and the pieces. -/
abbrev yRest (s T E R : Nat) (Y : YBuf (F := F) c) : sProp 𝕄 := (ywin 0 0).view.loc (c : Thread nD τ) ↦[(Finset.univ \ tilesSet c n s T) \ piecesSet c n E R]{fullShare} Y

theorem cut (s T E R : Nat) (hE : s + 512 * T ≤ E) (hR : E + 16 * R ≤ 18432) (Y : YBuf (F := F) c) :
    ((ywin 0 0).view.loc (c : Thread nD τ) ↦[Finset.univ]{fullShare} Y : sProp 𝕄)
      ⊣⊢ iprop(bigSep Finset.univ (fun q : Fin T => yAt c n (s + 512 * q.val) Y) ∗ zAll c n E R Y ∗ yRest c n s T E R Y) := by
  have hd1 : ∀ t ∈ (Finset.univ : Finset (Fin T)), ∀ t' ∈ (Finset.univ : Finset (Fin T)), t ≠ t' → Disjoint (yset c n (s + 512 * t.val)) (yset c n (s + 512 * t'.val)) := by
    intro t _ t' _ hne
    rw [Finset.disjoint_left]
    intro x hx hx'
    have hl := t.isLt; have hl' := t'.isLt
    have h1 := (mem_yset c n _ (by omega) x).1 hx
    have h2 := (mem_yset c n _ (by omega) x).1 hx'
    exact hne (Fin.ext (by omega))
  have hd2 : ∀ t ∈ (Finset.univ : Finset (Fin R)), ∀ t' ∈ (Finset.univ : Finset (Fin R)), t ≠ t' → Disjoint (zset c n (E + 16 * t.val)) (zset c n (E + 16 * t'.val)) := by
    intro t _ t' _ hne
    rw [Finset.disjoint_left]
    intro x hx hx'
    have hl := t.isLt; have hl' := t'.isLt
    have h1 := (mem_zset c n _ (by omega) x).1 hx
    have h2 := (mem_zset c n _ (by omega) x).1 hx'
    exact hne (Fin.ext (by omega))
  have hsub : piecesSet c n E R ⊆ Finset.univ \ tilesSet c n s T := by
    intro x hx
    have h1 := (mem_piecesSet c n E R hR x).1 hx
    refine Finset.mem_sdiff.2 ⟨Finset.mem_univ _, fun hx' => ?_⟩
    have h2 := (mem_tilesSet c n s T (by omega) x).1 hx'
    omega
  have e1 : ((ywin 0 0).view.loc (c : Thread nD τ) ↦[tilesSet c n s T]{fullShare} Y : sProp 𝕄) = bigSep Finset.univ (fun q : Fin T => yAt c n (s + 512 * q.val) Y) := pointsTo_biUnion _ _ hd1
  have e2 : ((ywin 0 0).view.loc (c : Thread nD τ) ↦[piecesSet c n E R]{fullShare} Y : sProp 𝕄) = zAll c n E R Y := pointsTo_biUnion _ _ hd2
  have a : ((ywin 0 0).view.loc (c : Thread nD τ) ↦[Finset.univ]{fullShare} Y : sProp 𝕄) ⊣⊢ _ := pointsTo_split_subset (ℓ := (ywin 0 0).view.loc (c : Thread nD τ)) (q := fullShare) (f := Y) (Finset.subset_univ (tilesSet c n s T))
  have b : ((ywin 0 0).view.loc (c : Thread nD τ) ↦[Finset.univ \ tilesSet c n s T]{fullShare} Y : sProp 𝕄) ⊣⊢ _ := pointsTo_split_subset (ℓ := (ywin 0 0).view.loc (c : Thread nD τ)) (q := fullShare) (f := Y) hsub
  rw [e1] at a
  rw [e2] at b
  constructor
  · iintro H
    ihave H := a.1 $$ H
    icases H with ⟨H1, H2⟩
    isplitl [H1]; · iexact H1
    iapply b.1; iexact H2
  · iintro ⟨H1, H2⟩
    iapply a.2
    isplitl [H1]; · iexact H1
    iapply b.2; iexact H2

theorem stepG_off (s T E R : Nat) (tile : Nat → Vec F S512x512 .bf16) (Y : YBuf (F := F) c) (x : S18432x5632.Idx)
    (h3 : ¬ ((s ≤ (x 0).val ∧ (x 0).val < s + 512 * T) ∧ 512 * n.val ≤ (x 1).val ∧ (x 1).val < 512 * n.val + 512))
    (h4 : ¬ ((E ≤ (x 0).val ∧ (x 0).val < E + 16 * R) ∧ 512 * n.val ≤ (x 1).val ∧ (x 1).val < 512 * n.val + 512)) :
    stepG c n s T E R tile Y x = Y x := by
  unfold stepG
  by_cases hc : 512 * n.val ≤ (x 1).val ∧ (x 1).val < 512 * n.val + 512
  · rw [if_pos hc, if_neg (fun e => h3 ⟨e, hc⟩), if_neg (fun e => h4 ⟨e, hc⟩)]
  · rw [if_neg hc]

theorem off_rest (s T E R : Nat) (hE : s + 512 * T ≤ E) (hR : E + 16 * R ≤ 18432) (x : S18432x5632.Idx)
    (h1 : ¬ x ∈ tilesSet c n s T) (h2 : ¬ x ∈ piecesSet c n E R) (tile : Nat → Vec F S512x512 .bf16) (Y : YBuf (F := F) c) :
    Y x = stepG c n s T E R tile Y x :=
  (stepG_off c n s T E R tile Y x (fun e => h1 ((mem_tilesSet c n s T (le_trans hE (le_trans (Nat.le_add_right _ _) hR)) x).2 e)) (fun e => h2 ((mem_piecesSet c n E R hR x).2 e))).symm

theorem mem_rest (A B : Finset (YIdx c)) (x : YIdx c) (hx : x ∈ (Finset.univ \ A) \ B) : ¬ x ∈ A ∧ ¬ x ∈ B :=
  ⟨(Finset.mem_sdiff.1 (Finset.mem_sdiff.1 hx).1).2, (Finset.mem_sdiff.1 hx).2⟩

theorem stepG_rest (s T E R : Nat) (tile : Nat → Vec F S512x512 .bf16) (Y Y' : YBuf (F := F) c) (hE : s + 512 * T ≤ E) (hR : E + 16 * R ≤ 18432)
    (hY : ∀ x, stepG c n s T E R tile Y x = Y' x) :
    (yRest c n s T E R Y : sProp 𝕄) = yRest c n s T E R Y' :=
  pointsTo_congr fun x hx => (off_rest c n s T E R hE hR x (mem_rest c _ _ x hx).1 (mem_rest c _ _ x hx).2 tile Y).trans (hY x)

theorem start_tiles (G g : YBuf (F := F) c) (s T : Nat) : (Ring.AtW (ΦP c n G g s T) (fun _ => .todo) : sProp 𝕄) = bigSep Finset.univ (fun q : Fin T => yAt c n (s + 512 * q.val) g) := rfl
theorem done_tiles (G g : YBuf (F := F) c) (s T : Nat) : (Ring.AtW (ΦP c n G g s T) (fun _ => .done) : sProp 𝕄) = bigSep Finset.univ (fun q : Fin T => yAt c n (s + 512 * q.val) G) := rfl
theorem free_slot (n' : Fin 11) (G G' : YBuf (F := F) c) (j : Fin 2) : (ΦS c n G j .free : sProp 𝕄) = ΦS c n' G' j .free := by
  unfold ΦS; rfl
theorem free_slots (n' : Fin 11) (G G' : YBuf (F := F) c) : (Ring.AtW (ΦS c n G) (fun _ => .free) : sProp 𝕄) = Ring.AtW (ΦS c n' G') (fun _ => .free) := by
  unfold Ring.AtW
  exact congrArg _ (funext fun j => free_slot c n n' G G' j)

end Cert.MoeUp
-- ==== Proof.MoeUpAll.lean ====
module

public import proofs.«01_k».proof.Proof.MoeUpCut

/-! A grid step of the expert projection, as a step of the whole result array. -/

@[expose] public section

set_option maxRecDepth 16384
set_option maxHeartbeats 1600000

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

variable (c : Dev nD) (X : Buf (Elt F) ((xsrc 0).view.loc (c : Thread nD τ))) (𝒱 : Variants) (bd : Option 𝒱.V) (i : grid0.Coords)

theorem frame_cut {α : Type} {c : Dev nD} {𝒱 : Variants} {bd : Option 𝒱.V} {p : Prog (TpuEff nD τ sig (Elt F) _ .tc) α} {P R : sProp 𝕄} {Q Q' : α → sProp 𝕄}
    (h : P ⊢ wp frame (wpE (defs₀ (F := F)) 𝒱 (c : Thread nD τ) bd) Set.univ p Q) (hq : ∀ a, iprop(Q a ∗ R) ⊢ Q' a) : iprop(P ∗ R) ⊢ wp frame (wpE (defs₀ (F := F)) 𝒱 (c : Thread nD τ) bd) Set.univ p Q' := by
  iintro ⟨HP, HR⟩
  iapply (wp_wand_r frame (wpE (defs₀ (F := F)) 𝒱 (c : Thread nD τ) bd) (Q := Q))
  isplitl [HP]
  · iapply h; iexact HP
  iintro %a HQ
  iapply (hq a)
  isplitl [HQ]; · iexact HQ
  iexact HR

/-- What a step makes of the result array. -/
def stepY (s t : BitVec 32) (x1 x3 : Vec F S1x1x2048x512 .f32) (Y : YBuf (F := F) c) : YBuf (F := F) c :=
  stepG c (i 1) s.toNat t.toNat (endRow s t) (piecesOf i s t) (tileOf c X (k0_pay4 x1) (k0_pay5 x3)) Y

theorem bounds (s t : BitVec 32) (h : Seg s t) : s.toNat + 512 * t.toNat ≤ endRow s t ∧ endRow s t + 16 * piecesOf i s t ≤ 18432 := by
  have h1 := pieces_fit h
  have h2 := h.fits
  refine ⟨le_of_eq (endRow_eq s t).symm, ?_⟩
  unfold piecesOf
  split <;> omega

/-- What a step holds of the result array and of the row blocks on their way. -/
def Mid (Y : YBuf (F := F) c) (st : Fin 5 → LSt) : sProp 𝕄 :=
  iprop(((ywin 0 0).view.loc (c : Thread nD τ) ↦[Finset.univ]{fullShare} Y) ∗ Ring.AtW (ΦL c X) st ∗ Ring.AtW (ΦS c 0 Y) (fun _ => .free))

theorem step (qs qt : PosShare TreeShare) (fS : TabS (F := F) c) (fT : TabT (F := F) c) (s t s' t' : BitVec 32) (h : Seg s t) (h' : Seg s' t') (e e' : Fin 8) (he : (i 0).val = e.val) (he' : nextE (i 0).val (i 1).val = e'.val)
    (hs : startAt c fS e = s) (ht : tilesAt c fT e = t) (hs' : startAt c fS e' = s') (ht' : tilesAt c fT e' = t')
    (a5 a6 : Memref sig .tc .vmem S1x1x2048x512 .f32) {h2 : (Memref.whole main_v17).IsWhole} {h3 : (Memref.whole main_v22).IsWhole} {h4 : (Memref.whole main_v0).IsWhole} {h5 : a5.IsWhole} {h6 : a6.IsWhole} {h7 : (Memref.whole main_v23).IsWhole} {h8 : (Memref.whole cc0_scratch0).IsWhole} {h9 : (Memref.whole cc0_scratch1).IsWhole} {h10 : (Memref.whole cc0_scratch2).IsWhole} {h11 : (Memref.whole cc0_scratch3).IsWhole} {h12 : (Memref.whole cc0_scratch4).IsWhole} (q5 q6 : PosShare TreeShare) (x1 x3 : Vec F S1x1x2048x512 .f32)
    (Y : YBuf (F := F) c) :
    iprop(Keep c a5 a6 q5 q6 qs qt x1 x3 fS fT ∗ Mid c X Y (stIn i s.toNat t.toNat))
      ⊢ wp frame (wpE (defs₀ (F := F)) 𝒱 (c : Thread nD τ) bd) Set.univ (k0_part7 (F := F) i (Memref.whole main_v17) h2 (Memref.whole main_v22) h3 (Memref.whole main_v0) h4 a5 h5 a6 h6 (Memref.whole main_v23) h7 (Memref.whole cc0_scratch0) h8 (Memref.whole cc0_scratch1) h9 (Memref.whole cc0_scratch2) h10 (Memref.whole cc0_scratch3) h11 (Memref.whole cc0_scratch4) h12 cc0_scratch5 cc0_scratch6 cc0_scratch7) (fun _ =>
        iprop(Keep c a5 a6 q5 q6 qs qt x1 x3 fS fT ∗ Mid c X (stepY c X i s t x1 x3 Y) (stOut i s'.toNat t'.toNat))) := by
  have hb := bounds i s t h
  have hf := h.fits
  have hr := stepG_rest c (i 1) s.toNat t.toNat (endRow s t) (piecesOf i s t) (tileOf c X (k0_pay4 x1) (k0_pay5 x3)) Y (stepY c X i s t x1 x3 Y) hb.1 hb.2 (fun _ => rfl)
  have c1 := (cut c (i 1) s.toNat t.toNat (endRow s t) (piecesOf i s t) hb.1 hb.2 Y).1
  have c2 := (cut c (i 1) s.toNat t.toNat (endRow s t) (piecesOf i s t) hb.1 hb.2 (stepY c X i s t x1 x3 Y)).2
  rw [hr] at c1
  rw [← start_tiles c (i 1) (stepY c X i s t x1 x3 Y) Y] at c1
  rw [← done_tiles c (i 1) (stepY c X i s t x1 x3 Y) Y] at c2
  have p := part7 c X (stepY c X i s t x1 x3 Y) Y 𝒱 bd i qs qt fS fT s t s' t' h h' e e' he he' hs ht hs' ht' a5 a6 (h2 := h2) (h3 := h3) (h4 := h4) (h5 := h5) (h6 := h6) (h7 := h7) (h8 := h8) (h9 := h9) (h10 := h10) (h11 := h11) (h12 := h12) q5 q6 x1 x3
    (fun q hq => stepG_tile c (i 1) _ _ _ _ _ Y hf q hq) (fun k hk => stepG_piece c (i 1) _ _ _ _ _ Y hb.1 hb.2 k hk)
  rw [free_slots c (i 1) 0 (stepY c X i s t x1 x3 Y) Y] at p
  unfold Mid
  rw [free_slots c 0 0 (stepY c X i s t x1 x3 Y) Y]
  iintro ⟨HK, HY, HL, HS⟩
  ihave HY := c1 $$ HY
  icases HY with ⟨HP, HZ, HR⟩
  iapply (frame_cut (R := yRest c (i 1) s.toNat t.toNat (endRow s t) (piecesOf i s t) (stepY c X i s t x1 x3 Y)) p (fun _ => ?fin))
  case fin =>
    iintro ⟨⟨HK, HL, HS, HP, HZ⟩, HR⟩
    isplitl [HK]; · iexact HK
    isplitl [HP HZ HR]
    · iapply c2
      isplitl [HP]; · iexact HP
      isplitl [HZ]; · iexact HZ
      iexact HR
    isplitl [HL]; · iexact HL
    iexact HS
  isplitl [HK HL HS HP HZ]
  · isplitl [HK]; · iexact HK
    isplitl [HL]; · iexact HL
    isplitl [HS]; · iexact HS
    isplitl [HP]; · iexact HP
    iexact HZ
  iexact HR

end Cert.MoeUp
-- ==== Proof.MoeUpEnds.lean ====
module

public import proofs.«01_k».proof.Proof.MoeUpAll
public import proofs.«01_k».proof.Proof.Gen.Kernel5Ideal.Launch
public import Idealize.ShloMosaic.Lib.Pipeline.FrameBody
public import Idealize.ShloMosaic.Lib.Pipeline.FrameValue
public import Idealize.ShloMosaic.Lib.Ring

/-! What the call is entered with and left with, in the parts its steps run over: the two slot buffers by their slots, the
    activations by the slots' read shares, the semaphores by their rings. -/

@[expose] public section

set_option maxRecDepth 16384
set_option maxHeartbeats 1600000

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

variable (c : Dev nD)

theorem sep8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem sep5 {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ
theorem sep2 {M : Type} [URA M] (Φ : Fin 2 → sProp M) : bigSep Finset.univ Φ = iprop(Φ 0 ∗ Φ 1) :=
  bigSep_univ_eq_bigSepL [(0 : Fin 2), 1] (by decide) (by decide) Φ

/-! ## The slot buffers -/

abbrev XBIdx := Idx ((xslot 0).view.loc (c : Thread nD τ))
abbrev OBIdx := Idx ((oslot 0).view.loc (c : Thread nD τ))
def xbset (j : Fin 5) : Finset (XBIdx c) := by exact (xslot j).view.set
def obset (j : Fin 2) : Finset (OBIdx c) := by exact (oslot j).view.set

theorem mem_xbset (j : Fin 5) (x : S5x512x2048.Idx) : Iff (x ∈ xbset c j) ((x 0).val = j.val) := by
  have e : xbset c j = ((Memref.whole cc0_scratch2).slice (Rect.unit (s := S5x512x2048) ![j.val, 0, 0] S1x512x2048.size (inb_xb _ j.isLt)) (fun _ => rfl)).view.set := Memref.set_view_squeeze _ _
  rw [e]
  refine ValueKit.mem_set_slice_whole_iff cc0_scratch2 _ x ?_
  rw [Rect.mem_set_unit]
  constructor
  · intro h
    have h0 := h 0
    have h1 : j.val ≤ (x 0).val := h0.1
    have h2 : (x 0).val < j.val + 1 := h0.2
    omega
  · intro h a
    have hx1 : (x 1).val < 512 := (x 1).isLt
    have hx2 : (x 2).val < 2048 := (x 2).isLt
    fin_cases a
    · exact ⟨le_of_eq h.symm, by show (x 0).val < j.val + 1; omega⟩
    · exact ⟨Nat.zero_le _, by show (x 1).val < 0 + 512; omega⟩
    · exact ⟨Nat.zero_le _, by show (x 2).val < 0 + 2048; omega⟩

theorem mem_obset (j : Fin 2) (x : S2x512x512.Idx) : Iff (x ∈ obset c j) ((x 0).val = j.val) := by
  have e : obset c j = ((Memref.whole cc0_scratch3).slice (Rect.unit (s := S2x512x512) ![j.val, 0, 0] S1x512x512.size (inb_ob _ j.isLt)) (fun _ => rfl)).view.set := Memref.set_view_squeeze _ _
  rw [e]
  refine ValueKit.mem_set_slice_whole_iff cc0_scratch3 _ x ?_
  rw [Rect.mem_set_unit]
  constructor
  · intro h
    have h0 := h 0
    have h1 : j.val ≤ (x 0).val := h0.1
    have h2 : (x 0).val < j.val + 1 := h0.2
    omega
  · intro h a
    have hx1 : (x 1).val < 512 := (x 1).isLt
    have hx2 : (x 2).val < 512 := (x 2).isLt
    fin_cases a
    · exact ⟨le_of_eq h.symm, by show (x 0).val < j.val + 1; omega⟩
    · exact ⟨Nat.zero_le _, by show (x 1).val < 0 + 512; omega⟩
    · exact ⟨Nat.zero_le _, by show (x 2).val < 0 + 512; omega⟩

theorem xb_disj (b b' : Fin 5) (h : b ≠ b') : Disjoint (xbset c b) (xbset c b') := by
  rw [Finset.disjoint_left]
  intro x h1 h2
  exact h (Fin.ext (((mem_xbset c b x).1 h1).symm.trans ((mem_xbset c b' x).1 h2)))
theorem ob_disj (b b' : Fin 2) (h : b ≠ b') : Disjoint (obset c b) (obset c b') := by
  rw [Finset.disjoint_left]
  intro x h1 h2
  exact h (Fin.ext (((mem_obset c b x).1 h1).symm.trans ((mem_obset c b' x).1 h2)))
theorem xb_univ : Finset.univ.biUnion (xbset c) = Finset.univ := by
  refine Finset.eq_univ_of_forall fun x => Finset.mem_biUnion.2 ?_
  exact ⟨⟨((x : S5x512x2048.Idx) 0).val, ((x : S5x512x2048.Idx) 0).isLt⟩, Finset.mem_univ _, (mem_xbset c _ x).2 rfl⟩
theorem ob_univ : Finset.univ.biUnion (obset c) = Finset.univ := by
  refine Finset.eq_univ_of_forall fun x => Finset.mem_biUnion.2 ?_
  exact ⟨⟨((x : S2x512x512.Idx) 0).val, ((x : S2x512x512.Idx) 0).isLt⟩, Finset.mem_univ _, (mem_obset c _ x).2 rfl⟩

theorem xb_in (f : Buf (Elt F) ((xslot 0).view.loc (c : Thread nD τ))) : ((xslot 0).view.loc (c : Thread nD τ) ↦[Finset.univ]{fullShare} f : sProp 𝕄) ⊢ bigSep Finset.univ (fun j : Fin 5 => slotAny (F := F) c j) := by
  rw [Ring.pointsTo_sub_blocks (I := xbset c) (xb_disj c) Finset.univ (xb_univ c) f]
  have h (j) : (((xslot 0).view.loc (c : Thread nD τ) ↦[xbset c j]{fullShare} f : sProp 𝕄)) ⊢ slotAny (F := F) c j := by
    iintro H
    iexists f
    iexact H
  exact bigSep_mono fun j _ => h j
theorem xb_out (f₀ : Buf (Elt F) ((xslot 0).view.loc (c : Thread nD τ))) : bigSep Finset.univ (fun j : Fin 5 => slotAny (F := F) c j) ⊢ (iprop(∃ f, (xslot 0).view.loc (c : Thread nD τ) ↦[Finset.univ]{fullShare} f) : sProp 𝕄) :=
  Ring.pointsTo_sub_blocks_join_exists (I := xbset c) (xb_disj c) Finset.univ (xb_univ c) f₀
theorem ob_in (f : Buf (Elt F) ((oslot 0).view.loc (c : Thread nD τ))) : ((oslot 0).view.loc (c : Thread nD τ) ↦[Finset.univ]{fullShare} f : sProp 𝕄) ⊢ bigSep Finset.univ (fun j : Fin 2 => oAny (F := F) c j) := by
  rw [Ring.pointsTo_sub_blocks (I := obset c) (ob_disj c) Finset.univ (ob_univ c) f]
  have h (j) : (((oslot 0).view.loc (c : Thread nD τ) ↦[obset c j]{fullShare} f : sProp 𝕄)) ⊢ oAny (F := F) c j := by
    iintro H
    iexists f
    iexact H
  exact bigSep_mono fun j _ => h j
theorem ob_out (f₀ : Buf (Elt F) ((oslot 0).view.loc (c : Thread nD τ))) : bigSep Finset.univ (fun j : Fin 2 => oAny (F := F) c j) ⊢ (iprop(∃ f, (oslot 0).view.loc (c : Thread nD τ) ↦[Finset.univ]{fullShare} f) : sProp 𝕄) :=
  Ring.pointsTo_sub_blocks_join_exists (I := obset c) (ob_disj c) Finset.univ (ob_univ c) f₀

/-! ## The rings, all slots free -/

abbrev semsL : sProp 𝕄 := bigSep Finset.univ (fun j : Fin 5 => semVal ((c : Thread nD τ), SemLoc.dma (cellL j)) 0)
abbrev semsS : sProp 𝕄 := bigSep Finset.univ (fun j : Fin 2 => semVal ((c : Thread nD τ), SemLoc.dma (cellS j)) 0)

theorem ringL (X : Buf (Elt F) ((xsrc 0).view.loc (c : Thread nD τ))) : (Ring.AtW (ΦL c X) (fun _ => .free) : sProp 𝕄)
    = iprop(semsL (F := F) c ∗ (bigSep Finset.univ (fun j : Fin 5 => slotAny (F := F) c j)) ∗ bigSep Finset.univ (fun j : Fin 5 => xtok c X j Finset.univ)) := by
  have e1 : bigSep Finset.univ (fun j : Fin 5 => iprop(slotAny (F := F) c j ∗ xtok c X j Finset.univ)) = iprop((bigSep Finset.univ (fun j : Fin 5 => slotAny (F := F) c j)) ∗ bigSep Finset.univ (fun j : Fin 5 => xtok c X j Finset.univ)) := bigSep_sep _ _ _
  have e2 : bigSep Finset.univ (fun j : Fin 5 => iprop(semVal ((c : Thread nD τ), SemLoc.dma (cellL j)) 0 ∗ slotAny (F := F) c j ∗ xtok c X j Finset.univ)) = iprop(semsL (F := F) c ∗ bigSep Finset.univ (fun j : Fin 5 => iprop(slotAny (F := F) c j ∗ xtok c X j Finset.univ))) := bigSep_sep _ _ _
  exact e2.trans (by rw [e1])
theorem ringS (G : YBuf (F := F) c) : (Ring.AtW (ΦS c 0 G) (fun _ => .free) : sProp 𝕄)
    = iprop(semsS (F := F) c ∗ bigSep Finset.univ (fun j : Fin 2 => oAny (F := F) c j)) := by
  exact bigSep_sep _ _ _

/-! ## The call's own semaphores -/

/-- The semaphores of the loads, of the stores, of the clearing. -/
def osem : Fin 8 → SemLoc sig
  | 0 => .dma (cellL 0) | 1 => .dma (cellL 1) | 2 => .dma (cellL 2) | 3 => .dma (cellL 3) | 4 => .dma (cellL 4)
  | 5 => .dma (cellS 0) | 6 => .dma (cellS 1) | 7 => cellZ

theorem osem_facts : Pipeline.OwnSemFacts spec0 osem := by decide

theorem osem_eq : (Pipeline.ownSems0 (Ix := Unit) (Name := ℕ) (U := Pipeline.UD sig nD τ) (Lvl := ℕ) (Val := Elt F) (τ := τ) osem c : sProp 𝕄)
    ⊣⊢ iprop(semsL (F := F) c ∗ semsS (F := F) c ∗ semVal ((c : Thread nD τ), cellZ) 0) := by
  unfold Pipeline.ownSems0 semsL semsS
  rw [sep8, sep5, sep2]
  simp only [osem]
  constructor
  · iintro ⟨H0, H1, H2, H3, H4, H5, H6, H7⟩
    isplitl [H0 H1 H2 H3 H4]
    · isplitl [H0]; · iexact H0
      isplitl [H1]; · iexact H1
      isplitl [H2]; · iexact H2
      isplitl [H3]; · iexact H3
      iexact H4
    isplitl [H5 H6]
    · isplitl [H5]; · iexact H5
      iexact H6
    iexact H7
  · iintro ⟨⟨H0, H1, H2, H3, H4⟩, ⟨H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## What the steps run over -/

/-- The part of the call's state that no step changes: the weight buffers, the zero buffer and its semaphore, what is left
    of the activations' shares, the generator register, the tables. -/
def Own (X : Buf (Elt F) ((xsrc 0).view.loc (c : Thread nD τ))) (fS : TabS (F := F) c) (fT : TabT (F := F) c) : sProp 𝕄 :=
  iprop((∃ w, W1At c w) ∗ (∃ w, W3At c w) ∗ semVal ((c : Thread nD τ), cellZ) 0 ∗ (∃ f, zbuf.view.loc (c : Thread nD τ) ↦[Finset.univ]{fullShare} f)
    ∗ ((xsrc 0).view.loc (c : Thread nD τ) ↦[Finset.univ]{Transfers.shareDrop fullShare 5} X) ∗ (∃ r, prngReg c r) ∗ tabS c fullShare.right fS ∗ tabT c fullShare.right fT)

/-- The buffers and semaphores the call is handed. -/
def Raw (X : Buf (Elt F) ((xsrc 0).view.loc (c : Thread nD τ))) (Y : YBuf (F := F) c) : sProp 𝕄 :=
  iprop(((∃ w, W1At c w) ∗ (∃ w, W3At c w) ∗ (∃ f, (xslot 0).view.loc (c : Thread nD τ) ↦[Finset.univ]{fullShare} f) ∗ (∃ f, (oslot 0).view.loc (c : Thread nD τ) ↦[Finset.univ]{fullShare} f)
      ∗ (∃ f, zbuf.view.loc (c : Thread nD τ) ↦[Finset.univ]{fullShare} f))
    ∗ (∃ r, prngReg c r) ∗ (Pipeline.ownSems0 (Ix := Unit) (Name := ℕ) (U := Pipeline.UD sig nD τ) (Lvl := ℕ) (Val := Elt F) (τ := τ) osem c)
    ∗ ((xsrc 0).view.loc (c : Thread nD τ) ↦[Finset.univ]{fullShare} X) ∗ ((ywin 0 0).view.loc (c : Thread nD τ) ↦[Finset.univ]{fullShare} Y))

theorem take_up (X : Buf (Elt F) ((xsrc 0).view.loc (c : Thread nD τ))) (Y : YBuf (F := F) c) (fS : TabS (F := F) c) (fT : TabT (F := F) c) :
    iprop(Raw c X Y ∗ tabS c fullShare.right fS ∗ tabT c fullShare.right fT) ⊢ iprop(Mid c X Y (fun _ => .free) ∗ Own c X fS fT) := by
  unfold Raw Mid Own
  rw [ringL, ringS]
  iintro ⟨⟨⟨HW1, HW3, ⟨%fx, Hx⟩, ⟨%fo, Ho⟩, Hz⟩, Hg, Hs, HX, HY⟩, HS, HT⟩
  ihave Hx := (xb_in c fx) $$ Hx
  ihave Ho := (ob_in c fo) $$ Ho
  ihave Hs := (osem_eq c).1 $$ Hs
  icases Hs with ⟨HsL, HsS, HsZ⟩
  ihave HX := (Transfers.pointsTo_toks_split fullShare 5) $$ HX
  icases HX with ⟨HXd, HXt⟩
  isplitl [HY HsL HsS Hx Ho HXt]
  · isplitl [HY]; · iexact HY
    isplitl [HsL Hx HXt]
    · isplitl [HsL]; · iexact HsL
      isplitl [Hx]; · iexact Hx
      iexact HXt
    isplitl [HsS]; · iexact HsS
    iexact Ho
  isplitl [HW1]; · iexact HW1
  isplitl [HW3]; · iexact HW3
  isplitl [HsZ]; · iexact HsZ
  isplitl [Hz]; · iexact Hz
  isplitl [HXd]; · iexact HXd
  isplitl [Hg]; · iexact Hg
  isplitl [HS]; · iexact HS
  iexact HT

theorem put_down (fx : Buf (Elt F) ((xslot 0).view.loc (c : Thread nD τ))) (fo : Buf (Elt F) ((oslot 0).view.loc (c : Thread nD τ)))
    (X : Buf (Elt F) ((xsrc 0).view.loc (c : Thread nD τ))) (Y : YBuf (F := F) c) (fS : TabS (F := F) c) (fT : TabT (F := F) c) :
    iprop(Mid c X Y (fun _ => .free) ∗ Own c X fS fT) ⊢ Raw c X Y := by
  unfold Raw Mid Own
  rw [ringL, ringS]
  iintro ⟨⟨HY, ⟨HsL, Hx, HXt⟩, HsS, Ho⟩, HW1, HW3, HsZ, Hz, HXd, Hg, -, -⟩
  ihave Hx := (xb_out c fx) $$ Hx
  ihave Ho := (ob_out c fo) $$ Ho
  isplitl [HW1 HW3 Hx Ho Hz]
  · isplitl [HW1]; · iexact HW1
    isplitl [HW3]; · iexact HW3
    isplitl [Hx]; · iexact Hx
    isplitl [Ho]; · iexact Ho
    iexact Hz
  isplitl [Hg]; · iexact Hg
  isplitl [HsL HsS HsZ]
  · iapply (osem_eq c).2
    isplitl [HsL]; · iexact HsL
    isplitl [HsS]; · iexact HsS
    iexact HsZ
  isplitl [HXd HXt]
  · iapply (Transfers.pointsTo_toks_join fullShare 5)
    isplitl [HXd]; · iexact HXd
    iexact HXt
  iexact HY

end Cert.MoeUp
-- ==== Proof.MoeUpFrame.lean ====
module

public import proofs.«01_k».proof.Proof.MoeUpEnds
public import Idealize.ShloMosaic.Lib.Claim
public import Idealize.ShloMosaic.Lib.Quiescent
public import Idealize.ShloMosaic.Lib.StableHlo.RunRead

/-! The run of the expert projection: its 88 grid steps from the launch to the end, each taking the result array one step
    further, and the frame. -/

@[expose] public section

set_option maxRecDepth 16384
set_option maxHeartbeats 1600000

noncomputable section

namespace Cert.MoeUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the call -/

/-- The host's operations before the call: the cast of the rows, and the experts' first rows and row tiles. -/
abbrev hostOps : List (List (HloOp τ sig (Elt F))) := [hostOps0, hostOps0_1, hostOps0_2, hostOps0_3, hostOps0_4, hostOps0_5]

/-- The buffers when the call is entered. -/
abbrev V (c : Dev nD) (b : Ref sig .tc) : Buf (Elt F) ((c : Thread nD τ).loc b) := StableHlo.after (hostOps (F := F)).flatten (fun b => m (c, b)) b

theorem hostOps_fresh : (hostOps : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostOps ⟨hostOps0_sub, hostOps0_1_sub, hostOps0_2_sub, hostOps0_3_sub, hostOps0_4_sub, hostOps0_5_sub⟩ hostOps_fresh main_chain

theorem V_main_arg0 (c : Dev nD) : V m c main_arg0 = m ((c : Thread nD τ).loc main_arg0) := by
  unfold V hostOps; after_reads_simp
theorem V_main_arg1 (c : Dev nD) : V m c main_arg1 = m ((c : Thread nD τ).loc main_arg1) := by
  unfold V hostOps; after_reads_simp
theorem V_main_arg2 (c : Dev nD) : V m c main_arg2 = m ((c : Thread nD τ).loc main_arg2) := by
  unfold V hostOps; after_reads_simp
theorem V_main_arg3 (c : Dev nD) : V m c main_arg3 = m ((c : Thread nD τ).loc main_arg3) := by
  unfold V hostOps; after_reads_simp

/-! ## The tables and the windows' blocks -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem ok : ok0 (F := F) (tbl m) := trivial
abbrev adm : (pcfg0 (F := F)).Adm := ⟨tbl m, ok m⟩
abbrev cfgM : Pipeline.Cfg sig Λ₀ := cfg0 (adm m)

/-- The tables as the steps read them. -/
def fS (c : Dev nD) : TabS (F := F) c := V m c main_v17
def fT (c : Dev nD) : TabT (F := F) c := V m c main_v22

theorem PhiT0_eq (c : Dev nD) : (Pipeline.ΦT pre0 (tbl m) c : sProp 𝕄) = iprop(tabS c fullShare.right (fS m c) ∗ tabT c fullShare.right (fT m c)) := by
  unfold Pipeline.ΦT Pipeline.prefHeld
  rw [show (Finset.univ : Finset (Fin 2)) = insert (0 : Fin 2) {(1 : Fin 2)} from by decide,
    bigSep_insert (by decide), bigSep_singleton]
  obtain rfl : c = 0 := Subsingleton.elim _ _
  rfl

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin (cfgM m).N) : Memref sig .tc .vmem S1x1x2048x512 .f32 := spec0_0.stage ((cfgM m).slots t 0)
abbrev hs0_0 (t : Fin (cfgM m).N) := hstage0_0 (((cfgM m).slots t 0).cast nbuf0_0)
abbrev ms0_1 (t : Fin (cfgM m).N) : Memref sig .tc .vmem S1x1x2048x512 .f32 := spec0_1.stage ((cfgM m).slots t 1)
abbrev hs0_1 (t : Fin (cfgM m).N) := hstage0_1 (((cfgM m).slots t 1).cast nbuf0_1)

/-- The body at point `t`. -/
abbrev bodyAt0 (t : Fin (cfgM m).N) : Prog (TpuEff nD τ sig (Elt F) Λ₀ .tc) PUnit :=
  cc0_moe_up (grid0.coords t) (Memref.whole main_v17) (Memref.isWhole_whole _) (Memref.whole main_v22) (Memref.isWhole_whole _) (Memref.whole main_v0) (Memref.isWhole_whole _) (ms0_0 m t) (hs0_0 m t) (ms0_1 m t) (hs0_1 m t) (Memref.whole main_v23) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7

/-! ## The expert of a step, and what the steps make of the result -/

def eAt (n : ℕ) : Fin 8 := ⟨min (n / 11) 7, by omega⟩

theorem c0 (t : Fin grid0.N) : (grid0.coords t 0).val = t.val / 11 := by
  have h : t.val < 88 := lt_of_lt_of_eq t.isLt N_0
  have e : (grid0.coords t 0).val = t.val / 11 % 8 := Pipeline.Grid.coords_val t 0 (by decide) rfl
  omega
theorem c1 (t : Fin grid0.N) : (grid0.coords t 1).val = t.val % 11 := by
  have e : (grid0.coords t 1).val = t.val / 1 % 11 := Pipeline.Grid.coords_val t 1 (by decide) rfl
  omega

/-- The rows an expert starts at, and its number of row tiles. -/
def sOf (c : Dev nD) (n : ℕ) : BitVec 32 := startAt c (fS m c) (eAt n)
def tOf (c : Dev nD) (n : ℕ) : BitVec 32 := tilesAt c (fT m c) (eAt n)

def XX (c : Dev nD) : Buf (Elt F) ((xsrc 0).view.loc (c : Thread nD τ)) := V m c main_v0

/-- The two weight blocks of a step. -/
def w1B (c : Dev nD) (t : Fin (cfgM m).N) : Vec F S1x1x2048x512 .f32 := iblk m c 0 t
def w3B (c : Dev nD) (t : Fin (cfgM m).N) : Vec F S1x1x2048x512 .f32 := iblk m c 1 t

/-- The result array before step `n`. -/
def YY (c : Dev nD) : ℕ → YBuf (F := F) c
  | 0 => V m c main_v23
  | n + 1 => if h : n < grid0.N then stepY c (XX m c) (grid0.coords ⟨n, h⟩) (sOf m c n) (tOf m c n) (w1B m c ⟨n, h⟩) (w3B m c ⟨n, h⟩) (YY c n) else YY c n

theorem YY_succ (c : Dev nD) (t : Fin grid0.N) : YY m c (t.val + 1) = stepY c (XX m c) (grid0.coords t) (sOf m c t.val) (tOf m c t.val) (w1B m c t) (w3B m c t) (YY m c t.val) := by
  rw [YY, dif_pos t.isLt]

/-- The row blocks on their way before step `n`. -/
def stAt (c : Dev nD) (n : ℕ) : Fin 5 → LSt := if n = 0 ∨ 88 ≤ n then fun _ => .free else stI (sOf m c n).toNat (tOf m c n).toNat 1

theorem stAt_in (c : Dev nD) (t : Fin grid0.N) : stAt m c t.val = stIn (grid0.coords t) (sOf m c t.val).toNat (tOf m c t.val).toNat := by
  have h : t.val < 88 := lt_of_lt_of_eq t.isLt N_0
  unfold stAt stIn
  rw [c0, c1]
  by_cases hz : t.val = 0
  · rw [if_pos (Or.inl hz), if_pos ⟨by omega, by omega⟩]
  · rw [if_neg (by omega), if_neg (by omega)]
theorem stAt_out (c : Dev nD) (t : Fin grid0.N) : stAt m c (t.val + 1) = stOut (grid0.coords t) (sOf m c (t.val + 1)).toNat (tOf m c (t.val + 1)).toNat := by
  have h : t.val < 88 := lt_of_lt_of_eq t.isLt N_0
  unfold stAt stOut
  rw [c0, c1]
  by_cases hz : t.val = 87
  · rw [if_pos (Or.inr (by omega)), if_pos ⟨by omega, by omega⟩]
  · rw [if_neg (by omega), if_neg (by omega)]

/-- The call's state before step `n`. -/
def PhiN (c : Dev nD) (n : ℕ) : sProp 𝕄 :=
  iprop(Mid c (XX m c) (YY m c n) (stAt m c n) ∗ Own c (XX m c) (fS m c) (fT m c))

/-- The pipeline's proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨_ + 2, h⟩ => absurd h (Nat.not_lt.2 (Nat.le_add_left _ _))
  Φ t := PhiN m c t.val
  q w := Pipeline.shareOf spec0 w
  owed _ := 0

theorem A_eq (c : Dev nD) (w : Fin (cfgM m).W) : (dats m 0 c).A w = V m c (Pipeline.arrRef spec0 w) := by
  dsimp only [dats]

theorem before0_0 (c : Dev nD) (t : Fin (cfgM m).N) (d) : (dats m 0 c).before 0 t d = w1B m c t :=
  before0_0_of m (dats m 0 c) (A_eq m c 0) (fun _ => rfl) t d
theorem before0_1 (c : Dev nD) (t : Fin (cfgM m).N) (d) : (dats m 0 c).before 1 t d = w3B m c t :=
  before0_1_of m (dats m 0 c) (A_eq m c 1) (fun _ => rfl) t d

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem owes_out (c : Dev nD) (t : Fin ((cfgM m).N + 1)) : (dats m 0 c).owesAt () t ⊢ (iprop(∃ W, owes (c : Thread nD τ) 0 W) : sProp 𝕄) := by
  show iprop(∃ W, ⌜_⌝ ∗ owes (c : Thread nD τ) 0 W) ⊢ _
  iintro ⟨%W, -, H⟩
  iexists W
  iexact H
theorem owes_in (c : Dev nD) (t : Fin ((cfgM m).N + 1)) : (iprop(∃ W, owes (c : Thread nD τ) 0 W) : sProp 𝕄) ⊢ (dats m 0 c).owesAt () t := by
  show _ ⊢ iprop(∃ W, ⌜_⌝ ∗ owes (c : Thread nD τ) 0 W)
  iintro ⟨%W, H⟩
  iexists W
  isplitr
  · ipureintro
    exact fun _ _ => Or.inl trivial
  iexact H

/-- What the experts' segments satisfy. -/
def Segs (c : Dev nD) : Prop := ∀ e, Seg (startAt c (fS m c) e) (tilesAt c (fT m c) e)

set_option maxHeartbeats 3200000 in
theorem sound_step (c : Dev nD) (hseg : Segs m c) (t : Fin (cfgM m).N) :
    iprop(Keep c (ms0_0 m t) (ms0_1 m t) fullShare fullShare fullShare.right fullShare.right (w1B m c t) (w3B m c t) (fS m c) (fT m c) ∗ Mid c (XX m c) (YY m c t.val) (stAt m c t.val))
      ⊢ wp frame (wpE (defs₀ (F := F)) Variants.none c none) Set.univ (bodyAt0 m t) (fun _ =>
        iprop(Keep c (ms0_0 m t) (ms0_1 m t) fullShare fullShare fullShare.right fullShare.right (w1B m c t) (w3B m c t) (fS m c) (fT m c) ∗ Mid c (XX m c) (YY m c (t.val + 1)) (stAt m c (t.val + 1)))) := by
  have hN : t.val < 88 := lt_of_lt_of_eq t.isLt N_0
  rw [stAt_in, stAt_out, YY_succ]
  have he' : nextE (grid0.coords t 0).val (grid0.coords t 1).val = (eAt (t.val + 1)).val := by
    rw [nextE_eq, c0, c1]
    show _ = min ((t.val + 1) / 11) 7
    split <;> omega
  have he : (grid0.coords t 0).val = (eAt t.val).val := by
    rw [c0]
    show _ = min (t.val / 11) 7
    omega
  have h := step c (XX m c) Variants.none none (grid0.coords t) fullShare.right fullShare.right (fS m c) (fT m c) (sOf m c t.val) (tOf m c t.val) (sOf m c (t.val + 1)) (tOf m c (t.val + 1))
    (hseg _) (hseg _) (eAt t.val) (eAt (t.val + 1)) he he' rfl rfl rfl rfl (ms0_0 m t) (ms0_1 m t)
    (h2 := Memref.isWhole_whole _) (h3 := Memref.isWhole_whole _) (h4 := Memref.isWhole_whole _) (h5 := hs0_0 m t) (h6 := hs0_1 m t) (h7 := Memref.isWhole_whole _) (h8 := Memref.isWhole_whole _) (h9 := Memref.isWhole_whole _) (h10 := Memref.isWhole_whole _) (h11 := Memref.isWhole_whole _) (h12 := Memref.isWhole_whole _)
    fullShare fullShare (w1B m c t) (w3B m c t) (YY m c t.val)
  refine h.trans ?_
  unfold bodyAt0 cc0_moe_up
  simp only [wp_bind]
  iintro H
  iapply (wp_wand_r frame (wpE (defs₀ (F := F)) Variants.none c none))
  isplitl [H]; · iexact H
  iintro %a HQ
  sl_step
  iexact HQ

set_option maxHeartbeats 1600000 in
theorem sound_body (c : Dev nD) (hseg : Segs m c) (t : Fin (cfgM m).N) :
    bodyPre m c t ⊢ wp frame (wpE (defs₀ (F := F)) Variants.none c none) Set.univ (bodyAt0 m t) (fun _ => bodyPost m c t) := by
  have h := frame_cut (R := iprop(((xsrc 0).view.loc (c : Thread nD τ) ↦[Finset.univ]{Transfers.shareDrop fullShare 5} XX m c) ∗ (∃ r, prngReg c r))) (Q' := fun _ => bodyPost m c t) (sound_step m c hseg t) (fun _ => by
    unfold bodyPost Keep
    rw [show (dats m 0 c).Φ t.succ = PhiN m c (t.val + 1) from rfl, show (dats m 0 c).after 0 t = w1B m c t from rfl, show (dats m 0 c).after 1 t = w3B m c t from rfl]
    unfold PhiN Own
    iintro ⟨⟨⟨H5, H6, HW1, HW3, HS, HT, HsZ, Hz, Ho⟩, HM⟩, HX, Hg⟩
    ihave Ho := (owes_in m c t.succ) $$ Ho
    isplitl [HM HW1 HW3 HsZ Hz HX Hg HS HT]
    · isplitl [HM]; · iexact HM
      isplitl [HW1]; · iexact HW1
      isplitl [HW3]; · iexact HW3
      isplitl [HsZ]; · iexact HsZ
      isplitl [Hz]; · iexact Hz
      isplitl [HX]; · iexact HX
      isplitl [Hg]; · iexact Hg
      isplitl [HS]; · iexact HS
      iexact HT
    isplitl [Ho]; · iexact Ho
    isplitl [H5]; · iexact H5
    iexact H6)
  have h0 : bodyPre m c t ⊢ iprop((Keep c (ms0_0 m t) (ms0_1 m t) fullShare fullShare fullShare.right fullShare.right (w1B m c t) (w3B m c t) (fS m c) (fT m c) ∗ Mid c (XX m c) (YY m c t.val) (stAt m c t.val)) ∗ ((xsrc 0).view.loc (c : Thread nD τ) ↦[Finset.univ]{Transfers.shareDrop fullShare 5} XX m c) ∗ (∃ r, prngReg c r)) := by
    unfold bodyPre Keep
    simp only [before0_0, before0_1]
    rw [show (dats m 0 c).Φ t.castSucc = PhiN m c t.val from rfl]
    unfold PhiN Own
    iintro ⟨⟨HM, HW1, HW3, HsZ, Hz, HX, Hg, HS, HT⟩, Ho, ⟨%d0, H5⟩, ⟨%d1, H6⟩⟩
    ihave Ho := (owes_out m c t.castSucc) $$ Ho
    isplitl [HM HW1 HW3 HsZ Hz HS HT Ho H5 H6]
    · isplitl [HW1 HW3 HsZ Hz HS HT Ho H5 H6]
      · isplitl [H5]; · iexact H5
        isplitl [H6]; · iexact H6
        isplitl [HW1]; · iexact HW1
        isplitl [HW3]; · iexact HW3
        isplitl [HS]; · iexact HS
        isplitl [HT]; · iexact HT
        isplitl [HsZ]; · iexact HsZ
        isplitl [Hz]; · iexact Hz
        iexact Ho
      iexact HM
    isplitl [HX]; · iexact HX
    iexact Hg
  exact h0.trans h

theorem defs₀_row (t : Fin (cfgM m).N) : defs₀ (F := F) .tc (cfgM m).body ((cfgM m).bodyArgs t ((cfgM m).slots t)) = bodyAt0 m t := by
  unfold defs₀; rw [Defs.onTc_tc]

theorem body_obligation (c : Dev nD) (hseg : Segs m c) : BodyObligation (dats (F := F) m 0 c) (defs₀ (F := F)) Variants.none () Set.univ := fun t => by
  rw [bigSep_W0, bigSep_W0, defs₀_row m]
  exact triple_restated (sound_body m c hseg t) rfl .rfl fun _ => .rfl

/-! ## The run and the frame -/

/-- The array the call leaves in each buffer it writes. -/
def GG (c : Dev nD) (b : Ref sig .tc) : Buf (Elt F) ((c : Thread nD τ).loc b) :=
  if h : b = main_v23 then h ▸ (YY m c 88 : Buf (Elt F) ((c : Thread nD τ).loc main_v23)) else V m c b

theorem GG_result (c : Dev nD) : GG m c main_v23 = YY m c 88 := by unfold GG; rw [dif_pos rfl]

theorem raw_eq (c : Dev nD) (W : (c : Dev nD) → (b : Ref sig .tc) → Buf (Elt F) ((c : Thread nD τ).loc b)) : (Pipeline.ΦDRG osem spec0 {main_v0} {main_v23} (V m) W c : sProp 𝕄) = Raw c (XX m c) (W c main_v23) := by
  rw [Pipeline.ΦDRG_eq, scopedRest0_eq, bigSep_singleton, Pipeline.routed, bigSep_singleton]
  rfl

theorem enter (c : Dev nD) : iprop(Pipeline.ΦDRG osem spec0 {main_v0} {main_v23} (V m) (V m) c ∗ Pipeline.ΦT pre0 (tbl m) c) ⊢ (dats m 0 c).Φ 0 := by
  rw [raw_eq, PhiT0_eq, show (dats m 0 c).Φ 0 = PhiN m c 0 from rfl]
  unfold PhiN
  rw [show stAt m c 0 = fun _ => .free from if_pos (Or.inl rfl)]
  exact take_up c (XX m c) (V m c main_v23) (fS m c) (fT m c)

theorem leave (c : Dev nD) : (dats m 0 c).Φ (Fin.last (cfgM m).N) ⊢ Pipeline.ΦDRG osem spec0 {main_v0} {main_v23} (V m) (GG m) c := by
  rw [raw_eq, GG_result, show (dats m 0 c).Φ (Fin.last (cfgM m).N) = PhiN m c grid0.N from rfl, N_0]
  unfold PhiN
  rw [show stAt m c 88 = fun _ => .free from if_pos (Or.inr le_rfl)]
  exact put_down c (V m c cc0_scratch2) (V m c cc0_scratch3) (XX m c) (YY m c 88) (fS m c) (fT m c)

set_option backward.isDefEq.respectTransparency.types false in
/-- Every fair run ends with the result array as the last step leaves it and every counter at zero. -/
theorem run (hseg : ∀ c, Segs m c) : θ_run defs (onTc (τ := τ) (main (F := F))) (s₀ m ρ) (fun r => (Pipeline.FramePostRG (Pipeline.pin pcfgs fun _ => adm m) (dats m) 0 {main_v23} (V m) (GG m)) r ∧ r.2.sem = fun _ => 0) :=
  Pipeline.θ_run_frameP_dmaRG (Q' := _) pcfgs (fun _ => adm m) (dats m) (0 : Fin 1) launch0 osem defs₀ Variants.none
    (ho := osem_facts) (H := {main_v0}) (R := {main_v23}) (hH := (by decide : {main_v0} ⊆ Pipeline.restRefsP sig pre0 spec0)) (hR := (by decide : {main_v23} ⊆ Pipeline.restRefsP sig pre0 spec0 \ {main_v0})) (m := m) (g := ρ) (main := main)
    (hbody := fun c => (body_obligation m c (hseg c)).loose) (hshare := fun c w => by
      unfold Dat.share
      split
      · rfl
      · exact Pipeline.shareOf_eq_fullShare_of_injective _ winFacts0.arr_inj w)
    (howed := fun _ _ => rfl) (V := V m) (hmain := hmain m Variants.none) (hA := A_eq m) (hpf := V_pre m)
    (G := GG m) (hin := enter m) (hout := leave m)

theorem frame (hseg : ∀ c, Segs m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1.1 c).2 main_arg0 (by decide : main_arg0 ∈ Pipeline.restRefs sig spec0 \ {main_v23})).trans (V_main_arg0 m c),
      (((h.1.1 c).1 0).trans ((dats m 0 c).arrAt_in 0 rfl _)).trans (V_main_arg1 m c),
      (((h.1.1 c).1 1).trans ((dats m 0 c).arrAt_in 1 rfl _)).trans (V_main_arg2 m c),
      ((h.1.1 c).2 main_arg3 (by decide : main_arg3 ∈ Pipeline.restRefs sig spec0 \ {main_v23})).trans (V_main_arg3 m c)⟩, h.2⟩) (run m ρ hseg)

end Cert.MoeUp
-- ==== Proof.MoeUpPre.lean ====
module

public import proofs.«01_k».proof.Proof.MoeUpWords
public import Idealize.ShloMosaic.Lib.StableHlo.Predicate
public import Idealize.ShloMosaic.Lib.Routing.OpsOne
public import Idealize.ShloMosaic.Lib.Tactic
public import Idealize.ShloMosaic.Lib.Pointwise.Index
public import Idealize.ShloMosaic.Lib.Pointwise

/-! The rows of the experts: how many rows choose an expert, where its rows begin and how many row tiles they take; and the
    words that hold these numbers. -/

@[expose] public section

set_option maxRecDepth 16384

noncomputable section

namespace Cert.MoeUp

open Idealize.ShloMosaic Idealize.ShloMosaic.TcCoe Idealize.ShloMosaic.Tactic

/-- The experts that the rows choose. -/
abbrev Choices := (⟨1, ![17408]⟩ : Shape).Idx → BitVec 32

variable (x : Choices)

/-! ## The numbers -/

/-- How many rows choose expert `n`. -/
def picks (n : ℕ) : ℕ := (Finset.univ.filter (fun p : Fin 17408 => x (ix1 p) = BitVec.ofNat 32 n)).card

/-- The rows that expert `n` takes: whole groups of sixteen. -/
def taken (n : ℕ) : ℕ := (picks x n + 15) / 16 * 16

/-- The row tiles of expert `n`. -/
def tilesOf (n : ℕ) : ℕ := (picks x n + 511) / 512

/-- The row that expert `n` begins at. -/
def first : ℕ → ℕ
  | 0 => 0
  | n + 1 => first n + taken x n

theorem picks_sum (n : ℕ) (hn : n ≤ 8) : ∑ i ∈ Finset.range n, picks x i ≤ 17408 := by
  unfold picks
  rw [← Finset.card_biUnion]
  · exact (Finset.card_le_univ _).trans (by rw [Fintype.card_fin])
  · intro a ha b hb hab
    have ha' : a < n := Finset.mem_range.1 ha
    have hb' : b < n := Finset.mem_range.1 hb
    refine Finset.disjoint_filter.2 fun p _ h1 h2 => hab ?_
    have h3 := congrArg BitVec.toNat (h1.symm.trans h2)
    rw [BitVec.toNat_ofNat, BitVec.toNat_ofNat] at h3
    omega

theorem first_le (n : ℕ) : first x n ≤ (∑ i ∈ Finset.range n, picks x i) + 15 * n := by
  induction n with
  | zero => exact Nat.zero_le _
  | succ n ih =>
    rw [Finset.sum_range_succ]
    have : first x (n + 1) = first x n + (picks x n + 15) / 16 * 16 := rfl
    omega

theorem picks_le (n : ℕ) : picks x n ≤ 17408 := (Finset.card_le_univ _).trans (by rw [Fintype.card_fin])

theorem first_dvd (n : ℕ) : 16 ∣ first x n := by
  induction n with
  | zero => exact Nat.dvd_zero _
  | succ n ih => exact Nat.dvd_add ih (Nat.dvd_mul_left _ _)

theorem first_fits (n : ℕ) (hn : n < 8) : first x n + 512 * tilesOf x n ≤ 18432 := by
  have h1 := first_le x n; have h2 := picks_sum x (n + 1) (by omega)
  rw [Finset.sum_range_succ] at h2
  unfold tilesOf
  omega

theorem first_small (n : ℕ) (hn : n ≤ 8) : first x n ≤ 18432 := by
  have h1 := first_le x n; have h2 := picks_sum x n hn
  omega

theorem tilesOf_le (n : ℕ) : tilesOf x n ≤ 36 := by
  have := picks_le x n
  unfold tilesOf
  omega

theorem first_reach (n : ℕ) : first x (n + 1) ≤ first x n + 512 * tilesOf x n := by
  have : first x (n + 1) = first x n + (picks x n + 15) / 16 * 16 := rfl
  unfold tilesOf
  omega

/-- The two tables: the first rows, and the row tiles. -/
structure Tables (f g : (⟨1, ![8]⟩ : Shape).Idx → BitVec 32) : Prop where
  first (e : Fin 8) : (f (ix1 e)).toNat = first x e.val
  tiles (e : Fin 8) : (g (ix1 e)).toNat = tilesOf x e.val

/-! ## The words -/

/-- The quotient of two words rounded down, as it is printed. -/
def quot (a v : BitVec 32) : BitVec 32 :=
  let sgn (b : BitVec 32) : BitVec 32 := if b = 0 then 0 else if b.msb then -1 else 1
  if IntOp.andi (IntOp.cmpi .ne (sgn a) (sgn v)) (IntOp.cmpi .ne (IntOp.remsi .host a v) 0#32) = 1#1 then IntOp.subi (IntOp.divsi .host a v) 1#32 else IntOp.divsi .host a v

theorem quot_at (a : BitVec 32) (ha : a.toNat < 2147483648) (v : ℕ) (hv : 0 < v) (hv' : v < 2147483648) :
    (quot a (BitVec.ofNat 32 v)).toNat = a.toNat / v := by
  have hvn : (BitVec.ofNat 32 v).toNat = v := by rw [BitVec.toNat_ofNat]; omega
  have ma : a.msb = false := by rw [BitVec.msb_eq_decide]; exact decide_eq_false (by omega)
  have mv : (BitVec.ofNat 32 v).msb = false := by rw [BitVec.msb_eq_decide, hvn]; exact decide_eq_false (by omega)
  have hd : (IntOp.divsi .host a (BitVec.ofNat 32 v)).toNat = a.toNat / v := by
    rw [IntOp.divsi, if_neg (IntOp.not_corner_of_pos (by rw [BitVec.toInt_eq_toNat_of_lt (by omega)]; omega)), BitVec.sdiv_eq, ma, mv]
    show (a / BitVec.ofNat 32 v).toNat = _
    rw [BitVec.toNat_udiv, hvn]
  have hr : (IntOp.remsi .host a (BitVec.ofNat 32 v)).toNat = a.toNat % v := IntOp.toNat_remsi .host (by omega) v (by omega) (by omega)
  unfold quot
  rw [if_neg, hd]
  intro h
  obtain ⟨h1, h2⟩ := IntOp.andi_eq_one.1 h
  have h1 := IntOp.cmpi_ne.1 h1
  have h2 := IntOp.cmpi_ne.1 h2
  have zv : BitVec.ofNat 32 v ≠ 0 := by intro h; rw [h] at hvn; have : (0 : BitVec 32).toNat = 0 := rfl; omega
  by_cases za : a = 0
  · apply h2
    apply BitVec.eq_of_toNat_eq
    rw [hr, za]
    exact Nat.zero_mod _
  · apply h1
    simp only [za, zv, ma, mv, if_false, Bool.false_eq_true]

end Cert.MoeUp

end
-- ==== Proof.MoeUpTables.lean ====
/- The experts' tables, as the host's operations make them of the experts' numbers. -/
module

public import proofs.«01_k».proof.Proof.MoeUpFrame
public import proofs.«01_k».proof.Proof.MoeUpPre
public import Idealize.ShloMosaic.Lib.StableHlo.ReadAt
public import Idealize.ShloMosaic.Lib.Routing.Ops

@[expose] public section

set_option maxRecDepth 16384

noncomputable section

namespace Cert.MoeUp

open Idealize.ShloMosaic Idealize.ShloMosaic.TcCoe Idealize.ShloMosaic.Tactic
open Cert.Kernel5Ideal Cert.Kernel5Ideal.Gen

variable {F : FTy → Type} [FloatOps F]
variable (m : (ℓ : Loc nD τ sig) → Buf (Elt F) ℓ)

/-- The number of rows that choose each expert, as the host counts them. -/
def countsH (x : Choices) : IVec S8 32 :=
  Host.reduce IntOp.addi (extui 32 (cmpi .eq (broadcastInDim S17408x8 ![0, 1] bcast_S17408x1_S17408x8_0_1 (broadcastInDim S17408x1 ![0] bcast_S17408_S17408x1_0 x))
    (broadcastInDim S17408x8 ![0, 1] bcast_S1x8_S17408x8_0_1 (broadcastInDim S1x8 ![1] bcast_S8_S1x8_1 (iotaInDim S8 32 0)))) natLt_1_32)
    (constantI S_ 32 0#32) reducesTo_S17408x8_S8_d0 h_S_

/-- Each expert's rows, as the host makes them of the counts. -/
def takenH (y : IVec S8 32) : IVec S8 32 := fun i => quot (y i + 16#32 - 1#32) 16#32 * 16#32

set_option maxHeartbeats 800000 in
theorem V_first (c : Dev nD) : V m c main_v17 = subi (Host.reduceWindow IntOp.addi ![8] ![1] ![7] ![0] (takenH (countsH (m ((c : Thread nD τ).loc main_arg3))))
    (broadcastInDim S_ ![] bcast_S_S_ (constantI S_ 32 0#32)) reduceWindows_S8_S8_w8s1p7_0 h_S_) (takenH (countsH (m ((c : Thread nD τ).loc main_arg3)))) := by
  unfold V hostOps
  after_reads_simp
  simp -implicitDefEqProofs only [StableHlo.TRef.toBuf, StableHlo.TRef.ofBuf, cast_cast, cast_eq, id_eq]
  rw [← countsH]
  generalize countsH _ = y
  refine congrArg₂ (fun a b : IVec S8 32 => subi (Host.reduceWindow IntOp.addi ![8] ![1] ![7] ![0] a (broadcastInDim S_ ![] bcast_S_S_ (constantI S_ 32 0#32)) reduceWindows_S8_S8_w8s1p7_0 h_S_) b) ?_ ?_ <;> (funext i; rfl)
set_option maxHeartbeats 800000 in
theorem V_tiles (c : Dev nD) : V m c main_v22 = fun i => quot (countsH (m ((c : Thread nD τ).loc main_arg3)) i + 512#32 - 1#32) 512#32 := by
  unfold V hostOps
  after_reads_simp
  simp -implicitDefEqProofs only [StableHlo.TRef.toBuf, StableHlo.TRef.ofBuf, cast_cast, cast_eq, id_eq]
  rw [← countsH]
  generalize countsH _ = y
  funext i
  rfl

theorem countsH_at (x : Choices) (e : Fin 8) : (countsH x (ix1 e)).toNat = picks x e.val := by
  unfold countsH
  rw [StableHlo.Predicate.toNat_reduce_count_rows (by decide)]
  unfold picks
  refine congrArg Finset.card (Finset.filter_congr fun p _ => ?_)
  have h : ∀ q : Fin 8, (broadcastInDim S17408x8 ![0, 1] bcast_S17408x1_S17408x8_0_1 (broadcastInDim S17408x1 ![0] bcast_S17408_S17408x1_0 x)) (ix2 p q)
        = (broadcastInDim S17408x8 ![0, 1] bcast_S1x8_S17408x8_0_1 (broadcastInDim S1x8 ![1] bcast_S8_S1x8_1 (iotaInDim S8 32 0))) (ix2 p q)
      ↔ x (ix1 p) = BitVec.ofNat 32 q.val := by
    intro q
    pointwise
  have hi : StableHlo.Predicate.ij p e = ix2 p e := Routing.ij_eq_ix2 p e
  refine IntOp.cmpi_eq.trans ?_
  refine Iff.trans (Eq.to_iff ?_) (h e)
  exact congrArg (fun j : S17408x8.Idx => (broadcastInDim S17408x8 ![0, 1] bcast_S17408x1_S17408x8_0_1 (broadcastInDim S17408x1 ![0] bcast_S17408_S17408x1_0 x)) j
    = (broadcastInDim S17408x8 ![0, 1] bcast_S1x8_S17408x8_0_1 (broadcastInDim S1x8 ![1] bcast_S8_S1x8_1 (iotaInDim S8 32 0))) j) hi

theorem takenH_at (x : Choices) (e : Fin 8) : takenH (countsH x) (ix1 e) = BitVec.ofNat 32 (taken x e.val) := by
  have h1 := countsH_at x e
  have hp := picks_le x e.val
  have h2 : (countsH x (ix1 e) + 16#32 - 1#32).toNat = picks x e.val + 15 := by
    rw [BitVec.toNat_sub, BitVec.toNat_add, h1]
    show (4294967296 - 1 + (picks x e.val + 16) % 4294967296) % 4294967296 = _
    omega
  have h3 : (quot (countsH x (ix1 e) + 16#32 - 1#32) 16#32).toNat = _ := quot_at _ (by omega) 16 (by decide) (by decide)
  apply BitVec.eq_of_toNat_eq
  unfold takenH taken
  rw [BitVec.toNat_mul, h3, h2, BitVec.toNat_ofNat]
  rfl

theorem first_sum (x : Choices) (n : ℕ) : ((List.range n).map (taken x)).sum = first x n := by
  induction n with
  | zero => rfl
  | succ n ih => rw [List.range_succ, List.map_append, List.sum_append, ih]; rfl

/-- The tables hold the first rows and the row tiles of the experts that the rows choose. -/
theorem tables (c : Dev nD) : Tables (m ((c : Thread nD τ).loc main_arg3)) (V m c main_v17) (V m c main_v22) := by
  rw [V_first, V_tiles]
  generalize (m ((c : Thread nD τ).loc main_arg3) : Choices) = x
  change Choices at x
  refine ⟨fun e => ?_, fun e => ?_⟩
  · have he := e.isLt
    have hs := first_small x (e.val + 1) (by omega)
    have hf : first x (e.val + 1) = first x e.val + taken x e.val := rfl
    show (Host.reduceWindow IntOp.addi ![8] ![1] ![7] ![0] (takenH (countsH x)) _ reduceWindows_S8_S8_w8s1p7_0 h_S_ (ix1 e) - takenH (countsH x) (ix1 e)).toNat = _
    have hc : Host.reduceWindow IntOp.addi ![8] ![1] ![7] ![0] (takenH (countsH x)) (broadcastInDim S_ ![] bcast_S_S_ (constantI S_ 32 0#32)) reduceWindows_S8_S8_w8s1p7_0 h_S_ (ix1 e)
        = BitVec.ofNat 32 ((List.range (e.val + 1)).map (taken x)).sum :=
      Routing.cumsum1 (N := 8) (Nm1 := 7) rfl (takenH (countsH x)) (taken x) (fun i => takenH_at x i) (broadcastInDim S_ ![] bcast_S_S_ (constantI S_ 32 0#32)) rfl reduceWindows_S8_S8_w8s1p7_0 h_S_ e
    rw [hc, takenH_at, first_sum, BitVec.toNat_sub, BitVec.toNat_ofNat, BitVec.toNat_ofNat]
    show (4294967296 - taken x e.val % 4294967296 + first x (e.val + 1) % 4294967296) % 4294967296 = _
    omega
  · have h1 := countsH_at x e
    have hp := picks_le x e.val
    have h2 : (countsH x (ix1 e) + 512#32 - 1#32).toNat = picks x e.val + 511 := by
      rw [BitVec.toNat_sub, BitVec.toNat_add, h1]
      show (4294967296 - 1 + (picks x e.val + 512) % 4294967296) % 4294967296 = _
      omega
    have h3 : (quot (countsH x (ix1 e) + 512#32 - 1#32) 512#32).toNat = _ := quot_at _ (by omega) 512 (by decide) (by decide)
    exact h3.trans (by rw [h2]; rfl)

end Cert.MoeUp

end
-- ==== Proof.MoeUpReference.lean ====
/- The reference of the expert projection: what each expert's step makes of an element, and the rows
   that each expert's step keeps. -/
module

public import proofs.«01_k».proof.Proof.SwigluValue
public import proofs.«01_k».proof.Proof.MoeUpPre
public import proofs.«01_k».proof.Proof.Gen.Reference5Ideal.Read

@[expose] public section

set_option maxRecDepth 16384

noncomputable section

namespace Cert.MoeUp.Reference

open Idealize.ShloMosaic Idealize.ShloMosaic.TcCoe Idealize.ShloMosaic.Tactic
open Cert.MoeUp (Choices picks taken tilesOf first quot quot_at picks_le first_le first_small first_reach first_fits)
open Cert.Reference5Ideal Cert.Reference5Ideal.Gen Cert.Reference5Ideal.Read
open Cert.Kernel2Ideal.Swiglu (gated)

variable (x0 : Vec Ideal S18432x2048 .f32) (x1 x2 : Vec Ideal S2x8x2048x5632 .f32) (x3 : Choices)

/-- Element `(r, q)` as expert `e` computes it. -/
def elem (e : Fin 8) (r : Fin 18432) (q : Fin 5632) : EReal :=
  gated (∑ d : Fin 2048, x0 (ix2 r d) * x1 (ix4 1 e d q)) (∑ d : Fin 2048, x0 (ix2 r d) * x2 (ix4 1 e d q))

/-- The mask of the rows from `a` to before `b` at row `r`. -/
def mask (a b : BitVec 32) (r : Fin 18432) : BitVec 1 :=
  IntOp.andi (IntOp.cmpi .sle a (BitVec.ofNat 32 r.val)) (IntOp.cmpi .slt (BitVec.ofNat 32 r.val) b)

/-! ## The eight steps -/

set_option maxHeartbeats 2000000 in
theorem step_0 (r : Fin 18432) (q : Fin 5632) :
    val_main_v24 (F := Ideal) x0 x1 x2 x3 (ix2 r q)
      = if mask 0#32 (val_main_v9 (F := Ideal) x3 ix0) r = 1#1 then elem x0 x1 x2 0 r q else val_main_v1 (F := Ideal) (ix2 r q) := by
  unfold val_main_v24
  generalize val_main_v1 (F := Ideal) = y
  unfold val_main_call2_v0 val_main_v23 val_main_v22 val_main_v21 val_main_v20 val_main_v19 val_main_v18 val_main_call1_v5 val_main_call1_v4 val_main_call1_cst_0 val_main_call1_v3 val_main_call1_v2 val_main_call1_cst val_main_call1_v1 val_main_call1_v0 val_main_v17 val_main_v16 val_main_v15 val_main_v14 val_main_v13 val_main_v12 val_main_v11 val_main_v10 val_main_c_5 mask
  generalize val_main_v9 (F := Ideal) x3 = b
  unfold val_main_v0
  pointwise
  rfl

set_option maxHeartbeats 2000000 in
theorem step_1 (r : Fin 18432) (q : Fin 5632) :
    val_main_v47 (F := Ideal) x0 x1 x2 x3 (ix2 r q)
      = if mask (val_main_v9 (F := Ideal) x3 ix0) (val_main_v32 (F := Ideal) x3 ix0) r = 1#1 then elem x0 x1 x2 1 r q else val_main_v24 (F := Ideal) x0 x1 x2 x3 (ix2 r q) := by
  unfold val_main_v47
  generalize val_main_v24 (F := Ideal) x0 x1 x2 x3 = y
  unfold val_main_call5_v0 val_main_v46 val_main_v45 val_main_v44 val_main_v43 val_main_v42 val_main_v41 val_main_call4_v5 val_main_call4_v4 val_main_call4_cst_0 val_main_call4_v3 val_main_call4_v2 val_main_call4_cst val_main_call4_v1 val_main_call4_v0 val_main_v40 val_main_v39 val_main_v38 val_main_v37 val_main_v36 val_main_v35 val_main_v34 val_main_v33 mask
  generalize val_main_v32 (F := Ideal) x3 = b
  generalize val_main_v9 (F := Ideal) x3 = a
  unfold val_main_v0
  pointwise
  rfl

set_option maxHeartbeats 2000000 in
theorem step_2 (r : Fin 18432) (q : Fin 5632) :
    val_main_v70 (F := Ideal) x0 x1 x2 x3 (ix2 r q)
      = if mask (val_main_v32 (F := Ideal) x3 ix0) (val_main_v55 (F := Ideal) x3 ix0) r = 1#1 then elem x0 x1 x2 2 r q else val_main_v47 (F := Ideal) x0 x1 x2 x3 (ix2 r q) := by
  unfold val_main_v70
  generalize val_main_v47 (F := Ideal) x0 x1 x2 x3 = y
  unfold val_main_call8_v0 val_main_v69 val_main_v68 val_main_v67 val_main_v66 val_main_v65 val_main_v64 val_main_call7_v5 val_main_call7_v4 val_main_call7_cst_0 val_main_call7_v3 val_main_call7_v2 val_main_call7_cst val_main_call7_v1 val_main_call7_v0 val_main_v63 val_main_v62 val_main_v61 val_main_v60 val_main_v59 val_main_v58 val_main_v57 val_main_v56 mask
  generalize val_main_v55 (F := Ideal) x3 = b
  generalize val_main_v32 (F := Ideal) x3 = a
  unfold val_main_v0
  pointwise
  rfl

set_option maxHeartbeats 2000000 in
theorem step_3 (r : Fin 18432) (q : Fin 5632) :
    val_main_v93 (F := Ideal) x0 x1 x2 x3 (ix2 r q)
      = if mask (val_main_v55 (F := Ideal) x3 ix0) (val_main_v78 (F := Ideal) x3 ix0) r = 1#1 then elem x0 x1 x2 3 r q else val_main_v70 (F := Ideal) x0 x1 x2 x3 (ix2 r q) := by
  unfold val_main_v93
  generalize val_main_v70 (F := Ideal) x0 x1 x2 x3 = y
  unfold val_main_call11_v0 val_main_v92 val_main_v91 val_main_v90 val_main_v89 val_main_v88 val_main_v87 val_main_call10_v5 val_main_call10_v4 val_main_call10_cst_0 val_main_call10_v3 val_main_call10_v2 val_main_call10_cst val_main_call10_v1 val_main_call10_v0 val_main_v86 val_main_v85 val_main_v84 val_main_v83 val_main_v82 val_main_v81 val_main_v80 val_main_v79 mask
  generalize val_main_v78 (F := Ideal) x3 = b
  generalize val_main_v55 (F := Ideal) x3 = a
  unfold val_main_v0
  pointwise
  rfl

set_option maxHeartbeats 2000000 in
theorem step_4 (r : Fin 18432) (q : Fin 5632) :
    val_main_v116 (F := Ideal) x0 x1 x2 x3 (ix2 r q)
      = if mask (val_main_v78 (F := Ideal) x3 ix0) (val_main_v101 (F := Ideal) x3 ix0) r = 1#1 then elem x0 x1 x2 4 r q else val_main_v93 (F := Ideal) x0 x1 x2 x3 (ix2 r q) := by
  unfold val_main_v116
  generalize val_main_v93 (F := Ideal) x0 x1 x2 x3 = y
  unfold val_main_call14_v0 val_main_v115 val_main_v114 val_main_v113 val_main_v112 val_main_v111 val_main_v110 val_main_call13_v5 val_main_call13_v4 val_main_call13_cst_0 val_main_call13_v3 val_main_call13_v2 val_main_call13_cst val_main_call13_v1 val_main_call13_v0 val_main_v109 val_main_v108 val_main_v107 val_main_v106 val_main_v105 val_main_v104 val_main_v103 val_main_v102 mask
  generalize val_main_v101 (F := Ideal) x3 = b
  generalize val_main_v78 (F := Ideal) x3 = a
  unfold val_main_v0
  pointwise
  rfl

set_option maxHeartbeats 2000000 in
theorem step_5 (r : Fin 18432) (q : Fin 5632) :
    val_main_v139 (F := Ideal) x0 x1 x2 x3 (ix2 r q)
      = if mask (val_main_v101 (F := Ideal) x3 ix0) (val_main_v124 (F := Ideal) x3 ix0) r = 1#1 then elem x0 x1 x2 5 r q else val_main_v116 (F := Ideal) x0 x1 x2 x3 (ix2 r q) := by
  unfold val_main_v139
  generalize val_main_v116 (F := Ideal) x0 x1 x2 x3 = y
  unfold val_main_call17_v0 val_main_v138 val_main_v137 val_main_v136 val_main_v135 val_main_v134 val_main_v133 val_main_call16_v5 val_main_call16_v4 val_main_call16_cst_0 val_main_call16_v3 val_main_call16_v2 val_main_call16_cst val_main_call16_v1 val_main_call16_v0 val_main_v132 val_main_v131 val_main_v130 val_main_v129 val_main_v128 val_main_v127 val_main_v126 val_main_v125 mask
  generalize val_main_v124 (F := Ideal) x3 = b
  generalize val_main_v101 (F := Ideal) x3 = a
  unfold val_main_v0
  pointwise
  rfl

set_option maxHeartbeats 2000000 in
theorem step_6 (r : Fin 18432) (q : Fin 5632) :
    val_main_v162 (F := Ideal) x0 x1 x2 x3 (ix2 r q)
      = if mask (val_main_v124 (F := Ideal) x3 ix0) (val_main_v147 (F := Ideal) x3 ix0) r = 1#1 then elem x0 x1 x2 6 r q else val_main_v139 (F := Ideal) x0 x1 x2 x3 (ix2 r q) := by
  unfold val_main_v162
  generalize val_main_v139 (F := Ideal) x0 x1 x2 x3 = y
  unfold val_main_call20_v0 val_main_v161 val_main_v160 val_main_v159 val_main_v158 val_main_v157 val_main_v156 val_main_call19_v5 val_main_call19_v4 val_main_call19_cst_0 val_main_call19_v3 val_main_call19_v2 val_main_call19_cst val_main_call19_v1 val_main_call19_v0 val_main_v155 val_main_v154 val_main_v153 val_main_v152 val_main_v151 val_main_v150 val_main_v149 val_main_v148 mask
  generalize val_main_v147 (F := Ideal) x3 = b
  generalize val_main_v124 (F := Ideal) x3 = a
  unfold val_main_v0
  pointwise
  rfl

set_option maxHeartbeats 2000000 in
theorem step_7 (r : Fin 18432) (q : Fin 5632) :
    val_main_v185 (F := Ideal) x0 x1 x2 x3 (ix2 r q)
      = if mask (val_main_v147 (F := Ideal) x3 ix0) (val_main_v170 (F := Ideal) x3 ix0) r = 1#1 then elem x0 x1 x2 7 r q else val_main_v162 (F := Ideal) x0 x1 x2 x3 (ix2 r q) := by
  unfold val_main_v185
  generalize val_main_v162 (F := Ideal) x0 x1 x2 x3 = y
  unfold val_main_call23_v0 val_main_v184 val_main_v183 val_main_v182 val_main_v181 val_main_v180 val_main_v179 val_main_call22_v5 val_main_call22_v4 val_main_call22_cst_0 val_main_call22_v3 val_main_call22_v2 val_main_call22_cst val_main_call22_v1 val_main_call22_v0 val_main_v178 val_main_v177 val_main_v176 val_main_v175 val_main_v174 val_main_v173 val_main_v172 val_main_v171 mask
  generalize val_main_v170 (F := Ideal) x3 = b
  generalize val_main_v147 (F := Ideal) x3 = a
  unfold val_main_v0
  pointwise
  rfl

/-! ## The rows of an expert -/

theorem list_sum (N : ℕ) (f : ℕ → ℕ) : ((List.range N).map f).sum = ∑ i ∈ Finset.range N, f i := rfl

/-- How many rows choose expert `n`, as the sum of the comparisons' bits. -/
theorem count_at (n : ℕ) (y : IVec S17408 32) (hy : ∀ i : Fin 17408, y (ix1 i) = if x3 (ix1 i) = BitVec.ofNat 32 n then 1#32 else 0#32)
    (h : S17408.ReducesTo [0] S_) (hu : 0 < S_.numel) : Host.reduce IntOp.addi y (constantI S_ 32 0#32) h hu ix0 = BitVec.ofNat 32 (picks x3 n) := by
  refine (Idealize.ShloMosaic.Routing.reduce_sum y (fun i => if hi : i < 17408 then if x3 (ix1 ⟨i, hi⟩) = BitVec.ofNat 32 n then 1 else 0 else 0) (fun i => ?_) h hu).trans (congrArg (BitVec.ofNat 32) ?_)
  · refine (hy i).trans ?_
    show _ = BitVec.ofNat 32 (if hi : i.val < 17408 then if x3 (ix1 ⟨i.val, hi⟩) = BitVec.ofNat 32 n then 1 else 0 else 0)
    rw [dif_pos i.isLt]
    by_cases hc : x3 (ix1 i) = BitVec.ofNat 32 n
    · rw [if_pos hc, if_pos hc]
    · rw [if_neg hc, if_neg hc]
  · rw [list_sum, Finset.sum_range]
    unfold picks
    rw [Finset.card_filter]
    refine Finset.sum_congr rfl fun i _ => ?_
    rw [dif_pos i.isLt]

/-- The bit of a comparison with an expert, widened. -/
theorem bit_at (a b : BitVec 32) : (IntOp.cmpi .eq a b).setWidth 32 = if a = b then 1#32 else 0#32 := by
  by_cases h : a = b
  · rw [if_pos h, IntOp.cmpi_eq.2 h]; rfl
  · rw [if_neg h]
    rcases BitVec.eq_zero_or_eq_one (IntOp.cmpi .eq a b) with h1 | h1
    · rw [h1]; rfl
    · exact absurd (IntOp.cmpi_eq.1 h1) h

theorem picks_0 : val_main_v5 (F := Ideal) x3 ix0 = BitVec.ofNat 32 (picks x3 0) := by
  unfold val_main_v5 val_main_c_0
  refine count_at x3 0 _ (fun i => ?_) _ _
  unfold val_main_v4 val_main_v3 val_main_v2 val_main_c
  exact bit_at _ _
theorem end_0 : val_main_v9 (F := Ideal) x3 ix0 = 0#32 + quot (val_main_v5 (F := Ideal) x3 ix0 + 15#32) 16#32 * 16#32 := rfl
theorem picks_1 : val_main_v28 (F := Ideal) x3 ix0 = BitVec.ofNat 32 (picks x3 1) := by
  unfold val_main_v28 val_main_c_7
  refine count_at x3 1 _ (fun i => ?_) _ _
  unfold val_main_v27 val_main_v26 val_main_v25 val_main_c_6
  exact bit_at _ _
theorem end_1 : val_main_v32 (F := Ideal) x3 ix0 = val_main_v9 (F := Ideal) x3 ix0 + quot (val_main_v28 (F := Ideal) x3 ix0 + 15#32) 16#32 * 16#32 := rfl
theorem picks_2 : val_main_v51 (F := Ideal) x3 ix0 = BitVec.ofNat 32 (picks x3 2) := by
  unfold val_main_v51 val_main_c_12
  refine count_at x3 2 _ (fun i => ?_) _ _
  unfold val_main_v50 val_main_v49 val_main_v48 val_main_c_11
  exact bit_at _ _
theorem end_2 : val_main_v55 (F := Ideal) x3 ix0 = val_main_v32 (F := Ideal) x3 ix0 + quot (val_main_v51 (F := Ideal) x3 ix0 + 15#32) 16#32 * 16#32 := rfl
theorem picks_3 : val_main_v74 (F := Ideal) x3 ix0 = BitVec.ofNat 32 (picks x3 3) := by
  unfold val_main_v74 val_main_c_17
  refine count_at x3 3 _ (fun i => ?_) _ _
  unfold val_main_v73 val_main_v72 val_main_v71 val_main_c_16
  exact bit_at _ _
theorem end_3 : val_main_v78 (F := Ideal) x3 ix0 = val_main_v55 (F := Ideal) x3 ix0 + quot (val_main_v74 (F := Ideal) x3 ix0 + 15#32) 16#32 * 16#32 := rfl
theorem picks_4 : val_main_v97 (F := Ideal) x3 ix0 = BitVec.ofNat 32 (picks x3 4) := by
  unfold val_main_v97 val_main_c_22
  refine count_at x3 4 _ (fun i => ?_) _ _
  unfold val_main_v96 val_main_v95 val_main_v94 val_main_c_21
  exact bit_at _ _
theorem end_4 : val_main_v101 (F := Ideal) x3 ix0 = val_main_v78 (F := Ideal) x3 ix0 + quot (val_main_v97 (F := Ideal) x3 ix0 + 15#32) 16#32 * 16#32 := rfl
theorem picks_5 : val_main_v120 (F := Ideal) x3 ix0 = BitVec.ofNat 32 (picks x3 5) := by
  unfold val_main_v120 val_main_c_27
  refine count_at x3 5 _ (fun i => ?_) _ _
  unfold val_main_v119 val_main_v118 val_main_v117 val_main_c_26
  exact bit_at _ _
theorem end_5 : val_main_v124 (F := Ideal) x3 ix0 = val_main_v101 (F := Ideal) x3 ix0 + quot (val_main_v120 (F := Ideal) x3 ix0 + 15#32) 16#32 * 16#32 := rfl
theorem picks_6 : val_main_v143 (F := Ideal) x3 ix0 = BitVec.ofNat 32 (picks x3 6) := by
  unfold val_main_v143 val_main_c_32
  refine count_at x3 6 _ (fun i => ?_) _ _
  unfold val_main_v142 val_main_v141 val_main_v140 val_main_c_31
  exact bit_at _ _
theorem end_6 : val_main_v147 (F := Ideal) x3 ix0 = val_main_v124 (F := Ideal) x3 ix0 + quot (val_main_v143 (F := Ideal) x3 ix0 + 15#32) 16#32 * 16#32 := rfl
theorem picks_7 : val_main_v166 (F := Ideal) x3 ix0 = BitVec.ofNat 32 (picks x3 7) := by
  unfold val_main_v166 val_main_c_37
  refine count_at x3 7 _ (fun i => ?_) _ _
  unfold val_main_v165 val_main_v164 val_main_v163 val_main_c_36
  exact bit_at _ _
theorem end_7 : val_main_v170 (F := Ideal) x3 ix0 = val_main_v147 (F := Ideal) x3 ix0 + quot (val_main_v166 (F := Ideal) x3 ix0 + 511#32) 512#32 * 512#32 := rfl

/-- Expert `n`; the last one from there on. -/
def ex (n : ℕ) : Fin 8 := ⟨min n 7, by omega⟩

/-- The row an expert's rows begin at; behind the last expert, the row behind its tiles. -/
def low (n : ℕ) : ℕ := if n < 8 then first x3 n else first x3 7 + 512 * tilesOf x3 7

/-- The number of rows of an expert's tiles. -/
def wide (n : ℕ) : ℕ := 512 * tilesOf x3 n

theorem low_le (n : ℕ) : low x3 n ≤ 18432 := by
  unfold low
  split_ifs with h
  · exact first_small x3 n (by omega)
  · exact first_fits x3 7 (by omega)

/-- One more expert's rows. -/
theorem end_step (a c : BitVec 32) (n : ℕ) (hn : n < 7) (ha : a.toNat = low x3 n) (hc : c = BitVec.ofNat 32 (picks x3 n)) :
    (a + quot (c + 15#32) 16#32 * 16#32).toNat = low x3 (n + 1) := by
  have hp := picks_le x3 n
  have h2 : (c + 15#32).toNat = picks x3 n + 15 := by
    rw [hc, BitVec.toNat_add, BitVec.toNat_ofNat]
    show (picks x3 n % 4294967296 + 15) % 4294967296 = _
    omega
  have h3 : (quot (c + 15#32) 16#32).toNat = (c + 15#32).toNat / 16 := quot_at _ (by omega) 16 (by decide) (by decide)
  have h4 := low_le x3 n
  have h5 : low x3 n = first x3 n := if_pos (by omega)
  have h6 : low x3 (n + 1) = first x3 n + (picks x3 n + 15) / 16 * 16 := if_pos (by omega)
  rw [BitVec.toNat_add, BitVec.toNat_mul, h3, h2, ha]
  show (low x3 n + (picks x3 n + 15) / 16 * 16 % 4294967296) % 4294967296 = _
  omega

/-- The last expert's rows. -/
theorem end_last (a c : BitVec 32) (ha : a.toNat = low x3 7) (hc : c = BitVec.ofNat 32 (picks x3 7)) :
    (a + quot (c + 511#32) 512#32 * 512#32).toNat = low x3 8 := by
  have hp := picks_le x3 7
  have h2 : (c + 511#32).toNat = picks x3 7 + 511 := by
    rw [hc, BitVec.toNat_add, BitVec.toNat_ofNat]
    show (picks x3 7 % 4294967296 + 511) % 4294967296 = _
    omega
  have h3 : (quot (c + 511#32) 512#32).toNat = (c + 511#32).toNat / 512 := quot_at _ (by omega) 512 (by decide) (by decide)
  have h4 := low_le x3 7
  have h5 : low x3 7 = first x3 7 := if_pos (by omega)
  have h6 : low x3 8 = first x3 7 + 512 * ((picks x3 7 + 511) / 512) := if_neg (by omega)
  rw [BitVec.toNat_add, BitVec.toNat_mul, h3, h2, ha]
  show (low x3 7 + (picks x3 7 + 511) / 512 * 512 % 4294967296) % 4294967296 = _
  omega

theorem low_1 : (val_main_v9 (F := Ideal) x3 ix0).toNat = low x3 1 := by
  rw [end_0]
  exact end_step x3 _ _ 0 (by omega) (show (0#32 : BitVec 32).toNat = low x3 0 from rfl) (picks_0 x3)
theorem low_2 : (val_main_v32 (F := Ideal) x3 ix0).toNat = low x3 2 := by
  rw [end_1]
  exact end_step x3 _ _ 1 (by omega) (low_1 x3) (picks_1 x3)
theorem low_3 : (val_main_v55 (F := Ideal) x3 ix0).toNat = low x3 3 := by
  rw [end_2]
  exact end_step x3 _ _ 2 (by omega) (low_2 x3) (picks_2 x3)
theorem low_4 : (val_main_v78 (F := Ideal) x3 ix0).toNat = low x3 4 := by
  rw [end_3]
  exact end_step x3 _ _ 3 (by omega) (low_3 x3) (picks_3 x3)
theorem low_5 : (val_main_v101 (F := Ideal) x3 ix0).toNat = low x3 5 := by
  rw [end_4]
  exact end_step x3 _ _ 4 (by omega) (low_4 x3) (picks_4 x3)
theorem low_6 : (val_main_v124 (F := Ideal) x3 ix0).toNat = low x3 6 := by
  rw [end_5]
  exact end_step x3 _ _ 5 (by omega) (low_5 x3) (picks_5 x3)
theorem low_7 : (val_main_v147 (F := Ideal) x3 ix0).toNat = low x3 7 := by
  rw [end_6]
  exact end_step x3 _ _ 6 (by omega) (low_6 x3) (picks_6 x3)
theorem low_8 : (val_main_v170 (F := Ideal) x3 ix0).toNat = low x3 8 := by
  rw [end_7]
  exact end_last x3 _ _ (low_7 x3) (picks_7 x3)

theorem word_small {a : BitVec 32} (h : a.toNat < 2147483648) : a.toInt = a.toNat := by
  have := BitVec.toInt_eq_toNat_cond a
  omega

theorem mask_iff (a b : BitVec 32) (n : ℕ) (ha : a.toNat = low x3 n) (hb : b.toNat = low x3 (n + 1)) (r : Fin 18432) :
    mask a b r = 1#1 ↔ low x3 n ≤ r.val ∧ r.val < low x3 (n + 1) := by
  unfold mask
  have hr : (BitVec.ofNat 32 r.val).toNat = r.val := by
    rw [BitVec.toNat_ofNat]; have := r.isLt; omega
  have hri := word_small (a := BitVec.ofNat 32 r.val) (by have := r.isLt; omega)
  have b1 := low_le x3 n; have b2 := low_le x3 (n + 1)
  rw [IntOp.andi_eq_one, IntOp.cmpi_sle, IntOp.cmpi_slt, hri, hr, word_small (by omega), word_small (a := b) (by omega), ha, hb]
  omega

/-- An element after the first experts' steps, each expert keeping its own rows. -/
def chain (B : ℕ → ℕ) (A : ℕ → EReal) (r : ℕ) : ℕ → EReal
  | 0 => 0
  | e + 1 => if B e ≤ r ∧ r < B (e + 1) then A e else chain B A r e

theorem reference_at (r : Fin 18432) (q : Fin 5632) :
    val_main_v186 (F := Ideal) x0 x1 x2 x3 (ix2 r q) = chain (low x3) (fun n => elem x0 x1 x2 (ex n) r q) r.val 8 := by
  have e : val_main_v186 (F := Ideal) x0 x1 x2 x3 (ix2 r q) = val_main_v185 (F := Ideal) x0 x1 x2 x3 (ix2 r q) := by
    unfold val_main_v186
    generalize val_main_v185 (F := Ideal) x0 x1 x2 x3 = y
    pointwise
  have z : val_main_v1 (F := Ideal) (ix2 r q) = (0 : EReal) := by
    unfold val_main_v1 val_main_cst
    pointwise
  have k (a b : BitVec 32) (n : ℕ) (ha : a.toNat = low x3 n) (hb : b.toNat = low x3 (n + 1)) (v w : EReal) :
      (if mask a b r = 1#1 then v else w) = if low x3 n ≤ r.val ∧ r.val < low x3 (n + 1) then v else w :=
    if_congr (mask_iff x3 a b n ha hb r) rfl rfl
  rw [e, step_7, step_6, step_5, step_4, step_3, step_2, step_1, step_0, z,
    k _ _ 7 (low_7 x3) (low_8 x3), k _ _ 6 (low_6 x3) (low_7 x3), k _ _ 5 (low_5 x3) (low_6 x3), k _ _ 4 (low_4 x3) (low_5 x3),
    k _ _ 3 (low_3 x3) (low_4 x3), k _ _ 2 (low_2 x3) (low_3 x3), k _ _ 1 (low_1 x3) (low_2 x3), k 0#32 _ 0 rfl (low_1 x3)]
  rfl

/-! ## The experts' steps in the kernel's order of writing -/

/-- An element after the first experts' steps, each expert writing all rows of its tiles, and the last clearing what lies
    behind its own. -/
def written (B W : ℕ → ℕ) (A : ℕ → EReal) (y : EReal) (r : ℕ) : ℕ → EReal
  | 0 => y
  | e + 1 => if B e ≤ r ∧ r < B e + W e then A e else if e = 7 ∧ B e + W e ≤ r then 0 else written B W A y r e

theorem written_prefix (B W : ℕ → ℕ) (A : ℕ → EReal) (y : EReal) (r : ℕ) (h0 : B 0 = 0)
    (hB : ∀ e < 8, B e ≤ B (e + 1) ∧ B (e + 1) ≤ B e + W e) :
    ∀ e ≤ 8, (r < B e → written B W A y r e = chain B A r e) ∧ (B e ≤ r → chain B A r e = 0) := by
  intro e
  induction e with
  | zero => exact fun _ => ⟨fun h => absurd h (by omega), fun _ => rfl⟩
  | succ e ih =>
    intro he
    obtain ⟨i1, i2⟩ := ih (by omega)
    obtain ⟨b1, b2⟩ := hB e (by omega)
    refine ⟨fun h => ?_, fun h => ?_⟩
    · show (if B e ≤ r ∧ r < B e + W e then A e else if e = 7 ∧ B e + W e ≤ r then 0 else written B W A y r e) = if B e ≤ r ∧ r < B (e + 1) then A e else chain B A r e
      by_cases hc : B e ≤ r
      · rw [if_pos ⟨hc, by omega⟩, if_pos ⟨hc, h⟩]
      · rw [if_neg (by omega), if_neg (by omega), if_neg (by omega), i1 (by omega)]
    · show (if B e ≤ r ∧ r < B (e + 1) then A e else chain B A r e) = 0
      rw [if_neg (by omega), i2 (by omega)]

theorem written_all (B W : ℕ → ℕ) (A : ℕ → EReal) (y : EReal) (r : ℕ) (h0 : B 0 = 0)
    (hB : ∀ e < 8, B e ≤ B (e + 1) ∧ B (e + 1) ≤ B e + W e) (h8 : B 8 = B 7 + W 7) :
    written B W A y r 8 = chain B A r 8 := by
  obtain ⟨i1, i2⟩ := written_prefix B W A y r h0 hB 8 (by omega)
  by_cases h : r < B 8
  · exact i1 h
  · rw [i2 (by omega)]
    show (if B 7 ≤ r ∧ r < B 7 + W 7 then A 7 else if 7 = 7 ∧ B 7 + W 7 ≤ r then 0 else written B W A y r 7) = 0
    rw [if_neg (by omega), if_pos ⟨rfl, by omega⟩]

theorem low_facts : low x3 0 = 0 ∧ (∀ e < 8, low x3 e ≤ low x3 (e + 1) ∧ low x3 (e + 1) ≤ low x3 e + wide x3 e)
    ∧ low x3 8 = low x3 7 + wide x3 7 := by
  refine ⟨rfl, fun e he => ?_, rfl⟩
  by_cases h : e < 7
  · have h1 : low x3 e = first x3 e := if_pos he
    have h2 : low x3 (e + 1) = first x3 (e + 1) := if_pos (by omega)
    rw [h1, h2]
    exact ⟨Nat.le_add_right _ _, first_reach x3 e⟩
  · obtain rfl : e = 7 := by omega
    exact ⟨Nat.le_add_right _ _, le_refl _⟩

end Cert.MoeUp.Reference

end
-- ==== Proof.MoeUpValue.lean ====
module

public import proofs.«01_k».proof.Proof.MoeUpTables
public import proofs.«01_k».proof.Proof.MoeUpReference
public import Idealize.ShloMosaic.PureOps.Ideal

/-! The value of the expert projection: every element of the result array is what the experts' steps make of it, one after
    the other. -/

@[expose] public section

set_option maxRecDepth 16384
set_option maxHeartbeats 1600000

noncomputable section

namespace Cert.MoeUp

open Idealize.ShloMosaic Idealize.ShloMosaic.TcCoe Idealize.SL.Sem Idealize.ShloMosaic.Tactic
open Cert.Kernel5Ideal Cert.Kernel5Ideal.Gen
open Cert.Kernel2Ideal.Swiglu (gated)
open Cert.MoeUp.Reference (ex low wide written written_all chain low_facts)

section Generic

variable {F : FTy → Type} [FloatOps F]

/-! ## The tables' words -/

theorem startAt_eq (c : Dev nD) (f : TabS (F := F) c) (e : Fin 8) : startAt c f e = f (ix1 e) := by
  unfold startAt
  show f _ = f _
  refine congrArg f (funext fun a => Fin.ext ?_)
  match a with
  | ⟨0, _⟩ => rfl
theorem tilesAt_eq (c : Dev nD) (f : TabT (F := F) c) (e : Fin 8) : tilesAt c f e = f (ix1 e) := by
  unfold tilesAt
  show f _ = f _
  refine congrArg f (funext fun a => Fin.ext ?_)
  match a with
  | ⟨0, _⟩ => rfl

variable (m : (ℓ : Loc nD τ sig) → Buf (Elt F) ℓ)

/-- The tables when the call is entered. -/
abbrev starts (c : Dev nD) : (⟨1, ![8]⟩ : Shape).Idx → BitVec 32 := V m c main_v17
abbrev counts (c : Dev nD) : (⟨1, ![8]⟩ : Shape).Idx → BitVec 32 := V m c main_v22

theorem fS_at (c : Dev nD) (e : Fin 8) : startAt c (fS m c) e = starts m c (ix1 e) := by
  rw [startAt_eq]; rfl
theorem fT_at (c : Dev nD) (e : Fin 8) : tilesAt c (fT m c) e = counts m c (ix1 e) := by
  rw [tilesAt_eq]; rfl

theorem start_at (c : Dev nD) (e : Fin 8) : (startAt c (fS m c) e).toNat = first (m ((c : Thread nD τ).loc main_arg3)) e.val := by
  rw [fS_at]; exact (tables m c).first e
theorem count_at (c : Dev nD) (e : Fin 8) : (tilesAt c (fT m c) e).toNat = tilesOf (m ((c : Thread nD τ).loc main_arg3)) e.val := by
  rw [fT_at]; exact (tables m c).tiles e

theorem segs (c : Dev nD) : Segs m c := fun e => by
  refine ⟨?_, ?_, ?_⟩
  · rw [start_at]; exact first_dvd _ _
  · rw [count_at]; exact tilesOf_le _ _
  · rw [start_at, count_at]; exact first_fits _ _ e.isLt

end Generic

variable (m : (ℓ : Loc nD τ sig) → Buf (Elt Ideal) ℓ)

/-! ## One tile -/

theorem xrows_at (c : Dev nD) (X : Buf (Elt Ideal) ((xsrc 0).view.loc (c : Thread nD τ))) (r : ℕ) (hr : r ≤ 17920) (a : Fin 512) (d : Fin 2048) :
    xrows c X r (ix2 a d) = X (ix2 (n0 := 18432) (n1 := 2048) ⟨r + a.val, by omega⟩ d) := by
  have e0 : (((xsrc r).view.emb (ix2 a d) 0 : Fin _) : Nat) = min r 17920 + a.val := ValueKit.view_emb_slice_whole_unit_val main_v0 _ _ _ (ix2 a d) 0
  have e1 : (((xsrc r).view.emb (ix2 a d) 1 : Fin _) : Nat) = 0 + d.val := ValueKit.view_emb_slice_whole_unit_val main_v0 _ _ _ (ix2 a d) 1
  show X _ = X _
  refine congrArg X (funext fun k => Fin.ext ?_)
  match k with
  | ⟨0, _⟩ => exact e0.trans (by show _ = r + a.val; omega)
  | ⟨1, _⟩ => exact e1.trans (by show _ = d.val; omega)

theorem tile_at (c : Dev nD) (X : (⟨2, ![18432, 2048]⟩ : Shape).Idx → EReal) (u v : Vec Ideal S1x1x2048x512 .f32) (r : ℕ) (hr : r ≤ 17920) (a b : Fin 512) :
    tileOf (F := Ideal) c X (k0_pay4 u) (k0_pay5 v) r (ix2 a b)
      = gated (∑ d : Fin 2048, X (ix2 (n0 := 18432) (n1 := 2048) ⟨r + a.val, by omega⟩ d) * u (ix4 0 0 d b))
          (∑ d : Fin 2048, X (ix2 (n0 := 18432) (n1 := 2048) ⟨r + a.val, by omega⟩ d) * v (ix4 0 0 d b)) := by
  have hx : ∀ d, xrows (F := Ideal) c X r (ix2 a d) = X (ix2 (n0 := 18432) (n1 := 2048) ⟨r + a.val, by omega⟩ d) := fun d => xrows_at c X r hr a d
  unfold tileOf k0_pay1 k0_pay4 k0_pay5 gated
  generalize xrows (F := Ideal) c X r = w at hx
  simp only [← hx]
  pointwise
  simp only [zero_sub]

theorem clear_at (a b : ℕ) : (atPiece (F := Ideal) (k0_pay3 (F := Ideal)) a b : EReal) = 0 := by
  unfold atPiece k0_pay3
  pointwise

/-! ## The weight blocks -/

theorem index_up : ∀ t : Fin grid0.N, cc0_transform_1 (grid0.coords t) = ![1, t.val / 11, 0, t.val % 11] := by decide +kernel
theorem index_gate : ∀ t : Fin grid0.N, cc0_transform_2 (grid0.coords t) = ![1, t.val / 11, 0, t.val % 11] := by decide +kernel

theorem block_up (c : Dev nD) (t : Fin grid0.N) (d : Fin 2048) (b : Fin 512) (ht : t.val < 88) :
    w1B m c t (ix4 0 0 d b) = m (c.tc.loc main_arg1) (ix4 (n0 := 2) (n1 := 8) (n2 := 2048) (n3 := 5632) 1 (ex (t.val / 11)) d ⟨512 * (t.val % 11) + b.val, by omega⟩) := by
  have e : ((cfgM m).win 0).index t = ![1, t.val / 11, 0, t.val % 11] := index_up t
  rw [← V_main_arg1 m c]
  have h7 : min (t.val / 11) 7 = t.val / 11 := by omega
  unfold w1B ex
  blk_ext [iblk, e]

theorem block_gate (c : Dev nD) (t : Fin grid0.N) (d : Fin 2048) (b : Fin 512) (ht : t.val < 88) :
    w3B m c t (ix4 0 0 d b) = m (c.tc.loc main_arg2) (ix4 (n0 := 2) (n1 := 8) (n2 := 2048) (n3 := 5632) 1 (ex (t.val / 11)) d ⟨512 * (t.val % 11) + b.val, by omega⟩) := by
  have e : ((cfgM m).win 1).index t = ![1, t.val / 11, 0, t.val % 11] := index_gate t
  rw [← V_main_arg2 m c]
  have h7 : min (t.val / 11) 7 = t.val / 11 := by omega
  unfold w3B ex
  blk_ext [iblk, e]

/-- The activations when the call is entered. -/
theorem entry_x (c : Dev nD) (r : Fin 18432) (d : Fin 2048) : XX m c (ix2 (n0 := 18432) (n1 := 2048) r d) = m (c.tc.loc main_arg0) (ix2 (n0 := 18432) (n1 := 2048) r d) := by
  unfold XX V hostOps
  after_reads_simp
  pointwise

/-! ## The steps -/

abbrev elemOf (c : Dev nD) (r : Fin 18432) (k : Fin 5632) (n : ℕ) : EReal :=
  Cert.MoeUp.Reference.elem (m (c.tc.loc main_arg0)) (m (c.tc.loc main_arg1)) (m (c.tc.loc main_arg2)) (ex n) r k

theorem step_at (c : Dev nD) (t : Fin grid0.N) (r : Fin 18432) (k : Fin 5632) (Y : YBuf (F := Ideal) c) :
    stepY c (XX m c) (grid0.coords t) (sOf m c t.val) (tOf m c t.val) (w1B m c t) (w3B m c t) Y (ix2 r k)
      = if t.val % 11 = k.val / 512 then
          (if low (m (c.tc.loc main_arg3)) (t.val / 11) ≤ r.val ∧ r.val < low (m (c.tc.loc main_arg3)) (t.val / 11) + wide (m (c.tc.loc main_arg3)) (t.val / 11) then elemOf m c r k (t.val / 11)
           else if t.val / 11 = 7 ∧ low (m (c.tc.loc main_arg3)) (t.val / 11) + wide (m (c.tc.loc main_arg3)) (t.val / 11) ≤ r.val then (0 : EReal) else Y (ix2 r k))
        else Y (ix2 r k) := by
  have ht : t.val < 88 := lt_of_lt_of_eq t.isLt N_0
  have hr := r.isLt; have hk := k.isLt
  have hs : (sOf m c t.val).toNat = low (m (c.tc.loc main_arg3)) (t.val / 11) := by
    unfold sOf low
    rw [start_at, if_pos (by omega)]
    exact congrArg (first _) (by show min _ _ = _; omega)
  have hw : 512 * (tOf m c t.val).toNat = wide (m (c.tc.loc main_arg3)) (t.val / 11) := by
    unfold tOf wide
    rw [count_at]
    exact congrArg (fun n => 512 * tilesOf _ n) (by show min _ _ = _; omega)
  have hseg : Seg (sOf m c t.val) (tOf m c t.val) := segs m c _
  have hfit := pieces_fit hseg
  have hfits := hseg.fits
  have hE := endRow_eq (sOf m c t.val) (tOf m c t.val)
  have hp : piecesOf (grid0.coords t) (sOf m c t.val) (tOf m c t.val) = if t.val / 11 = 7 then nPieces (sOf m c t.val) (tOf m c t.val) else 0 := by
    unfold piecesOf; rw [c0]
  have hn := c1 t
  unfold stepY stepG
  show (if 512 * (grid0.coords t 1).val ≤ k.val ∧ k.val < 512 * (grid0.coords t 1).val + 512 then
    if (sOf m c t.val).toNat ≤ r.val ∧ r.val < (sOf m c t.val).toNat + 512 * (tOf m c t.val).toNat then
      atTile (tileOf c (XX m c) (k0_pay4 (w1B m c t)) (k0_pay5 (w3B m c t)) ((sOf m c t.val).toNat + 512 * ((r.val - (sOf m c t.val).toNat) / 512))) (r.val - (sOf m c t.val).toNat) (k.val - 512 * (grid0.coords t 1).val)
    else if endRow (sOf m c t.val) (tOf m c t.val) ≤ r.val ∧ r.val < endRow (sOf m c t.val) (tOf m c t.val) + 16 * piecesOf (grid0.coords t) (sOf m c t.val) (tOf m c t.val) then
      atPiece (k0_pay3 (F := Ideal)) (r.val - endRow (sOf m c t.val) (tOf m c t.val)) (k.val - 512 * (grid0.coords t 1).val)
    else Y (ix2 r k)
    else Y (ix2 r k)) = _
  rw [hn]
  by_cases hc : t.val % 11 = k.val / 512
  · rw [if_pos (by omega), if_pos hc]
    rw [← hs, ← hw]
    by_cases hin : (sOf m c t.val).toNat ≤ r.val ∧ r.val < (sOf m c t.val).toNat + 512 * (tOf m c t.val).toNat
    · rw [if_pos hin, if_pos hin]
      have hq : (sOf m c t.val).toNat + 512 * ((r.val - (sOf m c t.val).toNat) / 512) ≤ 17920 := by omega
      refine (tile_at c (XX m c) (w1B m c t) (w3B m c t) _ hq ⟨(r.val - (sOf m c t.val).toNat) % 512, Nat.mod_lt _ (by decide)⟩ ⟨(k.val - 512 * (t.val % 11)) % 512, Nat.mod_lt _ (by decide)⟩).trans ?_
      unfold elemOf Cert.MoeUp.Reference.elem
      have er : (⟨(sOf m c t.val).toNat + 512 * ((r.val - (sOf m c t.val).toNat) / 512) + (r.val - (sOf m c t.val).toNat) % 512, by omega⟩ : Fin 18432) = r := Fin.ext (by show _ + _ + _ = r.val; omega)
      have ek : (⟨512 * (t.val % 11) + (k.val - 512 * (t.val % 11)) % 512, by omega⟩ : Fin 5632) = k := Fin.ext (by show _ + _ = k.val; omega)
      simp only [er, entry_x, block_up m c t _ _ ht, block_gate m c t _ _ ht, ek]
    · rw [if_neg hin, if_neg hin, hp]
      by_cases h7 : t.val / 11 = 7
      · rw [if_pos h7]
        by_cases hb : endRow (sOf m c t.val) (tOf m c t.val) ≤ r.val
        · rw [if_pos ⟨hb, by omega⟩, if_pos ⟨h7, by omega⟩, clear_at]
        · rw [if_neg (by omega), if_neg (by omega)]
      · rw [if_neg h7, if_neg (by omega), if_neg (by omega)]
  · rw [if_neg (by omega), if_neg hc]

theorem upto (c : Dev nD) (r : Fin 18432) (k : Fin 5632) :
    ∀ t ≤ 88, YY m c t (ix2 r k) = written (low (m (c.tc.loc main_arg3))) (wide (m (c.tc.loc main_arg3))) (elemOf m c r k) (YY m c 0 (ix2 r k)) r.val ((t + 10 - k.val / 512) / 11) := by
  have hk := k.isLt
  intro t
  induction t with
  | zero =>
    intro _
    rw [show (0 + 10 - k.val / 512) / 11 = 0 by omega]
    rfl
  | succ t ih =>
    intro ht
    have hN : t < grid0.N := lt_of_lt_of_eq (by omega : t < 88) N_0.symm
    rw [show YY m c (t + 1) = _ from YY_succ m c ⟨t, hN⟩, step_at m, ih (by omega)]
    show (if t % 11 = k.val / 512 then _ else _) = _
    by_cases hc : t % 11 = k.val / 512
    · rw [if_pos hc, show (t + 1 + 10 - k.val / 512) / 11 = t / 11 + 1 by omega, show (t + 10 - k.val / 512) / 11 = t / 11 by omega]
      rfl
    · rw [if_neg hc, show (t + 1 + 10 - k.val / 512) / 11 = (t + 10 - k.val / 512) / 11 by omega]

/-- The result array and the reference's are one. -/
theorem arrays_eq (c : Dev nD) :
    GG m c main_v23 = Cert.Reference5Ideal.Read.val_main_v186 (F := Ideal) (m (c.tc.loc main_arg0)) (m (c.tc.loc main_arg1)) (m (c.tc.loc main_arg2)) (m (c.tc.loc main_arg3)) := by
  rw [GG_result]
  have main : ∀ (r : Fin 18432) (k : Fin 5632), YY m c 88 (ix2 r k)
      = Cert.Reference5Ideal.Read.val_main_v186 (F := Ideal) (m (c.tc.loc main_arg0)) (m (c.tc.loc main_arg1)) (m (c.tc.loc main_arg2)) (m (c.tc.loc main_arg3)) (ix2 r k) := fun r k => by
    obtain ⟨f0, f1, f2⟩ := low_facts (m (c.tc.loc main_arg3))
    have hk := k.isLt
    rw [upto m c r k 88 (le_refl _), show (88 + 10 - k.val / 512) / 11 = 8 by omega, written_all _ _ _ _ _ f0 f1 f2]
    exact (Cert.MoeUp.Reference.reference_at (m (c.tc.loc main_arg0)) (m (c.tc.loc main_arg1)) (m (c.tc.loc main_arg2)) (m (c.tc.loc main_arg3)) r k).symm
  funext i
  rw [eq_ix2 (n0 := 18432) (n1 := 5632) i]
  exact main _ _

end Cert.MoeUp

end
-- ==== Proof.MoeUpClaims.lean ====
/- The claims on the expert projection. -/
module

public import proofs.«01_k».proof.Defs
public import proofs.«01_k».proof.Proof.MoeUpValue
public import proofs.«01_k».proof.Proof.Gen.Kernel5
public import proofs.«01_k».proof.Proof.Gen.Reference5Ideal.Run
public import Idealize.ShloMosaic.Lib.Quiescent
public import Idealize.ShloMosaic.Lib.Tactic

@[expose] public section

set_option maxRecDepth 16384

noncomputable section

namespace Cert.MoeUp

open Idealize.ShloMosaic Idealize.ShloMosaic.Tactic Idealize.ShloMosaic.TcCoe Idealize.SL.Sem

/-- The two programs have one text: the frame of the one is the frame of the other at words. -/
theorem frame_eq : Cert.quiescent_Kernel5 (hKernel5 := Cert.Kernel5.Gen.facts)
    = ∀ (m : (ℓ : Loc Cert.Kernel5Ideal.nD Cert.Kernel5Ideal.τ Cert.Kernel5Ideal.sig) → Buf (Elt Bits) ℓ) (g : Dev Cert.Kernel5Ideal.nD → PrngReg),
      Cert.Pre_Kernel5 m →
      θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
        r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
        ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
        ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
        ∧ r.2.sem = fun _ => 0) := by
  sl_kernel_rfl

theorem frame_kernel : Cert.quiescent_Kernel5 (hKernel5 := Cert.Kernel5.Gen.facts) :=
  frame_eq.mpr fun m ρ _ => Cert.MoeUp.frame (F := Bits) m ρ (segs m)

theorem frame_ideal : Cert.quiescent_Kernel5Ideal (hKernel5Ideal := Cert.Kernel5Ideal.Gen.facts) :=
  fun m ρ _ => Cert.MoeUp.frame (F := Ideal) m ρ (segs m)

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) _⟩) (Cert.Reference5Ideal.Value.run (F := Ideal) m ρ)

/-- The expert projection and its reference end with one array. -/
theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => GG m c Cert.Kernel5Ideal.main_v23,
    (θ_run Cert.Kernel5Ideal.defs _ _).mono (fun r h c => ⟨h.1.1.2 c Cert.Kernel5Ideal.main_v23 (Finset.mem_singleton_self _), h.2.1 c⟩)
      (θ_run_and (Cert.MoeUp.run (F := Ideal) m g (segs m)) (Cert.MoeUp.frame (F := Ideal) m g (segs m))),
    (θ_run Cert.Reference5Ideal.defs _ _).mono (fun r h c => ⟨?_, (h c).2⟩) (Cert.Reference5Ideal.Value.run (F := Ideal) m' g')⟩
  obtain ⟨a0, a1, a2, a3⟩ := hagree c
  refine (h c).1.trans ((Cert.Reference5Ideal.Read.val_main_v186_eq _).trans ?_)
  show Cert.Reference5Ideal.Read.val_main_v186 (F := Ideal) (m' (c.tc.loc Cert.Reference5Ideal.main_arg0)) (m' (c.tc.loc Cert.Reference5Ideal.main_arg1)) (m' (c.tc.loc Cert.Reference5Ideal.main_arg2))
    (m' (c.tc.loc Cert.Reference5Ideal.main_arg3)) = GG m c Cert.Kernel5Ideal.main_v23
  rw [a0, a1, a2, a3]
  exact (arrays_eq m c).symm

end Cert.MoeUp

end
-- ==== Proof.FfnDownValue.lean ====
/-
  The second product of the gated feed-forward with its residual and the next layer's norm, at the extended reals: every
  element of the two result arrays as a formula of the arrays the call reads.
-/
module

public import proofs.«01_k».proof.Proof.Gen.Kernel6Ideal.Value
public import Idealize.ShloMosaic.Lib.Tactic
public import Idealize.ShloMosaic.Lib.Pipeline.ValueKit
public import Idealize.ShloMosaic.PureOps.Ideal

@[expose] public section

set_option maxRecDepth 16384
set_option maxHeartbeats 1600000

noncomputable section

namespace Cert.Kernel6Ideal.FfnDown

open Cert.Kernel6Ideal Cert.Kernel6Ideal.Gen Idealize.ShloMosaic Idealize.ShloMosaic.TcCoe Idealize.SL.Sem Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The batch a grid point works on, as the call computes it. -/
def batchWord (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 16#32 0#32)) (Scalar.extui (Scalar.cmpi .slt 16#32 0#32)))) (Scalar.cmpi .ne (Scalar.remsi (BitVec.ofNat 32 (i 0).val) 16#32) 0#32))
    (Scalar.subi (Scalar.divsi (BitVec.ofNat 32 (i 0).val) 16#32) 1#32) (Scalar.divsi (BitVec.ofNat 32 (i 0).val) 16#32)

section Points

variable {F : FTy → Type} [FloatOps F]
variable (m : (ℓ : Loc nD τ sig) → Buf (Elt F) ℓ)

/-- The rows that a tile beginning with the context's rows leaves in the first result. -/
def rowsFirst (i : grid0.Coords) (x0 : Vec F S272x5632 .bf16) (x1 : Vec F S1x5632x2048 .bf16) (x2 : Vec F S272x2048 .f32) (x3 : Vec F S1x2048 .f32) (x4 : Vec F S1x1x8x2048 .f32) : FVec F S272x2048 .f32 :=
  k0_pay7 (k0_pay3 x0 x1) (k0_pay4 (batchWord i) (k0_pay12 i) x4 x3) (k0_pay5 x2) (k0_pay6 x0 x1)

theorem out_A_8 (c : Dev nD) (i : grid0.Coords) (a1 : Memref sig .tc .vmem S272x5632 .bf16) (h1 : a1.IsWhole) (a2 : Memref sig .tc .vmem S1x5632x2048 .bf16) (h2 : a2.IsWhole) (a3 : Memref sig .tc .vmem S272x2048 .f32) (h3 : a3.IsWhole) (a4 : Memref sig .tc .vmem S1x2048 .f32) (h4 : a4.IsWhole) (a5 : Memref sig .tc .vmem S1x1x8x2048 .f32) (h5 : a5.IsWhole) (a6 : Memref sig .tc .vmem S1x2048 .f32) (h6 : a6.IsWhole) (a7 : Memref sig .tc .vmem S1x1x8x2048 .f32) (h7 : a7.IsWhole) (a8 : Memref sig .tc .vmem S1x1x8x2048 .f32) (h8 : a8.IsWhole) (a9 : Memref sig .tc .vmem S272x2048 .f32) (h9 : a9.IsWhole) (a10 : Memref sig .tc .vmem S272x2048 .bf16) (h10 : a10.IsWhole) (hc0 : cond0_0 i) (hc1 : ¬cond0_1 i)
    (x0 : Vec F S272x5632 .bf16) (x1 : Vec F S1x5632x2048 .bf16) (x2 : Vec F S272x2048 .f32) (x3 : Vec F S1x2048 .f32) (x4 : Vec F S1x1x8x2048 .f32) (x5 : Vec F S1x2048 .f32) (x6 x7 : Vec F S1x1x8x2048 .f32) :
    out0_A_8 c i a1 h1 a2 h2 a3 h3 a4 h4 a5 h5 a6 h6 a7 h7 a8 h8 a9 h9 a10 h10 hc0 hc1 x0 x1 x2 x3 x4 x5 x6 x7 = rowsFirst i x0 x1 x2 x3 x4 := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S272x5632) hz2, View.ld_unit_zero (S := S1x5632x2048) hz3, View.ld_unit_zero (S := S272x2048) hz2, View.ld_unit_zero (S := S1x2048) hz2, View.ld_unit_zero (S := S1x1x8x2048) hz4]
  rfl

theorem out_A_9 (c : Dev nD) (i : grid0.Coords) (a1 : Memref sig .tc .vmem S272x5632 .bf16) (h1 : a1.IsWhole) (a2 : Memref sig .tc .vmem S1x5632x2048 .bf16) (h2 : a2.IsWhole) (a3 : Memref sig .tc .vmem S272x2048 .f32) (h3 : a3.IsWhole) (a4 : Memref sig .tc .vmem S1x2048 .f32) (h4 : a4.IsWhole) (a5 : Memref sig .tc .vmem S1x1x8x2048 .f32) (h5 : a5.IsWhole) (a6 : Memref sig .tc .vmem S1x2048 .f32) (h6 : a6.IsWhole) (a7 : Memref sig .tc .vmem S1x1x8x2048 .f32) (h7 : a7.IsWhole) (a8 : Memref sig .tc .vmem S1x1x8x2048 .f32) (h8 : a8.IsWhole) (a9 : Memref sig .tc .vmem S272x2048 .f32) (h9 : a9.IsWhole) (a10 : Memref sig .tc .vmem S272x2048 .bf16) (h10 : a10.IsWhole) (hc0 : cond0_0 i) (hc1 : ¬cond0_1 i)
    (x0 : Vec F S272x5632 .bf16) (x1 : Vec F S1x5632x2048 .bf16) (x2 : Vec F S272x2048 .f32) (x3 : Vec F S1x2048 .f32) (x4 : Vec F S1x1x8x2048 .f32) (x5 : Vec F S1x2048 .f32) (x6 x7 : Vec F S1x1x8x2048 .f32) :
    out0_A_9 c i a1 h1 a2 h2 a3 h3 a4 h4 a5 h5 a6 h6 a7 h7 a8 h8 a9 h9 a10 h10 hc0 hc1 x0 x1 x2 x3 x4 x5 x6 x7 = k0_pay1 (batchWord i) (k0_pay12 i) (rowsFirst i x0 x1 x2 x3 x4) (k0_pay8 (batchWord i) (k0_pay12 i) x6) (k0_pay9 x7) (k0_pay10 x7) x5 := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S272x5632) hz2, View.ld_unit_zero (S := S1x5632x2048) hz3, View.ld_unit_zero (S := S272x2048) hz2, View.ld_unit_zero (S := S1x2048) hz2, View.ld_unit_zero (S := S1x1x8x2048) hz4]
  rfl

theorem out_B_8 (c : Dev nD) (i : grid0.Coords) (a1 : Memref sig .tc .vmem S272x5632 .bf16) (h1 : a1.IsWhole) (a2 : Memref sig .tc .vmem S1x5632x2048 .bf16) (h2 : a2.IsWhole) (a3 : Memref sig .tc .vmem S272x2048 .f32) (h3 : a3.IsWhole) (a4 : Memref sig .tc .vmem S1x2048 .f32) (h4 : a4.IsWhole) (a5 : Memref sig .tc .vmem S1x1x8x2048 .f32) (h5 : a5.IsWhole) (a6 : Memref sig .tc .vmem S1x2048 .f32) (h6 : a6.IsWhole) (a7 : Memref sig .tc .vmem S1x1x8x2048 .f32) (h7 : a7.IsWhole) (a8 : Memref sig .tc .vmem S1x1x8x2048 .f32) (h8 : a8.IsWhole) (a9 : Memref sig .tc .vmem S272x2048 .f32) (h9 : a9.IsWhole) (a10 : Memref sig .tc .vmem S272x2048 .bf16) (h10 : a10.IsWhole) (hc0 : ¬cond0_0 i) (hc1 : cond0_1 i)
    (x0 : Vec F S272x5632 .bf16) (x1 : Vec F S1x5632x2048 .bf16) (x2 : Vec F S272x2048 .f32) (x3 : Vec F S1x2048 .f32) (x4 : Vec F S1x1x8x2048 .f32) (x5 : Vec F S1x2048 .f32) (x6 x7 : Vec F S1x1x8x2048 .f32) :
    out0_B_8 c i a1 h1 a2 h2 a3 h3 a4 h4 a5 h5 a6 h6 a7 h7 a8 h8 a9 h9 a10 h10 hc0 hc1 x0 x1 x2 x3 x4 x5 x6 x7 = k0_pay11 (batchWord i) x0 x1 x4 x3 x2 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 x6 x7)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S272x5632) hz2, View.ld_unit_zero (S := S1x5632x2048) hz3, View.ld_unit_zero (S := S272x2048) hz2, View.ld_unit_zero (S := S1x2048) hz2, View.ld_unit_zero (S := S1x1x8x2048) hz4]
  rfl

theorem out_B_9 (c : Dev nD) (i : grid0.Coords) (a1 : Memref sig .tc .vmem S272x5632 .bf16) (h1 : a1.IsWhole) (a2 : Memref sig .tc .vmem S1x5632x2048 .bf16) (h2 : a2.IsWhole) (a3 : Memref sig .tc .vmem S272x2048 .f32) (h3 : a3.IsWhole) (a4 : Memref sig .tc .vmem S1x2048 .f32) (h4 : a4.IsWhole) (a5 : Memref sig .tc .vmem S1x1x8x2048 .f32) (h5 : a5.IsWhole) (a6 : Memref sig .tc .vmem S1x2048 .f32) (h6 : a6.IsWhole) (a7 : Memref sig .tc .vmem S1x1x8x2048 .f32) (h7 : a7.IsWhole) (a8 : Memref sig .tc .vmem S1x1x8x2048 .f32) (h8 : a8.IsWhole) (a9 : Memref sig .tc .vmem S272x2048 .f32) (h9 : a9.IsWhole) (a10 : Memref sig .tc .vmem S272x2048 .bf16) (h10 : a10.IsWhole) (hc0 : ¬cond0_0 i) (hc1 : cond0_1 i)
    (x0 : Vec F S272x5632 .bf16) (x1 : Vec F S1x5632x2048 .bf16) (x2 : Vec F S272x2048 .f32) (x3 : Vec F S1x2048 .f32) (x4 : Vec F S1x1x8x2048 .f32) (x5 : Vec F S1x2048 .f32) (x6 x7 : Vec F S1x1x8x2048 .f32) :
    out0_B_9 c i a1 h1 a2 h2 a3 h3 a4 h4 a5 h5 a6 h6 a7 h7 a8 h8 a9 h9 a10 h10 hc0 hc1 x0 x1 x2 x3 x4 x5 x6 x7 = k0_pay2 (batchWord i) (k0_pay11 (batchWord i) x0 x1 x4 x3 x2) x6 x7 x5 := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 x6 x7)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S272x5632) hz2, View.ld_unit_zero (S := S1x5632x2048) hz3, View.ld_unit_zero (S := S272x2048) hz2, View.ld_unit_zero (S := S1x2048) hz2, View.ld_unit_zero (S := S1x1x8x2048) hz4]
  rfl

theorem idx_facts : ∀ t : Fin cfg0.N, win0_0.index t = ![t.val, 0]
    ∧ win0_1.index t = ![1, 0, 0]
    ∧ win0_2.index t = ![t.val, 0]
    ∧ win0_3.index t = ![0, 0]
    ∧ win0_4.index t = ![2, 5, 0, 0]
    ∧ win0_5.index t = ![0, 0]
    ∧ win0_6.index t = ![3, 0, 0, 0]
    ∧ win0_7.index t = ![3, 1, 0, 0]
    ∧ win0_8.index t = ![t.val, 0]
    ∧ win0_9.index t = ![t.val, 0] :=
  (by decide +kernel : ∀ t : Fin grid0.N, _)

theorem batchWord_at : ∀ t : Fin cfg0.N, batchWord (grid0.coords t) = BitVec.ofNat 32 (t.val / 16) :=
  (by decide +kernel : ∀ t : Fin grid0.N, _)

end Points

/-! ## At the extended reals -/

variable (m : (ℓ : Loc nD τ sig) → Buf (Elt Ideal) ℓ)

/-- The root of a row's mean square, inverted. -/
def root (y : Fin 2048 → EReal) : EReal :=
  Ideal.rsqrt (Ideal.div (∑ k, y k * y k) (Ideal.ofBits FTy.f32 0x45000000#32) + Ideal.ofBits FTy.f32 0x358637BD#32)

/-- A residual row plus its gate times the norm of `y`. -/
def stateOf (y x gate g : Fin 2048 → EReal) (q : Fin 2048) : EReal := x q + gate q * (y q * root y * g q)

/-- The norm of a residual row, scaled and shifted for the next layer. -/
def nextOf (s g scale shift : Fin 2048 → EReal) (q : Fin 2048) : EReal := s q * root s * g q * (1 + scale q) + shift q

/-- The row of the modulation vectors that a row of the result uses: the context's, or its batch's. -/
def modRow (R : ℕ) : Fin 8 := if R % 4352 < 256 then 2 else ⟨R / 4352 % 8, Nat.mod_lt _ (by decide)⟩

theorem select_if (p : Prop) [Decidable p] (a b : EReal) : Scalar.select (if p then 1#1 else 0#1) a b = if p then a else b := by
  by_cases h : p
  · rw [if_pos h, if_pos h]; rfl
  · rw [if_neg h, if_neg h]; rfl

theorem eq_word : ∀ x k : Fin 8, IntOp.cmpi CmpIPredicate.eq (BitVec.ofNat 32 x.val) (BitVec.ofNat 32 k.val) = if x = k then 1#1 else 0#1 := by decide

/-- The sum over eight rows that keeps one is that row. -/
theorem pick (f : Fin 8 → EReal) (k : Fin 8) :
    (∑ x : Fin 8, Scalar.select (IntOp.cmpi CmpIPredicate.eq (BitVec.ofNat 32 x.val) (BitVec.ofNat 32 k.val)) (f x) 0) = f k := by
  simp only [eq_word, select_if]
  rw [Finset.sum_ite_eq' Finset.univ k f, if_pos (Finset.mem_univ k)]

theorem pick_two (f : Fin 8 → EReal) :
    (∑ x : Fin 8, Scalar.select (IntOp.cmpi CmpIPredicate.eq (BitVec.ofNat 32 x.val) 2#32) (f x) 0) = f 2 := pick f 2

/-- The first of a tile's rows within its batch, over the tile's height. -/
def tileWord (i : grid0.Coords) : BitVec 32 :=
  Scalar.select
    (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32))
      (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))

theorem tileWord_at : ∀ t : Fin cfg0.N, t.val % 16 = 0 → tileWord (grid0.coords t) = 0#32 :=
  (by decide +kernel : ∀ t : Fin grid0.N, _)

theorem mask_word : ∀ r : Fin 272, IntOp.cmpi CmpIPredicate.slt (IntOp.addi (Scalar.muli 0#32 272#32) (BitVec.ofNat 32 r.val)) 256#32 = if r.val < 256 then 1#1 else 0#1 := by
  decide +kernel

theorem mask_at (t : Fin cfg0.N) (h : t.val % 16 = 0) (r : Fin 272) : k0_pay12 (grid0.coords t) (ix2 r 0) = if r.val < 256 then 1#1 else 0#1 := by
  have e := tileWord_at t h
  unfold tileWord at e
  unfold k0_pay12
  pointwise
  rw [e]
  exact mask_word r

/-- The row a tile's batch has among the modulation vectors. -/
def batchRow (t : ℕ) : Fin 8 := ⟨t / 16 % 8, Nat.mod_lt _ (by decide)⟩

theorem batchWord_row (t : Fin cfg0.N) : batchWord (grid0.coords t) = BitVec.ofNat 32 (batchRow t.val).val := by
  have ht : t.val < 32 := lt_of_lt_of_eq t.isLt N_0
  rw [batchWord_at]
  refine congrArg (BitVec.ofNat 32) ?_
  show t.val / 16 = t.val / 16 % 8
  omega

theorem modRow_first (t : ℕ) (h : t % 16 = 0) (ht : t < 32) (r : Fin 272) : modRow (t * 272 + r.val) = if r.val < 256 then 2 else batchRow t := by
  have hr : r.val < 272 := r.isLt
  unfold modRow batchRow
  by_cases hc : r.val < 256
  · rw [if_pos hc, if_pos (by omega)]
  · rw [if_neg hc, if_neg (by omega)]
    exact Fin.ext (by show (t * 272 + r.val) / 4352 % 8 = t / 16 % 8; omega)

theorem modRow_later (t : ℕ) (h : ¬t % 16 = 0) (ht : t < 32) (r : Fin 272) : modRow (t * 272 + r.val) = batchRow t := by
  have hr : r.val < 272 := r.isLt
  unfold modRow batchRow
  rw [if_neg (by omega)]
  exact Fin.ext (by show (t * 272 + r.val) / 4352 % 8 = t / 16 % 8; omega)

theorem state_assoc (a b c d e : EReal) : a + b * c * (d * e) = a + d * (b * c * e) := by
  rw [mul_left_comm]

theorem next_assoc (a b c d e : EReal) : a * b * (c * d) + e = a * b * d * c + e := by
  rw [mul_comm c d, mul_assoc (a * b) d c]

theorem rowsFirst_at (t : Fin cfg0.N) (h : t.val % 16 = 0) (a : Vec Ideal S272x5632 .bf16) (u : Vec Ideal S1x5632x2048 .bf16) (x : Vec Ideal S272x2048 .f32) (g : Vec Ideal S1x2048 .f32) (gt : Vec Ideal S1x1x8x2048 .f32) (r : Fin 272) (q : Fin 2048) :
    rowsFirst (grid0.coords t) a u x g gt (ix2 r q)
      = stateOf (fun k => ∑ d : Fin 5632, a (ix2 r d) * u (ix3 0 d k)) (fun k => x (ix2 r k)) (fun k => gt (ix4 0 0 (modRow (t.val * 272 + r.val)) k)) (fun k => g (ix2 0 k)) q := by
  have ht : t.val < 32 := lt_of_lt_of_eq t.isLt N_0
  have hm := mask_at t h r
  rw [modRow_first t.val h ht r]
  unfold rowsFirst
  rw [batchWord_row]
  generalize k0_pay12 (grid0.coords t) = mask at *
  unfold k0_pay7 k0_pay6 k0_pay5 k0_pay4 k0_pay3
  pointwise
  rw [hm, select_if, pick_two (fun k => gt (ix4 0 0 k q)), pick (fun k => gt (ix4 0 0 k q))]
  unfold stateOf root
  rw [state_assoc]
  by_cases hc : r.val < 256
  · simp only [hc, if_true]
  · simp only [hc, if_false]

theorem rowsLater_at (t : Fin cfg0.N) (h : ¬t.val % 16 = 0) (a : Vec Ideal S272x5632 .bf16) (u : Vec Ideal S1x5632x2048 .bf16) (x : Vec Ideal S272x2048 .f32) (g : Vec Ideal S1x2048 .f32) (gt : Vec Ideal S1x1x8x2048 .f32) (r : Fin 272) (q : Fin 2048) :
    k0_pay11 (batchWord (grid0.coords t)) a u gt g x (ix2 r q)
      = stateOf (fun k => ∑ d : Fin 5632, a (ix2 r d) * u (ix3 0 d k)) (fun k => x (ix2 r k)) (fun k => gt (ix4 0 0 (modRow (t.val * 272 + r.val)) k)) (fun k => g (ix2 0 k)) q := by
  have ht : t.val < 32 := lt_of_lt_of_eq t.isLt N_0
  rw [modRow_later t.val h ht r, batchWord_row]
  unfold k0_pay11
  pointwise
  rw [pick (fun k => gt (ix4 0 0 k q))]
  unfold stateOf root
  rw [state_assoc]

theorem nextFirst_at (t : Fin cfg0.N) (h : t.val % 16 = 0) (s : FVec Ideal S272x2048 .f32) (g : Vec Ideal S1x2048 .f32) (sh sc : Vec Ideal S1x1x8x2048 .f32) (r : Fin 272) (q : Fin 2048) :
    k0_pay1 (batchWord (grid0.coords t)) (k0_pay12 (grid0.coords t)) s (k0_pay8 (batchWord (grid0.coords t)) (k0_pay12 (grid0.coords t)) sh) (k0_pay9 sc) (k0_pay10 sc) g (ix2 r q)
      = nextOf (fun k => s (ix2 r k)) (fun k => g (ix2 0 k)) (fun k => sc (ix4 0 0 (modRow (t.val * 272 + r.val)) k)) (fun k => sh (ix4 0 0 (modRow (t.val * 272 + r.val)) k)) q := by
  have ht : t.val < 32 := lt_of_lt_of_eq t.isLt N_0
  have hm := mask_at t h r
  rw [modRow_first t.val h ht r, batchWord_row]
  generalize k0_pay12 (grid0.coords t) = mask at *
  unfold k0_pay1 k0_pay8 k0_pay10 k0_pay9
  pointwise
  simp only [hm, select_if]
  rw [pick_two (fun k => sc (ix4 0 0 k q)), pick (fun k => sc (ix4 0 0 k q)), pick_two (fun k => sh (ix4 0 0 k q)), pick (fun k => sh (ix4 0 0 k q))]
  unfold nextOf root
  rw [next_assoc]
  by_cases hc : r.val < 256
  · simp only [hc, if_true]
  · simp only [hc, if_false]

theorem nextLater_at (t : Fin cfg0.N) (h : ¬t.val % 16 = 0) (s : FVec Ideal S272x2048 .f32) (g : Vec Ideal S1x2048 .f32) (sh sc : Vec Ideal S1x1x8x2048 .f32) (r : Fin 272) (q : Fin 2048) :
    k0_pay2 (batchWord (grid0.coords t)) s sh sc g (ix2 r q)
      = nextOf (fun k => s (ix2 r k)) (fun k => g (ix2 0 k)) (fun k => sc (ix4 0 0 (modRow (t.val * 272 + r.val)) k)) (fun k => sh (ix4 0 0 (modRow (t.val * 272 + r.val)) k)) q := by
  have ht : t.val < 32 := lt_of_lt_of_eq t.isLt N_0
  rw [modRow_later t.val h ht r, batchWord_row]
  unfold k0_pay2
  pointwise
  rw [pick (fun k => sc (ix4 0 0 k q)), pick (fun k => sh (ix4 0 0 k q))]
  unfold nextOf root
  rw [next_assoc]

/-- A row of the first result. -/
def stateRow (a : (⟨2, ![8704, 5632]⟩ : Shape).Idx → EReal) (w : (⟨3, ![2, 5632, 2048]⟩ : Shape).Idx → EReal) (x : (⟨2, ![8704, 2048]⟩ : Shape).Idx → EReal) (g : (⟨2, ![1, 2048]⟩ : Shape).Idx → EReal) (mods : (⟨4, ![4, 6, 8, 2048]⟩ : Shape).Idx → EReal) (R : Fin 8704) : Fin 2048 → EReal :=
  stateOf (fun k => ∑ d : Fin 5632, a (ix2 R d) * w (ix3 1 d k)) (fun k => x (ix2 R k)) (fun k => mods (ix4 2 5 (modRow R.val) k)) (fun k => g (ix2 0 k))

/-- A row of the second result. -/
def nextRow (a : (⟨2, ![8704, 5632]⟩ : Shape).Idx → EReal) (w : (⟨3, ![2, 5632, 2048]⟩ : Shape).Idx → EReal) (x : (⟨2, ![8704, 2048]⟩ : Shape).Idx → EReal) (g n : (⟨2, ![1, 2048]⟩ : Shape).Idx → EReal) (mods : (⟨4, ![4, 6, 8, 2048]⟩ : Shape).Idx → EReal) (R : Fin 8704) : Fin 2048 → EReal :=
  nextOf (stateRow a w x g mods R) (fun k => n (ix2 0 k)) (fun k => mods (ix4 3 1 (modRow R.val) k)) (fun k => mods (ix4 3 0 (modRow R.val) k))

/-- The array of an array's rows. -/
def ofRows (f : Fin 8704 → Fin 2048 → EReal) : S8704x2048.Idx → EReal := fun i => f ⟨(i 0).val, (i 0).isLt⟩ ⟨(i 1).val, (i 1).isLt⟩

theorem ofRows_of (f : Fin 8704 → Fin 2048 → EReal) (i : S8704x2048.Idx) (R : Fin 8704) (q : Fin 2048) (h0 : (i 0 : ℕ) = R.val) (h1 : (i 1 : ℕ) = q.val) : f R q = ofRows f i := by
  unfold ofRows
  have e0 : (⟨(i 0).val, (i 0).isLt⟩ : Fin 8704) = R := Fin.ext h0
  have e1 : (⟨(i 1).val, (i 1).isLt⟩ : Fin 2048) = q := Fin.ext h1
  rw [e0, e1]

section Blocks

theorem blk0 (c : Dev nD) (t : Fin cfg0.N) (ht : t.val < 32) (r : Fin 272) (d : Fin 5632) : iblk m c 0 t (ix2 r d) = V m c main_v4 (ix2 ⟨t.val * 272 + r.val, by omega⟩ d) := by
  obtain ⟨e0, e1, e2, e3, e4, e5, e6, e7, e8, e9⟩ := idx_facts t
  blk_ext [iblk, e0]
theorem blk1 (c : Dev nD) (t : Fin cfg0.N) (d : Fin 5632) (q : Fin 2048) : iblk m c 1 t (ix3 0 d q) = V m c main_v5 (ix3 1 d q) := by
  obtain ⟨e0, e1, e2, e3, e4, e5, e6, e7, e8, e9⟩ := idx_facts t
  blk_ext [iblk, e1]
theorem blk2 (c : Dev nD) (t : Fin cfg0.N) (ht : t.val < 32) (r : Fin 272) (d : Fin 2048) : iblk m c 2 t (ix2 r d) = V m c main_v7 (ix2 ⟨t.val * 272 + r.val, by omega⟩ d) := by
  obtain ⟨e0, e1, e2, e3, e4, e5, e6, e7, e8, e9⟩ := idx_facts t
  blk_ext [iblk, e2]
theorem blk3 (c : Dev nD) (t : Fin cfg0.N) (q : Fin 2048) : iblk m c 3 t (ix2 0 q) = V m c main_v8 (ix2 0 q) := by
  obtain ⟨e0, e1, e2, e3, e4, e5, e6, e7, e8, e9⟩ := idx_facts t
  blk_ext [iblk, e3]
theorem blk4 (c : Dev nD) (t : Fin cfg0.N) (k : Fin 8) (q : Fin 2048) : iblk m c 4 t (ix4 0 0 k q) = V m c main_v1 (ix4 2 5 k q) := by
  obtain ⟨e0, e1, e2, e3, e4, e5, e6, e7, e8, e9⟩ := idx_facts t
  blk_ext [iblk, e4]
theorem blk5 (c : Dev nD) (t : Fin cfg0.N) (q : Fin 2048) : iblk m c 5 t (ix2 0 q) = V m c main_v9 (ix2 0 q) := by
  obtain ⟨e0, e1, e2, e3, e4, e5, e6, e7, e8, e9⟩ := idx_facts t
  blk_ext [iblk, e5]
theorem blk6 (c : Dev nD) (t : Fin cfg0.N) (k : Fin 8) (q : Fin 2048) : iblk m c 6 t (ix4 0 0 k q) = V m c main_v1 (ix4 3 0 k q) := by
  obtain ⟨e0, e1, e2, e3, e4, e5, e6, e7, e8, e9⟩ := idx_facts t
  blk_ext [iblk, e6]
theorem blk7 (c : Dev nD) (t : Fin cfg0.N) (k : Fin 8) (q : Fin 2048) : iblk m c 7 t (ix4 0 0 k q) = V m c main_v1 (ix4 3 1 k q) := by
  obtain ⟨e0, e1, e2, e3, e4, e5, e6, e7, e8, e9⟩ := idx_facts t
  blk_ext [iblk, e7]

end Blocks

/-- The first result's rows after a point. -/
theorem state_at (c : Dev nD) (t : Fin cfg0.N) (ht : t.val < 32) (r : Fin 272) (q : Fin 2048) :
    (outsAt0 m c t.val t.isLt).1 (ix2 r q) = stateRow (V m c main_v4) (V m c main_v5) (V m c main_v7) (V m c main_v8) (V m c main_v1) ⟨t.val * 272 + r.val, by omega⟩ q := by
  have b0 := blk0 m c t ht r
  have b1 := blk1 m c t
  have b2 := blk2 m c t ht r
  have b3 := blk3 m c t
  have b4 := blk4 m c t (modRow (t.val * 272 + r.val))
  by_cases h : t.val % 16 = 0
  · rw [outsAt0_A m c t h (not_not.mpr h)]
    dsimp only
    rw [out_A_8]
    refine (rowsFirst_at t h _ _ _ _ _ r q).trans ?_
    simp only [b0, b1, b2, b3, b4]
    rfl
  · rw [outsAt0_B m c t h h]
    dsimp only
    rw [out_B_8]
    refine (rowsLater_at t h _ _ _ _ _ r q).trans ?_
    simp only [b0, b1, b2, b3, b4]
    rfl

/-- The second result's rows after a point. -/
theorem next_at (c : Dev nD) (t : Fin cfg0.N) (ht : t.val < 32) (r : Fin 272) (q : Fin 2048) :
    (outsAt0 m c t.val t.isLt).2 (ix2 r q) = nextRow (V m c main_v4) (V m c main_v5) (V m c main_v7) (V m c main_v8) (V m c main_v9) (V m c main_v1) ⟨t.val * 272 + r.val, by omega⟩ q := by
  have s := state_at m c t ht r
  have b5 := blk5 m c t
  have b6 := blk6 m c t (modRow (t.val * 272 + r.val))
  have b7 := blk7 m c t (modRow (t.val * 272 + r.val))
  by_cases h : t.val % 16 = 0
  · rw [outsAt0_A m c t h (not_not.mpr h)] at s ⊢
    dsimp only at s ⊢
    rw [out_A_8] at s
    rw [out_A_9]
    refine (nextFirst_at t h _ _ _ _ r q).trans ?_
    simp only [s, b5, b6, b7]
    rfl
  · rw [outsAt0_B m c t h h] at s ⊢
    dsimp only at s ⊢
    rw [out_B_8] at s
    rw [out_B_9]
    refine (nextLater_at t h _ _ _ _ r q).trans ?_
    simp only [s, b5, b6, b7]
    rfl

theorem array_state (c : Dev nD) : (dats m 0 c).arrAt 8 cfg0.N = ofRows (stateRow (V m c main_v4) (V m c main_v5) (V m c main_v7) (V m c main_v8) (V m c main_v1)) := by
  refine (dats m 0 c).arrAt_eq_of_covers 8 _ (by decide +kernel) fun t hf y => ?_
  obtain ⟨e0, e1, e2, e3, e4, e5, e6, e7, e8, e9⟩ := idx_facts t
  have ht : t.val < 32 := lt_of_lt_of_eq t.isLt N_0
  have hy0 : (y 0).val < 272 := (y 0).isLt
  have hy1 : (y 1).val < 2048 := (y 1).isLt
  have h0 : (((win0_8.blk t).view.emb y) 0 : ℕ) = t.val * 272 + (y 0).val := by
    blk_simp [e8]
  have h1 : (((win0_8.blk t).view.emb y) 1 : ℕ) = (y 1).val := by
    blk_simp [e8]
  blk_simp
  rw [after0_8]
  refine (congrArg _ (eq_ix2 (n0 := 272) (n1 := 2048) y)).trans ?_
  refine (state_at m c t ht ⟨(y 0).val, hy0⟩ ⟨(y 1).val, hy1⟩).trans ?_
  exact ofRows_of _ _ _ _ h0 h1

theorem array_next (c : Dev nD) : (dats m 0 c).arrAt 9 cfg0.N = ofRows (nextRow (V m c main_v4) (V m c main_v5) (V m c main_v7) (V m c main_v8) (V m c main_v9) (V m c main_v1)) := by
  refine (dats m 0 c).arrAt_eq_of_covers 9 _ (by decide +kernel) fun t hf y => ?_
  obtain ⟨e0, e1, e2, e3, e4, e5, e6, e7, e8, e9⟩ := idx_facts t
  have ht : t.val < 32 := lt_of_lt_of_eq t.isLt N_0
  have hy0 : (y 0).val < 272 := (y 0).isLt
  have hy1 : (y 1).val < 2048 := (y 1).isLt
  have h0 : (((win0_9.blk t).view.emb y) 0 : ℕ) = t.val * 272 + (y 0).val := by
    blk_simp [e9]
  have h1 : (((win0_9.blk t).view.emb y) 1 : ℕ) = (y 1).val := by
    blk_simp [e9]
  blk_simp
  rw [after0_9]
  refine (congrArg _ (eq_ix2 (n0 := 272) (n1 := 2048) y)).trans ?_
  refine (next_at m c t ht ⟨(y 0).val, hy0⟩ ⟨(y 1).val, hy1⟩).trans ?_
  exact ofRows_of _ _ _ _ h0 h1

end Cert.Kernel6Ideal.FfnDown

end
-- ==== Proof.FfnDownTie.lean ====
/- The two programs of the feed-forward's second product compute the same arrays. -/
module

public import proofs.«01_k».proof.Proof.FfnDownValue
public import proofs.«01_k».proof.Proof.Gen.Reference6Ideal.Read

@[expose] public section

set_option maxRecDepth 16384
set_option maxHeartbeats 2000000

noncomputable section

/-! ## The reference's elements -/

namespace Cert.FfnDown

open Idealize.ShloMosaic Idealize.ShloMosaic.TcCoe Idealize.ShloMosaic.Tactic
open Cert.Reference6Ideal Cert.Reference6Ideal.Gen Cert.Reference6Ideal.Read
open Cert.Kernel6Ideal.FfnDown (stateOf nextOf root)

theorem latent_state (x0 : Vec Ideal S2x4096x5632 .f32) (x2 : Vec Ideal S2x5632x2048 .f32) (x3 : Vec Ideal S2x4096x2048 .f32) (x5 : Vec Ideal S2048 .f32) (x7 : Vec Ideal S4x6x3x2048 .f32) (b : Fin 2) (s : Fin 4096) (q : Fin 2048) :
    val_main_v30 (F := Ideal) x0 x2 x3 x5 x7 (ix3 b s q)
      = stateOf (fun k => ∑ d : Fin 5632, x0 (ix3 b s d) * x2 (ix3 1 d k)) (fun k => x3 (ix3 b s k)) (fun k => x7 (ix4 2 5 ⟨b.val, by omega⟩ k)) (fun k => x5 (ix1 k)) q := by
  unfold stateOf root
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v7 val_main_v6 val_main_v1 val_main_v0 val_main_cst val_main_cst_0 val_main_cst_1
  pointwise
  try rfl

theorem latent_next (x0 : Vec Ideal S2x4096x5632 .f32) (x2 : Vec Ideal S2x5632x2048 .f32) (x3 : Vec Ideal S2x4096x2048 .f32) (x5 x6 : Vec Ideal S2048 .f32) (x7 : Vec Ideal S4x6x3x2048 .f32) (b : Fin 2) (s : Fin 4096) (q : Fin 2048) :
    val_main_v49 (F := Ideal) x0 x2 x3 x5 x6 x7 (ix3 b s q)
      = nextOf (fun k => val_main_v30 (F := Ideal) x0 x2 x3 x5 x7 (ix3 b s k)) (fun k => x6 (ix1 k)) (fun k => x7 (ix4 3 1 ⟨b.val, by omega⟩ k)) (fun k => x7 (ix4 3 0 ⟨b.val, by omega⟩ k)) q := by
  unfold nextOf root
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_2 val_main_cst_3 val_main_cst_4 val_main_cst_5 val_main_v11 val_main_v10 val_main_v9 val_main_v8 val_main_v5 val_main_v4 val_main_v3 val_main_v2
  generalize val_main_v30 (F := Ideal) x0 x2 x3 x5 x7 = y
  pointwise
  try rfl

theorem context_state (x1 : Vec Ideal S2x256x5632 .f32) (x2 : Vec Ideal S2x5632x2048 .f32) (x4 : Vec Ideal S2x256x2048 .f32) (x5 : Vec Ideal S2048 .f32) (x7 : Vec Ideal S4x6x3x2048 .f32) (b : Fin 2) (s : Fin 256) (q : Fin 2048) :
    val_main_v75 (F := Ideal) x1 x2 x4 x5 x7 (ix3 b s q)
      = stateOf (fun k => ∑ d : Fin 5632, x1 (ix3 b s d) * x2 (ix3 1 d k)) (fun k => x4 (ix3 b s k)) (fun k => x7 (ix4 2 5 2 k)) (fun k => x5 (ix1 k)) q := by
  unfold stateOf root
  unfold val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v51 val_main_v50 val_main_v1 val_main_v0 val_main_cst_6 val_main_cst_7 val_main_cst_8
  pointwise
  try rfl

theorem context_next (x1 : Vec Ideal S2x256x5632 .f32) (x2 : Vec Ideal S2x5632x2048 .f32) (x4 : Vec Ideal S2x256x2048 .f32) (x5 x6 : Vec Ideal S2048 .f32) (x7 : Vec Ideal S4x6x3x2048 .f32) (b : Fin 2) (s : Fin 256) (q : Fin 2048) :
    val_main_v96 (F := Ideal) x1 x2 x4 x5 x6 x7 (ix3 b s q)
      = nextOf (fun k => val_main_v75 (F := Ideal) x1 x2 x4 x5 x7 (ix3 b s k)) (fun k => x6 (ix1 k)) (fun k => x7 (ix4 3 1 2 k)) (fun k => x7 (ix4 3 0 2 k)) q := by
  unfold nextOf root
  unfold val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_cst_9 val_main_cst_10 val_main_cst_11 val_main_cst_12 val_main_v55 val_main_v54 val_main_v53 val_main_v52 val_main_v5 val_main_v4 val_main_v3 val_main_v2
  generalize val_main_v75 (F := Ideal) x1 x2 x4 x5 x7 = y
  pointwise
  try rfl

/-- Row `s` of batch `b`, the context's rows before the latents'. -/
def joined {n : ℕ} (xc : (⟨3, ![2, 256, n]⟩ : Shape).Idx → EReal) (x : (⟨3, ![2, 4096, n]⟩ : Shape).Idx → EReal) (b : Fin 2) (s : Fin 4352) (d : Fin n) : EReal :=
  if h : s.val < 256 then xc (ix3 b ⟨s.val, h⟩ d) else x (ix3 b ⟨s.val - 256, by omega⟩ d)

/-- The row of the modulation vectors for that row: the context's, or its batch's. -/
def modOf (b : Fin 2) (s : Fin 4352) : Fin 3 := if s.val < 256 then 2 else ⟨b.val, by omega⟩

theorem reference_state (x0 : Vec Ideal S2x4096x5632 .f32) (x1 : Vec Ideal S2x256x5632 .f32) (x2 : Vec Ideal S2x5632x2048 .f32) (x3 : Vec Ideal S2x4096x2048 .f32) (x4 : Vec Ideal S2x256x2048 .f32) (x5 : Vec Ideal S2048 .f32) (x7 : Vec Ideal S4x6x3x2048 .f32) (b : Fin 2) (s : Fin 4352) (q : Fin 2048) :
    val_main_v98 (F := Ideal) x0 x1 x2 x3 x4 x5 x7 (ix2 ⟨b.val * 4352 + s.val, by omega⟩ q)
      = stateOf (fun k => ∑ d : Fin 5632, joined x1 x0 b s d * x2 (ix3 1 d k)) (fun k => joined x4 x3 b s k) (fun k => x7 (ix4 2 5 (modOf b s) k)) (fun k => x5 (ix1 k)) q := by
  have hc := context_state x1 x2 x4 x5 x7
  have hl := latent_state x0 x2 x3 x5 x7
  unfold val_main_v98 val_main_v97
  generalize val_main_v75 (F := Ideal) x1 x2 x4 x5 x7 = y at *
  generalize val_main_v30 (F := Ideal) x0 x2 x3 x5 x7 = z at *
  pointwise
  have e1 : (b.val * 4352 + s.val) / 4352 = b.val := by omega
  have e2 : (b.val * 4352 + s.val) % 4352 = s.val := by omega
  try simp only [e1, e2]
  unfold joined modOf
  by_cases h : s.val < 256
  · simp only [h, dif_pos, if_true]
    exact hc b ⟨s.val, h⟩ q
  · simp only [h, dif_neg, not_false_eq_true, if_false]
    exact hl b ⟨s.val - 256, by omega⟩ q

theorem reference_next (x0 : Vec Ideal S2x4096x5632 .f32) (x1 : Vec Ideal S2x256x5632 .f32) (x2 : Vec Ideal S2x5632x2048 .f32) (x3 : Vec Ideal S2x4096x2048 .f32) (x4 : Vec Ideal S2x256x2048 .f32) (x5 x6 : Vec Ideal S2048 .f32) (x7 : Vec Ideal S4x6x3x2048 .f32) (b : Fin 2) (s : Fin 4352) (q : Fin 2048) :
    val_main_v101 (F := Ideal) x0 x1 x2 x3 x4 x5 x6 x7 (ix2 ⟨b.val * 4352 + s.val, by omega⟩ q)
      = nextOf (stateOf (fun k => ∑ d : Fin 5632, joined x1 x0 b s d * x2 (ix3 1 d k)) (fun k => joined x4 x3 b s k) (fun k => x7 (ix4 2 5 (modOf b s) k)) (fun k => x5 (ix1 k)))
          (fun k => x6 (ix1 k)) (fun k => x7 (ix4 3 1 (modOf b s) k)) (fun k => x7 (ix4 3 0 (modOf b s) k)) q := by
  have hc := context_next x1 x2 x4 x5 x6 x7
  have hl := latent_next x0 x2 x3 x5 x6 x7
  simp only [context_state] at hc
  simp only [latent_state] at hl
  unfold val_main_v101 val_main_v100 val_main_v99
  generalize val_main_v96 (F := Ideal) x1 x2 x4 x5 x6 x7 = y at *
  generalize val_main_v49 (F := Ideal) x0 x2 x3 x5 x6 x7 = z at *
  pointwise
  have e1 : (b.val * 4352 + s.val) / 4352 = b.val := by omega
  have e2 : (b.val * 4352 + s.val) % 4352 = s.val := by omega
  try simp only [e1, e2]
  unfold joined modOf
  by_cases h : s.val < 256
  · simp only [h, dif_pos, if_true]
    exact hc b ⟨s.val, h⟩ q
  · simp only [h, dif_neg, not_false_eq_true, if_false]
    exact hl b ⟨s.val - 256, by omega⟩ q

end Cert.FfnDown

namespace Cert.Kernel6Ideal.FfnDown

open Cert.Kernel6Ideal Cert.Kernel6Ideal.Gen Idealize.ShloMosaic Idealize.ShloMosaic.TcCoe Idealize.ShloMosaic.Tactic
open Cert.FfnDown (joined modOf)
variable (m : (ℓ : Loc nD τ sig) → Buf (Elt Ideal) ℓ)

theorem entry_a (c : Dev nD) (b : Fin 2) (s : Fin 4352) (d : Fin 5632) :
    V m c main_v4 (ix2 ⟨b.val * 4352 + s.val, by omega⟩ d) = joined (m (c.tc.loc main_arg1)) (m (c.tc.loc main_arg0)) b s d := by
  have e1 : (b.val * 4352 + s.val) / 4352 = b.val := by omega
  have e2 : (b.val * 4352 + s.val) % 4352 = s.val := by omega
  unfold joined
  entry_read
  pointwise
  try simp only [e1, e2]

theorem entry_x (c : Dev nD) (b : Fin 2) (s : Fin 4352) (d : Fin 2048) :
    V m c main_v7 (ix2 ⟨b.val * 4352 + s.val, by omega⟩ d) = joined (m (c.tc.loc main_arg4)) (m (c.tc.loc main_arg3)) b s d := by
  have e1 : (b.val * 4352 + s.val) / 4352 = b.val := by omega
  have e2 : (b.val * 4352 + s.val) % 4352 = s.val := by omega
  unfold joined
  entry_read
  pointwise
  try simp only [e1, e2]

theorem entry_w (c : Dev nD) (d : Fin 5632) (q : Fin 2048) : V m c main_v5 (ix3 1 d q) = m (c.tc.loc main_arg2) (ix3 1 d q) := by
  entry_read
  pointwise
  try rfl

theorem entry_g (c : Dev nD) (q : Fin 2048) : V m c main_v8 (ix2 0 q) = m (c.tc.loc main_arg5) (ix1 q) := by
  entry_read
  pointwise
  try rfl

theorem entry_n (c : Dev nD) (q : Fin 2048) : V m c main_v9 (ix2 0 q) = m (c.tc.loc main_arg6) (ix1 q) := by
  entry_read
  pointwise
  try rfl

theorem entry_mods (c : Dev nD) (l : Fin 4) (j : Fin 6) (k : Fin 3) (q : Fin 2048) : V m c main_v1 (ix4 l j ⟨k.val, by omega⟩ q) = m (c.tc.loc main_arg7) (ix4 l j k q) := by
  have hk : k.val < 3 := k.isLt
  entry_read
  pointwise
  try simp only [hk, dif_pos]
  try rfl

theorem modRow_of (b : Fin 2) (s : Fin 4352) : modRow (b.val * 4352 + s.val) = ⟨(modOf b s).val, by omega⟩ := by
  have e1 : (b.val * 4352 + s.val) / 4352 = b.val := by omega
  have e2 : (b.val * 4352 + s.val) % 4352 = s.val := by omega
  refine Fin.ext ?_
  show (modRow (b.val * 4352 + s.val)).val = (modOf b s).val
  unfold modRow modOf
  by_cases h : s.val < 256
  · rw [if_pos (e2.symm ▸ h), if_pos h]; rfl
  · rw [if_neg (e2.symm ▸ h), if_neg h]
    show (b.val * 4352 + s.val) / 4352 % 8 = b.val
    omega

theorem entry_row (c : Dev nD) (l : Fin 4) (j : Fin 6) (b : Fin 2) (s : Fin 4352) (q : Fin 2048) :
    V m c main_v1 (ix4 l j (modRow (b.val * 4352 + s.val)) q) = m (c.tc.loc main_arg7) (ix4 l j (modOf b s) q) := by
  rw [modRow_of b s]
  exact entry_mods m c l j (modOf b s) q

/-- A row of the first result, as the reference has it. -/
theorem state_row (c : Dev nD) (b : Fin 2) (s : Fin 4352) :
    stateRow (V m c main_v4) (V m c main_v5) (V m c main_v7) (V m c main_v8) (V m c main_v1) ⟨b.val * 4352 + s.val, by omega⟩
      = stateOf (fun k => ∑ d : Fin 5632, joined (m (c.tc.loc main_arg1)) (m (c.tc.loc main_arg0)) b s d * m (c.tc.loc main_arg2) (ix3 1 d k)) (fun k => joined (m (c.tc.loc main_arg4)) (m (c.tc.loc main_arg3)) b s k) (fun k => m (c.tc.loc main_arg7) (ix4 2 5 (modOf b s) k)) (fun k => m (c.tc.loc main_arg5) (ix1 k)) := by
  unfold stateRow
  refine congr (congr (congr (congrArg stateOf (funext fun k => Finset.sum_congr rfl fun d _ => ?_)) (funext fun k => ?_)) (funext fun k => ?_)) (funext fun k => ?_)
  · exact congrArg₂ (fun u v : EReal => u * v) (entry_a m c b s d) (entry_w m c d k)
  · exact entry_x m c b s k
  · exact entry_row m c 2 5 b s k
  · exact entry_g m c k

theorem next_row (c : Dev nD) (b : Fin 2) (s : Fin 4352) :
    nextRow (V m c main_v4) (V m c main_v5) (V m c main_v7) (V m c main_v8) (V m c main_v9) (V m c main_v1) ⟨b.val * 4352 + s.val, by omega⟩
      = nextOf (stateOf (fun k => ∑ d : Fin 5632, joined (m (c.tc.loc main_arg1)) (m (c.tc.loc main_arg0)) b s d * m (c.tc.loc main_arg2) (ix3 1 d k)) (fun k => joined (m (c.tc.loc main_arg4)) (m (c.tc.loc main_arg3)) b s k) (fun k => m (c.tc.loc main_arg7) (ix4 2 5 (modOf b s) k)) (fun k => m (c.tc.loc main_arg5) (ix1 k)))
          (fun k => m (c.tc.loc main_arg6) (ix1 k)) (fun k => m (c.tc.loc main_arg7) (ix4 3 1 (modOf b s) k)) (fun k => m (c.tc.loc main_arg7) (ix4 3 0 (modOf b s) k)) := by
  unfold nextRow
  refine congr (congr (congr (congrArg nextOf (state_row m c b s)) (funext fun k => ?_)) (funext fun k => ?_)) (funext fun k => ?_)
  · exact entry_n m c k
  · exact entry_row m c 3 1 b s k
  · exact entry_row m c 3 0 b s k

theorem ofRows_at (f : Fin 8704 → Fin 2048 → EReal) (r : Fin 8704) (q : Fin 2048) : ofRows f (ix2 r q) = f r q := rfl

/-- The two programs' first arrays are one. -/
theorem states_eq (c : Dev nD) :
    ofRows (stateRow (V m c main_v4) (V m c main_v5) (V m c main_v7) (V m c main_v8) (V m c main_v1))
      = Cert.Reference6Ideal.Read.val_main_v98 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg7)) := by
  have main : ∀ (r : Fin 8704) (q : Fin 2048), ofRows (stateRow (V m c main_v4) (V m c main_v5) (V m c main_v7) (V m c main_v8) (V m c main_v1)) (ix2 r q)
      = Cert.Reference6Ideal.Read.val_main_v98 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg7)) (ix2 r q) := fun r q => by
    have e : (⟨r.val / 4352 * 4352 + r.val % 4352, by omega⟩ : Fin 8704) = r := Fin.ext (by show _ / 4352 * 4352 + _ = _; omega)
    have hr := Cert.FfnDown.reference_state (m (c.tc.loc main_arg0)) (m (c.tc.loc main_arg1)) (m (c.tc.loc main_arg2)) (m (c.tc.loc main_arg3)) (m (c.tc.loc main_arg4)) (m (c.tc.loc main_arg5)) (m (c.tc.loc main_arg7)) ⟨r.val / 4352, by omega⟩ ⟨r.val % 4352, Nat.mod_lt _ (by decide)⟩ q
    have hx := state_row m c ⟨r.val / 4352, by omega⟩ ⟨r.val % 4352, Nat.mod_lt _ (by decide)⟩
    simp only [e] at hr hx
    refine Eq.trans ?_ hr.symm
    rw [ofRows_at]
    exact congrFun hx q
  funext i
  rw [eq_ix2 (n0 := 8704) (n1 := 2048) i]
  exact main _ _

/-- The two programs' second arrays are one. -/
theorem nexts_eq (c : Dev nD) :
    ofRows (nextRow (V m c main_v4) (V m c main_v5) (V m c main_v7) (V m c main_v8) (V m c main_v9) (V m c main_v1))
      = Cert.Reference6Ideal.Read.val_main_v101 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  have main : ∀ (r : Fin 8704) (q : Fin 2048), ofRows (nextRow (V m c main_v4) (V m c main_v5) (V m c main_v7) (V m c main_v8) (V m c main_v9) (V m c main_v1)) (ix2 r q)
      = Cert.Reference6Ideal.Read.val_main_v101 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 r q) := fun r q => by
    have e : (⟨r.val / 4352 * 4352 + r.val % 4352, by omega⟩ : Fin 8704) = r := Fin.ext (by show _ / 4352 * 4352 + _ = _; omega)
    have hr := Cert.FfnDown.reference_next (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) ⟨r.val / 4352, by omega⟩ ⟨r.val % 4352, Nat.mod_lt _ (by decide)⟩ q
    have hx := next_row m c ⟨r.val / 4352, by omega⟩ ⟨r.val % 4352, Nat.mod_lt _ (by decide)⟩
    simp only [e] at hr hx
    refine Eq.trans ?_ hr.symm
    rw [ofRows_at]
    exact congrFun hx q
  funext i
  rw [eq_ix2 (n0 := 8704) (n1 := 2048) i]
  exact main _ _

end Cert.Kernel6Ideal.FfnDown

end
-- ==== Proof.FfnDownClaims.lean ====
/- The claims on the feed-forward's second product. -/
module

public import proofs.«01_k».proof.Defs
public import proofs.«01_k».proof.Proof.FfnDownTie
public import proofs.«01_k».proof.Proof.Gen.Kernel6
public import proofs.«01_k».proof.Proof.Gen.Reference6Ideal.Run
public import Idealize.ShloMosaic.Lib.Quiescent

@[expose] public section

set_option maxRecDepth 16384

noncomputable section

namespace Cert.FfnDown

open Idealize.ShloMosaic Idealize.ShloMosaic.TcCoe Idealize.SL.Sem

theorem body_table : @Cert.Kernel6.defs₀ Bits _ Cert.Kernel6.Gen.facts = @Cert.Kernel6Ideal.defs₀ Bits _ Cert.Kernel6Ideal.Gen.facts := by
  unfold Cert.Kernel6.defs₀ Cert.Kernel6Ideal.defs₀
  refine congrArg Defs.onTc (funext fun l => funext fun a => ?_)
  match l, a with
  | 0, (t, s) => rfl

theorem tables : @Cert.Kernel6.defs Bits _ Cert.Kernel6.Gen.facts = @Cert.Kernel6Ideal.defs Bits _ Cert.Kernel6Ideal.Gen.facts :=
  congrArg (Pipeline.defs (Cert.Kernel6Ideal.pcfgs (F := Bits))) body_table

theorem frame_kernel : Cert.quiescent_Kernel6 (hKernel6 := Cert.Kernel6.Gen.facts) := fun m ρ _ => by
  rw [tables]
  exact Cert.Kernel6Ideal.Gen.frame (F := Bits) m ρ

theorem frame_ideal : Cert.quiescent_Kernel6Ideal (hKernel6Ideal := Cert.Kernel6Ideal.Gen.facts) := fun m ρ _ =>
  Cert.Kernel6Ideal.Gen.frame (F := Ideal) m ρ

theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) _⟩) (Cert.Reference6Ideal.Value.run (F := Ideal) m ρ)

/-- The feed-forward's second product and its reference end with the same two arrays. -/
theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => Cert.Kernel6Ideal.FfnDown.ofRows (Cert.Kernel6Ideal.FfnDown.stateRow (Cert.Kernel6Ideal.Gen.V m c Cert.Kernel6Ideal.main_v4) (Cert.Kernel6Ideal.Gen.V m c Cert.Kernel6Ideal.main_v5) (Cert.Kernel6Ideal.Gen.V m c Cert.Kernel6Ideal.main_v7) (Cert.Kernel6Ideal.Gen.V m c Cert.Kernel6Ideal.main_v8) (Cert.Kernel6Ideal.Gen.V m c Cert.Kernel6Ideal.main_v1)),
    fun c => Cert.Kernel6Ideal.FfnDown.ofRows (Cert.Kernel6Ideal.FfnDown.nextRow (Cert.Kernel6Ideal.Gen.V m c Cert.Kernel6Ideal.main_v4) (Cert.Kernel6Ideal.Gen.V m c Cert.Kernel6Ideal.main_v5) (Cert.Kernel6Ideal.Gen.V m c Cert.Kernel6Ideal.main_v7) (Cert.Kernel6Ideal.Gen.V m c Cert.Kernel6Ideal.main_v8) (Cert.Kernel6Ideal.Gen.V m c Cert.Kernel6Ideal.main_v9) (Cert.Kernel6Ideal.Gen.V m c Cert.Kernel6Ideal.main_v1)),
    (θ_run Cert.Kernel6Ideal.defs _ _).mono (fun r h c => ⟨((h c).1).trans (Cert.Kernel6Ideal.FfnDown.array_state m c), ((h c).2.1).trans (Cert.Kernel6Ideal.FfnDown.array_next m c), (h c).2.2⟩) (Cert.Kernel6Ideal.Value.run_blocks (F := Ideal) m g),
    (θ_run Cert.Reference6Ideal.defs _ _).mono (fun r h c => ⟨?_, ?_, (h c).2.2⟩) (Cert.Reference6Ideal.Value.run (F := Ideal) m' g')⟩
  · obtain ⟨a0, a1, a2, a3, a4, a5, a6, a7⟩ := hagree c
    refine (h c).1.trans ((Cert.Reference6Ideal.Read.val_main_v98_eq m' c).trans ?_)
    rw [a0, a1, a2, a3, a4, a5, a7]
    exact (Cert.Kernel6Ideal.FfnDown.states_eq m c).symm
  · obtain ⟨a0, a1, a2, a3, a4, a5, a6, a7⟩ := hagree c
    refine (h c).2.1.trans ((Cert.Reference6Ideal.Read.val_main_v101_eq m' c).trans ?_)
    rw [a0, a1, a2, a3, a4, a5, a6, a7]
    exact (Cert.Kernel6Ideal.FfnDown.nexts_eq m c).symm

end Cert.FfnDown

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Reference2Ideal
public import proofs.«01_k».proof.Proof.Gen.Reference3Ideal
public import proofs.«01_k».proof.Proof.AttnFrames
public import proofs.«01_k».proof.Proof.AttnClaims
public import proofs.«01_k».proof.Proof.SwigluClaims
public import proofs.«01_k».proof.Proof.InProjClaims
public import proofs.«01_k».proof.Proof.Gen.Kernel4
public import proofs.«01_k».proof.Proof.Gen.Kernel4Ideal
public import proofs.«01_k».proof.Proof.Gen.Reference4Ideal
public import proofs.«01_k».proof.Proof.MergeClaims
public import proofs.«01_k».proof.Proof.Gen.Kernel5
public import proofs.«01_k».proof.Proof.Gen.Kernel5Ideal
public import proofs.«01_k».proof.Proof.Gen.Reference5Ideal
public import proofs.«01_k».proof.Proof.MoeUpClaims
public import proofs.«01_k».proof.Proof.Gen.Kernel6
public import proofs.«01_k».proof.Proof.Gen.Kernel6Ideal
public import proofs.«01_k».proof.Proof.Gen.Reference6Ideal
public import proofs.«01_k».proof.Proof.FfnDownClaims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts,
  Cert.Attn.frame_kernel, Cert.Attn.frame_ideal, Cert.Attn.frame_ideal_pre, Cert.Attn.frame_reference, Cert.Attn.frame_reference_pre,
  Cert.Swiglu.frame_kernel, Cert.Swiglu.frame_ideal, Cert.Swiglu.frame_reference,
  Cert.InProj.frame_kernel, Cert.InProj.frame_ideal, Cert.InProj.frame_reference,
  Cert.Merge.frame_kernel, Cert.Merge.frame_ideal, Cert.Merge.frame_reference,
  Cert.MoeUp.frame_kernel, Cert.MoeUp.frame_ideal, Cert.MoeUp.frame_reference,
  Cert.FfnDown.frame_kernel, Cert.FfnDown.frame_ideal, Cert.FfnDown.frame_reference,
  trivial, Cert.Attn.algebraic, trivial, Cert.Swiglu.algebraic, trivial, Cert.InProj.algebraic, trivial, Cert.Merge.algebraic,
  trivial, Cert.MoeUp.algebraic, trivial, Cert.FfnDown.algebraic⟩

end Cert.Proof

end
